-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjQkvDx (m : (ℓ : Loc Cert.InProjQkvDx.nD Cert.InProjQkvDx.τ Cert.InProjQkvDx.sig) → Buf (Elt Bits) ℓ) : Prop :=
  True

def Pre_InProjQkvDxIdeal (m : (ℓ : Loc Cert.InProjQkvDxIdeal.nD Cert.InProjQkvDxIdeal.τ Cert.InProjQkvDxIdeal.sig) → Buf (Elt Ideal) ℓ) : Prop :=
  True

def Pre_InProjQkvDxRefIdeal (m : (ℓ : Loc Cert.InProjQkvDxRefIdeal.nD Cert.InProjQkvDxRefIdeal.τ Cert.InProjQkvDxRefIdeal.sig) → Buf (Elt Ideal) ℓ) : Prop :=
  True

def Pre_InProjQkvDw (m : (ℓ : Loc Cert.InProjQkvDw.nD Cert.InProjQkvDw.τ Cert.InProjQkvDw.sig) → Buf (Elt Bits) ℓ) : Prop :=
  True

def Pre_InProjQkvDwIdeal (m : (ℓ : Loc Cert.InProjQkvDwIdeal.nD Cert.InProjQkvDwIdeal.τ Cert.InProjQkvDwIdeal.sig) → Buf (Elt Ideal) ℓ) : Prop :=
  True

def Pre_InProjQkvDwRefIdeal (m : (ℓ : Loc Cert.InProjQkvDwRefIdeal.nD Cert.InProjQkvDwRefIdeal.τ Cert.InProjQkvDwRefIdeal.sig) → Buf (Elt Ideal) ℓ) : Prop :=
  True

def Pre_InProjQkv (m : (ℓ : Loc Cert.InProjQkv.nD Cert.InProjQkv.τ Cert.InProjQkv.sig) → Buf (Elt Bits) ℓ) : Prop :=
  True

def Pre_InProjQkvIdeal (m : (ℓ : Loc Cert.InProjQkvIdeal.nD Cert.InProjQkvIdeal.τ Cert.InProjQkvIdeal.sig) → Buf (Elt Ideal) ℓ) : Prop :=
  True

def Pre_InProjQkvRefIdeal (m : (ℓ : Loc Cert.InProjQkvRefIdeal.nD Cert.InProjQkvRefIdeal.τ Cert.InProjQkvRefIdeal.sig) → Buf (Elt Ideal) ℓ) : Prop :=
  True

def Pre_InProjDtDx (m : (ℓ : Loc Cert.InProjDtDx.nD Cert.InProjDtDx.τ Cert.InProjDtDx.sig) → Buf (Elt Bits) ℓ) : Prop :=
  True

def Pre_InProjDtDxIdeal (m : (ℓ : Loc Cert.InProjDtDxIdeal.nD Cert.InProjDtDxIdeal.τ Cert.InProjDtDxIdeal.sig) → Buf (Elt Ideal) ℓ) : Prop :=
  True

def Pre_InProjDtDxRefIdeal (m : (ℓ : Loc Cert.InProjDtDxRefIdeal.nD Cert.InProjDtDxRefIdeal.τ Cert.InProjDtDxRefIdeal.sig) → Buf (Elt Ideal) ℓ) : Prop :=
  True

def Pre_InProjDtDw (m : (ℓ : Loc Cert.InProjDtDw.nD Cert.InProjDtDw.τ Cert.InProjDtDw.sig) → Buf (Elt Bits) ℓ) : Prop :=
  True

def Pre_InProjDtDwIdeal (m : (ℓ : Loc Cert.InProjDtDwIdeal.nD Cert.InProjDtDwIdeal.τ Cert.InProjDtDwIdeal.sig) → Buf (Elt Ideal) ℓ) : Prop :=
  True

def Pre_InProjDtDwRefIdeal (m : (ℓ : Loc Cert.InProjDtDwRefIdeal.nD Cert.InProjDtDwRefIdeal.τ Cert.InProjDtDwRefIdeal.sig) → Buf (Elt Ideal) ℓ) : Prop :=
  True

def Pre_InProjDt (m : (ℓ : Loc Cert.InProjDt.nD Cert.InProjDt.τ Cert.InProjDt.sig) → Buf (Elt Bits) ℓ) : Prop :=
  True

def Pre_InProjDtIdeal (m : (ℓ : Loc Cert.InProjDtIdeal.nD Cert.InProjDtIdeal.τ Cert.InProjDtIdeal.sig) → Buf (Elt Ideal) ℓ) : Prop :=
  True

def Pre_InProjDtRefIdeal (m : (ℓ : Loc Cert.InProjDtRefIdeal.nD Cert.InProjDtRefIdeal.τ Cert.InProjDtRefIdeal.sig) → Buf (Elt Ideal) ℓ) : Prop :=
  True

def Pre_AttnBranchDx (m : (ℓ : Loc Cert.AttnBranchDx.nD Cert.AttnBranchDx.τ Cert.AttnBranchDx.sig) → Buf (Elt Bits) ℓ) : Prop :=
  True

def Pre_AttnBranchDxIdeal (m : (ℓ : Loc Cert.AttnBranchDxIdeal.nD Cert.AttnBranchDxIdeal.τ Cert.AttnBranchDxIdeal.sig) → Buf (Elt Ideal) ℓ) : Prop :=
  True

def Pre_AttnBranchDxRefIdeal (m : (ℓ : Loc Cert.AttnBranchDxRefIdeal.nD Cert.AttnBranchDxRefIdeal.τ Cert.AttnBranchDxRefIdeal.sig) → Buf (Elt Ideal) ℓ) : Prop :=
  True

def Pre_AttnBranchDw (m : (ℓ : Loc Cert.AttnBranchDw.nD Cert.AttnBranchDw.τ Cert.AttnBranchDw.sig) → Buf (Elt Bits) ℓ) : Prop :=
  True

def Pre_AttnBranchDwIdeal (m : (ℓ : Loc Cert.AttnBranchDwIdeal.nD Cert.AttnBranchDwIdeal.τ Cert.AttnBranchDwIdeal.sig) → Buf (Elt Ideal) ℓ) : Prop :=
  True

def Pre_AttnBranchDwRefIdeal (m : (ℓ : Loc Cert.AttnBranchDwRefIdeal.nD Cert.AttnBranchDwRefIdeal.τ Cert.AttnBranchDwRefIdeal.sig) → Buf (Elt Ideal) ℓ) : Prop :=
  True

def Pre_AttnBranch (m : (ℓ : Loc Cert.AttnBranch.nD Cert.AttnBranch.τ Cert.AttnBranch.sig) → Buf (Elt Bits) ℓ) : Prop :=
  True

def Pre_AttnBranchIdeal (m : (ℓ : Loc Cert.AttnBranchIdeal.nD Cert.AttnBranchIdeal.τ Cert.AttnBranchIdeal.sig) → Buf (Elt Ideal) ℓ) : Prop :=
  True

def Pre_AttnBranchRefIdeal (m : (ℓ : Loc Cert.AttnBranchRefIdeal.nD Cert.AttnBranchRefIdeal.τ Cert.AttnBranchRefIdeal.sig) → Buf (Elt Ideal) ℓ) : Prop :=
  True

def Pre_SsmBranchDx (m : (ℓ : Loc Cert.SsmBranchDx.nD Cert.SsmBranchDx.τ Cert.SsmBranchDx.sig) → Buf (Elt Bits) ℓ) : Prop :=
  True

def Pre_SsmBranchDxIdeal (m : (ℓ : Loc Cert.SsmBranchDxIdeal.nD Cert.SsmBranchDxIdeal.τ Cert.SsmBranchDxIdeal.sig) → Buf (Elt Ideal) ℓ) : Prop :=
  True

def Pre_SsmBranchDxRefIdeal (m : (ℓ : Loc Cert.SsmBranchDxRefIdeal.nD Cert.SsmBranchDxRefIdeal.τ Cert.SsmBranchDxRefIdeal.sig) → Buf (Elt Ideal) ℓ) : Prop :=
  True

def Pre_SsmBranchDw (m : (ℓ : Loc Cert.SsmBranchDw.nD Cert.SsmBranchDw.τ Cert.SsmBranchDw.sig) → Buf (Elt Bits) ℓ) : Prop :=
  True

def Pre_SsmBranchDwIdeal (m : (ℓ : Loc Cert.SsmBranchDwIdeal.nD Cert.SsmBranchDwIdeal.τ Cert.SsmBranchDwIdeal.sig) → Buf (Elt Ideal) ℓ) : Prop :=
  True

def Pre_SsmBranchDwRefIdeal (m : (ℓ : Loc Cert.SsmBranchDwRefIdeal.nD Cert.SsmBranchDwRefIdeal.τ Cert.SsmBranchDwRefIdeal.sig) → Buf (Elt Ideal) ℓ) : Prop :=
  True

def Pre_SsmBranch (m : (ℓ : Loc Cert.SsmBranch.nD Cert.SsmBranch.τ Cert.SsmBranch.sig) → Buf (Elt Bits) ℓ) : Prop :=
  True

def Pre_SsmBranchIdeal (m : (ℓ : Loc Cert.SsmBranchIdeal.nD Cert.SsmBranchIdeal.τ Cert.SsmBranchIdeal.sig) → Buf (Elt Ideal) ℓ) : Prop :=
  True

def Pre_SsmBranchRefIdeal (m : (ℓ : Loc Cert.SsmBranchRefIdeal.nD Cert.SsmBranchRefIdeal.τ Cert.SsmBranchRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwd4 (m : (ℓ : Loc Cert.AttnFwd4.nD Cert.AttnFwd4.τ Cert.AttnFwd4.sig) → Buf (Elt Bits) ℓ) : Prop :=
  True

def Pre_AttnFwd4Ideal (m : (ℓ : Loc Cert.AttnFwd4Ideal.nD Cert.AttnFwd4Ideal.τ Cert.AttnFwd4Ideal.sig) → Buf (Elt Ideal) ℓ) : Prop :=
  True

def Pre_AttnFwd4RefIdeal (m : (ℓ : Loc Cert.AttnFwd4RefIdeal.nD Cert.AttnFwd4RefIdeal.τ Cert.AttnFwd4RefIdeal.sig) → Buf (Elt Ideal) ℓ) : Prop :=
  True

def Pre_AttnFwd16 (m : (ℓ : Loc Cert.AttnFwd16.nD Cert.AttnFwd16.τ Cert.AttnFwd16.sig) → Buf (Elt Bits) ℓ) : Prop :=
  True

def Pre_AttnFwd16Ideal (m : (ℓ : Loc Cert.AttnFwd16Ideal.nD Cert.AttnFwd16Ideal.τ Cert.AttnFwd16Ideal.sig) → Buf (Elt Ideal) ℓ) : Prop :=
  True

def Pre_AttnFwd16RefIdeal (m : (ℓ : Loc Cert.AttnFwd16RefIdeal.nD Cert.AttnFwd16RefIdeal.τ Cert.AttnFwd16RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_finite [hPre_swiglu_finite : Cert.Pre_swiglu_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))).1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))).2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_swiglu_finite [hPre_swiglu_finite : Cert.Pre_swiglu_finite.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1))).1 = (fun _ => 1#1)
    ∧ (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1))).2 = (fun _ => 1#1)

def Pre_GateNormBwd (m : (ℓ : Loc Cert.GateNormBwd.nD Cert.GateNormBwd.τ Cert.GateNormBwd.sig) → Buf (Elt Bits) ℓ) : Prop :=
  True

def Pre_GateNormBwdIdeal (m : (ℓ : Loc Cert.GateNormBwdIdeal.nD Cert.GateNormBwdIdeal.τ Cert.GateNormBwdIdeal.sig) → Buf (Elt Ideal) ℓ) : Prop :=
  True

def Pre_GateNormBwdIdeal_gate_norm_finite [hPre_gate_norm_finite : Cert.Pre_gate_norm_finite.Facts] (m : (ℓ : Loc Cert.GateNormBwdIdeal.nD Cert.GateNormBwdIdeal.τ Cert.GateNormBwdIdeal.sig) → Buf (Elt Ideal) ℓ) : Prop :=
  ∀ c : Dev Cert.GateNormBwdIdeal.nD,
    (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).1 = (fun _ => 1#1)
    ∧ (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.1 = (fun _ => 1#1)
    ∧ (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.2.1 = (fun _ => 1#1)
    ∧ (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.2.2 = (fun _ => 1#1)

def Pre_GateNormBwdRefIdeal (m : (ℓ : Loc Cert.GateNormBwdRefIdeal.nD Cert.GateNormBwdRefIdeal.τ Cert.GateNormBwdRefIdeal.sig) → Buf (Elt Ideal) ℓ) : Prop :=
  True

def Pre_GateNormBwdRefIdeal_gate_norm_finite [hPre_gate_norm_finite : Cert.Pre_gate_norm_finite.Facts] (m : (ℓ : Loc Cert.GateNormBwdRefIdeal.nD Cert.GateNormBwdRefIdeal.τ Cert.GateNormBwdRefIdeal.sig) → Buf (Elt Ideal) ℓ) : Prop :=
  ∀ c : Dev Cert.GateNormBwdRefIdeal.nD,
    (Cert.Pre_gate_norm_finite.fn (F := Ideal) (m ((c.tc : Thread Cert.GateNormBwdRefIdeal.nD Cert.GateNormBwdRefIdeal.τ).loc Cert.GateNormBwdRefIdeal.main_arg0)) (m ((c.tc : Thread Cert.GateNormBwdRefIdeal.nD Cert.GateNormBwdRefIdeal.τ).loc Cert.GateNormBwdRefIdeal.main_arg1)) (m ((c.tc : Thread Cert.GateNormBwdRefIdeal.nD Cert.GateNormBwdRefIdeal.τ).loc Cert.GateNormBwdRefIdeal.main_arg2)) (m ((c.tc : Thread Cert.GateNormBwdRefIdeal.nD Cert.GateNormBwdRefIdeal.τ).loc Cert.GateNormBwdRefIdeal.main_arg3))).1 = (fun _ => 1#1)
    ∧ (Cert.Pre_gate_norm_finite.fn (F := Ideal) (m ((c.tc : Thread Cert.GateNormBwdRefIdeal.nD Cert.GateNormBwdRefIdeal.τ).loc Cert.GateNormBwdRefIdeal.main_arg0)) (m ((c.tc : Thread Cert.GateNormBwdRefIdeal.nD Cert.GateNormBwdRefIdeal.τ).loc Cert.GateNormBwdRefIdeal.main_arg1)) (m ((c.tc : Thread Cert.GateNormBwdRefIdeal.nD Cert.GateNormBwdRefIdeal.τ).loc Cert.GateNormBwdRefIdeal.main_arg2)) (m ((c.tc : Thread Cert.GateNormBwdRefIdeal.nD Cert.GateNormBwdRefIdeal.τ).loc Cert.GateNormBwdRefIdeal.main_arg3))).2.1 = (fun _ => 1#1)
    ∧ (Cert.Pre_gate_norm_finite.fn (F := Ideal) (m ((c.tc : Thread Cert.GateNormBwdRefIdeal.nD Cert.GateNormBwdRefIdeal.τ).loc Cert.GateNormBwdRefIdeal.main_arg0)) (m ((c.tc : Thread Cert.GateNormBwdRefIdeal.nD Cert.GateNormBwdRefIdeal.τ).loc Cert.GateNormBwdRefIdeal.main_arg1)) (m ((c.tc : Thread Cert.GateNormBwdRefIdeal.nD Cert.GateNormBwdRefIdeal.τ).loc Cert.GateNormBwdRefIdeal.main_arg2)) (m ((c.tc : Thread Cert.GateNormBwdRefIdeal.nD Cert.GateNormBwdRefIdeal.τ).loc Cert.GateNormBwdRefIdeal.main_arg3))).2.2.1 = (fun _ => 1#1)
    ∧ (Cert.Pre_gate_norm_finite.fn (F := Ideal) (m ((c.tc : Thread Cert.GateNormBwdRefIdeal.nD Cert.GateNormBwdRefIdeal.τ).loc Cert.GateNormBwdRefIdeal.main_arg0)) (m ((c.tc : Thread Cert.GateNormBwdRefIdeal.nD Cert.GateNormBwdRefIdeal.τ).loc Cert.GateNormBwdRefIdeal.main_arg1)) (m ((c.tc : Thread Cert.GateNormBwdRefIdeal.nD Cert.GateNormBwdRefIdeal.τ).loc Cert.GateNormBwdRefIdeal.main_arg2)) (m ((c.tc : Thread Cert.GateNormBwdRefIdeal.nD Cert.GateNormBwdRefIdeal.τ).loc Cert.GateNormBwdRefIdeal.main_arg3))).2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_CombineBwd (m : (ℓ : Loc Cert.CombineBwd.nD Cert.CombineBwd.τ Cert.CombineBwd.sig) → Buf (Elt Bits) ℓ) : Prop :=
  True

def Pre_CombineBwdIdeal (m : (ℓ : Loc Cert.CombineBwdIdeal.nD Cert.CombineBwdIdeal.τ Cert.CombineBwdIdeal.sig) → Buf (Elt Ideal) ℓ) : Prop :=
  True

def Pre_CombineBwdIdeal_combine_finite [hPre_combine_finite : Cert.Pre_combine_finite.Facts] (m : (ℓ : Loc Cert.CombineBwdIdeal.nD Cert.CombineBwdIdeal.τ Cert.CombineBwdIdeal.sig) → Buf (Elt Ideal) ℓ) : Prop :=
  ∀ c : Dev Cert.CombineBwdIdeal.nD,
    (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).1 = (fun _ => 1#1)
    ∧ (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).2.1 = (fun _ => 1#1)
    ∧ (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).2.2.1 = (fun _ => 1#1)
    ∧ (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).2.2.2.1 = (fun _ => 1#1)
    ∧ (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).2.2.2.2.1 = (fun _ => 1#1)
    ∧ (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).2.2.2.2.2.1 = (fun _ => 1#1)
    ∧ (Cert.Pre_combine_finite.fn (F := Ideal) (m ((c.tc : Thread Cert.CombineBwdIdeal.nD Cert.CombineBwdIdeal.τ).loc Cert.CombineBwdIdeal.main_arg0)) (m ((c.tc : Thread Cert.CombineBwdIdeal.nD Cert.CombineBwdIdeal.τ).loc Cert.CombineBwdIdeal.main_arg1)) (m ((c.tc : Thread Cert.CombineBwdIdeal.nD Cert.CombineBwdIdeal.τ).loc Cert.CombineBwdIdeal.main_arg2)) (m ((c.tc : Thread Cert.CombineBwdIdeal.nD Cert.CombineBwdIdeal.τ).loc Cert.CombineBwdIdeal.main_arg3)) (m ((c.tc : Thread Cert.CombineBwdIdeal.nD Cert.CombineBwdIdeal.τ).loc Cert.CombineBwdIdeal.main_arg4)) (m ((c.tc : Thread Cert.CombineBwdIdeal.nD Cert.CombineBwdIdeal.τ).loc Cert.CombineBwdIdeal.main_arg5)) (m ((c.tc : Thread Cert.CombineBwdIdeal.nD Cert.CombineBwdIdeal.τ).loc Cert.CombineBwdIdeal.main_arg6))).2.2.2.2.2.2 = (fun _ => 1#1)

def Pre_CombineBwdRefIdeal (m : (ℓ : Loc Cert.CombineBwdRefIdeal.nD Cert.CombineBwdRefIdeal.τ Cert.CombineBwdRefIdeal.sig) → Buf (Elt Ideal) ℓ) : Prop :=
  True

def Pre_CombineBwdRefIdeal_combine_finite [hPre_combine_finite : Cert.Pre_combine_finite.Facts] (m : (ℓ : Loc Cert.CombineBwdRefIdeal.nD Cert.CombineBwdRefIdeal.τ Cert.CombineBwdRefIdeal.sig) → Buf (Elt Ideal) ℓ) : Prop :=
  ∀ c : Dev Cert.CombineBwdRefIdeal.nD,
    (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).1 = (fun _ => 1#1)
    ∧ (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).2.1 = (fun _ => 1#1)
    ∧ (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).2.2.1 = (fun _ => 1#1)
    ∧ (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).2.2.2.1 = (fun _ => 1#1)
    ∧ (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).2.2.2.2.1 = (fun _ => 1#1)
    ∧ (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).2.2.2.2.2.1 = (fun _ => 1#1)
    ∧ (Cert.Pre_combine_finite.fn (F := Ideal) (m ((c.tc : Thread Cert.CombineBwdRefIdeal.nD Cert.CombineBwdRefIdeal.τ).loc Cert.CombineBwdRefIdeal.main_arg0)) (m ((c.tc : Thread Cert.CombineBwdRefIdeal.nD Cert.CombineBwdRefIdeal.τ).loc Cert.CombineBwdRefIdeal.main_arg1)) (m ((c.tc : Thread Cert.CombineBwdRefIdeal.nD Cert.CombineBwdRefIdeal.τ).loc Cert.CombineBwdRefIdeal.main_arg2)) (m ((c.tc : Thread Cert.CombineBwdRefIdeal.nD Cert.CombineBwdRefIdeal.τ).loc Cert.CombineBwdRefIdeal.main_arg3)) (m ((c.tc : Thread Cert.CombineBwdRefIdeal.nD Cert.CombineBwdRefIdeal.τ).loc Cert.CombineBwdRefIdeal.main_arg4)) (m ((c.tc : Thread Cert.CombineBwdRefIdeal.nD Cert.CombineBwdRefIdeal.τ).loc Cert.CombineBwdRefIdeal.main_arg5)) (m ((c.tc : Thread Cert.CombineBwdRefIdeal.nD Cert.CombineBwdRefIdeal.τ).loc Cert.CombineBwdRefIdeal.main_arg6))).2.2.2.2.2.2 = (fun _ => 1#1)

def Pre_ConvBwdPre (m : (ℓ : Loc Cert.ConvBwdPre.nD Cert.ConvBwdPre.τ Cert.ConvBwdPre.sig) → Buf (Elt Bits) ℓ) : Prop :=
  True

def Pre_ConvBwdPreIdeal (m : (ℓ : Loc Cert.ConvBwdPreIdeal.nD Cert.ConvBwdPreIdeal.τ Cert.ConvBwdPreIdeal.sig) → Buf (Elt Ideal) ℓ) : Prop :=
  True

def Pre_ConvBwdPreIdeal_conv_finite [hPre_conv_finite : Cert.Pre_conv_finite.Facts] (m : (ℓ : Loc Cert.ConvBwdPreIdeal.nD Cert.ConvBwdPreIdeal.τ Cert.ConvBwdPreIdeal.sig) → Buf (Elt Ideal) ℓ) : Prop :=
  ∀ c : Dev Cert.ConvBwdPreIdeal.nD,
    (Cert.Pre_conv_finite.fn (F := Ideal) (m ((c.tc : Thread Cert.ConvBwdPreIdeal.nD Cert.ConvBwdPreIdeal.τ).loc Cert.ConvBwdPreIdeal.main_arg0)) (m ((c.tc : Thread Cert.ConvBwdPreIdeal.nD Cert.ConvBwdPreIdeal.τ).loc Cert.ConvBwdPreIdeal.main_arg1)) (m ((c.tc : Thread Cert.ConvBwdPreIdeal.nD Cert.ConvBwdPreIdeal.τ).loc Cert.ConvBwdPreIdeal.main_arg2)) (m ((c.tc : Thread Cert.ConvBwdPreIdeal.nD Cert.ConvBwdPreIdeal.τ).loc Cert.ConvBwdPreIdeal.main_arg3))) = (fun _ => 1#1)

def Pre_ConvBwdPreRefIdeal (m : (ℓ : Loc Cert.ConvBwdPreRefIdeal.nD Cert.ConvBwdPreRefIdeal.τ Cert.ConvBwdPreRefIdeal.sig) → Buf (Elt Ideal) ℓ) : Prop :=
  True

def Pre_ConvBwdPreRefIdeal_conv_finite [hPre_conv_finite : Cert.Pre_conv_finite.Facts] (m : (ℓ : Loc Cert.ConvBwdPreRefIdeal.nD Cert.ConvBwdPreRefIdeal.τ Cert.ConvBwdPreRefIdeal.sig) → Buf (Elt Ideal) ℓ) : Prop :=
  ∀ c : Dev Cert.ConvBwdPreRefIdeal.nD,
    (Cert.Pre_conv_finite.fn (F := Ideal) (m ((c.tc : Thread Cert.ConvBwdPreRefIdeal.nD Cert.ConvBwdPreRefIdeal.τ).loc Cert.ConvBwdPreRefIdeal.main_arg0)) (m ((c.tc : Thread Cert.ConvBwdPreRefIdeal.nD Cert.ConvBwdPreRefIdeal.τ).loc Cert.ConvBwdPreRefIdeal.main_arg1)) (m ((c.tc : Thread Cert.ConvBwdPreRefIdeal.nD Cert.ConvBwdPreRefIdeal.τ).loc Cert.ConvBwdPreRefIdeal.main_arg2)) (m ((c.tc : Thread Cert.ConvBwdPreRefIdeal.nD Cert.ConvBwdPreRefIdeal.τ).loc Cert.ConvBwdPreRefIdeal.main_arg3))) = (fun _ => 1#1)

def Pre_ConvBwdIn (m : (ℓ : Loc Cert.ConvBwdIn.nD Cert.ConvBwdIn.τ Cert.ConvBwdIn.sig) → Buf (Elt Bits) ℓ) : Prop :=
  True

def Pre_ConvBwdInIdeal (m : (ℓ : Loc Cert.ConvBwdInIdeal.nD Cert.ConvBwdInIdeal.τ Cert.ConvBwdInIdeal.sig) → Buf (Elt Ideal) ℓ) : Prop :=
  True

def Pre_ConvBwdInRefIdeal (m : (ℓ : Loc Cert.ConvBwdInRefIdeal.nD Cert.ConvBwdInRefIdeal.τ Cert.ConvBwdInRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_AdamwWIn [hPre_place_w_in : Cert.Pre_place_w_in.Facts] (m : (ℓ : Loc Cert.AdamwWIn.nD Cert.AdamwWIn.τ Cert.AdamwWIn.sig) → Buf (Elt Bits) ℓ) : Prop :=
  ∀ c : Dev Cert.AdamwWIn.nD,
    (Cert.Pre_place_w_in.fn (F := Bits) (m ((c.tc : Thread Cert.AdamwWIn.nD Cert.AdamwWIn.τ).loc Cert.AdamwWIn.main_arg0)) (m ((c.tc : Thread Cert.AdamwWIn.nD Cert.AdamwWIn.τ).loc Cert.AdamwWIn.main_arg1)) (m ((c.tc : Thread Cert.AdamwWIn.nD Cert.AdamwWIn.τ).loc Cert.AdamwWIn.main_arg2)) (m ((c.tc : Thread Cert.AdamwWIn.nD Cert.AdamwWIn.τ).loc Cert.AdamwWIn.main_arg3)) (m ((c.tc : Thread Cert.AdamwWIn.nD Cert.AdamwWIn.τ).loc Cert.AdamwWIn.main_arg4)) (m ((c.tc : Thread Cert.AdamwWIn.nD Cert.AdamwWIn.τ).loc Cert.AdamwWIn.main_arg5))) = (fun _ => 1#1)

def Pre_AdamwWInIdeal [hPre_place_w_in : Cert.Pre_place_w_in.Facts] (m : (ℓ : Loc Cert.AdamwWInIdeal.nD Cert.AdamwWInIdeal.τ Cert.AdamwWInIdeal.sig) → Buf (Elt Ideal) ℓ) : Prop :=
  ∀ c : Dev Cert.AdamwWInIdeal.nD,
    (Cert.Pre_place_w_in.fn (F := Ideal) (m ((c.tc : Thread Cert.AdamwWInIdeal.nD Cert.AdamwWInIdeal.τ).loc Cert.AdamwWInIdeal.main_arg0)) (m ((c.tc : Thread Cert.AdamwWInIdeal.nD Cert.AdamwWInIdeal.τ).loc Cert.AdamwWInIdeal.main_arg1)) (m ((c.tc : Thread Cert.AdamwWInIdeal.nD Cert.AdamwWInIdeal.τ).loc Cert.AdamwWInIdeal.main_arg2)) (m ((c.tc : Thread Cert.AdamwWInIdeal.nD Cert.AdamwWInIdeal.τ).loc Cert.AdamwWInIdeal.main_arg3)) (m ((c.tc : Thread Cert.AdamwWInIdeal.nD Cert.AdamwWInIdeal.τ).loc Cert.AdamwWInIdeal.main_arg4)) (m ((c.tc : Thread Cert.AdamwWInIdeal.nD Cert.AdamwWInIdeal.τ).loc Cert.AdamwWInIdeal.main_arg5))) = (fun _ => 1#1)

def Pre_AdamwWInRefIdeal (m : (ℓ : Loc Cert.AdamwWInRefIdeal.nD Cert.AdamwWInRefIdeal.τ Cert.AdamwWInRefIdeal.sig) → Buf (Elt Ideal) ℓ) : Prop :=
  True

def Pre_AdamwWInRefIdeal_place_w_in [hPre_place_w_in : Cert.Pre_place_w_in.Facts] (m : (ℓ : Loc Cert.AdamwWInRefIdeal.nD Cert.AdamwWInRefIdeal.τ Cert.AdamwWInRefIdeal.sig) → Buf (Elt Ideal) ℓ) : Prop :=
  ∀ c : Dev Cert.AdamwWInRefIdeal.nD,
    (Cert.Pre_place_w_in.fn (F := Ideal) (m ((c.tc : Thread Cert.AdamwWInRefIdeal.nD Cert.AdamwWInRefIdeal.τ).loc Cert.AdamwWInRefIdeal.main_arg0)) (m ((c.tc : Thread Cert.AdamwWInRefIdeal.nD Cert.AdamwWInRefIdeal.τ).loc Cert.AdamwWInRefIdeal.main_arg1)) (m ((c.tc : Thread Cert.AdamwWInRefIdeal.nD Cert.AdamwWInRefIdeal.τ).loc Cert.AdamwWInRefIdeal.main_arg2)) (m ((c.tc : Thread Cert.AdamwWInRefIdeal.nD Cert.AdamwWInRefIdeal.τ).loc Cert.AdamwWInRefIdeal.main_arg3)) (m ((c.tc : Thread Cert.AdamwWInRefIdeal.nD Cert.AdamwWInRefIdeal.τ).loc Cert.AdamwWInRefIdeal.main_arg4)) (m ((c.tc : Thread Cert.AdamwWInRefIdeal.nD Cert.AdamwWInRefIdeal.τ).loc Cert.AdamwWInRefIdeal.main_arg5))) = (fun _ => 1#1)

def Pre_AdamwWAttnBranch [hPre_place_w_attn_branch : Cert.Pre_place_w_attn_branch.Facts] (m : (ℓ : Loc Cert.AdamwWAttnBranch.nD Cert.AdamwWAttnBranch.τ Cert.AdamwWAttnBranch.sig) → Buf (Elt Bits) ℓ) : Prop :=
  ∀ c : Dev Cert.AdamwWAttnBranch.nD,
    (Cert.Pre_place_w_attn_branch.fn (F := Bits) (m ((c.tc : Thread Cert.AdamwWAttnBranch.nD Cert.AdamwWAttnBranch.τ).loc Cert.AdamwWAttnBranch.main_arg0)) (m ((c.tc : Thread Cert.AdamwWAttnBranch.nD Cert.AdamwWAttnBranch.τ).loc Cert.AdamwWAttnBranch.main_arg1)) (m ((c.tc : Thread Cert.AdamwWAttnBranch.nD Cert.AdamwWAttnBranch.τ).loc Cert.AdamwWAttnBranch.main_arg2)) (m ((c.tc : Thread Cert.AdamwWAttnBranch.nD Cert.AdamwWAttnBranch.τ).loc Cert.AdamwWAttnBranch.main_arg3)) (m ((c.tc : Thread Cert.AdamwWAttnBranch.nD Cert.AdamwWAttnBranch.τ).loc Cert.AdamwWAttnBranch.main_arg4)) (m ((c.tc : Thread Cert.AdamwWAttnBranch.nD Cert.AdamwWAttnBranch.τ).loc Cert.AdamwWAttnBranch.main_arg5))) = (fun _ => 1#1)

def Pre_AdamwWAttnBranchIdeal [hPre_place_w_attn_branch : Cert.Pre_place_w_attn_branch.Facts] (m : (ℓ : Loc Cert.AdamwWAttnBranchIdeal.nD Cert.AdamwWAttnBranchIdeal.τ Cert.AdamwWAttnBranchIdeal.sig) → Buf (Elt Ideal) ℓ) : Prop :=
  ∀ c : Dev Cert.AdamwWAttnBranchIdeal.nD,
    (Cert.Pre_place_w_attn_branch.fn (F := Ideal) (m ((c.tc : Thread Cert.AdamwWAttnBranchIdeal.nD Cert.AdamwWAttnBranchIdeal.τ).loc Cert.AdamwWAttnBranchIdeal.main_arg0)) (m ((c.tc : Thread Cert.AdamwWAttnBranchIdeal.nD Cert.AdamwWAttnBranchIdeal.τ).loc Cert.AdamwWAttnBranchIdeal.main_arg1)) (m ((c.tc : Thread Cert.AdamwWAttnBranchIdeal.nD Cert.AdamwWAttnBranchIdeal.τ).loc Cert.AdamwWAttnBranchIdeal.main_arg2)) (m ((c.tc : Thread Cert.AdamwWAttnBranchIdeal.nD Cert.AdamwWAttnBranchIdeal.τ).loc Cert.AdamwWAttnBranchIdeal.main_arg3)) (m ((c.tc : Thread Cert.AdamwWAttnBranchIdeal.nD Cert.AdamwWAttnBranchIdeal.τ).loc Cert.AdamwWAttnBranchIdeal.main_arg4)) (m ((c.tc : Thread Cert.AdamwWAttnBranchIdeal.nD Cert.AdamwWAttnBranchIdeal.τ).loc Cert.AdamwWAttnBranchIdeal.main_arg5))) = (fun _ => 1#1)

def Pre_AdamwWAttnBranchRefIdeal (m : (ℓ : Loc Cert.AdamwWAttnBranchRefIdeal.nD Cert.AdamwWAttnBranchRefIdeal.τ Cert.AdamwWAttnBranchRefIdeal.sig) → Buf (Elt Ideal) ℓ) : Prop :=
  True

def Pre_AdamwWAttnBranchRefIdeal_place_w_attn_branch [hPre_place_w_attn_branch : Cert.Pre_place_w_attn_branch.Facts] (m : (ℓ : Loc Cert.AdamwWAttnBranchRefIdeal.nD Cert.AdamwWAttnBranchRefIdeal.τ Cert.AdamwWAttnBranchRefIdeal.sig) → Buf (Elt Ideal) ℓ) : Prop :=
  ∀ c : Dev Cert.AdamwWAttnBranchRefIdeal.nD,
    (Cert.Pre_place_w_attn_branch.fn (F := Ideal) (m ((c.tc : Thread Cert.AdamwWAttnBranchRefIdeal.nD Cert.AdamwWAttnBranchRefIdeal.τ).loc Cert.AdamwWAttnBranchRefIdeal.main_arg0)) (m ((c.tc : Thread Cert.AdamwWAttnBranchRefIdeal.nD Cert.AdamwWAttnBranchRefIdeal.τ).loc Cert.AdamwWAttnBranchRefIdeal.main_arg1)) (m ((c.tc : Thread Cert.AdamwWAttnBranchRefIdeal.nD Cert.AdamwWAttnBranchRefIdeal.τ).loc Cert.AdamwWAttnBranchRefIdeal.main_arg2)) (m ((c.tc : Thread Cert.AdamwWAttnBranchRefIdeal.nD Cert.AdamwWAttnBranchRefIdeal.τ).loc Cert.AdamwWAttnBranchRefIdeal.main_arg3)) (m ((c.tc : Thread Cert.AdamwWAttnBranchRefIdeal.nD Cert.AdamwWAttnBranchRefIdeal.τ).loc Cert.AdamwWAttnBranchRefIdeal.main_arg4)) (m ((c.tc : Thread Cert.AdamwWAttnBranchRefIdeal.nD Cert.AdamwWAttnBranchRefIdeal.τ).loc Cert.AdamwWAttnBranchRefIdeal.main_arg5))) = (fun _ => 1#1)

def Pre_AdamwWSsmBranch [hPre_place_w_ssm_branch : Cert.Pre_place_w_ssm_branch.Facts] (m : (ℓ : Loc Cert.AdamwWSsmBranch.nD Cert.AdamwWSsmBranch.τ Cert.AdamwWSsmBranch.sig) → Buf (Elt Bits) ℓ) : Prop :=
  ∀ c : Dev Cert.AdamwWSsmBranch.nD,
    (Cert.Pre_place_w_ssm_branch.fn (F := Bits) (m ((c.tc : Thread Cert.AdamwWSsmBranch.nD Cert.AdamwWSsmBranch.τ).loc Cert.AdamwWSsmBranch.main_arg0)) (m ((c.tc : Thread Cert.AdamwWSsmBranch.nD Cert.AdamwWSsmBranch.τ).loc Cert.AdamwWSsmBranch.main_arg1)) (m ((c.tc : Thread Cert.AdamwWSsmBranch.nD Cert.AdamwWSsmBranch.τ).loc Cert.AdamwWSsmBranch.main_arg2)) (m ((c.tc : Thread Cert.AdamwWSsmBranch.nD Cert.AdamwWSsmBranch.τ).loc Cert.AdamwWSsmBranch.main_arg3)) (m ((c.tc : Thread Cert.AdamwWSsmBranch.nD Cert.AdamwWSsmBranch.τ).loc Cert.AdamwWSsmBranch.main_arg4)) (m ((c.tc : Thread Cert.AdamwWSsmBranch.nD Cert.AdamwWSsmBranch.τ).loc Cert.AdamwWSsmBranch.main_arg5))) = (fun _ => 1#1)

def Pre_AdamwWSsmBranchIdeal [hPre_place_w_ssm_branch : Cert.Pre_place_w_ssm_branch.Facts] (m : (ℓ : Loc Cert.AdamwWSsmBranchIdeal.nD Cert.AdamwWSsmBranchIdeal.τ Cert.AdamwWSsmBranchIdeal.sig) → Buf (Elt Ideal) ℓ) : Prop :=
  ∀ c : Dev Cert.AdamwWSsmBranchIdeal.nD,
    (Cert.Pre_place_w_ssm_branch.fn (F := Ideal) (m ((c.tc : Thread Cert.AdamwWSsmBranchIdeal.nD Cert.AdamwWSsmBranchIdeal.τ).loc Cert.AdamwWSsmBranchIdeal.main_arg0)) (m ((c.tc : Thread Cert.AdamwWSsmBranchIdeal.nD Cert.AdamwWSsmBranchIdeal.τ).loc Cert.AdamwWSsmBranchIdeal.main_arg1)) (m ((c.tc : Thread Cert.AdamwWSsmBranchIdeal.nD Cert.AdamwWSsmBranchIdeal.τ).loc Cert.AdamwWSsmBranchIdeal.main_arg2)) (m ((c.tc : Thread Cert.AdamwWSsmBranchIdeal.nD Cert.AdamwWSsmBranchIdeal.τ).loc Cert.AdamwWSsmBranchIdeal.main_arg3)) (m ((c.tc : Thread Cert.AdamwWSsmBranchIdeal.nD Cert.AdamwWSsmBranchIdeal.τ).loc Cert.AdamwWSsmBranchIdeal.main_arg4)) (m ((c.tc : Thread Cert.AdamwWSsmBranchIdeal.nD Cert.AdamwWSsmBranchIdeal.τ).loc Cert.AdamwWSsmBranchIdeal.main_arg5))) = (fun _ => 1#1)

def Pre_AdamwWSsmBranchRefIdeal (m : (ℓ : Loc Cert.AdamwWSsmBranchRefIdeal.nD Cert.AdamwWSsmBranchRefIdeal.τ Cert.AdamwWSsmBranchRefIdeal.sig) → Buf (Elt Ideal) ℓ) : Prop :=
  True

def Pre_AdamwWSsmBranchRefIdeal_place_w_ssm_branch [hPre_place_w_ssm_branch : Cert.Pre_place_w_ssm_branch.Facts] (m : (ℓ : Loc Cert.AdamwWSsmBranchRefIdeal.nD Cert.AdamwWSsmBranchRefIdeal.τ Cert.AdamwWSsmBranchRefIdeal.sig) → Buf (Elt Ideal) ℓ) : Prop :=
  ∀ c : Dev Cert.AdamwWSsmBranchRefIdeal.nD,
    (Cert.Pre_place_w_ssm_branch.fn (F := Ideal) (m ((c.tc : Thread Cert.AdamwWSsmBranchRefIdeal.nD Cert.AdamwWSsmBranchRefIdeal.τ).loc Cert.AdamwWSsmBranchRefIdeal.main_arg0)) (m ((c.tc : Thread Cert.AdamwWSsmBranchRefIdeal.nD Cert.AdamwWSsmBranchRefIdeal.τ).loc Cert.AdamwWSsmBranchRefIdeal.main_arg1)) (m ((c.tc : Thread Cert.AdamwWSsmBranchRefIdeal.nD Cert.AdamwWSsmBranchRefIdeal.τ).loc Cert.AdamwWSsmBranchRefIdeal.main_arg2)) (m ((c.tc : Thread Cert.AdamwWSsmBranchRefIdeal.nD Cert.AdamwWSsmBranchRefIdeal.τ).loc Cert.AdamwWSsmBranchRefIdeal.main_arg3)) (m ((c.tc : Thread Cert.AdamwWSsmBranchRefIdeal.nD Cert.AdamwWSsmBranchRefIdeal.τ).loc Cert.AdamwWSsmBranchRefIdeal.main_arg4)) (m ((c.tc : Thread Cert.AdamwWSsmBranchRefIdeal.nD Cert.AdamwWSsmBranchRefIdeal.τ).loc Cert.AdamwWSsmBranchRefIdeal.main_arg5))) = (fun _ => 1#1)

def Pre_AdamwWOut [hPre_place_w_out : Cert.Pre_place_w_out.Facts] (m : (ℓ : Loc Cert.AdamwWOut.nD Cert.AdamwWOut.τ Cert.AdamwWOut.sig) → Buf (Elt Bits) ℓ) : Prop :=
  ∀ c : Dev Cert.AdamwWOut.nD,
    (Cert.Pre_place_w_out.fn (F := Bits) (m ((c.tc : Thread Cert.AdamwWOut.nD Cert.AdamwWOut.τ).loc Cert.AdamwWOut.main_arg0)) (m ((c.tc : Thread Cert.AdamwWOut.nD Cert.AdamwWOut.τ).loc Cert.AdamwWOut.main_arg1)) (m ((c.tc : Thread Cert.AdamwWOut.nD Cert.AdamwWOut.τ).loc Cert.AdamwWOut.main_arg2)) (m ((c.tc : Thread Cert.AdamwWOut.nD Cert.AdamwWOut.τ).loc Cert.AdamwWOut.main_arg3)) (m ((c.tc : Thread Cert.AdamwWOut.nD Cert.AdamwWOut.τ).loc Cert.AdamwWOut.main_arg4)) (m ((c.tc : Thread Cert.AdamwWOut.nD Cert.AdamwWOut.τ).loc Cert.AdamwWOut.main_arg5))) = (fun _ => 1#1)

def Pre_AdamwWOutIdeal [hPre_place_w_out : Cert.Pre_place_w_out.Facts] (m : (ℓ : Loc Cert.AdamwWOutIdeal.nD Cert.AdamwWOutIdeal.τ Cert.AdamwWOutIdeal.sig) → Buf (Elt Ideal) ℓ) : Prop :=
  ∀ c : Dev Cert.AdamwWOutIdeal.nD,
    (Cert.Pre_place_w_out.fn (F := Ideal) (m ((c.tc : Thread Cert.AdamwWOutIdeal.nD Cert.AdamwWOutIdeal.τ).loc Cert.AdamwWOutIdeal.main_arg0)) (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)) (m ((c.tc : Thread Cert.AdamwWOutIdeal.nD Cert.AdamwWOutIdeal.τ).loc Cert.AdamwWOutIdeal.main_arg3)) (m ((c.tc : Thread Cert.AdamwWOutIdeal.nD Cert.AdamwWOutIdeal.τ).loc Cert.AdamwWOutIdeal.main_arg4)) (m ((c.tc : Thread Cert.AdamwWOutIdeal.nD Cert.AdamwWOutIdeal.τ).loc Cert.AdamwWOutIdeal.main_arg5))) = (fun _ => 1#1)

def Pre_AdamwWOutRefIdeal (m : (ℓ : Loc Cert.AdamwWOutRefIdeal.nD Cert.AdamwWOutRefIdeal.τ Cert.AdamwWOutRefIdeal.sig) → Buf (Elt Ideal) ℓ) : Prop :=
  True

def Pre_AdamwWOutRefIdeal_place_w_out [hPre_place_w_out : Cert.Pre_place_w_out.Facts] (m : (ℓ : Loc Cert.AdamwWOutRefIdeal.nD Cert.AdamwWOutRefIdeal.τ Cert.AdamwWOutRefIdeal.sig) → Buf (Elt Ideal) ℓ) : Prop :=
  ∀ c : Dev Cert.AdamwWOutRefIdeal.nD,
    (Cert.Pre_place_w_out.fn (F := Ideal) (m ((c.tc : Thread Cert.AdamwWOutRefIdeal.nD Cert.AdamwWOutRefIdeal.τ).loc Cert.AdamwWOutRefIdeal.main_arg0)) (m ((c.tc : Thread Cert.AdamwWOutRefIdeal.nD Cert.AdamwWOutRefIdeal.τ).loc Cert.AdamwWOutRefIdeal.main_arg1)) (m ((c.tc : Thread Cert.AdamwWOutRefIdeal.nD Cert.AdamwWOutRefIdeal.τ).loc Cert.AdamwWOutRefIdeal.main_arg2)) (m ((c.tc : Thread Cert.AdamwWOutRefIdeal.nD Cert.AdamwWOutRefIdeal.τ).loc Cert.AdamwWOutRefIdeal.main_arg3)) (m ((c.tc : Thread Cert.AdamwWOutRefIdeal.nD Cert.AdamwWOutRefIdeal.τ).loc Cert.AdamwWOutRefIdeal.main_arg4)) (m ((c.tc : Thread Cert.AdamwWOutRefIdeal.nD Cert.AdamwWOutRefIdeal.τ).loc Cert.AdamwWOutRefIdeal.main_arg5))) = (fun _ => 1#1)

def Pre_AdamwWFfnIn [hPre_place_w_ffn_in : Cert.Pre_place_w_ffn_in.Facts] (m : (ℓ : Loc Cert.AdamwWFfnIn.nD Cert.AdamwWFfnIn.τ Cert.AdamwWFfnIn.sig) → Buf (Elt Bits) ℓ) : Prop :=
  ∀ c : Dev Cert.AdamwWFfnIn.nD,
    (Cert.Pre_place_w_ffn_in.fn (F := Bits) (m ((c.tc : Thread Cert.AdamwWFfnIn.nD Cert.AdamwWFfnIn.τ).loc Cert.AdamwWFfnIn.main_arg0)) (m ((c.tc : Thread Cert.AdamwWFfnIn.nD Cert.AdamwWFfnIn.τ).loc Cert.AdamwWFfnIn.main_arg1)) (m ((c.tc : Thread Cert.AdamwWFfnIn.nD Cert.AdamwWFfnIn.τ).loc Cert.AdamwWFfnIn.main_arg2)) (m ((c.tc : Thread Cert.AdamwWFfnIn.nD Cert.AdamwWFfnIn.τ).loc Cert.AdamwWFfnIn.main_arg3)) (m ((c.tc : Thread Cert.AdamwWFfnIn.nD Cert.AdamwWFfnIn.τ).loc Cert.AdamwWFfnIn.main_arg4)) (m ((c.tc : Thread Cert.AdamwWFfnIn.nD Cert.AdamwWFfnIn.τ).loc Cert.AdamwWFfnIn.main_arg5))) = (fun _ => 1#1)

def Pre_AdamwWFfnInIdeal [hPre_place_w_ffn_in : Cert.Pre_place_w_ffn_in.Facts] (m : (ℓ : Loc Cert.AdamwWFfnInIdeal.nD Cert.AdamwWFfnInIdeal.τ Cert.AdamwWFfnInIdeal.sig) → Buf (Elt Ideal) ℓ) : Prop :=
  ∀ c : Dev Cert.AdamwWFfnInIdeal.nD,
    (Cert.Pre_place_w_ffn_in.fn (F := Ideal) (m ((c.tc : Thread Cert.AdamwWFfnInIdeal.nD Cert.AdamwWFfnInIdeal.τ).loc Cert.AdamwWFfnInIdeal.main_arg0)) (m ((c.tc : Thread Cert.AdamwWFfnInIdeal.nD Cert.AdamwWFfnInIdeal.τ).loc Cert.AdamwWFfnInIdeal.main_arg1)) (m ((c.tc : Thread Cert.AdamwWFfnInIdeal.nD Cert.AdamwWFfnInIdeal.τ).loc Cert.AdamwWFfnInIdeal.main_arg2)) (m ((c.tc : Thread Cert.AdamwWFfnInIdeal.nD Cert.AdamwWFfnInIdeal.τ).loc Cert.AdamwWFfnInIdeal.main_arg3)) (m ((c.tc : Thread Cert.AdamwWFfnInIdeal.nD Cert.AdamwWFfnInIdeal.τ).loc Cert.AdamwWFfnInIdeal.main_arg4)) (m ((c.tc : Thread Cert.AdamwWFfnInIdeal.nD Cert.AdamwWFfnInIdeal.τ).loc Cert.AdamwWFfnInIdeal.main_arg5))) = (fun _ => 1#1)

def Pre_AdamwWFfnInRefIdeal (m : (ℓ : Loc Cert.AdamwWFfnInRefIdeal.nD Cert.AdamwWFfnInRefIdeal.τ Cert.AdamwWFfnInRefIdeal.sig) → Buf (Elt Ideal) ℓ) : Prop :=
  True

def Pre_AdamwWFfnInRefIdeal_place_w_ffn_in [hPre_place_w_ffn_in : Cert.Pre_place_w_ffn_in.Facts] (m : (ℓ : Loc Cert.AdamwWFfnInRefIdeal.nD Cert.AdamwWFfnInRefIdeal.τ Cert.AdamwWFfnInRefIdeal.sig) → Buf (Elt Ideal) ℓ) : Prop :=
  ∀ c : Dev Cert.AdamwWFfnInRefIdeal.nD,
    (Cert.Pre_place_w_ffn_in.fn (F := Ideal) (m ((c.tc : Thread Cert.AdamwWFfnInRefIdeal.nD Cert.AdamwWFfnInRefIdeal.τ).loc Cert.AdamwWFfnInRefIdeal.main_arg0)) (m ((c.tc : Thread Cert.AdamwWFfnInRefIdeal.nD Cert.AdamwWFfnInRefIdeal.τ).loc Cert.AdamwWFfnInRefIdeal.main_arg1)) (m ((c.tc : Thread Cert.AdamwWFfnInRefIdeal.nD Cert.AdamwWFfnInRefIdeal.τ).loc Cert.AdamwWFfnInRefIdeal.main_arg2)) (m ((c.tc : Thread Cert.AdamwWFfnInRefIdeal.nD Cert.AdamwWFfnInRefIdeal.τ).loc Cert.AdamwWFfnInRefIdeal.main_arg3)) (m ((c.tc : Thread Cert.AdamwWFfnInRefIdeal.nD Cert.AdamwWFfnInRefIdeal.τ).loc Cert.AdamwWFfnInRefIdeal.main_arg4)) (m ((c.tc : Thread Cert.AdamwWFfnInRefIdeal.nD Cert.AdamwWFfnInRefIdeal.τ).loc Cert.AdamwWFfnInRefIdeal.main_arg5))) = (fun _ => 1#1)

def Pre_AdamwWFfnOut [hPre_place_w_ffn_out : Cert.Pre_place_w_ffn_out.Facts] (m : (ℓ : Loc Cert.AdamwWFfnOut.nD Cert.AdamwWFfnOut.τ Cert.AdamwWFfnOut.sig) → Buf (Elt Bits) ℓ) : Prop :=
  ∀ c : Dev Cert.AdamwWFfnOut.nD,
    (Cert.Pre_place_w_ffn_out.fn (F := Bits) (m ((c.tc : Thread Cert.AdamwWFfnOut.nD Cert.AdamwWFfnOut.τ).loc Cert.AdamwWFfnOut.main_arg0)) (m ((c.tc : Thread Cert.AdamwWFfnOut.nD Cert.AdamwWFfnOut.τ).loc Cert.AdamwWFfnOut.main_arg1)) (m ((c.tc : Thread Cert.AdamwWFfnOut.nD Cert.AdamwWFfnOut.τ).loc Cert.AdamwWFfnOut.main_arg2)) (m ((c.tc : Thread Cert.AdamwWFfnOut.nD Cert.AdamwWFfnOut.τ).loc Cert.AdamwWFfnOut.main_arg3)) (m ((c.tc : Thread Cert.AdamwWFfnOut.nD Cert.AdamwWFfnOut.τ).loc Cert.AdamwWFfnOut.main_arg4)) (m ((c.tc : Thread Cert.AdamwWFfnOut.nD Cert.AdamwWFfnOut.τ).loc Cert.AdamwWFfnOut.main_arg5))) = (fun _ => 1#1)

def Pre_AdamwWFfnOutIdeal [hPre_place_w_ffn_out : Cert.Pre_place_w_ffn_out.Facts] (m : (ℓ : Loc Cert.AdamwWFfnOutIdeal.nD Cert.AdamwWFfnOutIdeal.τ Cert.AdamwWFfnOutIdeal.sig) → Buf (Elt Ideal) ℓ) : Prop :=
  ∀ c : Dev Cert.AdamwWFfnOutIdeal.nD,
    (Cert.Pre_place_w_ffn_out.fn (F := Ideal) (m ((c.tc : Thread Cert.AdamwWFfnOutIdeal.nD Cert.AdamwWFfnOutIdeal.τ).loc Cert.AdamwWFfnOutIdeal.main_arg0)) (m ((c.tc : Thread Cert.AdamwWFfnOutIdeal.nD Cert.AdamwWFfnOutIdeal.τ).loc Cert.AdamwWFfnOutIdeal.main_arg1)) (m ((c.tc : Thread Cert.AdamwWFfnOutIdeal.nD Cert.AdamwWFfnOutIdeal.τ).loc Cert.AdamwWFfnOutIdeal.main_arg2)) (m ((c.tc : Thread Cert.AdamwWFfnOutIdeal.nD Cert.AdamwWFfnOutIdeal.τ).loc Cert.AdamwWFfnOutIdeal.main_arg3)) (m ((c.tc : Thread Cert.AdamwWFfnOutIdeal.nD Cert.AdamwWFfnOutIdeal.τ).loc Cert.AdamwWFfnOutIdeal.main_arg4)) (m ((c.tc : Thread Cert.AdamwWFfnOutIdeal.nD Cert.AdamwWFfnOutIdeal.τ).loc Cert.AdamwWFfnOutIdeal.main_arg5))) = (fun _ => 1#1)

def Pre_AdamwWFfnOutRefIdeal (m : (ℓ : Loc Cert.AdamwWFfnOutRefIdeal.nD Cert.AdamwWFfnOutRefIdeal.τ Cert.AdamwWFfnOutRefIdeal.sig) → Buf (Elt Ideal) ℓ) : Prop :=
  True

def Pre_AdamwWFfnOutRefIdeal_place_w_ffn_out [hPre_place_w_ffn_out : Cert.Pre_place_w_ffn_out.Facts] (m : (ℓ : Loc Cert.AdamwWFfnOutRefIdeal.nD Cert.AdamwWFfnOutRefIdeal.τ Cert.AdamwWFfnOutRefIdeal.sig) → Buf (Elt Ideal) ℓ) : Prop :=
  ∀ c : Dev Cert.AdamwWFfnOutRefIdeal.nD,
    (Cert.Pre_place_w_ffn_out.fn (F := Ideal) (m ((c.tc : Thread Cert.AdamwWFfnOutRefIdeal.nD Cert.AdamwWFfnOutRefIdeal.τ).loc Cert.AdamwWFfnOutRefIdeal.main_arg0)) (m ((c.tc : Thread Cert.AdamwWFfnOutRefIdeal.nD Cert.AdamwWFfnOutRefIdeal.τ).loc Cert.AdamwWFfnOutRefIdeal.main_arg1)) (m ((c.tc : Thread Cert.AdamwWFfnOutRefIdeal.nD Cert.AdamwWFfnOutRefIdeal.τ).loc Cert.AdamwWFfnOutRefIdeal.main_arg2)) (m ((c.tc : Thread Cert.AdamwWFfnOutRefIdeal.nD Cert.AdamwWFfnOutRefIdeal.τ).loc Cert.AdamwWFfnOutRefIdeal.main_arg3)) (m ((c.tc : Thread Cert.AdamwWFfnOutRefIdeal.nD Cert.AdamwWFfnOutRefIdeal.τ).loc Cert.AdamwWFfnOutRefIdeal.main_arg4)) (m ((c.tc : Thread Cert.AdamwWFfnOutRefIdeal.nD Cert.AdamwWFfnOutRefIdeal.τ).loc Cert.AdamwWFfnOutRefIdeal.main_arg5))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjQkvDx [hInProjQkvDx : Cert.InProjQkvDx.Facts] : Prop :=
  ∀ (m : (ℓ : Loc Cert.InProjQkvDx.nD Cert.InProjQkvDx.τ Cert.InProjQkvDx.sig) → Buf (Elt Bits) ℓ) (g : Dev Cert.InProjQkvDx.nD → PrngReg), Pre_InProjQkvDx m →
    θ_run (Cert.InProjQkvDx.defs (F := Bits)) (onTc (τ := Cert.InProjQkvDx.τ) (Cert.InProjQkvDx.main (F := Bits))) ⟨m, fun _ => 0, g⟩ (fun r => (∀ c : Dev Cert.InProjQkvDx.nD,
      r.2.mem ((c.tc : Thread Cert.InProjQkvDx.nD Cert.InProjQkvDx.τ).loc Cert.InProjQkvDx.main_arg0) = m ((c.tc : Thread Cert.InProjQkvDx.nD Cert.InProjQkvDx.τ).loc Cert.InProjQkvDx.main_arg0)
      ∧ r.2.mem ((c.tc : Thread Cert.InProjQkvDx.nD Cert.InProjQkvDx.τ).loc Cert.InProjQkvDx.main_arg1) = m ((c.tc : Thread Cert.InProjQkvDx.nD Cert.InProjQkvDx.τ).loc Cert.InProjQkvDx.main_arg1))
      ∧ r.2.sem = fun _ => 0)

def quiescent_InProjQkvDxIdeal [hInProjQkvDxIdeal : Cert.InProjQkvDxIdeal.Facts] : Prop :=
  ∀ (m : (ℓ : Loc Cert.InProjQkvDxIdeal.nD Cert.InProjQkvDxIdeal.τ Cert.InProjQkvDxIdeal.sig) → Buf (Elt Ideal) ℓ) (g : Dev Cert.InProjQkvDxIdeal.nD → PrngReg), Pre_InProjQkvDxIdeal m →
    θ_run (Cert.InProjQkvDxIdeal.defs (F := Ideal)) (onTc (τ := Cert.InProjQkvDxIdeal.τ) (Cert.InProjQkvDxIdeal.main (F := Ideal))) ⟨m, fun _ => 0, g⟩ (fun r => (∀ c : Dev Cert.InProjQkvDxIdeal.nD,
      r.2.mem ((c.tc : Thread Cert.InProjQkvDxIdeal.nD Cert.InProjQkvDxIdeal.τ).loc Cert.InProjQkvDxIdeal.main_arg0) = m ((c.tc : Thread Cert.InProjQkvDxIdeal.nD Cert.InProjQkvDxIdeal.τ).loc Cert.InProjQkvDxIdeal.main_arg0)
      ∧ r.2.mem ((c.tc : Thread Cert.InProjQkvDxIdeal.nD Cert.InProjQkvDxIdeal.τ).loc Cert.InProjQkvDxIdeal.main_arg1) = m ((c.tc : Thread Cert.InProjQkvDxIdeal.nD Cert.InProjQkvDxIdeal.τ).loc Cert.InProjQkvDxIdeal.main_arg1))
      ∧ r.2.sem = fun _ => 0)

def quiescent_InProjQkvDxRefIdeal [hInProjQkvDxRefIdeal : Cert.InProjQkvDxRefIdeal.Facts] : Prop :=
  ∀ (m : (ℓ : Loc Cert.InProjQkvDxRefIdeal.nD Cert.InProjQkvDxRefIdeal.τ Cert.InProjQkvDxRefIdeal.sig) → Buf (Elt Ideal) ℓ) (g : Dev Cert.InProjQkvDxRefIdeal.nD → PrngReg), Pre_InProjQkvDxRefIdeal m →
    θ_run (Cert.InProjQkvDxRefIdeal.defs (F := Ideal)) (onTc (τ := Cert.InProjQkvDxRefIdeal.τ) (Cert.InProjQkvDxRefIdeal.main (F := Ideal))) ⟨m, fun _ => 0, g⟩ (fun r => (∀ c : Dev Cert.InProjQkvDxRefIdeal.nD,
      r.2.mem ((c.tc : Thread Cert.InProjQkvDxRefIdeal.nD Cert.InProjQkvDxRefIdeal.τ).loc Cert.InProjQkvDxRefIdeal.main_arg0) = m ((c.tc : Thread Cert.InProjQkvDxRefIdeal.nD Cert.InProjQkvDxRefIdeal.τ).loc Cert.InProjQkvDxRefIdeal.main_arg0)
      ∧ r.2.mem ((c.tc : Thread Cert.InProjQkvDxRefIdeal.nD Cert.InProjQkvDxRefIdeal.τ).loc Cert.InProjQkvDxRefIdeal.main_arg1) = m ((c.tc : Thread Cert.InProjQkvDxRefIdeal.nD Cert.InProjQkvDxRefIdeal.τ).loc Cert.InProjQkvDxRefIdeal.main_arg1))
      ∧ r.2.sem = fun _ => 0)

def quiescent_InProjQkvDw [hInProjQkvDw : Cert.InProjQkvDw.Facts] : Prop :=
  ∀ (m : (ℓ : Loc Cert.InProjQkvDw.nD Cert.InProjQkvDw.τ Cert.InProjQkvDw.sig) → Buf (Elt Bits) ℓ) (g : Dev Cert.InProjQkvDw.nD → PrngReg), Pre_InProjQkvDw m →
    θ_run (Cert.InProjQkvDw.defs (F := Bits)) (onTc (τ := Cert.InProjQkvDw.τ) (Cert.InProjQkvDw.main (F := Bits))) ⟨m, fun _ => 0, g⟩ (fun r => (∀ c : Dev Cert.InProjQkvDw.nD,
      r.2.mem ((c.tc : Thread Cert.InProjQkvDw.nD Cert.InProjQkvDw.τ).loc Cert.InProjQkvDw.main_arg0) = m ((c.tc : Thread Cert.InProjQkvDw.nD Cert.InProjQkvDw.τ).loc Cert.InProjQkvDw.main_arg0)
      ∧ r.2.mem ((c.tc : Thread Cert.InProjQkvDw.nD Cert.InProjQkvDw.τ).loc Cert.InProjQkvDw.main_arg1) = m ((c.tc : Thread Cert.InProjQkvDw.nD Cert.InProjQkvDw.τ).loc Cert.InProjQkvDw.main_arg1))
      ∧ r.2.sem = fun _ => 0)

def quiescent_InProjQkvDwIdeal [hInProjQkvDwIdeal : Cert.InProjQkvDwIdeal.Facts] : Prop :=
  ∀ (m : (ℓ : Loc Cert.InProjQkvDwIdeal.nD Cert.InProjQkvDwIdeal.τ Cert.InProjQkvDwIdeal.sig) → Buf (Elt Ideal) ℓ) (g : Dev Cert.InProjQkvDwIdeal.nD → PrngReg), Pre_InProjQkvDwIdeal m →
    θ_run (Cert.InProjQkvDwIdeal.defs (F := Ideal)) (onTc (τ := Cert.InProjQkvDwIdeal.τ) (Cert.InProjQkvDwIdeal.main (F := Ideal))) ⟨m, fun _ => 0, g⟩ (fun r => (∀ c : Dev Cert.InProjQkvDwIdeal.nD,
      r.2.mem ((c.tc : Thread Cert.InProjQkvDwIdeal.nD Cert.InProjQkvDwIdeal.τ).loc Cert.InProjQkvDwIdeal.main_arg0) = m ((c.tc : Thread Cert.InProjQkvDwIdeal.nD Cert.InProjQkvDwIdeal.τ).loc Cert.InProjQkvDwIdeal.main_arg0)
      ∧ r.2.mem ((c.tc : Thread Cert.InProjQkvDwIdeal.nD Cert.InProjQkvDwIdeal.τ).loc Cert.InProjQkvDwIdeal.main_arg1) = m ((c.tc : Thread Cert.InProjQkvDwIdeal.nD Cert.InProjQkvDwIdeal.τ).loc Cert.InProjQkvDwIdeal.main_arg1))
      ∧ r.2.sem = fun _ => 0)

def quiescent_InProjQkvDwRefIdeal [hInProjQkvDwRefIdeal : Cert.InProjQkvDwRefIdeal.Facts] : Prop :=
  ∀ (m : (ℓ : Loc Cert.InProjQkvDwRefIdeal.nD Cert.InProjQkvDwRefIdeal.τ Cert.InProjQkvDwRefIdeal.sig) → Buf (Elt Ideal) ℓ) (g : Dev Cert.InProjQkvDwRefIdeal.nD → PrngReg), Pre_InProjQkvDwRefIdeal m →
    θ_run (Cert.InProjQkvDwRefIdeal.defs (F := Ideal)) (onTc (τ := Cert.InProjQkvDwRefIdeal.τ) (Cert.InProjQkvDwRefIdeal.main (F := Ideal))) ⟨m, fun _ => 0, g⟩ (fun r => (∀ c : Dev Cert.InProjQkvDwRefIdeal.nD,
      r.2.mem ((c.tc : Thread Cert.InProjQkvDwRefIdeal.nD Cert.InProjQkvDwRefIdeal.τ).loc Cert.InProjQkvDwRefIdeal.main_arg0) = m ((c.tc : Thread Cert.InProjQkvDwRefIdeal.nD Cert.InProjQkvDwRefIdeal.τ).loc Cert.InProjQkvDwRefIdeal.main_arg0)
      ∧ r.2.mem ((c.tc : Thread Cert.InProjQkvDwRefIdeal.nD Cert.InProjQkvDwRefIdeal.τ).loc Cert.InProjQkvDwRefIdeal.main_arg1) = m ((c.tc : Thread Cert.InProjQkvDwRefIdeal.nD Cert.InProjQkvDwRefIdeal.τ).loc Cert.InProjQkvDwRefIdeal.main_arg1))
      ∧ r.2.sem = fun _ => 0)

def quiescent_InProjQkv [hInProjQkv : Cert.InProjQkv.Facts] : Prop :=
  ∀ (m : (ℓ : Loc Cert.InProjQkv.nD Cert.InProjQkv.τ Cert.InProjQkv.sig) → Buf (Elt Bits) ℓ) (g : Dev Cert.InProjQkv.nD → PrngReg), Pre_InProjQkv m →
    θ_run (Cert.InProjQkv.defs (F := Bits)) (onTc (τ := Cert.InProjQkv.τ) (Cert.InProjQkv.main (F := Bits))) ⟨m, fun _ => 0, g⟩ (fun r => (∀ c : Dev Cert.InProjQkv.nD,
      r.2.mem ((c.tc : Thread Cert.InProjQkv.nD Cert.InProjQkv.τ).loc Cert.InProjQkv.main_arg0) = m ((c.tc : Thread Cert.InProjQkv.nD Cert.InProjQkv.τ).loc Cert.InProjQkv.main_arg0)
      ∧ r.2.mem ((c.tc : Thread Cert.InProjQkv.nD Cert.InProjQkv.τ).loc Cert.InProjQkv.main_arg1) = m ((c.tc : Thread Cert.InProjQkv.nD Cert.InProjQkv.τ).loc Cert.InProjQkv.main_arg1))
      ∧ r.2.sem = fun _ => 0)

def quiescent_InProjQkvIdeal [hInProjQkvIdeal : Cert.InProjQkvIdeal.Facts] : Prop :=
  ∀ (m : (ℓ : Loc Cert.InProjQkvIdeal.nD Cert.InProjQkvIdeal.τ Cert.InProjQkvIdeal.sig) → Buf (Elt Ideal) ℓ) (g : Dev Cert.InProjQkvIdeal.nD → PrngReg), Pre_InProjQkvIdeal m →
    θ_run (Cert.InProjQkvIdeal.defs (F := Ideal)) (onTc (τ := Cert.InProjQkvIdeal.τ) (Cert.InProjQkvIdeal.main (F := Ideal))) ⟨m, fun _ => 0, g⟩ (fun r => (∀ c : Dev Cert.InProjQkvIdeal.nD,
      r.2.mem ((c.tc : Thread Cert.InProjQkvIdeal.nD Cert.InProjQkvIdeal.τ).loc Cert.InProjQkvIdeal.main_arg0) = m ((c.tc : Thread Cert.InProjQkvIdeal.nD Cert.InProjQkvIdeal.τ).loc Cert.InProjQkvIdeal.main_arg0)
      ∧ r.2.mem ((c.tc : Thread Cert.InProjQkvIdeal.nD Cert.InProjQkvIdeal.τ).loc Cert.InProjQkvIdeal.main_arg1) = m ((c.tc : Thread Cert.InProjQkvIdeal.nD Cert.InProjQkvIdeal.τ).loc Cert.InProjQkvIdeal.main_arg1))
      ∧ r.2.sem = fun _ => 0)

def quiescent_InProjQkvRefIdeal [hInProjQkvRefIdeal : Cert.InProjQkvRefIdeal.Facts] : Prop :=
  ∀ (m : (ℓ : Loc Cert.InProjQkvRefIdeal.nD Cert.InProjQkvRefIdeal.τ Cert.InProjQkvRefIdeal.sig) → Buf (Elt Ideal) ℓ) (g : Dev Cert.InProjQkvRefIdeal.nD → PrngReg), Pre_InProjQkvRefIdeal m →
    θ_run (Cert.InProjQkvRefIdeal.defs (F := Ideal)) (onTc (τ := Cert.InProjQkvRefIdeal.τ) (Cert.InProjQkvRefIdeal.main (F := Ideal))) ⟨m, fun _ => 0, g⟩ (fun r => (∀ c : Dev Cert.InProjQkvRefIdeal.nD,
      r.2.mem ((c.tc : Thread Cert.InProjQkvRefIdeal.nD Cert.InProjQkvRefIdeal.τ).loc Cert.InProjQkvRefIdeal.main_arg0) = m ((c.tc : Thread Cert.InProjQkvRefIdeal.nD Cert.InProjQkvRefIdeal.τ).loc Cert.InProjQkvRefIdeal.main_arg0)
      ∧ r.2.mem ((c.tc : Thread Cert.InProjQkvRefIdeal.nD Cert.InProjQkvRefIdeal.τ).loc Cert.InProjQkvRefIdeal.main_arg1) = m ((c.tc : Thread Cert.InProjQkvRefIdeal.nD Cert.InProjQkvRefIdeal.τ).loc Cert.InProjQkvRefIdeal.main_arg1))
      ∧ r.2.sem = fun _ => 0)

def quiescent_InProjDtDx [hInProjDtDx : Cert.InProjDtDx.Facts] : Prop :=
  ∀ (m : (ℓ : Loc Cert.InProjDtDx.nD Cert.InProjDtDx.τ Cert.InProjDtDx.sig) → Buf (Elt Bits) ℓ) (g : Dev Cert.InProjDtDx.nD → PrngReg), Pre_InProjDtDx m →
    θ_run (Cert.InProjDtDx.defs (F := Bits)) (onTc (τ := Cert.InProjDtDx.τ) (Cert.InProjDtDx.main (F := Bits))) ⟨m, fun _ => 0, g⟩ (fun r => (∀ c : Dev Cert.InProjDtDx.nD,
      r.2.mem ((c.tc : Thread Cert.InProjDtDx.nD Cert.InProjDtDx.τ).loc Cert.InProjDtDx.main_arg0) = m ((c.tc : Thread Cert.InProjDtDx.nD Cert.InProjDtDx.τ).loc Cert.InProjDtDx.main_arg0)
      ∧ r.2.mem ((c.tc : Thread Cert.InProjDtDx.nD Cert.InProjDtDx.τ).loc Cert.InProjDtDx.main_arg1) = m ((c.tc : Thread Cert.InProjDtDx.nD Cert.InProjDtDx.τ).loc Cert.InProjDtDx.main_arg1))
      ∧ r.2.sem = fun _ => 0)

def quiescent_InProjDtDxIdeal [hInProjDtDxIdeal : Cert.InProjDtDxIdeal.Facts] : Prop :=
  ∀ (m : (ℓ : Loc Cert.InProjDtDxIdeal.nD Cert.InProjDtDxIdeal.τ Cert.InProjDtDxIdeal.sig) → Buf (Elt Ideal) ℓ) (g : Dev Cert.InProjDtDxIdeal.nD → PrngReg), Pre_InProjDtDxIdeal m →
    θ_run (Cert.InProjDtDxIdeal.defs (F := Ideal)) (onTc (τ := Cert.InProjDtDxIdeal.τ) (Cert.InProjDtDxIdeal.main (F := Ideal))) ⟨m, fun _ => 0, g⟩ (fun r => (∀ c : Dev Cert.InProjDtDxIdeal.nD,
      r.2.mem ((c.tc : Thread Cert.InProjDtDxIdeal.nD Cert.InProjDtDxIdeal.τ).loc Cert.InProjDtDxIdeal.main_arg0) = m ((c.tc : Thread Cert.InProjDtDxIdeal.nD Cert.InProjDtDxIdeal.τ).loc Cert.InProjDtDxIdeal.main_arg0)
      ∧ r.2.mem ((c.tc : Thread Cert.InProjDtDxIdeal.nD Cert.InProjDtDxIdeal.τ).loc Cert.InProjDtDxIdeal.main_arg1) = m ((c.tc : Thread Cert.InProjDtDxIdeal.nD Cert.InProjDtDxIdeal.τ).loc Cert.InProjDtDxIdeal.main_arg1))
      ∧ r.2.sem = fun _ => 0)

def quiescent_InProjDtDxRefIdeal [hInProjDtDxRefIdeal : Cert.InProjDtDxRefIdeal.Facts] : Prop :=
  ∀ (m : (ℓ : Loc Cert.InProjDtDxRefIdeal.nD Cert.InProjDtDxRefIdeal.τ Cert.InProjDtDxRefIdeal.sig) → Buf (Elt Ideal) ℓ) (g : Dev Cert.InProjDtDxRefIdeal.nD → PrngReg), Pre_InProjDtDxRefIdeal m →
    θ_run (Cert.InProjDtDxRefIdeal.defs (F := Ideal)) (onTc (τ := Cert.InProjDtDxRefIdeal.τ) (Cert.InProjDtDxRefIdeal.main (F := Ideal))) ⟨m, fun _ => 0, g⟩ (fun r => (∀ c : Dev Cert.InProjDtDxRefIdeal.nD,
      r.2.mem ((c.tc : Thread Cert.InProjDtDxRefIdeal.nD Cert.InProjDtDxRefIdeal.τ).loc Cert.InProjDtDxRefIdeal.main_arg0) = m ((c.tc : Thread Cert.InProjDtDxRefIdeal.nD Cert.InProjDtDxRefIdeal.τ).loc Cert.InProjDtDxRefIdeal.main_arg0)
      ∧ r.2.mem ((c.tc : Thread Cert.InProjDtDxRefIdeal.nD Cert.InProjDtDxRefIdeal.τ).loc Cert.InProjDtDxRefIdeal.main_arg1) = m ((c.tc : Thread Cert.InProjDtDxRefIdeal.nD Cert.InProjDtDxRefIdeal.τ).loc Cert.InProjDtDxRefIdeal.main_arg1))
      ∧ r.2.sem = fun _ => 0)

def quiescent_InProjDtDw [hInProjDtDw : Cert.InProjDtDw.Facts] : Prop :=
  ∀ (m : (ℓ : Loc Cert.InProjDtDw.nD Cert.InProjDtDw.τ Cert.InProjDtDw.sig) → Buf (Elt Bits) ℓ) (g : Dev Cert.InProjDtDw.nD → PrngReg), Pre_InProjDtDw m →
    θ_run (Cert.InProjDtDw.defs (F := Bits)) (onTc (τ := Cert.InProjDtDw.τ) (Cert.InProjDtDw.main (F := Bits))) ⟨m, fun _ => 0, g⟩ (fun r => (∀ c : Dev Cert.InProjDtDw.nD,
      r.2.mem ((c.tc : Thread Cert.InProjDtDw.nD Cert.InProjDtDw.τ).loc Cert.InProjDtDw.main_arg0) = m ((c.tc : Thread Cert.InProjDtDw.nD Cert.InProjDtDw.τ).loc Cert.InProjDtDw.main_arg0)
      ∧ r.2.mem ((c.tc : Thread Cert.InProjDtDw.nD Cert.InProjDtDw.τ).loc Cert.InProjDtDw.main_arg1) = m ((c.tc : Thread Cert.InProjDtDw.nD Cert.InProjDtDw.τ).loc Cert.InProjDtDw.main_arg1))
      ∧ r.2.sem = fun _ => 0)

def quiescent_InProjDtDwIdeal [hInProjDtDwIdeal : Cert.InProjDtDwIdeal.Facts] : Prop :=
  ∀ (m : (ℓ : Loc Cert.InProjDtDwIdeal.nD Cert.InProjDtDwIdeal.τ Cert.InProjDtDwIdeal.sig) → Buf (Elt Ideal) ℓ) (g : Dev Cert.InProjDtDwIdeal.nD → PrngReg), Pre_InProjDtDwIdeal m →
    θ_run (Cert.InProjDtDwIdeal.defs (F := Ideal)) (onTc (τ := Cert.InProjDtDwIdeal.τ) (Cert.InProjDtDwIdeal.main (F := Ideal))) ⟨m, fun _ => 0, g⟩ (fun r => (∀ c : Dev Cert.InProjDtDwIdeal.nD,
      r.2.mem ((c.tc : Thread Cert.InProjDtDwIdeal.nD Cert.InProjDtDwIdeal.τ).loc Cert.InProjDtDwIdeal.main_arg0) = m ((c.tc : Thread Cert.InProjDtDwIdeal.nD Cert.InProjDtDwIdeal.τ).loc Cert.InProjDtDwIdeal.main_arg0)
      ∧ r.2.mem ((c.tc : Thread Cert.InProjDtDwIdeal.nD Cert.InProjDtDwIdeal.τ).loc Cert.InProjDtDwIdeal.main_arg1) = m ((c.tc : Thread Cert.InProjDtDwIdeal.nD Cert.InProjDtDwIdeal.τ).loc Cert.InProjDtDwIdeal.main_arg1))
      ∧ r.2.sem = fun _ => 0)

def quiescent_InProjDtDwRefIdeal [hInProjDtDwRefIdeal : Cert.InProjDtDwRefIdeal.Facts] : Prop :=
  ∀ (m : (ℓ : Loc Cert.InProjDtDwRefIdeal.nD Cert.InProjDtDwRefIdeal.τ Cert.InProjDtDwRefIdeal.sig) → Buf (Elt Ideal) ℓ) (g : Dev Cert.InProjDtDwRefIdeal.nD → PrngReg), Pre_InProjDtDwRefIdeal m →
    θ_run (Cert.InProjDtDwRefIdeal.defs (F := Ideal)) (onTc (τ := Cert.InProjDtDwRefIdeal.τ) (Cert.InProjDtDwRefIdeal.main (F := Ideal))) ⟨m, fun _ => 0, g⟩ (fun r => (∀ c : Dev Cert.InProjDtDwRefIdeal.nD,
      r.2.mem ((c.tc : Thread Cert.InProjDtDwRefIdeal.nD Cert.InProjDtDwRefIdeal.τ).loc Cert.InProjDtDwRefIdeal.main_arg0) = m ((c.tc : Thread Cert.InProjDtDwRefIdeal.nD Cert.InProjDtDwRefIdeal.τ).loc Cert.InProjDtDwRefIdeal.main_arg0)
      ∧ r.2.mem ((c.tc : Thread Cert.InProjDtDwRefIdeal.nD Cert.InProjDtDwRefIdeal.τ).loc Cert.InProjDtDwRefIdeal.main_arg1) = m ((c.tc : Thread Cert.InProjDtDwRefIdeal.nD Cert.InProjDtDwRefIdeal.τ).loc Cert.InProjDtDwRefIdeal.main_arg1))
      ∧ r.2.sem = fun _ => 0)

def quiescent_InProjDt [hInProjDt : Cert.InProjDt.Facts] : Prop :=
  ∀ (m : (ℓ : Loc Cert.InProjDt.nD Cert.InProjDt.τ Cert.InProjDt.sig) → Buf (Elt Bits) ℓ) (g : Dev Cert.InProjDt.nD → PrngReg), Pre_InProjDt m →
    θ_run (Cert.InProjDt.defs (F := Bits)) (onTc (τ := Cert.InProjDt.τ) (Cert.InProjDt.main (F := Bits))) ⟨m, fun _ => 0, g⟩ (fun r => (∀ c : Dev Cert.InProjDt.nD,
      r.2.mem ((c.tc : Thread Cert.InProjDt.nD Cert.InProjDt.τ).loc Cert.InProjDt.main_arg0) = m ((c.tc : Thread Cert.InProjDt.nD Cert.InProjDt.τ).loc Cert.InProjDt.main_arg0)
      ∧ r.2.mem ((c.tc : Thread Cert.InProjDt.nD Cert.InProjDt.τ).loc Cert.InProjDt.main_arg1) = m ((c.tc : Thread Cert.InProjDt.nD Cert.InProjDt.τ).loc Cert.InProjDt.main_arg1))
      ∧ r.2.sem = fun _ => 0)

def quiescent_InProjDtIdeal [hInProjDtIdeal : Cert.InProjDtIdeal.Facts] : Prop :=
  ∀ (m : (ℓ : Loc Cert.InProjDtIdeal.nD Cert.InProjDtIdeal.τ Cert.InProjDtIdeal.sig) → Buf (Elt Ideal) ℓ) (g : Dev Cert.InProjDtIdeal.nD → PrngReg), Pre_InProjDtIdeal m →
    θ_run (Cert.InProjDtIdeal.defs (F := Ideal)) (onTc (τ := Cert.InProjDtIdeal.τ) (Cert.InProjDtIdeal.main (F := Ideal))) ⟨m, fun _ => 0, g⟩ (fun r => (∀ c : Dev Cert.InProjDtIdeal.nD,
      r.2.mem ((c.tc : Thread Cert.InProjDtIdeal.nD Cert.InProjDtIdeal.τ).loc Cert.InProjDtIdeal.main_arg0) = m ((c.tc : Thread Cert.InProjDtIdeal.nD Cert.InProjDtIdeal.τ).loc Cert.InProjDtIdeal.main_arg0)
      ∧ r.2.mem ((c.tc : Thread Cert.InProjDtIdeal.nD Cert.InProjDtIdeal.τ).loc Cert.InProjDtIdeal.main_arg1) = m ((c.tc : Thread Cert.InProjDtIdeal.nD Cert.InProjDtIdeal.τ).loc Cert.InProjDtIdeal.main_arg1))
      ∧ r.2.sem = fun _ => 0)

def quiescent_InProjDtRefIdeal [hInProjDtRefIdeal : Cert.InProjDtRefIdeal.Facts] : Prop :=
  ∀ (m : (ℓ : Loc Cert.InProjDtRefIdeal.nD Cert.InProjDtRefIdeal.τ Cert.InProjDtRefIdeal.sig) → Buf (Elt Ideal) ℓ) (g : Dev Cert.InProjDtRefIdeal.nD → PrngReg), Pre_InProjDtRefIdeal m →
    θ_run (Cert.InProjDtRefIdeal.defs (F := Ideal)) (onTc (τ := Cert.InProjDtRefIdeal.τ) (Cert.InProjDtRefIdeal.main (F := Ideal))) ⟨m, fun _ => 0, g⟩ (fun r => (∀ c : Dev Cert.InProjDtRefIdeal.nD,
      r.2.mem ((c.tc : Thread Cert.InProjDtRefIdeal.nD Cert.InProjDtRefIdeal.τ).loc Cert.InProjDtRefIdeal.main_arg0) = m ((c.tc : Thread Cert.InProjDtRefIdeal.nD Cert.InProjDtRefIdeal.τ).loc Cert.InProjDtRefIdeal.main_arg0)
      ∧ r.2.mem ((c.tc : Thread Cert.InProjDtRefIdeal.nD Cert.InProjDtRefIdeal.τ).loc Cert.InProjDtRefIdeal.main_arg1) = m ((c.tc : Thread Cert.InProjDtRefIdeal.nD Cert.InProjDtRefIdeal.τ).loc Cert.InProjDtRefIdeal.main_arg1))
      ∧ r.2.sem = fun _ => 0)

def quiescent_AttnBranchDx [hAttnBranchDx : Cert.AttnBranchDx.Facts] : Prop :=
  ∀ (m : (ℓ : Loc Cert.AttnBranchDx.nD Cert.AttnBranchDx.τ Cert.AttnBranchDx.sig) → Buf (Elt Bits) ℓ) (g : Dev Cert.AttnBranchDx.nD → PrngReg), Pre_AttnBranchDx m →
    θ_run (Cert.AttnBranchDx.defs (F := Bits)) (onTc (τ := Cert.AttnBranchDx.τ) (Cert.AttnBranchDx.main (F := Bits))) ⟨m, fun _ => 0, g⟩ (fun r => (∀ c : Dev Cert.AttnBranchDx.nD,
      r.2.mem ((c.tc : Thread Cert.AttnBranchDx.nD Cert.AttnBranchDx.τ).loc Cert.AttnBranchDx.main_arg0) = m ((c.tc : Thread Cert.AttnBranchDx.nD Cert.AttnBranchDx.τ).loc Cert.AttnBranchDx.main_arg0)
      ∧ r.2.mem ((c.tc : Thread Cert.AttnBranchDx.nD Cert.AttnBranchDx.τ).loc Cert.AttnBranchDx.main_arg1) = m ((c.tc : Thread Cert.AttnBranchDx.nD Cert.AttnBranchDx.τ).loc Cert.AttnBranchDx.main_arg1))
      ∧ r.2.sem = fun _ => 0)

def quiescent_AttnBranchDxIdeal [hAttnBranchDxIdeal : Cert.AttnBranchDxIdeal.Facts] : Prop :=
  ∀ (m : (ℓ : Loc Cert.AttnBranchDxIdeal.nD Cert.AttnBranchDxIdeal.τ Cert.AttnBranchDxIdeal.sig) → Buf (Elt Ideal) ℓ) (g : Dev Cert.AttnBranchDxIdeal.nD → PrngReg), Pre_AttnBranchDxIdeal m →
    θ_run (Cert.AttnBranchDxIdeal.defs (F := Ideal)) (onTc (τ := Cert.AttnBranchDxIdeal.τ) (Cert.AttnBranchDxIdeal.main (F := Ideal))) ⟨m, fun _ => 0, g⟩ (fun r => (∀ c : Dev Cert.AttnBranchDxIdeal.nD,
      r.2.mem ((c.tc : Thread Cert.AttnBranchDxIdeal.nD Cert.AttnBranchDxIdeal.τ).loc Cert.AttnBranchDxIdeal.main_arg0) = m ((c.tc : Thread Cert.AttnBranchDxIdeal.nD Cert.AttnBranchDxIdeal.τ).loc Cert.AttnBranchDxIdeal.main_arg0)
      ∧ r.2.mem ((c.tc : Thread Cert.AttnBranchDxIdeal.nD Cert.AttnBranchDxIdeal.τ).loc Cert.AttnBranchDxIdeal.main_arg1) = m ((c.tc : Thread Cert.AttnBranchDxIdeal.nD Cert.AttnBranchDxIdeal.τ).loc Cert.AttnBranchDxIdeal.main_arg1))
      ∧ r.2.sem = fun _ => 0)

def quiescent_AttnBranchDxRefIdeal [hAttnBranchDxRefIdeal : Cert.AttnBranchDxRefIdeal.Facts] : Prop :=
  ∀ (m : (ℓ : Loc Cert.AttnBranchDxRefIdeal.nD Cert.AttnBranchDxRefIdeal.τ Cert.AttnBranchDxRefIdeal.sig) → Buf (Elt Ideal) ℓ) (g : Dev Cert.AttnBranchDxRefIdeal.nD → PrngReg), Pre_AttnBranchDxRefIdeal m →
    θ_run (Cert.AttnBranchDxRefIdeal.defs (F := Ideal)) (onTc (τ := Cert.AttnBranchDxRefIdeal.τ) (Cert.AttnBranchDxRefIdeal.main (F := Ideal))) ⟨m, fun _ => 0, g⟩ (fun r => (∀ c : Dev Cert.AttnBranchDxRefIdeal.nD,
      r.2.mem ((c.tc : Thread Cert.AttnBranchDxRefIdeal.nD Cert.AttnBranchDxRefIdeal.τ).loc Cert.AttnBranchDxRefIdeal.main_arg0) = m ((c.tc : Thread Cert.AttnBranchDxRefIdeal.nD Cert.AttnBranchDxRefIdeal.τ).loc Cert.AttnBranchDxRefIdeal.main_arg0)
      ∧ r.2.mem ((c.tc : Thread Cert.AttnBranchDxRefIdeal.nD Cert.AttnBranchDxRefIdeal.τ).loc Cert.AttnBranchDxRefIdeal.main_arg1) = m ((c.tc : Thread Cert.AttnBranchDxRefIdeal.nD Cert.AttnBranchDxRefIdeal.τ).loc Cert.AttnBranchDxRefIdeal.main_arg1))
      ∧ r.2.sem = fun _ => 0)

def quiescent_AttnBranchDw [hAttnBranchDw : Cert.AttnBranchDw.Facts] : Prop :=
  ∀ (m : (ℓ : Loc Cert.AttnBranchDw.nD Cert.AttnBranchDw.τ Cert.AttnBranchDw.sig) → Buf (Elt Bits) ℓ) (g : Dev Cert.AttnBranchDw.nD → PrngReg), Pre_AttnBranchDw m →
    θ_run (Cert.AttnBranchDw.defs (F := Bits)) (onTc (τ := Cert.AttnBranchDw.τ) (Cert.AttnBranchDw.main (F := Bits))) ⟨m, fun _ => 0, g⟩ (fun r => (∀ c : Dev Cert.AttnBranchDw.nD,
      r.2.mem ((c.tc : Thread Cert.AttnBranchDw.nD Cert.AttnBranchDw.τ).loc Cert.AttnBranchDw.main_arg0) = m ((c.tc : Thread Cert.AttnBranchDw.nD Cert.AttnBranchDw.τ).loc Cert.AttnBranchDw.main_arg0)
      ∧ r.2.mem ((c.tc : Thread Cert.AttnBranchDw.nD Cert.AttnBranchDw.τ).loc Cert.AttnBranchDw.main_arg1) = m ((c.tc : Thread Cert.AttnBranchDw.nD Cert.AttnBranchDw.τ).loc Cert.AttnBranchDw.main_arg1))
      ∧ r.2.sem = fun _ => 0)

def quiescent_AttnBranchDwIdeal [hAttnBranchDwIdeal : Cert.AttnBranchDwIdeal.Facts] : Prop :=
  ∀ (m : (ℓ : Loc Cert.AttnBranchDwIdeal.nD Cert.AttnBranchDwIdeal.τ Cert.AttnBranchDwIdeal.sig) → Buf (Elt Ideal) ℓ) (g : Dev Cert.AttnBranchDwIdeal.nD → PrngReg), Pre_AttnBranchDwIdeal m →
    θ_run (Cert.AttnBranchDwIdeal.defs (F := Ideal)) (onTc (τ := Cert.AttnBranchDwIdeal.τ) (Cert.AttnBranchDwIdeal.main (F := Ideal))) ⟨m, fun _ => 0, g⟩ (fun r => (∀ c : Dev Cert.AttnBranchDwIdeal.nD,
      r.2.mem ((c.tc : Thread Cert.AttnBranchDwIdeal.nD Cert.AttnBranchDwIdeal.τ).loc Cert.AttnBranchDwIdeal.main_arg0) = m ((c.tc : Thread Cert.AttnBranchDwIdeal.nD Cert.AttnBranchDwIdeal.τ).loc Cert.AttnBranchDwIdeal.main_arg0)
      ∧ r.2.mem ((c.tc : Thread Cert.AttnBranchDwIdeal.nD Cert.AttnBranchDwIdeal.τ).loc Cert.AttnBranchDwIdeal.main_arg1) = m ((c.tc : Thread Cert.AttnBranchDwIdeal.nD Cert.AttnBranchDwIdeal.τ).loc Cert.AttnBranchDwIdeal.main_arg1))
      ∧ r.2.sem = fun _ => 0)

def quiescent_AttnBranchDwRefIdeal [hAttnBranchDwRefIdeal : Cert.AttnBranchDwRefIdeal.Facts] : Prop :=
  ∀ (m : (ℓ : Loc Cert.AttnBranchDwRefIdeal.nD Cert.AttnBranchDwRefIdeal.τ Cert.AttnBranchDwRefIdeal.sig) → Buf (Elt Ideal) ℓ) (g : Dev Cert.AttnBranchDwRefIdeal.nD → PrngReg), Pre_AttnBranchDwRefIdeal m →
    θ_run (Cert.AttnBranchDwRefIdeal.defs (F := Ideal)) (onTc (τ := Cert.AttnBranchDwRefIdeal.τ) (Cert.AttnBranchDwRefIdeal.main (F := Ideal))) ⟨m, fun _ => 0, g⟩ (fun r => (∀ c : Dev Cert.AttnBranchDwRefIdeal.nD,
      r.2.mem ((c.tc : Thread Cert.AttnBranchDwRefIdeal.nD Cert.AttnBranchDwRefIdeal.τ).loc Cert.AttnBranchDwRefIdeal.main_arg0) = m ((c.tc : Thread Cert.AttnBranchDwRefIdeal.nD Cert.AttnBranchDwRefIdeal.τ).loc Cert.AttnBranchDwRefIdeal.main_arg0)
      ∧ r.2.mem ((c.tc : Thread Cert.AttnBranchDwRefIdeal.nD Cert.AttnBranchDwRefIdeal.τ).loc Cert.AttnBranchDwRefIdeal.main_arg1) = m ((c.tc : Thread Cert.AttnBranchDwRefIdeal.nD Cert.AttnBranchDwRefIdeal.τ).loc Cert.AttnBranchDwRefIdeal.main_arg1))
      ∧ r.2.sem = fun _ => 0)

def quiescent_AttnBranch [hAttnBranch : Cert.AttnBranch.Facts] : Prop :=
  ∀ (m : (ℓ : Loc Cert.AttnBranch.nD Cert.AttnBranch.τ Cert.AttnBranch.sig) → Buf (Elt Bits) ℓ) (g : Dev Cert.AttnBranch.nD → PrngReg), Pre_AttnBranch m →
    θ_run (Cert.AttnBranch.defs (F := Bits)) (onTc (τ := Cert.AttnBranch.τ) (Cert.AttnBranch.main (F := Bits))) ⟨m, fun _ => 0, g⟩ (fun r => (∀ c : Dev Cert.AttnBranch.nD,
      r.2.mem ((c.tc : Thread Cert.AttnBranch.nD Cert.AttnBranch.τ).loc Cert.AttnBranch.main_arg0) = m ((c.tc : Thread Cert.AttnBranch.nD Cert.AttnBranch.τ).loc Cert.AttnBranch.main_arg0)
      ∧ r.2.mem ((c.tc : Thread Cert.AttnBranch.nD Cert.AttnBranch.τ).loc Cert.AttnBranch.main_arg1) = m ((c.tc : Thread Cert.AttnBranch.nD Cert.AttnBranch.τ).loc Cert.AttnBranch.main_arg1))
      ∧ r.2.sem = fun _ => 0)

def quiescent_AttnBranchIdeal [hAttnBranchIdeal : Cert.AttnBranchIdeal.Facts] : Prop :=
  ∀ (m : (ℓ : Loc Cert.AttnBranchIdeal.nD Cert.AttnBranchIdeal.τ Cert.AttnBranchIdeal.sig) → Buf (Elt Ideal) ℓ) (g : Dev Cert.AttnBranchIdeal.nD → PrngReg), Pre_AttnBranchIdeal m →
    θ_run (Cert.AttnBranchIdeal.defs (F := Ideal)) (onTc (τ := Cert.AttnBranchIdeal.τ) (Cert.AttnBranchIdeal.main (F := Ideal))) ⟨m, fun _ => 0, g⟩ (fun r => (∀ c : Dev Cert.AttnBranchIdeal.nD,
      r.2.mem ((c.tc : Thread Cert.AttnBranchIdeal.nD Cert.AttnBranchIdeal.τ).loc Cert.AttnBranchIdeal.main_arg0) = m ((c.tc : Thread Cert.AttnBranchIdeal.nD Cert.AttnBranchIdeal.τ).loc Cert.AttnBranchIdeal.main_arg0)
      ∧ r.2.mem ((c.tc : Thread Cert.AttnBranchIdeal.nD Cert.AttnBranchIdeal.τ).loc Cert.AttnBranchIdeal.main_arg1) = m ((c.tc : Thread Cert.AttnBranchIdeal.nD Cert.AttnBranchIdeal.τ).loc Cert.AttnBranchIdeal.main_arg1))
      ∧ r.2.sem = fun _ => 0)

def quiescent_AttnBranchRefIdeal [hAttnBranchRefIdeal : Cert.AttnBranchRefIdeal.Facts] : Prop :=
  ∀ (m : (ℓ : Loc Cert.AttnBranchRefIdeal.nD Cert.AttnBranchRefIdeal.τ Cert.AttnBranchRefIdeal.sig) → Buf (Elt Ideal) ℓ) (g : Dev Cert.AttnBranchRefIdeal.nD → PrngReg), Pre_AttnBranchRefIdeal m →
    θ_run (Cert.AttnBranchRefIdeal.defs (F := Ideal)) (onTc (τ := Cert.AttnBranchRefIdeal.τ) (Cert.AttnBranchRefIdeal.main (F := Ideal))) ⟨m, fun _ => 0, g⟩ (fun r => (∀ c : Dev Cert.AttnBranchRefIdeal.nD,
      r.2.mem ((c.tc : Thread Cert.AttnBranchRefIdeal.nD Cert.AttnBranchRefIdeal.τ).loc Cert.AttnBranchRefIdeal.main_arg0) = m ((c.tc : Thread Cert.AttnBranchRefIdeal.nD Cert.AttnBranchRefIdeal.τ).loc Cert.AttnBranchRefIdeal.main_arg0)
      ∧ r.2.mem ((c.tc : Thread Cert.AttnBranchRefIdeal.nD Cert.AttnBranchRefIdeal.τ).loc Cert.AttnBranchRefIdeal.main_arg1) = m ((c.tc : Thread Cert.AttnBranchRefIdeal.nD Cert.AttnBranchRefIdeal.τ).loc Cert.AttnBranchRefIdeal.main_arg1))
      ∧ r.2.sem = fun _ => 0)

def quiescent_SsmBranchDx [hSsmBranchDx : Cert.SsmBranchDx.Facts] : Prop :=
  ∀ (m : (ℓ : Loc Cert.SsmBranchDx.nD Cert.SsmBranchDx.τ Cert.SsmBranchDx.sig) → Buf (Elt Bits) ℓ) (g : Dev Cert.SsmBranchDx.nD → PrngReg), Pre_SsmBranchDx m →
    θ_run (Cert.SsmBranchDx.defs (F := Bits)) (onTc (τ := Cert.SsmBranchDx.τ) (Cert.SsmBranchDx.main (F := Bits))) ⟨m, fun _ => 0, g⟩ (fun r => (∀ c : Dev Cert.SsmBranchDx.nD,
      r.2.mem ((c.tc : Thread Cert.SsmBranchDx.nD Cert.SsmBranchDx.τ).loc Cert.SsmBranchDx.main_arg0) = m ((c.tc : Thread Cert.SsmBranchDx.nD Cert.SsmBranchDx.τ).loc Cert.SsmBranchDx.main_arg0)
      ∧ r.2.mem ((c.tc : Thread Cert.SsmBranchDx.nD Cert.SsmBranchDx.τ).loc Cert.SsmBranchDx.main_arg1) = m ((c.tc : Thread Cert.SsmBranchDx.nD Cert.SsmBranchDx.τ).loc Cert.SsmBranchDx.main_arg1))
      ∧ r.2.sem = fun _ => 0)

def quiescent_SsmBranchDxIdeal [hSsmBranchDxIdeal : Cert.SsmBranchDxIdeal.Facts] : Prop :=
  ∀ (m : (ℓ : Loc Cert.SsmBranchDxIdeal.nD Cert.SsmBranchDxIdeal.τ Cert.SsmBranchDxIdeal.sig) → Buf (Elt Ideal) ℓ) (g : Dev Cert.SsmBranchDxIdeal.nD → PrngReg), Pre_SsmBranchDxIdeal m →
    θ_run (Cert.SsmBranchDxIdeal.defs (F := Ideal)) (onTc (τ := Cert.SsmBranchDxIdeal.τ) (Cert.SsmBranchDxIdeal.main (F := Ideal))) ⟨m, fun _ => 0, g⟩ (fun r => (∀ c : Dev Cert.SsmBranchDxIdeal.nD,
      r.2.mem ((c.tc : Thread Cert.SsmBranchDxIdeal.nD Cert.SsmBranchDxIdeal.τ).loc Cert.SsmBranchDxIdeal.main_arg0) = m ((c.tc : Thread Cert.SsmBranchDxIdeal.nD Cert.SsmBranchDxIdeal.τ).loc Cert.SsmBranchDxIdeal.main_arg0)
      ∧ r.2.mem ((c.tc : Thread Cert.SsmBranchDxIdeal.nD Cert.SsmBranchDxIdeal.τ).loc Cert.SsmBranchDxIdeal.main_arg1) = m ((c.tc : Thread Cert.SsmBranchDxIdeal.nD Cert.SsmBranchDxIdeal.τ).loc Cert.SsmBranchDxIdeal.main_arg1))
      ∧ r.2.sem = fun _ => 0)

def quiescent_SsmBranchDxRefIdeal [hSsmBranchDxRefIdeal : Cert.SsmBranchDxRefIdeal.Facts] : Prop :=
  ∀ (m : (ℓ : Loc Cert.SsmBranchDxRefIdeal.nD Cert.SsmBranchDxRefIdeal.τ Cert.SsmBranchDxRefIdeal.sig) → Buf (Elt Ideal) ℓ) (g : Dev Cert.SsmBranchDxRefIdeal.nD → PrngReg), Pre_SsmBranchDxRefIdeal m →
    θ_run (Cert.SsmBranchDxRefIdeal.defs (F := Ideal)) (onTc (τ := Cert.SsmBranchDxRefIdeal.τ) (Cert.SsmBranchDxRefIdeal.main (F := Ideal))) ⟨m, fun _ => 0, g⟩ (fun r => (∀ c : Dev Cert.SsmBranchDxRefIdeal.nD,
      r.2.mem ((c.tc : Thread Cert.SsmBranchDxRefIdeal.nD Cert.SsmBranchDxRefIdeal.τ).loc Cert.SsmBranchDxRefIdeal.main_arg0) = m ((c.tc : Thread Cert.SsmBranchDxRefIdeal.nD Cert.SsmBranchDxRefIdeal.τ).loc Cert.SsmBranchDxRefIdeal.main_arg0)
      ∧ r.2.mem ((c.tc : Thread Cert.SsmBranchDxRefIdeal.nD Cert.SsmBranchDxRefIdeal.τ).loc Cert.SsmBranchDxRefIdeal.main_arg1) = m ((c.tc : Thread Cert.SsmBranchDxRefIdeal.nD Cert.SsmBranchDxRefIdeal.τ).loc Cert.SsmBranchDxRefIdeal.main_arg1))
      ∧ r.2.sem = fun _ => 0)

def quiescent_SsmBranchDw [hSsmBranchDw : Cert.SsmBranchDw.Facts] : Prop :=
  ∀ (m : (ℓ : Loc Cert.SsmBranchDw.nD Cert.SsmBranchDw.τ Cert.SsmBranchDw.sig) → Buf (Elt Bits) ℓ) (g : Dev Cert.SsmBranchDw.nD → PrngReg), Pre_SsmBranchDw m →
    θ_run (Cert.SsmBranchDw.defs (F := Bits)) (onTc (τ := Cert.SsmBranchDw.τ) (Cert.SsmBranchDw.main (F := Bits))) ⟨m, fun _ => 0, g⟩ (fun r => (∀ c : Dev Cert.SsmBranchDw.nD,
      r.2.mem ((c.tc : Thread Cert.SsmBranchDw.nD Cert.SsmBranchDw.τ).loc Cert.SsmBranchDw.main_arg0) = m ((c.tc : Thread Cert.SsmBranchDw.nD Cert.SsmBranchDw.τ).loc Cert.SsmBranchDw.main_arg0)
      ∧ r.2.mem ((c.tc : Thread Cert.SsmBranchDw.nD Cert.SsmBranchDw.τ).loc Cert.SsmBranchDw.main_arg1) = m ((c.tc : Thread Cert.SsmBranchDw.nD Cert.SsmBranchDw.τ).loc Cert.SsmBranchDw.main_arg1))
      ∧ r.2.sem = fun _ => 0)

def quiescent_SsmBranchDwIdeal [hSsmBranchDwIdeal : Cert.SsmBranchDwIdeal.Facts] : Prop :=
  ∀ (m : (ℓ : Loc Cert.SsmBranchDwIdeal.nD Cert.SsmBranchDwIdeal.τ Cert.SsmBranchDwIdeal.sig) → Buf (Elt Ideal) ℓ) (g : Dev Cert.SsmBranchDwIdeal.nD → PrngReg), Pre_SsmBranchDwIdeal m →
    θ_run (Cert.SsmBranchDwIdeal.defs (F := Ideal)) (onTc (τ := Cert.SsmBranchDwIdeal.τ) (Cert.SsmBranchDwIdeal.main (F := Ideal))) ⟨m, fun _ => 0, g⟩ (fun r => (∀ c : Dev Cert.SsmBranchDwIdeal.nD,
      r.2.mem ((c.tc : Thread Cert.SsmBranchDwIdeal.nD Cert.SsmBranchDwIdeal.τ).loc Cert.SsmBranchDwIdeal.main_arg0) = m ((c.tc : Thread Cert.SsmBranchDwIdeal.nD Cert.SsmBranchDwIdeal.τ).loc Cert.SsmBranchDwIdeal.main_arg0)
      ∧ r.2.mem ((c.tc : Thread Cert.SsmBranchDwIdeal.nD Cert.SsmBranchDwIdeal.τ).loc Cert.SsmBranchDwIdeal.main_arg1) = m ((c.tc : Thread Cert.SsmBranchDwIdeal.nD Cert.SsmBranchDwIdeal.τ).loc Cert.SsmBranchDwIdeal.main_arg1))
      ∧ r.2.sem = fun _ => 0)

def quiescent_SsmBranchDwRefIdeal [hSsmBranchDwRefIdeal : Cert.SsmBranchDwRefIdeal.Facts] : Prop :=
  ∀ (m : (ℓ : Loc Cert.SsmBranchDwRefIdeal.nD Cert.SsmBranchDwRefIdeal.τ Cert.SsmBranchDwRefIdeal.sig) → Buf (Elt Ideal) ℓ) (g : Dev Cert.SsmBranchDwRefIdeal.nD → PrngReg), Pre_SsmBranchDwRefIdeal m →
    θ_run (Cert.SsmBranchDwRefIdeal.defs (F := Ideal)) (onTc (τ := Cert.SsmBranchDwRefIdeal.τ) (Cert.SsmBranchDwRefIdeal.main (F := Ideal))) ⟨m, fun _ => 0, g⟩ (fun r => (∀ c : Dev Cert.SsmBranchDwRefIdeal.nD,
      r.2.mem ((c.tc : Thread Cert.SsmBranchDwRefIdeal.nD Cert.SsmBranchDwRefIdeal.τ).loc Cert.SsmBranchDwRefIdeal.main_arg0) = m ((c.tc : Thread Cert.SsmBranchDwRefIdeal.nD Cert.SsmBranchDwRefIdeal.τ).loc Cert.SsmBranchDwRefIdeal.main_arg0)
      ∧ r.2.mem ((c.tc : Thread Cert.SsmBranchDwRefIdeal.nD Cert.SsmBranchDwRefIdeal.τ).loc Cert.SsmBranchDwRefIdeal.main_arg1) = m ((c.tc : Thread Cert.SsmBranchDwRefIdeal.nD Cert.SsmBranchDwRefIdeal.τ).loc Cert.SsmBranchDwRefIdeal.main_arg1))
      ∧ r.2.sem = fun _ => 0)

def quiescent_SsmBranch [hSsmBranch : Cert.SsmBranch.Facts] : Prop :=
  ∀ (m : (ℓ : Loc Cert.SsmBranch.nD Cert.SsmBranch.τ Cert.SsmBranch.sig) → Buf (Elt Bits) ℓ) (g : Dev Cert.SsmBranch.nD → PrngReg), Pre_SsmBranch m →
    θ_run (Cert.SsmBranch.defs (F := Bits)) (onTc (τ := Cert.SsmBranch.τ) (Cert.SsmBranch.main (F := Bits))) ⟨m, fun _ => 0, g⟩ (fun r => (∀ c : Dev Cert.SsmBranch.nD,
      r.2.mem ((c.tc : Thread Cert.SsmBranch.nD Cert.SsmBranch.τ).loc Cert.SsmBranch.main_arg0) = m ((c.tc : Thread Cert.SsmBranch.nD Cert.SsmBranch.τ).loc Cert.SsmBranch.main_arg0)
      ∧ r.2.mem ((c.tc : Thread Cert.SsmBranch.nD Cert.SsmBranch.τ).loc Cert.SsmBranch.main_arg1) = m ((c.tc : Thread Cert.SsmBranch.nD Cert.SsmBranch.τ).loc Cert.SsmBranch.main_arg1))
      ∧ r.2.sem = fun _ => 0)

def quiescent_SsmBranchIdeal [hSsmBranchIdeal : Cert.SsmBranchIdeal.Facts] : Prop :=
  ∀ (m : (ℓ : Loc Cert.SsmBranchIdeal.nD Cert.SsmBranchIdeal.τ Cert.SsmBranchIdeal.sig) → Buf (Elt Ideal) ℓ) (g : Dev Cert.SsmBranchIdeal.nD → PrngReg), Pre_SsmBranchIdeal m →
    θ_run (Cert.SsmBranchIdeal.defs (F := Ideal)) (onTc (τ := Cert.SsmBranchIdeal.τ) (Cert.SsmBranchIdeal.main (F := Ideal))) ⟨m, fun _ => 0, g⟩ (fun r => (∀ c : Dev Cert.SsmBranchIdeal.nD,
      r.2.mem ((c.tc : Thread Cert.SsmBranchIdeal.nD Cert.SsmBranchIdeal.τ).loc Cert.SsmBranchIdeal.main_arg0) = m ((c.tc : Thread Cert.SsmBranchIdeal.nD Cert.SsmBranchIdeal.τ).loc Cert.SsmBranchIdeal.main_arg0)
      ∧ r.2.mem ((c.tc : Thread Cert.SsmBranchIdeal.nD Cert.SsmBranchIdeal.τ).loc Cert.SsmBranchIdeal.main_arg1) = m ((c.tc : Thread Cert.SsmBranchIdeal.nD Cert.SsmBranchIdeal.τ).loc Cert.SsmBranchIdeal.main_arg1))
      ∧ r.2.sem = fun _ => 0)

def quiescent_SsmBranchRefIdeal [hSsmBranchRefIdeal : Cert.SsmBranchRefIdeal.Facts] : Prop :=
  ∀ (m : (ℓ : Loc Cert.SsmBranchRefIdeal.nD Cert.SsmBranchRefIdeal.τ Cert.SsmBranchRefIdeal.sig) → Buf (Elt Ideal) ℓ) (g : Dev Cert.SsmBranchRefIdeal.nD → PrngReg), Pre_SsmBranchRefIdeal m →
    θ_run (Cert.SsmBranchRefIdeal.defs (F := Ideal)) (onTc (τ := Cert.SsmBranchRefIdeal.τ) (Cert.SsmBranchRefIdeal.main (F := Ideal))) ⟨m, fun _ => 0, g⟩ (fun r => (∀ c : Dev Cert.SsmBranchRefIdeal.nD,
      r.2.mem ((c.tc : Thread Cert.SsmBranchRefIdeal.nD Cert.SsmBranchRefIdeal.τ).loc Cert.SsmBranchRefIdeal.main_arg0) = m ((c.tc : Thread Cert.SsmBranchRefIdeal.nD Cert.SsmBranchRefIdeal.τ).loc Cert.SsmBranchRefIdeal.main_arg0)
      ∧ r.2.mem ((c.tc : Thread Cert.SsmBranchRefIdeal.nD Cert.SsmBranchRefIdeal.τ).loc Cert.SsmBranchRefIdeal.main_arg1) = m ((c.tc : Thread Cert.SsmBranchRefIdeal.nD Cert.SsmBranchRefIdeal.τ).loc Cert.SsmBranchRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwd4 [hAttnFwd4 : Cert.AttnFwd4.Facts] : Prop :=
  ∀ (m : (ℓ : Loc Cert.AttnFwd4.nD Cert.AttnFwd4.τ Cert.AttnFwd4.sig) → Buf (Elt Bits) ℓ) (g : Dev Cert.AttnFwd4.nD → PrngReg), Pre_AttnFwd4 m →
    θ_run (Cert.AttnFwd4.defs (F := Bits)) (onTc (τ := Cert.AttnFwd4.τ) (Cert.AttnFwd4.main (F := Bits))) ⟨m, fun _ => 0, g⟩ (fun r => (∀ c : Dev Cert.AttnFwd4.nD,
      r.2.mem ((c.tc : Thread Cert.AttnFwd4.nD Cert.AttnFwd4.τ).loc Cert.AttnFwd4.main_arg0) = m ((c.tc : Thread Cert.AttnFwd4.nD Cert.AttnFwd4.τ).loc Cert.AttnFwd4.main_arg0)
      ∧ r.2.mem ((c.tc : Thread Cert.AttnFwd4.nD Cert.AttnFwd4.τ).loc Cert.AttnFwd4.main_arg1) = m ((c.tc : Thread Cert.AttnFwd4.nD Cert.AttnFwd4.τ).loc Cert.AttnFwd4.main_arg1))
      ∧ r.2.sem = fun _ => 0)

def quiescent_AttnFwd4Ideal [hAttnFwd4Ideal : Cert.AttnFwd4Ideal.Facts] : Prop :=
  ∀ (m : (ℓ : Loc Cert.AttnFwd4Ideal.nD Cert.AttnFwd4Ideal.τ Cert.AttnFwd4Ideal.sig) → Buf (Elt Ideal) ℓ) (g : Dev Cert.AttnFwd4Ideal.nD → PrngReg), Pre_AttnFwd4Ideal m →
    θ_run (Cert.AttnFwd4Ideal.defs (F := Ideal)) (onTc (τ := Cert.AttnFwd4Ideal.τ) (Cert.AttnFwd4Ideal.main (F := Ideal))) ⟨m, fun _ => 0, g⟩ (fun r => (∀ c : Dev Cert.AttnFwd4Ideal.nD,
      r.2.mem ((c.tc : Thread Cert.AttnFwd4Ideal.nD Cert.AttnFwd4Ideal.τ).loc Cert.AttnFwd4Ideal.main_arg0) = m ((c.tc : Thread Cert.AttnFwd4Ideal.nD Cert.AttnFwd4Ideal.τ).loc Cert.AttnFwd4Ideal.main_arg0)
      ∧ r.2.mem ((c.tc : Thread Cert.AttnFwd4Ideal.nD Cert.AttnFwd4Ideal.τ).loc Cert.AttnFwd4Ideal.main_arg1) = m ((c.tc : Thread Cert.AttnFwd4Ideal.nD Cert.AttnFwd4Ideal.τ).loc Cert.AttnFwd4Ideal.main_arg1))
      ∧ r.2.sem = fun _ => 0)

def quiescent_AttnFwd4RefIdeal [hAttnFwd4RefIdeal : Cert.AttnFwd4RefIdeal.Facts] : Prop :=
  ∀ (m : (ℓ : Loc Cert.AttnFwd4RefIdeal.nD Cert.AttnFwd4RefIdeal.τ Cert.AttnFwd4RefIdeal.sig) → Buf (Elt Ideal) ℓ) (g : Dev Cert.AttnFwd4RefIdeal.nD → PrngReg), Pre_AttnFwd4RefIdeal m →
    θ_run (Cert.AttnFwd4RefIdeal.defs (F := Ideal)) (onTc (τ := Cert.AttnFwd4RefIdeal.τ) (Cert.AttnFwd4RefIdeal.main (F := Ideal))) ⟨m, fun _ => 0, g⟩ (fun r => (∀ c : Dev Cert.AttnFwd4RefIdeal.nD,
      r.2.mem ((c.tc : Thread Cert.AttnFwd4RefIdeal.nD Cert.AttnFwd4RefIdeal.τ).loc Cert.AttnFwd4RefIdeal.main_arg0) = m ((c.tc : Thread Cert.AttnFwd4RefIdeal.nD Cert.AttnFwd4RefIdeal.τ).loc Cert.AttnFwd4RefIdeal.main_arg0)
      ∧ r.2.mem ((c.tc : Thread Cert.AttnFwd4RefIdeal.nD Cert.AttnFwd4RefIdeal.τ).loc Cert.AttnFwd4RefIdeal.main_arg1) = m ((c.tc : Thread Cert.AttnFwd4RefIdeal.nD Cert.AttnFwd4RefIdeal.τ).loc Cert.AttnFwd4RefIdeal.main_arg1))
      ∧ r.2.sem = fun _ => 0)

def quiescent_AttnFwd16 [hAttnFwd16 : Cert.AttnFwd16.Facts] : Prop :=
  ∀ (m : (ℓ : Loc Cert.AttnFwd16.nD Cert.AttnFwd16.τ Cert.AttnFwd16.sig) → Buf (Elt Bits) ℓ) (g : Dev Cert.AttnFwd16.nD → PrngReg), Pre_AttnFwd16 m →
    θ_run (Cert.AttnFwd16.defs (F := Bits)) (onTc (τ := Cert.AttnFwd16.τ) (Cert.AttnFwd16.main (F := Bits))) ⟨m, fun _ => 0, g⟩ (fun r => (∀ c : Dev Cert.AttnFwd16.nD,
      r.2.mem ((c.tc : Thread Cert.AttnFwd16.nD Cert.AttnFwd16.τ).loc Cert.AttnFwd16.main_arg0) = m ((c.tc : Thread Cert.AttnFwd16.nD Cert.AttnFwd16.τ).loc Cert.AttnFwd16.main_arg0)
      ∧ r.2.mem ((c.tc : Thread Cert.AttnFwd16.nD Cert.AttnFwd16.τ).loc Cert.AttnFwd16.main_arg1) = m ((c.tc : Thread Cert.AttnFwd16.nD Cert.AttnFwd16.τ).loc Cert.AttnFwd16.main_arg1))
      ∧ r.2.sem = fun _ => 0)

def quiescent_AttnFwd16Ideal [hAttnFwd16Ideal : Cert.AttnFwd16Ideal.Facts] : Prop :=
  ∀ (m : (ℓ : Loc Cert.AttnFwd16Ideal.nD Cert.AttnFwd16Ideal.τ Cert.AttnFwd16Ideal.sig) → Buf (Elt Ideal) ℓ) (g : Dev Cert.AttnFwd16Ideal.nD → PrngReg), Pre_AttnFwd16Ideal m →
    θ_run (Cert.AttnFwd16Ideal.defs (F := Ideal)) (onTc (τ := Cert.AttnFwd16Ideal.τ) (Cert.AttnFwd16Ideal.main (F := Ideal))) ⟨m, fun _ => 0, g⟩ (fun r => (∀ c : Dev Cert.AttnFwd16Ideal.nD,
      r.2.mem ((c.tc : Thread Cert.AttnFwd16Ideal.nD Cert.AttnFwd16Ideal.τ).loc Cert.AttnFwd16Ideal.main_arg0) = m ((c.tc : Thread Cert.AttnFwd16Ideal.nD Cert.AttnFwd16Ideal.τ).loc Cert.AttnFwd16Ideal.main_arg0)
      ∧ r.2.mem ((c.tc : Thread Cert.AttnFwd16Ideal.nD Cert.AttnFwd16Ideal.τ).loc Cert.AttnFwd16Ideal.main_arg1) = m ((c.tc : Thread Cert.AttnFwd16Ideal.nD Cert.AttnFwd16Ideal.τ).loc Cert.AttnFwd16Ideal.main_arg1))
      ∧ r.2.sem = fun _ => 0)

def quiescent_AttnFwd16RefIdeal [hAttnFwd16RefIdeal : Cert.AttnFwd16RefIdeal.Facts] : Prop :=
  ∀ (m : (ℓ : Loc Cert.AttnFwd16RefIdeal.nD Cert.AttnFwd16RefIdeal.τ Cert.AttnFwd16RefIdeal.sig) → Buf (Elt Ideal) ℓ) (g : Dev Cert.AttnFwd16RefIdeal.nD → PrngReg), Pre_AttnFwd16RefIdeal m →
    θ_run (Cert.AttnFwd16RefIdeal.defs (F := Ideal)) (onTc (τ := Cert.AttnFwd16RefIdeal.τ) (Cert.AttnFwd16RefIdeal.main (F := Ideal))) ⟨m, fun _ => 0, g⟩ (fun r => (∀ c : Dev Cert.AttnFwd16RefIdeal.nD,
      r.2.mem ((c.tc : Thread Cert.AttnFwd16RefIdeal.nD Cert.AttnFwd16RefIdeal.τ).loc Cert.AttnFwd16RefIdeal.main_arg0) = m ((c.tc : Thread Cert.AttnFwd16RefIdeal.nD Cert.AttnFwd16RefIdeal.τ).loc Cert.AttnFwd16RefIdeal.main_arg0)
      ∧ r.2.mem ((c.tc : Thread Cert.AttnFwd16RefIdeal.nD Cert.AttnFwd16RefIdeal.τ).loc Cert.AttnFwd16RefIdeal.main_arg1) = m ((c.tc : Thread Cert.AttnFwd16RefIdeal.nD Cert.AttnFwd16RefIdeal.τ).loc Cert.AttnFwd16RefIdeal.main_arg1))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5)
      ∧ r.2.mem ((c.tc : Thread Cert.Norm1.nD Cert.Norm1.τ).loc Cert.Norm1.main_arg6) = m ((c.tc : Thread Cert.Norm1.nD Cert.Norm1.τ).loc Cert.Norm1.main_arg6))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
      ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5)
      ∧ r.2.mem ((c.tc : Thread Cert.Norm1RefIdeal.nD Cert.Norm1RefIdeal.τ).loc Cert.Norm1RefIdeal.main_arg6) = m ((c.tc : Thread Cert.Norm1RefIdeal.nD Cert.Norm1RefIdeal.τ).loc Cert.Norm1RefIdeal.main_arg6))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdIdeal_pre_swiglu_finite [hSwigluBwdIdeal : Cert.SwigluBwdIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_SwigluBwdRefIdeal_pre_swiglu_finite [hSwigluBwdRefIdeal : Cert.SwigluBwdRefIdeal.Facts] [hPre_swiglu_finite : Cert.Pre_swiglu_finite.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_swiglu_finite m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_GateNormBwd [hGateNormBwd : Cert.GateNormBwd.Facts] : Prop :=
  ∀ (m : (ℓ : Loc Cert.GateNormBwd.nD Cert.GateNormBwd.τ Cert.GateNormBwd.sig) → Buf (Elt Bits) ℓ) (g : Dev Cert.GateNormBwd.nD → PrngReg), Pre_GateNormBwd m →
    θ_run (Cert.GateNormBwd.defs (F := Bits)) (onTc (τ := Cert.GateNormBwd.τ) (Cert.GateNormBwd.main (F := Bits))) ⟨m, fun _ => 0, g⟩ (fun r => (∀ c : Dev Cert.GateNormBwd.nD,
      r.2.mem ((c.tc : Thread Cert.GateNormBwd.nD Cert.GateNormBwd.τ).loc Cert.GateNormBwd.main_arg0) = m ((c.tc : Thread Cert.GateNormBwd.nD Cert.GateNormBwd.τ).loc Cert.GateNormBwd.main_arg0)
      ∧ r.2.mem ((c.tc : Thread Cert.GateNormBwd.nD Cert.GateNormBwd.τ).loc Cert.GateNormBwd.main_arg1) = m ((c.tc : Thread Cert.GateNormBwd.nD Cert.GateNormBwd.τ).loc Cert.GateNormBwd.main_arg1)
      ∧ r.2.mem ((c.tc : Thread Cert.GateNormBwd.nD Cert.GateNormBwd.τ).loc Cert.GateNormBwd.main_arg2) = m ((c.tc : Thread Cert.GateNormBwd.nD Cert.GateNormBwd.τ).loc Cert.GateNormBwd.main_arg2)
      ∧ r.2.mem ((c.tc : Thread Cert.GateNormBwd.nD Cert.GateNormBwd.τ).loc Cert.GateNormBwd.main_arg3) = m ((c.tc : Thread Cert.GateNormBwd.nD Cert.GateNormBwd.τ).loc Cert.GateNormBwd.main_arg3))
      ∧ r.2.sem = fun _ => 0)

def quiescent_GateNormBwdIdeal [hGateNormBwdIdeal : Cert.GateNormBwdIdeal.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ r.2.sem = fun _ => 0)

def quiescent_GateNormBwdIdeal_pre_gate_norm_finite [hGateNormBwdIdeal : Cert.GateNormBwdIdeal.Facts] [hPre_gate_norm_finite : Cert.Pre_gate_norm_finite.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal_gate_norm_finite m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ r.2.sem = fun _ => 0)

def quiescent_GateNormBwdRefIdeal [hGateNormBwdRefIdeal : Cert.GateNormBwdRefIdeal.Facts] : Prop :=
  ∀ (m : (ℓ : Loc Cert.GateNormBwdRefIdeal.nD Cert.GateNormBwdRefIdeal.τ Cert.GateNormBwdRefIdeal.sig) → Buf (Elt Ideal) ℓ) (g : Dev Cert.GateNormBwdRefIdeal.nD → PrngReg), Pre_GateNormBwdRefIdeal m →
    θ_run (Cert.GateNormBwdRefIdeal.defs (F := Ideal)) (onTc (τ := Cert.GateNormBwdRefIdeal.τ) (Cert.GateNormBwdRefIdeal.main (F := Ideal))) ⟨m, fun _ => 0, g⟩ (fun r => (∀ c : Dev Cert.GateNormBwdRefIdeal.nD,
      r.2.mem ((c.tc : Thread Cert.GateNormBwdRefIdeal.nD Cert.GateNormBwdRefIdeal.τ).loc Cert.GateNormBwdRefIdeal.main_arg0) = m ((c.tc : Thread Cert.GateNormBwdRefIdeal.nD Cert.GateNormBwdRefIdeal.τ).loc Cert.GateNormBwdRefIdeal.main_arg0)
      ∧ r.2.mem ((c.tc : Thread Cert.GateNormBwdRefIdeal.nD Cert.GateNormBwdRefIdeal.τ).loc Cert.GateNormBwdRefIdeal.main_arg1) = m ((c.tc : Thread Cert.GateNormBwdRefIdeal.nD Cert.GateNormBwdRefIdeal.τ).loc Cert.GateNormBwdRefIdeal.main_arg1)
      ∧ r.2.mem ((c.tc : Thread Cert.GateNormBwdRefIdeal.nD Cert.GateNormBwdRefIdeal.τ).loc Cert.GateNormBwdRefIdeal.main_arg2) = m ((c.tc : Thread Cert.GateNormBwdRefIdeal.nD Cert.GateNormBwdRefIdeal.τ).loc Cert.GateNormBwdRefIdeal.main_arg2)
      ∧ r.2.mem ((c.tc : Thread Cert.GateNormBwdRefIdeal.nD Cert.GateNormBwdRefIdeal.τ).loc Cert.GateNormBwdRefIdeal.main_arg3) = m ((c.tc : Thread Cert.GateNormBwdRefIdeal.nD Cert.GateNormBwdRefIdeal.τ).loc Cert.GateNormBwdRefIdeal.main_arg3))
      ∧ r.2.sem = fun _ => 0)

def quiescent_GateNormBwdRefIdeal_pre_gate_norm_finite [hGateNormBwdRefIdeal : Cert.GateNormBwdRefIdeal.Facts] [hPre_gate_norm_finite : Cert.Pre_gate_norm_finite.Facts] : Prop :=
  ∀ (m : (ℓ : Loc Cert.GateNormBwdRefIdeal.nD Cert.GateNormBwdRefIdeal.τ Cert.GateNormBwdRefIdeal.sig) → Buf (Elt Ideal) ℓ) (g : Dev Cert.GateNormBwdRefIdeal.nD → PrngReg), Pre_GateNormBwdRefIdeal_gate_norm_finite m →
    θ_run (Cert.GateNormBwdRefIdeal.defs (F := Ideal)) (onTc (τ := Cert.GateNormBwdRefIdeal.τ) (Cert.GateNormBwdRefIdeal.main (F := Ideal))) ⟨m, fun _ => 0, g⟩ (fun r => (∀ c : Dev Cert.GateNormBwdRefIdeal.nD,
      r.2.mem ((c.tc : Thread Cert.GateNormBwdRefIdeal.nD Cert.GateNormBwdRefIdeal.τ).loc Cert.GateNormBwdRefIdeal.main_arg0) = m ((c.tc : Thread Cert.GateNormBwdRefIdeal.nD Cert.GateNormBwdRefIdeal.τ).loc Cert.GateNormBwdRefIdeal.main_arg0)
      ∧ r.2.mem ((c.tc : Thread Cert.GateNormBwdRefIdeal.nD Cert.GateNormBwdRefIdeal.τ).loc Cert.GateNormBwdRefIdeal.main_arg1) = m ((c.tc : Thread Cert.GateNormBwdRefIdeal.nD Cert.GateNormBwdRefIdeal.τ).loc Cert.GateNormBwdRefIdeal.main_arg1)
      ∧ r.2.mem ((c.tc : Thread Cert.GateNormBwdRefIdeal.nD Cert.GateNormBwdRefIdeal.τ).loc Cert.GateNormBwdRefIdeal.main_arg2) = m ((c.tc : Thread Cert.GateNormBwdRefIdeal.nD Cert.GateNormBwdRefIdeal.τ).loc Cert.GateNormBwdRefIdeal.main_arg2)
      ∧ r.2.mem ((c.tc : Thread Cert.GateNormBwdRefIdeal.nD Cert.GateNormBwdRefIdeal.τ).loc Cert.GateNormBwdRefIdeal.main_arg3) = m ((c.tc : Thread Cert.GateNormBwdRefIdeal.nD Cert.GateNormBwdRefIdeal.τ).loc Cert.GateNormBwdRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_CombineBwd [hCombineBwd : Cert.CombineBwd.Facts] : Prop :=
  ∀ (m : (ℓ : Loc Cert.CombineBwd.nD Cert.CombineBwd.τ Cert.CombineBwd.sig) → Buf (Elt Bits) ℓ) (g : Dev Cert.CombineBwd.nD → PrngReg), Pre_CombineBwd m →
    θ_run (Cert.CombineBwd.defs (F := Bits)) (onTc (τ := Cert.CombineBwd.τ) (Cert.CombineBwd.main (F := Bits))) ⟨m, fun _ => 0, g⟩ (fun r => (∀ c : Dev Cert.CombineBwd.nD,
      r.2.mem ((c.tc : Thread Cert.CombineBwd.nD Cert.CombineBwd.τ).loc Cert.CombineBwd.main_arg0) = m ((c.tc : Thread Cert.CombineBwd.nD Cert.CombineBwd.τ).loc Cert.CombineBwd.main_arg0)
      ∧ r.2.mem ((c.tc : Thread Cert.CombineBwd.nD Cert.CombineBwd.τ).loc Cert.CombineBwd.main_arg1) = m ((c.tc : Thread Cert.CombineBwd.nD Cert.CombineBwd.τ).loc Cert.CombineBwd.main_arg1)
      ∧ r.2.mem ((c.tc : Thread Cert.CombineBwd.nD Cert.CombineBwd.τ).loc Cert.CombineBwd.main_arg2) = m ((c.tc : Thread Cert.CombineBwd.nD Cert.CombineBwd.τ).loc Cert.CombineBwd.main_arg2)
      ∧ r.2.mem ((c.tc : Thread Cert.CombineBwd.nD Cert.CombineBwd.τ).loc Cert.CombineBwd.main_arg3) = m ((c.tc : Thread Cert.CombineBwd.nD Cert.CombineBwd.τ).loc Cert.CombineBwd.main_arg3)
      ∧ r.2.mem ((c.tc : Thread Cert.CombineBwd.nD Cert.CombineBwd.τ).loc Cert.CombineBwd.main_arg4) = m ((c.tc : Thread Cert.CombineBwd.nD Cert.CombineBwd.τ).loc Cert.CombineBwd.main_arg4)
      ∧ r.2.mem ((c.tc : Thread Cert.CombineBwd.nD Cert.CombineBwd.τ).loc Cert.CombineBwd.main_arg5) = m ((c.tc : Thread Cert.CombineBwd.nD Cert.CombineBwd.τ).loc Cert.CombineBwd.main_arg5)
      ∧ r.2.mem ((c.tc : Thread Cert.CombineBwd.nD Cert.CombineBwd.τ).loc Cert.CombineBwd.main_arg6) = m ((c.tc : Thread Cert.CombineBwd.nD Cert.CombineBwd.τ).loc Cert.CombineBwd.main_arg6))
      ∧ r.2.sem = fun _ => 0)

def quiescent_CombineBwdIdeal [hCombineBwdIdeal : Cert.CombineBwdIdeal.Facts] : Prop :=
  ∀ (m : (ℓ : Loc Cert.CombineBwdIdeal.nD Cert.CombineBwdIdeal.τ Cert.CombineBwdIdeal.sig) → Buf (Elt Ideal) ℓ) (g : Dev Cert.CombineBwdIdeal.nD → PrngReg), Pre_CombineBwdIdeal m →
    θ_run (Cert.CombineBwdIdeal.defs (F := Ideal)) (onTc (τ := Cert.CombineBwdIdeal.τ) (Cert.CombineBwdIdeal.main (F := Ideal))) ⟨m, fun _ => 0, g⟩ (fun r => (∀ c : Dev Cert.CombineBwdIdeal.nD,
      r.2.mem ((c.tc : Thread Cert.CombineBwdIdeal.nD Cert.CombineBwdIdeal.τ).loc Cert.CombineBwdIdeal.main_arg0) = m ((c.tc : Thread Cert.CombineBwdIdeal.nD Cert.CombineBwdIdeal.τ).loc Cert.CombineBwdIdeal.main_arg0)
      ∧ r.2.mem ((c.tc : Thread Cert.CombineBwdIdeal.nD Cert.CombineBwdIdeal.τ).loc Cert.CombineBwdIdeal.main_arg1) = m ((c.tc : Thread Cert.CombineBwdIdeal.nD Cert.CombineBwdIdeal.τ).loc Cert.CombineBwdIdeal.main_arg1)
      ∧ r.2.mem ((c.tc : Thread Cert.CombineBwdIdeal.nD Cert.CombineBwdIdeal.τ).loc Cert.CombineBwdIdeal.main_arg2) = m ((c.tc : Thread Cert.CombineBwdIdeal.nD Cert.CombineBwdIdeal.τ).loc Cert.CombineBwdIdeal.main_arg2)
      ∧ r.2.mem ((c.tc : Thread Cert.CombineBwdIdeal.nD Cert.CombineBwdIdeal.τ).loc Cert.CombineBwdIdeal.main_arg3) = m ((c.tc : Thread Cert.CombineBwdIdeal.nD Cert.CombineBwdIdeal.τ).loc Cert.CombineBwdIdeal.main_arg3)
      ∧ r.2.mem ((c.tc : Thread Cert.CombineBwdIdeal.nD Cert.CombineBwdIdeal.τ).loc Cert.CombineBwdIdeal.main_arg4) = m ((c.tc : Thread Cert.CombineBwdIdeal.nD Cert.CombineBwdIdeal.τ).loc Cert.CombineBwdIdeal.main_arg4)
      ∧ r.2.mem ((c.tc : Thread Cert.CombineBwdIdeal.nD Cert.CombineBwdIdeal.τ).loc Cert.CombineBwdIdeal.main_arg5) = m ((c.tc : Thread Cert.CombineBwdIdeal.nD Cert.CombineBwdIdeal.τ).loc Cert.CombineBwdIdeal.main_arg5)
      ∧ r.2.mem ((c.tc : Thread Cert.CombineBwdIdeal.nD Cert.CombineBwdIdeal.τ).loc Cert.CombineBwdIdeal.main_arg6) = m ((c.tc : Thread Cert.CombineBwdIdeal.nD Cert.CombineBwdIdeal.τ).loc Cert.CombineBwdIdeal.main_arg6))
      ∧ r.2.sem = fun _ => 0)

def quiescent_CombineBwdIdeal_pre_combine_finite [hCombineBwdIdeal : Cert.CombineBwdIdeal.Facts] [hPre_combine_finite : Cert.Pre_combine_finite.Facts] : Prop :=
  ∀ (m : (ℓ : Loc Cert.CombineBwdIdeal.nD Cert.CombineBwdIdeal.τ Cert.CombineBwdIdeal.sig) → Buf (Elt Ideal) ℓ) (g : Dev Cert.CombineBwdIdeal.nD → PrngReg), Pre_CombineBwdIdeal_combine_finite m →
    θ_run (Cert.CombineBwdIdeal.defs (F := Ideal)) (onTc (τ := Cert.CombineBwdIdeal.τ) (Cert.CombineBwdIdeal.main (F := Ideal))) ⟨m, fun _ => 0, g⟩ (fun r => (∀ c : Dev Cert.CombineBwdIdeal.nD,
      r.2.mem ((c.tc : Thread Cert.CombineBwdIdeal.nD Cert.CombineBwdIdeal.τ).loc Cert.CombineBwdIdeal.main_arg0) = m ((c.tc : Thread Cert.CombineBwdIdeal.nD Cert.CombineBwdIdeal.τ).loc Cert.CombineBwdIdeal.main_arg0)
      ∧ r.2.mem ((c.tc : Thread Cert.CombineBwdIdeal.nD Cert.CombineBwdIdeal.τ).loc Cert.CombineBwdIdeal.main_arg1) = m ((c.tc : Thread Cert.CombineBwdIdeal.nD Cert.CombineBwdIdeal.τ).loc Cert.CombineBwdIdeal.main_arg1)
      ∧ r.2.mem ((c.tc : Thread Cert.CombineBwdIdeal.nD Cert.CombineBwdIdeal.τ).loc Cert.CombineBwdIdeal.main_arg2) = m ((c.tc : Thread Cert.CombineBwdIdeal.nD Cert.CombineBwdIdeal.τ).loc Cert.CombineBwdIdeal.main_arg2)
      ∧ r.2.mem ((c.tc : Thread Cert.CombineBwdIdeal.nD Cert.CombineBwdIdeal.τ).loc Cert.CombineBwdIdeal.main_arg3) = m ((c.tc : Thread Cert.CombineBwdIdeal.nD Cert.CombineBwdIdeal.τ).loc Cert.CombineBwdIdeal.main_arg3)
      ∧ r.2.mem ((c.tc : Thread Cert.CombineBwdIdeal.nD Cert.CombineBwdIdeal.τ).loc Cert.CombineBwdIdeal.main_arg4) = m ((c.tc : Thread Cert.CombineBwdIdeal.nD Cert.CombineBwdIdeal.τ).loc Cert.CombineBwdIdeal.main_arg4)
      ∧ r.2.mem ((c.tc : Thread Cert.CombineBwdIdeal.nD Cert.CombineBwdIdeal.τ).loc Cert.CombineBwdIdeal.main_arg5) = m ((c.tc : Thread Cert.CombineBwdIdeal.nD Cert.CombineBwdIdeal.τ).loc Cert.CombineBwdIdeal.main_arg5)
      ∧ r.2.mem ((c.tc : Thread Cert.CombineBwdIdeal.nD Cert.CombineBwdIdeal.τ).loc Cert.CombineBwdIdeal.main_arg6) = m ((c.tc : Thread Cert.CombineBwdIdeal.nD Cert.CombineBwdIdeal.τ).loc Cert.CombineBwdIdeal.main_arg6))
      ∧ r.2.sem = fun _ => 0)

def quiescent_CombineBwdRefIdeal [hCombineBwdRefIdeal : Cert.CombineBwdRefIdeal.Facts] : Prop :=
  ∀ (m : (ℓ : Loc Cert.CombineBwdRefIdeal.nD Cert.CombineBwdRefIdeal.τ Cert.CombineBwdRefIdeal.sig) → Buf (Elt Ideal) ℓ) (g : Dev Cert.CombineBwdRefIdeal.nD → PrngReg), Pre_CombineBwdRefIdeal m →
    θ_run (Cert.CombineBwdRefIdeal.defs (F := Ideal)) (onTc (τ := Cert.CombineBwdRefIdeal.τ) (Cert.CombineBwdRefIdeal.main (F := Ideal))) ⟨m, fun _ => 0, g⟩ (fun r => (∀ c : Dev Cert.CombineBwdRefIdeal.nD,
      r.2.mem ((c.tc : Thread Cert.CombineBwdRefIdeal.nD Cert.CombineBwdRefIdeal.τ).loc Cert.CombineBwdRefIdeal.main_arg0) = m ((c.tc : Thread Cert.CombineBwdRefIdeal.nD Cert.CombineBwdRefIdeal.τ).loc Cert.CombineBwdRefIdeal.main_arg0)
      ∧ r.2.mem ((c.tc : Thread Cert.CombineBwdRefIdeal.nD Cert.CombineBwdRefIdeal.τ).loc Cert.CombineBwdRefIdeal.main_arg1) = m ((c.tc : Thread Cert.CombineBwdRefIdeal.nD Cert.CombineBwdRefIdeal.τ).loc Cert.CombineBwdRefIdeal.main_arg1)
      ∧ r.2.mem ((c.tc : Thread Cert.CombineBwdRefIdeal.nD Cert.CombineBwdRefIdeal.τ).loc Cert.CombineBwdRefIdeal.main_arg2) = m ((c.tc : Thread Cert.CombineBwdRefIdeal.nD Cert.CombineBwdRefIdeal.τ).loc Cert.CombineBwdRefIdeal.main_arg2)
      ∧ r.2.mem ((c.tc : Thread Cert.CombineBwdRefIdeal.nD Cert.CombineBwdRefIdeal.τ).loc Cert.CombineBwdRefIdeal.main_arg3) = m ((c.tc : Thread Cert.CombineBwdRefIdeal.nD Cert.CombineBwdRefIdeal.τ).loc Cert.CombineBwdRefIdeal.main_arg3)
      ∧ r.2.mem ((c.tc : Thread Cert.CombineBwdRefIdeal.nD Cert.CombineBwdRefIdeal.τ).loc Cert.CombineBwdRefIdeal.main_arg4) = m ((c.tc : Thread Cert.CombineBwdRefIdeal.nD Cert.CombineBwdRefIdeal.τ).loc Cert.CombineBwdRefIdeal.main_arg4)
      ∧ r.2.mem ((c.tc : Thread Cert.CombineBwdRefIdeal.nD Cert.CombineBwdRefIdeal.τ).loc Cert.CombineBwdRefIdeal.main_arg5) = m ((c.tc : Thread Cert.CombineBwdRefIdeal.nD Cert.CombineBwdRefIdeal.τ).loc Cert.CombineBwdRefIdeal.main_arg5)
      ∧ r.2.mem ((c.tc : Thread Cert.CombineBwdRefIdeal.nD Cert.CombineBwdRefIdeal.τ).loc Cert.CombineBwdRefIdeal.main_arg6) = m ((c.tc : Thread Cert.CombineBwdRefIdeal.nD Cert.CombineBwdRefIdeal.τ).loc Cert.CombineBwdRefIdeal.main_arg6))
      ∧ r.2.sem = fun _ => 0)

def quiescent_CombineBwdRefIdeal_pre_combine_finite [hCombineBwdRefIdeal : Cert.CombineBwdRefIdeal.Facts] [hPre_combine_finite : Cert.Pre_combine_finite.Facts] : Prop :=
  ∀ (m : (ℓ : Loc Cert.CombineBwdRefIdeal.nD Cert.CombineBwdRefIdeal.τ Cert.CombineBwdRefIdeal.sig) → Buf (Elt Ideal) ℓ) (g : Dev Cert.CombineBwdRefIdeal.nD → PrngReg), Pre_CombineBwdRefIdeal_combine_finite m →
    θ_run (Cert.CombineBwdRefIdeal.defs (F := Ideal)) (onTc (τ := Cert.CombineBwdRefIdeal.τ) (Cert.CombineBwdRefIdeal.main (F := Ideal))) ⟨m, fun _ => 0, g⟩ (fun r => (∀ c : Dev Cert.CombineBwdRefIdeal.nD,
      r.2.mem ((c.tc : Thread Cert.CombineBwdRefIdeal.nD Cert.CombineBwdRefIdeal.τ).loc Cert.CombineBwdRefIdeal.main_arg0) = m ((c.tc : Thread Cert.CombineBwdRefIdeal.nD Cert.CombineBwdRefIdeal.τ).loc Cert.CombineBwdRefIdeal.main_arg0)
      ∧ r.2.mem ((c.tc : Thread Cert.CombineBwdRefIdeal.nD Cert.CombineBwdRefIdeal.τ).loc Cert.CombineBwdRefIdeal.main_arg1) = m ((c.tc : Thread Cert.CombineBwdRefIdeal.nD Cert.CombineBwdRefIdeal.τ).loc Cert.CombineBwdRefIdeal.main_arg1)
      ∧ r.2.mem ((c.tc : Thread Cert.CombineBwdRefIdeal.nD Cert.CombineBwdRefIdeal.τ).loc Cert.CombineBwdRefIdeal.main_arg2) = m ((c.tc : Thread Cert.CombineBwdRefIdeal.nD Cert.CombineBwdRefIdeal.τ).loc Cert.CombineBwdRefIdeal.main_arg2)
      ∧ r.2.mem ((c.tc : Thread Cert.CombineBwdRefIdeal.nD Cert.CombineBwdRefIdeal.τ).loc Cert.CombineBwdRefIdeal.main_arg3) = m ((c.tc : Thread Cert.CombineBwdRefIdeal.nD Cert.CombineBwdRefIdeal.τ).loc Cert.CombineBwdRefIdeal.main_arg3)
      ∧ r.2.mem ((c.tc : Thread Cert.CombineBwdRefIdeal.nD Cert.CombineBwdRefIdeal.τ).loc Cert.CombineBwdRefIdeal.main_arg4) = m ((c.tc : Thread Cert.CombineBwdRefIdeal.nD Cert.CombineBwdRefIdeal.τ).loc Cert.CombineBwdRefIdeal.main_arg4)
      ∧ r.2.mem ((c.tc : Thread Cert.CombineBwdRefIdeal.nD Cert.CombineBwdRefIdeal.τ).loc Cert.CombineBwdRefIdeal.main_arg5) = m ((c.tc : Thread Cert.CombineBwdRefIdeal.nD Cert.CombineBwdRefIdeal.τ).loc Cert.CombineBwdRefIdeal.main_arg5)
      ∧ r.2.mem ((c.tc : Thread Cert.CombineBwdRefIdeal.nD Cert.CombineBwdRefIdeal.τ).loc Cert.CombineBwdRefIdeal.main_arg6) = m ((c.tc : Thread Cert.CombineBwdRefIdeal.nD Cert.CombineBwdRefIdeal.τ).loc Cert.CombineBwdRefIdeal.main_arg6))
      ∧ r.2.sem = fun _ => 0)

def quiescent_ConvBwdPre [hConvBwdPre : Cert.ConvBwdPre.Facts] : Prop :=
  ∀ (m : (ℓ : Loc Cert.ConvBwdPre.nD Cert.ConvBwdPre.τ Cert.ConvBwdPre.sig) → Buf (Elt Bits) ℓ) (g : Dev Cert.ConvBwdPre.nD → PrngReg), Pre_ConvBwdPre m →
    θ_run (Cert.ConvBwdPre.defs (F := Bits)) (onTc (τ := Cert.ConvBwdPre.τ) (Cert.ConvBwdPre.main (F := Bits))) ⟨m, fun _ => 0, g⟩ (fun r => (∀ c : Dev Cert.ConvBwdPre.nD,
      r.2.mem ((c.tc : Thread Cert.ConvBwdPre.nD Cert.ConvBwdPre.τ).loc Cert.ConvBwdPre.main_arg0) = m ((c.tc : Thread Cert.ConvBwdPre.nD Cert.ConvBwdPre.τ).loc Cert.ConvBwdPre.main_arg0)
      ∧ r.2.mem ((c.tc : Thread Cert.ConvBwdPre.nD Cert.ConvBwdPre.τ).loc Cert.ConvBwdPre.main_arg1) = m ((c.tc : Thread Cert.ConvBwdPre.nD Cert.ConvBwdPre.τ).loc Cert.ConvBwdPre.main_arg1)
      ∧ r.2.mem ((c.tc : Thread Cert.ConvBwdPre.nD Cert.ConvBwdPre.τ).loc Cert.ConvBwdPre.main_arg2) = m ((c.tc : Thread Cert.ConvBwdPre.nD Cert.ConvBwdPre.τ).loc Cert.ConvBwdPre.main_arg2)
      ∧ r.2.mem ((c.tc : Thread Cert.ConvBwdPre.nD Cert.ConvBwdPre.τ).loc Cert.ConvBwdPre.main_arg3) = m ((c.tc : Thread Cert.ConvBwdPre.nD Cert.ConvBwdPre.τ).loc Cert.ConvBwdPre.main_arg3))
      ∧ r.2.sem = fun _ => 0)

def quiescent_ConvBwdPreIdeal [hConvBwdPreIdeal : Cert.ConvBwdPreIdeal.Facts] : Prop :=
  ∀ (m : (ℓ : Loc Cert.ConvBwdPreIdeal.nD Cert.ConvBwdPreIdeal.τ Cert.ConvBwdPreIdeal.sig) → Buf (Elt Ideal) ℓ) (g : Dev Cert.ConvBwdPreIdeal.nD → PrngReg), Pre_ConvBwdPreIdeal m →
    θ_run (Cert.ConvBwdPreIdeal.defs (F := Ideal)) (onTc (τ := Cert.ConvBwdPreIdeal.τ) (Cert.ConvBwdPreIdeal.main (F := Ideal))) ⟨m, fun _ => 0, g⟩ (fun r => (∀ c : Dev Cert.ConvBwdPreIdeal.nD,
      r.2.mem ((c.tc : Thread Cert.ConvBwdPreIdeal.nD Cert.ConvBwdPreIdeal.τ).loc Cert.ConvBwdPreIdeal.main_arg0) = m ((c.tc : Thread Cert.ConvBwdPreIdeal.nD Cert.ConvBwdPreIdeal.τ).loc Cert.ConvBwdPreIdeal.main_arg0)
      ∧ r.2.mem ((c.tc : Thread Cert.ConvBwdPreIdeal.nD Cert.ConvBwdPreIdeal.τ).loc Cert.ConvBwdPreIdeal.main_arg1) = m ((c.tc : Thread Cert.ConvBwdPreIdeal.nD Cert.ConvBwdPreIdeal.τ).loc Cert.ConvBwdPreIdeal.main_arg1)
      ∧ r.2.mem ((c.tc : Thread Cert.ConvBwdPreIdeal.nD Cert.ConvBwdPreIdeal.τ).loc Cert.ConvBwdPreIdeal.main_arg2) = m ((c.tc : Thread Cert.ConvBwdPreIdeal.nD Cert.ConvBwdPreIdeal.τ).loc Cert.ConvBwdPreIdeal.main_arg2)
      ∧ r.2.mem ((c.tc : Thread Cert.ConvBwdPreIdeal.nD Cert.ConvBwdPreIdeal.τ).loc Cert.ConvBwdPreIdeal.main_arg3) = m ((c.tc : Thread Cert.ConvBwdPreIdeal.nD Cert.ConvBwdPreIdeal.τ).loc Cert.ConvBwdPreIdeal.main_arg3))
      ∧ r.2.sem = fun _ => 0)

def quiescent_ConvBwdPreIdeal_pre_conv_finite [hConvBwdPreIdeal : Cert.ConvBwdPreIdeal.Facts] [hPre_conv_finite : Cert.Pre_conv_finite.Facts] : Prop :=
  ∀ (m : (ℓ : Loc Cert.ConvBwdPreIdeal.nD Cert.ConvBwdPreIdeal.τ Cert.ConvBwdPreIdeal.sig) → Buf (Elt Ideal) ℓ) (g : Dev Cert.ConvBwdPreIdeal.nD → PrngReg), Pre_ConvBwdPreIdeal_conv_finite m →
    θ_run (Cert.ConvBwdPreIdeal.defs (F := Ideal)) (onTc (τ := Cert.ConvBwdPreIdeal.τ) (Cert.ConvBwdPreIdeal.main (F := Ideal))) ⟨m, fun _ => 0, g⟩ (fun r => (∀ c : Dev Cert.ConvBwdPreIdeal.nD,
      r.2.mem ((c.tc : Thread Cert.ConvBwdPreIdeal.nD Cert.ConvBwdPreIdeal.τ).loc Cert.ConvBwdPreIdeal.main_arg0) = m ((c.tc : Thread Cert.ConvBwdPreIdeal.nD Cert.ConvBwdPreIdeal.τ).loc Cert.ConvBwdPreIdeal.main_arg0)
      ∧ r.2.mem ((c.tc : Thread Cert.ConvBwdPreIdeal.nD Cert.ConvBwdPreIdeal.τ).loc Cert.ConvBwdPreIdeal.main_arg1) = m ((c.tc : Thread Cert.ConvBwdPreIdeal.nD Cert.ConvBwdPreIdeal.τ).loc Cert.ConvBwdPreIdeal.main_arg1)
      ∧ r.2.mem ((c.tc : Thread Cert.ConvBwdPreIdeal.nD Cert.ConvBwdPreIdeal.τ).loc Cert.ConvBwdPreIdeal.main_arg2) = m ((c.tc : Thread Cert.ConvBwdPreIdeal.nD Cert.ConvBwdPreIdeal.τ).loc Cert.ConvBwdPreIdeal.main_arg2)
      ∧ r.2.mem ((c.tc : Thread Cert.ConvBwdPreIdeal.nD Cert.ConvBwdPreIdeal.τ).loc Cert.ConvBwdPreIdeal.main_arg3) = m ((c.tc : Thread Cert.ConvBwdPreIdeal.nD Cert.ConvBwdPreIdeal.τ).loc Cert.ConvBwdPreIdeal.main_arg3))
      ∧ r.2.sem = fun _ => 0)

def quiescent_ConvBwdPreRefIdeal [hConvBwdPreRefIdeal : Cert.ConvBwdPreRefIdeal.Facts] : Prop :=
  ∀ (m : (ℓ : Loc Cert.ConvBwdPreRefIdeal.nD Cert.ConvBwdPreRefIdeal.τ Cert.ConvBwdPreRefIdeal.sig) → Buf (Elt Ideal) ℓ) (g : Dev Cert.ConvBwdPreRefIdeal.nD → PrngReg), Pre_ConvBwdPreRefIdeal m →
    θ_run (Cert.ConvBwdPreRefIdeal.defs (F := Ideal)) (onTc (τ := Cert.ConvBwdPreRefIdeal.τ) (Cert.ConvBwdPreRefIdeal.main (F := Ideal))) ⟨m, fun _ => 0, g⟩ (fun r => (∀ c : Dev Cert.ConvBwdPreRefIdeal.nD,
      r.2.mem ((c.tc : Thread Cert.ConvBwdPreRefIdeal.nD Cert.ConvBwdPreRefIdeal.τ).loc Cert.ConvBwdPreRefIdeal.main_arg0) = m ((c.tc : Thread Cert.ConvBwdPreRefIdeal.nD Cert.ConvBwdPreRefIdeal.τ).loc Cert.ConvBwdPreRefIdeal.main_arg0)
      ∧ r.2.mem ((c.tc : Thread Cert.ConvBwdPreRefIdeal.nD Cert.ConvBwdPreRefIdeal.τ).loc Cert.ConvBwdPreRefIdeal.main_arg1) = m ((c.tc : Thread Cert.ConvBwdPreRefIdeal.nD Cert.ConvBwdPreRefIdeal.τ).loc Cert.ConvBwdPreRefIdeal.main_arg1)
      ∧ r.2.mem ((c.tc : Thread Cert.ConvBwdPreRefIdeal.nD Cert.ConvBwdPreRefIdeal.τ).loc Cert.ConvBwdPreRefIdeal.main_arg2) = m ((c.tc : Thread Cert.ConvBwdPreRefIdeal.nD Cert.ConvBwdPreRefIdeal.τ).loc Cert.ConvBwdPreRefIdeal.main_arg2)
      ∧ r.2.mem ((c.tc : Thread Cert.ConvBwdPreRefIdeal.nD Cert.ConvBwdPreRefIdeal.τ).loc Cert.ConvBwdPreRefIdeal.main_arg3) = m ((c.tc : Thread Cert.ConvBwdPreRefIdeal.nD Cert.ConvBwdPreRefIdeal.τ).loc Cert.ConvBwdPreRefIdeal.main_arg3))
      ∧ r.2.sem = fun _ => 0)

def quiescent_ConvBwdPreRefIdeal_pre_conv_finite [hConvBwdPreRefIdeal : Cert.ConvBwdPreRefIdeal.Facts] [hPre_conv_finite : Cert.Pre_conv_finite.Facts] : Prop :=
  ∀ (m : (ℓ : Loc Cert.ConvBwdPreRefIdeal.nD Cert.ConvBwdPreRefIdeal.τ Cert.ConvBwdPreRefIdeal.sig) → Buf (Elt Ideal) ℓ) (g : Dev Cert.ConvBwdPreRefIdeal.nD → PrngReg), Pre_ConvBwdPreRefIdeal_conv_finite m →
    θ_run (Cert.ConvBwdPreRefIdeal.defs (F := Ideal)) (onTc (τ := Cert.ConvBwdPreRefIdeal.τ) (Cert.ConvBwdPreRefIdeal.main (F := Ideal))) ⟨m, fun _ => 0, g⟩ (fun r => (∀ c : Dev Cert.ConvBwdPreRefIdeal.nD,
      r.2.mem ((c.tc : Thread Cert.ConvBwdPreRefIdeal.nD Cert.ConvBwdPreRefIdeal.τ).loc Cert.ConvBwdPreRefIdeal.main_arg0) = m ((c.tc : Thread Cert.ConvBwdPreRefIdeal.nD Cert.ConvBwdPreRefIdeal.τ).loc Cert.ConvBwdPreRefIdeal.main_arg0)
      ∧ r.2.mem ((c.tc : Thread Cert.ConvBwdPreRefIdeal.nD Cert.ConvBwdPreRefIdeal.τ).loc Cert.ConvBwdPreRefIdeal.main_arg1) = m ((c.tc : Thread Cert.ConvBwdPreRefIdeal.nD Cert.ConvBwdPreRefIdeal.τ).loc Cert.ConvBwdPreRefIdeal.main_arg1)
      ∧ r.2.mem ((c.tc : Thread Cert.ConvBwdPreRefIdeal.nD Cert.ConvBwdPreRefIdeal.τ).loc Cert.ConvBwdPreRefIdeal.main_arg2) = m ((c.tc : Thread Cert.ConvBwdPreRefIdeal.nD Cert.ConvBwdPreRefIdeal.τ).loc Cert.ConvBwdPreRefIdeal.main_arg2)
      ∧ r.2.mem ((c.tc : Thread Cert.ConvBwdPreRefIdeal.nD Cert.ConvBwdPreRefIdeal.τ).loc Cert.ConvBwdPreRefIdeal.main_arg3) = m ((c.tc : Thread Cert.ConvBwdPreRefIdeal.nD Cert.ConvBwdPreRefIdeal.τ).loc Cert.ConvBwdPreRefIdeal.main_arg3))
      ∧ r.2.sem = fun _ => 0)

def quiescent_ConvBwdIn [hConvBwdIn : Cert.ConvBwdIn.Facts] : Prop :=
  ∀ (m : (ℓ : Loc Cert.ConvBwdIn.nD Cert.ConvBwdIn.τ Cert.ConvBwdIn.sig) → Buf (Elt Bits) ℓ) (g : Dev Cert.ConvBwdIn.nD → PrngReg), Pre_ConvBwdIn m →
    θ_run (Cert.ConvBwdIn.defs (F := Bits)) (onTc (τ := Cert.ConvBwdIn.τ) (Cert.ConvBwdIn.main (F := Bits))) ⟨m, fun _ => 0, g⟩ (fun r => (∀ c : Dev Cert.ConvBwdIn.nD,
      r.2.mem ((c.tc : Thread Cert.ConvBwdIn.nD Cert.ConvBwdIn.τ).loc Cert.ConvBwdIn.main_arg0) = m ((c.tc : Thread Cert.ConvBwdIn.nD Cert.ConvBwdIn.τ).loc Cert.ConvBwdIn.main_arg0)
      ∧ r.2.mem ((c.tc : Thread Cert.ConvBwdIn.nD Cert.ConvBwdIn.τ).loc Cert.ConvBwdIn.main_arg1) = m ((c.tc : Thread Cert.ConvBwdIn.nD Cert.ConvBwdIn.τ).loc Cert.ConvBwdIn.main_arg1))
      ∧ r.2.sem = fun _ => 0)

def quiescent_ConvBwdInIdeal [hConvBwdInIdeal : Cert.ConvBwdInIdeal.Facts] : Prop :=
  ∀ (m : (ℓ : Loc Cert.ConvBwdInIdeal.nD Cert.ConvBwdInIdeal.τ Cert.ConvBwdInIdeal.sig) → Buf (Elt Ideal) ℓ) (g : Dev Cert.ConvBwdInIdeal.nD → PrngReg), Pre_ConvBwdInIdeal m →
    θ_run (Cert.ConvBwdInIdeal.defs (F := Ideal)) (onTc (τ := Cert.ConvBwdInIdeal.τ) (Cert.ConvBwdInIdeal.main (F := Ideal))) ⟨m, fun _ => 0, g⟩ (fun r => (∀ c : Dev Cert.ConvBwdInIdeal.nD,
      r.2.mem ((c.tc : Thread Cert.ConvBwdInIdeal.nD Cert.ConvBwdInIdeal.τ).loc Cert.ConvBwdInIdeal.main_arg0) = m ((c.tc : Thread Cert.ConvBwdInIdeal.nD Cert.ConvBwdInIdeal.τ).loc Cert.ConvBwdInIdeal.main_arg0)
      ∧ r.2.mem ((c.tc : Thread Cert.ConvBwdInIdeal.nD Cert.ConvBwdInIdeal.τ).loc Cert.ConvBwdInIdeal.main_arg1) = m ((c.tc : Thread Cert.ConvBwdInIdeal.nD Cert.ConvBwdInIdeal.τ).loc Cert.ConvBwdInIdeal.main_arg1))
      ∧ r.2.sem = fun _ => 0)

def quiescent_ConvBwdInRefIdeal [hConvBwdInRefIdeal : Cert.ConvBwdInRefIdeal.Facts] : Prop :=
  ∀ (m : (ℓ : Loc Cert.ConvBwdInRefIdeal.nD Cert.ConvBwdInRefIdeal.τ Cert.ConvBwdInRefIdeal.sig) → Buf (Elt Ideal) ℓ) (g : Dev Cert.ConvBwdInRefIdeal.nD → PrngReg), Pre_ConvBwdInRefIdeal m →
    θ_run (Cert.ConvBwdInRefIdeal.defs (F := Ideal)) (onTc (τ := Cert.ConvBwdInRefIdeal.τ) (Cert.ConvBwdInRefIdeal.main (F := Ideal))) ⟨m, fun _ => 0, g⟩ (fun r => (∀ c : Dev Cert.ConvBwdInRefIdeal.nD,
      r.2.mem ((c.tc : Thread Cert.ConvBwdInRefIdeal.nD Cert.ConvBwdInRefIdeal.τ).loc Cert.ConvBwdInRefIdeal.main_arg0) = m ((c.tc : Thread Cert.ConvBwdInRefIdeal.nD Cert.ConvBwdInRefIdeal.τ).loc Cert.ConvBwdInRefIdeal.main_arg0)
      ∧ r.2.mem ((c.tc : Thread Cert.ConvBwdInRefIdeal.nD Cert.ConvBwdInRefIdeal.τ).loc Cert.ConvBwdInRefIdeal.main_arg1) = m ((c.tc : Thread Cert.ConvBwdInRefIdeal.nD Cert.ConvBwdInRefIdeal.τ).loc Cert.ConvBwdInRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_AdamwWIn [hAdamwWIn : Cert.AdamwWIn.Facts] [hPre_place_w_in : Cert.Pre_place_w_in.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3)
      ∧ r.2.mem ((c.tc : Thread Cert.AdamwWIn.nD Cert.AdamwWIn.τ).loc Cert.AdamwWIn.main_arg4) = m ((c.tc : Thread Cert.AdamwWIn.nD Cert.AdamwWIn.τ).loc Cert.AdamwWIn.main_arg4)
      ∧ r.2.mem ((c.tc : Thread Cert.AdamwWIn.nD Cert.AdamwWIn.τ).loc Cert.AdamwWIn.main_arg5) = m ((c.tc : Thread Cert.AdamwWIn.nD Cert.AdamwWIn.τ).loc Cert.AdamwWIn.main_arg5))
      ∧ r.2.sem = fun _ => 0)

def quiescent_AdamwWInIdeal [hAdamwWInIdeal : Cert.AdamwWInIdeal.Facts] [hPre_place_w_in : Cert.Pre_place_w_in.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3)
      ∧ r.2.mem ((c.tc : Thread Cert.AdamwWInIdeal.nD Cert.AdamwWInIdeal.τ).loc Cert.AdamwWInIdeal.main_arg4) = m ((c.tc : Thread Cert.AdamwWInIdeal.nD Cert.AdamwWInIdeal.τ).loc Cert.AdamwWInIdeal.main_arg4)
      ∧ r.2.mem ((c.tc : Thread Cert.AdamwWInIdeal.nD Cert.AdamwWInIdeal.τ).loc Cert.AdamwWInIdeal.main_arg5) = m ((c.tc : Thread Cert.AdamwWInIdeal.nD Cert.AdamwWInIdeal.τ).loc Cert.AdamwWInIdeal.main_arg5))
      ∧ r.2.sem = fun _ => 0)

def quiescent_AdamwWInRefIdeal [hAdamwWInRefIdeal : Cert.AdamwWInRefIdeal.Facts] : Prop :=
  ∀ (m : (ℓ : Loc Cert.AdamwWInRefIdeal.nD Cert.AdamwWInRefIdeal.τ Cert.AdamwWInRefIdeal.sig) → Buf (Elt Ideal) ℓ) (g : Dev Cert.AdamwWInRefIdeal.nD → PrngReg), Pre_AdamwWInRefIdeal m →
    θ_run (Cert.AdamwWInRefIdeal.defs (F := Ideal)) (onTc (τ := Cert.AdamwWInRefIdeal.τ) (Cert.AdamwWInRefIdeal.main (F := Ideal))) ⟨m, fun _ => 0, g⟩ (fun r => (∀ c : Dev Cert.AdamwWInRefIdeal.nD,
      r.2.mem ((c.tc : Thread Cert.AdamwWInRefIdeal.nD Cert.AdamwWInRefIdeal.τ).loc Cert.AdamwWInRefIdeal.main_arg0) = m ((c.tc : Thread Cert.AdamwWInRefIdeal.nD Cert.AdamwWInRefIdeal.τ).loc Cert.AdamwWInRefIdeal.main_arg0)
      ∧ r.2.mem ((c.tc : Thread Cert.AdamwWInRefIdeal.nD Cert.AdamwWInRefIdeal.τ).loc Cert.AdamwWInRefIdeal.main_arg1) = m ((c.tc : Thread Cert.AdamwWInRefIdeal.nD Cert.AdamwWInRefIdeal.τ).loc Cert.AdamwWInRefIdeal.main_arg1)
      ∧ r.2.mem ((c.tc : Thread Cert.AdamwWInRefIdeal.nD Cert.AdamwWInRefIdeal.τ).loc Cert.AdamwWInRefIdeal.main_arg2) = m ((c.tc : Thread Cert.AdamwWInRefIdeal.nD Cert.AdamwWInRefIdeal.τ).loc Cert.AdamwWInRefIdeal.main_arg2)
      ∧ r.2.mem ((c.tc : Thread Cert.AdamwWInRefIdeal.nD Cert.AdamwWInRefIdeal.τ).loc Cert.AdamwWInRefIdeal.main_arg3) = m ((c.tc : Thread Cert.AdamwWInRefIdeal.nD Cert.AdamwWInRefIdeal.τ).loc Cert.AdamwWInRefIdeal.main_arg3)
      ∧ r.2.mem ((c.tc : Thread Cert.AdamwWInRefIdeal.nD Cert.AdamwWInRefIdeal.τ).loc Cert.AdamwWInRefIdeal.main_arg4) = m ((c.tc : Thread Cert.AdamwWInRefIdeal.nD Cert.AdamwWInRefIdeal.τ).loc Cert.AdamwWInRefIdeal.main_arg4)
      ∧ r.2.mem ((c.tc : Thread Cert.AdamwWInRefIdeal.nD Cert.AdamwWInRefIdeal.τ).loc Cert.AdamwWInRefIdeal.main_arg5) = m ((c.tc : Thread Cert.AdamwWInRefIdeal.nD Cert.AdamwWInRefIdeal.τ).loc Cert.AdamwWInRefIdeal.main_arg5))
      ∧ r.2.sem = fun _ => 0)

def quiescent_AdamwWInRefIdeal_pre_place_w_in [hAdamwWInRefIdeal : Cert.AdamwWInRefIdeal.Facts] [hPre_place_w_in : Cert.Pre_place_w_in.Facts] : Prop :=
  ∀ (m : (ℓ : Loc Cert.AdamwWInRefIdeal.nD Cert.AdamwWInRefIdeal.τ Cert.AdamwWInRefIdeal.sig) → Buf (Elt Ideal) ℓ) (g : Dev Cert.AdamwWInRefIdeal.nD → PrngReg), Pre_AdamwWInRefIdeal_place_w_in m →
    θ_run (Cert.AdamwWInRefIdeal.defs (F := Ideal)) (onTc (τ := Cert.AdamwWInRefIdeal.τ) (Cert.AdamwWInRefIdeal.main (F := Ideal))) ⟨m, fun _ => 0, g⟩ (fun r => (∀ c : Dev Cert.AdamwWInRefIdeal.nD,
      r.2.mem ((c.tc : Thread Cert.AdamwWInRefIdeal.nD Cert.AdamwWInRefIdeal.τ).loc Cert.AdamwWInRefIdeal.main_arg0) = m ((c.tc : Thread Cert.AdamwWInRefIdeal.nD Cert.AdamwWInRefIdeal.τ).loc Cert.AdamwWInRefIdeal.main_arg0)
      ∧ r.2.mem ((c.tc : Thread Cert.AdamwWInRefIdeal.nD Cert.AdamwWInRefIdeal.τ).loc Cert.AdamwWInRefIdeal.main_arg1) = m ((c.tc : Thread Cert.AdamwWInRefIdeal.nD Cert.AdamwWInRefIdeal.τ).loc Cert.AdamwWInRefIdeal.main_arg1)
      ∧ r.2.mem ((c.tc : Thread Cert.AdamwWInRefIdeal.nD Cert.AdamwWInRefIdeal.τ).loc Cert.AdamwWInRefIdeal.main_arg2) = m ((c.tc : Thread Cert.AdamwWInRefIdeal.nD Cert.AdamwWInRefIdeal.τ).loc Cert.AdamwWInRefIdeal.main_arg2)
      ∧ r.2.mem ((c.tc : Thread Cert.AdamwWInRefIdeal.nD Cert.AdamwWInRefIdeal.τ).loc Cert.AdamwWInRefIdeal.main_arg3) = m ((c.tc : Thread Cert.AdamwWInRefIdeal.nD Cert.AdamwWInRefIdeal.τ).loc Cert.AdamwWInRefIdeal.main_arg3)
      ∧ r.2.mem ((c.tc : Thread Cert.AdamwWInRefIdeal.nD Cert.AdamwWInRefIdeal.τ).loc Cert.AdamwWInRefIdeal.main_arg4) = m ((c.tc : Thread Cert.AdamwWInRefIdeal.nD Cert.AdamwWInRefIdeal.τ).loc Cert.AdamwWInRefIdeal.main_arg4)
      ∧ r.2.mem ((c.tc : Thread Cert.AdamwWInRefIdeal.nD Cert.AdamwWInRefIdeal.τ).loc Cert.AdamwWInRefIdeal.main_arg5) = m ((c.tc : Thread Cert.AdamwWInRefIdeal.nD Cert.AdamwWInRefIdeal.τ).loc Cert.AdamwWInRefIdeal.main_arg5))
      ∧ r.2.sem = fun _ => 0)

def quiescent_AdamwWAttnBranch [hAdamwWAttnBranch : Cert.AdamwWAttnBranch.Facts] [hPre_place_w_attn_branch : Cert.Pre_place_w_attn_branch.Facts] : Prop :=
  ∀ (m : (ℓ : Loc Cert.AdamwWAttnBranch.nD Cert.AdamwWAttnBranch.τ Cert.AdamwWAttnBranch.sig) → Buf (Elt Bits) ℓ) (g : Dev Cert.AdamwWAttnBranch.nD → PrngReg), Pre_AdamwWAttnBranch m →
    θ_run (Cert.AdamwWAttnBranch.defs (F := Bits)) (onTc (τ := Cert.AdamwWAttnBranch.τ) (Cert.AdamwWAttnBranch.main (F := Bits))) ⟨m, fun _ => 0, g⟩ (fun r => (∀ c : Dev Cert.AdamwWAttnBranch.nD,
      r.2.mem ((c.tc : Thread Cert.AdamwWAttnBranch.nD Cert.AdamwWAttnBranch.τ).loc Cert.AdamwWAttnBranch.main_arg0) = m ((c.tc : Thread Cert.AdamwWAttnBranch.nD Cert.AdamwWAttnBranch.τ).loc Cert.AdamwWAttnBranch.main_arg0)
      ∧ r.2.mem ((c.tc : Thread Cert.AdamwWAttnBranch.nD Cert.AdamwWAttnBranch.τ).loc Cert.AdamwWAttnBranch.main_arg1) = m ((c.tc : Thread Cert.AdamwWAttnBranch.nD Cert.AdamwWAttnBranch.τ).loc Cert.AdamwWAttnBranch.main_arg1)
      ∧ r.2.mem ((c.tc : Thread Cert.AdamwWAttnBranch.nD Cert.AdamwWAttnBranch.τ).loc Cert.AdamwWAttnBranch.main_arg2) = m ((c.tc : Thread Cert.AdamwWAttnBranch.nD Cert.AdamwWAttnBranch.τ).loc Cert.AdamwWAttnBranch.main_arg2)
      ∧ r.2.mem ((c.tc : Thread Cert.AdamwWAttnBranch.nD Cert.AdamwWAttnBranch.τ).loc Cert.AdamwWAttnBranch.main_arg3) = m ((c.tc : Thread Cert.AdamwWAttnBranch.nD Cert.AdamwWAttnBranch.τ).loc Cert.AdamwWAttnBranch.main_arg3)
      ∧ r.2.mem ((c.tc : Thread Cert.AdamwWAttnBranch.nD Cert.AdamwWAttnBranch.τ).loc Cert.AdamwWAttnBranch.main_arg4) = m ((c.tc : Thread Cert.AdamwWAttnBranch.nD Cert.AdamwWAttnBranch.τ).loc Cert.AdamwWAttnBranch.main_arg4)
      ∧ r.2.mem ((c.tc : Thread Cert.AdamwWAttnBranch.nD Cert.AdamwWAttnBranch.τ).loc Cert.AdamwWAttnBranch.main_arg5) = m ((c.tc : Thread Cert.AdamwWAttnBranch.nD Cert.AdamwWAttnBranch.τ).loc Cert.AdamwWAttnBranch.main_arg5))
      ∧ r.2.sem = fun _ => 0)

def quiescent_AdamwWAttnBranchIdeal [hAdamwWAttnBranchIdeal : Cert.AdamwWAttnBranchIdeal.Facts] [hPre_place_w_attn_branch : Cert.Pre_place_w_attn_branch.Facts] : Prop :=
  ∀ (m : (ℓ : Loc Cert.AdamwWAttnBranchIdeal.nD Cert.AdamwWAttnBranchIdeal.τ Cert.AdamwWAttnBranchIdeal.sig) → Buf (Elt Ideal) ℓ) (g : Dev Cert.AdamwWAttnBranchIdeal.nD → PrngReg), Pre_AdamwWAttnBranchIdeal m →
    θ_run (Cert.AdamwWAttnBranchIdeal.defs (F := Ideal)) (onTc (τ := Cert.AdamwWAttnBranchIdeal.τ) (Cert.AdamwWAttnBranchIdeal.main (F := Ideal))) ⟨m, fun _ => 0, g⟩ (fun r => (∀ c : Dev Cert.AdamwWAttnBranchIdeal.nD,
      r.2.mem ((c.tc : Thread Cert.AdamwWAttnBranchIdeal.nD Cert.AdamwWAttnBranchIdeal.τ).loc Cert.AdamwWAttnBranchIdeal.main_arg0) = m ((c.tc : Thread Cert.AdamwWAttnBranchIdeal.nD Cert.AdamwWAttnBranchIdeal.τ).loc Cert.AdamwWAttnBranchIdeal.main_arg0)
      ∧ r.2.mem ((c.tc : Thread Cert.AdamwWAttnBranchIdeal.nD Cert.AdamwWAttnBranchIdeal.τ).loc Cert.AdamwWAttnBranchIdeal.main_arg1) = m ((c.tc : Thread Cert.AdamwWAttnBranchIdeal.nD Cert.AdamwWAttnBranchIdeal.τ).loc Cert.AdamwWAttnBranchIdeal.main_arg1)
      ∧ r.2.mem ((c.tc : Thread Cert.AdamwWAttnBranchIdeal.nD Cert.AdamwWAttnBranchIdeal.τ).loc Cert.AdamwWAttnBranchIdeal.main_arg2) = m ((c.tc : Thread Cert.AdamwWAttnBranchIdeal.nD Cert.AdamwWAttnBranchIdeal.τ).loc Cert.AdamwWAttnBranchIdeal.main_arg2)
      ∧ r.2.mem ((c.tc : Thread Cert.AdamwWAttnBranchIdeal.nD Cert.AdamwWAttnBranchIdeal.τ).loc Cert.AdamwWAttnBranchIdeal.main_arg3) = m ((c.tc : Thread Cert.AdamwWAttnBranchIdeal.nD Cert.AdamwWAttnBranchIdeal.τ).loc Cert.AdamwWAttnBranchIdeal.main_arg3)
      ∧ r.2.mem ((c.tc : Thread Cert.AdamwWAttnBranchIdeal.nD Cert.AdamwWAttnBranchIdeal.τ).loc Cert.AdamwWAttnBranchIdeal.main_arg4) = m ((c.tc : Thread Cert.AdamwWAttnBranchIdeal.nD Cert.AdamwWAttnBranchIdeal.τ).loc Cert.AdamwWAttnBranchIdeal.main_arg4)
      ∧ r.2.mem ((c.tc : Thread Cert.AdamwWAttnBranchIdeal.nD Cert.AdamwWAttnBranchIdeal.τ).loc Cert.AdamwWAttnBranchIdeal.main_arg5) = m ((c.tc : Thread Cert.AdamwWAttnBranchIdeal.nD Cert.AdamwWAttnBranchIdeal.τ).loc Cert.AdamwWAttnBranchIdeal.main_arg5))
      ∧ r.2.sem = fun _ => 0)

def quiescent_AdamwWAttnBranchRefIdeal [hAdamwWAttnBranchRefIdeal : Cert.AdamwWAttnBranchRefIdeal.Facts] : Prop :=
  ∀ (m : (ℓ : Loc Cert.AdamwWAttnBranchRefIdeal.nD Cert.AdamwWAttnBranchRefIdeal.τ Cert.AdamwWAttnBranchRefIdeal.sig) → Buf (Elt Ideal) ℓ) (g : Dev Cert.AdamwWAttnBranchRefIdeal.nD → PrngReg), Pre_AdamwWAttnBranchRefIdeal m →
    θ_run (Cert.AdamwWAttnBranchRefIdeal.defs (F := Ideal)) (onTc (τ := Cert.AdamwWAttnBranchRefIdeal.τ) (Cert.AdamwWAttnBranchRefIdeal.main (F := Ideal))) ⟨m, fun _ => 0, g⟩ (fun r => (∀ c : Dev Cert.AdamwWAttnBranchRefIdeal.nD,
      r.2.mem ((c.tc : Thread Cert.AdamwWAttnBranchRefIdeal.nD Cert.AdamwWAttnBranchRefIdeal.τ).loc Cert.AdamwWAttnBranchRefIdeal.main_arg0) = m ((c.tc : Thread Cert.AdamwWAttnBranchRefIdeal.nD Cert.AdamwWAttnBranchRefIdeal.τ).loc Cert.AdamwWAttnBranchRefIdeal.main_arg0)
      ∧ r.2.mem ((c.tc : Thread Cert.AdamwWAttnBranchRefIdeal.nD Cert.AdamwWAttnBranchRefIdeal.τ).loc Cert.AdamwWAttnBranchRefIdeal.main_arg1) = m ((c.tc : Thread Cert.AdamwWAttnBranchRefIdeal.nD Cert.AdamwWAttnBranchRefIdeal.τ).loc Cert.AdamwWAttnBranchRefIdeal.main_arg1)
      ∧ r.2.mem ((c.tc : Thread Cert.AdamwWAttnBranchRefIdeal.nD Cert.AdamwWAttnBranchRefIdeal.τ).loc Cert.AdamwWAttnBranchRefIdeal.main_arg2) = m ((c.tc : Thread Cert.AdamwWAttnBranchRefIdeal.nD Cert.AdamwWAttnBranchRefIdeal.τ).loc Cert.AdamwWAttnBranchRefIdeal.main_arg2)
      ∧ r.2.mem ((c.tc : Thread Cert.AdamwWAttnBranchRefIdeal.nD Cert.AdamwWAttnBranchRefIdeal.τ).loc Cert.AdamwWAttnBranchRefIdeal.main_arg3) = m ((c.tc : Thread Cert.AdamwWAttnBranchRefIdeal.nD Cert.AdamwWAttnBranchRefIdeal.τ).loc Cert.AdamwWAttnBranchRefIdeal.main_arg3)
      ∧ r.2.mem ((c.tc : Thread Cert.AdamwWAttnBranchRefIdeal.nD Cert.AdamwWAttnBranchRefIdeal.τ).loc Cert.AdamwWAttnBranchRefIdeal.main_arg4) = m ((c.tc : Thread Cert.AdamwWAttnBranchRefIdeal.nD Cert.AdamwWAttnBranchRefIdeal.τ).loc Cert.AdamwWAttnBranchRefIdeal.main_arg4)
      ∧ r.2.mem ((c.tc : Thread Cert.AdamwWAttnBranchRefIdeal.nD Cert.AdamwWAttnBranchRefIdeal.τ).loc Cert.AdamwWAttnBranchRefIdeal.main_arg5) = m ((c.tc : Thread Cert.AdamwWAttnBranchRefIdeal.nD Cert.AdamwWAttnBranchRefIdeal.τ).loc Cert.AdamwWAttnBranchRefIdeal.main_arg5))
      ∧ r.2.sem = fun _ => 0)

def quiescent_AdamwWAttnBranchRefIdeal_pre_place_w_attn_branch [hAdamwWAttnBranchRefIdeal : Cert.AdamwWAttnBranchRefIdeal.Facts] [hPre_place_w_attn_branch : Cert.Pre_place_w_attn_branch.Facts] : Prop :=
  ∀ (m : (ℓ : Loc Cert.AdamwWAttnBranchRefIdeal.nD Cert.AdamwWAttnBranchRefIdeal.τ Cert.AdamwWAttnBranchRefIdeal.sig) → Buf (Elt Ideal) ℓ) (g : Dev Cert.AdamwWAttnBranchRefIdeal.nD → PrngReg), Pre_AdamwWAttnBranchRefIdeal_place_w_attn_branch m →
    θ_run (Cert.AdamwWAttnBranchRefIdeal.defs (F := Ideal)) (onTc (τ := Cert.AdamwWAttnBranchRefIdeal.τ) (Cert.AdamwWAttnBranchRefIdeal.main (F := Ideal))) ⟨m, fun _ => 0, g⟩ (fun r => (∀ c : Dev Cert.AdamwWAttnBranchRefIdeal.nD,
      r.2.mem ((c.tc : Thread Cert.AdamwWAttnBranchRefIdeal.nD Cert.AdamwWAttnBranchRefIdeal.τ).loc Cert.AdamwWAttnBranchRefIdeal.main_arg0) = m ((c.tc : Thread Cert.AdamwWAttnBranchRefIdeal.nD Cert.AdamwWAttnBranchRefIdeal.τ).loc Cert.AdamwWAttnBranchRefIdeal.main_arg0)
      ∧ r.2.mem ((c.tc : Thread Cert.AdamwWAttnBranchRefIdeal.nD Cert.AdamwWAttnBranchRefIdeal.τ).loc Cert.AdamwWAttnBranchRefIdeal.main_arg1) = m ((c.tc : Thread Cert.AdamwWAttnBranchRefIdeal.nD Cert.AdamwWAttnBranchRefIdeal.τ).loc Cert.AdamwWAttnBranchRefIdeal.main_arg1)
      ∧ r.2.mem ((c.tc : Thread Cert.AdamwWAttnBranchRefIdeal.nD Cert.AdamwWAttnBranchRefIdeal.τ).loc Cert.AdamwWAttnBranchRefIdeal.main_arg2) = m ((c.tc : Thread Cert.AdamwWAttnBranchRefIdeal.nD Cert.AdamwWAttnBranchRefIdeal.τ).loc Cert.AdamwWAttnBranchRefIdeal.main_arg2)
      ∧ r.2.mem ((c.tc : Thread Cert.AdamwWAttnBranchRefIdeal.nD Cert.AdamwWAttnBranchRefIdeal.τ).loc Cert.AdamwWAttnBranchRefIdeal.main_arg3) = m ((c.tc : Thread Cert.AdamwWAttnBranchRefIdeal.nD Cert.AdamwWAttnBranchRefIdeal.τ).loc Cert.AdamwWAttnBranchRefIdeal.main_arg3)
      ∧ r.2.mem ((c.tc : Thread Cert.AdamwWAttnBranchRefIdeal.nD Cert.AdamwWAttnBranchRefIdeal.τ).loc Cert.AdamwWAttnBranchRefIdeal.main_arg4) = m ((c.tc : Thread Cert.AdamwWAttnBranchRefIdeal.nD Cert.AdamwWAttnBranchRefIdeal.τ).loc Cert.AdamwWAttnBranchRefIdeal.main_arg4)
      ∧ r.2.mem ((c.tc : Thread Cert.AdamwWAttnBranchRefIdeal.nD Cert.AdamwWAttnBranchRefIdeal.τ).loc Cert.AdamwWAttnBranchRefIdeal.main_arg5) = m ((c.tc : Thread Cert.AdamwWAttnBranchRefIdeal.nD Cert.AdamwWAttnBranchRefIdeal.τ).loc Cert.AdamwWAttnBranchRefIdeal.main_arg5))
      ∧ r.2.sem = fun _ => 0)

def quiescent_AdamwWSsmBranch [hAdamwWSsmBranch : Cert.AdamwWSsmBranch.Facts] [hPre_place_w_ssm_branch : Cert.Pre_place_w_ssm_branch.Facts] : Prop :=
  ∀ (m : (ℓ : Loc Cert.AdamwWSsmBranch.nD Cert.AdamwWSsmBranch.τ Cert.AdamwWSsmBranch.sig) → Buf (Elt Bits) ℓ) (g : Dev Cert.AdamwWSsmBranch.nD → PrngReg), Pre_AdamwWSsmBranch m →
    θ_run (Cert.AdamwWSsmBranch.defs (F := Bits)) (onTc (τ := Cert.AdamwWSsmBranch.τ) (Cert.AdamwWSsmBranch.main (F := Bits))) ⟨m, fun _ => 0, g⟩ (fun r => (∀ c : Dev Cert.AdamwWSsmBranch.nD,
      r.2.mem ((c.tc : Thread Cert.AdamwWSsmBranch.nD Cert.AdamwWSsmBranch.τ).loc Cert.AdamwWSsmBranch.main_arg0) = m ((c.tc : Thread Cert.AdamwWSsmBranch.nD Cert.AdamwWSsmBranch.τ).loc Cert.AdamwWSsmBranch.main_arg0)
      ∧ r.2.mem ((c.tc : Thread Cert.AdamwWSsmBranch.nD Cert.AdamwWSsmBranch.τ).loc Cert.AdamwWSsmBranch.main_arg1) = m ((c.tc : Thread Cert.AdamwWSsmBranch.nD Cert.AdamwWSsmBranch.τ).loc Cert.AdamwWSsmBranch.main_arg1)
      ∧ r.2.mem ((c.tc : Thread Cert.AdamwWSsmBranch.nD Cert.AdamwWSsmBranch.τ).loc Cert.AdamwWSsmBranch.main_arg2) = m ((c.tc : Thread Cert.AdamwWSsmBranch.nD Cert.AdamwWSsmBranch.τ).loc Cert.AdamwWSsmBranch.main_arg2)
      ∧ r.2.mem ((c.tc : Thread Cert.AdamwWSsmBranch.nD Cert.AdamwWSsmBranch.τ).loc Cert.AdamwWSsmBranch.main_arg3) = m ((c.tc : Thread Cert.AdamwWSsmBranch.nD Cert.AdamwWSsmBranch.τ).loc Cert.AdamwWSsmBranch.main_arg3)
      ∧ r.2.mem ((c.tc : Thread Cert.AdamwWSsmBranch.nD Cert.AdamwWSsmBranch.τ).loc Cert.AdamwWSsmBranch.main_arg4) = m ((c.tc : Thread Cert.AdamwWSsmBranch.nD Cert.AdamwWSsmBranch.τ).loc Cert.AdamwWSsmBranch.main_arg4)
      ∧ r.2.mem ((c.tc : Thread Cert.AdamwWSsmBranch.nD Cert.AdamwWSsmBranch.τ).loc Cert.AdamwWSsmBranch.main_arg5) = m ((c.tc : Thread Cert.AdamwWSsmBranch.nD Cert.AdamwWSsmBranch.τ).loc Cert.AdamwWSsmBranch.main_arg5))
      ∧ r.2.sem = fun _ => 0)

def quiescent_AdamwWSsmBranchIdeal [hAdamwWSsmBranchIdeal : Cert.AdamwWSsmBranchIdeal.Facts] [hPre_place_w_ssm_branch : Cert.Pre_place_w_ssm_branch.Facts] : Prop :=
  ∀ (m : (ℓ : Loc Cert.AdamwWSsmBranchIdeal.nD Cert.AdamwWSsmBranchIdeal.τ Cert.AdamwWSsmBranchIdeal.sig) → Buf (Elt Ideal) ℓ) (g : Dev Cert.AdamwWSsmBranchIdeal.nD → PrngReg), Pre_AdamwWSsmBranchIdeal m →
    θ_run (Cert.AdamwWSsmBranchIdeal.defs (F := Ideal)) (onTc (τ := Cert.AdamwWSsmBranchIdeal.τ) (Cert.AdamwWSsmBranchIdeal.main (F := Ideal))) ⟨m, fun _ => 0, g⟩ (fun r => (∀ c : Dev Cert.AdamwWSsmBranchIdeal.nD,
      r.2.mem ((c.tc : Thread Cert.AdamwWSsmBranchIdeal.nD Cert.AdamwWSsmBranchIdeal.τ).loc Cert.AdamwWSsmBranchIdeal.main_arg0) = m ((c.tc : Thread Cert.AdamwWSsmBranchIdeal.nD Cert.AdamwWSsmBranchIdeal.τ).loc Cert.AdamwWSsmBranchIdeal.main_arg0)
      ∧ r.2.mem ((c.tc : Thread Cert.AdamwWSsmBranchIdeal.nD Cert.AdamwWSsmBranchIdeal.τ).loc Cert.AdamwWSsmBranchIdeal.main_arg1) = m ((c.tc : Thread Cert.AdamwWSsmBranchIdeal.nD Cert.AdamwWSsmBranchIdeal.τ).loc Cert.AdamwWSsmBranchIdeal.main_arg1)
      ∧ r.2.mem ((c.tc : Thread Cert.AdamwWSsmBranchIdeal.nD Cert.AdamwWSsmBranchIdeal.τ).loc Cert.AdamwWSsmBranchIdeal.main_arg2) = m ((c.tc : Thread Cert.AdamwWSsmBranchIdeal.nD Cert.AdamwWSsmBranchIdeal.τ).loc Cert.AdamwWSsmBranchIdeal.main_arg2)
      ∧ r.2.mem ((c.tc : Thread Cert.AdamwWSsmBranchIdeal.nD Cert.AdamwWSsmBranchIdeal.τ).loc Cert.AdamwWSsmBranchIdeal.main_arg3) = m ((c.tc : Thread Cert.AdamwWSsmBranchIdeal.nD Cert.AdamwWSsmBranchIdeal.τ).loc Cert.AdamwWSsmBranchIdeal.main_arg3)
      ∧ r.2.mem ((c.tc : Thread Cert.AdamwWSsmBranchIdeal.nD Cert.AdamwWSsmBranchIdeal.τ).loc Cert.AdamwWSsmBranchIdeal.main_arg4) = m ((c.tc : Thread Cert.AdamwWSsmBranchIdeal.nD Cert.AdamwWSsmBranchIdeal.τ).loc Cert.AdamwWSsmBranchIdeal.main_arg4)
      ∧ r.2.mem ((c.tc : Thread Cert.AdamwWSsmBranchIdeal.nD Cert.AdamwWSsmBranchIdeal.τ).loc Cert.AdamwWSsmBranchIdeal.main_arg5) = m ((c.tc : Thread Cert.AdamwWSsmBranchIdeal.nD Cert.AdamwWSsmBranchIdeal.τ).loc Cert.AdamwWSsmBranchIdeal.main_arg5))
      ∧ r.2.sem = fun _ => 0)

def quiescent_AdamwWSsmBranchRefIdeal [hAdamwWSsmBranchRefIdeal : Cert.AdamwWSsmBranchRefIdeal.Facts] : Prop :=
  ∀ (m : (ℓ : Loc Cert.AdamwWSsmBranchRefIdeal.nD Cert.AdamwWSsmBranchRefIdeal.τ Cert.AdamwWSsmBranchRefIdeal.sig) → Buf (Elt Ideal) ℓ) (g : Dev Cert.AdamwWSsmBranchRefIdeal.nD → PrngReg), Pre_AdamwWSsmBranchRefIdeal m →
    θ_run (Cert.AdamwWSsmBranchRefIdeal.defs (F := Ideal)) (onTc (τ := Cert.AdamwWSsmBranchRefIdeal.τ) (Cert.AdamwWSsmBranchRefIdeal.main (F := Ideal))) ⟨m, fun _ => 0, g⟩ (fun r => (∀ c : Dev Cert.AdamwWSsmBranchRefIdeal.nD,
      r.2.mem ((c.tc : Thread Cert.AdamwWSsmBranchRefIdeal.nD Cert.AdamwWSsmBranchRefIdeal.τ).loc Cert.AdamwWSsmBranchRefIdeal.main_arg0) = m ((c.tc : Thread Cert.AdamwWSsmBranchRefIdeal.nD Cert.AdamwWSsmBranchRefIdeal.τ).loc Cert.AdamwWSsmBranchRefIdeal.main_arg0)
      ∧ r.2.mem ((c.tc : Thread Cert.AdamwWSsmBranchRefIdeal.nD Cert.AdamwWSsmBranchRefIdeal.τ).loc Cert.AdamwWSsmBranchRefIdeal.main_arg1) = m ((c.tc : Thread Cert.AdamwWSsmBranchRefIdeal.nD Cert.AdamwWSsmBranchRefIdeal.τ).loc Cert.AdamwWSsmBranchRefIdeal.main_arg1)
      ∧ r.2.mem ((c.tc : Thread Cert.AdamwWSsmBranchRefIdeal.nD Cert.AdamwWSsmBranchRefIdeal.τ).loc Cert.AdamwWSsmBranchRefIdeal.main_arg2) = m ((c.tc : Thread Cert.AdamwWSsmBranchRefIdeal.nD Cert.AdamwWSsmBranchRefIdeal.τ).loc Cert.AdamwWSsmBranchRefIdeal.main_arg2)
      ∧ r.2.mem ((c.tc : Thread Cert.AdamwWSsmBranchRefIdeal.nD Cert.AdamwWSsmBranchRefIdeal.τ).loc Cert.AdamwWSsmBranchRefIdeal.main_arg3) = m ((c.tc : Thread Cert.AdamwWSsmBranchRefIdeal.nD Cert.AdamwWSsmBranchRefIdeal.τ).loc Cert.AdamwWSsmBranchRefIdeal.main_arg3)
      ∧ r.2.mem ((c.tc : Thread Cert.AdamwWSsmBranchRefIdeal.nD Cert.AdamwWSsmBranchRefIdeal.τ).loc Cert.AdamwWSsmBranchRefIdeal.main_arg4) = m ((c.tc : Thread Cert.AdamwWSsmBranchRefIdeal.nD Cert.AdamwWSsmBranchRefIdeal.τ).loc Cert.AdamwWSsmBranchRefIdeal.main_arg4)
      ∧ r.2.mem ((c.tc : Thread Cert.AdamwWSsmBranchRefIdeal.nD Cert.AdamwWSsmBranchRefIdeal.τ).loc Cert.AdamwWSsmBranchRefIdeal.main_arg5) = m ((c.tc : Thread Cert.AdamwWSsmBranchRefIdeal.nD Cert.AdamwWSsmBranchRefIdeal.τ).loc Cert.AdamwWSsmBranchRefIdeal.main_arg5))
      ∧ r.2.sem = fun _ => 0)

def quiescent_AdamwWSsmBranchRefIdeal_pre_place_w_ssm_branch [hAdamwWSsmBranchRefIdeal : Cert.AdamwWSsmBranchRefIdeal.Facts] [hPre_place_w_ssm_branch : Cert.Pre_place_w_ssm_branch.Facts] : Prop :=
  ∀ (m : (ℓ : Loc Cert.AdamwWSsmBranchRefIdeal.nD Cert.AdamwWSsmBranchRefIdeal.τ Cert.AdamwWSsmBranchRefIdeal.sig) → Buf (Elt Ideal) ℓ) (g : Dev Cert.AdamwWSsmBranchRefIdeal.nD → PrngReg), Pre_AdamwWSsmBranchRefIdeal_place_w_ssm_branch m →
    θ_run (Cert.AdamwWSsmBranchRefIdeal.defs (F := Ideal)) (onTc (τ := Cert.AdamwWSsmBranchRefIdeal.τ) (Cert.AdamwWSsmBranchRefIdeal.main (F := Ideal))) ⟨m, fun _ => 0, g⟩ (fun r => (∀ c : Dev Cert.AdamwWSsmBranchRefIdeal.nD,
      r.2.mem ((c.tc : Thread Cert.AdamwWSsmBranchRefIdeal.nD Cert.AdamwWSsmBranchRefIdeal.τ).loc Cert.AdamwWSsmBranchRefIdeal.main_arg0) = m ((c.tc : Thread Cert.AdamwWSsmBranchRefIdeal.nD Cert.AdamwWSsmBranchRefIdeal.τ).loc Cert.AdamwWSsmBranchRefIdeal.main_arg0)
      ∧ r.2.mem ((c.tc : Thread Cert.AdamwWSsmBranchRefIdeal.nD Cert.AdamwWSsmBranchRefIdeal.τ).loc Cert.AdamwWSsmBranchRefIdeal.main_arg1) = m ((c.tc : Thread Cert.AdamwWSsmBranchRefIdeal.nD Cert.AdamwWSsmBranchRefIdeal.τ).loc Cert.AdamwWSsmBranchRefIdeal.main_arg1)
      ∧ r.2.mem ((c.tc : Thread Cert.AdamwWSsmBranchRefIdeal.nD Cert.AdamwWSsmBranchRefIdeal.τ).loc Cert.AdamwWSsmBranchRefIdeal.main_arg2) = m ((c.tc : Thread Cert.AdamwWSsmBranchRefIdeal.nD Cert.AdamwWSsmBranchRefIdeal.τ).loc Cert.AdamwWSsmBranchRefIdeal.main_arg2)
      ∧ r.2.mem ((c.tc : Thread Cert.AdamwWSsmBranchRefIdeal.nD Cert.AdamwWSsmBranchRefIdeal.τ).loc Cert.AdamwWSsmBranchRefIdeal.main_arg3) = m ((c.tc : Thread Cert.AdamwWSsmBranchRefIdeal.nD Cert.AdamwWSsmBranchRefIdeal.τ).loc Cert.AdamwWSsmBranchRefIdeal.main_arg3)
      ∧ r.2.mem ((c.tc : Thread Cert.AdamwWSsmBranchRefIdeal.nD Cert.AdamwWSsmBranchRefIdeal.τ).loc Cert.AdamwWSsmBranchRefIdeal.main_arg4) = m ((c.tc : Thread Cert.AdamwWSsmBranchRefIdeal.nD Cert.AdamwWSsmBranchRefIdeal.τ).loc Cert.AdamwWSsmBranchRefIdeal.main_arg4)
      ∧ r.2.mem ((c.tc : Thread Cert.AdamwWSsmBranchRefIdeal.nD Cert.AdamwWSsmBranchRefIdeal.τ).loc Cert.AdamwWSsmBranchRefIdeal.main_arg5) = m ((c.tc : Thread Cert.AdamwWSsmBranchRefIdeal.nD Cert.AdamwWSsmBranchRefIdeal.τ).loc Cert.AdamwWSsmBranchRefIdeal.main_arg5))
      ∧ r.2.sem = fun _ => 0)

def quiescent_AdamwWOut [hAdamwWOut : Cert.AdamwWOut.Facts] [hPre_place_w_out : Cert.Pre_place_w_out.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3)
      ∧ r.2.mem ((c.tc : Thread Cert.AdamwWOut.nD Cert.AdamwWOut.τ).loc Cert.AdamwWOut.main_arg4) = m ((c.tc : Thread Cert.AdamwWOut.nD Cert.AdamwWOut.τ).loc Cert.AdamwWOut.main_arg4)
      ∧ r.2.mem ((c.tc : Thread Cert.AdamwWOut.nD Cert.AdamwWOut.τ).loc Cert.AdamwWOut.main_arg5) = m ((c.tc : Thread Cert.AdamwWOut.nD Cert.AdamwWOut.τ).loc Cert.AdamwWOut.main_arg5))
      ∧ r.2.sem = fun _ => 0)

def quiescent_AdamwWOutIdeal [hAdamwWOutIdeal : Cert.AdamwWOutIdeal.Facts] [hPre_place_w_out : Cert.Pre_place_w_out.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
      ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4)
      ∧ r.2.mem ((c.tc : Thread Cert.AdamwWOutIdeal.nD Cert.AdamwWOutIdeal.τ).loc Cert.AdamwWOutIdeal.main_arg5) = m ((c.tc : Thread Cert.AdamwWOutIdeal.nD Cert.AdamwWOutIdeal.τ).loc Cert.AdamwWOutIdeal.main_arg5))
      ∧ r.2.sem = fun _ => 0)

def quiescent_AdamwWOutRefIdeal [hAdamwWOutRefIdeal : Cert.AdamwWOutRefIdeal.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3)
      ∧ r.2.mem ((c.tc : Thread Cert.AdamwWOutRefIdeal.nD Cert.AdamwWOutRefIdeal.τ).loc Cert.AdamwWOutRefIdeal.main_arg4) = m ((c.tc : Thread Cert.AdamwWOutRefIdeal.nD Cert.AdamwWOutRefIdeal.τ).loc Cert.AdamwWOutRefIdeal.main_arg4)
      ∧ r.2.mem ((c.tc : Thread Cert.AdamwWOutRefIdeal.nD Cert.AdamwWOutRefIdeal.τ).loc Cert.AdamwWOutRefIdeal.main_arg5) = m ((c.tc : Thread Cert.AdamwWOutRefIdeal.nD Cert.AdamwWOutRefIdeal.τ).loc Cert.AdamwWOutRefIdeal.main_arg5))
      ∧ r.2.sem = fun _ => 0)

def quiescent_AdamwWOutRefIdeal_pre_place_w_out [hAdamwWOutRefIdeal : Cert.AdamwWOutRefIdeal.Facts] [hPre_place_w_out : Cert.Pre_place_w_out.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal_place_w_out m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3)
      ∧ r.2.mem ((c.tc : Thread Cert.AdamwWOutRefIdeal.nD Cert.AdamwWOutRefIdeal.τ).loc Cert.AdamwWOutRefIdeal.main_arg4) = m ((c.tc : Thread Cert.AdamwWOutRefIdeal.nD Cert.AdamwWOutRefIdeal.τ).loc Cert.AdamwWOutRefIdeal.main_arg4)
      ∧ r.2.mem ((c.tc : Thread Cert.AdamwWOutRefIdeal.nD Cert.AdamwWOutRefIdeal.τ).loc Cert.AdamwWOutRefIdeal.main_arg5) = m ((c.tc : Thread Cert.AdamwWOutRefIdeal.nD Cert.AdamwWOutRefIdeal.τ).loc Cert.AdamwWOutRefIdeal.main_arg5))
      ∧ r.2.sem = fun _ => 0)

def quiescent_AdamwWFfnIn [hAdamwWFfnIn : Cert.AdamwWFfnIn.Facts] [hPre_place_w_ffn_in : Cert.Pre_place_w_ffn_in.Facts] : Prop :=
  ∀ (m : (ℓ : Loc Cert.AdamwWFfnIn.nD Cert.AdamwWFfnIn.τ Cert.AdamwWFfnIn.sig) → Buf (Elt Bits) ℓ) (g : Dev Cert.AdamwWFfnIn.nD → PrngReg), Pre_AdamwWFfnIn m →
    θ_run (Cert.AdamwWFfnIn.defs (F := Bits)) (onTc (τ := Cert.AdamwWFfnIn.τ) (Cert.AdamwWFfnIn.main (F := Bits))) ⟨m, fun _ => 0, g⟩ (fun r => (∀ c : Dev Cert.AdamwWFfnIn.nD,
      r.2.mem ((c.tc : Thread Cert.AdamwWFfnIn.nD Cert.AdamwWFfnIn.τ).loc Cert.AdamwWFfnIn.main_arg0) = m ((c.tc : Thread Cert.AdamwWFfnIn.nD Cert.AdamwWFfnIn.τ).loc Cert.AdamwWFfnIn.main_arg0)
      ∧ r.2.mem ((c.tc : Thread Cert.AdamwWFfnIn.nD Cert.AdamwWFfnIn.τ).loc Cert.AdamwWFfnIn.main_arg1) = m ((c.tc : Thread Cert.AdamwWFfnIn.nD Cert.AdamwWFfnIn.τ).loc Cert.AdamwWFfnIn.main_arg1)
      ∧ r.2.mem ((c.tc : Thread Cert.AdamwWFfnIn.nD Cert.AdamwWFfnIn.τ).loc Cert.AdamwWFfnIn.main_arg2) = m ((c.tc : Thread Cert.AdamwWFfnIn.nD Cert.AdamwWFfnIn.τ).loc Cert.AdamwWFfnIn.main_arg2)
      ∧ r.2.mem ((c.tc : Thread Cert.AdamwWFfnIn.nD Cert.AdamwWFfnIn.τ).loc Cert.AdamwWFfnIn.main_arg3) = m ((c.tc : Thread Cert.AdamwWFfnIn.nD Cert.AdamwWFfnIn.τ).loc Cert.AdamwWFfnIn.main_arg3)
      ∧ r.2.mem ((c.tc : Thread Cert.AdamwWFfnIn.nD Cert.AdamwWFfnIn.τ).loc Cert.AdamwWFfnIn.main_arg4) = m ((c.tc : Thread Cert.AdamwWFfnIn.nD Cert.AdamwWFfnIn.τ).loc Cert.AdamwWFfnIn.main_arg4)
      ∧ r.2.mem ((c.tc : Thread Cert.AdamwWFfnIn.nD Cert.AdamwWFfnIn.τ).loc Cert.AdamwWFfnIn.main_arg5) = m ((c.tc : Thread Cert.AdamwWFfnIn.nD Cert.AdamwWFfnIn.τ).loc Cert.AdamwWFfnIn.main_arg5))
      ∧ r.2.sem = fun _ => 0)

def quiescent_AdamwWFfnInIdeal [hAdamwWFfnInIdeal : Cert.AdamwWFfnInIdeal.Facts] [hPre_place_w_ffn_in : Cert.Pre_place_w_ffn_in.Facts] : Prop :=
  ∀ (m : (ℓ : Loc Cert.AdamwWFfnInIdeal.nD Cert.AdamwWFfnInIdeal.τ Cert.AdamwWFfnInIdeal.sig) → Buf (Elt Ideal) ℓ) (g : Dev Cert.AdamwWFfnInIdeal.nD → PrngReg), Pre_AdamwWFfnInIdeal m →
    θ_run (Cert.AdamwWFfnInIdeal.defs (F := Ideal)) (onTc (τ := Cert.AdamwWFfnInIdeal.τ) (Cert.AdamwWFfnInIdeal.main (F := Ideal))) ⟨m, fun _ => 0, g⟩ (fun r => (∀ c : Dev Cert.AdamwWFfnInIdeal.nD,
      r.2.mem ((c.tc : Thread Cert.AdamwWFfnInIdeal.nD Cert.AdamwWFfnInIdeal.τ).loc Cert.AdamwWFfnInIdeal.main_arg0) = m ((c.tc : Thread Cert.AdamwWFfnInIdeal.nD Cert.AdamwWFfnInIdeal.τ).loc Cert.AdamwWFfnInIdeal.main_arg0)
      ∧ r.2.mem ((c.tc : Thread Cert.AdamwWFfnInIdeal.nD Cert.AdamwWFfnInIdeal.τ).loc Cert.AdamwWFfnInIdeal.main_arg1) = m ((c.tc : Thread Cert.AdamwWFfnInIdeal.nD Cert.AdamwWFfnInIdeal.τ).loc Cert.AdamwWFfnInIdeal.main_arg1)
      ∧ r.2.mem ((c.tc : Thread Cert.AdamwWFfnInIdeal.nD Cert.AdamwWFfnInIdeal.τ).loc Cert.AdamwWFfnInIdeal.main_arg2) = m ((c.tc : Thread Cert.AdamwWFfnInIdeal.nD Cert.AdamwWFfnInIdeal.τ).loc Cert.AdamwWFfnInIdeal.main_arg2)
      ∧ r.2.mem ((c.tc : Thread Cert.AdamwWFfnInIdeal.nD Cert.AdamwWFfnInIdeal.τ).loc Cert.AdamwWFfnInIdeal.main_arg3) = m ((c.tc : Thread Cert.AdamwWFfnInIdeal.nD Cert.AdamwWFfnInIdeal.τ).loc Cert.AdamwWFfnInIdeal.main_arg3)
      ∧ r.2.mem ((c.tc : Thread Cert.AdamwWFfnInIdeal.nD Cert.AdamwWFfnInIdeal.τ).loc Cert.AdamwWFfnInIdeal.main_arg4) = m ((c.tc : Thread Cert.AdamwWFfnInIdeal.nD Cert.AdamwWFfnInIdeal.τ).loc Cert.AdamwWFfnInIdeal.main_arg4)
      ∧ r.2.mem ((c.tc : Thread Cert.AdamwWFfnInIdeal.nD Cert.AdamwWFfnInIdeal.τ).loc Cert.AdamwWFfnInIdeal.main_arg5) = m ((c.tc : Thread Cert.AdamwWFfnInIdeal.nD Cert.AdamwWFfnInIdeal.τ).loc Cert.AdamwWFfnInIdeal.main_arg5))
      ∧ r.2.sem = fun _ => 0)

def quiescent_AdamwWFfnInRefIdeal [hAdamwWFfnInRefIdeal : Cert.AdamwWFfnInRefIdeal.Facts] : Prop :=
  ∀ (m : (ℓ : Loc Cert.AdamwWFfnInRefIdeal.nD Cert.AdamwWFfnInRefIdeal.τ Cert.AdamwWFfnInRefIdeal.sig) → Buf (Elt Ideal) ℓ) (g : Dev Cert.AdamwWFfnInRefIdeal.nD → PrngReg), Pre_AdamwWFfnInRefIdeal m →
    θ_run (Cert.AdamwWFfnInRefIdeal.defs (F := Ideal)) (onTc (τ := Cert.AdamwWFfnInRefIdeal.τ) (Cert.AdamwWFfnInRefIdeal.main (F := Ideal))) ⟨m, fun _ => 0, g⟩ (fun r => (∀ c : Dev Cert.AdamwWFfnInRefIdeal.nD,
      r.2.mem ((c.tc : Thread Cert.AdamwWFfnInRefIdeal.nD Cert.AdamwWFfnInRefIdeal.τ).loc Cert.AdamwWFfnInRefIdeal.main_arg0) = m ((c.tc : Thread Cert.AdamwWFfnInRefIdeal.nD Cert.AdamwWFfnInRefIdeal.τ).loc Cert.AdamwWFfnInRefIdeal.main_arg0)
      ∧ r.2.mem ((c.tc : Thread Cert.AdamwWFfnInRefIdeal.nD Cert.AdamwWFfnInRefIdeal.τ).loc Cert.AdamwWFfnInRefIdeal.main_arg1) = m ((c.tc : Thread Cert.AdamwWFfnInRefIdeal.nD Cert.AdamwWFfnInRefIdeal.τ).loc Cert.AdamwWFfnInRefIdeal.main_arg1)
      ∧ r.2.mem ((c.tc : Thread Cert.AdamwWFfnInRefIdeal.nD Cert.AdamwWFfnInRefIdeal.τ).loc Cert.AdamwWFfnInRefIdeal.main_arg2) = m ((c.tc : Thread Cert.AdamwWFfnInRefIdeal.nD Cert.AdamwWFfnInRefIdeal.τ).loc Cert.AdamwWFfnInRefIdeal.main_arg2)
      ∧ r.2.mem ((c.tc : Thread Cert.AdamwWFfnInRefIdeal.nD Cert.AdamwWFfnInRefIdeal.τ).loc Cert.AdamwWFfnInRefIdeal.main_arg3) = m ((c.tc : Thread Cert.AdamwWFfnInRefIdeal.nD Cert.AdamwWFfnInRefIdeal.τ).loc Cert.AdamwWFfnInRefIdeal.main_arg3)
      ∧ r.2.mem ((c.tc : Thread Cert.AdamwWFfnInRefIdeal.nD Cert.AdamwWFfnInRefIdeal.τ).loc Cert.AdamwWFfnInRefIdeal.main_arg4) = m ((c.tc : Thread Cert.AdamwWFfnInRefIdeal.nD Cert.AdamwWFfnInRefIdeal.τ).loc Cert.AdamwWFfnInRefIdeal.main_arg4)
      ∧ r.2.mem ((c.tc : Thread Cert.AdamwWFfnInRefIdeal.nD Cert.AdamwWFfnInRefIdeal.τ).loc Cert.AdamwWFfnInRefIdeal.main_arg5) = m ((c.tc : Thread Cert.AdamwWFfnInRefIdeal.nD Cert.AdamwWFfnInRefIdeal.τ).loc Cert.AdamwWFfnInRefIdeal.main_arg5))
      ∧ r.2.sem = fun _ => 0)

def quiescent_AdamwWFfnInRefIdeal_pre_place_w_ffn_in [hAdamwWFfnInRefIdeal : Cert.AdamwWFfnInRefIdeal.Facts] [hPre_place_w_ffn_in : Cert.Pre_place_w_ffn_in.Facts] : Prop :=
  ∀ (m : (ℓ : Loc Cert.AdamwWFfnInRefIdeal.nD Cert.AdamwWFfnInRefIdeal.τ Cert.AdamwWFfnInRefIdeal.sig) → Buf (Elt Ideal) ℓ) (g : Dev Cert.AdamwWFfnInRefIdeal.nD → PrngReg), Pre_AdamwWFfnInRefIdeal_place_w_ffn_in m →
    θ_run (Cert.AdamwWFfnInRefIdeal.defs (F := Ideal)) (onTc (τ := Cert.AdamwWFfnInRefIdeal.τ) (Cert.AdamwWFfnInRefIdeal.main (F := Ideal))) ⟨m, fun _ => 0, g⟩ (fun r => (∀ c : Dev Cert.AdamwWFfnInRefIdeal.nD,
      r.2.mem ((c.tc : Thread Cert.AdamwWFfnInRefIdeal.nD Cert.AdamwWFfnInRefIdeal.τ).loc Cert.AdamwWFfnInRefIdeal.main_arg0) = m ((c.tc : Thread Cert.AdamwWFfnInRefIdeal.nD Cert.AdamwWFfnInRefIdeal.τ).loc Cert.AdamwWFfnInRefIdeal.main_arg0)
      ∧ r.2.mem ((c.tc : Thread Cert.AdamwWFfnInRefIdeal.nD Cert.AdamwWFfnInRefIdeal.τ).loc Cert.AdamwWFfnInRefIdeal.main_arg1) = m ((c.tc : Thread Cert.AdamwWFfnInRefIdeal.nD Cert.AdamwWFfnInRefIdeal.τ).loc Cert.AdamwWFfnInRefIdeal.main_arg1)
      ∧ r.2.mem ((c.tc : Thread Cert.AdamwWFfnInRefIdeal.nD Cert.AdamwWFfnInRefIdeal.τ).loc Cert.AdamwWFfnInRefIdeal.main_arg2) = m ((c.tc : Thread Cert.AdamwWFfnInRefIdeal.nD Cert.AdamwWFfnInRefIdeal.τ).loc Cert.AdamwWFfnInRefIdeal.main_arg2)
      ∧ r.2.mem ((c.tc : Thread Cert.AdamwWFfnInRefIdeal.nD Cert.AdamwWFfnInRefIdeal.τ).loc Cert.AdamwWFfnInRefIdeal.main_arg3) = m ((c.tc : Thread Cert.AdamwWFfnInRefIdeal.nD Cert.AdamwWFfnInRefIdeal.τ).loc Cert.AdamwWFfnInRefIdeal.main_arg3)
      ∧ r.2.mem ((c.tc : Thread Cert.AdamwWFfnInRefIdeal.nD Cert.AdamwWFfnInRefIdeal.τ).loc Cert.AdamwWFfnInRefIdeal.main_arg4) = m ((c.tc : Thread Cert.AdamwWFfnInRefIdeal.nD Cert.AdamwWFfnInRefIdeal.τ).loc Cert.AdamwWFfnInRefIdeal.main_arg4)
      ∧ r.2.mem ((c.tc : Thread Cert.AdamwWFfnInRefIdeal.nD Cert.AdamwWFfnInRefIdeal.τ).loc Cert.AdamwWFfnInRefIdeal.main_arg5) = m ((c.tc : Thread Cert.AdamwWFfnInRefIdeal.nD Cert.AdamwWFfnInRefIdeal.τ).loc Cert.AdamwWFfnInRefIdeal.main_arg5))
      ∧ r.2.sem = fun _ => 0)

def quiescent_AdamwWFfnOut [hAdamwWFfnOut : Cert.AdamwWFfnOut.Facts] [hPre_place_w_ffn_out : Cert.Pre_place_w_ffn_out.Facts] : Prop :=
  ∀ (m : (ℓ : Loc Cert.AdamwWFfnOut.nD Cert.AdamwWFfnOut.τ Cert.AdamwWFfnOut.sig) → Buf (Elt Bits) ℓ) (g : Dev Cert.AdamwWFfnOut.nD → PrngReg), Pre_AdamwWFfnOut m →
    θ_run (Cert.AdamwWFfnOut.defs (F := Bits)) (onTc (τ := Cert.AdamwWFfnOut.τ) (Cert.AdamwWFfnOut.main (F := Bits))) ⟨m, fun _ => 0, g⟩ (fun r => (∀ c : Dev Cert.AdamwWFfnOut.nD,
      r.2.mem ((c.tc : Thread Cert.AdamwWFfnOut.nD Cert.AdamwWFfnOut.τ).loc Cert.AdamwWFfnOut.main_arg0) = m ((c.tc : Thread Cert.AdamwWFfnOut.nD Cert.AdamwWFfnOut.τ).loc Cert.AdamwWFfnOut.main_arg0)
      ∧ r.2.mem ((c.tc : Thread Cert.AdamwWFfnOut.nD Cert.AdamwWFfnOut.τ).loc Cert.AdamwWFfnOut.main_arg1) = m ((c.tc : Thread Cert.AdamwWFfnOut.nD Cert.AdamwWFfnOut.τ).loc Cert.AdamwWFfnOut.main_arg1)
      ∧ r.2.mem ((c.tc : Thread Cert.AdamwWFfnOut.nD Cert.AdamwWFfnOut.τ).loc Cert.AdamwWFfnOut.main_arg2) = m ((c.tc : Thread Cert.AdamwWFfnOut.nD Cert.AdamwWFfnOut.τ).loc Cert.AdamwWFfnOut.main_arg2)
      ∧ r.2.mem ((c.tc : Thread Cert.AdamwWFfnOut.nD Cert.AdamwWFfnOut.τ).loc Cert.AdamwWFfnOut.main_arg3) = m ((c.tc : Thread Cert.AdamwWFfnOut.nD Cert.AdamwWFfnOut.τ).loc Cert.AdamwWFfnOut.main_arg3)
      ∧ r.2.mem ((c.tc : Thread Cert.AdamwWFfnOut.nD Cert.AdamwWFfnOut.τ).loc Cert.AdamwWFfnOut.main_arg4) = m ((c.tc : Thread Cert.AdamwWFfnOut.nD Cert.AdamwWFfnOut.τ).loc Cert.AdamwWFfnOut.main_arg4)
      ∧ r.2.mem ((c.tc : Thread Cert.AdamwWFfnOut.nD Cert.AdamwWFfnOut.τ).loc Cert.AdamwWFfnOut.main_arg5) = m ((c.tc : Thread Cert.AdamwWFfnOut.nD Cert.AdamwWFfnOut.τ).loc Cert.AdamwWFfnOut.main_arg5))
      ∧ r.2.sem = fun _ => 0)

def quiescent_AdamwWFfnOutIdeal [hAdamwWFfnOutIdeal : Cert.AdamwWFfnOutIdeal.Facts] [hPre_place_w_ffn_out : Cert.Pre_place_w_ffn_out.Facts] : Prop :=
  ∀ (m : (ℓ : Loc Cert.AdamwWFfnOutIdeal.nD Cert.AdamwWFfnOutIdeal.τ Cert.AdamwWFfnOutIdeal.sig) → Buf (Elt Ideal) ℓ) (g : Dev Cert.AdamwWFfnOutIdeal.nD → PrngReg), Pre_AdamwWFfnOutIdeal m →
    θ_run (Cert.AdamwWFfnOutIdeal.defs (F := Ideal)) (onTc (τ := Cert.AdamwWFfnOutIdeal.τ) (Cert.AdamwWFfnOutIdeal.main (F := Ideal))) ⟨m, fun _ => 0, g⟩ (fun r => (∀ c : Dev Cert.AdamwWFfnOutIdeal.nD,
      r.2.mem ((c.tc : Thread Cert.AdamwWFfnOutIdeal.nD Cert.AdamwWFfnOutIdeal.τ).loc Cert.AdamwWFfnOutIdeal.main_arg0) = m ((c.tc : Thread Cert.AdamwWFfnOutIdeal.nD Cert.AdamwWFfnOutIdeal.τ).loc Cert.AdamwWFfnOutIdeal.main_arg0)
      ∧ r.2.mem ((c.tc : Thread Cert.AdamwWFfnOutIdeal.nD Cert.AdamwWFfnOutIdeal.τ).loc Cert.AdamwWFfnOutIdeal.main_arg1) = m ((c.tc : Thread Cert.AdamwWFfnOutIdeal.nD Cert.AdamwWFfnOutIdeal.τ).loc Cert.AdamwWFfnOutIdeal.main_arg1)
      ∧ r.2.mem ((c.tc : Thread Cert.AdamwWFfnOutIdeal.nD Cert.AdamwWFfnOutIdeal.τ).loc Cert.AdamwWFfnOutIdeal.main_arg2) = m ((c.tc : Thread Cert.AdamwWFfnOutIdeal.nD Cert.AdamwWFfnOutIdeal.τ).loc Cert.AdamwWFfnOutIdeal.main_arg2)
      ∧ r.2.mem ((c.tc : Thread Cert.AdamwWFfnOutIdeal.nD Cert.AdamwWFfnOutIdeal.τ).loc Cert.AdamwWFfnOutIdeal.main_arg3) = m ((c.tc : Thread Cert.AdamwWFfnOutIdeal.nD Cert.AdamwWFfnOutIdeal.τ).loc Cert.AdamwWFfnOutIdeal.main_arg3)
      ∧ r.2.mem ((c.tc : Thread Cert.AdamwWFfnOutIdeal.nD Cert.AdamwWFfnOutIdeal.τ).loc Cert.AdamwWFfnOutIdeal.main_arg4) = m ((c.tc : Thread Cert.AdamwWFfnOutIdeal.nD Cert.AdamwWFfnOutIdeal.τ).loc Cert.AdamwWFfnOutIdeal.main_arg4)
      ∧ r.2.mem ((c.tc : Thread Cert.AdamwWFfnOutIdeal.nD Cert.AdamwWFfnOutIdeal.τ).loc Cert.AdamwWFfnOutIdeal.main_arg5) = m ((c.tc : Thread Cert.AdamwWFfnOutIdeal.nD Cert.AdamwWFfnOutIdeal.τ).loc Cert.AdamwWFfnOutIdeal.main_arg5))
      ∧ r.2.sem = fun _ => 0)

def quiescent_AdamwWFfnOutRefIdeal [hAdamwWFfnOutRefIdeal : Cert.AdamwWFfnOutRefIdeal.Facts] : Prop :=
  ∀ (m : (ℓ : Loc Cert.AdamwWFfnOutRefIdeal.nD Cert.AdamwWFfnOutRefIdeal.τ Cert.AdamwWFfnOutRefIdeal.sig) → Buf (Elt Ideal) ℓ) (g : Dev Cert.AdamwWFfnOutRefIdeal.nD → PrngReg), Pre_AdamwWFfnOutRefIdeal m →
    θ_run (Cert.AdamwWFfnOutRefIdeal.defs (F := Ideal)) (onTc (τ := Cert.AdamwWFfnOutRefIdeal.τ) (Cert.AdamwWFfnOutRefIdeal.main (F := Ideal))) ⟨m, fun _ => 0, g⟩ (fun r => (∀ c : Dev Cert.AdamwWFfnOutRefIdeal.nD,
      r.2.mem ((c.tc : Thread Cert.AdamwWFfnOutRefIdeal.nD Cert.AdamwWFfnOutRefIdeal.τ).loc Cert.AdamwWFfnOutRefIdeal.main_arg0) = m ((c.tc : Thread Cert.AdamwWFfnOutRefIdeal.nD Cert.AdamwWFfnOutRefIdeal.τ).loc Cert.AdamwWFfnOutRefIdeal.main_arg0)
      ∧ r.2.mem ((c.tc : Thread Cert.AdamwWFfnOutRefIdeal.nD Cert.AdamwWFfnOutRefIdeal.τ).loc Cert.AdamwWFfnOutRefIdeal.main_arg1) = m ((c.tc : Thread Cert.AdamwWFfnOutRefIdeal.nD Cert.AdamwWFfnOutRefIdeal.τ).loc Cert.AdamwWFfnOutRefIdeal.main_arg1)
      ∧ r.2.mem ((c.tc : Thread Cert.AdamwWFfnOutRefIdeal.nD Cert.AdamwWFfnOutRefIdeal.τ).loc Cert.AdamwWFfnOutRefIdeal.main_arg2) = m ((c.tc : Thread Cert.AdamwWFfnOutRefIdeal.nD Cert.AdamwWFfnOutRefIdeal.τ).loc Cert.AdamwWFfnOutRefIdeal.main_arg2)
      ∧ r.2.mem ((c.tc : Thread Cert.AdamwWFfnOutRefIdeal.nD Cert.AdamwWFfnOutRefIdeal.τ).loc Cert.AdamwWFfnOutRefIdeal.main_arg3) = m ((c.tc : Thread Cert.AdamwWFfnOutRefIdeal.nD Cert.AdamwWFfnOutRefIdeal.τ).loc Cert.AdamwWFfnOutRefIdeal.main_arg3)
      ∧ r.2.mem ((c.tc : Thread Cert.AdamwWFfnOutRefIdeal.nD Cert.AdamwWFfnOutRefIdeal.τ).loc Cert.AdamwWFfnOutRefIdeal.main_arg4) = m ((c.tc : Thread Cert.AdamwWFfnOutRefIdeal.nD Cert.AdamwWFfnOutRefIdeal.τ).loc Cert.AdamwWFfnOutRefIdeal.main_arg4)
      ∧ r.2.mem ((c.tc : Thread Cert.AdamwWFfnOutRefIdeal.nD Cert.AdamwWFfnOutRefIdeal.τ).loc Cert.AdamwWFfnOutRefIdeal.main_arg5) = m ((c.tc : Thread Cert.AdamwWFfnOutRefIdeal.nD Cert.AdamwWFfnOutRefIdeal.τ).loc Cert.AdamwWFfnOutRefIdeal.main_arg5))
      ∧ r.2.sem = fun _ => 0)

def quiescent_AdamwWFfnOutRefIdeal_pre_place_w_ffn_out [hAdamwWFfnOutRefIdeal : Cert.AdamwWFfnOutRefIdeal.Facts] [hPre_place_w_ffn_out : Cert.Pre_place_w_ffn_out.Facts] : Prop :=
  ∀ (m : (ℓ : Loc Cert.AdamwWFfnOutRefIdeal.nD Cert.AdamwWFfnOutRefIdeal.τ Cert.AdamwWFfnOutRefIdeal.sig) → Buf (Elt Ideal) ℓ) (g : Dev Cert.AdamwWFfnOutRefIdeal.nD → PrngReg), Pre_AdamwWFfnOutRefIdeal_place_w_ffn_out m →
    θ_run (Cert.AdamwWFfnOutRefIdeal.defs (F := Ideal)) (onTc (τ := Cert.AdamwWFfnOutRefIdeal.τ) (Cert.AdamwWFfnOutRefIdeal.main (F := Ideal))) ⟨m, fun _ => 0, g⟩ (fun r => (∀ c : Dev Cert.AdamwWFfnOutRefIdeal.nD,
      r.2.mem ((c.tc : Thread Cert.AdamwWFfnOutRefIdeal.nD Cert.AdamwWFfnOutRefIdeal.τ).loc Cert.AdamwWFfnOutRefIdeal.main_arg0) = m ((c.tc : Thread Cert.AdamwWFfnOutRefIdeal.nD Cert.AdamwWFfnOutRefIdeal.τ).loc Cert.AdamwWFfnOutRefIdeal.main_arg0)
      ∧ r.2.mem ((c.tc : Thread Cert.AdamwWFfnOutRefIdeal.nD Cert.AdamwWFfnOutRefIdeal.τ).loc Cert.AdamwWFfnOutRefIdeal.main_arg1) = m ((c.tc : Thread Cert.AdamwWFfnOutRefIdeal.nD Cert.AdamwWFfnOutRefIdeal.τ).loc Cert.AdamwWFfnOutRefIdeal.main_arg1)
      ∧ r.2.mem ((c.tc : Thread Cert.AdamwWFfnOutRefIdeal.nD Cert.AdamwWFfnOutRefIdeal.τ).loc Cert.AdamwWFfnOutRefIdeal.main_arg2) = m ((c.tc : Thread Cert.AdamwWFfnOutRefIdeal.nD Cert.AdamwWFfnOutRefIdeal.τ).loc Cert.AdamwWFfnOutRefIdeal.main_arg2)
      ∧ r.2.mem ((c.tc : Thread Cert.AdamwWFfnOutRefIdeal.nD Cert.AdamwWFfnOutRefIdeal.τ).loc Cert.AdamwWFfnOutRefIdeal.main_arg3) = m ((c.tc : Thread Cert.AdamwWFfnOutRefIdeal.nD Cert.AdamwWFfnOutRefIdeal.τ).loc Cert.AdamwWFfnOutRefIdeal.main_arg3)
      ∧ r.2.mem ((c.tc : Thread Cert.AdamwWFfnOutRefIdeal.nD Cert.AdamwWFfnOutRefIdeal.τ).loc Cert.AdamwWFfnOutRefIdeal.main_arg4) = m ((c.tc : Thread Cert.AdamwWFfnOutRefIdeal.nD Cert.AdamwWFfnOutRefIdeal.τ).loc Cert.AdamwWFfnOutRefIdeal.main_arg4)
      ∧ r.2.mem ((c.tc : Thread Cert.AdamwWFfnOutRefIdeal.nD Cert.AdamwWFfnOutRefIdeal.τ).loc Cert.AdamwWFfnOutRefIdeal.main_arg5) = m ((c.tc : Thread Cert.AdamwWFfnOutRefIdeal.nD Cert.AdamwWFfnOutRefIdeal.τ).loc Cert.AdamwWFfnOutRefIdeal.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v36) = v1 c
          ∧ r.2.mem ((c.tc : Thread Cert.MergeRefIdeal.nD Cert.MergeRefIdeal.τ).loc Cert.MergeRefIdeal.main_v33) = v2 c
          ∧ r.2.mem ((c.tc : Thread Cert.MergeRefIdeal.nD Cert.MergeRefIdeal.τ).loc Cert.MergeRefIdeal.main_v34) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v4) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v5) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjQkvDx_InProjQkvDxIdeal : Prop :=
  True

def algebraic_InProjQkvDxIdeal_InProjQkvDxRefIdeal [hInProjQkvDxIdeal : Cert.InProjQkvDxIdeal.Facts] [hInProjQkvDxRefIdeal : Cert.InProjQkvDxRefIdeal.Facts] : Prop :=
  ∀ (m : (ℓ : Loc Cert.InProjQkvDxIdeal.nD Cert.InProjQkvDxIdeal.τ Cert.InProjQkvDxIdeal.sig) → Buf (Elt Ideal) ℓ) (g : Dev Cert.InProjQkvDxIdeal.nD → PrngReg)
    (m' : (ℓ : Loc Cert.InProjQkvDxRefIdeal.nD Cert.InProjQkvDxRefIdeal.τ Cert.InProjQkvDxRefIdeal.sig) → Buf (Elt Ideal) ℓ) (g' : Dev Cert.InProjQkvDxRefIdeal.nD → PrngReg), Pre_InProjQkvDxIdeal m →
    (∀ c : Dev Cert.InProjQkvDxIdeal.nD,
      m' ((c.tc : Thread Cert.InProjQkvDxRefIdeal.nD Cert.InProjQkvDxRefIdeal.τ).loc Cert.InProjQkvDxRefIdeal.main_arg0) = m ((c.tc : Thread Cert.InProjQkvDxIdeal.nD Cert.InProjQkvDxIdeal.τ).loc Cert.InProjQkvDxIdeal.main_arg0)
      ∧ m' ((c.tc : Thread Cert.InProjQkvDxRefIdeal.nD Cert.InProjQkvDxRefIdeal.τ).loc Cert.InProjQkvDxRefIdeal.main_arg1) = m ((c.tc : Thread Cert.InProjQkvDxIdeal.nD Cert.InProjQkvDxIdeal.τ).loc Cert.InProjQkvDxIdeal.main_arg1)) →
    ∃ (v0 : (c : Dev Cert.InProjQkvDxIdeal.nD) → Buf (Elt Ideal) ((c.tc : Thread Cert.InProjQkvDxIdeal.nD Cert.InProjQkvDxIdeal.τ).loc Cert.InProjQkvDxIdeal.main_v0)),
      θ_run (Cert.InProjQkvDxIdeal.defs (F := Ideal)) (onTc (τ := Cert.InProjQkvDxIdeal.τ) (Cert.InProjQkvDxIdeal.main (F := Ideal))) ⟨m, fun _ => 0, g⟩ (fun r => ∀ c : Dev Cert.InProjQkvDxIdeal.nD,
          r.2.mem ((c.tc : Thread Cert.InProjQkvDxIdeal.nD Cert.InProjQkvDxIdeal.τ).loc Cert.InProjQkvDxIdeal.main_v0) = v0 c
          ∧ r.2.mem ((c.tc : Thread Cert.InProjQkvDxIdeal.nD Cert.InProjQkvDxIdeal.τ).loc Cert.InProjQkvDxIdeal.main_arg0) = m ((c.tc : Thread Cert.InProjQkvDxIdeal.nD Cert.InProjQkvDxIdeal.τ).loc Cert.InProjQkvDxIdeal.main_arg0)
          ∧ r.2.mem ((c.tc : Thread Cert.InProjQkvDxIdeal.nD Cert.InProjQkvDxIdeal.τ).loc Cert.InProjQkvDxIdeal.main_arg1) = m ((c.tc : Thread Cert.InProjQkvDxIdeal.nD Cert.InProjQkvDxIdeal.τ).loc Cert.InProjQkvDxIdeal.main_arg1))
      ∧ θ_run (Cert.InProjQkvDxRefIdeal.defs (F := Ideal)) (onTc (τ := Cert.InProjQkvDxRefIdeal.τ) (Cert.InProjQkvDxRefIdeal.main (F := Ideal))) ⟨m', fun _ => 0, g'⟩ (fun r => ∀ c : Dev Cert.InProjQkvDxRefIdeal.nD,
          r.2.mem ((c.tc : Thread Cert.InProjQkvDxRefIdeal.nD Cert.InProjQkvDxRefIdeal.τ).loc Cert.InProjQkvDxRefIdeal.main_v4) = v0 c
          ∧ r.2.mem ((c.tc : Thread Cert.InProjQkvDxRefIdeal.nD Cert.InProjQkvDxRefIdeal.τ).loc Cert.InProjQkvDxRefIdeal.main_arg0) = m' ((c.tc : Thread Cert.InProjQkvDxRefIdeal.nD Cert.InProjQkvDxRefIdeal.τ).loc Cert.InProjQkvDxRefIdeal.main_arg0)
          ∧ r.2.mem ((c.tc : Thread Cert.InProjQkvDxRefIdeal.nD Cert.InProjQkvDxRefIdeal.τ).loc Cert.InProjQkvDxRefIdeal.main_arg1) = m' ((c.tc : Thread Cert.InProjQkvDxRefIdeal.nD Cert.InProjQkvDxRefIdeal.τ).loc Cert.InProjQkvDxRefIdeal.main_arg1))

def preserves_InProjQkvDw_InProjQkvDwIdeal : Prop :=
  True

def algebraic_InProjQkvDwIdeal_InProjQkvDwRefIdeal [hInProjQkvDwIdeal : Cert.InProjQkvDwIdeal.Facts] [hInProjQkvDwRefIdeal : Cert.InProjQkvDwRefIdeal.Facts] : Prop :=
  ∀ (m : (ℓ : Loc Cert.InProjQkvDwIdeal.nD Cert.InProjQkvDwIdeal.τ Cert.InProjQkvDwIdeal.sig) → Buf (Elt Ideal) ℓ) (g : Dev Cert.InProjQkvDwIdeal.nD → PrngReg)
    (m' : (ℓ : Loc Cert.InProjQkvDwRefIdeal.nD Cert.InProjQkvDwRefIdeal.τ Cert.InProjQkvDwRefIdeal.sig) → Buf (Elt Ideal) ℓ) (g' : Dev Cert.InProjQkvDwRefIdeal.nD → PrngReg), Pre_InProjQkvDwIdeal m →
    (∀ c : Dev Cert.InProjQkvDwIdeal.nD,
      m' ((c.tc : Thread Cert.InProjQkvDwRefIdeal.nD Cert.InProjQkvDwRefIdeal.τ).loc Cert.InProjQkvDwRefIdeal.main_arg0) = m ((c.tc : Thread Cert.InProjQkvDwIdeal.nD Cert.InProjQkvDwIdeal.τ).loc Cert.InProjQkvDwIdeal.main_arg0)
      ∧ m' ((c.tc : Thread Cert.InProjQkvDwRefIdeal.nD Cert.InProjQkvDwRefIdeal.τ).loc Cert.InProjQkvDwRefIdeal.main_arg1) = m ((c.tc : Thread Cert.InProjQkvDwIdeal.nD Cert.InProjQkvDwIdeal.τ).loc Cert.InProjQkvDwIdeal.main_arg1)) →
    ∃ (v0 : (c : Dev Cert.InProjQkvDwIdeal.nD) → Buf (Elt Ideal) ((c.tc : Thread Cert.InProjQkvDwIdeal.nD Cert.InProjQkvDwIdeal.τ).loc Cert.InProjQkvDwIdeal.main_v0)),
      θ_run (Cert.InProjQkvDwIdeal.defs (F := Ideal)) (onTc (τ := Cert.InProjQkvDwIdeal.τ) (Cert.InProjQkvDwIdeal.main (F := Ideal))) ⟨m, fun _ => 0, g⟩ (fun r => ∀ c : Dev Cert.InProjQkvDwIdeal.nD,
          r.2.mem ((c.tc : Thread Cert.InProjQkvDwIdeal.nD Cert.InProjQkvDwIdeal.τ).loc Cert.InProjQkvDwIdeal.main_v0) = v0 c
          ∧ r.2.mem ((c.tc : Thread Cert.InProjQkvDwIdeal.nD Cert.InProjQkvDwIdeal.τ).loc Cert.InProjQkvDwIdeal.main_arg0) = m ((c.tc : Thread Cert.InProjQkvDwIdeal.nD Cert.InProjQkvDwIdeal.τ).loc Cert.InProjQkvDwIdeal.main_arg0)
          ∧ r.2.mem ((c.tc : Thread Cert.InProjQkvDwIdeal.nD Cert.InProjQkvDwIdeal.τ).loc Cert.InProjQkvDwIdeal.main_arg1) = m ((c.tc : Thread Cert.InProjQkvDwIdeal.nD Cert.InProjQkvDwIdeal.τ).loc Cert.InProjQkvDwIdeal.main_arg1))
      ∧ θ_run (Cert.InProjQkvDwRefIdeal.defs (F := Ideal)) (onTc (τ := Cert.InProjQkvDwRefIdeal.τ) (Cert.InProjQkvDwRefIdeal.main (F := Ideal))) ⟨m', fun _ => 0, g'⟩ (fun r => ∀ c : Dev Cert.InProjQkvDwRefIdeal.nD,
          r.2.mem ((c.tc : Thread Cert.InProjQkvDwRefIdeal.nD Cert.InProjQkvDwRefIdeal.τ).loc Cert.InProjQkvDwRefIdeal.main_v5) = v0 c
          ∧ r.2.mem ((c.tc : Thread Cert.InProjQkvDwRefIdeal.nD Cert.InProjQkvDwRefIdeal.τ).loc Cert.InProjQkvDwRefIdeal.main_arg0) = m' ((c.tc : Thread Cert.InProjQkvDwRefIdeal.nD Cert.InProjQkvDwRefIdeal.τ).loc Cert.InProjQkvDwRefIdeal.main_arg0)
          ∧ r.2.mem ((c.tc : Thread Cert.InProjQkvDwRefIdeal.nD Cert.InProjQkvDwRefIdeal.τ).loc Cert.InProjQkvDwRefIdeal.main_arg1) = m' ((c.tc : Thread Cert.InProjQkvDwRefIdeal.nD Cert.InProjQkvDwRefIdeal.τ).loc Cert.InProjQkvDwRefIdeal.main_arg1))

def preserves_InProjQkv_InProjQkvIdeal : Prop :=
  True

def algebraic_InProjQkvIdeal_InProjQkvRefIdeal [hInProjQkvIdeal : Cert.InProjQkvIdeal.Facts] [hInProjQkvRefIdeal : Cert.InProjQkvRefIdeal.Facts] : Prop :=
  ∀ (m : (ℓ : Loc Cert.InProjQkvIdeal.nD Cert.InProjQkvIdeal.τ Cert.InProjQkvIdeal.sig) → Buf (Elt Ideal) ℓ) (g : Dev Cert.InProjQkvIdeal.nD → PrngReg)
    (m' : (ℓ : Loc Cert.InProjQkvRefIdeal.nD Cert.InProjQkvRefIdeal.τ Cert.InProjQkvRefIdeal.sig) → Buf (Elt Ideal) ℓ) (g' : Dev Cert.InProjQkvRefIdeal.nD → PrngReg), Pre_InProjQkvIdeal m →
    (∀ c : Dev Cert.InProjQkvIdeal.nD,
      m' ((c.tc : Thread Cert.InProjQkvRefIdeal.nD Cert.InProjQkvRefIdeal.τ).loc Cert.InProjQkvRefIdeal.main_arg0) = m ((c.tc : Thread Cert.InProjQkvIdeal.nD Cert.InProjQkvIdeal.τ).loc Cert.InProjQkvIdeal.main_arg0)
      ∧ m' ((c.tc : Thread Cert.InProjQkvRefIdeal.nD Cert.InProjQkvRefIdeal.τ).loc Cert.InProjQkvRefIdeal.main_arg1) = m ((c.tc : Thread Cert.InProjQkvIdeal.nD Cert.InProjQkvIdeal.τ).loc Cert.InProjQkvIdeal.main_arg1)) →
    ∃ (v0 : (c : Dev Cert.InProjQkvIdeal.nD) → Buf (Elt Ideal) ((c.tc : Thread Cert.InProjQkvIdeal.nD Cert.InProjQkvIdeal.τ).loc Cert.InProjQkvIdeal.main_v0)),
      θ_run (Cert.InProjQkvIdeal.defs (F := Ideal)) (onTc (τ := Cert.InProjQkvIdeal.τ) (Cert.InProjQkvIdeal.main (F := Ideal))) ⟨m, fun _ => 0, g⟩ (fun r => ∀ c : Dev Cert.InProjQkvIdeal.nD,
          r.2.mem ((c.tc : Thread Cert.InProjQkvIdeal.nD Cert.InProjQkvIdeal.τ).loc Cert.InProjQkvIdeal.main_v0) = v0 c
          ∧ r.2.mem ((c.tc : Thread Cert.InProjQkvIdeal.nD Cert.InProjQkvIdeal.τ).loc Cert.InProjQkvIdeal.main_arg0) = m ((c.tc : Thread Cert.InProjQkvIdeal.nD Cert.InProjQkvIdeal.τ).loc Cert.InProjQkvIdeal.main_arg0)
          ∧ r.2.mem ((c.tc : Thread Cert.InProjQkvIdeal.nD Cert.InProjQkvIdeal.τ).loc Cert.InProjQkvIdeal.main_arg1) = m ((c.tc : Thread Cert.InProjQkvIdeal.nD Cert.InProjQkvIdeal.τ).loc Cert.InProjQkvIdeal.main_arg1))
      ∧ θ_run (Cert.InProjQkvRefIdeal.defs (F := Ideal)) (onTc (τ := Cert.InProjQkvRefIdeal.τ) (Cert.InProjQkvRefIdeal.main (F := Ideal))) ⟨m', fun _ => 0, g'⟩ (fun r => ∀ c : Dev Cert.InProjQkvRefIdeal.nD,
          r.2.mem ((c.tc : Thread Cert.InProjQkvRefIdeal.nD Cert.InProjQkvRefIdeal.τ).loc Cert.InProjQkvRefIdeal.main_v3) = v0 c
          ∧ r.2.mem ((c.tc : Thread Cert.InProjQkvRefIdeal.nD Cert.InProjQkvRefIdeal.τ).loc Cert.InProjQkvRefIdeal.main_arg0) = m' ((c.tc : Thread Cert.InProjQkvRefIdeal.nD Cert.InProjQkvRefIdeal.τ).loc Cert.InProjQkvRefIdeal.main_arg0)
          ∧ r.2.mem ((c.tc : Thread Cert.InProjQkvRefIdeal.nD Cert.InProjQkvRefIdeal.τ).loc Cert.InProjQkvRefIdeal.main_arg1) = m' ((c.tc : Thread Cert.InProjQkvRefIdeal.nD Cert.InProjQkvRefIdeal.τ).loc Cert.InProjQkvRefIdeal.main_arg1))

def preserves_InProjDtDx_InProjDtDxIdeal : Prop :=
  True

def algebraic_InProjDtDxIdeal_InProjDtDxRefIdeal [hInProjDtDxIdeal : Cert.InProjDtDxIdeal.Facts] [hInProjDtDxRefIdeal : Cert.InProjDtDxRefIdeal.Facts] : Prop :=
  ∀ (m : (ℓ : Loc Cert.InProjDtDxIdeal.nD Cert.InProjDtDxIdeal.τ Cert.InProjDtDxIdeal.sig) → Buf (Elt Ideal) ℓ) (g : Dev Cert.InProjDtDxIdeal.nD → PrngReg)
    (m' : (ℓ : Loc Cert.InProjDtDxRefIdeal.nD Cert.InProjDtDxRefIdeal.τ Cert.InProjDtDxRefIdeal.sig) → Buf (Elt Ideal) ℓ) (g' : Dev Cert.InProjDtDxRefIdeal.nD → PrngReg), Pre_InProjDtDxIdeal m →
    (∀ c : Dev Cert.InProjDtDxIdeal.nD,
      m' ((c.tc : Thread Cert.InProjDtDxRefIdeal.nD Cert.InProjDtDxRefIdeal.τ).loc Cert.InProjDtDxRefIdeal.main_arg0) = m ((c.tc : Thread Cert.InProjDtDxIdeal.nD Cert.InProjDtDxIdeal.τ).loc Cert.InProjDtDxIdeal.main_arg0)
      ∧ m' ((c.tc : Thread Cert.InProjDtDxRefIdeal.nD Cert.InProjDtDxRefIdeal.τ).loc Cert.InProjDtDxRefIdeal.main_arg1) = m ((c.tc : Thread Cert.InProjDtDxIdeal.nD Cert.InProjDtDxIdeal.τ).loc Cert.InProjDtDxIdeal.main_arg1)) →
    ∃ (v0 : (c : Dev Cert.InProjDtDxIdeal.nD) → Buf (Elt Ideal) ((c.tc : Thread Cert.InProjDtDxIdeal.nD Cert.InProjDtDxIdeal.τ).loc Cert.InProjDtDxIdeal.main_v0)),
      θ_run (Cert.InProjDtDxIdeal.defs (F := Ideal)) (onTc (τ := Cert.InProjDtDxIdeal.τ) (Cert.InProjDtDxIdeal.main (F := Ideal))) ⟨m, fun _ => 0, g⟩ (fun r => ∀ c : Dev Cert.InProjDtDxIdeal.nD,
          r.2.mem ((c.tc : Thread Cert.InProjDtDxIdeal.nD Cert.InProjDtDxIdeal.τ).loc Cert.InProjDtDxIdeal.main_v0) = v0 c
          ∧ r.2.mem ((c.tc : Thread Cert.InProjDtDxIdeal.nD Cert.InProjDtDxIdeal.τ).loc Cert.InProjDtDxIdeal.main_arg0) = m ((c.tc : Thread Cert.InProjDtDxIdeal.nD Cert.InProjDtDxIdeal.τ).loc Cert.InProjDtDxIdeal.main_arg0)
          ∧ r.2.mem ((c.tc : Thread Cert.InProjDtDxIdeal.nD Cert.InProjDtDxIdeal.τ).loc Cert.InProjDtDxIdeal.main_arg1) = m ((c.tc : Thread Cert.InProjDtDxIdeal.nD Cert.InProjDtDxIdeal.τ).loc Cert.InProjDtDxIdeal.main_arg1))
      ∧ θ_run (Cert.InProjDtDxRefIdeal.defs (F := Ideal)) (onTc (τ := Cert.InProjDtDxRefIdeal.τ) (Cert.InProjDtDxRefIdeal.main (F := Ideal))) ⟨m', fun _ => 0, g'⟩ (fun r => ∀ c : Dev Cert.InProjDtDxRefIdeal.nD,
          r.2.mem ((c.tc : Thread Cert.InProjDtDxRefIdeal.nD Cert.InProjDtDxRefIdeal.τ).loc Cert.InProjDtDxRefIdeal.main_v3) = v0 c
          ∧ r.2.mem ((c.tc : Thread Cert.InProjDtDxRefIdeal.nD Cert.InProjDtDxRefIdeal.τ).loc Cert.InProjDtDxRefIdeal.main_arg0) = m' ((c.tc : Thread Cert.InProjDtDxRefIdeal.nD Cert.InProjDtDxRefIdeal.τ).loc Cert.InProjDtDxRefIdeal.main_arg0)
          ∧ r.2.mem ((c.tc : Thread Cert.InProjDtDxRefIdeal.nD Cert.InProjDtDxRefIdeal.τ).loc Cert.InProjDtDxRefIdeal.main_arg1) = m' ((c.tc : Thread Cert.InProjDtDxRefIdeal.nD Cert.InProjDtDxRefIdeal.τ).loc Cert.InProjDtDxRefIdeal.main_arg1))

def preserves_InProjDtDw_InProjDtDwIdeal : Prop :=
  True

def algebraic_InProjDtDwIdeal_InProjDtDwRefIdeal [hInProjDtDwIdeal : Cert.InProjDtDwIdeal.Facts] [hInProjDtDwRefIdeal : Cert.InProjDtDwRefIdeal.Facts] : Prop :=
  ∀ (m : (ℓ : Loc Cert.InProjDtDwIdeal.nD Cert.InProjDtDwIdeal.τ Cert.InProjDtDwIdeal.sig) → Buf (Elt Ideal) ℓ) (g : Dev Cert.InProjDtDwIdeal.nD → PrngReg)
    (m' : (ℓ : Loc Cert.InProjDtDwRefIdeal.nD Cert.InProjDtDwRefIdeal.τ Cert.InProjDtDwRefIdeal.sig) → Buf (Elt Ideal) ℓ) (g' : Dev Cert.InProjDtDwRefIdeal.nD → PrngReg), Pre_InProjDtDwIdeal m →
    (∀ c : Dev Cert.InProjDtDwIdeal.nD,
      m' ((c.tc : Thread Cert.InProjDtDwRefIdeal.nD Cert.InProjDtDwRefIdeal.τ).loc Cert.InProjDtDwRefIdeal.main_arg0) = m ((c.tc : Thread Cert.InProjDtDwIdeal.nD Cert.InProjDtDwIdeal.τ).loc Cert.InProjDtDwIdeal.main_arg0)
      ∧ m' ((c.tc : Thread Cert.InProjDtDwRefIdeal.nD Cert.InProjDtDwRefIdeal.τ).loc Cert.InProjDtDwRefIdeal.main_arg1) = m ((c.tc : Thread Cert.InProjDtDwIdeal.nD Cert.InProjDtDwIdeal.τ).loc Cert.InProjDtDwIdeal.main_arg1)) →
    ∃ (v0 : (c : Dev Cert.InProjDtDwIdeal.nD) → Buf (Elt Ideal) ((c.tc : Thread Cert.InProjDtDwIdeal.nD Cert.InProjDtDwIdeal.τ).loc Cert.InProjDtDwIdeal.main_v0)),
      θ_run (Cert.InProjDtDwIdeal.defs (F := Ideal)) (onTc (τ := Cert.InProjDtDwIdeal.τ) (Cert.InProjDtDwIdeal.main (F := Ideal))) ⟨m, fun _ => 0, g⟩ (fun r => ∀ c : Dev Cert.InProjDtDwIdeal.nD,
          r.2.mem ((c.tc : Thread Cert.InProjDtDwIdeal.nD Cert.InProjDtDwIdeal.τ).loc Cert.InProjDtDwIdeal.main_v0) = v0 c
          ∧ r.2.mem ((c.tc : Thread Cert.InProjDtDwIdeal.nD Cert.InProjDtDwIdeal.τ).loc Cert.InProjDtDwIdeal.main_arg0) = m ((c.tc : Thread Cert.InProjDtDwIdeal.nD Cert.InProjDtDwIdeal.τ).loc Cert.InProjDtDwIdeal.main_arg0)
          ∧ r.2.mem ((c.tc : Thread Cert.InProjDtDwIdeal.nD Cert.InProjDtDwIdeal.τ).loc Cert.InProjDtDwIdeal.main_arg1) = m ((c.tc : Thread Cert.InProjDtDwIdeal.nD Cert.InProjDtDwIdeal.τ).loc Cert.InProjDtDwIdeal.main_arg1))
      ∧ θ_run (Cert.InProjDtDwRefIdeal.defs (F := Ideal)) (onTc (τ := Cert.InProjDtDwRefIdeal.τ) (Cert.InProjDtDwRefIdeal.main (F := Ideal))) ⟨m', fun _ => 0, g'⟩ (fun r => ∀ c : Dev Cert.InProjDtDwRefIdeal.nD,
          r.2.mem ((c.tc : Thread Cert.InProjDtDwRefIdeal.nD Cert.InProjDtDwRefIdeal.τ).loc Cert.InProjDtDwRefIdeal.main_v4) = v0 c
          ∧ r.2.mem ((c.tc : Thread Cert.InProjDtDwRefIdeal.nD Cert.InProjDtDwRefIdeal.τ).loc Cert.InProjDtDwRefIdeal.main_arg0) = m' ((c.tc : Thread Cert.InProjDtDwRefIdeal.nD Cert.InProjDtDwRefIdeal.τ).loc Cert.InProjDtDwRefIdeal.main_arg0)
          ∧ r.2.mem ((c.tc : Thread Cert.InProjDtDwRefIdeal.nD Cert.InProjDtDwRefIdeal.τ).loc Cert.InProjDtDwRefIdeal.main_arg1) = m' ((c.tc : Thread Cert.InProjDtDwRefIdeal.nD Cert.InProjDtDwRefIdeal.τ).loc Cert.InProjDtDwRefIdeal.main_arg1))

def preserves_InProjDt_InProjDtIdeal : Prop :=
  True

def algebraic_InProjDtIdeal_InProjDtRefIdeal [hInProjDtIdeal : Cert.InProjDtIdeal.Facts] [hInProjDtRefIdeal : Cert.InProjDtRefIdeal.Facts] : Prop :=
  ∀ (m : (ℓ : Loc Cert.InProjDtIdeal.nD Cert.InProjDtIdeal.τ Cert.InProjDtIdeal.sig) → Buf (Elt Ideal) ℓ) (g : Dev Cert.InProjDtIdeal.nD → PrngReg)
    (m' : (ℓ : Loc Cert.InProjDtRefIdeal.nD Cert.InProjDtRefIdeal.τ Cert.InProjDtRefIdeal.sig) → Buf (Elt Ideal) ℓ) (g' : Dev Cert.InProjDtRefIdeal.nD → PrngReg), Pre_InProjDtIdeal m →
    (∀ c : Dev Cert.InProjDtIdeal.nD,
      m' ((c.tc : Thread Cert.InProjDtRefIdeal.nD Cert.InProjDtRefIdeal.τ).loc Cert.InProjDtRefIdeal.main_arg0) = m ((c.tc : Thread Cert.InProjDtIdeal.nD Cert.InProjDtIdeal.τ).loc Cert.InProjDtIdeal.main_arg0)
      ∧ m' ((c.tc : Thread Cert.InProjDtRefIdeal.nD Cert.InProjDtRefIdeal.τ).loc Cert.InProjDtRefIdeal.main_arg1) = m ((c.tc : Thread Cert.InProjDtIdeal.nD Cert.InProjDtIdeal.τ).loc Cert.InProjDtIdeal.main_arg1)) →
    ∃ (v0 : (c : Dev Cert.InProjDtIdeal.nD) → Buf (Elt Ideal) ((c.tc : Thread Cert.InProjDtIdeal.nD Cert.InProjDtIdeal.τ).loc Cert.InProjDtIdeal.main_v0)),
      θ_run (Cert.InProjDtIdeal.defs (F := Ideal)) (onTc (τ := Cert.InProjDtIdeal.τ) (Cert.InProjDtIdeal.main (F := Ideal))) ⟨m, fun _ => 0, g⟩ (fun r => ∀ c : Dev Cert.InProjDtIdeal.nD,
          r.2.mem ((c.tc : Thread Cert.InProjDtIdeal.nD Cert.InProjDtIdeal.τ).loc Cert.InProjDtIdeal.main_v0) = v0 c
          ∧ r.2.mem ((c.tc : Thread Cert.InProjDtIdeal.nD Cert.InProjDtIdeal.τ).loc Cert.InProjDtIdeal.main_arg0) = m ((c.tc : Thread Cert.InProjDtIdeal.nD Cert.InProjDtIdeal.τ).loc Cert.InProjDtIdeal.main_arg0)
          ∧ r.2.mem ((c.tc : Thread Cert.InProjDtIdeal.nD Cert.InProjDtIdeal.τ).loc Cert.InProjDtIdeal.main_arg1) = m ((c.tc : Thread Cert.InProjDtIdeal.nD Cert.InProjDtIdeal.τ).loc Cert.InProjDtIdeal.main_arg1))
      ∧ θ_run (Cert.InProjDtRefIdeal.defs (F := Ideal)) (onTc (τ := Cert.InProjDtRefIdeal.τ) (Cert.InProjDtRefIdeal.main (F := Ideal))) ⟨m', fun _ => 0, g'⟩ (fun r => ∀ c : Dev Cert.InProjDtRefIdeal.nD,
          r.2.mem ((c.tc : Thread Cert.InProjDtRefIdeal.nD Cert.InProjDtRefIdeal.τ).loc Cert.InProjDtRefIdeal.main_v2) = v0 c
          ∧ r.2.mem ((c.tc : Thread Cert.InProjDtRefIdeal.nD Cert.InProjDtRefIdeal.τ).loc Cert.InProjDtRefIdeal.main_arg0) = m' ((c.tc : Thread Cert.InProjDtRefIdeal.nD Cert.InProjDtRefIdeal.τ).loc Cert.InProjDtRefIdeal.main_arg0)
          ∧ r.2.mem ((c.tc : Thread Cert.InProjDtRefIdeal.nD Cert.InProjDtRefIdeal.τ).loc Cert.InProjDtRefIdeal.main_arg1) = m' ((c.tc : Thread Cert.InProjDtRefIdeal.nD Cert.InProjDtRefIdeal.τ).loc Cert.InProjDtRefIdeal.main_arg1))

def preserves_AttnBranchDx_AttnBranchDxIdeal : Prop :=
  True

def algebraic_AttnBranchDxIdeal_AttnBranchDxRefIdeal [hAttnBranchDxIdeal : Cert.AttnBranchDxIdeal.Facts] [hAttnBranchDxRefIdeal : Cert.AttnBranchDxRefIdeal.Facts] : Prop :=
  ∀ (m : (ℓ : Loc Cert.AttnBranchDxIdeal.nD Cert.AttnBranchDxIdeal.τ Cert.AttnBranchDxIdeal.sig) → Buf (Elt Ideal) ℓ) (g : Dev Cert.AttnBranchDxIdeal.nD → PrngReg)
    (m' : (ℓ : Loc Cert.AttnBranchDxRefIdeal.nD Cert.AttnBranchDxRefIdeal.τ Cert.AttnBranchDxRefIdeal.sig) → Buf (Elt Ideal) ℓ) (g' : Dev Cert.AttnBranchDxRefIdeal.nD → PrngReg), Pre_AttnBranchDxIdeal m →
    (∀ c : Dev Cert.AttnBranchDxIdeal.nD,
      m' ((c.tc : Thread Cert.AttnBranchDxRefIdeal.nD Cert.AttnBranchDxRefIdeal.τ).loc Cert.AttnBranchDxRefIdeal.main_arg0) = m ((c.tc : Thread Cert.AttnBranchDxIdeal.nD Cert.AttnBranchDxIdeal.τ).loc Cert.AttnBranchDxIdeal.main_arg0)
      ∧ m' ((c.tc : Thread Cert.AttnBranchDxRefIdeal.nD Cert.AttnBranchDxRefIdeal.τ).loc Cert.AttnBranchDxRefIdeal.main_arg1) = m ((c.tc : Thread Cert.AttnBranchDxIdeal.nD Cert.AttnBranchDxIdeal.τ).loc Cert.AttnBranchDxIdeal.main_arg1)) →
    ∃ (v0 : (c : Dev Cert.AttnBranchDxIdeal.nD) → Buf (Elt Ideal) ((c.tc : Thread Cert.AttnBranchDxIdeal.nD Cert.AttnBranchDxIdeal.τ).loc Cert.AttnBranchDxIdeal.main_v0)),
      θ_run (Cert.AttnBranchDxIdeal.defs (F := Ideal)) (onTc (τ := Cert.AttnBranchDxIdeal.τ) (Cert.AttnBranchDxIdeal.main (F := Ideal))) ⟨m, fun _ => 0, g⟩ (fun r => ∀ c : Dev Cert.AttnBranchDxIdeal.nD,
          r.2.mem ((c.tc : Thread Cert.AttnBranchDxIdeal.nD Cert.AttnBranchDxIdeal.τ).loc Cert.AttnBranchDxIdeal.main_v0) = v0 c
          ∧ r.2.mem ((c.tc : Thread Cert.AttnBranchDxIdeal.nD Cert.AttnBranchDxIdeal.τ).loc Cert.AttnBranchDxIdeal.main_arg0) = m ((c.tc : Thread Cert.AttnBranchDxIdeal.nD Cert.AttnBranchDxIdeal.τ).loc Cert.AttnBranchDxIdeal.main_arg0)
          ∧ r.2.mem ((c.tc : Thread Cert.AttnBranchDxIdeal.nD Cert.AttnBranchDxIdeal.τ).loc Cert.AttnBranchDxIdeal.main_arg1) = m ((c.tc : Thread Cert.AttnBranchDxIdeal.nD Cert.AttnBranchDxIdeal.τ).loc Cert.AttnBranchDxIdeal.main_arg1))
      ∧ θ_run (Cert.AttnBranchDxRefIdeal.defs (F := Ideal)) (onTc (τ := Cert.AttnBranchDxRefIdeal.τ) (Cert.AttnBranchDxRefIdeal.main (F := Ideal))) ⟨m', fun _ => 0, g'⟩ (fun r => ∀ c : Dev Cert.AttnBranchDxRefIdeal.nD,
          r.2.mem ((c.tc : Thread Cert.AttnBranchDxRefIdeal.nD Cert.AttnBranchDxRefIdeal.τ).loc Cert.AttnBranchDxRefIdeal.main_v4) = v0 c
          ∧ r.2.mem ((c.tc : Thread Cert.AttnBranchDxRefIdeal.nD Cert.AttnBranchDxRefIdeal.τ).loc Cert.AttnBranchDxRefIdeal.main_arg0) = m' ((c.tc : Thread Cert.AttnBranchDxRefIdeal.nD Cert.AttnBranchDxRefIdeal.τ).loc Cert.AttnBranchDxRefIdeal.main_arg0)
          ∧ r.2.mem ((c.tc : Thread Cert.AttnBranchDxRefIdeal.nD Cert.AttnBranchDxRefIdeal.τ).loc Cert.AttnBranchDxRefIdeal.main_arg1) = m' ((c.tc : Thread Cert.AttnBranchDxRefIdeal.nD Cert.AttnBranchDxRefIdeal.τ).loc Cert.AttnBranchDxRefIdeal.main_arg1))

def preserves_AttnBranchDw_AttnBranchDwIdeal : Prop :=
  True

def algebraic_AttnBranchDwIdeal_AttnBranchDwRefIdeal [hAttnBranchDwIdeal : Cert.AttnBranchDwIdeal.Facts] [hAttnBranchDwRefIdeal : Cert.AttnBranchDwRefIdeal.Facts] : Prop :=
  ∀ (m : (ℓ : Loc Cert.AttnBranchDwIdeal.nD Cert.AttnBranchDwIdeal.τ Cert.AttnBranchDwIdeal.sig) → Buf (Elt Ideal) ℓ) (g : Dev Cert.AttnBranchDwIdeal.nD → PrngReg)
    (m' : (ℓ : Loc Cert.AttnBranchDwRefIdeal.nD Cert.AttnBranchDwRefIdeal.τ Cert.AttnBranchDwRefIdeal.sig) → Buf (Elt Ideal) ℓ) (g' : Dev Cert.AttnBranchDwRefIdeal.nD → PrngReg), Pre_AttnBranchDwIdeal m →
    (∀ c : Dev Cert.AttnBranchDwIdeal.nD,
      m' ((c.tc : Thread Cert.AttnBranchDwRefIdeal.nD Cert.AttnBranchDwRefIdeal.τ).loc Cert.AttnBranchDwRefIdeal.main_arg0) = m ((c.tc : Thread Cert.AttnBranchDwIdeal.nD Cert.AttnBranchDwIdeal.τ).loc Cert.AttnBranchDwIdeal.main_arg0)
      ∧ m' ((c.tc : Thread Cert.AttnBranchDwRefIdeal.nD Cert.AttnBranchDwRefIdeal.τ).loc Cert.AttnBranchDwRefIdeal.main_arg1) = m ((c.tc : Thread Cert.AttnBranchDwIdeal.nD Cert.AttnBranchDwIdeal.τ).loc Cert.AttnBranchDwIdeal.main_arg1)) →
    ∃ (v0 : (c : Dev Cert.AttnBranchDwIdeal.nD) → Buf (Elt Ideal) ((c.tc : Thread Cert.AttnBranchDwIdeal.nD Cert.AttnBranchDwIdeal.τ).loc Cert.AttnBranchDwIdeal.main_v0)),
      θ_run (Cert.AttnBranchDwIdeal.defs (F := Ideal)) (onTc (τ := Cert.AttnBranchDwIdeal.τ) (Cert.AttnBranchDwIdeal.main (F := Ideal))) ⟨m, fun _ => 0, g⟩ (fun r => ∀ c : Dev Cert.AttnBranchDwIdeal.nD,
          r.2.mem ((c.tc : Thread Cert.AttnBranchDwIdeal.nD Cert.AttnBranchDwIdeal.τ).loc Cert.AttnBranchDwIdeal.main_v0) = v0 c
          ∧ r.2.mem ((c.tc : Thread Cert.AttnBranchDwIdeal.nD Cert.AttnBranchDwIdeal.τ).loc Cert.AttnBranchDwIdeal.main_arg0) = m ((c.tc : Thread Cert.AttnBranchDwIdeal.nD Cert.AttnBranchDwIdeal.τ).loc Cert.AttnBranchDwIdeal.main_arg0)
          ∧ r.2.mem ((c.tc : Thread Cert.AttnBranchDwIdeal.nD Cert.AttnBranchDwIdeal.τ).loc Cert.AttnBranchDwIdeal.main_arg1) = m ((c.tc : Thread Cert.AttnBranchDwIdeal.nD Cert.AttnBranchDwIdeal.τ).loc Cert.AttnBranchDwIdeal.main_arg1))
      ∧ θ_run (Cert.AttnBranchDwRefIdeal.defs (F := Ideal)) (onTc (τ := Cert.AttnBranchDwRefIdeal.τ) (Cert.AttnBranchDwRefIdeal.main (F := Ideal))) ⟨m', fun _ => 0, g'⟩ (fun r => ∀ c : Dev Cert.AttnBranchDwRefIdeal.nD,
          r.2.mem ((c.tc : Thread Cert.AttnBranchDwRefIdeal.nD Cert.AttnBranchDwRefIdeal.τ).loc Cert.AttnBranchDwRefIdeal.main_v5) = v0 c
          ∧ r.2.mem ((c.tc : Thread Cert.AttnBranchDwRefIdeal.nD Cert.AttnBranchDwRefIdeal.τ).loc Cert.AttnBranchDwRefIdeal.main_arg0) = m' ((c.tc : Thread Cert.AttnBranchDwRefIdeal.nD Cert.AttnBranchDwRefIdeal.τ).loc Cert.AttnBranchDwRefIdeal.main_arg0)
          ∧ r.2.mem ((c.tc : Thread Cert.AttnBranchDwRefIdeal.nD Cert.AttnBranchDwRefIdeal.τ).loc Cert.AttnBranchDwRefIdeal.main_arg1) = m' ((c.tc : Thread Cert.AttnBranchDwRefIdeal.nD Cert.AttnBranchDwRefIdeal.τ).loc Cert.AttnBranchDwRefIdeal.main_arg1))

def preserves_AttnBranch_AttnBranchIdeal : Prop :=
  True

def algebraic_AttnBranchIdeal_AttnBranchRefIdeal [hAttnBranchIdeal : Cert.AttnBranchIdeal.Facts] [hAttnBranchRefIdeal : Cert.AttnBranchRefIdeal.Facts] : Prop :=
  ∀ (m : (ℓ : Loc Cert.AttnBranchIdeal.nD Cert.AttnBranchIdeal.τ Cert.AttnBranchIdeal.sig) → Buf (Elt Ideal) ℓ) (g : Dev Cert.AttnBranchIdeal.nD → PrngReg)
    (m' : (ℓ : Loc Cert.AttnBranchRefIdeal.nD Cert.AttnBranchRefIdeal.τ Cert.AttnBranchRefIdeal.sig) → Buf (Elt Ideal) ℓ) (g' : Dev Cert.AttnBranchRefIdeal.nD → PrngReg), Pre_AttnBranchIdeal m →
    (∀ c : Dev Cert.AttnBranchIdeal.nD,
      m' ((c.tc : Thread Cert.AttnBranchRefIdeal.nD Cert.AttnBranchRefIdeal.τ).loc Cert.AttnBranchRefIdeal.main_arg0) = m ((c.tc : Thread Cert.AttnBranchIdeal.nD Cert.AttnBranchIdeal.τ).loc Cert.AttnBranchIdeal.main_arg0)
      ∧ m' ((c.tc : Thread Cert.AttnBranchRefIdeal.nD Cert.AttnBranchRefIdeal.τ).loc Cert.AttnBranchRefIdeal.main_arg1) = m ((c.tc : Thread Cert.AttnBranchIdeal.nD Cert.AttnBranchIdeal.τ).loc Cert.AttnBranchIdeal.main_arg1)) →
    ∃ (v0 : (c : Dev Cert.AttnBranchIdeal.nD) → Buf (Elt Ideal) ((c.tc : Thread Cert.AttnBranchIdeal.nD Cert.AttnBranchIdeal.τ).loc Cert.AttnBranchIdeal.main_v0)),
      θ_run (Cert.AttnBranchIdeal.defs (F := Ideal)) (onTc (τ := Cert.AttnBranchIdeal.τ) (Cert.AttnBranchIdeal.main (F := Ideal))) ⟨m, fun _ => 0, g⟩ (fun r => ∀ c : Dev Cert.AttnBranchIdeal.nD,
          r.2.mem ((c.tc : Thread Cert.AttnBranchIdeal.nD Cert.AttnBranchIdeal.τ).loc Cert.AttnBranchIdeal.main_v0) = v0 c
          ∧ r.2.mem ((c.tc : Thread Cert.AttnBranchIdeal.nD Cert.AttnBranchIdeal.τ).loc Cert.AttnBranchIdeal.main_arg0) = m ((c.tc : Thread Cert.AttnBranchIdeal.nD Cert.AttnBranchIdeal.τ).loc Cert.AttnBranchIdeal.main_arg0)
          ∧ r.2.mem ((c.tc : Thread Cert.AttnBranchIdeal.nD Cert.AttnBranchIdeal.τ).loc Cert.AttnBranchIdeal.main_arg1) = m ((c.tc : Thread Cert.AttnBranchIdeal.nD Cert.AttnBranchIdeal.τ).loc Cert.AttnBranchIdeal.main_arg1))
      ∧ θ_run (Cert.AttnBranchRefIdeal.defs (F := Ideal)) (onTc (τ := Cert.AttnBranchRefIdeal.τ) (Cert.AttnBranchRefIdeal.main (F := Ideal))) ⟨m', fun _ => 0, g'⟩ (fun r => ∀ c : Dev Cert.AttnBranchRefIdeal.nD,
          r.2.mem ((c.tc : Thread Cert.AttnBranchRefIdeal.nD Cert.AttnBranchRefIdeal.τ).loc Cert.AttnBranchRefIdeal.main_v2) = v0 c
          ∧ r.2.mem ((c.tc : Thread Cert.AttnBranchRefIdeal.nD Cert.AttnBranchRefIdeal.τ).loc Cert.AttnBranchRefIdeal.main_arg0) = m' ((c.tc : Thread Cert.AttnBranchRefIdeal.nD Cert.AttnBranchRefIdeal.τ).loc Cert.AttnBranchRefIdeal.main_arg0)
          ∧ r.2.mem ((c.tc : Thread Cert.AttnBranchRefIdeal.nD Cert.AttnBranchRefIdeal.τ).loc Cert.AttnBranchRefIdeal.main_arg1) = m' ((c.tc : Thread Cert.AttnBranchRefIdeal.nD Cert.AttnBranchRefIdeal.τ).loc Cert.AttnBranchRefIdeal.main_arg1))

def preserves_SsmBranchDx_SsmBranchDxIdeal : Prop :=
  True

def algebraic_SsmBranchDxIdeal_SsmBranchDxRefIdeal [hSsmBranchDxIdeal : Cert.SsmBranchDxIdeal.Facts] [hSsmBranchDxRefIdeal : Cert.SsmBranchDxRefIdeal.Facts] : Prop :=
  ∀ (m : (ℓ : Loc Cert.SsmBranchDxIdeal.nD Cert.SsmBranchDxIdeal.τ Cert.SsmBranchDxIdeal.sig) → Buf (Elt Ideal) ℓ) (g : Dev Cert.SsmBranchDxIdeal.nD → PrngReg)
    (m' : (ℓ : Loc Cert.SsmBranchDxRefIdeal.nD Cert.SsmBranchDxRefIdeal.τ Cert.SsmBranchDxRefIdeal.sig) → Buf (Elt Ideal) ℓ) (g' : Dev Cert.SsmBranchDxRefIdeal.nD → PrngReg), Pre_SsmBranchDxIdeal m →
    (∀ c : Dev Cert.SsmBranchDxIdeal.nD,
      m' ((c.tc : Thread Cert.SsmBranchDxRefIdeal.nD Cert.SsmBranchDxRefIdeal.τ).loc Cert.SsmBranchDxRefIdeal.main_arg0) = m ((c.tc : Thread Cert.SsmBranchDxIdeal.nD Cert.SsmBranchDxIdeal.τ).loc Cert.SsmBranchDxIdeal.main_arg0)
      ∧ m' ((c.tc : Thread Cert.SsmBranchDxRefIdeal.nD Cert.SsmBranchDxRefIdeal.τ).loc Cert.SsmBranchDxRefIdeal.main_arg1) = m ((c.tc : Thread Cert.SsmBranchDxIdeal.nD Cert.SsmBranchDxIdeal.τ).loc Cert.SsmBranchDxIdeal.main_arg1)) →
    ∃ (v0 : (c : Dev Cert.SsmBranchDxIdeal.nD) → Buf (Elt Ideal) ((c.tc : Thread Cert.SsmBranchDxIdeal.nD Cert.SsmBranchDxIdeal.τ).loc Cert.SsmBranchDxIdeal.main_v0)),
      θ_run (Cert.SsmBranchDxIdeal.defs (F := Ideal)) (onTc (τ := Cert.SsmBranchDxIdeal.τ) (Cert.SsmBranchDxIdeal.main (F := Ideal))) ⟨m, fun _ => 0, g⟩ (fun r => ∀ c : Dev Cert.SsmBranchDxIdeal.nD,
          r.2.mem ((c.tc : Thread Cert.SsmBranchDxIdeal.nD Cert.SsmBranchDxIdeal.τ).loc Cert.SsmBranchDxIdeal.main_v0) = v0 c
          ∧ r.2.mem ((c.tc : Thread Cert.SsmBranchDxIdeal.nD Cert.SsmBranchDxIdeal.τ).loc Cert.SsmBranchDxIdeal.main_arg0) = m ((c.tc : Thread Cert.SsmBranchDxIdeal.nD Cert.SsmBranchDxIdeal.τ).loc Cert.SsmBranchDxIdeal.main_arg0)
          ∧ r.2.mem ((c.tc : Thread Cert.SsmBranchDxIdeal.nD Cert.SsmBranchDxIdeal.τ).loc Cert.SsmBranchDxIdeal.main_arg1) = m ((c.tc : Thread Cert.SsmBranchDxIdeal.nD Cert.SsmBranchDxIdeal.τ).loc Cert.SsmBranchDxIdeal.main_arg1))
      ∧ θ_run (Cert.SsmBranchDxRefIdeal.defs (F := Ideal)) (onTc (τ := Cert.SsmBranchDxRefIdeal.τ) (Cert.SsmBranchDxRefIdeal.main (F := Ideal))) ⟨m', fun _ => 0, g'⟩ (fun r => ∀ c : Dev Cert.SsmBranchDxRefIdeal.nD,
          r.2.mem ((c.tc : Thread Cert.SsmBranchDxRefIdeal.nD Cert.SsmBranchDxRefIdeal.τ).loc Cert.SsmBranchDxRefIdeal.main_v4) = v0 c
          ∧ r.2.mem ((c.tc : Thread Cert.SsmBranchDxRefIdeal.nD Cert.SsmBranchDxRefIdeal.τ).loc Cert.SsmBranchDxRefIdeal.main_arg0) = m' ((c.tc : Thread Cert.SsmBranchDxRefIdeal.nD Cert.SsmBranchDxRefIdeal.τ).loc Cert.SsmBranchDxRefIdeal.main_arg0)
          ∧ r.2.mem ((c.tc : Thread Cert.SsmBranchDxRefIdeal.nD Cert.SsmBranchDxRefIdeal.τ).loc Cert.SsmBranchDxRefIdeal.main_arg1) = m' ((c.tc : Thread Cert.SsmBranchDxRefIdeal.nD Cert.SsmBranchDxRefIdeal.τ).loc Cert.SsmBranchDxRefIdeal.main_arg1))

def preserves_SsmBranchDw_SsmBranchDwIdeal : Prop :=
  True

def algebraic_SsmBranchDwIdeal_SsmBranchDwRefIdeal [hSsmBranchDwIdeal : Cert.SsmBranchDwIdeal.Facts] [hSsmBranchDwRefIdeal : Cert.SsmBranchDwRefIdeal.Facts] : Prop :=
  ∀ (m : (ℓ : Loc Cert.SsmBranchDwIdeal.nD Cert.SsmBranchDwIdeal.τ Cert.SsmBranchDwIdeal.sig) → Buf (Elt Ideal) ℓ) (g : Dev Cert.SsmBranchDwIdeal.nD → PrngReg)
    (m' : (ℓ : Loc Cert.SsmBranchDwRefIdeal.nD Cert.SsmBranchDwRefIdeal.τ Cert.SsmBranchDwRefIdeal.sig) → Buf (Elt Ideal) ℓ) (g' : Dev Cert.SsmBranchDwRefIdeal.nD → PrngReg), Pre_SsmBranchDwIdeal m →
    (∀ c : Dev Cert.SsmBranchDwIdeal.nD,
      m' ((c.tc : Thread Cert.SsmBranchDwRefIdeal.nD Cert.SsmBranchDwRefIdeal.τ).loc Cert.SsmBranchDwRefIdeal.main_arg0) = m ((c.tc : Thread Cert.SsmBranchDwIdeal.nD Cert.SsmBranchDwIdeal.τ).loc Cert.SsmBranchDwIdeal.main_arg0)
      ∧ m' ((c.tc : Thread Cert.SsmBranchDwRefIdeal.nD Cert.SsmBranchDwRefIdeal.τ).loc Cert.SsmBranchDwRefIdeal.main_arg1) = m ((c.tc : Thread Cert.SsmBranchDwIdeal.nD Cert.SsmBranchDwIdeal.τ).loc Cert.SsmBranchDwIdeal.main_arg1)) →
    ∃ (v0 : (c : Dev Cert.SsmBranchDwIdeal.nD) → Buf (Elt Ideal) ((c.tc : Thread Cert.SsmBranchDwIdeal.nD Cert.SsmBranchDwIdeal.τ).loc Cert.SsmBranchDwIdeal.main_v0)),
      θ_run (Cert.SsmBranchDwIdeal.defs (F := Ideal)) (onTc (τ := Cert.SsmBranchDwIdeal.τ) (Cert.SsmBranchDwIdeal.main (F := Ideal))) ⟨m, fun _ => 0, g⟩ (fun r => ∀ c : Dev Cert.SsmBranchDwIdeal.nD,
          r.2.mem ((c.tc : Thread Cert.SsmBranchDwIdeal.nD Cert.SsmBranchDwIdeal.τ).loc Cert.SsmBranchDwIdeal.main_v0) = v0 c
          ∧ r.2.mem ((c.tc : Thread Cert.SsmBranchDwIdeal.nD Cert.SsmBranchDwIdeal.τ).loc Cert.SsmBranchDwIdeal.main_arg0) = m ((c.tc : Thread Cert.SsmBranchDwIdeal.nD Cert.SsmBranchDwIdeal.τ).loc Cert.SsmBranchDwIdeal.main_arg0)
          ∧ r.2.mem ((c.tc : Thread Cert.SsmBranchDwIdeal.nD Cert.SsmBranchDwIdeal.τ).loc Cert.SsmBranchDwIdeal.main_arg1) = m ((c.tc : Thread Cert.SsmBranchDwIdeal.nD Cert.SsmBranchDwIdeal.τ).loc Cert.SsmBranchDwIdeal.main_arg1))
      ∧ θ_run (Cert.SsmBranchDwRefIdeal.defs (F := Ideal)) (onTc (τ := Cert.SsmBranchDwRefIdeal.τ) (Cert.SsmBranchDwRefIdeal.main (F := Ideal))) ⟨m', fun _ => 0, g'⟩ (fun r => ∀ c : Dev Cert.SsmBranchDwRefIdeal.nD,
          r.2.mem ((c.tc : Thread Cert.SsmBranchDwRefIdeal.nD Cert.SsmBranchDwRefIdeal.τ).loc Cert.SsmBranchDwRefIdeal.main_v5) = v0 c
          ∧ r.2.mem ((c.tc : Thread Cert.SsmBranchDwRefIdeal.nD Cert.SsmBranchDwRefIdeal.τ).loc Cert.SsmBranchDwRefIdeal.main_arg0) = m' ((c.tc : Thread Cert.SsmBranchDwRefIdeal.nD Cert.SsmBranchDwRefIdeal.τ).loc Cert.SsmBranchDwRefIdeal.main_arg0)
          ∧ r.2.mem ((c.tc : Thread Cert.SsmBranchDwRefIdeal.nD Cert.SsmBranchDwRefIdeal.τ).loc Cert.SsmBranchDwRefIdeal.main_arg1) = m' ((c.tc : Thread Cert.SsmBranchDwRefIdeal.nD Cert.SsmBranchDwRefIdeal.τ).loc Cert.SsmBranchDwRefIdeal.main_arg1))

def preserves_SsmBranch_SsmBranchIdeal : Prop :=
  True

def algebraic_SsmBranchIdeal_SsmBranchRefIdeal [hSsmBranchIdeal : Cert.SsmBranchIdeal.Facts] [hSsmBranchRefIdeal : Cert.SsmBranchRefIdeal.Facts] : Prop :=
  ∀ (m : (ℓ : Loc Cert.SsmBranchIdeal.nD Cert.SsmBranchIdeal.τ Cert.SsmBranchIdeal.sig) → Buf (Elt Ideal) ℓ) (g : Dev Cert.SsmBranchIdeal.nD → PrngReg)
    (m' : (ℓ : Loc Cert.SsmBranchRefIdeal.nD Cert.SsmBranchRefIdeal.τ Cert.SsmBranchRefIdeal.sig) → Buf (Elt Ideal) ℓ) (g' : Dev Cert.SsmBranchRefIdeal.nD → PrngReg), Pre_SsmBranchIdeal m →
    (∀ c : Dev Cert.SsmBranchIdeal.nD,
      m' ((c.tc : Thread Cert.SsmBranchRefIdeal.nD Cert.SsmBranchRefIdeal.τ).loc Cert.SsmBranchRefIdeal.main_arg0) = m ((c.tc : Thread Cert.SsmBranchIdeal.nD Cert.SsmBranchIdeal.τ).loc Cert.SsmBranchIdeal.main_arg0)
      ∧ m' ((c.tc : Thread Cert.SsmBranchRefIdeal.nD Cert.SsmBranchRefIdeal.τ).loc Cert.SsmBranchRefIdeal.main_arg1) = m ((c.tc : Thread Cert.SsmBranchIdeal.nD Cert.SsmBranchIdeal.τ).loc Cert.SsmBranchIdeal.main_arg1)) →
    ∃ (v0 : (c : Dev Cert.SsmBranchIdeal.nD) → Buf (Elt Ideal) ((c.tc : Thread Cert.SsmBranchIdeal.nD Cert.SsmBranchIdeal.τ).loc Cert.SsmBranchIdeal.main_v0)),
      θ_run (Cert.SsmBranchIdeal.defs (F := Ideal)) (onTc (τ := Cert.SsmBranchIdeal.τ) (Cert.SsmBranchIdeal.main (F := Ideal))) ⟨m, fun _ => 0, g⟩ (fun r => ∀ c : Dev Cert.SsmBranchIdeal.nD,
          r.2.mem ((c.tc : Thread Cert.SsmBranchIdeal.nD Cert.SsmBranchIdeal.τ).loc Cert.SsmBranchIdeal.main_v0) = v0 c
          ∧ r.2.mem ((c.tc : Thread Cert.SsmBranchIdeal.nD Cert.SsmBranchIdeal.τ).loc Cert.SsmBranchIdeal.main_arg0) = m ((c.tc : Thread Cert.SsmBranchIdeal.nD Cert.SsmBranchIdeal.τ).loc Cert.SsmBranchIdeal.main_arg0)
          ∧ r.2.mem ((c.tc : Thread Cert.SsmBranchIdeal.nD Cert.SsmBranchIdeal.τ).loc Cert.SsmBranchIdeal.main_arg1) = m ((c.tc : Thread Cert.SsmBranchIdeal.nD Cert.SsmBranchIdeal.τ).loc Cert.SsmBranchIdeal.main_arg1))
      ∧ θ_run (Cert.SsmBranchRefIdeal.defs (F := Ideal)) (onTc (τ := Cert.SsmBranchRefIdeal.τ) (Cert.SsmBranchRefIdeal.main (F := Ideal))) ⟨m', fun _ => 0, g'⟩ (fun r => ∀ c : Dev Cert.SsmBranchRefIdeal.nD,
          r.2.mem ((c.tc : Thread Cert.SsmBranchRefIdeal.nD Cert.SsmBranchRefIdeal.τ).loc Cert.SsmBranchRefIdeal.main_v2) = v0 c
          ∧ r.2.mem ((c.tc : Thread Cert.SsmBranchRefIdeal.nD Cert.SsmBranchRefIdeal.τ).loc Cert.SsmBranchRefIdeal.main_arg0) = m' ((c.tc : Thread Cert.SsmBranchRefIdeal.nD Cert.SsmBranchRefIdeal.τ).loc Cert.SsmBranchRefIdeal.main_arg0)
          ∧ r.2.mem ((c.tc : Thread Cert.SsmBranchRefIdeal.nD Cert.SsmBranchRefIdeal.τ).loc Cert.SsmBranchRefIdeal.main_arg1) = m' ((c.tc : Thread Cert.SsmBranchRefIdeal.nD Cert.SsmBranchRefIdeal.τ).loc Cert.SsmBranchRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v3) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v4) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v3) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v4) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v4) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v90) = v0 c
          ∧ r.2.mem ((c.tc : Thread Cert.AttnFwdRefIdeal.nD Cert.AttnFwdRefIdeal.τ).loc Cert.AttnFwdRefIdeal.main_v94) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_AttnFwd4_AttnFwd4Ideal : Prop :=
  True

def algebraic_AttnFwd4Ideal_AttnFwd4RefIdeal [hAttnFwd4Ideal : Cert.AttnFwd4Ideal.Facts] [hAttnFwd4RefIdeal : Cert.AttnFwd4RefIdeal.Facts] : Prop :=
  ∀ (m : (ℓ : Loc Cert.AttnFwd4Ideal.nD Cert.AttnFwd4Ideal.τ Cert.AttnFwd4Ideal.sig) → Buf (Elt Ideal) ℓ) (g : Dev Cert.AttnFwd4Ideal.nD → PrngReg)
    (m' : (ℓ : Loc Cert.AttnFwd4RefIdeal.nD Cert.AttnFwd4RefIdeal.τ Cert.AttnFwd4RefIdeal.sig) → Buf (Elt Ideal) ℓ) (g' : Dev Cert.AttnFwd4RefIdeal.nD → PrngReg), Pre_AttnFwd4Ideal m →
    (∀ c : Dev Cert.AttnFwd4Ideal.nD,
      m' ((c.tc : Thread Cert.AttnFwd4RefIdeal.nD Cert.AttnFwd4RefIdeal.τ).loc Cert.AttnFwd4RefIdeal.main_arg0) = m ((c.tc : Thread Cert.AttnFwd4Ideal.nD Cert.AttnFwd4Ideal.τ).loc Cert.AttnFwd4Ideal.main_arg0)
      ∧ m' ((c.tc : Thread Cert.AttnFwd4RefIdeal.nD Cert.AttnFwd4RefIdeal.τ).loc Cert.AttnFwd4RefIdeal.main_arg1) = m ((c.tc : Thread Cert.AttnFwd4Ideal.nD Cert.AttnFwd4Ideal.τ).loc Cert.AttnFwd4Ideal.main_arg1)) →
    ∃ (v0 : (c : Dev Cert.AttnFwd4Ideal.nD) → Buf (Elt Ideal) ((c.tc : Thread Cert.AttnFwd4Ideal.nD Cert.AttnFwd4Ideal.τ).loc Cert.AttnFwd4Ideal.main_v6)) (v1 : (c : Dev Cert.AttnFwd4Ideal.nD) → Buf (Elt Ideal) ((c.tc : Thread Cert.AttnFwd4Ideal.nD Cert.AttnFwd4Ideal.τ).loc Cert.AttnFwd4Ideal.main_v9)),
      θ_run (Cert.AttnFwd4Ideal.defs (F := Ideal)) (onTc (τ := Cert.AttnFwd4Ideal.τ) (Cert.AttnFwd4Ideal.main (F := Ideal))) ⟨m, fun _ => 0, g⟩ (fun r => ∀ c : Dev Cert.AttnFwd4Ideal.nD,
          r.2.mem ((c.tc : Thread Cert.AttnFwd4Ideal.nD Cert.AttnFwd4Ideal.τ).loc Cert.AttnFwd4Ideal.main_v6) = v0 c
          ∧ r.2.mem ((c.tc : Thread Cert.AttnFwd4Ideal.nD Cert.AttnFwd4Ideal.τ).loc Cert.AttnFwd4Ideal.main_v9) = v1 c
          ∧ r.2.mem ((c.tc : Thread Cert.AttnFwd4Ideal.nD Cert.AttnFwd4Ideal.τ).loc Cert.AttnFwd4Ideal.main_arg0) = m ((c.tc : Thread Cert.AttnFwd4Ideal.nD Cert.AttnFwd4Ideal.τ).loc Cert.AttnFwd4Ideal.main_arg0)
          ∧ r.2.mem ((c.tc : Thread Cert.AttnFwd4Ideal.nD Cert.AttnFwd4Ideal.τ).loc Cert.AttnFwd4Ideal.main_arg1) = m ((c.tc : Thread Cert.AttnFwd4Ideal.nD Cert.AttnFwd4Ideal.τ).loc Cert.AttnFwd4Ideal.main_arg1))
      ∧ θ_run (Cert.AttnFwd4RefIdeal.defs (F := Ideal)) (onTc (τ := Cert.AttnFwd4RefIdeal.τ) (Cert.AttnFwd4RefIdeal.main (F := Ideal))) ⟨m', fun _ => 0, g'⟩ (fun r => ∀ c : Dev Cert.AttnFwd4RefIdeal.nD,
          r.2.mem ((c.tc : Thread Cert.AttnFwd4RefIdeal.nD Cert.AttnFwd4RefIdeal.τ).loc Cert.AttnFwd4RefIdeal.main_v90) = v0 c
          ∧ r.2.mem ((c.tc : Thread Cert.AttnFwd4RefIdeal.nD Cert.AttnFwd4RefIdeal.τ).loc Cert.AttnFwd4RefIdeal.main_v94) = v1 c
          ∧ r.2.mem ((c.tc : Thread Cert.AttnFwd4RefIdeal.nD Cert.AttnFwd4RefIdeal.τ).loc Cert.AttnFwd4RefIdeal.main_arg0) = m' ((c.tc : Thread Cert.AttnFwd4RefIdeal.nD Cert.AttnFwd4RefIdeal.τ).loc Cert.AttnFwd4RefIdeal.main_arg0)
          ∧ r.2.mem ((c.tc : Thread Cert.AttnFwd4RefIdeal.nD Cert.AttnFwd4RefIdeal.τ).loc Cert.AttnFwd4RefIdeal.main_arg1) = m' ((c.tc : Thread Cert.AttnFwd4RefIdeal.nD Cert.AttnFwd4RefIdeal.τ).loc Cert.AttnFwd4RefIdeal.main_arg1))

def preserves_AttnFwd16_AttnFwd16Ideal : Prop :=
  True

def algebraic_AttnFwd16Ideal_AttnFwd16RefIdeal [hAttnFwd16Ideal : Cert.AttnFwd16Ideal.Facts] [hAttnFwd16RefIdeal : Cert.AttnFwd16RefIdeal.Facts] : Prop :=
  ∀ (m : (ℓ : Loc Cert.AttnFwd16Ideal.nD Cert.AttnFwd16Ideal.τ Cert.AttnFwd16Ideal.sig) → Buf (Elt Ideal) ℓ) (g : Dev Cert.AttnFwd16Ideal.nD → PrngReg)
    (m' : (ℓ : Loc Cert.AttnFwd16RefIdeal.nD Cert.AttnFwd16RefIdeal.τ Cert.AttnFwd16RefIdeal.sig) → Buf (Elt Ideal) ℓ) (g' : Dev Cert.AttnFwd16RefIdeal.nD → PrngReg), Pre_AttnFwd16Ideal m →
    (∀ c : Dev Cert.AttnFwd16Ideal.nD,
      m' ((c.tc : Thread Cert.AttnFwd16RefIdeal.nD Cert.AttnFwd16RefIdeal.τ).loc Cert.AttnFwd16RefIdeal.main_arg0) = m ((c.tc : Thread Cert.AttnFwd16Ideal.nD Cert.AttnFwd16Ideal.τ).loc Cert.AttnFwd16Ideal.main_arg0)
      ∧ m' ((c.tc : Thread Cert.AttnFwd16RefIdeal.nD Cert.AttnFwd16RefIdeal.τ).loc Cert.AttnFwd16RefIdeal.main_arg1) = m ((c.tc : Thread Cert.AttnFwd16Ideal.nD Cert.AttnFwd16Ideal.τ).loc Cert.AttnFwd16Ideal.main_arg1)) →
    ∃ (v0 : (c : Dev Cert.AttnFwd16Ideal.nD) → Buf (Elt Ideal) ((c.tc : Thread Cert.AttnFwd16Ideal.nD Cert.AttnFwd16Ideal.τ).loc Cert.AttnFwd16Ideal.main_v6)) (v1 : (c : Dev Cert.AttnFwd16Ideal.nD) → Buf (Elt Ideal) ((c.tc : Thread Cert.AttnFwd16Ideal.nD Cert.AttnFwd16Ideal.τ).loc Cert.AttnFwd16Ideal.main_v9)),
      θ_run (Cert.AttnFwd16Ideal.defs (F := Ideal)) (onTc (τ := Cert.AttnFwd16Ideal.τ) (Cert.AttnFwd16Ideal.main (F := Ideal))) ⟨m, fun _ => 0, g⟩ (fun r => ∀ c : Dev Cert.AttnFwd16Ideal.nD,
          r.2.mem ((c.tc : Thread Cert.AttnFwd16Ideal.nD Cert.AttnFwd16Ideal.τ).loc Cert.AttnFwd16Ideal.main_v6) = v0 c
          ∧ r.2.mem ((c.tc : Thread Cert.AttnFwd16Ideal.nD Cert.AttnFwd16Ideal.τ).loc Cert.AttnFwd16Ideal.main_v9) = v1 c
          ∧ r.2.mem ((c.tc : Thread Cert.AttnFwd16Ideal.nD Cert.AttnFwd16Ideal.τ).loc Cert.AttnFwd16Ideal.main_arg0) = m ((c.tc : Thread Cert.AttnFwd16Ideal.nD Cert.AttnFwd16Ideal.τ).loc Cert.AttnFwd16Ideal.main_arg0)
          ∧ r.2.mem ((c.tc : Thread Cert.AttnFwd16Ideal.nD Cert.AttnFwd16Ideal.τ).loc Cert.AttnFwd16Ideal.main_arg1) = m ((c.tc : Thread Cert.AttnFwd16Ideal.nD Cert.AttnFwd16Ideal.τ).loc Cert.AttnFwd16Ideal.main_arg1))
      ∧ θ_run (Cert.AttnFwd16RefIdeal.defs (F := Ideal)) (onTc (τ := Cert.AttnFwd16RefIdeal.τ) (Cert.AttnFwd16RefIdeal.main (F := Ideal))) ⟨m', fun _ => 0, g'⟩ (fun r => ∀ c : Dev Cert.AttnFwd16RefIdeal.nD,
          r.2.mem ((c.tc : Thread Cert.AttnFwd16RefIdeal.nD Cert.AttnFwd16RefIdeal.τ).loc Cert.AttnFwd16RefIdeal.main_v90) = v0 c
          ∧ r.2.mem ((c.tc : Thread Cert.AttnFwd16RefIdeal.nD Cert.AttnFwd16RefIdeal.τ).loc Cert.AttnFwd16RefIdeal.main_v94) = v1 c
          ∧ r.2.mem ((c.tc : Thread Cert.AttnFwd16RefIdeal.nD Cert.AttnFwd16RefIdeal.τ).loc Cert.AttnFwd16RefIdeal.main_arg0) = m' ((c.tc : Thread Cert.AttnFwd16RefIdeal.nD Cert.AttnFwd16RefIdeal.τ).loc Cert.AttnFwd16RefIdeal.main_arg0)
          ∧ r.2.mem ((c.tc : Thread Cert.AttnFwd16RefIdeal.nD Cert.AttnFwd16RefIdeal.τ).loc Cert.AttnFwd16RefIdeal.main_arg1) = m' ((c.tc : Thread Cert.AttnFwd16RefIdeal.nD Cert.AttnFwd16RefIdeal.τ).loc Cert.AttnFwd16RefIdeal.main_arg1))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)) →
    ∃ (v0 : (c : Dev Cert.Norm2Ideal.nD) → Buf (Elt Ideal) ((c.tc : Thread Cert.Norm2Ideal.nD Cert.Norm2Ideal.τ).loc Cert.Norm2Ideal.main_v1_0)) (v1 : (c : Dev Cert.Norm2Ideal.nD) → Buf (Elt Ideal) ((c.tc : Thread Cert.Norm2Ideal.nD Cert.Norm2Ideal.τ).loc Cert.Norm2Ideal.main_v2)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v1_0) = v0 c
          ∧ r.2.mem ((c.tc : Thread Cert.Norm2Ideal.nD Cert.Norm2Ideal.τ).loc Cert.Norm2Ideal.main_v2) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v36) = v0 c
          ∧ r.2.mem ((c.tc : Thread Cert.Norm2RefIdeal.nD Cert.Norm2RefIdeal.τ).loc Cert.Norm2RefIdeal.main_v21) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v4)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v4) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v5) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v24) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)
      ∧ m' ((c.tc : Thread Cert.Norm1RefIdeal.nD Cert.Norm1RefIdeal.τ).loc Cert.Norm1RefIdeal.main_arg6) = m ((c.tc : Thread Cert.Norm1Ideal.nD Cert.Norm1Ideal.τ).loc Cert.Norm1Ideal.main_arg6)) →
    ∃ (v0 : (c : Dev Cert.Norm1Ideal.nD) → Buf (Elt Ideal) ((c.tc : Thread Cert.Norm1Ideal.nD Cert.Norm1Ideal.τ).loc Cert.Norm1Ideal.main_v1_0)) (v1 : (c : Dev Cert.Norm1Ideal.nD) → Buf (Elt Ideal) ((c.tc : Thread Cert.Norm1Ideal.nD Cert.Norm1Ideal.τ).loc Cert.Norm1Ideal.main_v2)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v1_0) = v0 c
          ∧ r.2.mem ((c.tc : Thread Cert.Norm1Ideal.nD Cert.Norm1Ideal.τ).loc Cert.Norm1Ideal.main_v2) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
          ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v39) = v0 c
          ∧ r.2.mem ((c.tc : Thread Cert.Norm1RefIdeal.nD Cert.Norm1RefIdeal.τ).loc Cert.Norm1RefIdeal.main_v24) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5)
          ∧ r.2.mem ((c.tc : Thread Cert.Norm1RefIdeal.nD Cert.Norm1RefIdeal.τ).loc Cert.Norm1RefIdeal.main_arg6) = m' ((c.tc : Thread Cert.Norm1RefIdeal.nD Cert.Norm1RefIdeal.τ).loc Cert.Norm1RefIdeal.main_arg6))

def preserves_SwigluBwd_SwigluBwdIdeal : Prop :=
  True

def algebraic_SwigluBwdIdeal_SwigluBwdRefIdeal_pre_swiglu_finite [hSwigluBwdIdeal : Cert.SwigluBwdIdeal.Facts] [hSwigluBwdRefIdeal : Cert.SwigluBwdRefIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_swiglu_finite m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v10) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_GateNormBwd_GateNormBwdIdeal : Prop :=
  True

def algebraic_GateNormBwdIdeal_GateNormBwdRefIdeal_pre_gate_norm_finite [hGateNormBwdIdeal : Cert.GateNormBwdIdeal.Facts] [hGateNormBwdRefIdeal : Cert.GateNormBwdRefIdeal.Facts] [hPre_gate_norm_finite : Cert.Pre_gate_norm_finite.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg)
    (m' : (ℓ : Loc Cert.GateNormBwdRefIdeal.nD Cert.GateNormBwdRefIdeal.τ Cert.GateNormBwdRefIdeal.sig) → Buf (Elt Ideal) ℓ) (g' : Dev Cert.GateNormBwdRefIdeal.nD → PrngReg), Pre_GateNormBwdIdeal_gate_norm_finite m →
    (∀ c : Dev Cert.GateNormBwdIdeal.nD,
      m' ((c.tc : Thread Cert.GateNormBwdRefIdeal.nD Cert.GateNormBwdRefIdeal.τ).loc Cert.GateNormBwdRefIdeal.main_arg0) = m ((c.tc : Thread Cert.GateNormBwdIdeal.nD Cert.GateNormBwdIdeal.τ).loc Cert.GateNormBwdIdeal.main_arg0)
      ∧ m' ((c.tc : Thread Cert.GateNormBwdRefIdeal.nD Cert.GateNormBwdRefIdeal.τ).loc Cert.GateNormBwdRefIdeal.main_arg1) = m ((c.tc : Thread Cert.GateNormBwdIdeal.nD Cert.GateNormBwdIdeal.τ).loc Cert.GateNormBwdIdeal.main_arg1)
      ∧ m' ((c.tc : Thread Cert.GateNormBwdRefIdeal.nD Cert.GateNormBwdRefIdeal.τ).loc Cert.GateNormBwdRefIdeal.main_arg2) = m ((c.tc : Thread Cert.GateNormBwdIdeal.nD Cert.GateNormBwdIdeal.τ).loc Cert.GateNormBwdIdeal.main_arg2)
      ∧ m' ((c.tc : Thread Cert.GateNormBwdRefIdeal.nD Cert.GateNormBwdRefIdeal.τ).loc Cert.GateNormBwdRefIdeal.main_arg3) = m ((c.tc : Thread Cert.GateNormBwdIdeal.nD Cert.GateNormBwdIdeal.τ).loc Cert.GateNormBwdIdeal.main_arg3)) →
    ∃ (v0 : (c : Dev Cert.GateNormBwdIdeal.nD) → Buf (Elt Ideal) ((c.tc : Thread Cert.GateNormBwdIdeal.nD Cert.GateNormBwdIdeal.τ).loc Cert.GateNormBwdIdeal.main_v1_0)) (v1 : (c : Dev Cert.GateNormBwdIdeal.nD) → Buf (Elt Ideal) ((c.tc : Thread Cert.GateNormBwdIdeal.nD Cert.GateNormBwdIdeal.τ).loc Cert.GateNormBwdIdeal.main_v1_1)) (v2 : (c : Dev Cert.GateNormBwdIdeal.nD) → Buf (Elt Ideal) ((c.tc : Thread Cert.GateNormBwdIdeal.nD Cert.GateNormBwdIdeal.τ).loc Cert.GateNormBwdIdeal.main_v2)),
      θ_run (Cert.GateNormBwdIdeal.defs (F := Ideal)) (onTc (τ := Cert.GateNormBwdIdeal.τ) (Cert.GateNormBwdIdeal.main (F := Ideal))) ⟨m, fun _ => 0, g⟩ (fun r => ∀ c : Dev Cert.GateNormBwdIdeal.nD,
          r.2.mem ((c.tc : Thread Cert.GateNormBwdIdeal.nD Cert.GateNormBwdIdeal.τ).loc Cert.GateNormBwdIdeal.main_v1_0) = v0 c
          ∧ r.2.mem ((c.tc : Thread Cert.GateNormBwdIdeal.nD Cert.GateNormBwdIdeal.τ).loc Cert.GateNormBwdIdeal.main_v1_1) = v1 c
          ∧ r.2.mem ((c.tc : Thread Cert.GateNormBwdIdeal.nD Cert.GateNormBwdIdeal.τ).loc Cert.GateNormBwdIdeal.main_v2) = v2 c
          ∧ r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
          ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
          ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
          ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ θ_run (Cert.GateNormBwdRefIdeal.defs (F := Ideal)) (onTc (τ := Cert.GateNormBwdRefIdeal.τ) (Cert.GateNormBwdRefIdeal.main (F := Ideal))) ⟨m', fun _ => 0, g'⟩ (fun r => ∀ c : Dev Cert.GateNormBwdRefIdeal.nD,
          r.2.mem ((c.tc : Thread Cert.GateNormBwdRefIdeal.nD Cert.GateNormBwdRefIdeal.τ).loc Cert.GateNormBwdRefIdeal.main_v45) = v0 c
          ∧ r.2.mem ((c.tc : Thread Cert.GateNormBwdRefIdeal.nD Cert.GateNormBwdRefIdeal.τ).loc Cert.GateNormBwdRefIdeal.main_v47) = v1 c
          ∧ r.2.mem ((c.tc : Thread Cert.GateNormBwdRefIdeal.nD Cert.GateNormBwdRefIdeal.τ).loc Cert.GateNormBwdRefIdeal.main_v27) = v2 c
          ∧ r.2.mem ((c.tc : Thread Cert.GateNormBwdRefIdeal.nD Cert.GateNormBwdRefIdeal.τ).loc Cert.GateNormBwdRefIdeal.main_arg0) = m' ((c.tc : Thread Cert.GateNormBwdRefIdeal.nD Cert.GateNormBwdRefIdeal.τ).loc Cert.GateNormBwdRefIdeal.main_arg0)
          ∧ r.2.mem ((c.tc : Thread Cert.GateNormBwdRefIdeal.nD Cert.GateNormBwdRefIdeal.τ).loc Cert.GateNormBwdRefIdeal.main_arg1) = m' ((c.tc : Thread Cert.GateNormBwdRefIdeal.nD Cert.GateNormBwdRefIdeal.τ).loc Cert.GateNormBwdRefIdeal.main_arg1)
          ∧ r.2.mem ((c.tc : Thread Cert.GateNormBwdRefIdeal.nD Cert.GateNormBwdRefIdeal.τ).loc Cert.GateNormBwdRefIdeal.main_arg2) = m' ((c.tc : Thread Cert.GateNormBwdRefIdeal.nD Cert.GateNormBwdRefIdeal.τ).loc Cert.GateNormBwdRefIdeal.main_arg2)
          ∧ r.2.mem ((c.tc : Thread Cert.GateNormBwdRefIdeal.nD Cert.GateNormBwdRefIdeal.τ).loc Cert.GateNormBwdRefIdeal.main_arg3) = m' ((c.tc : Thread Cert.GateNormBwdRefIdeal.nD Cert.GateNormBwdRefIdeal.τ).loc Cert.GateNormBwdRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v5) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)) →
    ∃ (v0 : (c : Dev Cert.GateNormIdeal.nD) → Buf (Elt Ideal) ((c.tc : Thread Cert.GateNormIdeal.nD Cert.GateNormIdeal.τ).loc Cert.GateNormIdeal.main_v1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v1) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v19) = v0 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v16) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_CombineBwd_CombineBwdIdeal : Prop :=
  True

def algebraic_CombineBwdIdeal_CombineBwdRefIdeal_pre_combine_finite [hCombineBwdIdeal : Cert.CombineBwdIdeal.Facts] [hCombineBwdRefIdeal : Cert.CombineBwdRefIdeal.Facts] [hPre_combine_finite : Cert.Pre_combine_finite.Facts] : Prop :=
  ∀ (m : (ℓ : Loc Cert.CombineBwdIdeal.nD Cert.CombineBwdIdeal.τ Cert.CombineBwdIdeal.sig) → Buf (Elt Ideal) ℓ) (g : Dev Cert.CombineBwdIdeal.nD → PrngReg)
    (m' : (ℓ : Loc Cert.CombineBwdRefIdeal.nD Cert.CombineBwdRefIdeal.τ Cert.CombineBwdRefIdeal.sig) → Buf (Elt Ideal) ℓ) (g' : Dev Cert.CombineBwdRefIdeal.nD → PrngReg), Pre_CombineBwdIdeal_combine_finite m →
    (∀ c : Dev Cert.CombineBwdIdeal.nD,
      m' ((c.tc : Thread Cert.CombineBwdRefIdeal.nD Cert.CombineBwdRefIdeal.τ).loc Cert.CombineBwdRefIdeal.main_arg0) = m ((c.tc : Thread Cert.CombineBwdIdeal.nD Cert.CombineBwdIdeal.τ).loc Cert.CombineBwdIdeal.main_arg0)
      ∧ m' ((c.tc : Thread Cert.CombineBwdRefIdeal.nD Cert.CombineBwdRefIdeal.τ).loc Cert.CombineBwdRefIdeal.main_arg1) = m ((c.tc : Thread Cert.CombineBwdIdeal.nD Cert.CombineBwdIdeal.τ).loc Cert.CombineBwdIdeal.main_arg1)
      ∧ m' ((c.tc : Thread Cert.CombineBwdRefIdeal.nD Cert.CombineBwdRefIdeal.τ).loc Cert.CombineBwdRefIdeal.main_arg2) = m ((c.tc : Thread Cert.CombineBwdIdeal.nD Cert.CombineBwdIdeal.τ).loc Cert.CombineBwdIdeal.main_arg2)
      ∧ m' ((c.tc : Thread Cert.CombineBwdRefIdeal.nD Cert.CombineBwdRefIdeal.τ).loc Cert.CombineBwdRefIdeal.main_arg3) = m ((c.tc : Thread Cert.CombineBwdIdeal.nD Cert.CombineBwdIdeal.τ).loc Cert.CombineBwdIdeal.main_arg3)
      ∧ m' ((c.tc : Thread Cert.CombineBwdRefIdeal.nD Cert.CombineBwdRefIdeal.τ).loc Cert.CombineBwdRefIdeal.main_arg4) = m ((c.tc : Thread Cert.CombineBwdIdeal.nD Cert.CombineBwdIdeal.τ).loc Cert.CombineBwdIdeal.main_arg4)
      ∧ m' ((c.tc : Thread Cert.CombineBwdRefIdeal.nD Cert.CombineBwdRefIdeal.τ).loc Cert.CombineBwdRefIdeal.main_arg5) = m ((c.tc : Thread Cert.CombineBwdIdeal.nD Cert.CombineBwdIdeal.τ).loc Cert.CombineBwdIdeal.main_arg5)
      ∧ m' ((c.tc : Thread Cert.CombineBwdRefIdeal.nD Cert.CombineBwdRefIdeal.τ).loc Cert.CombineBwdRefIdeal.main_arg6) = m ((c.tc : Thread Cert.CombineBwdIdeal.nD Cert.CombineBwdIdeal.τ).loc Cert.CombineBwdIdeal.main_arg6)) →
    ∃ (v0 : (c : Dev Cert.CombineBwdIdeal.nD) → Buf (Elt Ideal) ((c.tc : Thread Cert.CombineBwdIdeal.nD Cert.CombineBwdIdeal.τ).loc Cert.CombineBwdIdeal.main_v9_0)) (v1 : (c : Dev Cert.CombineBwdIdeal.nD) → Buf (Elt Ideal) ((c.tc : Thread Cert.CombineBwdIdeal.nD Cert.CombineBwdIdeal.τ).loc Cert.CombineBwdIdeal.main_v9_1)) (v2 : (c : Dev Cert.CombineBwdIdeal.nD) → Buf (Elt Ideal) ((c.tc : Thread Cert.CombineBwdIdeal.nD Cert.CombineBwdIdeal.τ).loc Cert.CombineBwdIdeal.main_v9_2)) (v3 : (c : Dev Cert.CombineBwdIdeal.nD) → Buf (Elt Ideal) ((c.tc : Thread Cert.CombineBwdIdeal.nD Cert.CombineBwdIdeal.τ).loc Cert.CombineBwdIdeal.main_v9_3)) (v4 : (c : Dev Cert.CombineBwdIdeal.nD) → Buf (Elt Ideal) ((c.tc : Thread Cert.CombineBwdIdeal.nD Cert.CombineBwdIdeal.τ).loc Cert.CombineBwdIdeal.main_v9_4)) (v5 : (c : Dev Cert.CombineBwdIdeal.nD) → Buf (Elt Ideal) ((c.tc : Thread Cert.CombineBwdIdeal.nD Cert.CombineBwdIdeal.τ).loc Cert.CombineBwdIdeal.main_v9_5)),
      θ_run (Cert.CombineBwdIdeal.defs (F := Ideal)) (onTc (τ := Cert.CombineBwdIdeal.τ) (Cert.CombineBwdIdeal.main (F := Ideal))) ⟨m, fun _ => 0, g⟩ (fun r => ∀ c : Dev Cert.CombineBwdIdeal.nD,
          r.2.mem ((c.tc : Thread Cert.CombineBwdIdeal.nD Cert.CombineBwdIdeal.τ).loc Cert.CombineBwdIdeal.main_v9_0) = v0 c
          ∧ r.2.mem ((c.tc : Thread Cert.CombineBwdIdeal.nD Cert.CombineBwdIdeal.τ).loc Cert.CombineBwdIdeal.main_v9_1) = v1 c
          ∧ r.2.mem ((c.tc : Thread Cert.CombineBwdIdeal.nD Cert.CombineBwdIdeal.τ).loc Cert.CombineBwdIdeal.main_v9_2) = v2 c
          ∧ r.2.mem ((c.tc : Thread Cert.CombineBwdIdeal.nD Cert.CombineBwdIdeal.τ).loc Cert.CombineBwdIdeal.main_v9_3) = v3 c
          ∧ r.2.mem ((c.tc : Thread Cert.CombineBwdIdeal.nD Cert.CombineBwdIdeal.τ).loc Cert.CombineBwdIdeal.main_v9_4) = v4 c
          ∧ r.2.mem ((c.tc : Thread Cert.CombineBwdIdeal.nD Cert.CombineBwdIdeal.τ).loc Cert.CombineBwdIdeal.main_v9_5) = v5 c
          ∧ r.2.mem ((c.tc : Thread Cert.CombineBwdIdeal.nD Cert.CombineBwdIdeal.τ).loc Cert.CombineBwdIdeal.main_arg0) = m ((c.tc : Thread Cert.CombineBwdIdeal.nD Cert.CombineBwdIdeal.τ).loc Cert.CombineBwdIdeal.main_arg0)
          ∧ r.2.mem ((c.tc : Thread Cert.CombineBwdIdeal.nD Cert.CombineBwdIdeal.τ).loc Cert.CombineBwdIdeal.main_arg1) = m ((c.tc : Thread Cert.CombineBwdIdeal.nD Cert.CombineBwdIdeal.τ).loc Cert.CombineBwdIdeal.main_arg1)
          ∧ r.2.mem ((c.tc : Thread Cert.CombineBwdIdeal.nD Cert.CombineBwdIdeal.τ).loc Cert.CombineBwdIdeal.main_arg2) = m ((c.tc : Thread Cert.CombineBwdIdeal.nD Cert.CombineBwdIdeal.τ).loc Cert.CombineBwdIdeal.main_arg2)
          ∧ r.2.mem ((c.tc : Thread Cert.CombineBwdIdeal.nD Cert.CombineBwdIdeal.τ).loc Cert.CombineBwdIdeal.main_arg3) = m ((c.tc : Thread Cert.CombineBwdIdeal.nD Cert.CombineBwdIdeal.τ).loc Cert.CombineBwdIdeal.main_arg3)
          ∧ r.2.mem ((c.tc : Thread Cert.CombineBwdIdeal.nD Cert.CombineBwdIdeal.τ).loc Cert.CombineBwdIdeal.main_arg4) = m ((c.tc : Thread Cert.CombineBwdIdeal.nD Cert.CombineBwdIdeal.τ).loc Cert.CombineBwdIdeal.main_arg4)
          ∧ r.2.mem ((c.tc : Thread Cert.CombineBwdIdeal.nD Cert.CombineBwdIdeal.τ).loc Cert.CombineBwdIdeal.main_arg5) = m ((c.tc : Thread Cert.CombineBwdIdeal.nD Cert.CombineBwdIdeal.τ).loc Cert.CombineBwdIdeal.main_arg5)
          ∧ r.2.mem ((c.tc : Thread Cert.CombineBwdIdeal.nD Cert.CombineBwdIdeal.τ).loc Cert.CombineBwdIdeal.main_arg6) = m ((c.tc : Thread Cert.CombineBwdIdeal.nD Cert.CombineBwdIdeal.τ).loc Cert.CombineBwdIdeal.main_arg6))
      ∧ θ_run (Cert.CombineBwdRefIdeal.defs (F := Ideal)) (onTc (τ := Cert.CombineBwdRefIdeal.τ) (Cert.CombineBwdRefIdeal.main (F := Ideal))) ⟨m', fun _ => 0, g'⟩ (fun r => ∀ c : Dev Cert.CombineBwdRefIdeal.nD,
          r.2.mem ((c.tc : Thread Cert.CombineBwdRefIdeal.nD Cert.CombineBwdRefIdeal.τ).loc Cert.CombineBwdRefIdeal.main_v84) = v0 c
          ∧ r.2.mem ((c.tc : Thread Cert.CombineBwdRefIdeal.nD Cert.CombineBwdRefIdeal.τ).loc Cert.CombineBwdRefIdeal.main_v85) = v1 c
          ∧ r.2.mem ((c.tc : Thread Cert.CombineBwdRefIdeal.nD Cert.CombineBwdRefIdeal.τ).loc Cert.CombineBwdRefIdeal.main_v86) = v2 c
          ∧ r.2.mem ((c.tc : Thread Cert.CombineBwdRefIdeal.nD Cert.CombineBwdRefIdeal.τ).loc Cert.CombineBwdRefIdeal.main_v90) = v3 c
          ∧ r.2.mem ((c.tc : Thread Cert.CombineBwdRefIdeal.nD Cert.CombineBwdRefIdeal.τ).loc Cert.CombineBwdRefIdeal.main_v94) = v4 c
          ∧ r.2.mem ((c.tc : Thread Cert.CombineBwdRefIdeal.nD Cert.CombineBwdRefIdeal.τ).loc Cert.CombineBwdRefIdeal.main_v98) = v5 c
          ∧ r.2.mem ((c.tc : Thread Cert.CombineBwdRefIdeal.nD Cert.CombineBwdRefIdeal.τ).loc Cert.CombineBwdRefIdeal.main_arg0) = m' ((c.tc : Thread Cert.CombineBwdRefIdeal.nD Cert.CombineBwdRefIdeal.τ).loc Cert.CombineBwdRefIdeal.main_arg0)
          ∧ r.2.mem ((c.tc : Thread Cert.CombineBwdRefIdeal.nD Cert.CombineBwdRefIdeal.τ).loc Cert.CombineBwdRefIdeal.main_arg1) = m' ((c.tc : Thread Cert.CombineBwdRefIdeal.nD Cert.CombineBwdRefIdeal.τ).loc Cert.CombineBwdRefIdeal.main_arg1)
          ∧ r.2.mem ((c.tc : Thread Cert.CombineBwdRefIdeal.nD Cert.CombineBwdRefIdeal.τ).loc Cert.CombineBwdRefIdeal.main_arg2) = m' ((c.tc : Thread Cert.CombineBwdRefIdeal.nD Cert.CombineBwdRefIdeal.τ).loc Cert.CombineBwdRefIdeal.main_arg2)
          ∧ r.2.mem ((c.tc : Thread Cert.CombineBwdRefIdeal.nD Cert.CombineBwdRefIdeal.τ).loc Cert.CombineBwdRefIdeal.main_arg3) = m' ((c.tc : Thread Cert.CombineBwdRefIdeal.nD Cert.CombineBwdRefIdeal.τ).loc Cert.CombineBwdRefIdeal.main_arg3)
          ∧ r.2.mem ((c.tc : Thread Cert.CombineBwdRefIdeal.nD Cert.CombineBwdRefIdeal.τ).loc Cert.CombineBwdRefIdeal.main_arg4) = m' ((c.tc : Thread Cert.CombineBwdRefIdeal.nD Cert.CombineBwdRefIdeal.τ).loc Cert.CombineBwdRefIdeal.main_arg4)
          ∧ r.2.mem ((c.tc : Thread Cert.CombineBwdRefIdeal.nD Cert.CombineBwdRefIdeal.τ).loc Cert.CombineBwdRefIdeal.main_arg5) = m' ((c.tc : Thread Cert.CombineBwdRefIdeal.nD Cert.CombineBwdRefIdeal.τ).loc Cert.CombineBwdRefIdeal.main_arg5)
          ∧ r.2.mem ((c.tc : Thread Cert.CombineBwdRefIdeal.nD Cert.CombineBwdRefIdeal.τ).loc Cert.CombineBwdRefIdeal.main_arg6) = m' ((c.tc : Thread Cert.CombineBwdRefIdeal.nD Cert.CombineBwdRefIdeal.τ).loc Cert.CombineBwdRefIdeal.main_arg6))

def preserves_ConvBwdPre_ConvBwdPreIdeal : Prop :=
  True

def algebraic_ConvBwdPreIdeal_ConvBwdPreRefIdeal_pre_conv_finite [hConvBwdPreIdeal : Cert.ConvBwdPreIdeal.Facts] [hConvBwdPreRefIdeal : Cert.ConvBwdPreRefIdeal.Facts] [hPre_conv_finite : Cert.Pre_conv_finite.Facts] : Prop :=
  ∀ (m : (ℓ : Loc Cert.ConvBwdPreIdeal.nD Cert.ConvBwdPreIdeal.τ Cert.ConvBwdPreIdeal.sig) → Buf (Elt Ideal) ℓ) (g : Dev Cert.ConvBwdPreIdeal.nD → PrngReg)
    (m' : (ℓ : Loc Cert.ConvBwdPreRefIdeal.nD Cert.ConvBwdPreRefIdeal.τ Cert.ConvBwdPreRefIdeal.sig) → Buf (Elt Ideal) ℓ) (g' : Dev Cert.ConvBwdPreRefIdeal.nD → PrngReg), Pre_ConvBwdPreIdeal_conv_finite m →
    (∀ c : Dev Cert.ConvBwdPreIdeal.nD,
      m' ((c.tc : Thread Cert.ConvBwdPreRefIdeal.nD Cert.ConvBwdPreRefIdeal.τ).loc Cert.ConvBwdPreRefIdeal.main_arg0) = m ((c.tc : Thread Cert.ConvBwdPreIdeal.nD Cert.ConvBwdPreIdeal.τ).loc Cert.ConvBwdPreIdeal.main_arg0)
      ∧ m' ((c.tc : Thread Cert.ConvBwdPreRefIdeal.nD Cert.ConvBwdPreRefIdeal.τ).loc Cert.ConvBwdPreRefIdeal.main_arg1) = m ((c.tc : Thread Cert.ConvBwdPreIdeal.nD Cert.ConvBwdPreIdeal.τ).loc Cert.ConvBwdPreIdeal.main_arg1)
      ∧ m' ((c.tc : Thread Cert.ConvBwdPreRefIdeal.nD Cert.ConvBwdPreRefIdeal.τ).loc Cert.ConvBwdPreRefIdeal.main_arg2) = m ((c.tc : Thread Cert.ConvBwdPreIdeal.nD Cert.ConvBwdPreIdeal.τ).loc Cert.ConvBwdPreIdeal.main_arg2)
      ∧ m' ((c.tc : Thread Cert.ConvBwdPreRefIdeal.nD Cert.ConvBwdPreRefIdeal.τ).loc Cert.ConvBwdPreRefIdeal.main_arg3) = m ((c.tc : Thread Cert.ConvBwdPreIdeal.nD Cert.ConvBwdPreIdeal.τ).loc Cert.ConvBwdPreIdeal.main_arg3)) →
    ∃ (v0 : (c : Dev Cert.ConvBwdPreIdeal.nD) → Buf (Elt Ideal) ((c.tc : Thread Cert.ConvBwdPreIdeal.nD Cert.ConvBwdPreIdeal.τ).loc Cert.ConvBwdPreIdeal.main_v1_0)) (v1 : (c : Dev Cert.ConvBwdPreIdeal.nD) → Buf (Elt Ideal) ((c.tc : Thread Cert.ConvBwdPreIdeal.nD Cert.ConvBwdPreIdeal.τ).loc Cert.ConvBwdPreIdeal.main_v1_1)) (v2 : (c : Dev Cert.ConvBwdPreIdeal.nD) → Buf (Elt Ideal) ((c.tc : Thread Cert.ConvBwdPreIdeal.nD Cert.ConvBwdPreIdeal.τ).loc Cert.ConvBwdPreIdeal.main_v2)),
      θ_run (Cert.ConvBwdPreIdeal.defs (F := Ideal)) (onTc (τ := Cert.ConvBwdPreIdeal.τ) (Cert.ConvBwdPreIdeal.main (F := Ideal))) ⟨m, fun _ => 0, g⟩ (fun r => ∀ c : Dev Cert.ConvBwdPreIdeal.nD,
          r.2.mem ((c.tc : Thread Cert.ConvBwdPreIdeal.nD Cert.ConvBwdPreIdeal.τ).loc Cert.ConvBwdPreIdeal.main_v1_0) = v0 c
          ∧ r.2.mem ((c.tc : Thread Cert.ConvBwdPreIdeal.nD Cert.ConvBwdPreIdeal.τ).loc Cert.ConvBwdPreIdeal.main_v1_1) = v1 c
          ∧ r.2.mem ((c.tc : Thread Cert.ConvBwdPreIdeal.nD Cert.ConvBwdPreIdeal.τ).loc Cert.ConvBwdPreIdeal.main_v2) = v2 c
          ∧ r.2.mem ((c.tc : Thread Cert.ConvBwdPreIdeal.nD Cert.ConvBwdPreIdeal.τ).loc Cert.ConvBwdPreIdeal.main_arg0) = m ((c.tc : Thread Cert.ConvBwdPreIdeal.nD Cert.ConvBwdPreIdeal.τ).loc Cert.ConvBwdPreIdeal.main_arg0)
          ∧ r.2.mem ((c.tc : Thread Cert.ConvBwdPreIdeal.nD Cert.ConvBwdPreIdeal.τ).loc Cert.ConvBwdPreIdeal.main_arg1) = m ((c.tc : Thread Cert.ConvBwdPreIdeal.nD Cert.ConvBwdPreIdeal.τ).loc Cert.ConvBwdPreIdeal.main_arg1)
          ∧ r.2.mem ((c.tc : Thread Cert.ConvBwdPreIdeal.nD Cert.ConvBwdPreIdeal.τ).loc Cert.ConvBwdPreIdeal.main_arg2) = m ((c.tc : Thread Cert.ConvBwdPreIdeal.nD Cert.ConvBwdPreIdeal.τ).loc Cert.ConvBwdPreIdeal.main_arg2)
          ∧ r.2.mem ((c.tc : Thread Cert.ConvBwdPreIdeal.nD Cert.ConvBwdPreIdeal.τ).loc Cert.ConvBwdPreIdeal.main_arg3) = m ((c.tc : Thread Cert.ConvBwdPreIdeal.nD Cert.ConvBwdPreIdeal.τ).loc Cert.ConvBwdPreIdeal.main_arg3))
      ∧ θ_run (Cert.ConvBwdPreRefIdeal.defs (F := Ideal)) (onTc (τ := Cert.ConvBwdPreRefIdeal.τ) (Cert.ConvBwdPreRefIdeal.main (F := Ideal))) ⟨m', fun _ => 0, g'⟩ (fun r => ∀ c : Dev Cert.ConvBwdPreRefIdeal.nD,
          r.2.mem ((c.tc : Thread Cert.ConvBwdPreRefIdeal.nD Cert.ConvBwdPreRefIdeal.τ).loc Cert.ConvBwdPreRefIdeal.main_v37) = v0 c
          ∧ r.2.mem ((c.tc : Thread Cert.ConvBwdPreRefIdeal.nD Cert.ConvBwdPreRefIdeal.τ).loc Cert.ConvBwdPreRefIdeal.main_v67) = v1 c
          ∧ r.2.mem ((c.tc : Thread Cert.ConvBwdPreRefIdeal.nD Cert.ConvBwdPreRefIdeal.τ).loc Cert.ConvBwdPreRefIdeal.main_v40) = v2 c
          ∧ r.2.mem ((c.tc : Thread Cert.ConvBwdPreRefIdeal.nD Cert.ConvBwdPreRefIdeal.τ).loc Cert.ConvBwdPreRefIdeal.main_arg0) = m' ((c.tc : Thread Cert.ConvBwdPreRefIdeal.nD Cert.ConvBwdPreRefIdeal.τ).loc Cert.ConvBwdPreRefIdeal.main_arg0)
          ∧ r.2.mem ((c.tc : Thread Cert.ConvBwdPreRefIdeal.nD Cert.ConvBwdPreRefIdeal.τ).loc Cert.ConvBwdPreRefIdeal.main_arg1) = m' ((c.tc : Thread Cert.ConvBwdPreRefIdeal.nD Cert.ConvBwdPreRefIdeal.τ).loc Cert.ConvBwdPreRefIdeal.main_arg1)
          ∧ r.2.mem ((c.tc : Thread Cert.ConvBwdPreRefIdeal.nD Cert.ConvBwdPreRefIdeal.τ).loc Cert.ConvBwdPreRefIdeal.main_arg2) = m' ((c.tc : Thread Cert.ConvBwdPreRefIdeal.nD Cert.ConvBwdPreRefIdeal.τ).loc Cert.ConvBwdPreRefIdeal.main_arg2)
          ∧ r.2.mem ((c.tc : Thread Cert.ConvBwdPreRefIdeal.nD Cert.ConvBwdPreRefIdeal.τ).loc Cert.ConvBwdPreRefIdeal.main_arg3) = m' ((c.tc : Thread Cert.ConvBwdPreRefIdeal.nD Cert.ConvBwdPreRefIdeal.τ).loc Cert.ConvBwdPreRefIdeal.main_arg3))

def preserves_ConvBwdIn_ConvBwdInIdeal : Prop :=
  True

def algebraic_ConvBwdInIdeal_ConvBwdInRefIdeal [hConvBwdInIdeal : Cert.ConvBwdInIdeal.Facts] [hConvBwdInRefIdeal : Cert.ConvBwdInRefIdeal.Facts] : Prop :=
  ∀ (m : (ℓ : Loc Cert.ConvBwdInIdeal.nD Cert.ConvBwdInIdeal.τ Cert.ConvBwdInIdeal.sig) → Buf (Elt Ideal) ℓ) (g : Dev Cert.ConvBwdInIdeal.nD → PrngReg)
    (m' : (ℓ : Loc Cert.ConvBwdInRefIdeal.nD Cert.ConvBwdInRefIdeal.τ Cert.ConvBwdInRefIdeal.sig) → Buf (Elt Ideal) ℓ) (g' : Dev Cert.ConvBwdInRefIdeal.nD → PrngReg), Pre_ConvBwdInIdeal m →
    (∀ c : Dev Cert.ConvBwdInIdeal.nD,
      m' ((c.tc : Thread Cert.ConvBwdInRefIdeal.nD Cert.ConvBwdInRefIdeal.τ).loc Cert.ConvBwdInRefIdeal.main_arg0) = m ((c.tc : Thread Cert.ConvBwdInIdeal.nD Cert.ConvBwdInIdeal.τ).loc Cert.ConvBwdInIdeal.main_arg0)
      ∧ m' ((c.tc : Thread Cert.ConvBwdInRefIdeal.nD Cert.ConvBwdInRefIdeal.τ).loc Cert.ConvBwdInRefIdeal.main_arg1) = m ((c.tc : Thread Cert.ConvBwdInIdeal.nD Cert.ConvBwdInIdeal.τ).loc Cert.ConvBwdInIdeal.main_arg1)) →
    ∃ (v0 : (c : Dev Cert.ConvBwdInIdeal.nD) → Buf (Elt Ideal) ((c.tc : Thread Cert.ConvBwdInIdeal.nD Cert.ConvBwdInIdeal.τ).loc Cert.ConvBwdInIdeal.main_v0)),
      θ_run (Cert.ConvBwdInIdeal.defs (F := Ideal)) (onTc (τ := Cert.ConvBwdInIdeal.τ) (Cert.ConvBwdInIdeal.main (F := Ideal))) ⟨m, fun _ => 0, g⟩ (fun r => ∀ c : Dev Cert.ConvBwdInIdeal.nD,
          r.2.mem ((c.tc : Thread Cert.ConvBwdInIdeal.nD Cert.ConvBwdInIdeal.τ).loc Cert.ConvBwdInIdeal.main_v0) = v0 c
          ∧ r.2.mem ((c.tc : Thread Cert.ConvBwdInIdeal.nD Cert.ConvBwdInIdeal.τ).loc Cert.ConvBwdInIdeal.main_arg0) = m ((c.tc : Thread Cert.ConvBwdInIdeal.nD Cert.ConvBwdInIdeal.τ).loc Cert.ConvBwdInIdeal.main_arg0)
          ∧ r.2.mem ((c.tc : Thread Cert.ConvBwdInIdeal.nD Cert.ConvBwdInIdeal.τ).loc Cert.ConvBwdInIdeal.main_arg1) = m ((c.tc : Thread Cert.ConvBwdInIdeal.nD Cert.ConvBwdInIdeal.τ).loc Cert.ConvBwdInIdeal.main_arg1))
      ∧ θ_run (Cert.ConvBwdInRefIdeal.defs (F := Ideal)) (onTc (τ := Cert.ConvBwdInRefIdeal.τ) (Cert.ConvBwdInRefIdeal.main (F := Ideal))) ⟨m', fun _ => 0, g'⟩ (fun r => ∀ c : Dev Cert.ConvBwdInRefIdeal.nD,
          r.2.mem ((c.tc : Thread Cert.ConvBwdInRefIdeal.nD Cert.ConvBwdInRefIdeal.τ).loc Cert.ConvBwdInRefIdeal.main_v56) = v0 c
          ∧ r.2.mem ((c.tc : Thread Cert.ConvBwdInRefIdeal.nD Cert.ConvBwdInRefIdeal.τ).loc Cert.ConvBwdInRefIdeal.main_arg0) = m' ((c.tc : Thread Cert.ConvBwdInRefIdeal.nD Cert.ConvBwdInRefIdeal.τ).loc Cert.ConvBwdInRefIdeal.main_arg0)
          ∧ r.2.mem ((c.tc : Thread Cert.ConvBwdInRefIdeal.nD Cert.ConvBwdInRefIdeal.τ).loc Cert.ConvBwdInRefIdeal.main_arg1) = m' ((c.tc : Thread Cert.ConvBwdInRefIdeal.nD Cert.ConvBwdInRefIdeal.τ).loc Cert.ConvBwdInRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v9)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v9) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v25) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v37) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_AdamwWIn_AdamwWInIdeal : Prop :=
  True

def algebraic_AdamwWInIdeal_AdamwWInRefIdeal [hAdamwWInIdeal : Cert.AdamwWInIdeal.Facts] [hAdamwWInRefIdeal : Cert.AdamwWInRefIdeal.Facts] [hPre_place_w_in : Cert.Pre_place_w_in.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInRefIdeal.nD Cert.AdamwWInRefIdeal.τ Cert.AdamwWInRefIdeal.sig) → Buf (Elt Ideal) ℓ) (g' : Dev Cert.AdamwWInRefIdeal.nD → PrngReg), Pre_AdamwWInIdeal m →
    (∀ c : Dev Cert.AdamwWInIdeal.nD,
      m' ((c.tc : Thread Cert.AdamwWInRefIdeal.nD Cert.AdamwWInRefIdeal.τ).loc Cert.AdamwWInRefIdeal.main_arg0) = m ((c.tc : Thread Cert.AdamwWInIdeal.nD Cert.AdamwWInIdeal.τ).loc Cert.AdamwWInIdeal.main_arg0)
      ∧ m' ((c.tc : Thread Cert.AdamwWInRefIdeal.nD Cert.AdamwWInRefIdeal.τ).loc Cert.AdamwWInRefIdeal.main_arg1) = m ((c.tc : Thread Cert.AdamwWInIdeal.nD Cert.AdamwWInIdeal.τ).loc Cert.AdamwWInIdeal.main_arg1)
      ∧ m' ((c.tc : Thread Cert.AdamwWInRefIdeal.nD Cert.AdamwWInRefIdeal.τ).loc Cert.AdamwWInRefIdeal.main_arg2) = m ((c.tc : Thread Cert.AdamwWInIdeal.nD Cert.AdamwWInIdeal.τ).loc Cert.AdamwWInIdeal.main_arg2)
      ∧ m' ((c.tc : Thread Cert.AdamwWInRefIdeal.nD Cert.AdamwWInRefIdeal.τ).loc Cert.AdamwWInRefIdeal.main_arg3) = m ((c.tc : Thread Cert.AdamwWInIdeal.nD Cert.AdamwWInIdeal.τ).loc Cert.AdamwWInIdeal.main_arg3)
      ∧ m' ((c.tc : Thread Cert.AdamwWInRefIdeal.nD Cert.AdamwWInRefIdeal.τ).loc Cert.AdamwWInRefIdeal.main_arg4) = m ((c.tc : Thread Cert.AdamwWInIdeal.nD Cert.AdamwWInIdeal.τ).loc Cert.AdamwWInIdeal.main_arg4)
      ∧ m' ((c.tc : Thread Cert.AdamwWInRefIdeal.nD Cert.AdamwWInRefIdeal.τ).loc Cert.AdamwWInRefIdeal.main_arg5) = m ((c.tc : Thread Cert.AdamwWInIdeal.nD Cert.AdamwWInIdeal.τ).loc Cert.AdamwWInIdeal.main_arg5)) →
    ∃ (v0 : (c : Dev Cert.AdamwWInIdeal.nD) → Buf (Elt Ideal) ((c.tc : Thread Cert.AdamwWInIdeal.nD Cert.AdamwWInIdeal.τ).loc Cert.AdamwWInIdeal.main_v0_0)) (v1 : (c : Dev Cert.AdamwWInIdeal.nD) → Buf (Elt Ideal) ((c.tc : Thread Cert.AdamwWInIdeal.nD Cert.AdamwWInIdeal.τ).loc Cert.AdamwWInIdeal.main_v0_1)) (v2 : (c : Dev Cert.AdamwWInIdeal.nD) → Buf (Elt Ideal) ((c.tc : Thread Cert.AdamwWInIdeal.nD Cert.AdamwWInIdeal.τ).loc Cert.AdamwWInIdeal.main_v0_2)) (v3 : (c : Dev Cert.AdamwWInIdeal.nD) → Buf (Elt Ideal) ((c.tc : Thread Cert.AdamwWInIdeal.nD Cert.AdamwWInIdeal.τ).loc Cert.AdamwWInIdeal.main_v0_3)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v0_0) = v0 c
          ∧ r.2.mem ((c.tc : Thread Cert.AdamwWInIdeal.nD Cert.AdamwWInIdeal.τ).loc Cert.AdamwWInIdeal.main_v0_1) = v1 c
          ∧ r.2.mem ((c.tc : Thread Cert.AdamwWInIdeal.nD Cert.AdamwWInIdeal.τ).loc Cert.AdamwWInIdeal.main_v0_2) = v2 c
          ∧ r.2.mem ((c.tc : Thread Cert.AdamwWInIdeal.nD Cert.AdamwWInIdeal.τ).loc Cert.AdamwWInIdeal.main_v0_3) = v3 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3)
          ∧ r.2.mem ((c.tc : Thread Cert.AdamwWInIdeal.nD Cert.AdamwWInIdeal.τ).loc Cert.AdamwWInIdeal.main_arg4) = m ((c.tc : Thread Cert.AdamwWInIdeal.nD Cert.AdamwWInIdeal.τ).loc Cert.AdamwWInIdeal.main_arg4)
          ∧ r.2.mem ((c.tc : Thread Cert.AdamwWInIdeal.nD Cert.AdamwWInIdeal.τ).loc Cert.AdamwWInIdeal.main_arg5) = m ((c.tc : Thread Cert.AdamwWInIdeal.nD Cert.AdamwWInIdeal.τ).loc Cert.AdamwWInIdeal.main_arg5))
      ∧ θ_run (Cert.AdamwWInRefIdeal.defs (F := Ideal)) (onTc (τ := Cert.AdamwWInRefIdeal.τ) (Cert.AdamwWInRefIdeal.main (F := Ideal))) ⟨m', fun _ => 0, g'⟩ (fun r => ∀ c : Dev Cert.AdamwWInRefIdeal.nD,
          r.2.mem ((c.tc : Thread Cert.AdamwWInRefIdeal.nD Cert.AdamwWInRefIdeal.τ).loc Cert.AdamwWInRefIdeal.main_v7) = v0 c
          ∧ r.2.mem ((c.tc : Thread Cert.AdamwWInRefIdeal.nD Cert.AdamwWInRefIdeal.τ).loc Cert.AdamwWInRefIdeal.main_v31) = v1 c
          ∧ r.2.mem ((c.tc : Thread Cert.AdamwWInRefIdeal.nD Cert.AdamwWInRefIdeal.τ).loc Cert.AdamwWInRefIdeal.main_v12) = v2 c
          ∧ r.2.mem ((c.tc : Thread Cert.AdamwWInRefIdeal.nD Cert.AdamwWInRefIdeal.τ).loc Cert.AdamwWInRefIdeal.main_v18) = v3 c
          ∧ r.2.mem ((c.tc : Thread Cert.AdamwWInRefIdeal.nD Cert.AdamwWInRefIdeal.τ).loc Cert.AdamwWInRefIdeal.main_arg0) = m' ((c.tc : Thread Cert.AdamwWInRefIdeal.nD Cert.AdamwWInRefIdeal.τ).loc Cert.AdamwWInRefIdeal.main_arg0)
          ∧ r.2.mem ((c.tc : Thread Cert.AdamwWInRefIdeal.nD Cert.AdamwWInRefIdeal.τ).loc Cert.AdamwWInRefIdeal.main_arg1) = m' ((c.tc : Thread Cert.AdamwWInRefIdeal.nD Cert.AdamwWInRefIdeal.τ).loc Cert.AdamwWInRefIdeal.main_arg1)
          ∧ r.2.mem ((c.tc : Thread Cert.AdamwWInRefIdeal.nD Cert.AdamwWInRefIdeal.τ).loc Cert.AdamwWInRefIdeal.main_arg2) = m' ((c.tc : Thread Cert.AdamwWInRefIdeal.nD Cert.AdamwWInRefIdeal.τ).loc Cert.AdamwWInRefIdeal.main_arg2)
          ∧ r.2.mem ((c.tc : Thread Cert.AdamwWInRefIdeal.nD Cert.AdamwWInRefIdeal.τ).loc Cert.AdamwWInRefIdeal.main_arg3) = m' ((c.tc : Thread Cert.AdamwWInRefIdeal.nD Cert.AdamwWInRefIdeal.τ).loc Cert.AdamwWInRefIdeal.main_arg3)
          ∧ r.2.mem ((c.tc : Thread Cert.AdamwWInRefIdeal.nD Cert.AdamwWInRefIdeal.τ).loc Cert.AdamwWInRefIdeal.main_arg4) = m' ((c.tc : Thread Cert.AdamwWInRefIdeal.nD Cert.AdamwWInRefIdeal.τ).loc Cert.AdamwWInRefIdeal.main_arg4)
          ∧ r.2.mem ((c.tc : Thread Cert.AdamwWInRefIdeal.nD Cert.AdamwWInRefIdeal.τ).loc Cert.AdamwWInRefIdeal.main_arg5) = m' ((c.tc : Thread Cert.AdamwWInRefIdeal.nD Cert.AdamwWInRefIdeal.τ).loc Cert.AdamwWInRefIdeal.main_arg5))

def preserves_AdamwWAttnBranch_AdamwWAttnBranchIdeal : Prop :=
  True

def algebraic_AdamwWAttnBranchIdeal_AdamwWAttnBranchRefIdeal [hAdamwWAttnBranchIdeal : Cert.AdamwWAttnBranchIdeal.Facts] [hAdamwWAttnBranchRefIdeal : Cert.AdamwWAttnBranchRefIdeal.Facts] [hPre_place_w_attn_branch : Cert.Pre_place_w_attn_branch.Facts] : Prop :=
  ∀ (m : (ℓ : Loc Cert.AdamwWAttnBranchIdeal.nD Cert.AdamwWAttnBranchIdeal.τ Cert.AdamwWAttnBranchIdeal.sig) → Buf (Elt Ideal) ℓ) (g : Dev Cert.AdamwWAttnBranchIdeal.nD → PrngReg)
    (m' : (ℓ : Loc Cert.AdamwWAttnBranchRefIdeal.nD Cert.AdamwWAttnBranchRefIdeal.τ Cert.AdamwWAttnBranchRefIdeal.sig) → Buf (Elt Ideal) ℓ) (g' : Dev Cert.AdamwWAttnBranchRefIdeal.nD → PrngReg), Pre_AdamwWAttnBranchIdeal m →
    (∀ c : Dev Cert.AdamwWAttnBranchIdeal.nD,
      m' ((c.tc : Thread Cert.AdamwWAttnBranchRefIdeal.nD Cert.AdamwWAttnBranchRefIdeal.τ).loc Cert.AdamwWAttnBranchRefIdeal.main_arg0) = m ((c.tc : Thread Cert.AdamwWAttnBranchIdeal.nD Cert.AdamwWAttnBranchIdeal.τ).loc Cert.AdamwWAttnBranchIdeal.main_arg0)
      ∧ m' ((c.tc : Thread Cert.AdamwWAttnBranchRefIdeal.nD Cert.AdamwWAttnBranchRefIdeal.τ).loc Cert.AdamwWAttnBranchRefIdeal.main_arg1) = m ((c.tc : Thread Cert.AdamwWAttnBranchIdeal.nD Cert.AdamwWAttnBranchIdeal.τ).loc Cert.AdamwWAttnBranchIdeal.main_arg1)
      ∧ m' ((c.tc : Thread Cert.AdamwWAttnBranchRefIdeal.nD Cert.AdamwWAttnBranchRefIdeal.τ).loc Cert.AdamwWAttnBranchRefIdeal.main_arg2) = m ((c.tc : Thread Cert.AdamwWAttnBranchIdeal.nD Cert.AdamwWAttnBranchIdeal.τ).loc Cert.AdamwWAttnBranchIdeal.main_arg2)
      ∧ m' ((c.tc : Thread Cert.AdamwWAttnBranchRefIdeal.nD Cert.AdamwWAttnBranchRefIdeal.τ).loc Cert.AdamwWAttnBranchRefIdeal.main_arg3) = m ((c.tc : Thread Cert.AdamwWAttnBranchIdeal.nD Cert.AdamwWAttnBranchIdeal.τ).loc Cert.AdamwWAttnBranchIdeal.main_arg3)
      ∧ m' ((c.tc : Thread Cert.AdamwWAttnBranchRefIdeal.nD Cert.AdamwWAttnBranchRefIdeal.τ).loc Cert.AdamwWAttnBranchRefIdeal.main_arg4) = m ((c.tc : Thread Cert.AdamwWAttnBranchIdeal.nD Cert.AdamwWAttnBranchIdeal.τ).loc Cert.AdamwWAttnBranchIdeal.main_arg4)
      ∧ m' ((c.tc : Thread Cert.AdamwWAttnBranchRefIdeal.nD Cert.AdamwWAttnBranchRefIdeal.τ).loc Cert.AdamwWAttnBranchRefIdeal.main_arg5) = m ((c.tc : Thread Cert.AdamwWAttnBranchIdeal.nD Cert.AdamwWAttnBranchIdeal.τ).loc Cert.AdamwWAttnBranchIdeal.main_arg5)) →
    ∃ (v0 : (c : Dev Cert.AdamwWAttnBranchIdeal.nD) → Buf (Elt Ideal) ((c.tc : Thread Cert.AdamwWAttnBranchIdeal.nD Cert.AdamwWAttnBranchIdeal.τ).loc Cert.AdamwWAttnBranchIdeal.main_v0_0)) (v1 : (c : Dev Cert.AdamwWAttnBranchIdeal.nD) → Buf (Elt Ideal) ((c.tc : Thread Cert.AdamwWAttnBranchIdeal.nD Cert.AdamwWAttnBranchIdeal.τ).loc Cert.AdamwWAttnBranchIdeal.main_v0_1)) (v2 : (c : Dev Cert.AdamwWAttnBranchIdeal.nD) → Buf (Elt Ideal) ((c.tc : Thread Cert.AdamwWAttnBranchIdeal.nD Cert.AdamwWAttnBranchIdeal.τ).loc Cert.AdamwWAttnBranchIdeal.main_v0_2)) (v3 : (c : Dev Cert.AdamwWAttnBranchIdeal.nD) → Buf (Elt Ideal) ((c.tc : Thread Cert.AdamwWAttnBranchIdeal.nD Cert.AdamwWAttnBranchIdeal.τ).loc Cert.AdamwWAttnBranchIdeal.main_v0_3)),
      θ_run (Cert.AdamwWAttnBranchIdeal.defs (F := Ideal)) (onTc (τ := Cert.AdamwWAttnBranchIdeal.τ) (Cert.AdamwWAttnBranchIdeal.main (F := Ideal))) ⟨m, fun _ => 0, g⟩ (fun r => ∀ c : Dev Cert.AdamwWAttnBranchIdeal.nD,
          r.2.mem ((c.tc : Thread Cert.AdamwWAttnBranchIdeal.nD Cert.AdamwWAttnBranchIdeal.τ).loc Cert.AdamwWAttnBranchIdeal.main_v0_0) = v0 c
          ∧ r.2.mem ((c.tc : Thread Cert.AdamwWAttnBranchIdeal.nD Cert.AdamwWAttnBranchIdeal.τ).loc Cert.AdamwWAttnBranchIdeal.main_v0_1) = v1 c
          ∧ r.2.mem ((c.tc : Thread Cert.AdamwWAttnBranchIdeal.nD Cert.AdamwWAttnBranchIdeal.τ).loc Cert.AdamwWAttnBranchIdeal.main_v0_2) = v2 c
          ∧ r.2.mem ((c.tc : Thread Cert.AdamwWAttnBranchIdeal.nD Cert.AdamwWAttnBranchIdeal.τ).loc Cert.AdamwWAttnBranchIdeal.main_v0_3) = v3 c
          ∧ r.2.mem ((c.tc : Thread Cert.AdamwWAttnBranchIdeal.nD Cert.AdamwWAttnBranchIdeal.τ).loc Cert.AdamwWAttnBranchIdeal.main_arg0) = m ((c.tc : Thread Cert.AdamwWAttnBranchIdeal.nD Cert.AdamwWAttnBranchIdeal.τ).loc Cert.AdamwWAttnBranchIdeal.main_arg0)
          ∧ r.2.mem ((c.tc : Thread Cert.AdamwWAttnBranchIdeal.nD Cert.AdamwWAttnBranchIdeal.τ).loc Cert.AdamwWAttnBranchIdeal.main_arg1) = m ((c.tc : Thread Cert.AdamwWAttnBranchIdeal.nD Cert.AdamwWAttnBranchIdeal.τ).loc Cert.AdamwWAttnBranchIdeal.main_arg1)
          ∧ r.2.mem ((c.tc : Thread Cert.AdamwWAttnBranchIdeal.nD Cert.AdamwWAttnBranchIdeal.τ).loc Cert.AdamwWAttnBranchIdeal.main_arg2) = m ((c.tc : Thread Cert.AdamwWAttnBranchIdeal.nD Cert.AdamwWAttnBranchIdeal.τ).loc Cert.AdamwWAttnBranchIdeal.main_arg2)
          ∧ r.2.mem ((c.tc : Thread Cert.AdamwWAttnBranchIdeal.nD Cert.AdamwWAttnBranchIdeal.τ).loc Cert.AdamwWAttnBranchIdeal.main_arg3) = m ((c.tc : Thread Cert.AdamwWAttnBranchIdeal.nD Cert.AdamwWAttnBranchIdeal.τ).loc Cert.AdamwWAttnBranchIdeal.main_arg3)
          ∧ r.2.mem ((c.tc : Thread Cert.AdamwWAttnBranchIdeal.nD Cert.AdamwWAttnBranchIdeal.τ).loc Cert.AdamwWAttnBranchIdeal.main_arg4) = m ((c.tc : Thread Cert.AdamwWAttnBranchIdeal.nD Cert.AdamwWAttnBranchIdeal.τ).loc Cert.AdamwWAttnBranchIdeal.main_arg4)
          ∧ r.2.mem ((c.tc : Thread Cert.AdamwWAttnBranchIdeal.nD Cert.AdamwWAttnBranchIdeal.τ).loc Cert.AdamwWAttnBranchIdeal.main_arg5) = m ((c.tc : Thread Cert.AdamwWAttnBranchIdeal.nD Cert.AdamwWAttnBranchIdeal.τ).loc Cert.AdamwWAttnBranchIdeal.main_arg5))
      ∧ θ_run (Cert.AdamwWAttnBranchRefIdeal.defs (F := Ideal)) (onTc (τ := Cert.AdamwWAttnBranchRefIdeal.τ) (Cert.AdamwWAttnBranchRefIdeal.main (F := Ideal))) ⟨m', fun _ => 0, g'⟩ (fun r => ∀ c : Dev Cert.AdamwWAttnBranchRefIdeal.nD,
          r.2.mem ((c.tc : Thread Cert.AdamwWAttnBranchRefIdeal.nD Cert.AdamwWAttnBranchRefIdeal.τ).loc Cert.AdamwWAttnBranchRefIdeal.main_v7) = v0 c
          ∧ r.2.mem ((c.tc : Thread Cert.AdamwWAttnBranchRefIdeal.nD Cert.AdamwWAttnBranchRefIdeal.τ).loc Cert.AdamwWAttnBranchRefIdeal.main_v31) = v1 c
          ∧ r.2.mem ((c.tc : Thread Cert.AdamwWAttnBranchRefIdeal.nD Cert.AdamwWAttnBranchRefIdeal.τ).loc Cert.AdamwWAttnBranchRefIdeal.main_v12) = v2 c
          ∧ r.2.mem ((c.tc : Thread Cert.AdamwWAttnBranchRefIdeal.nD Cert.AdamwWAttnBranchRefIdeal.τ).loc Cert.AdamwWAttnBranchRefIdeal.main_v18) = v3 c
          ∧ r.2.mem ((c.tc : Thread Cert.AdamwWAttnBranchRefIdeal.nD Cert.AdamwWAttnBranchRefIdeal.τ).loc Cert.AdamwWAttnBranchRefIdeal.main_arg0) = m' ((c.tc : Thread Cert.AdamwWAttnBranchRefIdeal.nD Cert.AdamwWAttnBranchRefIdeal.τ).loc Cert.AdamwWAttnBranchRefIdeal.main_arg0)
          ∧ r.2.mem ((c.tc : Thread Cert.AdamwWAttnBranchRefIdeal.nD Cert.AdamwWAttnBranchRefIdeal.τ).loc Cert.AdamwWAttnBranchRefIdeal.main_arg1) = m' ((c.tc : Thread Cert.AdamwWAttnBranchRefIdeal.nD Cert.AdamwWAttnBranchRefIdeal.τ).loc Cert.AdamwWAttnBranchRefIdeal.main_arg1)
          ∧ r.2.mem ((c.tc : Thread Cert.AdamwWAttnBranchRefIdeal.nD Cert.AdamwWAttnBranchRefIdeal.τ).loc Cert.AdamwWAttnBranchRefIdeal.main_arg2) = m' ((c.tc : Thread Cert.AdamwWAttnBranchRefIdeal.nD Cert.AdamwWAttnBranchRefIdeal.τ).loc Cert.AdamwWAttnBranchRefIdeal.main_arg2)
          ∧ r.2.mem ((c.tc : Thread Cert.AdamwWAttnBranchRefIdeal.nD Cert.AdamwWAttnBranchRefIdeal.τ).loc Cert.AdamwWAttnBranchRefIdeal.main_arg3) = m' ((c.tc : Thread Cert.AdamwWAttnBranchRefIdeal.nD Cert.AdamwWAttnBranchRefIdeal.τ).loc Cert.AdamwWAttnBranchRefIdeal.main_arg3)
          ∧ r.2.mem ((c.tc : Thread Cert.AdamwWAttnBranchRefIdeal.nD Cert.AdamwWAttnBranchRefIdeal.τ).loc Cert.AdamwWAttnBranchRefIdeal.main_arg4) = m' ((c.tc : Thread Cert.AdamwWAttnBranchRefIdeal.nD Cert.AdamwWAttnBranchRefIdeal.τ).loc Cert.AdamwWAttnBranchRefIdeal.main_arg4)
          ∧ r.2.mem ((c.tc : Thread Cert.AdamwWAttnBranchRefIdeal.nD Cert.AdamwWAttnBranchRefIdeal.τ).loc Cert.AdamwWAttnBranchRefIdeal.main_arg5) = m' ((c.tc : Thread Cert.AdamwWAttnBranchRefIdeal.nD Cert.AdamwWAttnBranchRefIdeal.τ).loc Cert.AdamwWAttnBranchRefIdeal.main_arg5))

def preserves_AdamwWSsmBranch_AdamwWSsmBranchIdeal : Prop :=
  True

def algebraic_AdamwWSsmBranchIdeal_AdamwWSsmBranchRefIdeal [hAdamwWSsmBranchIdeal : Cert.AdamwWSsmBranchIdeal.Facts] [hAdamwWSsmBranchRefIdeal : Cert.AdamwWSsmBranchRefIdeal.Facts] [hPre_place_w_ssm_branch : Cert.Pre_place_w_ssm_branch.Facts] : Prop :=
  ∀ (m : (ℓ : Loc Cert.AdamwWSsmBranchIdeal.nD Cert.AdamwWSsmBranchIdeal.τ Cert.AdamwWSsmBranchIdeal.sig) → Buf (Elt Ideal) ℓ) (g : Dev Cert.AdamwWSsmBranchIdeal.nD → PrngReg)
    (m' : (ℓ : Loc Cert.AdamwWSsmBranchRefIdeal.nD Cert.AdamwWSsmBranchRefIdeal.τ Cert.AdamwWSsmBranchRefIdeal.sig) → Buf (Elt Ideal) ℓ) (g' : Dev Cert.AdamwWSsmBranchRefIdeal.nD → PrngReg), Pre_AdamwWSsmBranchIdeal m →
    (∀ c : Dev Cert.AdamwWSsmBranchIdeal.nD,
      m' ((c.tc : Thread Cert.AdamwWSsmBranchRefIdeal.nD Cert.AdamwWSsmBranchRefIdeal.τ).loc Cert.AdamwWSsmBranchRefIdeal.main_arg0) = m ((c.tc : Thread Cert.AdamwWSsmBranchIdeal.nD Cert.AdamwWSsmBranchIdeal.τ).loc Cert.AdamwWSsmBranchIdeal.main_arg0)
      ∧ m' ((c.tc : Thread Cert.AdamwWSsmBranchRefIdeal.nD Cert.AdamwWSsmBranchRefIdeal.τ).loc Cert.AdamwWSsmBranchRefIdeal.main_arg1) = m ((c.tc : Thread Cert.AdamwWSsmBranchIdeal.nD Cert.AdamwWSsmBranchIdeal.τ).loc Cert.AdamwWSsmBranchIdeal.main_arg1)
      ∧ m' ((c.tc : Thread Cert.AdamwWSsmBranchRefIdeal.nD Cert.AdamwWSsmBranchRefIdeal.τ).loc Cert.AdamwWSsmBranchRefIdeal.main_arg2) = m ((c.tc : Thread Cert.AdamwWSsmBranchIdeal.nD Cert.AdamwWSsmBranchIdeal.τ).loc Cert.AdamwWSsmBranchIdeal.main_arg2)
      ∧ m' ((c.tc : Thread Cert.AdamwWSsmBranchRefIdeal.nD Cert.AdamwWSsmBranchRefIdeal.τ).loc Cert.AdamwWSsmBranchRefIdeal.main_arg3) = m ((c.tc : Thread Cert.AdamwWSsmBranchIdeal.nD Cert.AdamwWSsmBranchIdeal.τ).loc Cert.AdamwWSsmBranchIdeal.main_arg3)
      ∧ m' ((c.tc : Thread Cert.AdamwWSsmBranchRefIdeal.nD Cert.AdamwWSsmBranchRefIdeal.τ).loc Cert.AdamwWSsmBranchRefIdeal.main_arg4) = m ((c.tc : Thread Cert.AdamwWSsmBranchIdeal.nD Cert.AdamwWSsmBranchIdeal.τ).loc Cert.AdamwWSsmBranchIdeal.main_arg4)
      ∧ m' ((c.tc : Thread Cert.AdamwWSsmBranchRefIdeal.nD Cert.AdamwWSsmBranchRefIdeal.τ).loc Cert.AdamwWSsmBranchRefIdeal.main_arg5) = m ((c.tc : Thread Cert.AdamwWSsmBranchIdeal.nD Cert.AdamwWSsmBranchIdeal.τ).loc Cert.AdamwWSsmBranchIdeal.main_arg5)) →
    ∃ (v0 : (c : Dev Cert.AdamwWSsmBranchIdeal.nD) → Buf (Elt Ideal) ((c.tc : Thread Cert.AdamwWSsmBranchIdeal.nD Cert.AdamwWSsmBranchIdeal.τ).loc Cert.AdamwWSsmBranchIdeal.main_v0_0)) (v1 : (c : Dev Cert.AdamwWSsmBranchIdeal.nD) → Buf (Elt Ideal) ((c.tc : Thread Cert.AdamwWSsmBranchIdeal.nD Cert.AdamwWSsmBranchIdeal.τ).loc Cert.AdamwWSsmBranchIdeal.main_v0_1)) (v2 : (c : Dev Cert.AdamwWSsmBranchIdeal.nD) → Buf (Elt Ideal) ((c.tc : Thread Cert.AdamwWSsmBranchIdeal.nD Cert.AdamwWSsmBranchIdeal.τ).loc Cert.AdamwWSsmBranchIdeal.main_v0_2)) (v3 : (c : Dev Cert.AdamwWSsmBranchIdeal.nD) → Buf (Elt Ideal) ((c.tc : Thread Cert.AdamwWSsmBranchIdeal.nD Cert.AdamwWSsmBranchIdeal.τ).loc Cert.AdamwWSsmBranchIdeal.main_v0_3)),
      θ_run (Cert.AdamwWSsmBranchIdeal.defs (F := Ideal)) (onTc (τ := Cert.AdamwWSsmBranchIdeal.τ) (Cert.AdamwWSsmBranchIdeal.main (F := Ideal))) ⟨m, fun _ => 0, g⟩ (fun r => ∀ c : Dev Cert.AdamwWSsmBranchIdeal.nD,
          r.2.mem ((c.tc : Thread Cert.AdamwWSsmBranchIdeal.nD Cert.AdamwWSsmBranchIdeal.τ).loc Cert.AdamwWSsmBranchIdeal.main_v0_0) = v0 c
          ∧ r.2.mem ((c.tc : Thread Cert.AdamwWSsmBranchIdeal.nD Cert.AdamwWSsmBranchIdeal.τ).loc Cert.AdamwWSsmBranchIdeal.main_v0_1) = v1 c
          ∧ r.2.mem ((c.tc : Thread Cert.AdamwWSsmBranchIdeal.nD Cert.AdamwWSsmBranchIdeal.τ).loc Cert.AdamwWSsmBranchIdeal.main_v0_2) = v2 c
          ∧ r.2.mem ((c.tc : Thread Cert.AdamwWSsmBranchIdeal.nD Cert.AdamwWSsmBranchIdeal.τ).loc Cert.AdamwWSsmBranchIdeal.main_v0_3) = v3 c
          ∧ r.2.mem ((c.tc : Thread Cert.AdamwWSsmBranchIdeal.nD Cert.AdamwWSsmBranchIdeal.τ).loc Cert.AdamwWSsmBranchIdeal.main_arg0) = m ((c.tc : Thread Cert.AdamwWSsmBranchIdeal.nD Cert.AdamwWSsmBranchIdeal.τ).loc Cert.AdamwWSsmBranchIdeal.main_arg0)
          ∧ r.2.mem ((c.tc : Thread Cert.AdamwWSsmBranchIdeal.nD Cert.AdamwWSsmBranchIdeal.τ).loc Cert.AdamwWSsmBranchIdeal.main_arg1) = m ((c.tc : Thread Cert.AdamwWSsmBranchIdeal.nD Cert.AdamwWSsmBranchIdeal.τ).loc Cert.AdamwWSsmBranchIdeal.main_arg1)
          ∧ r.2.mem ((c.tc : Thread Cert.AdamwWSsmBranchIdeal.nD Cert.AdamwWSsmBranchIdeal.τ).loc Cert.AdamwWSsmBranchIdeal.main_arg2) = m ((c.tc : Thread Cert.AdamwWSsmBranchIdeal.nD Cert.AdamwWSsmBranchIdeal.τ).loc Cert.AdamwWSsmBranchIdeal.main_arg2)
          ∧ r.2.mem ((c.tc : Thread Cert.AdamwWSsmBranchIdeal.nD Cert.AdamwWSsmBranchIdeal.τ).loc Cert.AdamwWSsmBranchIdeal.main_arg3) = m ((c.tc : Thread Cert.AdamwWSsmBranchIdeal.nD Cert.AdamwWSsmBranchIdeal.τ).loc Cert.AdamwWSsmBranchIdeal.main_arg3)
          ∧ r.2.mem ((c.tc : Thread Cert.AdamwWSsmBranchIdeal.nD Cert.AdamwWSsmBranchIdeal.τ).loc Cert.AdamwWSsmBranchIdeal.main_arg4) = m ((c.tc : Thread Cert.AdamwWSsmBranchIdeal.nD Cert.AdamwWSsmBranchIdeal.τ).loc Cert.AdamwWSsmBranchIdeal.main_arg4)
          ∧ r.2.mem ((c.tc : Thread Cert.AdamwWSsmBranchIdeal.nD Cert.AdamwWSsmBranchIdeal.τ).loc Cert.AdamwWSsmBranchIdeal.main_arg5) = m ((c.tc : Thread Cert.AdamwWSsmBranchIdeal.nD Cert.AdamwWSsmBranchIdeal.τ).loc Cert.AdamwWSsmBranchIdeal.main_arg5))
      ∧ θ_run (Cert.AdamwWSsmBranchRefIdeal.defs (F := Ideal)) (onTc (τ := Cert.AdamwWSsmBranchRefIdeal.τ) (Cert.AdamwWSsmBranchRefIdeal.main (F := Ideal))) ⟨m', fun _ => 0, g'⟩ (fun r => ∀ c : Dev Cert.AdamwWSsmBranchRefIdeal.nD,
          r.2.mem ((c.tc : Thread Cert.AdamwWSsmBranchRefIdeal.nD Cert.AdamwWSsmBranchRefIdeal.τ).loc Cert.AdamwWSsmBranchRefIdeal.main_v7) = v0 c
          ∧ r.2.mem ((c.tc : Thread Cert.AdamwWSsmBranchRefIdeal.nD Cert.AdamwWSsmBranchRefIdeal.τ).loc Cert.AdamwWSsmBranchRefIdeal.main_v31) = v1 c
          ∧ r.2.mem ((c.tc : Thread Cert.AdamwWSsmBranchRefIdeal.nD Cert.AdamwWSsmBranchRefIdeal.τ).loc Cert.AdamwWSsmBranchRefIdeal.main_v12) = v2 c
          ∧ r.2.mem ((c.tc : Thread Cert.AdamwWSsmBranchRefIdeal.nD Cert.AdamwWSsmBranchRefIdeal.τ).loc Cert.AdamwWSsmBranchRefIdeal.main_v18) = v3 c
          ∧ r.2.mem ((c.tc : Thread Cert.AdamwWSsmBranchRefIdeal.nD Cert.AdamwWSsmBranchRefIdeal.τ).loc Cert.AdamwWSsmBranchRefIdeal.main_arg0) = m' ((c.tc : Thread Cert.AdamwWSsmBranchRefIdeal.nD Cert.AdamwWSsmBranchRefIdeal.τ).loc Cert.AdamwWSsmBranchRefIdeal.main_arg0)
          ∧ r.2.mem ((c.tc : Thread Cert.AdamwWSsmBranchRefIdeal.nD Cert.AdamwWSsmBranchRefIdeal.τ).loc Cert.AdamwWSsmBranchRefIdeal.main_arg1) = m' ((c.tc : Thread Cert.AdamwWSsmBranchRefIdeal.nD Cert.AdamwWSsmBranchRefIdeal.τ).loc Cert.AdamwWSsmBranchRefIdeal.main_arg1)
          ∧ r.2.mem ((c.tc : Thread Cert.AdamwWSsmBranchRefIdeal.nD Cert.AdamwWSsmBranchRefIdeal.τ).loc Cert.AdamwWSsmBranchRefIdeal.main_arg2) = m' ((c.tc : Thread Cert.AdamwWSsmBranchRefIdeal.nD Cert.AdamwWSsmBranchRefIdeal.τ).loc Cert.AdamwWSsmBranchRefIdeal.main_arg2)
          ∧ r.2.mem ((c.tc : Thread Cert.AdamwWSsmBranchRefIdeal.nD Cert.AdamwWSsmBranchRefIdeal.τ).loc Cert.AdamwWSsmBranchRefIdeal.main_arg3) = m' ((c.tc : Thread Cert.AdamwWSsmBranchRefIdeal.nD Cert.AdamwWSsmBranchRefIdeal.τ).loc Cert.AdamwWSsmBranchRefIdeal.main_arg3)
          ∧ r.2.mem ((c.tc : Thread Cert.AdamwWSsmBranchRefIdeal.nD Cert.AdamwWSsmBranchRefIdeal.τ).loc Cert.AdamwWSsmBranchRefIdeal.main_arg4) = m' ((c.tc : Thread Cert.AdamwWSsmBranchRefIdeal.nD Cert.AdamwWSsmBranchRefIdeal.τ).loc Cert.AdamwWSsmBranchRefIdeal.main_arg4)
          ∧ r.2.mem ((c.tc : Thread Cert.AdamwWSsmBranchRefIdeal.nD Cert.AdamwWSsmBranchRefIdeal.τ).loc Cert.AdamwWSsmBranchRefIdeal.main_arg5) = m' ((c.tc : Thread Cert.AdamwWSsmBranchRefIdeal.nD Cert.AdamwWSsmBranchRefIdeal.τ).loc Cert.AdamwWSsmBranchRefIdeal.main_arg5))

def preserves_AdamwWOut_AdamwWOutIdeal : Prop :=
  True

def algebraic_AdamwWOutIdeal_AdamwWOutRefIdeal [hAdamwWOutIdeal : Cert.AdamwWOutIdeal.Facts] [hAdamwWOutRefIdeal : Cert.AdamwWOutRefIdeal.Facts] [hPre_place_w_out : Cert.Pre_place_w_out.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutRefIdeal.nD Cert.AdamwWOutRefIdeal.τ Cert.AdamwWOutRefIdeal.sig) → Buf (Elt Ideal) ℓ) (g' : Dev Cert.AdamwWOutRefIdeal.nD → PrngReg), Pre_AdamwWOutIdeal m →
    (∀ c : Dev Cert.AdamwWOutIdeal.nD,
      m' ((c.tc : Thread Cert.AdamwWOutRefIdeal.nD Cert.AdamwWOutRefIdeal.τ).loc Cert.AdamwWOutRefIdeal.main_arg0) = m ((c.tc : Thread Cert.AdamwWOutIdeal.nD Cert.AdamwWOutIdeal.τ).loc Cert.AdamwWOutIdeal.main_arg0)
      ∧ m' ((c.tc : Thread Cert.AdamwWOutRefIdeal.nD Cert.AdamwWOutRefIdeal.τ).loc Cert.AdamwWOutRefIdeal.main_arg1) = m ((c.tc : Thread Cert.AdamwWOutIdeal.nD Cert.AdamwWOutIdeal.τ).loc Cert.AdamwWOutIdeal.main_arg1)
      ∧ m' ((c.tc : Thread Cert.AdamwWOutRefIdeal.nD Cert.AdamwWOutRefIdeal.τ).loc Cert.AdamwWOutRefIdeal.main_arg2) = m ((c.tc : Thread Cert.AdamwWOutIdeal.nD Cert.AdamwWOutIdeal.τ).loc Cert.AdamwWOutIdeal.main_arg2)
      ∧ m' ((c.tc : Thread Cert.AdamwWOutRefIdeal.nD Cert.AdamwWOutRefIdeal.τ).loc Cert.AdamwWOutRefIdeal.main_arg3) = m ((c.tc : Thread Cert.AdamwWOutIdeal.nD Cert.AdamwWOutIdeal.τ).loc Cert.AdamwWOutIdeal.main_arg3)
      ∧ m' ((c.tc : Thread Cert.AdamwWOutRefIdeal.nD Cert.AdamwWOutRefIdeal.τ).loc Cert.AdamwWOutRefIdeal.main_arg4) = m ((c.tc : Thread Cert.AdamwWOutIdeal.nD Cert.AdamwWOutIdeal.τ).loc Cert.AdamwWOutIdeal.main_arg4)
      ∧ m' ((c.tc : Thread Cert.AdamwWOutRefIdeal.nD Cert.AdamwWOutRefIdeal.τ).loc Cert.AdamwWOutRefIdeal.main_arg5) = m ((c.tc : Thread Cert.AdamwWOutIdeal.nD Cert.AdamwWOutIdeal.τ).loc Cert.AdamwWOutIdeal.main_arg5)) →
    ∃ (v0 : (c : Dev Cert.AdamwWOutIdeal.nD) → Buf (Elt Ideal) ((c.tc : Thread Cert.AdamwWOutIdeal.nD Cert.AdamwWOutIdeal.τ).loc Cert.AdamwWOutIdeal.main_v0_0)) (v1 : (c : Dev Cert.AdamwWOutIdeal.nD) → Buf (Elt Ideal) ((c.tc : Thread Cert.AdamwWOutIdeal.nD Cert.AdamwWOutIdeal.τ).loc Cert.AdamwWOutIdeal.main_v0_1)) (v2 : (c : Dev Cert.AdamwWOutIdeal.nD) → Buf (Elt Ideal) ((c.tc : Thread Cert.AdamwWOutIdeal.nD Cert.AdamwWOutIdeal.τ).loc Cert.AdamwWOutIdeal.main_v0_2)) (v3 : (c : Dev Cert.AdamwWOutIdeal.nD) → Buf (Elt Ideal) ((c.tc : Thread Cert.AdamwWOutIdeal.nD Cert.AdamwWOutIdeal.τ).loc Cert.AdamwWOutIdeal.main_v0_3)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v0_0) = v0 c
          ∧ r.2.mem ((c.tc : Thread Cert.AdamwWOutIdeal.nD Cert.AdamwWOutIdeal.τ).loc Cert.AdamwWOutIdeal.main_v0_1) = v1 c
          ∧ r.2.mem ((c.tc : Thread Cert.AdamwWOutIdeal.nD Cert.AdamwWOutIdeal.τ).loc Cert.AdamwWOutIdeal.main_v0_2) = v2 c
          ∧ r.2.mem ((c.tc : Thread Cert.AdamwWOutIdeal.nD Cert.AdamwWOutIdeal.τ).loc Cert.AdamwWOutIdeal.main_v0_3) = v3 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
          ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4)
          ∧ r.2.mem ((c.tc : Thread Cert.AdamwWOutIdeal.nD Cert.AdamwWOutIdeal.τ).loc Cert.AdamwWOutIdeal.main_arg5) = m ((c.tc : Thread Cert.AdamwWOutIdeal.nD Cert.AdamwWOutIdeal.τ).loc Cert.AdamwWOutIdeal.main_arg5))
      ∧ θ_run (Cert.AdamwWOutRefIdeal.defs (F := Ideal)) (onTc (τ := Cert.AdamwWOutRefIdeal.τ) (Cert.AdamwWOutRefIdeal.main (F := Ideal))) ⟨m', fun _ => 0, g'⟩ (fun r => ∀ c : Dev Cert.AdamwWOutRefIdeal.nD,
          r.2.mem ((c.tc : Thread Cert.AdamwWOutRefIdeal.nD Cert.AdamwWOutRefIdeal.τ).loc Cert.AdamwWOutRefIdeal.main_v7) = v0 c
          ∧ r.2.mem ((c.tc : Thread Cert.AdamwWOutRefIdeal.nD Cert.AdamwWOutRefIdeal.τ).loc Cert.AdamwWOutRefIdeal.main_v31) = v1 c
          ∧ r.2.mem ((c.tc : Thread Cert.AdamwWOutRefIdeal.nD Cert.AdamwWOutRefIdeal.τ).loc Cert.AdamwWOutRefIdeal.main_v12) = v2 c
          ∧ r.2.mem ((c.tc : Thread Cert.AdamwWOutRefIdeal.nD Cert.AdamwWOutRefIdeal.τ).loc Cert.AdamwWOutRefIdeal.main_v18) = v3 c
          ∧ r.2.mem ((c.tc : Thread Cert.AdamwWOutRefIdeal.nD Cert.AdamwWOutRefIdeal.τ).loc Cert.AdamwWOutRefIdeal.main_arg0) = m' ((c.tc : Thread Cert.AdamwWOutRefIdeal.nD Cert.AdamwWOutRefIdeal.τ).loc Cert.AdamwWOutRefIdeal.main_arg0)
          ∧ r.2.mem ((c.tc : Thread Cert.AdamwWOutRefIdeal.nD Cert.AdamwWOutRefIdeal.τ).loc Cert.AdamwWOutRefIdeal.main_arg1) = m' ((c.tc : Thread Cert.AdamwWOutRefIdeal.nD Cert.AdamwWOutRefIdeal.τ).loc Cert.AdamwWOutRefIdeal.main_arg1)
          ∧ r.2.mem ((c.tc : Thread Cert.AdamwWOutRefIdeal.nD Cert.AdamwWOutRefIdeal.τ).loc Cert.AdamwWOutRefIdeal.main_arg2) = m' ((c.tc : Thread Cert.AdamwWOutRefIdeal.nD Cert.AdamwWOutRefIdeal.τ).loc Cert.AdamwWOutRefIdeal.main_arg2)
          ∧ r.2.mem ((c.tc : Thread Cert.AdamwWOutRefIdeal.nD Cert.AdamwWOutRefIdeal.τ).loc Cert.AdamwWOutRefIdeal.main_arg3) = m' ((c.tc : Thread Cert.AdamwWOutRefIdeal.nD Cert.AdamwWOutRefIdeal.τ).loc Cert.AdamwWOutRefIdeal.main_arg3)
          ∧ r.2.mem ((c.tc : Thread Cert.AdamwWOutRefIdeal.nD Cert.AdamwWOutRefIdeal.τ).loc Cert.AdamwWOutRefIdeal.main_arg4) = m' ((c.tc : Thread Cert.AdamwWOutRefIdeal.nD Cert.AdamwWOutRefIdeal.τ).loc Cert.AdamwWOutRefIdeal.main_arg4)
          ∧ r.2.mem ((c.tc : Thread Cert.AdamwWOutRefIdeal.nD Cert.AdamwWOutRefIdeal.τ).loc Cert.AdamwWOutRefIdeal.main_arg5) = m' ((c.tc : Thread Cert.AdamwWOutRefIdeal.nD Cert.AdamwWOutRefIdeal.τ).loc Cert.AdamwWOutRefIdeal.main_arg5))

def preserves_AdamwWFfnIn_AdamwWFfnInIdeal : Prop :=
  True

def algebraic_AdamwWFfnInIdeal_AdamwWFfnInRefIdeal [hAdamwWFfnInIdeal : Cert.AdamwWFfnInIdeal.Facts] [hAdamwWFfnInRefIdeal : Cert.AdamwWFfnInRefIdeal.Facts] [hPre_place_w_ffn_in : Cert.Pre_place_w_ffn_in.Facts] : Prop :=
  ∀ (m : (ℓ : Loc Cert.AdamwWFfnInIdeal.nD Cert.AdamwWFfnInIdeal.τ Cert.AdamwWFfnInIdeal.sig) → Buf (Elt Ideal) ℓ) (g : Dev Cert.AdamwWFfnInIdeal.nD → PrngReg)
    (m' : (ℓ : Loc Cert.AdamwWFfnInRefIdeal.nD Cert.AdamwWFfnInRefIdeal.τ Cert.AdamwWFfnInRefIdeal.sig) → Buf (Elt Ideal) ℓ) (g' : Dev Cert.AdamwWFfnInRefIdeal.nD → PrngReg), Pre_AdamwWFfnInIdeal m →
    (∀ c : Dev Cert.AdamwWFfnInIdeal.nD,
      m' ((c.tc : Thread Cert.AdamwWFfnInRefIdeal.nD Cert.AdamwWFfnInRefIdeal.τ).loc Cert.AdamwWFfnInRefIdeal.main_arg0) = m ((c.tc : Thread Cert.AdamwWFfnInIdeal.nD Cert.AdamwWFfnInIdeal.τ).loc Cert.AdamwWFfnInIdeal.main_arg0)
      ∧ m' ((c.tc : Thread Cert.AdamwWFfnInRefIdeal.nD Cert.AdamwWFfnInRefIdeal.τ).loc Cert.AdamwWFfnInRefIdeal.main_arg1) = m ((c.tc : Thread Cert.AdamwWFfnInIdeal.nD Cert.AdamwWFfnInIdeal.τ).loc Cert.AdamwWFfnInIdeal.main_arg1)
      ∧ m' ((c.tc : Thread Cert.AdamwWFfnInRefIdeal.nD Cert.AdamwWFfnInRefIdeal.τ).loc Cert.AdamwWFfnInRefIdeal.main_arg2) = m ((c.tc : Thread Cert.AdamwWFfnInIdeal.nD Cert.AdamwWFfnInIdeal.τ).loc Cert.AdamwWFfnInIdeal.main_arg2)
      ∧ m' ((c.tc : Thread Cert.AdamwWFfnInRefIdeal.nD Cert.AdamwWFfnInRefIdeal.τ).loc Cert.AdamwWFfnInRefIdeal.main_arg3) = m ((c.tc : Thread Cert.AdamwWFfnInIdeal.nD Cert.AdamwWFfnInIdeal.τ).loc Cert.AdamwWFfnInIdeal.main_arg3)
      ∧ m' ((c.tc : Thread Cert.AdamwWFfnInRefIdeal.nD Cert.AdamwWFfnInRefIdeal.τ).loc Cert.AdamwWFfnInRefIdeal.main_arg4) = m ((c.tc : Thread Cert.AdamwWFfnInIdeal.nD Cert.AdamwWFfnInIdeal.τ).loc Cert.AdamwWFfnInIdeal.main_arg4)
      ∧ m' ((c.tc : Thread Cert.AdamwWFfnInRefIdeal.nD Cert.AdamwWFfnInRefIdeal.τ).loc Cert.AdamwWFfnInRefIdeal.main_arg5) = m ((c.tc : Thread Cert.AdamwWFfnInIdeal.nD Cert.AdamwWFfnInIdeal.τ).loc Cert.AdamwWFfnInIdeal.main_arg5)) →
    ∃ (v0 : (c : Dev Cert.AdamwWFfnInIdeal.nD) → Buf (Elt Ideal) ((c.tc : Thread Cert.AdamwWFfnInIdeal.nD Cert.AdamwWFfnInIdeal.τ).loc Cert.AdamwWFfnInIdeal.main_v0_0)) (v1 : (c : Dev Cert.AdamwWFfnInIdeal.nD) → Buf (Elt Ideal) ((c.tc : Thread Cert.AdamwWFfnInIdeal.nD Cert.AdamwWFfnInIdeal.τ).loc Cert.AdamwWFfnInIdeal.main_v0_1)) (v2 : (c : Dev Cert.AdamwWFfnInIdeal.nD) → Buf (Elt Ideal) ((c.tc : Thread Cert.AdamwWFfnInIdeal.nD Cert.AdamwWFfnInIdeal.τ).loc Cert.AdamwWFfnInIdeal.main_v0_2)) (v3 : (c : Dev Cert.AdamwWFfnInIdeal.nD) → Buf (Elt Ideal) ((c.tc : Thread Cert.AdamwWFfnInIdeal.nD Cert.AdamwWFfnInIdeal.τ).loc Cert.AdamwWFfnInIdeal.main_v0_3)),
      θ_run (Cert.AdamwWFfnInIdeal.defs (F := Ideal)) (onTc (τ := Cert.AdamwWFfnInIdeal.τ) (Cert.AdamwWFfnInIdeal.main (F := Ideal))) ⟨m, fun _ => 0, g⟩ (fun r => ∀ c : Dev Cert.AdamwWFfnInIdeal.nD,
          r.2.mem ((c.tc : Thread Cert.AdamwWFfnInIdeal.nD Cert.AdamwWFfnInIdeal.τ).loc Cert.AdamwWFfnInIdeal.main_v0_0) = v0 c
          ∧ r.2.mem ((c.tc : Thread Cert.AdamwWFfnInIdeal.nD Cert.AdamwWFfnInIdeal.τ).loc Cert.AdamwWFfnInIdeal.main_v0_1) = v1 c
          ∧ r.2.mem ((c.tc : Thread Cert.AdamwWFfnInIdeal.nD Cert.AdamwWFfnInIdeal.τ).loc Cert.AdamwWFfnInIdeal.main_v0_2) = v2 c
          ∧ r.2.mem ((c.tc : Thread Cert.AdamwWFfnInIdeal.nD Cert.AdamwWFfnInIdeal.τ).loc Cert.AdamwWFfnInIdeal.main_v0_3) = v3 c
          ∧ r.2.mem ((c.tc : Thread Cert.AdamwWFfnInIdeal.nD Cert.AdamwWFfnInIdeal.τ).loc Cert.AdamwWFfnInIdeal.main_arg0) = m ((c.tc : Thread Cert.AdamwWFfnInIdeal.nD Cert.AdamwWFfnInIdeal.τ).loc Cert.AdamwWFfnInIdeal.main_arg0)
          ∧ r.2.mem ((c.tc : Thread Cert.AdamwWFfnInIdeal.nD Cert.AdamwWFfnInIdeal.τ).loc Cert.AdamwWFfnInIdeal.main_arg1) = m ((c.tc : Thread Cert.AdamwWFfnInIdeal.nD Cert.AdamwWFfnInIdeal.τ).loc Cert.AdamwWFfnInIdeal.main_arg1)
          ∧ r.2.mem ((c.tc : Thread Cert.AdamwWFfnInIdeal.nD Cert.AdamwWFfnInIdeal.τ).loc Cert.AdamwWFfnInIdeal.main_arg2) = m ((c.tc : Thread Cert.AdamwWFfnInIdeal.nD Cert.AdamwWFfnInIdeal.τ).loc Cert.AdamwWFfnInIdeal.main_arg2)
          ∧ r.2.mem ((c.tc : Thread Cert.AdamwWFfnInIdeal.nD Cert.AdamwWFfnInIdeal.τ).loc Cert.AdamwWFfnInIdeal.main_arg3) = m ((c.tc : Thread Cert.AdamwWFfnInIdeal.nD Cert.AdamwWFfnInIdeal.τ).loc Cert.AdamwWFfnInIdeal.main_arg3)
          ∧ r.2.mem ((c.tc : Thread Cert.AdamwWFfnInIdeal.nD Cert.AdamwWFfnInIdeal.τ).loc Cert.AdamwWFfnInIdeal.main_arg4) = m ((c.tc : Thread Cert.AdamwWFfnInIdeal.nD Cert.AdamwWFfnInIdeal.τ).loc Cert.AdamwWFfnInIdeal.main_arg4)
          ∧ r.2.mem ((c.tc : Thread Cert.AdamwWFfnInIdeal.nD Cert.AdamwWFfnInIdeal.τ).loc Cert.AdamwWFfnInIdeal.main_arg5) = m ((c.tc : Thread Cert.AdamwWFfnInIdeal.nD Cert.AdamwWFfnInIdeal.τ).loc Cert.AdamwWFfnInIdeal.main_arg5))
      ∧ θ_run (Cert.AdamwWFfnInRefIdeal.defs (F := Ideal)) (onTc (τ := Cert.AdamwWFfnInRefIdeal.τ) (Cert.AdamwWFfnInRefIdeal.main (F := Ideal))) ⟨m', fun _ => 0, g'⟩ (fun r => ∀ c : Dev Cert.AdamwWFfnInRefIdeal.nD,
          r.2.mem ((c.tc : Thread Cert.AdamwWFfnInRefIdeal.nD Cert.AdamwWFfnInRefIdeal.τ).loc Cert.AdamwWFfnInRefIdeal.main_v7) = v0 c
          ∧ r.2.mem ((c.tc : Thread Cert.AdamwWFfnInRefIdeal.nD Cert.AdamwWFfnInRefIdeal.τ).loc Cert.AdamwWFfnInRefIdeal.main_v31) = v1 c
          ∧ r.2.mem ((c.tc : Thread Cert.AdamwWFfnInRefIdeal.nD Cert.AdamwWFfnInRefIdeal.τ).loc Cert.AdamwWFfnInRefIdeal.main_v12) = v2 c
          ∧ r.2.mem ((c.tc : Thread Cert.AdamwWFfnInRefIdeal.nD Cert.AdamwWFfnInRefIdeal.τ).loc Cert.AdamwWFfnInRefIdeal.main_v18) = v3 c
          ∧ r.2.mem ((c.tc : Thread Cert.AdamwWFfnInRefIdeal.nD Cert.AdamwWFfnInRefIdeal.τ).loc Cert.AdamwWFfnInRefIdeal.main_arg0) = m' ((c.tc : Thread Cert.AdamwWFfnInRefIdeal.nD Cert.AdamwWFfnInRefIdeal.τ).loc Cert.AdamwWFfnInRefIdeal.main_arg0)
          ∧ r.2.mem ((c.tc : Thread Cert.AdamwWFfnInRefIdeal.nD Cert.AdamwWFfnInRefIdeal.τ).loc Cert.AdamwWFfnInRefIdeal.main_arg1) = m' ((c.tc : Thread Cert.AdamwWFfnInRefIdeal.nD Cert.AdamwWFfnInRefIdeal.τ).loc Cert.AdamwWFfnInRefIdeal.main_arg1)
          ∧ r.2.mem ((c.tc : Thread Cert.AdamwWFfnInRefIdeal.nD Cert.AdamwWFfnInRefIdeal.τ).loc Cert.AdamwWFfnInRefIdeal.main_arg2) = m' ((c.tc : Thread Cert.AdamwWFfnInRefIdeal.nD Cert.AdamwWFfnInRefIdeal.τ).loc Cert.AdamwWFfnInRefIdeal.main_arg2)
          ∧ r.2.mem ((c.tc : Thread Cert.AdamwWFfnInRefIdeal.nD Cert.AdamwWFfnInRefIdeal.τ).loc Cert.AdamwWFfnInRefIdeal.main_arg3) = m' ((c.tc : Thread Cert.AdamwWFfnInRefIdeal.nD Cert.AdamwWFfnInRefIdeal.τ).loc Cert.AdamwWFfnInRefIdeal.main_arg3)
          ∧ r.2.mem ((c.tc : Thread Cert.AdamwWFfnInRefIdeal.nD Cert.AdamwWFfnInRefIdeal.τ).loc Cert.AdamwWFfnInRefIdeal.main_arg4) = m' ((c.tc : Thread Cert.AdamwWFfnInRefIdeal.nD Cert.AdamwWFfnInRefIdeal.τ).loc Cert.AdamwWFfnInRefIdeal.main_arg4)
          ∧ r.2.mem ((c.tc : Thread Cert.AdamwWFfnInRefIdeal.nD Cert.AdamwWFfnInRefIdeal.τ).loc Cert.AdamwWFfnInRefIdeal.main_arg5) = m' ((c.tc : Thread Cert.AdamwWFfnInRefIdeal.nD Cert.AdamwWFfnInRefIdeal.τ).loc Cert.AdamwWFfnInRefIdeal.main_arg5))

def preserves_AdamwWFfnOut_AdamwWFfnOutIdeal : Prop :=
  True

def algebraic_AdamwWFfnOutIdeal_AdamwWFfnOutRefIdeal [hAdamwWFfnOutIdeal : Cert.AdamwWFfnOutIdeal.Facts] [hAdamwWFfnOutRefIdeal : Cert.AdamwWFfnOutRefIdeal.Facts] [hPre_place_w_ffn_out : Cert.Pre_place_w_ffn_out.Facts] : Prop :=
  ∀ (m : (ℓ : Loc Cert.AdamwWFfnOutIdeal.nD Cert.AdamwWFfnOutIdeal.τ Cert.AdamwWFfnOutIdeal.sig) → Buf (Elt Ideal) ℓ) (g : Dev Cert.AdamwWFfnOutIdeal.nD → PrngReg)
    (m' : (ℓ : Loc Cert.AdamwWFfnOutRefIdeal.nD Cert.AdamwWFfnOutRefIdeal.τ Cert.AdamwWFfnOutRefIdeal.sig) → Buf (Elt Ideal) ℓ) (g' : Dev Cert.AdamwWFfnOutRefIdeal.nD → PrngReg), Pre_AdamwWFfnOutIdeal m →
    (∀ c : Dev Cert.AdamwWFfnOutIdeal.nD,
      m' ((c.tc : Thread Cert.AdamwWFfnOutRefIdeal.nD Cert.AdamwWFfnOutRefIdeal.τ).loc Cert.AdamwWFfnOutRefIdeal.main_arg0) = m ((c.tc : Thread Cert.AdamwWFfnOutIdeal.nD Cert.AdamwWFfnOutIdeal.τ).loc Cert.AdamwWFfnOutIdeal.main_arg0)
      ∧ m' ((c.tc : Thread Cert.AdamwWFfnOutRefIdeal.nD Cert.AdamwWFfnOutRefIdeal.τ).loc Cert.AdamwWFfnOutRefIdeal.main_arg1) = m ((c.tc : Thread Cert.AdamwWFfnOutIdeal.nD Cert.AdamwWFfnOutIdeal.τ).loc Cert.AdamwWFfnOutIdeal.main_arg1)
      ∧ m' ((c.tc : Thread Cert.AdamwWFfnOutRefIdeal.nD Cert.AdamwWFfnOutRefIdeal.τ).loc Cert.AdamwWFfnOutRefIdeal.main_arg2) = m ((c.tc : Thread Cert.AdamwWFfnOutIdeal.nD Cert.AdamwWFfnOutIdeal.τ).loc Cert.AdamwWFfnOutIdeal.main_arg2)
      ∧ m' ((c.tc : Thread Cert.AdamwWFfnOutRefIdeal.nD Cert.AdamwWFfnOutRefIdeal.τ).loc Cert.AdamwWFfnOutRefIdeal.main_arg3) = m ((c.tc : Thread Cert.AdamwWFfnOutIdeal.nD Cert.AdamwWFfnOutIdeal.τ).loc Cert.AdamwWFfnOutIdeal.main_arg3)
      ∧ m' ((c.tc : Thread Cert.AdamwWFfnOutRefIdeal.nD Cert.AdamwWFfnOutRefIdeal.τ).loc Cert.AdamwWFfnOutRefIdeal.main_arg4) = m ((c.tc : Thread Cert.AdamwWFfnOutIdeal.nD Cert.AdamwWFfnOutIdeal.τ).loc Cert.AdamwWFfnOutIdeal.main_arg4)
      ∧ m' ((c.tc : Thread Cert.AdamwWFfnOutRefIdeal.nD Cert.AdamwWFfnOutRefIdeal.τ).loc Cert.AdamwWFfnOutRefIdeal.main_arg5) = m ((c.tc : Thread Cert.AdamwWFfnOutIdeal.nD Cert.AdamwWFfnOutIdeal.τ).loc Cert.AdamwWFfnOutIdeal.main_arg5)) →
    ∃ (v0 : (c : Dev Cert.AdamwWFfnOutIdeal.nD) → Buf (Elt Ideal) ((c.tc : Thread Cert.AdamwWFfnOutIdeal.nD Cert.AdamwWFfnOutIdeal.τ).loc Cert.AdamwWFfnOutIdeal.main_v0_0)) (v1 : (c : Dev Cert.AdamwWFfnOutIdeal.nD) → Buf (Elt Ideal) ((c.tc : Thread Cert.AdamwWFfnOutIdeal.nD Cert.AdamwWFfnOutIdeal.τ).loc Cert.AdamwWFfnOutIdeal.main_v0_1)) (v2 : (c : Dev Cert.AdamwWFfnOutIdeal.nD) → Buf (Elt Ideal) ((c.tc : Thread Cert.AdamwWFfnOutIdeal.nD Cert.AdamwWFfnOutIdeal.τ).loc Cert.AdamwWFfnOutIdeal.main_v0_2)) (v3 : (c : Dev Cert.AdamwWFfnOutIdeal.nD) → Buf (Elt Ideal) ((c.tc : Thread Cert.AdamwWFfnOutIdeal.nD Cert.AdamwWFfnOutIdeal.τ).loc Cert.AdamwWFfnOutIdeal.main_v0_3)),
      θ_run (Cert.AdamwWFfnOutIdeal.defs (F := Ideal)) (onTc (τ := Cert.AdamwWFfnOutIdeal.τ) (Cert.AdamwWFfnOutIdeal.main (F := Ideal))) ⟨m, fun _ => 0, g⟩ (fun r => ∀ c : Dev Cert.AdamwWFfnOutIdeal.nD,
          r.2.mem ((c.tc : Thread Cert.AdamwWFfnOutIdeal.nD Cert.AdamwWFfnOutIdeal.τ).loc Cert.AdamwWFfnOutIdeal.main_v0_0) = v0 c
          ∧ r.2.mem ((c.tc : Thread Cert.AdamwWFfnOutIdeal.nD Cert.AdamwWFfnOutIdeal.τ).loc Cert.AdamwWFfnOutIdeal.main_v0_1) = v1 c
          ∧ r.2.mem ((c.tc : Thread Cert.AdamwWFfnOutIdeal.nD Cert.AdamwWFfnOutIdeal.τ).loc Cert.AdamwWFfnOutIdeal.main_v0_2) = v2 c
          ∧ r.2.mem ((c.tc : Thread Cert.AdamwWFfnOutIdeal.nD Cert.AdamwWFfnOutIdeal.τ).loc Cert.AdamwWFfnOutIdeal.main_v0_3) = v3 c
          ∧ r.2.mem ((c.tc : Thread Cert.AdamwWFfnOutIdeal.nD Cert.AdamwWFfnOutIdeal.τ).loc Cert.AdamwWFfnOutIdeal.main_arg0) = m ((c.tc : Thread Cert.AdamwWFfnOutIdeal.nD Cert.AdamwWFfnOutIdeal.τ).loc Cert.AdamwWFfnOutIdeal.main_arg0)
          ∧ r.2.mem ((c.tc : Thread Cert.AdamwWFfnOutIdeal.nD Cert.AdamwWFfnOutIdeal.τ).loc Cert.AdamwWFfnOutIdeal.main_arg1) = m ((c.tc : Thread Cert.AdamwWFfnOutIdeal.nD Cert.AdamwWFfnOutIdeal.τ).loc Cert.AdamwWFfnOutIdeal.main_arg1)
          ∧ r.2.mem ((c.tc : Thread Cert.AdamwWFfnOutIdeal.nD Cert.AdamwWFfnOutIdeal.τ).loc Cert.AdamwWFfnOutIdeal.main_arg2) = m ((c.tc : Thread Cert.AdamwWFfnOutIdeal.nD Cert.AdamwWFfnOutIdeal.τ).loc Cert.AdamwWFfnOutIdeal.main_arg2)
          ∧ r.2.mem ((c.tc : Thread Cert.AdamwWFfnOutIdeal.nD Cert.AdamwWFfnOutIdeal.τ).loc Cert.AdamwWFfnOutIdeal.main_arg3) = m ((c.tc : Thread Cert.AdamwWFfnOutIdeal.nD Cert.AdamwWFfnOutIdeal.τ).loc Cert.AdamwWFfnOutIdeal.main_arg3)
          ∧ r.2.mem ((c.tc : Thread Cert.AdamwWFfnOutIdeal.nD Cert.AdamwWFfnOutIdeal.τ).loc Cert.AdamwWFfnOutIdeal.main_arg4) = m ((c.tc : Thread Cert.AdamwWFfnOutIdeal.nD Cert.AdamwWFfnOutIdeal.τ).loc Cert.AdamwWFfnOutIdeal.main_arg4)
          ∧ r.2.mem ((c.tc : Thread Cert.AdamwWFfnOutIdeal.nD Cert.AdamwWFfnOutIdeal.τ).loc Cert.AdamwWFfnOutIdeal.main_arg5) = m ((c.tc : Thread Cert.AdamwWFfnOutIdeal.nD Cert.AdamwWFfnOutIdeal.τ).loc Cert.AdamwWFfnOutIdeal.main_arg5))
      ∧ θ_run (Cert.AdamwWFfnOutRefIdeal.defs (F := Ideal)) (onTc (τ := Cert.AdamwWFfnOutRefIdeal.τ) (Cert.AdamwWFfnOutRefIdeal.main (F := Ideal))) ⟨m', fun _ => 0, g'⟩ (fun r => ∀ c : Dev Cert.AdamwWFfnOutRefIdeal.nD,
          r.2.mem ((c.tc : Thread Cert.AdamwWFfnOutRefIdeal.nD Cert.AdamwWFfnOutRefIdeal.τ).loc Cert.AdamwWFfnOutRefIdeal.main_v7) = v0 c
          ∧ r.2.mem ((c.tc : Thread Cert.AdamwWFfnOutRefIdeal.nD Cert.AdamwWFfnOutRefIdeal.τ).loc Cert.AdamwWFfnOutRefIdeal.main_v31) = v1 c
          ∧ r.2.mem ((c.tc : Thread Cert.AdamwWFfnOutRefIdeal.nD Cert.AdamwWFfnOutRefIdeal.τ).loc Cert.AdamwWFfnOutRefIdeal.main_v12) = v2 c
          ∧ r.2.mem ((c.tc : Thread Cert.AdamwWFfnOutRefIdeal.nD Cert.AdamwWFfnOutRefIdeal.τ).loc Cert.AdamwWFfnOutRefIdeal.main_v18) = v3 c
          ∧ r.2.mem ((c.tc : Thread Cert.AdamwWFfnOutRefIdeal.nD Cert.AdamwWFfnOutRefIdeal.τ).loc Cert.AdamwWFfnOutRefIdeal.main_arg0) = m' ((c.tc : Thread Cert.AdamwWFfnOutRefIdeal.nD Cert.AdamwWFfnOutRefIdeal.τ).loc Cert.AdamwWFfnOutRefIdeal.main_arg0)
          ∧ r.2.mem ((c.tc : Thread Cert.AdamwWFfnOutRefIdeal.nD Cert.AdamwWFfnOutRefIdeal.τ).loc Cert.AdamwWFfnOutRefIdeal.main_arg1) = m' ((c.tc : Thread Cert.AdamwWFfnOutRefIdeal.nD Cert.AdamwWFfnOutRefIdeal.τ).loc Cert.AdamwWFfnOutRefIdeal.main_arg1)
          ∧ r.2.mem ((c.tc : Thread Cert.AdamwWFfnOutRefIdeal.nD Cert.AdamwWFfnOutRefIdeal.τ).loc Cert.AdamwWFfnOutRefIdeal.main_arg2) = m' ((c.tc : Thread Cert.AdamwWFfnOutRefIdeal.nD Cert.AdamwWFfnOutRefIdeal.τ).loc Cert.AdamwWFfnOutRefIdeal.main_arg2)
          ∧ r.2.mem ((c.tc : Thread Cert.AdamwWFfnOutRefIdeal.nD Cert.AdamwWFfnOutRefIdeal.τ).loc Cert.AdamwWFfnOutRefIdeal.main_arg3) = m' ((c.tc : Thread Cert.AdamwWFfnOutRefIdeal.nD Cert.AdamwWFfnOutRefIdeal.τ).loc Cert.AdamwWFfnOutRefIdeal.main_arg3)
          ∧ r.2.mem ((c.tc : Thread Cert.AdamwWFfnOutRefIdeal.nD Cert.AdamwWFfnOutRefIdeal.τ).loc Cert.AdamwWFfnOutRefIdeal.main_arg4) = m' ((c.tc : Thread Cert.AdamwWFfnOutRefIdeal.nD Cert.AdamwWFfnOutRefIdeal.τ).loc Cert.AdamwWFfnOutRefIdeal.main_arg4)
          ∧ r.2.mem ((c.tc : Thread Cert.AdamwWFfnOutRefIdeal.nD Cert.AdamwWFfnOutRefIdeal.τ).loc Cert.AdamwWFfnOutRefIdeal.main_arg5) = m' ((c.tc : Thread Cert.AdamwWFfnOutRefIdeal.nD Cert.AdamwWFfnOutRefIdeal.τ).loc Cert.AdamwWFfnOutRefIdeal.main_arg5))

def Claim : Prop :=
  ∃ (hMerge : Cert.Merge.Facts) (hMergeIdeal : Cert.MergeIdeal.Facts) (hMergeRefIdeal : Cert.MergeRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hInProj : Cert.InProj.Facts) (hInProjIdeal : Cert.InProjIdeal.Facts) (hInProjRefIdeal : Cert.InProjRefIdeal.Facts) (hInProjQkvDx : Cert.InProjQkvDx.Facts) (hInProjQkvDxIdeal : Cert.InProjQkvDxIdeal.Facts) (hInProjQkvDxRefIdeal : Cert.InProjQkvDxRefIdeal.Facts) (hInProjQkvDw : Cert.InProjQkvDw.Facts) (hInProjQkvDwIdeal : Cert.InProjQkvDwIdeal.Facts) (hInProjQkvDwRefIdeal : Cert.InProjQkvDwRefIdeal.Facts) (hInProjQkv : Cert.InProjQkv.Facts) (hInProjQkvIdeal : Cert.InProjQkvIdeal.Facts) (hInProjQkvRefIdeal : Cert.InProjQkvRefIdeal.Facts) (hInProjDtDx : Cert.InProjDtDx.Facts) (hInProjDtDxIdeal : Cert.InProjDtDxIdeal.Facts) (hInProjDtDxRefIdeal : Cert.InProjDtDxRefIdeal.Facts) (hInProjDtDw : Cert.InProjDtDw.Facts) (hInProjDtDwIdeal : Cert.InProjDtDwIdeal.Facts) (hInProjDtDwRefIdeal : Cert.InProjDtDwRefIdeal.Facts) (hInProjDt : Cert.InProjDt.Facts) (hInProjDtIdeal : Cert.InProjDtIdeal.Facts) (hInProjDtRefIdeal : Cert.InProjDtRefIdeal.Facts) (hAttnBranchDx : Cert.AttnBranchDx.Facts) (hAttnBranchDxIdeal : Cert.AttnBranchDxIdeal.Facts) (hAttnBranchDxRefIdeal : Cert.AttnBranchDxRefIdeal.Facts) (hAttnBranchDw : Cert.AttnBranchDw.Facts) (hAttnBranchDwIdeal : Cert.AttnBranchDwIdeal.Facts) (hAttnBranchDwRefIdeal : Cert.AttnBranchDwRefIdeal.Facts) (hAttnBranch : Cert.AttnBranch.Facts) (hAttnBranchIdeal : Cert.AttnBranchIdeal.Facts) (hAttnBranchRefIdeal : Cert.AttnBranchRefIdeal.Facts) (hSsmBranchDx : Cert.SsmBranchDx.Facts) (hSsmBranchDxIdeal : Cert.SsmBranchDxIdeal.Facts) (hSsmBranchDxRefIdeal : Cert.SsmBranchDxRefIdeal.Facts) (hSsmBranchDw : Cert.SsmBranchDw.Facts) (hSsmBranchDwIdeal : Cert.SsmBranchDwIdeal.Facts) (hSsmBranchDwRefIdeal : Cert.SsmBranchDwRefIdeal.Facts) (hSsmBranch : Cert.SsmBranch.Facts) (hSsmBranchIdeal : Cert.SsmBranchIdeal.Facts) (hSsmBranchRefIdeal : Cert.SsmBranchRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hOutProj : Cert.OutProj.Facts) (hOutProjIdeal : Cert.OutProjIdeal.Facts) (hOutProjRefIdeal : Cert.OutProjRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnIn : Cert.FfnIn.Facts) (hFfnInIdeal : Cert.FfnInIdeal.Facts) (hFfnInRefIdeal : Cert.FfnInRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnOut : Cert.FfnOut.Facts) (hFfnOutIdeal : Cert.FfnOutIdeal.Facts) (hFfnOutRefIdeal : Cert.FfnOutRefIdeal.Facts) (hAttnFwd : Cert.AttnFwd.Facts) (hAttnFwdIdeal : Cert.AttnFwdIdeal.Facts) (hAttnFwdRefIdeal : Cert.AttnFwdRefIdeal.Facts) (hAttnFwd4 : Cert.AttnFwd4.Facts) (hAttnFwd4Ideal : Cert.AttnFwd4Ideal.Facts) (hAttnFwd4RefIdeal : Cert.AttnFwd4RefIdeal.Facts) (hAttnFwd16 : Cert.AttnFwd16.Facts) (hAttnFwd16Ideal : Cert.AttnFwd16Ideal.Facts) (hAttnFwd16RefIdeal : Cert.AttnFwd16RefIdeal.Facts) (hNorm2 : Cert.Norm2.Facts) (hNorm2Ideal : Cert.Norm2Ideal.Facts) (hNorm2RefIdeal : Cert.Norm2RefIdeal.Facts) (hLossHead : Cert.LossHead.Facts) (hLossHeadIdeal : Cert.LossHeadIdeal.Facts) (hLossHeadRefIdeal : Cert.LossHeadRefIdeal.Facts) (hNorm1 : Cert.Norm1.Facts) (hNorm1Ideal : Cert.Norm1Ideal.Facts) (hNorm1RefIdeal : Cert.Norm1RefIdeal.Facts) (hSwigluBwd : Cert.SwigluBwd.Facts) (hSwigluBwdIdeal : Cert.SwigluBwdIdeal.Facts) (hSwigluBwdRefIdeal : Cert.SwigluBwdRefIdeal.Facts) (hGateNormBwd : Cert.GateNormBwd.Facts) (hGateNormBwdIdeal : Cert.GateNormBwdIdeal.Facts) (hGateNormBwdRefIdeal : Cert.GateNormBwdRefIdeal.Facts) (hSwiglu : Cert.Swiglu.Facts) (hSwigluIdeal : Cert.SwigluIdeal.Facts) (hSwigluRefIdeal : Cert.SwigluRefIdeal.Facts) (hGateNorm : Cert.GateNorm.Facts) (hGateNormIdeal : Cert.GateNormIdeal.Facts) (hGateNormRefIdeal : Cert.GateNormRefIdeal.Facts) (hMergeFwd : Cert.MergeFwd.Facts) (hMergeFwdIdeal : Cert.MergeFwdIdeal.Facts) (hMergeFwdRefIdeal : Cert.MergeFwdRefIdeal.Facts) (hNorm : Cert.Norm.Facts) (hNormIdeal : Cert.NormIdeal.Facts) (hNormRefIdeal : Cert.NormRefIdeal.Facts) (hCombineBwd : Cert.CombineBwd.Facts) (hCombineBwdIdeal : Cert.CombineBwdIdeal.Facts) (hCombineBwdRefIdeal : Cert.CombineBwdRefIdeal.Facts) (hConvBwdPre : Cert.ConvBwdPre.Facts) (hConvBwdPreIdeal : Cert.ConvBwdPreIdeal.Facts) (hConvBwdPreRefIdeal : Cert.ConvBwdPreRefIdeal.Facts) (hConvBwdIn : Cert.ConvBwdIn.Facts) (hConvBwdInIdeal : Cert.ConvBwdInIdeal.Facts) (hConvBwdInRefIdeal : Cert.ConvBwdInRefIdeal.Facts) (hCombine : Cert.Combine.Facts) (hCombineIdeal : Cert.CombineIdeal.Facts) (hCombineRefIdeal : Cert.CombineRefIdeal.Facts) (hConv : Cert.Conv.Facts) (hConvIdeal : Cert.ConvIdeal.Facts) (hConvRefIdeal : Cert.ConvRefIdeal.Facts) (hAdamwSmall : Cert.AdamwSmall.Facts) (hAdamwSmallIdeal : Cert.AdamwSmallIdeal.Facts) (hAdamwSmallRefIdeal : Cert.AdamwSmallRefIdeal.Facts) (hAdamwWIn : Cert.AdamwWIn.Facts) (hAdamwWInIdeal : Cert.AdamwWInIdeal.Facts) (hAdamwWInRefIdeal : Cert.AdamwWInRefIdeal.Facts) (hAdamwWAttnBranch : Cert.AdamwWAttnBranch.Facts) (hAdamwWAttnBranchIdeal : Cert.AdamwWAttnBranchIdeal.Facts) (hAdamwWAttnBranchRefIdeal : Cert.AdamwWAttnBranchRefIdeal.Facts) (hAdamwWSsmBranch : Cert.AdamwWSsmBranch.Facts) (hAdamwWSsmBranchIdeal : Cert.AdamwWSsmBranchIdeal.Facts) (hAdamwWSsmBranchRefIdeal : Cert.AdamwWSsmBranchRefIdeal.Facts) (hAdamwWOut : Cert.AdamwWOut.Facts) (hAdamwWOutIdeal : Cert.AdamwWOutIdeal.Facts) (hAdamwWOutRefIdeal : Cert.AdamwWOutRefIdeal.Facts) (hAdamwWFfnIn : Cert.AdamwWFfnIn.Facts) (hAdamwWFfnInIdeal : Cert.AdamwWFfnInIdeal.Facts) (hAdamwWFfnInRefIdeal : Cert.AdamwWFfnInRefIdeal.Facts) (hAdamwWFfnOut : Cert.AdamwWFfnOut.Facts) (hAdamwWFfnOutIdeal : Cert.AdamwWFfnOutIdeal.Facts) (hAdamwWFfnOutRefIdeal : Cert.AdamwWFfnOutRefIdeal.Facts) (hPre_swiglu_finite : Cert.Pre_swiglu_finite.Facts) (hPre_gate_norm_finite : Cert.Pre_gate_norm_finite.Facts) (hPre_combine_finite : Cert.Pre_combine_finite.Facts) (hPre_conv_finite : Cert.Pre_conv_finite.Facts) (hPre_place_w_in : Cert.Pre_place_w_in.Facts) (hPre_place_w_attn_branch : Cert.Pre_place_w_attn_branch.Facts) (hPre_place_w_ssm_branch : Cert.Pre_place_w_ssm_branch.Facts) (hPre_place_w_out : Cert.Pre_place_w_out.Facts) (hPre_place_w_ffn_in : Cert.Pre_place_w_ffn_in.Facts) (hPre_place_w_ffn_out : Cert.Pre_place_w_ffn_out.Facts),
    quiescent_Merge (hMerge := hMerge)
    ∧ quiescent_MergeIdeal (hMergeIdeal := hMergeIdeal)
    ∧ quiescent_MergeRefIdeal (hMergeRefIdeal := hMergeRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjQkvDx (hInProjQkvDx := hInProjQkvDx)
    ∧ quiescent_InProjQkvDxIdeal (hInProjQkvDxIdeal := hInProjQkvDxIdeal)
    ∧ quiescent_InProjQkvDxRefIdeal (hInProjQkvDxRefIdeal := hInProjQkvDxRefIdeal)
    ∧ quiescent_InProjQkvDw (hInProjQkvDw := hInProjQkvDw)
    ∧ quiescent_InProjQkvDwIdeal (hInProjQkvDwIdeal := hInProjQkvDwIdeal)
    ∧ quiescent_InProjQkvDwRefIdeal (hInProjQkvDwRefIdeal := hInProjQkvDwRefIdeal)
    ∧ quiescent_InProjQkv (hInProjQkv := hInProjQkv)
    ∧ quiescent_InProjQkvIdeal (hInProjQkvIdeal := hInProjQkvIdeal)
    ∧ quiescent_InProjQkvRefIdeal (hInProjQkvRefIdeal := hInProjQkvRefIdeal)
    ∧ quiescent_InProjDtDx (hInProjDtDx := hInProjDtDx)
    ∧ quiescent_InProjDtDxIdeal (hInProjDtDxIdeal := hInProjDtDxIdeal)
    ∧ quiescent_InProjDtDxRefIdeal (hInProjDtDxRefIdeal := hInProjDtDxRefIdeal)
    ∧ quiescent_InProjDtDw (hInProjDtDw := hInProjDtDw)
    ∧ quiescent_InProjDtDwIdeal (hInProjDtDwIdeal := hInProjDtDwIdeal)
    ∧ quiescent_InProjDtDwRefIdeal (hInProjDtDwRefIdeal := hInProjDtDwRefIdeal)
    ∧ quiescent_InProjDt (hInProjDt := hInProjDt)
    ∧ quiescent_InProjDtIdeal (hInProjDtIdeal := hInProjDtIdeal)
    ∧ quiescent_InProjDtRefIdeal (hInProjDtRefIdeal := hInProjDtRefIdeal)
    ∧ quiescent_AttnBranchDx (hAttnBranchDx := hAttnBranchDx)
    ∧ quiescent_AttnBranchDxIdeal (hAttnBranchDxIdeal := hAttnBranchDxIdeal)
    ∧ quiescent_AttnBranchDxRefIdeal (hAttnBranchDxRefIdeal := hAttnBranchDxRefIdeal)
    ∧ quiescent_AttnBranchDw (hAttnBranchDw := hAttnBranchDw)
    ∧ quiescent_AttnBranchDwIdeal (hAttnBranchDwIdeal := hAttnBranchDwIdeal)
    ∧ quiescent_AttnBranchDwRefIdeal (hAttnBranchDwRefIdeal := hAttnBranchDwRefIdeal)
    ∧ quiescent_AttnBranch (hAttnBranch := hAttnBranch)
    ∧ quiescent_AttnBranchIdeal (hAttnBranchIdeal := hAttnBranchIdeal)
    ∧ quiescent_AttnBranchRefIdeal (hAttnBranchRefIdeal := hAttnBranchRefIdeal)
    ∧ quiescent_SsmBranchDx (hSsmBranchDx := hSsmBranchDx)
    ∧ quiescent_SsmBranchDxIdeal (hSsmBranchDxIdeal := hSsmBranchDxIdeal)
    ∧ quiescent_SsmBranchDxRefIdeal (hSsmBranchDxRefIdeal := hSsmBranchDxRefIdeal)
    ∧ quiescent_SsmBranchDw (hSsmBranchDw := hSsmBranchDw)
    ∧ quiescent_SsmBranchDwIdeal (hSsmBranchDwIdeal := hSsmBranchDwIdeal)
    ∧ quiescent_SsmBranchDwRefIdeal (hSsmBranchDwRefIdeal := hSsmBranchDwRefIdeal)
    ∧ quiescent_SsmBranch (hSsmBranch := hSsmBranch)
    ∧ quiescent_SsmBranchIdeal (hSsmBranchIdeal := hSsmBranchIdeal)
    ∧ quiescent_SsmBranchRefIdeal (hSsmBranchRefIdeal := hSsmBranchRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_AttnFwd4 (hAttnFwd4 := hAttnFwd4)
    ∧ quiescent_AttnFwd4Ideal (hAttnFwd4Ideal := hAttnFwd4Ideal)
    ∧ quiescent_AttnFwd4RefIdeal (hAttnFwd4RefIdeal := hAttnFwd4RefIdeal)
    ∧ quiescent_AttnFwd16 (hAttnFwd16 := hAttnFwd16)
    ∧ quiescent_AttnFwd16Ideal (hAttnFwd16Ideal := hAttnFwd16Ideal)
    ∧ quiescent_AttnFwd16RefIdeal (hAttnFwd16RefIdeal := hAttnFwd16RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_SwigluBwd (hSwigluBwd := hSwigluBwd)
    ∧ quiescent_SwigluBwdIdeal (hSwigluBwdIdeal := hSwigluBwdIdeal)
    ∧ quiescent_SwigluBwdIdeal_pre_swiglu_finite (hSwigluBwdIdeal := hSwigluBwdIdeal) (hPre_swiglu_finite := hPre_swiglu_finite)
    ∧ quiescent_SwigluBwdRefIdeal (hSwigluBwdRefIdeal := hSwigluBwdRefIdeal)
    ∧ quiescent_SwigluBwdRefIdeal_pre_swiglu_finite (hSwigluBwdRefIdeal := hSwigluBwdRefIdeal) (hPre_swiglu_finite := hPre_swiglu_finite)
    ∧ quiescent_GateNormBwd (hGateNormBwd := hGateNormBwd)
    ∧ quiescent_GateNormBwdIdeal (hGateNormBwdIdeal := hGateNormBwdIdeal)
    ∧ quiescent_GateNormBwdIdeal_pre_gate_norm_finite (hGateNormBwdIdeal := hGateNormBwdIdeal) (hPre_gate_norm_finite := hPre_gate_norm_finite)
    ∧ quiescent_GateNormBwdRefIdeal (hGateNormBwdRefIdeal := hGateNormBwdRefIdeal)
    ∧ quiescent_GateNormBwdRefIdeal_pre_gate_norm_finite (hGateNormBwdRefIdeal := hGateNormBwdRefIdeal) (hPre_gate_norm_finite := hPre_gate_norm_finite)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Norm (hNorm := hNorm)
    ∧ quiescent_NormIdeal (hNormIdeal := hNormIdeal)
    ∧ quiescent_NormRefIdeal (hNormRefIdeal := hNormRefIdeal)
    ∧ quiescent_CombineBwd (hCombineBwd := hCombineBwd)
    ∧ quiescent_CombineBwdIdeal (hCombineBwdIdeal := hCombineBwdIdeal)
    ∧ quiescent_CombineBwdIdeal_pre_combine_finite (hCombineBwdIdeal := hCombineBwdIdeal) (hPre_combine_finite := hPre_combine_finite)
    ∧ quiescent_CombineBwdRefIdeal (hCombineBwdRefIdeal := hCombineBwdRefIdeal)
    ∧ quiescent_CombineBwdRefIdeal_pre_combine_finite (hCombineBwdRefIdeal := hCombineBwdRefIdeal) (hPre_combine_finite := hPre_combine_finite)
    ∧ quiescent_ConvBwdPre (hConvBwdPre := hConvBwdPre)
    ∧ quiescent_ConvBwdPreIdeal (hConvBwdPreIdeal := hConvBwdPreIdeal)
    ∧ quiescent_ConvBwdPreIdeal_pre_conv_finite (hConvBwdPreIdeal := hConvBwdPreIdeal) (hPre_conv_finite := hPre_conv_finite)
    ∧ quiescent_ConvBwdPreRefIdeal (hConvBwdPreRefIdeal := hConvBwdPreRefIdeal)
    ∧ quiescent_ConvBwdPreRefIdeal_pre_conv_finite (hConvBwdPreRefIdeal := hConvBwdPreRefIdeal) (hPre_conv_finite := hPre_conv_finite)
    ∧ quiescent_ConvBwdIn (hConvBwdIn := hConvBwdIn)
    ∧ quiescent_ConvBwdInIdeal (hConvBwdInIdeal := hConvBwdInIdeal)
    ∧ quiescent_ConvBwdInRefIdeal (hConvBwdInRefIdeal := hConvBwdInRefIdeal)
    ∧ quiescent_Combine (hCombine := hCombine)
    ∧ quiescent_CombineIdeal (hCombineIdeal := hCombineIdeal)
    ∧ quiescent_CombineRefIdeal (hCombineRefIdeal := hCombineRefIdeal)
    ∧ quiescent_Conv (hConv := hConv)
    ∧ quiescent_ConvIdeal (hConvIdeal := hConvIdeal)
    ∧ quiescent_ConvRefIdeal (hConvRefIdeal := hConvRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_AdamwWIn (hAdamwWIn := hAdamwWIn) (hPre_place_w_in := hPre_place_w_in)
    ∧ quiescent_AdamwWInIdeal (hAdamwWInIdeal := hAdamwWInIdeal) (hPre_place_w_in := hPre_place_w_in)
    ∧ quiescent_AdamwWInRefIdeal (hAdamwWInRefIdeal := hAdamwWInRefIdeal)
    ∧ quiescent_AdamwWInRefIdeal_pre_place_w_in (hAdamwWInRefIdeal := hAdamwWInRefIdeal) (hPre_place_w_in := hPre_place_w_in)
    ∧ quiescent_AdamwWAttnBranch (hAdamwWAttnBranch := hAdamwWAttnBranch) (hPre_place_w_attn_branch := hPre_place_w_attn_branch)
    ∧ quiescent_AdamwWAttnBranchIdeal (hAdamwWAttnBranchIdeal := hAdamwWAttnBranchIdeal) (hPre_place_w_attn_branch := hPre_place_w_attn_branch)
    ∧ quiescent_AdamwWAttnBranchRefIdeal (hAdamwWAttnBranchRefIdeal := hAdamwWAttnBranchRefIdeal)
    ∧ quiescent_AdamwWAttnBranchRefIdeal_pre_place_w_attn_branch (hAdamwWAttnBranchRefIdeal := hAdamwWAttnBranchRefIdeal) (hPre_place_w_attn_branch := hPre_place_w_attn_branch)
    ∧ quiescent_AdamwWSsmBranch (hAdamwWSsmBranch := hAdamwWSsmBranch) (hPre_place_w_ssm_branch := hPre_place_w_ssm_branch)
    ∧ quiescent_AdamwWSsmBranchIdeal (hAdamwWSsmBranchIdeal := hAdamwWSsmBranchIdeal) (hPre_place_w_ssm_branch := hPre_place_w_ssm_branch)
    ∧ quiescent_AdamwWSsmBranchRefIdeal (hAdamwWSsmBranchRefIdeal := hAdamwWSsmBranchRefIdeal)
    ∧ quiescent_AdamwWSsmBranchRefIdeal_pre_place_w_ssm_branch (hAdamwWSsmBranchRefIdeal := hAdamwWSsmBranchRefIdeal) (hPre_place_w_ssm_branch := hPre_place_w_ssm_branch)
    ∧ quiescent_AdamwWOut (hAdamwWOut := hAdamwWOut) (hPre_place_w_out := hPre_place_w_out)
    ∧ quiescent_AdamwWOutIdeal (hAdamwWOutIdeal := hAdamwWOutIdeal) (hPre_place_w_out := hPre_place_w_out)
    ∧ quiescent_AdamwWOutRefIdeal (hAdamwWOutRefIdeal := hAdamwWOutRefIdeal)
    ∧ quiescent_AdamwWOutRefIdeal_pre_place_w_out (hAdamwWOutRefIdeal := hAdamwWOutRefIdeal) (hPre_place_w_out := hPre_place_w_out)
    ∧ quiescent_AdamwWFfnIn (hAdamwWFfnIn := hAdamwWFfnIn) (hPre_place_w_ffn_in := hPre_place_w_ffn_in)
    ∧ quiescent_AdamwWFfnInIdeal (hAdamwWFfnInIdeal := hAdamwWFfnInIdeal) (hPre_place_w_ffn_in := hPre_place_w_ffn_in)
    ∧ quiescent_AdamwWFfnInRefIdeal (hAdamwWFfnInRefIdeal := hAdamwWFfnInRefIdeal)
    ∧ quiescent_AdamwWFfnInRefIdeal_pre_place_w_ffn_in (hAdamwWFfnInRefIdeal := hAdamwWFfnInRefIdeal) (hPre_place_w_ffn_in := hPre_place_w_ffn_in)
    ∧ quiescent_AdamwWFfnOut (hAdamwWFfnOut := hAdamwWFfnOut) (hPre_place_w_ffn_out := hPre_place_w_ffn_out)
    ∧ quiescent_AdamwWFfnOutIdeal (hAdamwWFfnOutIdeal := hAdamwWFfnOutIdeal) (hPre_place_w_ffn_out := hPre_place_w_ffn_out)
    ∧ quiescent_AdamwWFfnOutRefIdeal (hAdamwWFfnOutRefIdeal := hAdamwWFfnOutRefIdeal)
    ∧ quiescent_AdamwWFfnOutRefIdeal_pre_place_w_ffn_out (hAdamwWFfnOutRefIdeal := hAdamwWFfnOutRefIdeal) (hPre_place_w_ffn_out := hPre_place_w_ffn_out)
    ∧ preserves_Merge_MergeIdeal
    ∧ algebraic_MergeIdeal_MergeRefIdeal (hMergeIdeal := hMergeIdeal) (hMergeRefIdeal := hMergeRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_InProj_InProjIdeal
    ∧ algebraic_InProjIdeal_InProjRefIdeal (hInProjIdeal := hInProjIdeal) (hInProjRefIdeal := hInProjRefIdeal)
    ∧ preserves_InProjQkvDx_InProjQkvDxIdeal
    ∧ algebraic_InProjQkvDxIdeal_InProjQkvDxRefIdeal (hInProjQkvDxIdeal := hInProjQkvDxIdeal) (hInProjQkvDxRefIdeal := hInProjQkvDxRefIdeal)
    ∧ preserves_InProjQkvDw_InProjQkvDwIdeal
    ∧ algebraic_InProjQkvDwIdeal_InProjQkvDwRefIdeal (hInProjQkvDwIdeal := hInProjQkvDwIdeal) (hInProjQkvDwRefIdeal := hInProjQkvDwRefIdeal)
    ∧ preserves_InProjQkv_InProjQkvIdeal
    ∧ algebraic_InProjQkvIdeal_InProjQkvRefIdeal (hInProjQkvIdeal := hInProjQkvIdeal) (hInProjQkvRefIdeal := hInProjQkvRefIdeal)
    ∧ preserves_InProjDtDx_InProjDtDxIdeal
    ∧ algebraic_InProjDtDxIdeal_InProjDtDxRefIdeal (hInProjDtDxIdeal := hInProjDtDxIdeal) (hInProjDtDxRefIdeal := hInProjDtDxRefIdeal)
    ∧ preserves_InProjDtDw_InProjDtDwIdeal
    ∧ algebraic_InProjDtDwIdeal_InProjDtDwRefIdeal (hInProjDtDwIdeal := hInProjDtDwIdeal) (hInProjDtDwRefIdeal := hInProjDtDwRefIdeal)
    ∧ preserves_InProjDt_InProjDtIdeal
    ∧ algebraic_InProjDtIdeal_InProjDtRefIdeal (hInProjDtIdeal := hInProjDtIdeal) (hInProjDtRefIdeal := hInProjDtRefIdeal)
    ∧ preserves_AttnBranchDx_AttnBranchDxIdeal
    ∧ algebraic_AttnBranchDxIdeal_AttnBranchDxRefIdeal (hAttnBranchDxIdeal := hAttnBranchDxIdeal) (hAttnBranchDxRefIdeal := hAttnBranchDxRefIdeal)
    ∧ preserves_AttnBranchDw_AttnBranchDwIdeal
    ∧ algebraic_AttnBranchDwIdeal_AttnBranchDwRefIdeal (hAttnBranchDwIdeal := hAttnBranchDwIdeal) (hAttnBranchDwRefIdeal := hAttnBranchDwRefIdeal)
    ∧ preserves_AttnBranch_AttnBranchIdeal
    ∧ algebraic_AttnBranchIdeal_AttnBranchRefIdeal (hAttnBranchIdeal := hAttnBranchIdeal) (hAttnBranchRefIdeal := hAttnBranchRefIdeal)
    ∧ preserves_SsmBranchDx_SsmBranchDxIdeal
    ∧ algebraic_SsmBranchDxIdeal_SsmBranchDxRefIdeal (hSsmBranchDxIdeal := hSsmBranchDxIdeal) (hSsmBranchDxRefIdeal := hSsmBranchDxRefIdeal)
    ∧ preserves_SsmBranchDw_SsmBranchDwIdeal
    ∧ algebraic_SsmBranchDwIdeal_SsmBranchDwRefIdeal (hSsmBranchDwIdeal := hSsmBranchDwIdeal) (hSsmBranchDwRefIdeal := hSsmBranchDwRefIdeal)
    ∧ preserves_SsmBranch_SsmBranchIdeal
    ∧ algebraic_SsmBranchIdeal_SsmBranchRefIdeal (hSsmBranchIdeal := hSsmBranchIdeal) (hSsmBranchRefIdeal := hSsmBranchRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_OutProj_OutProjIdeal
    ∧ algebraic_OutProjIdeal_OutProjRefIdeal (hOutProjIdeal := hOutProjIdeal) (hOutProjRefIdeal := hOutProjRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnIn_FfnInIdeal
    ∧ algebraic_FfnInIdeal_FfnInRefIdeal (hFfnInIdeal := hFfnInIdeal) (hFfnInRefIdeal := hFfnInRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnOut_FfnOutIdeal
    ∧ algebraic_FfnOutIdeal_FfnOutRefIdeal (hFfnOutIdeal := hFfnOutIdeal) (hFfnOutRefIdeal := hFfnOutRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_AttnFwd4_AttnFwd4Ideal
    ∧ algebraic_AttnFwd4Ideal_AttnFwd4RefIdeal (hAttnFwd4Ideal := hAttnFwd4Ideal) (hAttnFwd4RefIdeal := hAttnFwd4RefIdeal)
    ∧ preserves_AttnFwd16_AttnFwd16Ideal
    ∧ algebraic_AttnFwd16Ideal_AttnFwd16RefIdeal (hAttnFwd16Ideal := hAttnFwd16Ideal) (hAttnFwd16RefIdeal := hAttnFwd16RefIdeal)
    ∧ preserves_Norm2_Norm2Ideal
    ∧ algebraic_Norm2Ideal_Norm2RefIdeal (hNorm2Ideal := hNorm2Ideal) (hNorm2RefIdeal := hNorm2RefIdeal)
    ∧ preserves_LossHead_LossHeadIdeal
    ∧ algebraic_LossHeadIdeal_LossHeadRefIdeal (hLossHeadIdeal := hLossHeadIdeal) (hLossHeadRefIdeal := hLossHeadRefIdeal)
    ∧ preserves_Norm1_Norm1Ideal
    ∧ algebraic_Norm1Ideal_Norm1RefIdeal (hNorm1Ideal := hNorm1Ideal) (hNorm1RefIdeal := hNorm1RefIdeal)
    ∧ preserves_SwigluBwd_SwigluBwdIdeal
    ∧ algebraic_SwigluBwdIdeal_SwigluBwdRefIdeal_pre_swiglu_finite (hSwigluBwdIdeal := hSwigluBwdIdeal) (hSwigluBwdRefIdeal := hSwigluBwdRefIdeal) (hPre_swiglu_finite := hPre_swiglu_finite)
    ∧ preserves_GateNormBwd_GateNormBwdIdeal
    ∧ algebraic_GateNormBwdIdeal_GateNormBwdRefIdeal_pre_gate_norm_finite (hGateNormBwdIdeal := hGateNormBwdIdeal) (hGateNormBwdRefIdeal := hGateNormBwdRefIdeal) (hPre_gate_norm_finite := hPre_gate_norm_finite)
    ∧ preserves_Swiglu_SwigluIdeal
    ∧ algebraic_SwigluIdeal_SwigluRefIdeal (hSwigluIdeal := hSwigluIdeal) (hSwigluRefIdeal := hSwigluRefIdeal)
    ∧ preserves_GateNorm_GateNormIdeal
    ∧ algebraic_GateNormIdeal_GateNormRefIdeal (hGateNormIdeal := hGateNormIdeal) (hGateNormRefIdeal := hGateNormRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Norm_NormIdeal
    ∧ algebraic_NormIdeal_NormRefIdeal (hNormIdeal := hNormIdeal) (hNormRefIdeal := hNormRefIdeal)
    ∧ preserves_CombineBwd_CombineBwdIdeal
    ∧ algebraic_CombineBwdIdeal_CombineBwdRefIdeal_pre_combine_finite (hCombineBwdIdeal := hCombineBwdIdeal) (hCombineBwdRefIdeal := hCombineBwdRefIdeal) (hPre_combine_finite := hPre_combine_finite)
    ∧ preserves_ConvBwdPre_ConvBwdPreIdeal
    ∧ algebraic_ConvBwdPreIdeal_ConvBwdPreRefIdeal_pre_conv_finite (hConvBwdPreIdeal := hConvBwdPreIdeal) (hConvBwdPreRefIdeal := hConvBwdPreRefIdeal) (hPre_conv_finite := hPre_conv_finite)
    ∧ preserves_ConvBwdIn_ConvBwdInIdeal
    ∧ algebraic_ConvBwdInIdeal_ConvBwdInRefIdeal (hConvBwdInIdeal := hConvBwdInIdeal) (hConvBwdInRefIdeal := hConvBwdInRefIdeal)
    ∧ preserves_Combine_CombineIdeal
    ∧ algebraic_CombineIdeal_CombineRefIdeal (hCombineIdeal := hCombineIdeal) (hCombineRefIdeal := hCombineRefIdeal)
    ∧ preserves_Conv_ConvIdeal
    ∧ algebraic_ConvIdeal_ConvRefIdeal (hConvIdeal := hConvIdeal) (hConvRefIdeal := hConvRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_AdamwWIn_AdamwWInIdeal
    ∧ algebraic_AdamwWInIdeal_AdamwWInRefIdeal (hAdamwWInIdeal := hAdamwWInIdeal) (hAdamwWInRefIdeal := hAdamwWInRefIdeal) (hPre_place_w_in := hPre_place_w_in)
    ∧ preserves_AdamwWAttnBranch_AdamwWAttnBranchIdeal
    ∧ algebraic_AdamwWAttnBranchIdeal_AdamwWAttnBranchRefIdeal (hAdamwWAttnBranchIdeal := hAdamwWAttnBranchIdeal) (hAdamwWAttnBranchRefIdeal := hAdamwWAttnBranchRefIdeal) (hPre_place_w_attn_branch := hPre_place_w_attn_branch)
    ∧ preserves_AdamwWSsmBranch_AdamwWSsmBranchIdeal
    ∧ algebraic_AdamwWSsmBranchIdeal_AdamwWSsmBranchRefIdeal (hAdamwWSsmBranchIdeal := hAdamwWSsmBranchIdeal) (hAdamwWSsmBranchRefIdeal := hAdamwWSsmBranchRefIdeal) (hPre_place_w_ssm_branch := hPre_place_w_ssm_branch)
    ∧ preserves_AdamwWOut_AdamwWOutIdeal
    ∧ algebraic_AdamwWOutIdeal_AdamwWOutRefIdeal (hAdamwWOutIdeal := hAdamwWOutIdeal) (hAdamwWOutRefIdeal := hAdamwWOutRefIdeal) (hPre_place_w_out := hPre_place_w_out)
    ∧ preserves_AdamwWFfnIn_AdamwWFfnInIdeal
    ∧ algebraic_AdamwWFfnInIdeal_AdamwWFfnInRefIdeal (hAdamwWFfnInIdeal := hAdamwWFfnInIdeal) (hAdamwWFfnInRefIdeal := hAdamwWFfnInRefIdeal) (hPre_place_w_ffn_in := hPre_place_w_ffn_in)
    ∧ preserves_AdamwWFfnOut_AdamwWFfnOutIdeal
    ∧ algebraic_AdamwWFfnOutIdeal_AdamwWFfnOutRefIdeal (hAdamwWFfnOutIdeal := hAdamwWFfnOutIdeal) (hAdamwWFfnOutRefIdeal := hAdamwWFfnOutRefIdeal) (hPre_place_w_ffn_out := hPre_place_w_ffn_out)
-- ==== Pre_combine_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)

variable [Facts]

def fn_part1 {F : FTy → Type} [FloatOps F] (main_arg6 : FVec F S16384x8 .f32) (main_v2 : IVec S16384x512 1) (main_v5 : IVec S16384x512 1) (main_v8 : IVec S16384x512 1) (main_v11 : IVec S16384x512 1) (main_v14 : IVec S16384x8 1) (main_v17 : IVec S16384x8 1) : IVec S16384x512 1 × IVec S16384x512 1 × IVec S16384x512 1 × IVec S16384x512 1 × IVec S16384x8 1 × IVec S16384x8 1 × IVec S16384x8 1 :=
  let main_v18 : FVec F S16384x8 .f32 := Host.absf main_arg6
  let main_cst_5 : FVec F S_ .f32 := constant S_ .f32 0x7F800000#32
  let main_v19 : FVec F S16384x8 .f32 := broadcastInDim S16384x8 ![] bcast_S_S16384x8 main_cst_5
  let main_v20 : IVec S16384x8 1 := cmpf .olt main_v18 main_v19
  (main_v2, main_v5, main_v8, main_v11, main_v14, main_v17, main_v20)

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x8 .f32) (main_arg5 : FVec F S16384x8 .f32) (main_arg6 : FVec F S16384x8 .f32) : IVec S16384x512 1 × IVec S16384x512 1 × IVec S16384x512 1 × IVec S16384x512 1 × IVec S16384x8 1 × IVec S16384x8 1 × IVec S16384x8 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_v12 : FVec F S16384x8 .f32 := Host.absf main_arg4
  let main_cst_3 : FVec F S_ .f32 := constant S_ .f32 0x7F800000#32
  let main_v13 : FVec F S16384x8 .f32 := broadcastInDim S16384x8 ![] bcast_S_S16384x8 main_cst_3
  let main_v14 : IVec S16384x8 1 := cmpf .olt main_v12 main_v13
  let main_v15 : FVec F S16384x8 .f32 := Host.absf main_arg5
  let main_cst_4 : FVec F S_ .f32 := constant S_ .f32 0x7F800000#32
  let main_v16 : FVec F S16384x8 .f32 := broadcastInDim S16384x8 ![] bcast_S_S16384x8 main_cst_4
  let main_v17 : IVec S16384x8 1 := cmpf .olt main_v15 main_v16
  fn_part1 (F := F) main_arg6 main_v2 main_v5 main_v8 main_v11 main_v14 main_v17
-- ==== Pre_conv_finite.lean ====
abbrev S16384x8704 : Shape := ⟨2, ![16384, 8704]⟩
abbrev S4x2048 : Shape := ⟨2, ![4, 2048]⟩
abbrev S2048 : Shape := ⟨1, ![2048]⟩
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S16384x8704 .bf16) (main_arg1 : FVec F S4x2048 .f32) (main_arg2 : FVec F S2048 .f32) (main_arg3 : FVec F S16384x2048 .f32) : IVec S16384x2048 1 :=
  let main_v0 : FVec F S16384x2048 .f32 := Host.absf main_arg3
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  main_v2
-- ==== Pre_gate_norm_finite.lean ====
abbrev S16384x2048 : Shape := ⟨2, ![16384, 2048]⟩
abbrev S16384x8704 : Shape := ⟨2, ![16384, 8704]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  bcast_S_S16384x8704 : S_.BroadcastsInDim S16384x8704 (![] : Fin 0 → Fin S16384x8704.rank)
  bcast_S_S2048 : S_.BroadcastsInDim S2048 (![] : Fin 0 → Fin S2048.rank)

variable [Facts]

def fn {F : FTy → Type} [FloatOps F] (main_arg0 : FVec F S16384x2048 .f32) (main_arg1 : FVec F S16384x2048 .f32) (main_arg2 : FVec F S16384x8704 .bf16) (main_arg3 : FVec F S2048 .f32) : IVec S16384x2048 1 × IVec S16384x2048 1 × IVec S16384x8704 1 × IVec S2048 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S16384x2048 .f32 := Host.absf main_arg1
  let main_cst_0 : FVec F S_ .f32 := constant S_ .f32 0x7F800000#32
  let main_v4 : FVec F S16384x2048 .f32 := broadcastInDim S16384x2048 ![] bcast_S_S16384x2048 main_cst_0
  let main_v5 : IVec S16384x2048 1 := cmpf .olt main_v3 main_v4
  let main_v6 : FVec F S16384x8704 .bf16 := Host.absf main_arg2
  let main_cst_1 : FVec F S_ .bf16 := constant S_ .bf16 0x7F80#16
  let main_v7 : FVec F S16384x8704 .bf16 := broadcastInDim S16384x8704 ![] bcast_S_S16384x8704 main_cst_1
  let main_v8 : IVec S16384x8704 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  (main_v2, main_v5, main_v8, main_v11)
-- ==== Pre_place_w_attn_branch.lean ====
abbrev S1 : Shape := ⟨1, ![1]⟩
abbrev S2x512x256 : Shape := ⟨3, ![2, 512, 256]⟩
abbrev S512x256 : Shape := ⟨2, ![512, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x512x256 .f32) (main_arg2 : FVec F S512x256 .f32) (main_arg3 : FVec F S512x256 .f32) (main_arg4 : FVec F S2x512x256 .f32) (main_arg5 : FVec F S2x512x256 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_place_w_ffn_in.lean ====
abbrev S1 : Shape := ⟨1, ![1]⟩
abbrev S2x1024x1408 : Shape := ⟨3, ![2, 1024, 1408]⟩
abbrev S1024x1408 : Shape := ⟨2, ![1024, 1408]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x1024x1408 .f32) (main_arg2 : FVec F S1024x1408 .f32) (main_arg3 : FVec F S1024x1408 .f32) (main_arg4 : FVec F S2x1024x1408 .f32) (main_arg5 : FVec F S2x1024x1408 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_place_w_ffn_out.lean ====
abbrev S1 : Shape := ⟨1, ![1]⟩
abbrev S2x704x1024 : Shape := ⟨3, ![2, 704, 1024]⟩
abbrev S704x1024 : Shape := ⟨2, ![704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x704x1024 .f32) (main_arg2 : FVec F S704x1024 .f32) (main_arg3 : FVec F S704x1024 .f32) (main_arg4 : FVec F S2x704x1024 .f32) (main_arg5 : FVec F S2x704x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_place_w_in.lean ====
abbrev S1 : Shape := ⟨1, ![1]⟩
abbrev S2x1024x2952 : Shape := ⟨3, ![2, 1024, 2952]⟩
abbrev S1024x2952 : Shape := ⟨2, ![1024, 2952]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x1024x2952 .f32) (main_arg2 : FVec F S1024x2952 .f32) (main_arg3 : FVec F S1024x2952 .f32) (main_arg4 : FVec F S2x1024x2952 .f32) (main_arg5 : FVec F S2x1024x2952 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_place_w_out.lean ====
abbrev S1 : Shape := ⟨1, ![1]⟩
abbrev S2x256x1024 : Shape := ⟨3, ![2, 256, 1024]⟩
abbrev S256x1024 : Shape := ⟨2, ![256, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x256x1024 .f32) (main_arg2 : FVec F S256x1024 .f32) (main_arg3 : FVec F S256x1024 .f32) (main_arg4 : FVec F S2x256x1024 .f32) (main_arg5 : FVec F S2x256x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_place_w_ssm_branch.lean ====
abbrev S1 : Shape := ⟨1, ![1]⟩
abbrev S2x512x1024 : Shape := ⟨3, ![2, 512, 1024]⟩
abbrev S512x1024 : Shape := ⟨2, ![512, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x512x1024 .f32) (main_arg2 : FVec F S512x1024 .f32) (main_arg3 : FVec F S512x1024 .f32) (main_arg4 : FVec F S2x512x1024 .f32) (main_arg5 : FVec F S2x512x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_swiglu_finite.lean ====
abbrev S16384x5632 : Shape := ⟨2, ![16384, 5632]⟩
abbrev S16384x2816 : Shape := ⟨2, ![16384, 2816]⟩
abbrev S_ : Shape := ⟨0, ![]⟩

class Facts : Prop where
  bcast_S_S16384x5632 : S_.BroadcastsInDim S16384x5632 (![] : Fin 0 → Fin S16384x5632.rank)
  bcast_S_S16384x2816 : S_.BroadcastsInDim S16384x2816 (![] : Fin 0 → Fin S16384x2816.rank)

variable [Facts]

def fn {F : FTy → Type} [FloatOps F] (main_arg0 : FVec F S16384x5632 .bf16) (main_arg1 : FVec F S16384x2816 .bf16) : IVec S16384x5632 1 × IVec S16384x2816 1 :=
  let main_v0 : FVec F S16384x5632 .bf16 := Host.absf main_arg0
  let main_cst : FVec F S_ .bf16 := constant S_ .bf16 0x7F80#16
  let main_v1 : FVec F S16384x5632 .bf16 := broadcastInDim S16384x5632 ![] bcast_S_S16384x5632 main_cst
  let main_v2 : IVec S16384x5632 1 := cmpf .olt main_v0 main_v1
  let main_v3 : FVec F S16384x2816 .bf16 := Host.absf main_arg1
  let main_cst_0 : FVec F S_ .bf16 := constant S_ .bf16 0x7F80#16
  let main_v4 : FVec F S16384x2816 .bf16 := broadcastInDim S16384x2816 ![] bcast_S_S16384x2816 main_cst_0
  let main_v5 : IVec S16384x2816 1 := cmpf .olt main_v3 main_v4
  (main_v2, main_v5)
-- ==== Merge.lean ====
abbrev S16384x8704 : Shape := ⟨2, ![16384, 8704]⟩
abbrev S16384x1024 : Shape := ⟨2, ![16384, 1024]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S16384x8704, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S16384x8704 : Shape := ⟨2, ![16384, 8704]⟩
abbrev S16384x1024 : Shape := ⟨2, ![16384, 1024]⟩
abbrev S16384x2048 : Shape := ⟨2, ![16384, 2048]⟩
abbrev S_ : Shape := ⟨0, ![]⟩
abbrev S16384x2x1024 : Shape := ⟨3, ![16384, 2, 1024]⟩
abbrev S16384x1x1024 : Shape := ⟨3, ![16384, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S_, .f32⟩
  | .hbm, ⟨32, _⟩ => ⟨S16384x2x1024, .f32⟩
  | .hbm, ⟨33, _⟩ => ⟨S16384x1024, .f32⟩
  | .hbm, ⟨34, _⟩ => ⟨S16384x1024, .f32⟩
  | .hbm, ⟨35, _⟩ => ⟨S16384x1x1024, .f32⟩
  | .hbm, ⟨36, _⟩ => ⟨S_, .f32⟩
  | .hbm, ⟨37, _⟩ => ⟨S16384x2x1024, .f32⟩
  | .hbm, ⟨38, _⟩ => ⟨S16384x2x1024, .f32⟩
  | .hbm, ⟨39, _⟩ => ⟨S16384x2048, .f32⟩
  | .hbm, ⟨40, _⟩ => ⟨S16384x2048, .f32⟩
  | .hbm, ⟨41, _⟩ => ⟨S16384x2048, .bf16⟩
  | .hbm, ⟨42, _⟩ => ⟨S16384x1024, .bf16⟩
  | .hbm, ⟨43, _⟩ => ⟨S16384x1024, .bf16⟩
  | .hbm, ⟨44, _⟩ => ⟨S16384x1024, .bf16⟩
  | .hbm, ⟨45, _⟩ => ⟨S16384x1024, .bf16⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== InProjDx.lean ====
abbrev S16384x8704 : Shape := ⟨2, ![16384, 8704]⟩
abbrev S1024x8704 : Shape := ⟨2, ![1024, 8704]⟩
abbrev S16384x1024 : Shape := ⟨2, ![16384, 1024]⟩
abbrev S512x2176 : Shape := ⟨2, ![512, 2176]⟩
abbrev S1024x2176 : Shape := ⟨2, ![1024, 2176]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x8704, .bf16⟩
  | .hbm, ⟨1, _⟩ => ⟨S1024x8704, .bf16⟩
  | .hbm, ⟨2, _⟩ => ⟨S16384x1024, .f32⟩
  | .local _ .vmem, ⟨0, _⟩ => ⟨S512x2176, .bf16⟩
  | .local _ .vmem, ⟨1, _⟩ => ⟨S512x2176, .bf16⟩
  | .local _ .vmem, ⟨2, _⟩ => ⟨S1024x2176, .bf16⟩
  | .local _ .vmem, ⟨3, _⟩ => ⟨S1024x2176, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxIdeal.lean ====
abbrev S16384x8704 : Shape := ⟨2, ![16384, 8704]⟩
abbrev S1024x8704 : Shape := ⟨2, ![1024, 8704]⟩
abbrev S16384x1024 : Shape := ⟨2, ![16384, 1024]⟩
abbrev S512x2176 : Shape := ⟨2, ![512, 2176]⟩
abbrev S1024x2176 : Shape := ⟨2, ![1024, 2176]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x8704, .bf16⟩
  | .hbm, ⟨1, _⟩ => ⟨S1024x8704, .bf16⟩
  | .hbm, ⟨2, _⟩ => ⟨S16384x1024, .f32⟩
  | .local _ .vmem, ⟨0, _⟩ => ⟨S512x2176, .bf16⟩
  | .local _ .vmem, ⟨1, _⟩ => ⟨S512x2176, .bf16⟩
  | .local _ .vmem, ⟨2, _⟩ => ⟨S1024x2176, .bf16⟩
  | .local _ .vmem, ⟨3, _⟩ => ⟨S1024x2176, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S16384x8704 : Shape := ⟨2, ![16384, 8704]⟩
abbrev S1024x8704 : Shape := ⟨2, ![1024, 8704]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S1024x8704, .bf16⟩
  | .hbm, ⟨2, _⟩ => ⟨S_, .f32⟩
  | .hbm, ⟨3, _⟩ => ⟨S16384x1024, .f32⟩
  | .hbm, ⟨4, _⟩ => ⟨S1024x8704, .f32⟩
  | .hbm, ⟨5, _⟩ => ⟨S16384x8704, .f32⟩
  | .hbm, ⟨6, _⟩ => ⟨S16384x8704, .f32⟩
  | .hbm, ⟨7, _⟩ => ⟨S16384x1024, .f32⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjDw.lean ====
abbrev S16384x1024 : Shape := ⟨2, ![16384, 1024]⟩
abbrev S16384x8704 : Shape := ⟨2, ![16384, 8704]⟩
abbrev S1024x8704 : Shape := ⟨2, ![1024, 8704]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x8704, .bf16⟩
  | .hbm, ⟨2, _⟩ => ⟨S1024x8704, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwIdeal.lean ====
abbrev S16384x1024 : Shape := ⟨2, ![16384, 1024]⟩
abbrev S16384x8704 : Shape := ⟨2, ![16384, 8704]⟩
abbrev S1024x8704 : Shape := ⟨2, ![1024, 8704]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x8704, .bf16⟩
  | .hbm, ⟨2, _⟩ => ⟨S1024x8704, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S16384x1024 : Shape := ⟨2, ![16384, 1024]⟩
abbrev S16384x8704 : Shape := ⟨2, ![16384, 8704]⟩
abbrev S_ : Shape := ⟨0, ![]⟩
abbrev S1024x8704 : Shape := ⟨2, ![1024, 8704]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8704, .bf16⟩
  | .hbm, ⟨2, _⟩ => ⟨S_, .f32⟩
  | .hbm, ⟨3, _⟩ => ⟨S1024x8704, .f32⟩
  | .hbm, ⟨4, _⟩ => ⟨S16384x1024, .f32⟩
  | .hbm, ⟨5, _⟩ => ⟨S16384x8704, .f32⟩
  | .hbm, ⟨6, _⟩ => ⟨S16384x8704, .f32⟩
  | .hbm, ⟨7, _⟩ => ⟨S8704x1024, .f32⟩
  | .hbm, ⟨8, _⟩ => ⟨S1024x8704, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S16384x1024 : Shape := ⟨2, ![16384, 1024]⟩
abbrev S1024x8704 : Shape := ⟨2, ![1024, 8704]⟩
abbrev S16384x8704 : Shape := ⟨2, ![16384, 8704]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x8704, .bf16⟩
  | .hbm, ⟨2, _⟩ => ⟨S16384x8704, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjIdeal.lean ====
abbrev S16384x1024 : Shape := ⟨2, ![16384, 1024]⟩
abbrev S1024x8704 : Shape := ⟨2, ![1024, 8704]⟩
abbrev S16384x8704 : Shape := ⟨2, ![16384, 8704]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x8704, .bf16⟩
  | .hbm, ⟨2, _⟩ => ⟨S16384x8704, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S16384x1024 : Shape := ⟨2, ![16384, 1024]⟩
abbrev S1024x8704 : Shape := ⟨2, ![1024, 8704]⟩
abbrev S16384x8704 : Shape := ⟨2, ![16384, 8704]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8704, .bf16⟩
  | .hbm, ⟨2, _⟩ => ⟨S16384x1024, .f32⟩
  | .hbm, ⟨3, _⟩ => ⟨S1024x8704, .f32⟩
  | .hbm, ⟨4, _⟩ => ⟨S16384x8704, .f32⟩
  | .hbm, ⟨5, _⟩ => ⟨S16384x8704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjQkvDx.lean ====
abbrev S16384x1536 : Shape := ⟨2, ![16384, 1536]⟩
abbrev S1024x1536 : Shape := ⟨2, ![1024, 1536]⟩
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1536, .bf16⟩
  | .hbm, ⟨1, _⟩ => ⟨S1024x1536, .bf16⟩
  | .hbm, ⟨2, _⟩ => ⟨S16384x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvDxIdeal.lean ====
abbrev S16384x1536 : Shape := ⟨2, ![16384, 1536]⟩
abbrev S1024x1536 : Shape := ⟨2, ![1024, 1536]⟩
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1536, .bf16⟩
  | .hbm, ⟨1, _⟩ => ⟨S1024x1536, .bf16⟩
  | .hbm, ⟨2, _⟩ => ⟨S16384x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvDxRefIdeal.lean ====
abbrev S16384x1536 : Shape := ⟨2, ![16384, 1536]⟩
abbrev S1024x1536 : Shape := ⟨2, ![1024, 1536]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S1024x1536, .bf16⟩
  | .hbm, ⟨2, _⟩ => ⟨S_, .f32⟩
  | .hbm, ⟨3, _⟩ => ⟨S16384x1024, .f32⟩
  | .hbm, ⟨4, _⟩ => ⟨S1024x1536, .f32⟩
  | .hbm, ⟨5, _⟩ => ⟨S16384x1536, .f32⟩
  | .hbm, ⟨6, _⟩ => ⟨S16384x1536, .f32⟩
  | .hbm, ⟨7, _⟩ => ⟨S16384x1024, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjQkvDw.lean ====
abbrev S16384x1024 : Shape := ⟨2, ![16384, 1024]⟩
abbrev S16384x1536 : Shape := ⟨2, ![16384, 1536]⟩
abbrev S1024x1536 : Shape := ⟨2, ![1024, 1536]⟩
abbrev S4096x512 : Shape := ⟨2, ![4096, 512]⟩
abbrev S4096x768 : Shape := ⟨2, ![4096, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S1024x1536, .f32⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvDwIdeal.lean ====
abbrev S16384x1024 : Shape := ⟨2, ![16384, 1024]⟩
abbrev S16384x1536 : Shape := ⟨2, ![16384, 1536]⟩
abbrev S1024x1536 : Shape := ⟨2, ![1024, 1536]⟩
abbrev S4096x512 : Shape := ⟨2, ![4096, 512]⟩
abbrev S4096x768 : Shape := ⟨2, ![4096, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S1024x1536, .f32⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvDwRefIdeal.lean ====
abbrev S16384x1024 : Shape := ⟨2, ![16384, 1024]⟩
abbrev S16384x1536 : Shape := ⟨2, ![16384, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S_, .f32⟩
  | .hbm, ⟨3, _⟩ => ⟨S1024x1536, .f32⟩
  | .hbm, ⟨4, _⟩ => ⟨S16384x1024, .f32⟩
  | .hbm, ⟨5, _⟩ => ⟨S16384x1536, .f32⟩
  | .hbm, ⟨6, _⟩ => ⟨S16384x1536, .f32⟩
  | .hbm, ⟨7, _⟩ => ⟨S1536x1024, .f32⟩
  | .hbm, ⟨8, _⟩ => ⟨S1024x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProjQkv.lean ====
abbrev S16384x1024 : Shape := ⟨2, ![16384, 1024]⟩
abbrev S1024x1536 : Shape := ⟨2, ![1024, 1536]⟩
abbrev S16384x1536 : Shape := ⟨2, ![16384, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvIdeal.lean ====
abbrev S16384x1024 : Shape := ⟨2, ![16384, 1024]⟩
abbrev S1024x1536 : Shape := ⟨2, ![1024, 1536]⟩
abbrev S16384x1536 : Shape := ⟨2, ![16384, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvRefIdeal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1024, .f32⟩
  | .hbm, ⟨3, _⟩ => ⟨S1024x1536, .f32⟩
  | .hbm, ⟨4, _⟩ => ⟨S16384x1536, .f32⟩
  | .hbm, ⟨5, _⟩ => ⟨S16384x1536, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjDtDx.lean ====
abbrev S16384x128 : Shape := ⟨2, ![16384, 128]⟩
abbrev S1024x128 : Shape := ⟨2, ![1024, 128]⟩
abbrev S16384x1024 : Shape := ⟨2, ![16384, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1024x128, .bf16⟩
  | .hbm, ⟨2, _⟩ => ⟨S16384x1024, .f32⟩
  | .local _ .vmem, ⟨0, _⟩ => ⟨S2048x128, .f32⟩
  | .local _ .vmem, ⟨1, _⟩ => ⟨S2048x128, .f32⟩
  | .local _ .vmem, ⟨2, _⟩ => ⟨S1024x128, .bf16⟩
  | .local _ .vmem, ⟨3, _⟩ => ⟨S2048x1024, .f32⟩
  | .local _ .vmem, ⟨4, _⟩ => ⟨S2048x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDtDxIdeal.lean ====
abbrev S16384x128 : Shape := ⟨2, ![16384, 128]⟩
abbrev S1024x128 : Shape := ⟨2, ![1024, 128]⟩
abbrev S16384x1024 : Shape := ⟨2, ![16384, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1024x128, .bf16⟩
  | .hbm, ⟨2, _⟩ => ⟨S16384x1024, .f32⟩
  | .local _ .vmem, ⟨0, _⟩ => ⟨S2048x128, .f32⟩
  | .local _ .vmem, ⟨1, _⟩ => ⟨S2048x128, .f32⟩
  | .local _ .vmem, ⟨2, _⟩ => ⟨S1024x128, .bf16⟩
  | .local _ .vmem, ⟨3, _⟩ => ⟨S2048x1024, .f32⟩
  | .local _ .vmem, ⟨4, _⟩ => ⟨S2048x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDtDxRefIdeal.lean ====
abbrev S16384x128 : Shape := ⟨2, ![16384, 128]⟩
abbrev S1024x128 : Shape := ⟨2, ![1024, 128]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1024x128, .bf16⟩
  | .hbm, ⟨2, _⟩ => ⟨S_, .f32⟩
  | .hbm, ⟨3, _⟩ => ⟨S16384x1024, .f32⟩
  | .hbm, ⟨4, _⟩ => ⟨S1024x128, .f32⟩
  | .hbm, ⟨5, _⟩ => ⟨S16384x128, .f32⟩
  | .hbm, ⟨6, _⟩ => ⟨S16384x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProjDtDw.lean ====
abbrev S16384x1024 : Shape := ⟨2, ![16384, 1024]⟩
abbrev S16384x128 : Shape := ⟨2, ![16384, 128]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S1024x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x128, .f32⟩
  | .local _ .vmem, ⟨3, _⟩ => ⟨S4096x128, .f32⟩
  | .local _ .vmem, ⟨4, _⟩ => ⟨S1024x128, .f32⟩
  | .local _ .vmem, ⟨5, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InProjDtDwIdeal.lean ====
abbrev S16384x1024 : Shape := ⟨2, ![16384, 1024]⟩
abbrev S16384x128 : Shape := ⟨2, ![16384, 128]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S1024x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x128, .f32⟩
  | .local _ .vmem, ⟨3, _⟩ => ⟨S4096x128, .f32⟩
  | .local _ .vmem, ⟨4, _⟩ => ⟨S1024x128, .f32⟩
  | .local _ .vmem, ⟨5, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InProjDtDwRefIdeal.lean ====
abbrev S16384x1024 : Shape := ⟨2, ![16384, 1024]⟩
abbrev S16384x128 : Shape := ⟨2, ![16384, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S_, .f32⟩
  | .hbm, ⟨3, _⟩ => ⟨S1024x128, .f32⟩
  | .hbm, ⟨4, _⟩ => ⟨S16384x1024, .f32⟩
  | .hbm, ⟨5, _⟩ => ⟨S16384x128, .f32⟩
  | .hbm, ⟨6, _⟩ => ⟨S128x1024, .f32⟩
  | .hbm, ⟨7, _⟩ => ⟨S1024x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjDt.lean ====
abbrev S16384x1024 : Shape := ⟨2, ![16384, 1024]⟩
abbrev S1024x128 : Shape := ⟨2, ![1024, 128]⟩
abbrev S16384x128 : Shape := ⟨2, ![16384, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDtIdeal.lean ====
abbrev S16384x1024 : Shape := ⟨2, ![16384, 1024]⟩
abbrev S1024x128 : Shape := ⟨2, ![1024, 128]⟩
abbrev S16384x128 : Shape := ⟨2, ![16384, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDtRefIdeal.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x1024, .f32⟩
  | .hbm, ⟨3, _⟩ => ⟨S1024x128, .f32⟩
  | .hbm, ⟨4, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnBranchDx.lean ====
abbrev S16384x1024 : Shape := ⟨2, ![16384, 1024]⟩
abbrev S512x1024 : Shape := ⟨2, ![512, 1024]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchDxIdeal.lean ====
abbrev S16384x1024 : Shape := ⟨2, ![16384, 1024]⟩
abbrev S512x1024 : Shape := ⟨2, ![512, 1024]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchDxRefIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S_, .f32⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x1024, .f32⟩
  | .hbm, ⟨7, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnBranchDw.lean ====
abbrev S16384x512 : Shape := ⟨2, ![16384, 512]⟩
abbrev S16384x1024 : Shape := ⟨2, ![16384, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchDwIdeal.lean ====
abbrev S16384x512 : Shape := ⟨2, ![16384, 512]⟩
abbrev S16384x1024 : Shape := ⟨2, ![16384, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchDwRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnBranch.lean ====
abbrev S16384x512 : Shape := ⟨2, ![16384, 512]⟩
abbrev S512x1024 : Shape := ⟨2, ![512, 1024]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchIdeal.lean ====
abbrev S16384x512 : Shape := ⟨2, ![16384, 512]⟩
abbrev S512x1024 : Shape := ⟨2, ![512, 1024]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x512, .f32⟩
  | .hbm, ⟨3, _⟩ => ⟨S512x1024, .f32⟩
  | .hbm, ⟨4, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmBranchDx.lean ====
abbrev S16384x1024 : Shape := ⟨2, ![16384, 1024]⟩
abbrev S2048x1024 : Shape := ⟨2, ![2048, 1024]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBranchDxIdeal.lean ====
abbrev S16384x1024 : Shape := ⟨2, ![16384, 1024]⟩
abbrev S2048x1024 : Shape := ⟨2, ![2048, 1024]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBranchDxRefIdeal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S_, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | .hbm, ⟨7, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmBranchDw.lean ====
abbrev S16384x2048 : Shape := ⟨2, ![16384, 2048]⟩
abbrev S16384x1024 : Shape := ⟨2, ![16384, 1024]⟩
abbrev S2048x1024 : Shape := ⟨2, ![2048, 1024]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBranchDwIdeal.lean ====
abbrev S16384x2048 : Shape := ⟨2, ![16384, 2048]⟩
abbrev S16384x1024 : Shape := ⟨2, ![16384, 1024]⟩
abbrev S2048x1024 : Shape := ⟨2, ![2048, 1024]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBranchDwRefIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmBranch.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBranchIdeal.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBranchRefIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x2048, .f32⟩
  | .hbm, ⟨3, _⟩ => ⟨S2048x1024, .f32⟩
  | .hbm, ⟨4, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjDx.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxIdeal.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDw.lean ====
abbrev S16384x1024 : Shape := ⟨2, ![16384, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwIdeal.lean ====
abbrev S16384x1024 : Shape := ⟨2, ![16384, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjIdeal.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnInDx.lean ====
abbrev S16384x5632 : Shape := ⟨2, ![16384, 5632]⟩
abbrev S1024x5632 : Shape := ⟨2, ![1024, 5632]⟩
abbrev S16384x1024 : Shape := ⟨2, ![16384, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxIdeal.lean ====
abbrev S16384x5632 : Shape := ⟨2, ![16384, 5632]⟩
abbrev S1024x5632 : Shape := ⟨2, ![1024, 5632]⟩
abbrev S16384x1024 : Shape := ⟨2, ![16384, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S16384x5632 : Shape := ⟨2, ![16384, 5632]⟩
abbrev S1024x5632 : Shape := ⟨2, ![1024, 5632]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S_, .f32⟩
  | .hbm, ⟨3, _⟩ => ⟨S16384x1024, .f32⟩
  | .hbm, ⟨4, _⟩ => ⟨S1024x5632, .f32⟩
  | .hbm, ⟨5, _⟩ => ⟨S16384x5632, .f32⟩
  | .hbm, ⟨6, _⟩ => ⟨S16384x5632, .f32⟩
  | .hbm, ⟨7, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S16384x1024 : Shape := ⟨2, ![16384, 1024]⟩
abbrev S16384x5632 : Shape := ⟨2, ![16384, 5632]⟩
abbrev S1024x5632 : Shape := ⟨2, ![1024, 5632]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwIdeal.lean ====
abbrev S16384x1024 : Shape := ⟨2, ![16384, 1024]⟩
abbrev S16384x5632 : Shape := ⟨2, ![16384, 5632]⟩
abbrev S1024x5632 : Shape := ⟨2, ![1024, 5632]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnIn.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInIdeal.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnOutDx.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | .hbm, ⟨7, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOutDw.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x512, .f32⟩
  | .local _ .vmem, ⟨3, _⟩ => ⟨S1024x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOut.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnFwd.lean ====
abbrev S16384x1536 : Shape := ⟨2, ![16384, 1536]⟩
abbrev S8x128x256 : Shape := ⟨3, ![8, 128, 256]⟩
abbrev S16384x512 : Shape := ⟨2, ![16384, 512]⟩
abbrev S512x512 : Shape := ⟨2, ![512, 512]⟩
abbrev S128x512 : Shape := ⟨2, ![128, 512]⟩
abbrev S640x512 : Shape := ⟨2, ![640, 512]⟩
abbrev S256x256 : Shape := ⟨2, ![256, 256]⟩
abbrev S128x128 : Shape := ⟨2, ![128, 128]⟩
abbrev S256x128 : Shape := ⟨2, ![256, 128]⟩
abbrev S2x128x256 : Shape := ⟨3, ![2, 128, 256]⟩
abbrev S256 : Shape := ⟨1, ![256]⟩
abbrev S256x1 : Shape := ⟨2, ![256, 1]⟩

abbrev nBuf : Space → Nat
  | .hbm => 4
  | .vmem => 17
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S16384x512, .f32⟩
  | .hbm, ⟨3, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S640x512, .bf16⟩
  | .local _ .vmem, ⟨16, _⟩ => ⟨S640x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_20 : BitVec 32 := 128#32
  let v40 : BitVec 32 := Scalar.muli arg12 c128_i32_20
  v40
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_20 : BitVec 32 := 128#32
  let v40 : BitVec 32 := Scalar.muli arg12 c128_i32_20
  let v41 : BitVec 32 := v40
  let v42 : Index := Scalar.indexCast v41
  let c0_21 : Index := 0#32
  ![v42.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_22 : BitVec 32 := 128#32
  let v44 : BitVec 32 := Scalar.muli arg12 c128_i32_22
  v44
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_24 : BitVec 32 := 128#32
  let v48 : BitVec 32 := Scalar.muli arg12 c128_i32_24
  v48
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_24 : BitVec 32 := 128#32
  let v48 : BitVec 32 := Scalar.muli arg12 c128_i32_24
  let v49 : BitVec 32 := v48
  let v50 : Index := Scalar.indexCast v49
  let c0_25 : Index := 0#32
  ![v50.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_35 : BitVec 32 := 128#32
  let v82 : BitVec 32 := Scalar.muli arg12 c128_i32_35
  v82
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_37 : BitVec 32 := 128#32
  let v89 : BitVec 32 := Scalar.muli arg12 c128_i32_37
  v89
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_39 : BitVec 32 := 128#32
  let v93 : BitVec 32 := Scalar.muli arg12 c128_i32_39
  v93
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_39 : BitVec 32 := 128#32
  let v93 : BitVec 32 := Scalar.muli arg12 c128_i32_39
  let v94 : BitVec 32 := v93
  let v95 : Index := Scalar.indexCast v94
  let c128_40 : Index := 128#32
  ![v95.toNat, 128]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_41 : BitVec 32 := 128#32
  let v97 : BitVec 32 := Scalar.muli arg12 c128_i32_41
  v97
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_43 : BitVec 32 := 128#32
  let v101 : BitVec 32 := Scalar.muli arg12 c128_i32_43
  v101
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_43 : BitVec 32 := 128#32
  let v101 : BitVec 32 := Scalar.muli arg12 c128_i32_43
  let v102 : BitVec 32 := v101
  let v103 : Index := Scalar.indexCast v102
  let c128_44 : Index := 128#32
  ![v103.toNat, 128]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_54 : BitVec 32 := 128#32
  let v135 : BitVec 32 := Scalar.muli arg12 c128_i32_54
  v135
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_56 : BitVec 32 := 128#32
  let v142 : BitVec 32 := Scalar.muli arg12 c128_i32_56
  v142
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_58 : BitVec 32 := 128#32
  let v146 : BitVec 32 := Scalar.muli arg12 c128_i32_58
  v146
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_58 : BitVec 32 := 128#32
  let v146 : BitVec 32 := Scalar.muli arg12 c128_i32_58
  let v147 : BitVec 32 := v146
  let v148 : Index := Scalar.indexCast v147
  let c256 : Index := 256#32
  ![v148.toNat, 256]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_59 : BitVec 32 := 128#32
  let v150 : BitVec 32 := Scalar.muli arg12 c128_i32_59
  v150
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_61 : BitVec 32 := 128#32
  let v154 : BitVec 32 := Scalar.muli arg12 c128_i32_61
  v154
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_61 : BitVec 32 := 128#32
  let v154 : BitVec 32 := Scalar.muli arg12 c128_i32_61
  let v155 : BitVec 32 := v154
  let v156 : Index := Scalar.indexCast v155
  let c256_62 : Index := 256#32
  ![v156.toNat, 256]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_72 : BitVec 32 := 128#32
  let v188 : BitVec 32 := Scalar.muli arg12 c128_i32_72
  v188
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_74 : BitVec 32 := 128#32
  let v195 : BitVec 32 := Scalar.muli arg12 c128_i32_74
  v195
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_76 : BitVec 32 := 128#32
  let v199 : BitVec 32 := Scalar.muli arg12 c128_i32_76
  v199
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_76 : BitVec 32 := 128#32
  let v199 : BitVec 32 := Scalar.muli arg12 c128_i32_76
  let v200 : BitVec 32 := v199
  let v201 : Index := Scalar.indexCast v200
  let c384 : Index := 384#32
  ![v201.toNat, 384]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_77 : BitVec 32 := 128#32
  let v203 : BitVec 32 := Scalar.muli arg12 c128_i32_77
  v203
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_79 : BitVec 32 := 128#32
  let v207 : BitVec 32 := Scalar.muli arg12 c128_i32_79
  v207
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_79 : BitVec 32 := 128#32
  let v207 : BitVec 32 := Scalar.muli arg12 c128_i32_79
  let v208 : BitVec 32 := v207
  let v209 : Index := Scalar.indexCast v208
  let c384_80 : Index := 384#32
  ![v209.toNat, 384]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_90 : BitVec 32 := 128#32
  let v241 : BitVec 32 := Scalar.muli arg12 c128_i32_90
  v241
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_92 : BitVec 32 := 128#32
  let v248 : BitVec 32 := Scalar.muli arg12 c128_i32_92
  v248
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwdIdeal.lean ====
abbrev S16384x1536 : Shape := ⟨2, ![16384, 1536]⟩
abbrev S8x128x256 : Shape := ⟨3, ![8, 128, 256]⟩
abbrev S16384x512 : Shape := ⟨2, ![16384, 512]⟩
abbrev S512x512 : Shape := ⟨2, ![512, 512]⟩
abbrev S128x512 : Shape := ⟨2, ![128, 512]⟩
abbrev S640x512 : Shape := ⟨2, ![640, 512]⟩
abbrev S256x256 : Shape := ⟨2, ![256, 256]⟩
abbrev S128x128 : Shape := ⟨2, ![128, 128]⟩
abbrev S256x128 : Shape := ⟨2, ![256, 128]⟩
abbrev S2x128x256 : Shape := ⟨3, ![2, 128, 256]⟩
abbrev S256 : Shape := ⟨1, ![256]⟩
abbrev S256x1 : Shape := ⟨2, ![256, 1]⟩

abbrev nBuf : Space → Nat
  | .hbm => 4
  | .vmem => 17
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S16384x512, .f32⟩
  | .hbm, ⟨3, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S640x512, .bf16⟩
  | .local _ .vmem, ⟨16, _⟩ => ⟨S640x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_20 : BitVec 32 := 128#32
  let v40 : BitVec 32 := Scalar.muli arg12 c128_i32_20
  v40
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_20 : BitVec 32 := 128#32
  let v40 : BitVec 32 := Scalar.muli arg12 c128_i32_20
  let v41 : BitVec 32 := v40
  let v42 : Index := Scalar.indexCast v41
  let c0_21 : Index := 0#32
  ![v42.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_22 : BitVec 32 := 128#32
  let v44 : BitVec 32 := Scalar.muli arg12 c128_i32_22
  v44
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_24 : BitVec 32 := 128#32
  let v48 : BitVec 32 := Scalar.muli arg12 c128_i32_24
  v48
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_24 : BitVec 32 := 128#32
  let v48 : BitVec 32 := Scalar.muli arg12 c128_i32_24
  let v49 : BitVec 32 := v48
  let v50 : Index := Scalar.indexCast v49
  let c0_25 : Index := 0#32
  ![v50.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_35 : BitVec 32 := 128#32
  let v82 : BitVec 32 := Scalar.muli arg12 c128_i32_35
  v82
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_37 : BitVec 32 := 128#32
  let v89 : BitVec 32 := Scalar.muli arg12 c128_i32_37
  v89
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_39 : BitVec 32 := 128#32
  let v93 : BitVec 32 := Scalar.muli arg12 c128_i32_39
  v93
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_39 : BitVec 32 := 128#32
  let v93 : BitVec 32 := Scalar.muli arg12 c128_i32_39
  let v94 : BitVec 32 := v93
  let v95 : Index := Scalar.indexCast v94
  let c128_40 : Index := 128#32
  ![v95.toNat, 128]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_41 : BitVec 32 := 128#32
  let v97 : BitVec 32 := Scalar.muli arg12 c128_i32_41
  v97
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_43 : BitVec 32 := 128#32
  let v101 : BitVec 32 := Scalar.muli arg12 c128_i32_43
  v101
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_43 : BitVec 32 := 128#32
  let v101 : BitVec 32 := Scalar.muli arg12 c128_i32_43
  let v102 : BitVec 32 := v101
  let v103 : Index := Scalar.indexCast v102
  let c128_44 : Index := 128#32
  ![v103.toNat, 128]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_54 : BitVec 32 := 128#32
  let v135 : BitVec 32 := Scalar.muli arg12 c128_i32_54
  v135
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_56 : BitVec 32 := 128#32
  let v142 : BitVec 32 := Scalar.muli arg12 c128_i32_56
  v142
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_58 : BitVec 32 := 128#32
  let v146 : BitVec 32 := Scalar.muli arg12 c128_i32_58
  v146
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_58 : BitVec 32 := 128#32
  let v146 : BitVec 32 := Scalar.muli arg12 c128_i32_58
  let v147 : BitVec 32 := v146
  let v148 : Index := Scalar.indexCast v147
  let c256 : Index := 256#32
  ![v148.toNat, 256]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_59 : BitVec 32 := 128#32
  let v150 : BitVec 32 := Scalar.muli arg12 c128_i32_59
  v150
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_61 : BitVec 32 := 128#32
  let v154 : BitVec 32 := Scalar.muli arg12 c128_i32_61
  v154
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_61 : BitVec 32 := 128#32
  let v154 : BitVec 32 := Scalar.muli arg12 c128_i32_61
  let v155 : BitVec 32 := v154
  let v156 : Index := Scalar.indexCast v155
  let c256_62 : Index := 256#32
  ![v156.toNat, 256]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_72 : BitVec 32 := 128#32
  let v188 : BitVec 32 := Scalar.muli arg12 c128_i32_72
  v188
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_74 : BitVec 32 := 128#32
  let v195 : BitVec 32 := Scalar.muli arg12 c128_i32_74
  v195
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_76 : BitVec 32 := 128#32
  let v199 : BitVec 32 := Scalar.muli arg12 c128_i32_76
  v199
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_76 : BitVec 32 := 128#32
  let v199 : BitVec 32 := Scalar.muli arg12 c128_i32_76
  let v200 : BitVec 32 := v199
  let v201 : Index := Scalar.indexCast v200
  let c384 : Index := 384#32
  ![v201.toNat, 384]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_77 : BitVec 32 := 128#32
  let v203 : BitVec 32 := Scalar.muli arg12 c128_i32_77
  v203
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_79 : BitVec 32 := 128#32
  let v207 : BitVec 32 := Scalar.muli arg12 c128_i32_79
  v207
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_79 : BitVec 32 := 128#32
  let v207 : BitVec 32 := Scalar.muli arg12 c128_i32_79
  let v208 : BitVec 32 := v207
  let v209 : Index := Scalar.indexCast v208
  let c384_80 : Index := 384#32
  ![v209.toNat, 384]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_90 : BitVec 32 := 128#32
  let v241 : BitVec 32 := Scalar.muli arg12 c128_i32_90
  v241
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_92 : BitVec 32 := 128#32
  let v248 : BitVec 32 := Scalar.muli arg12 c128_i32_92
  v248
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwdRefIdeal.lean ====
abbrev S16384x1536 : Shape := ⟨2, ![16384, 1536]⟩
abbrev S8x128x256 : Shape := ⟨3, ![8, 128, 256]⟩
abbrev S16384x512 : Shape := ⟨2, ![16384, 512]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x128x128x8x64 : Shape := ⟨5, ![1, 128, 128, 8, 64]⟩
abbrev S1x127x128x8x64 : Shape := ⟨5, ![1, 127, 128, 8, 64]⟩
abbrev S1x128x256x8x64 : Shape := ⟨5, ![1, 128, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x8x128x256 : Shape := ⟨5, ![1, 128, 8, 128, 256]⟩
abbrev S1x1x8x128x256 : Shape := ⟨5, ![1, 1, 8, 128, 256]⟩
abbrev S1x128x1x128x256 : Shape := ⟨5, ![1, 128, 1, 128, 256]⟩
abbrev S1x128x8x128 : Shape := ⟨4, ![1, 128, 8, 128]⟩
abbrev S1x128x8x128x1 : Shape := ⟨5, ![1, 128, 8, 128, 1]⟩
abbrev S1x128x8x64x128 : Shape := ⟨5, ![1, 128, 8, 64, 128]⟩
abbrev S1x128x128x8x1 : Shape := ⟨5, ![1, 128, 128, 8, 1]⟩
abbrev S1x128x128x8 : Shape := ⟨4, ![1, 128, 128, 8]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S16384x8 : Shape := ⟨2, ![16384, 8]⟩
abbrev S16384x8x1 : Shape := ⟨3, ![16384, 8, 1]⟩
abbrev S16384x8x64 : Shape := ⟨3, ![16384, 8, 64]⟩

abbrev nBuf : Space → Nat
  | .hbm => 120
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S16384x512, .bf16⟩
  | .hbm, ⟨3, _⟩ => ⟨S16384x512, .f32⟩
  | .hbm, ⟨4, _⟩ => ⟨S1x16384x8x64, .f32⟩
  | .hbm, ⟨5, _⟩ => ⟨S16384x512, .bf16⟩
  | .hbm, ⟨6, _⟩ => ⟨S16384x512, .f32⟩
  | .hbm, ⟨7, _⟩ => ⟨S1x16384x8x64, .f32⟩
  | .hbm, ⟨8, _⟩ => ⟨S16384x512, .bf16⟩
  | .hbm, ⟨9, _⟩ => ⟨S16384x512, .f32⟩
  | .hbm, ⟨10, _⟩ => ⟨S1x16384x8x64, .f32⟩
  | .hbm, ⟨11, _⟩ => ⟨S1x16384x1x8x64, .f32⟩
  | .hbm, ⟨12, _⟩ => ⟨S1x1x16384x8x64, .f32⟩
  | .hbm, ⟨13, _⟩ => ⟨S1x16384x8x64, .f32⟩
  | .hbm, ⟨14, _⟩ => ⟨S_, .i32⟩
  | .hbm, ⟨15, _⟩ => ⟨S_, .f32⟩
  | .hbm, ⟨16, _⟩ => ⟨S1x16384x8x64, .f32⟩
  | .hbm, ⟨17, _⟩ => ⟨S1x128x128x8x64, .f32⟩
  | .hbm, ⟨18, _⟩ => ⟨S1x16384x1x8x64, .f32⟩
  | .hbm, ⟨19, _⟩ => ⟨S1x1x16384x8x64, .f32⟩
  | .hbm, ⟨20, _⟩ => ⟨S1x16384x8x64, .f32⟩
  | .hbm, ⟨21, _⟩ => ⟨S_, .i32⟩
  | .hbm, ⟨22, _⟩ => ⟨S_, .f32⟩
  | .hbm, ⟨23, _⟩ => ⟨S1x16384x8x64, .f32⟩
  | .hbm, ⟨24, _⟩ => ⟨S1x128x128x8x64, .f32⟩
  | .hbm, ⟨25, _⟩ => ⟨S1x127x128x8x64, .f32⟩
  | .hbm, ⟨26, _⟩ => ⟨S_, .i32⟩
  | .hbm, ⟨27, _⟩ => ⟨S_, .f32⟩
  | .hbm, ⟨28, _⟩ => ⟨S1x128x128x8x64, .f32⟩
  | .hbm, ⟨29, _⟩ => ⟨S1x128x256x8x64, .f32⟩
  | .hbm, ⟨30, _⟩ => ⟨S1x16384x1x8x64, .f32⟩
  | .hbm, ⟨31, _⟩ => ⟨S1x1x16384x8x64, .f32⟩
  | .hbm, ⟨32, _⟩ => ⟨S1x16384x8x64, .f32⟩
  | .hbm, ⟨33, _⟩ => ⟨S_, .i32⟩
  | .hbm, ⟨34, _⟩ => ⟨S_, .f32⟩
  | .hbm, ⟨35, _⟩ => ⟨S1x16384x8x64, .f32⟩
  | .hbm, ⟨36, _⟩ => ⟨S1x128x128x8x64, .f32⟩
  | .hbm, ⟨37, _⟩ => ⟨S1x127x128x8x64, .f32⟩
  | .hbm, ⟨38, _⟩ => ⟨S_, .i32⟩
  | .hbm, ⟨39, _⟩ => ⟨S_, .f32⟩
  | .hbm, ⟨40, _⟩ => ⟨S1x128x128x8x64, .f32⟩
  | .hbm, ⟨41, _⟩ => ⟨S1x128x256x8x64, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S128, .i32⟩
  | .hbm, ⟨53, _⟩ => ⟨S128x1x1, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S128x1x1, .i32⟩
  | .hbm, ⟨63, _⟩ => ⟨S128x1x1, .i32⟩
  | .hbm, ⟨64, _⟩ => ⟨S_, .i32⟩
  | .hbm, ⟨65, _⟩ => ⟨S128x1x1, .i32⟩
  | .hbm, ⟨66, _⟩ => ⟨S128x1x1, .i32⟩
  | .hbm, ⟨67, _⟩ => ⟨S1x1x256, .i32⟩
  | .hbm, ⟨68, _⟩ => ⟨S128x1x256, .i32⟩
  | .hbm, ⟨69, _⟩ => ⟨S128x1x256, .i32⟩
  | .hbm, ⟨70, _⟩ => ⟨S128x1x256, .i32⟩
  | .hbm, ⟨71, _⟩ => ⟨S_, .i32⟩
  | .hbm, ⟨72, _⟩ => ⟨S128x1x256, .i32⟩
  | .hbm, ⟨73, _⟩ => ⟨S128x1x256, .i1⟩
  | .hbm, ⟨74, _⟩ => ⟨S1x128x256, .i1⟩
  | .hbm, ⟨75, _⟩ => ⟨S128x128x256, .i1⟩
  | .hbm, ⟨76, _⟩ => ⟨S128x128x256, .i1⟩
  | .hbm, ⟨77, _⟩ => ⟨S128x128x256, .i1⟩
  | .hbm, ⟨78, _⟩ => ⟨S1x128x8x128x256, .f32⟩
  | .hbm, ⟨79, _⟩ => ⟨S_, .f32⟩
  | .hbm, ⟨80, _⟩ => ⟨S1x128x8x128x256, .f32⟩
  | .hbm, ⟨81, _⟩ => ⟨S1x128x8x128x256, .f32⟩
  | .hbm, ⟨82, _⟩ => ⟨S1x1x8x128x256, .f32⟩
  | .hbm, ⟨83, _⟩ => ⟨S1x128x8x128x256, .f32⟩
  | .hbm, ⟨84, _⟩ => ⟨S1x128x8x128x256, .f32⟩
  | .hbm, ⟨85, _⟩ => ⟨S1x128x1x128x256, .i1⟩
  | .hbm, ⟨86, _⟩ => ⟨S_, .f32⟩
  | .hbm, ⟨87, _⟩ => ⟨S_, .f32⟩
  | .hbm, ⟨88, _⟩ => ⟨S1x128x8x128x256, .i1⟩
  | .hbm, ⟨89, _⟩ => ⟨S1x128x8x128x256, .f32⟩
  | .hbm, ⟨90, _⟩ => ⟨S1x128x8x128x256, .f32⟩
  | .hbm, ⟨91, _⟩ => ⟨S_, .f32⟩
  | .hbm, ⟨92, _⟩ => ⟨S1x128x8x128, .f32⟩
  | .hbm, ⟨93, _⟩ => ⟨S1x128x8x128x1, .f32⟩
  | .hbm, ⟨94, _⟩ => ⟨S1x128x8x128x256, .f32⟩
  | .hbm, ⟨95, _⟩ => ⟨S1x128x8x128x256, .f32⟩
  | .hbm, ⟨96, _⟩ => ⟨S1x128x8x128x256, .f32⟩
  | .hbm, ⟨97, _⟩ => ⟨S_, .f32⟩
  | .hbm, ⟨98, _⟩ => ⟨S1x128x8x128, .f32⟩
  | .hbm, ⟨99, _⟩ => ⟨S1x128x8x128x1, .f32⟩
  | .hbm, ⟨100, _⟩ => ⟨S1x128x8x64x128, .f32⟩
  | .hbm, ⟨101, _⟩ => ⟨S1x128x128x8x64, .f32⟩
  | .hbm, ⟨102, _⟩ => ⟨S1x128x128x8x1, .f32⟩
  | .hbm, ⟨103, _⟩ => ⟨S1x128x128x8x64, .f32⟩
  | .hbm, ⟨104, _⟩ => ⟨S1x128x128x8x64, .f32⟩
  | .hbm, ⟨105, _⟩ => ⟨S1x128x8x128x1, .f32⟩
  | .hbm, ⟨106, _⟩ => ⟨S1x128x8x128x1, .f32⟩
  | .hbm, ⟨107, _⟩ => ⟨S1x128x8x128, .f32⟩
  | .hbm, ⟨108, _⟩ => ⟨S1x128x128x8, .f32⟩
  | .hbm, ⟨109, _⟩ => ⟨S1x1x16384x8x64, .f32⟩
  | .hbm, ⟨110, _⟩ => ⟨S1x16384x1x8x64, .f32⟩
  | .hbm, ⟨111, _⟩ => ⟨S1x16384x8x64, .f32⟩
  | .hbm, ⟨112, _⟩ => ⟨S1x1x16384x8, .f32⟩
  | .hbm, ⟨113, _⟩ => ⟨S1x16384x1x8, .f32⟩
  | .hbm, ⟨114, _⟩ => ⟨S1x16384x8, .f32⟩
  | .hbm, ⟨115, _⟩ => ⟨S16384x512, .f32⟩
  | .hbm, ⟨116, _⟩ => ⟨S16384x8, .f32⟩
  | .hbm, ⟨117, _⟩ => ⟨S16384x8x1, .f32⟩
  | .hbm, ⟨118, _⟩ => ⟨S16384x8x64, .f32⟩
  | .hbm, ⟨119, _⟩ => ⟨S16384x512, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call2_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call3_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call4_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== AttnFwd4.lean ====
abbrev S16384x1536 : Shape := ⟨2, ![16384, 1536]⟩
abbrev S8x128x256 : Shape := ⟨3, ![8, 128, 256]⟩
abbrev S4096x4x1536 : Shape := ⟨3, ![4096, 4, 1536]⟩
abbrev S4x4096x1536 : Shape := ⟨3, ![4, 4096, 1536]⟩
abbrev S16384x512 : Shape := ⟨2, ![16384, 512]⟩
abbrev S512x512 : Shape := ⟨2, ![512, 512]⟩
abbrev S128x512 : Shape := ⟨2, ![128, 512]⟩
abbrev S640x512 : Shape := ⟨2, ![640, 512]⟩
abbrev S256x256 : Shape := ⟨2, ![256, 256]⟩
abbrev S128x128 : Shape := ⟨2, ![128, 128]⟩
abbrev S256x128 : Shape := ⟨2, ![256, 128]⟩
abbrev S2x128x256 : Shape := ⟨3, ![2, 128, 256]⟩
abbrev S256 : Shape := ⟨1, ![256]⟩
abbrev S256x1 : Shape := ⟨2, ![256, 1]⟩
abbrev S4x4096x512 : Shape := ⟨3, ![4, 4096, 512]⟩
abbrev S4096x4x512 : Shape := ⟨3, ![4096, 4, 512]⟩

abbrev nBuf : Space → Nat
  | .hbm => 13
  | .vmem => 17
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S4096x4x1536, .bf16⟩
  | .hbm, ⟨3, _⟩ => ⟨S4x4096x1536, .bf16⟩
  | .hbm, ⟨4, _⟩ => ⟨S16384x1536, .bf16⟩
  | .hbm, ⟨5, _⟩ => ⟨S16384x512, .f32⟩
  | .hbm, ⟨6, _⟩ => ⟨S16384x512, .f32⟩
  | .hbm, ⟨7, _⟩ => ⟨S4x4096x512, .f32⟩
  | .hbm, ⟨8, _⟩ => ⟨S4096x4x512, .f32⟩
  | .hbm, ⟨9, _⟩ => ⟨S16384x512, .f32⟩
  | .hbm, ⟨10, _⟩ => ⟨S4x4096x512, .f32⟩
  | .hbm, ⟨11, _⟩ => ⟨S4096x4x512, .f32⟩
  | .hbm, ⟨12, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S640x512, .bf16⟩
  | .local _ .vmem, ⟨16, _⟩ => ⟨S640x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_20 : BitVec 32 := 128#32
  let v44 : BitVec 32 := Scalar.muli arg12 c128_i32_20
  v44
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_20 : BitVec 32 := 128#32
  let v44 : BitVec 32 := Scalar.muli arg12 c128_i32_20
  let v45 : BitVec 32 := v44
  let v46 : Index := Scalar.indexCast v45
  let c0_21 : Index := 0#32
  ![v46.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_22 : BitVec 32 := 128#32
  let v48 : BitVec 32 := Scalar.muli arg12 c128_i32_22
  v48
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_24 : BitVec 32 := 128#32
  let v52 : BitVec 32 := Scalar.muli arg12 c128_i32_24
  v52
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_24 : BitVec 32 := 128#32
  let v52 : BitVec 32 := Scalar.muli arg12 c128_i32_24
  let v53 : BitVec 32 := v52
  let v54 : Index := Scalar.indexCast v53
  let c0_25 : Index := 0#32
  ![v54.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_35 : BitVec 32 := 128#32
  let v87 : BitVec 32 := Scalar.muli arg12 c128_i32_35
  v87
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_37 : BitVec 32 := 128#32
  let v94 : BitVec 32 := Scalar.muli arg12 c128_i32_37
  v94
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_39 : BitVec 32 := 128#32
  let v98 : BitVec 32 := Scalar.muli arg12 c128_i32_39
  v98
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_39 : BitVec 32 := 128#32
  let v98 : BitVec 32 := Scalar.muli arg12 c128_i32_39
  let v99 : BitVec 32 := v98
  let v100 : Index := Scalar.indexCast v99
  let c128_40 : Index := 128#32
  ![v100.toNat, 128]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_41 : BitVec 32 := 128#32
  let v102 : BitVec 32 := Scalar.muli arg12 c128_i32_41
  v102
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_43 : BitVec 32 := 128#32
  let v106 : BitVec 32 := Scalar.muli arg12 c128_i32_43
  v106
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_43 : BitVec 32 := 128#32
  let v106 : BitVec 32 := Scalar.muli arg12 c128_i32_43
  let v107 : BitVec 32 := v106
  let v108 : Index := Scalar.indexCast v107
  let c128_44 : Index := 128#32
  ![v108.toNat, 128]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_54 : BitVec 32 := 128#32
  let v141 : BitVec 32 := Scalar.muli arg12 c128_i32_54
  v141
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_56 : BitVec 32 := 128#32
  let v148 : BitVec 32 := Scalar.muli arg12 c128_i32_56
  v148
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_58 : BitVec 32 := 128#32
  let v152 : BitVec 32 := Scalar.muli arg12 c128_i32_58
  v152
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_58 : BitVec 32 := 128#32
  let v152 : BitVec 32 := Scalar.muli arg12 c128_i32_58
  let v153 : BitVec 32 := v152
  let v154 : Index := Scalar.indexCast v153
  let c256 : Index := 256#32
  ![v154.toNat, 256]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_59 : BitVec 32 := 128#32
  let v156 : BitVec 32 := Scalar.muli arg12 c128_i32_59
  v156
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_61 : BitVec 32 := 128#32
  let v160 : BitVec 32 := Scalar.muli arg12 c128_i32_61
  v160
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_61 : BitVec 32 := 128#32
  let v160 : BitVec 32 := Scalar.muli arg12 c128_i32_61
  let v161 : BitVec 32 := v160
  let v162 : Index := Scalar.indexCast v161
  let c256_62 : Index := 256#32
  ![v162.toNat, 256]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_72 : BitVec 32 := 128#32
  let v195 : BitVec 32 := Scalar.muli arg12 c128_i32_72
  v195
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_74 : BitVec 32 := 128#32
  let v202 : BitVec 32 := Scalar.muli arg12 c128_i32_74
  v202
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_76 : BitVec 32 := 128#32
  let v206 : BitVec 32 := Scalar.muli arg12 c128_i32_76
  v206
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_76 : BitVec 32 := 128#32
  let v206 : BitVec 32 := Scalar.muli arg12 c128_i32_76
  let v207 : BitVec 32 := v206
  let v208 : Index := Scalar.indexCast v207
  let c384 : Index := 384#32
  ![v208.toNat, 384]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_77 : BitVec 32 := 128#32
  let v210 : BitVec 32 := Scalar.muli arg12 c128_i32_77
  v210
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_79 : BitVec 32 := 128#32
  let v214 : BitVec 32 := Scalar.muli arg12 c128_i32_79
  v214
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_79 : BitVec 32 := 128#32
  let v214 : BitVec 32 := Scalar.muli arg12 c128_i32_79
  let v215 : BitVec 32 := v214
  let v216 : Index := Scalar.indexCast v215
  let c384_80 : Index := 384#32
  ![v216.toNat, 384]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_90 : BitVec 32 := 128#32
  let v249 : BitVec 32 := Scalar.muli arg12 c128_i32_90
  v249
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_92 : BitVec 32 := 128#32
  let v256 : BitVec 32 := Scalar.muli arg12 c128_i32_92
  v256
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwd4Ideal.lean ====
abbrev S16384x1536 : Shape := ⟨2, ![16384, 1536]⟩
abbrev S8x128x256 : Shape := ⟨3, ![8, 128, 256]⟩
abbrev S4096x4x1536 : Shape := ⟨3, ![4096, 4, 1536]⟩
abbrev S4x4096x1536 : Shape := ⟨3, ![4, 4096, 1536]⟩
abbrev S16384x512 : Shape := ⟨2, ![16384, 512]⟩
abbrev S512x512 : Shape := ⟨2, ![512, 512]⟩
abbrev S128x512 : Shape := ⟨2, ![128, 512]⟩
abbrev S640x512 : Shape := ⟨2, ![640, 512]⟩
abbrev S256x256 : Shape := ⟨2, ![256, 256]⟩
abbrev S128x128 : Shape := ⟨2, ![128, 128]⟩
abbrev S256x128 : Shape := ⟨2, ![256, 128]⟩
abbrev S2x128x256 : Shape := ⟨3, ![2, 128, 256]⟩
abbrev S256 : Shape := ⟨1, ![256]⟩
abbrev S256x1 : Shape := ⟨2, ![256, 1]⟩
abbrev S4x4096x512 : Shape := ⟨3, ![4, 4096, 512]⟩
abbrev S4096x4x512 : Shape := ⟨3, ![4096, 4, 512]⟩

abbrev nBuf : Space → Nat
  | .hbm => 13
  | .vmem => 17
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S4096x4x1536, .bf16⟩
  | .hbm, ⟨3, _⟩ => ⟨S4x4096x1536, .bf16⟩
  | .hbm, ⟨4, _⟩ => ⟨S16384x1536, .bf16⟩
  | .hbm, ⟨5, _⟩ => ⟨S16384x512, .f32⟩
  | .hbm, ⟨6, _⟩ => ⟨S16384x512, .f32⟩
  | .hbm, ⟨7, _⟩ => ⟨S4x4096x512, .f32⟩
  | .hbm, ⟨8, _⟩ => ⟨S4096x4x512, .f32⟩
  | .hbm, ⟨9, _⟩ => ⟨S16384x512, .f32⟩
  | .hbm, ⟨10, _⟩ => ⟨S4x4096x512, .f32⟩
  | .hbm, ⟨11, _⟩ => ⟨S4096x4x512, .f32⟩
  | .hbm, ⟨12, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S640x512, .bf16⟩
  | .local _ .vmem, ⟨16, _⟩ => ⟨S640x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_20 : BitVec 32 := 128#32
  let v44 : BitVec 32 := Scalar.muli arg12 c128_i32_20
  v44
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_20 : BitVec 32 := 128#32
  let v44 : BitVec 32 := Scalar.muli arg12 c128_i32_20
  let v45 : BitVec 32 := v44
  let v46 : Index := Scalar.indexCast v45
  let c0_21 : Index := 0#32
  ![v46.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_22 : BitVec 32 := 128#32
  let v48 : BitVec 32 := Scalar.muli arg12 c128_i32_22
  v48
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_24 : BitVec 32 := 128#32
  let v52 : BitVec 32 := Scalar.muli arg12 c128_i32_24
  v52
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_24 : BitVec 32 := 128#32
  let v52 : BitVec 32 := Scalar.muli arg12 c128_i32_24
  let v53 : BitVec 32 := v52
  let v54 : Index := Scalar.indexCast v53
  let c0_25 : Index := 0#32
  ![v54.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_35 : BitVec 32 := 128#32
  let v87 : BitVec 32 := Scalar.muli arg12 c128_i32_35
  v87
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_37 : BitVec 32 := 128#32
  let v94 : BitVec 32 := Scalar.muli arg12 c128_i32_37
  v94
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_39 : BitVec 32 := 128#32
  let v98 : BitVec 32 := Scalar.muli arg12 c128_i32_39
  v98
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_39 : BitVec 32 := 128#32
  let v98 : BitVec 32 := Scalar.muli arg12 c128_i32_39
  let v99 : BitVec 32 := v98
  let v100 : Index := Scalar.indexCast v99
  let c128_40 : Index := 128#32
  ![v100.toNat, 128]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_41 : BitVec 32 := 128#32
  let v102 : BitVec 32 := Scalar.muli arg12 c128_i32_41
  v102
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_43 : BitVec 32 := 128#32
  let v106 : BitVec 32 := Scalar.muli arg12 c128_i32_43
  v106
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_43 : BitVec 32 := 128#32
  let v106 : BitVec 32 := Scalar.muli arg12 c128_i32_43
  let v107 : BitVec 32 := v106
  let v108 : Index := Scalar.indexCast v107
  let c128_44 : Index := 128#32
  ![v108.toNat, 128]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_54 : BitVec 32 := 128#32
  let v141 : BitVec 32 := Scalar.muli arg12 c128_i32_54
  v141
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_56 : BitVec 32 := 128#32
  let v148 : BitVec 32 := Scalar.muli arg12 c128_i32_56
  v148
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_58 : BitVec 32 := 128#32
  let v152 : BitVec 32 := Scalar.muli arg12 c128_i32_58
  v152
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_58 : BitVec 32 := 128#32
  let v152 : BitVec 32 := Scalar.muli arg12 c128_i32_58
  let v153 : BitVec 32 := v152
  let v154 : Index := Scalar.indexCast v153
  let c256 : Index := 256#32
  ![v154.toNat, 256]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_59 : BitVec 32 := 128#32
  let v156 : BitVec 32 := Scalar.muli arg12 c128_i32_59
  v156
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_61 : BitVec 32 := 128#32
  let v160 : BitVec 32 := Scalar.muli arg12 c128_i32_61
  v160
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_61 : BitVec 32 := 128#32
  let v160 : BitVec 32 := Scalar.muli arg12 c128_i32_61
  let v161 : BitVec 32 := v160
  let v162 : Index := Scalar.indexCast v161
  let c256_62 : Index := 256#32
  ![v162.toNat, 256]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_72 : BitVec 32 := 128#32
  let v195 : BitVec 32 := Scalar.muli arg12 c128_i32_72
  v195
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_74 : BitVec 32 := 128#32
  let v202 : BitVec 32 := Scalar.muli arg12 c128_i32_74
  v202
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_76 : BitVec 32 := 128#32
  let v206 : BitVec 32 := Scalar.muli arg12 c128_i32_76
  v206
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_76 : BitVec 32 := 128#32
  let v206 : BitVec 32 := Scalar.muli arg12 c128_i32_76
  let v207 : BitVec 32 := v206
  let v208 : Index := Scalar.indexCast v207
  let c384 : Index := 384#32
  ![v208.toNat, 384]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_77 : BitVec 32 := 128#32
  let v210 : BitVec 32 := Scalar.muli arg12 c128_i32_77
  v210
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_79 : BitVec 32 := 128#32
  let v214 : BitVec 32 := Scalar.muli arg12 c128_i32_79
  v214
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_79 : BitVec 32 := 128#32
  let v214 : BitVec 32 := Scalar.muli arg12 c128_i32_79
  let v215 : BitVec 32 := v214
  let v216 : Index := Scalar.indexCast v215
  let c384_80 : Index := 384#32
  ![v216.toNat, 384]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_90 : BitVec 32 := 128#32
  let v249 : BitVec 32 := Scalar.muli arg12 c128_i32_90
  v249
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_92 : BitVec 32 := 128#32
  let v256 : BitVec 32 := Scalar.muli arg12 c128_i32_92
  v256
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwd4RefIdeal.lean ====
abbrev S16384x1536 : Shape := ⟨2, ![16384, 1536]⟩
abbrev S8x128x256 : Shape := ⟨3, ![8, 128, 256]⟩
abbrev S16384x512 : Shape := ⟨2, ![16384, 512]⟩
abbrev S1x16384x8x64 : Shape := ⟨4, ![1, 16384, 8, 64]⟩
abbrev S1x4096x4x8x64 : Shape := ⟨5, ![1, 4096, 4, 8, 64]⟩
abbrev S1x4x4096x8x64 : Shape := ⟨5, ![1, 4, 4096, 8, 64]⟩
abbrev S4x4096x8x64 : Shape := ⟨4, ![4, 4096, 8, 64]⟩
abbrev S_ : Shape := ⟨0, ![]⟩
abbrev S4x32x128x8x64 : Shape := ⟨5, ![4, 32, 128, 8, 64]⟩
abbrev S4x31x128x8x64 : Shape := ⟨5, ![4, 31, 128, 8, 64]⟩
abbrev S4x32x256x8x64 : Shape := ⟨5, ![4, 32, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x32x8x128x256 : Shape := ⟨5, ![4, 32, 8, 128, 256]⟩
abbrev S1x1x8x128x256 : Shape := ⟨5, ![1, 1, 8, 128, 256]⟩
abbrev S1x32x1x128x256 : Shape := ⟨5, ![1, 32, 1, 128, 256]⟩
abbrev S4x32x8x128 : Shape := ⟨4, ![4, 32, 8, 128]⟩
abbrev S4x32x8x128x1 : Shape := ⟨5, ![4, 32, 8, 128, 1]⟩
abbrev S4x32x8x64x128 : Shape := ⟨5, ![4, 32, 8, 64, 128]⟩
abbrev S4x32x128x8x1 : Shape := ⟨5, ![4, 32, 128, 8, 1]⟩
abbrev S4x32x128x8 : Shape := ⟨4, ![4, 32, 128, 8]⟩
abbrev S1x4x4096x8 : Shape := ⟨4, ![1, 4, 4096, 8]⟩
abbrev S1x4096x4x8 : Shape := ⟨4, ![1, 4096, 4, 8]⟩
abbrev S1x16384x8 : Shape := ⟨3, ![1, 16384, 8]⟩
abbrev S16384x8 : Shape := ⟨2, ![16384, 8]⟩
abbrev S16384x8x1 : Shape := ⟨3, ![16384, 8, 1]⟩
abbrev S16384x8x64 : Shape := ⟨3, ![16384, 8, 64]⟩

abbrev nBuf : Space → Nat
  | .hbm => 120
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S16384x512, .bf16⟩
  | .hbm, ⟨3, _⟩ => ⟨S16384x512, .f32⟩
  | .hbm, ⟨4, _⟩ => ⟨S1x16384x8x64, .f32⟩
  | .hbm, ⟨5, _⟩ => ⟨S16384x512, .bf16⟩
  | .hbm, ⟨6, _⟩ => ⟨S16384x512, .f32⟩
  | .hbm, ⟨7, _⟩ => ⟨S1x16384x8x64, .f32⟩
  | .hbm, ⟨8, _⟩ => ⟨S16384x512, .bf16⟩
  | .hbm, ⟨9, _⟩ => ⟨S16384x512, .f32⟩
  | .hbm, ⟨10, _⟩ => ⟨S1x16384x8x64, .f32⟩
  | .hbm, ⟨11, _⟩ => ⟨S1x4096x4x8x64, .f32⟩
  | .hbm, ⟨12, _⟩ => ⟨S1x4x4096x8x64, .f32⟩
  | .hbm, ⟨13, _⟩ => ⟨S4x4096x8x64, .f32⟩
  | .hbm, ⟨14, _⟩ => ⟨S_, .i32⟩
  | .hbm, ⟨15, _⟩ => ⟨S_, .f32⟩
  | .hbm, ⟨16, _⟩ => ⟨S4x4096x8x64, .f32⟩
  | .hbm, ⟨17, _⟩ => ⟨S4x32x128x8x64, .f32⟩
  | .hbm, ⟨18, _⟩ => ⟨S1x4096x4x8x64, .f32⟩
  | .hbm, ⟨19, _⟩ => ⟨S1x4x4096x8x64, .f32⟩
  | .hbm, ⟨20, _⟩ => ⟨S4x4096x8x64, .f32⟩
  | .hbm, ⟨21, _⟩ => ⟨S_, .i32⟩
  | .hbm, ⟨22, _⟩ => ⟨S_, .f32⟩
  | .hbm, ⟨23, _⟩ => ⟨S4x4096x8x64, .f32⟩
  | .hbm, ⟨24, _⟩ => ⟨S4x32x128x8x64, .f32⟩
  | .hbm, ⟨25, _⟩ => ⟨S4x31x128x8x64, .f32⟩
  | .hbm, ⟨26, _⟩ => ⟨S_, .i32⟩
  | .hbm, ⟨27, _⟩ => ⟨S_, .f32⟩
  | .hbm, ⟨28, _⟩ => ⟨S4x32x128x8x64, .f32⟩
  | .hbm, ⟨29, _⟩ => ⟨S4x32x256x8x64, .f32⟩
  | .hbm, ⟨30, _⟩ => ⟨S1x4096x4x8x64, .f32⟩
  | .hbm, ⟨31, _⟩ => ⟨S1x4x4096x8x64, .f32⟩
  | .hbm, ⟨32, _⟩ => ⟨S4x4096x8x64, .f32⟩
  | .hbm, ⟨33, _⟩ => ⟨S_, .i32⟩
  | .hbm, ⟨34, _⟩ => ⟨S_, .f32⟩
  | .hbm, ⟨35, _⟩ => ⟨S4x4096x8x64, .f32⟩
  | .hbm, ⟨36, _⟩ => ⟨S4x32x128x8x64, .f32⟩
  | .hbm, ⟨37, _⟩ => ⟨S4x31x128x8x64, .f32⟩
  | .hbm, ⟨38, _⟩ => ⟨S_, .i32⟩
  | .hbm, ⟨39, _⟩ => ⟨S_, .f32⟩
  | .hbm, ⟨40, _⟩ => ⟨S4x32x128x8x64, .f32⟩
  | .hbm, ⟨41, _⟩ => ⟨S4x32x256x8x64, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S32, .i32⟩
  | .hbm, ⟨53, _⟩ => ⟨S32x1x1, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S32x1x1, .i32⟩
  | .hbm, ⟨63, _⟩ => ⟨S32x1x1, .i32⟩
  | .hbm, ⟨64, _⟩ => ⟨S_, .i32⟩
  | .hbm, ⟨65, _⟩ => ⟨S32x1x1, .i32⟩
  | .hbm, ⟨66, _⟩ => ⟨S32x1x1, .i32⟩
  | .hbm, ⟨67, _⟩ => ⟨S1x1x256, .i32⟩
  | .hbm, ⟨68, _⟩ => ⟨S32x1x256, .i32⟩
  | .hbm, ⟨69, _⟩ => ⟨S32x1x256, .i32⟩
  | .hbm, ⟨70, _⟩ => ⟨S32x1x256, .i32⟩
  | .hbm, ⟨71, _⟩ => ⟨S_, .i32⟩
  | .hbm, ⟨72, _⟩ => ⟨S32x1x256, .i32⟩
  | .hbm, ⟨73, _⟩ => ⟨S32x1x256, .i1⟩
  | .hbm, ⟨74, _⟩ => ⟨S1x128x256, .i1⟩
  | .hbm, ⟨75, _⟩ => ⟨S32x128x256, .i1⟩
  | .hbm, ⟨76, _⟩ => ⟨S32x128x256, .i1⟩
  | .hbm, ⟨77, _⟩ => ⟨S32x128x256, .i1⟩
  | .hbm, ⟨78, _⟩ => ⟨S4x32x8x128x256, .f32⟩
  | .hbm, ⟨79, _⟩ => ⟨S_, .f32⟩
  | .hbm, ⟨80, _⟩ => ⟨S4x32x8x128x256, .f32⟩
  | .hbm, ⟨81, _⟩ => ⟨S4x32x8x128x256, .f32⟩
  | .hbm, ⟨82, _⟩ => ⟨S1x1x8x128x256, .f32⟩
  | .hbm, ⟨83, _⟩ => ⟨S4x32x8x128x256, .f32⟩
  | .hbm, ⟨84, _⟩ => ⟨S4x32x8x128x256, .f32⟩
  | .hbm, ⟨85, _⟩ => ⟨S1x32x1x128x256, .i1⟩
  | .hbm, ⟨86, _⟩ => ⟨S_, .f32⟩
  | .hbm, ⟨87, _⟩ => ⟨S_, .f32⟩
  | .hbm, ⟨88, _⟩ => ⟨S4x32x8x128x256, .i1⟩
  | .hbm, ⟨89, _⟩ => ⟨S4x32x8x128x256, .f32⟩
  | .hbm, ⟨90, _⟩ => ⟨S4x32x8x128x256, .f32⟩
  | .hbm, ⟨91, _⟩ => ⟨S_, .f32⟩
  | .hbm, ⟨92, _⟩ => ⟨S4x32x8x128, .f32⟩
  | .hbm, ⟨93, _⟩ => ⟨S4x32x8x128x1, .f32⟩
  | .hbm, ⟨94, _⟩ => ⟨S4x32x8x128x256, .f32⟩
  | .hbm, ⟨95, _⟩ => ⟨S4x32x8x128x256, .f32⟩
  | .hbm, ⟨96, _⟩ => ⟨S4x32x8x128x256, .f32⟩
  | .hbm, ⟨97, _⟩ => ⟨S_, .f32⟩
  | .hbm, ⟨98, _⟩ => ⟨S4x32x8x128, .f32⟩
  | .hbm, ⟨99, _⟩ => ⟨S4x32x8x128x1, .f32⟩
  | .hbm, ⟨100, _⟩ => ⟨S4x32x8x64x128, .f32⟩
  | .hbm, ⟨101, _⟩ => ⟨S4x32x128x8x64, .f32⟩
  | .hbm, ⟨102, _⟩ => ⟨S4x32x128x8x1, .f32⟩
  | .hbm, ⟨103, _⟩ => ⟨S4x32x128x8x64, .f32⟩
  | .hbm, ⟨104, _⟩ => ⟨S4x32x128x8x64, .f32⟩
  | .hbm, ⟨105, _⟩ => ⟨S4x32x8x128x1, .f32⟩
  | .hbm, ⟨106, _⟩ => ⟨S4x32x8x128x1, .f32⟩
  | .hbm, ⟨107, _⟩ => ⟨S4x32x8x128, .f32⟩
  | .hbm, ⟨108, _⟩ => ⟨S4x32x128x8, .f32⟩
  | .hbm, ⟨109, _⟩ => ⟨S1x4x4096x8x64, .f32⟩
  | .hbm, ⟨110, _⟩ => ⟨S1x4096x4x8x64, .f32⟩
  | .hbm, ⟨111, _⟩ => ⟨S1x16384x8x64, .f32⟩
  | .hbm, ⟨112, _⟩ => ⟨S1x4x4096x8, .f32⟩
  | .hbm, ⟨113, _⟩ => ⟨S1x4096x4x8, .f32⟩
  | .hbm, ⟨114, _⟩ => ⟨S1x16384x8, .f32⟩
  | .hbm, ⟨115, _⟩ => ⟨S16384x512, .f32⟩
  | .hbm, ⟨116, _⟩ => ⟨S16384x8, .f32⟩
  | .hbm, ⟨117, _⟩ => ⟨S16384x8x1, .f32⟩
  | .hbm, ⟨118, _⟩ => ⟨S16384x8x64, .f32⟩
  | .hbm, ⟨119, _⟩ => ⟨S16384x512, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call2_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call3_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call4_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== AttnFwd16.lean ====
abbrev S16384x1536 : Shape := ⟨2, ![16384, 1536]⟩
abbrev S8x128x256 : Shape := ⟨3, ![8, 128, 256]⟩
abbrev S1024x16x1536 : Shape := ⟨3, ![1024, 16, 1536]⟩
abbrev S16x1024x1536 : Shape := ⟨3, ![16, 1024, 1536]⟩
abbrev S16384x512 : Shape := ⟨2, ![16384, 512]⟩
abbrev S512x512 : Shape := ⟨2, ![512, 512]⟩
abbrev S128x512 : Shape := ⟨2, ![128, 512]⟩
abbrev S640x512 : Shape := ⟨2, ![640, 512]⟩
abbrev S256x256 : Shape := ⟨2, ![256, 256]⟩
abbrev S128x128 : Shape := ⟨2, ![128, 128]⟩
abbrev S256x128 : Shape := ⟨2, ![256, 128]⟩
abbrev S2x128x256 : Shape := ⟨3, ![2, 128, 256]⟩
abbrev S256 : Shape := ⟨1, ![256]⟩
abbrev S256x1 : Shape := ⟨2, ![256, 1]⟩
abbrev S16x1024x512 : Shape := ⟨3, ![16, 1024, 512]⟩
abbrev S1024x16x512 : Shape := ⟨3, ![1024, 16, 512]⟩

abbrev nBuf : Space → Nat
  | .hbm => 13
  | .vmem => 17
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S1024x16x1536, .bf16⟩
  | .hbm, ⟨3, _⟩ => ⟨S16x1024x1536, .bf16⟩
  | .hbm, ⟨4, _⟩ => ⟨S16384x1536, .bf16⟩
  | .hbm, ⟨5, _⟩ => ⟨S16384x512, .f32⟩
  | .hbm, ⟨6, _⟩ => ⟨S16384x512, .f32⟩
  | .hbm, ⟨7, _⟩ => ⟨S16x1024x512, .f32⟩
  | .hbm, ⟨8, _⟩ => ⟨S1024x16x512, .f32⟩
  | .hbm, ⟨9, _⟩ => ⟨S16384x512, .f32⟩
  | .hbm, ⟨10, _⟩ => ⟨S16x1024x512, .f32⟩
  | .hbm, ⟨11, _⟩ => ⟨S1024x16x512, .f32⟩
  | .hbm, ⟨12, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S640x512, .bf16⟩
  | .local _ .vmem, ⟨16, _⟩ => ⟨S640x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_20 : BitVec 32 := 128#32
  let v44 : BitVec 32 := Scalar.muli arg12 c128_i32_20
  v44
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_20 : BitVec 32 := 128#32
  let v44 : BitVec 32 := Scalar.muli arg12 c128_i32_20
  let v45 : BitVec 32 := v44
  let v46 : Index := Scalar.indexCast v45
  let c0_21 : Index := 0#32
  ![v46.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_22 : BitVec 32 := 128#32
  let v48 : BitVec 32 := Scalar.muli arg12 c128_i32_22
  v48
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_24 : BitVec 32 := 128#32
  let v52 : BitVec 32 := Scalar.muli arg12 c128_i32_24
  v52
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_24 : BitVec 32 := 128#32
  let v52 : BitVec 32 := Scalar.muli arg12 c128_i32_24
  let v53 : BitVec 32 := v52
  let v54 : Index := Scalar.indexCast v53
  let c0_25 : Index := 0#32
  ![v54.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_35 : BitVec 32 := 128#32
  let v87 : BitVec 32 := Scalar.muli arg12 c128_i32_35
  v87
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_37 : BitVec 32 := 128#32
  let v94 : BitVec 32 := Scalar.muli arg12 c128_i32_37
  v94
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_39 : BitVec 32 := 128#32
  let v98 : BitVec 32 := Scalar.muli arg12 c128_i32_39
  v98
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_39 : BitVec 32 := 128#32
  let v98 : BitVec 32 := Scalar.muli arg12 c128_i32_39
  let v99 : BitVec 32 := v98
  let v100 : Index := Scalar.indexCast v99
  let c128_40 : Index := 128#32
  ![v100.toNat, 128]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_41 : BitVec 32 := 128#32
  let v102 : BitVec 32 := Scalar.muli arg12 c128_i32_41
  v102
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_43 : BitVec 32 := 128#32
  let v106 : BitVec 32 := Scalar.muli arg12 c128_i32_43
  v106
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_43 : BitVec 32 := 128#32
  let v106 : BitVec 32 := Scalar.muli arg12 c128_i32_43
  let v107 : BitVec 32 := v106
  let v108 : Index := Scalar.indexCast v107
  let c128_44 : Index := 128#32
  ![v108.toNat, 128]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_54 : BitVec 32 := 128#32
  let v141 : BitVec 32 := Scalar.muli arg12 c128_i32_54
  v141
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_56 : BitVec 32 := 128#32
  let v148 : BitVec 32 := Scalar.muli arg12 c128_i32_56
  v148
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_58 : BitVec 32 := 128#32
  let v152 : BitVec 32 := Scalar.muli arg12 c128_i32_58
  v152
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_58 : BitVec 32 := 128#32
  let v152 : BitVec 32 := Scalar.muli arg12 c128_i32_58
  let v153 : BitVec 32 := v152
  let v154 : Index := Scalar.indexCast v153
  let c256 : Index := 256#32
  ![v154.toNat, 256]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_59 : BitVec 32 := 128#32
  let v156 : BitVec 32 := Scalar.muli arg12 c128_i32_59
  v156
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_61 : BitVec 32 := 128#32
  let v160 : BitVec 32 := Scalar.muli arg12 c128_i32_61
  v160
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_61 : BitVec 32 := 128#32
  let v160 : BitVec 32 := Scalar.muli arg12 c128_i32_61
  let v161 : BitVec 32 := v160
  let v162 : Index := Scalar.indexCast v161
  let c256_62 : Index := 256#32
  ![v162.toNat, 256]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_72 : BitVec 32 := 128#32
  let v195 : BitVec 32 := Scalar.muli arg12 c128_i32_72
  v195
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_74 : BitVec 32 := 128#32
  let v202 : BitVec 32 := Scalar.muli arg12 c128_i32_74
  v202
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_76 : BitVec 32 := 128#32
  let v206 : BitVec 32 := Scalar.muli arg12 c128_i32_76
  v206
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_76 : BitVec 32 := 128#32
  let v206 : BitVec 32 := Scalar.muli arg12 c128_i32_76
  let v207 : BitVec 32 := v206
  let v208 : Index := Scalar.indexCast v207
  let c384 : Index := 384#32
  ![v208.toNat, 384]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_77 : BitVec 32 := 128#32
  let v210 : BitVec 32 := Scalar.muli arg12 c128_i32_77
  v210
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_79 : BitVec 32 := 128#32
  let v214 : BitVec 32 := Scalar.muli arg12 c128_i32_79
  v214
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_79 : BitVec 32 := 128#32
  let v214 : BitVec 32 := Scalar.muli arg12 c128_i32_79
  let v215 : BitVec 32 := v214
  let v216 : Index := Scalar.indexCast v215
  let c384_80 : Index := 384#32
  ![v216.toNat, 384]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_90 : BitVec 32 := 128#32
  let v249 : BitVec 32 := Scalar.muli arg12 c128_i32_90
  v249
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_92 : BitVec 32 := 128#32
  let v256 : BitVec 32 := Scalar.muli arg12 c128_i32_92
  v256
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c2_i32_0 : BitVec 32 := 2#32
  let c0_i32 : BitVec 32 := 0#32
  ![v1.toNat, c2_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwd16RefIdeal.lean ====
abbrev S16384x1536 : Shape := ⟨2, ![16384, 1536]⟩
abbrev S8x128x256 : Shape := ⟨3, ![8, 128, 256]⟩
abbrev S16384x512 : Shape := ⟨2, ![16384, 512]⟩
abbrev S1x16384x8x64 : Shape := ⟨4, ![1, 16384, 8, 64]⟩
abbrev S1x1024x16x8x64 : Shape := ⟨5, ![1, 1024, 16, 8, 64]⟩
abbrev S1x16x1024x8x64 : Shape := ⟨5, ![1, 16, 1024, 8, 64]⟩
abbrev S16x1024x8x64 : Shape := ⟨4, ![16, 1024, 8, 64]⟩
abbrev S_ : Shape := ⟨0, ![]⟩
abbrev S16x8x128x8x64 : Shape := ⟨5, ![16, 8, 128, 8, 64]⟩
abbrev S16x7x128x8x64 : Shape := ⟨5, ![16, 7, 128, 8, 64]⟩
abbrev S16x8x256x8x64 : Shape := ⟨5, ![16, 8, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S16x8x8x128x256 : Shape := ⟨5, ![16, 8, 8, 128, 256]⟩
abbrev S1x1x8x128x256 : Shape := ⟨5, ![1, 1, 8, 128, 256]⟩
abbrev S1x8x1x128x256 : Shape := ⟨5, ![1, 8, 1, 128, 256]⟩
abbrev S16x8x8x128 : Shape := ⟨4, ![16, 8, 8, 128]⟩
abbrev S16x8x8x128x1 : Shape := ⟨5, ![16, 8, 8, 128, 1]⟩
abbrev S16x8x8x64x128 : Shape := ⟨5, ![16, 8, 8, 64, 128]⟩
abbrev S16x8x128x8x1 : Shape := ⟨5, ![16, 8, 128, 8, 1]⟩
abbrev S16x8x128x8 : Shape := ⟨4, ![16, 8, 128, 8]⟩
abbrev S1x16x1024x8 : Shape := ⟨4, ![1, 16, 1024, 8]⟩
abbrev S1x1024x16x8 : Shape := ⟨4, ![1, 1024, 16, 8]⟩
abbrev S1x16384x8 : Shape := ⟨3, ![1, 16384, 8]⟩
abbrev S16384x8 : Shape := ⟨2, ![16384, 8]⟩
abbrev S16384x8x1 : Shape := ⟨3, ![16384, 8, 1]⟩
abbrev S16384x8x64 : Shape := ⟨3, ![16384, 8, 64]⟩

abbrev nBuf : Space → Nat
  | .hbm => 120
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S8x128x256, .f32⟩
  | .hbm, ⟨2, _⟩ => ⟨S16384x512, .bf16⟩
  | .hbm, ⟨3, _⟩ => ⟨S16384x512, .f32⟩
  | .hbm, ⟨4, _⟩ => ⟨S1x16384x8x64, .f32⟩
  | .hbm, ⟨5, _⟩ => ⟨S16384x512, .bf16⟩
  | .hbm, ⟨6, _⟩ => ⟨S16384x512, .f32⟩
  | .hbm, ⟨7, _⟩ => ⟨S1x16384x8x64, .f32⟩
  | .hbm, ⟨8, _⟩ => ⟨S16384x512, .bf16⟩
  | .hbm, ⟨9, _⟩ => ⟨S16384x512, .f32⟩
  | .hbm, ⟨10, _⟩ => ⟨S1x16384x8x64, .f32⟩
  | .hbm, ⟨11, _⟩ => ⟨S1x1024x16x8x64, .f32⟩
  | .hbm, ⟨12, _⟩ => ⟨S1x16x1024x8x64, .f32⟩
  | .hbm, ⟨13, _⟩ => ⟨S16x1024x8x64, .f32⟩
  | .hbm, ⟨14, _⟩ => ⟨S_, .i32⟩
  | .hbm, ⟨15, _⟩ => ⟨S_, .f32⟩
  | .hbm, ⟨16, _⟩ => ⟨S16x1024x8x64, .f32⟩
  | .hbm, ⟨17, _⟩ => ⟨S16x8x128x8x64, .f32⟩
  | .hbm, ⟨18, _⟩ => ⟨S1x1024x16x8x64, .f32⟩
  | .hbm, ⟨19, _⟩ => ⟨S1x16x1024x8x64, .f32⟩
  | .hbm, ⟨20, _⟩ => ⟨S16x1024x8x64, .f32⟩
  | .hbm, ⟨21, _⟩ => ⟨S_, .i32⟩
  | .hbm, ⟨22, _⟩ => ⟨S_, .f32⟩
  | .hbm, ⟨23, _⟩ => ⟨S16x1024x8x64, .f32⟩
  | .hbm, ⟨24, _⟩ => ⟨S16x8x128x8x64, .f32⟩
  | .hbm, ⟨25, _⟩ => ⟨S16x7x128x8x64, .f32⟩
  | .hbm, ⟨26, _⟩ => ⟨S_, .i32⟩
  | .hbm, ⟨27, _⟩ => ⟨S_, .f32⟩
  | .hbm, ⟨28, _⟩ => ⟨S16x8x128x8x64, .f32⟩
  | .hbm, ⟨29, _⟩ => ⟨S16x8x256x8x64, .f32⟩
  | .hbm, ⟨30, _⟩ => ⟨S1x1024x16x8x64, .f32⟩
  | .hbm, ⟨31, _⟩ => ⟨S1x16x1024x8x64, .f32⟩
  | .hbm, ⟨32, _⟩ => ⟨S16x1024x8x64, .f32⟩
  | .hbm, ⟨33, _⟩ => ⟨S_, .i32⟩
  | .hbm, ⟨34, _⟩ => ⟨S_, .f32⟩
  | .hbm, ⟨35, _⟩ => ⟨S16x1024x8x64, .f32⟩
  | .hbm, ⟨36, _⟩ => ⟨S16x8x128x8x64, .f32⟩
  | .hbm, ⟨37, _⟩ => ⟨S16x7x128x8x64, .f32⟩
  | .hbm, ⟨38, _⟩ => ⟨S_, .i32⟩
  | .hbm, ⟨39, _⟩ => ⟨S_, .f32⟩
  | .hbm, ⟨40, _⟩ => ⟨S16x8x128x8x64, .f32⟩
  | .hbm, ⟨41, _⟩ => ⟨S16x8x256x8x64, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S8, .i32⟩
  | .hbm, ⟨53, _⟩ => ⟨S8x1x1, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S8x1x1, .i32⟩
  | .hbm, ⟨63, _⟩ => ⟨S8x1x1, .i32⟩
  | .hbm, ⟨64, _⟩ => ⟨S_, .i32⟩
  | .hbm, ⟨65, _⟩ => ⟨S8x1x1, .i32⟩
  | .hbm, ⟨66, _⟩ => ⟨S8x1x1, .i32⟩
  | .hbm, ⟨67, _⟩ => ⟨S1x1x256, .i32⟩
  | .hbm, ⟨68, _⟩ => ⟨S8x1x256, .i32⟩
  | .hbm, ⟨69, _⟩ => ⟨S8x1x256, .i32⟩
  | .hbm, ⟨70, _⟩ => ⟨S8x1x256, .i32⟩
  | .hbm, ⟨71, _⟩ => ⟨S_, .i32⟩
  | .hbm, ⟨72, _⟩ => ⟨S8x1x256, .i32⟩
  | .hbm, ⟨73, _⟩ => ⟨S8x1x256, .i1⟩
  | .hbm, ⟨74, _⟩ => ⟨S1x128x256, .i1⟩
  | .hbm, ⟨75, _⟩ => ⟨S8x128x256, .i1⟩
  | .hbm, ⟨76, _⟩ => ⟨S8x128x256, .i1⟩
  | .hbm, ⟨77, _⟩ => ⟨S8x128x256, .i1⟩
  | .hbm, ⟨78, _⟩ => ⟨S16x8x8x128x256, .f32⟩
  | .hbm, ⟨79, _⟩ => ⟨S_, .f32⟩
  | .hbm, ⟨80, _⟩ => ⟨S16x8x8x128x256, .f32⟩
  | .hbm, ⟨81, _⟩ => ⟨S16x8x8x128x256, .f32⟩
  | .hbm, ⟨82, _⟩ => ⟨S1x1x8x128x256, .f32⟩
  | .hbm, ⟨83, _⟩ => ⟨S16x8x8x128x256, .f32⟩
  | .hbm, ⟨84, _⟩ => ⟨S16x8x8x128x256, .f32⟩
  | .hbm, ⟨85, _⟩ => ⟨S1x8x1x128x256, .i1⟩
  | .hbm, ⟨86, _⟩ => ⟨S_, .f32⟩
  | .hbm, ⟨87, _⟩ => ⟨S_, .f32⟩
  | .hbm, ⟨88, _⟩ => ⟨S16x8x8x128x256, .i1⟩
  | .hbm, ⟨89, _⟩ => ⟨S16x8x8x128x256, .f32⟩
  | .hbm, ⟨90, _⟩ => ⟨S16x8x8x128x256, .f32⟩
  | .hbm, ⟨91, _⟩ => ⟨S_, .f32⟩
  | .hbm, ⟨92, _⟩ => ⟨S16x8x8x128, .f32⟩
  | .hbm, ⟨93, _⟩ => ⟨S16x8x8x128x1, .f32⟩
  | .hbm, ⟨94, _⟩ => ⟨S16x8x8x128x256, .f32⟩
  | .hbm, ⟨95, _⟩ => ⟨S16x8x8x128x256, .f32⟩
  | .hbm, ⟨96, _⟩ => ⟨S16x8x8x128x256, .f32⟩
  | .hbm, ⟨97, _⟩ => ⟨S_, .f32⟩
  | .hbm, ⟨98, _⟩ => ⟨S16x8x8x128, .f32⟩
  | .hbm, ⟨99, _⟩ => ⟨S16x8x8x128x1, .f32⟩
  | .hbm, ⟨100, _⟩ => ⟨S16x8x8x64x128, .f32⟩
  | .hbm, ⟨101, _⟩ => ⟨S16x8x128x8x64, .f32⟩
  | .hbm, ⟨102, _⟩ => ⟨S16x8x128x8x1, .f32⟩
  | .hbm, ⟨103, _⟩ => ⟨S16x8x128x8x64, .f32⟩
  | .hbm, ⟨104, _⟩ => ⟨S16x8x128x8x64, .f32⟩
  | .hbm, ⟨105, _⟩ => ⟨S16x8x8x128x1, .f32⟩
  | .hbm, ⟨106, _⟩ => ⟨S16x8x8x128x1, .f32⟩
  | .hbm, ⟨107, _⟩ => ⟨S16x8x8x128, .f32⟩
  | .hbm, ⟨108, _⟩ => ⟨S16x8x128x8, .f32⟩
  | .hbm, ⟨109, _⟩ => ⟨S1x16x1024x8x64, .f32⟩
  | .hbm, ⟨110, _⟩ => ⟨S1x1024x16x8x64, .f32⟩
  | .hbm, ⟨111, _⟩ => ⟨S1x16384x8x64, .f32⟩
  | .hbm, ⟨112, _⟩ => ⟨S1x16x1024x8, .f32⟩
  | .hbm, ⟨113, _⟩ => ⟨S1x1024x16x8, .f32⟩
  | .hbm, ⟨114, _⟩ => ⟨S1x16384x8, .f32⟩
  | .hbm, ⟨115, _⟩ => ⟨S16384x512, .f32⟩
  | .hbm, ⟨116, _⟩ => ⟨S16384x8, .f32⟩
  | .hbm, ⟨117, _⟩ => ⟨S16384x8x1, .f32⟩
  | .hbm, ⟨118, _⟩ => ⟨S16384x8x64, .f32⟩
  | .hbm, ⟨119, _⟩ => ⟨S16384x512, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call2_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call3_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call4_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== Norm2.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Norm2Ideal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Norm2RefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== LossHead.lean ====
abbrev S16384x1024 : Shape := ⟨2, ![16384, 1024]⟩
abbrev S1024 : Shape := ⟨1, ![1024]⟩
abbrev S1x1024 : Shape := ⟨2, ![1, 1024]⟩
abbrev S32x8x128 : Shape := ⟨3, ![32, 8, 128]⟩
abbrev S512x1024 : Shape := ⟨2, ![512, 1024]⟩
abbrev S1x8x128 : Shape := ⟨3, ![1, 8, 128]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S32x8x128, .f32⟩
  | .hbm, ⟨5, _⟩ => ⟨S16384x1024, .f32⟩
  | .hbm, ⟨6, _⟩ => ⟨S1x1024, .f32⟩
  | .hbm, ⟨7, _⟩ => ⟨S32x1x1, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x8x128, .f32⟩
  | .local _ .vmem, ⟨6, _⟩ => ⟨S1x8x128, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Norm1.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S1x1024, .f32⟩
  | .hbm, ⟨10, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Norm1RefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== SwigluBwd.lean ====
abbrev S16384x5632 : Shape := ⟨2, ![16384, 5632]⟩
abbrev S16384x2816 : Shape := ⟨2, ![16384, 2816]⟩
abbrev S256x5632 : Shape := ⟨2, ![256, 5632]⟩
abbrev S256x2816 : Shape := ⟨2, ![256, 2816]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluBwdRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x5632, .f32⟩
  | .hbm, ⟨27, _⟩ => ⟨S16384x5632, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== GateNormBwd.lean ====
abbrev S16384x2048 : Shape := ⟨2, ![16384, 2048]⟩
abbrev S16384x8704 : Shape := ⟨2, ![16384, 8704]⟩
abbrev S2048 : Shape := ⟨1, ![2048]⟩
abbrev S1x2048 : Shape := ⟨2, ![1, 2048]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x8704, .bf16⟩
  | .hbm, ⟨3, _⟩ => ⟨S2048, .f32⟩
  | .hbm, ⟨4, _⟩ => ⟨S1x2048, .f32⟩
  | .hbm, ⟨5, _⟩ => ⟨S16384x2048, .f32⟩
  | .hbm, ⟨6, _⟩ => ⟨S16384x2048, .bf16⟩
  | .hbm, ⟨7, _⟩ => ⟨S1x2048, .f32⟩
  | .hbm, ⟨8, _⟩ => ⟨S2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GateNormBwdRefIdeal.lean ====
abbrev S16384x2048 : Shape := ⟨2, ![16384, 2048]⟩
abbrev S16384x8704 : Shape := ⟨2, ![16384, 8704]⟩
abbrev S2048 : Shape := ⟨1, ![2048]⟩
abbrev S_ : Shape := ⟨0, ![]⟩
abbrev S16384x4x512 : Shape := ⟨3, ![16384, 4, 512]⟩
abbrev S16384x4 : Shape := ⟨2, ![16384, 4]⟩
abbrev S16384x4x1 : Shape := ⟨3, ![16384, 4, 1]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x8704, .bf16⟩
  | .hbm, ⟨3, _⟩ => ⟨S2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x4x512, .f32⟩
  | .hbm, ⟨21, _⟩ => ⟨S16384x4x512, .f32⟩
  | .hbm, ⟨22, _⟩ => ⟨S_, .f32⟩
  | .hbm, ⟨23, _⟩ => ⟨S16384x4, .f32⟩
  | .hbm, ⟨24, _⟩ => ⟨S16384x4x1, .f32⟩
  | .hbm, ⟨25, _⟩ => ⟨S_, .f32⟩
  | .hbm, ⟨26, _⟩ => ⟨S16384x4x1, .f32⟩
  | .hbm, ⟨27, _⟩ => ⟨S16384x4x1, .f32⟩
  | .hbm, ⟨28, _⟩ => ⟨S_, .f32⟩
  | .hbm, ⟨29, _⟩ => ⟨S16384x4x1, .f32⟩
  | .hbm, ⟨30, _⟩ => ⟨S16384x4x1, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x512, .f32⟩
  | .hbm, ⟨37, _⟩ => ⟨S16384x4x512, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S2048, .f32⟩
  | .hbm, ⟨50, _⟩ => ⟨S16384x4x512, .f32⟩
  | .hbm, ⟨51, _⟩ => ⟨S16384x4x512, .f32⟩
  | .hbm, ⟨52, _⟩ => ⟨S_, .f32⟩
  | .hbm, ⟨53, _⟩ => ⟨S16384x4, .f32⟩
  | .hbm, ⟨54, _⟩ => ⟨S16384x4x1, .f32⟩
  | .hbm, ⟨55, _⟩ => ⟨S16384x4x512, .f32⟩
  | .hbm, ⟨56, _⟩ => ⟨S16384x4x512, .f32⟩
  | .hbm, ⟨57, _⟩ => ⟨S16384x4x1, .f32⟩
  | .hbm, ⟨58, _⟩ => ⟨S_, .f32⟩
  | .hbm, ⟨59, _⟩ => ⟨S16384x4x1, .f32⟩
  | .hbm, ⟨60, _⟩ => ⟨S16384x4x1, .f32⟩
  | .hbm, ⟨61, _⟩ => ⟨S_, .f32⟩
  | .hbm, ⟨62, _⟩ => ⟨S16384x4, .f32⟩
  | .hbm, ⟨63, _⟩ => ⟨S16384x4x512, .f32⟩
  | .hbm, ⟨64, _⟩ => ⟨S16384x4x512, .f32⟩
  | .hbm, ⟨65, _⟩ => ⟨S16384x4x512, .f32⟩
  | .hbm, ⟨66, _⟩ => ⟨S16384x4x512, .f32⟩
  | .hbm, ⟨67, _⟩ => ⟨S16384x4x512, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Swiglu.lean ====
abbrev S16384x5632 : Shape := ⟨2, ![16384, 5632]⟩
abbrev S16384x2816 : Shape := ⟨2, ![16384, 2816]⟩
abbrev S512x1408 : Shape := ⟨2, ![512, 1408]⟩

abbrev nBuf : Space → Nat
  | .hbm => 2
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x5632, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== GateNorm.lean ====
abbrev S16384x2048 : Shape := ⟨2, ![16384, 2048]⟩
abbrev S16384x8704 : Shape := ⟨2, ![16384, 8704]⟩
abbrev S2048 : Shape := ⟨1, ![2048]⟩
abbrev S1x2048 : Shape := ⟨2, ![1, 2048]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x8704, .bf16⟩
  | .hbm, ⟨2, _⟩ => ⟨S2048, .f32⟩
  | .hbm, ⟨3, _⟩ => ⟨S1x2048, .f32⟩
  | .hbm, ⟨4, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateNormRefIdeal.lean ====
abbrev S16384x2048 : Shape := ⟨2, ![16384, 2048]⟩
abbrev S16384x8704 : Shape := ⟨2, ![16384, 8704]⟩
abbrev S2048 : Shape := ⟨1, ![2048]⟩
abbrev S_ : Shape := ⟨0, ![]⟩
abbrev S16384x4x512 : Shape := ⟨3, ![16384, 4, 512]⟩
abbrev S16384x4 : Shape := ⟨2, ![16384, 4]⟩
abbrev S16384x4x1 : Shape := ⟨3, ![16384, 4, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x8704, .bf16⟩
  | .hbm, ⟨2, _⟩ => ⟨S2048, .f32⟩
  | .hbm, ⟨3, _⟩ => ⟨S16384x2048, .bf16⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x4x512, .f32⟩
  | .hbm, ⟨16, _⟩ => ⟨S16384x4x512, .f32⟩
  | .hbm, ⟨17, _⟩ => ⟨S_, .f32⟩
  | .hbm, ⟨18, _⟩ => ⟨S16384x4, .f32⟩
  | .hbm, ⟨19, _⟩ => ⟨S16384x4x1, .f32⟩
  | .hbm, ⟨20, _⟩ => ⟨S_, .f32⟩
  | .hbm, ⟨21, _⟩ => ⟨S16384x4x1, .f32⟩
  | .hbm, ⟨22, _⟩ => ⟨S16384x4x1, .f32⟩
  | .hbm, ⟨23, _⟩ => ⟨S_, .f32⟩
  | .hbm, ⟨24, _⟩ => ⟨S16384x4x1, .f32⟩
  | .hbm, ⟨25, _⟩ => ⟨S16384x4x1, .f32⟩
  | .hbm, ⟨26, _⟩ => ⟨S16384x4x1, .f32⟩
  | .hbm, ⟨27, _⟩ => ⟨S16384x4x512, .f32⟩
  | .hbm, ⟨28, _⟩ => ⟨S16384x4x512, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== MergeFwd.lean ====
abbrev S16384x8704 : Shape := ⟨2, ![16384, 8704]⟩
abbrev S16384x1024 : Shape := ⟨2, ![16384, 1024]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S16384x8704, .bf16⟩
  | .hbm, ⟨1, _⟩ => ⟨S16384x1024, .f32⟩
  | .hbm, ⟨2, _⟩ => ⟨S16384x1024, .f32⟩
  | .hbm, ⟨3, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S16384x8704 : Shape := ⟨2, ![16384, 8704]⟩
abbrev S16384x1024 : Shape := ⟨2, ![16384, 1024]⟩
abbrev S16384x2048 : Shape := ⟨2, ![16384, 2048]⟩
abbrev S_ : Shape := ⟨0, ![]⟩
abbrev S16384x2x1024 : Shape := ⟨3, ![16384, 2, 1024]⟩
abbrev S16384x1x1024 : Shape := ⟨3, ![16384, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S16384x1024, .f32⟩
  | .hbm, ⟨2, _⟩ => ⟨S16384x1024, .f32⟩
  | .hbm, ⟨3, _⟩ => ⟨S16384x2048, .bf16⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2x1024, .f32⟩
  | .hbm, ⟨14, _⟩ => ⟨S16384x1x1024, .f32⟩
  | .hbm, ⟨15, _⟩ => ⟨S16384x1024, .f32⟩
  | .hbm, ⟨16, _⟩ => ⟨S16384x1024, .f32⟩
  | .hbm, ⟨17, _⟩ => ⟨S16384x1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== CombineBwd.lean ====
abbrev S16384x512 : Shape := ⟨2, ![16384, 512]⟩
abbrev S16384x8 : Shape := ⟨2, ![16384, 8]⟩
abbrev S16384x8x1 : Shape := ⟨3, ![16384, 8, 1]⟩
abbrev S16384x8x64 : Shape := ⟨3, ![16384, 8, 64]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 22
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8, .f32⟩
  | .hbm, ⟨5, _⟩ => ⟨S16384x8, .f32⟩
  | .hbm, ⟨6, _⟩ => ⟨S16384x8, .f32⟩
  | .hbm, ⟨7, _⟩ => ⟨S16384x8x1, .f32⟩
  | .hbm, ⟨8, _⟩ => ⟨S16384x8x64, .f32⟩
  | .hbm, ⟨9, _⟩ => ⟨S16384x512, .f32⟩
  | .hbm, ⟨10, _⟩ => ⟨S16384x8x1, .f32⟩
  | .hbm, ⟨11, _⟩ => ⟨S16384x8x64, .f32⟩
  | .hbm, ⟨12, _⟩ => ⟨S16384x512, .f32⟩
  | .hbm, ⟨13, _⟩ => ⟨S16384x8x1, .f32⟩
  | .hbm, ⟨14, _⟩ => ⟨S16384x8x64, .f32⟩
  | .hbm, ⟨15, _⟩ => ⟨S16384x512, .f32⟩
  | .hbm, ⟨16, _⟩ => ⟨S16384x512, .bf16⟩
  | .hbm, ⟨17, _⟩ => ⟨S16384x512, .bf16⟩
  | .hbm, ⟨18, _⟩ => ⟨S16384x512, .bf16⟩
  | .hbm, ⟨19, _⟩ => ⟨S16384x512, .f32⟩
  | .hbm, ⟨20, _⟩ => ⟨S16384x512, .f32⟩
  | .hbm, ⟨21, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== CombineBwdRefIdeal.lean ====
abbrev S16384x512 : Shape := ⟨2, ![16384, 512]⟩
abbrev S16384x8 : Shape := ⟨2, ![16384, 8]⟩
abbrev S16384x1x512 : Shape := ⟨3, ![16384, 1, 512]⟩
abbrev S16384x3x512 : Shape := ⟨3, ![16384, 3, 512]⟩
abbrev S16384x3x8x64 : Shape := ⟨4, ![16384, 3, 8, 64]⟩
abbrev S16384x1x8 : Shape := ⟨3, ![16384, 1, 8]⟩
abbrev S16384x3x8 : Shape := ⟨3, ![16384, 3, 8]⟩
abbrev S_ : Shape := ⟨0, ![]⟩
abbrev S16384x3x8x1 : Shape := ⟨4, ![16384, 3, 8, 1]⟩
abbrev S16384x8x64 : Shape := ⟨3, ![16384, 8, 64]⟩
abbrev S16384x8x1 : Shape := ⟨3, ![16384, 8, 1]⟩

abbrev nBuf : Space → Nat
  | .hbm => 124
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8, .f32⟩
  | .hbm, ⟨5, _⟩ => ⟨S16384x8, .f32⟩
  | .hbm, ⟨6, _⟩ => ⟨S16384x8, .f32⟩
  | .hbm, ⟨7, _⟩ => ⟨S16384x1x512, .f32⟩
  | .hbm, ⟨8, _⟩ => ⟨S16384x1x512, .f32⟩
  | .hbm, ⟨9, _⟩ => ⟨S16384x1x512, .f32⟩
  | .hbm, ⟨10, _⟩ => ⟨S16384x3x512, .f32⟩
  | .hbm, ⟨11, _⟩ => ⟨S16384x3x8x64, .f32⟩
  | .hbm, ⟨12, _⟩ => ⟨S16384x1x8, .f32⟩
  | .hbm, ⟨13, _⟩ => ⟨S16384x1x8, .f32⟩
  | .hbm, ⟨14, _⟩ => ⟨S16384x1x8, .f32⟩
  | .hbm, ⟨15, _⟩ => ⟨S16384x3x8, .f32⟩
  | .hbm, ⟨16, _⟩ => ⟨S_, .f32⟩
  | .hbm, ⟨17, _⟩ => ⟨S16384x8, .f32⟩
  | .hbm, ⟨18, _⟩ => ⟨S16384x1x8, .f32⟩
  | .hbm, ⟨19, _⟩ => ⟨S16384x3x8, .f32⟩
  | .hbm, ⟨20, _⟩ => ⟨S16384x3x8, .i1⟩
  | .hbm, ⟨21, _⟩ => ⟨S16384x3x8, .f32⟩
  | .hbm, ⟨22, _⟩ => ⟨S_, .f32⟩
  | .hbm, ⟨23, _⟩ => ⟨S16384x8, .f32⟩
  | .hbm, ⟨24, _⟩ => ⟨S_, .f32⟩
  | .hbm, ⟨25, _⟩ => ⟨S16384x8, .f32⟩
  | .hbm, ⟨26, _⟩ => ⟨S16384x8, .f32⟩
  | .hbm, ⟨27, _⟩ => ⟨S_, .f32⟩
  | .hbm, ⟨28, _⟩ => ⟨S16384x8, .f32⟩
  | .hbm, ⟨29, _⟩ => ⟨S16384x8, .i1⟩
  | .hbm, ⟨30, _⟩ => ⟨S_, .f32⟩
  | .hbm, ⟨31, _⟩ => ⟨S16384x8, .f32⟩
  | .hbm, ⟨32, _⟩ => ⟨S16384x8, .i1⟩
  | .hbm, ⟨33, _⟩ => ⟨S_, .f32⟩
  | .hbm, ⟨34, _⟩ => ⟨S16384x8, .f32⟩
  | .hbm, ⟨35, _⟩ => ⟨S_, .f32⟩
  | .hbm, ⟨36, _⟩ => ⟨S16384x8, .f32⟩
  | .hbm, ⟨37, _⟩ => ⟨S_, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x1x8, .f32⟩
  | .hbm, ⟨42, _⟩ => ⟨S16384x3x8, .f32⟩
  | .hbm, ⟨43, _⟩ => ⟨S16384x3x8, .f32⟩
  | .hbm, ⟨44, _⟩ => ⟨S16384x3x8, .f32⟩
  | .hbm, ⟨45, _⟩ => ⟨S_, .f32⟩
  | .hbm, ⟨46, _⟩ => ⟨S16384x8, .f32⟩
  | .hbm, ⟨47, _⟩ => ⟨S16384x1x8, .f32⟩
  | .hbm, ⟨48, _⟩ => ⟨S16384x3x8, .f32⟩
  | .hbm, ⟨49, _⟩ => ⟨S16384x3x8, .f32⟩
  | .hbm, ⟨50, _⟩ => ⟨S16384x1x8, .f32⟩
  | .hbm, ⟨51, _⟩ => ⟨S_, .f32⟩
  | .hbm, ⟨52, _⟩ => ⟨S16384x1x8, .f32⟩
  | .hbm, ⟨53, _⟩ => ⟨S16384x1x8, .f32⟩
  | .hbm, ⟨54, _⟩ => ⟨S16384x3x8x1, .f32⟩
  | .hbm, ⟨55, _⟩ => ⟨S16384x3x8x64, .f32⟩
  | .hbm, ⟨56, _⟩ => ⟨S16384x3x8x64, .f32⟩
  | .hbm, ⟨57, _⟩ => ⟨S_, .f32⟩
  | .hbm, ⟨58, _⟩ => ⟨S16384x8x64, .f32⟩
  | .hbm, ⟨59, _⟩ => ⟨S16384x512, .f32⟩
  | .hbm, ⟨60, _⟩ => ⟨S16384x8x64, .f32⟩
  | .hbm, ⟨61, _⟩ => ⟨S16384x3x8x64, .f32⟩
  | .hbm, ⟨62, _⟩ => ⟨S16384x3x8x64, .f32⟩
  | .hbm, ⟨63, _⟩ => ⟨S16384x3x8x64, .f32⟩
  | .hbm, ⟨64, _⟩ => ⟨S16384x3x8x64, .f32⟩
  | .hbm, ⟨65, _⟩ => ⟨S_, .f32⟩
  | .hbm, ⟨66, _⟩ => ⟨S16384x3x8, .f32⟩
  | .hbm, ⟨67, _⟩ => ⟨S16384x3x8x1, .f32⟩
  | .hbm, ⟨68, _⟩ => ⟨S_, .f32⟩
  | .hbm, ⟨69, _⟩ => ⟨S16384x3x8, .f32⟩
  | .hbm, ⟨70, _⟩ => ⟨S16384x3x8, .f32⟩
  | .hbm, ⟨71, _⟩ => ⟨S16384x3x8, .f32⟩
  | .hbm, ⟨72, _⟩ => ⟨S16384x3x8, .f32⟩
  | .hbm, ⟨73, _⟩ => ⟨S_, .f32⟩
  | .hbm, ⟨74, _⟩ => ⟨S16384x8, .f32⟩
  | .hbm, ⟨75, _⟩ => ⟨S16384x1x8, .f32⟩
  | .hbm, ⟨76, _⟩ => ⟨S16384x1x8, .f32⟩
  | .hbm, ⟨77, _⟩ => ⟨S16384x3x8, .f32⟩
  | .hbm, ⟨78, _⟩ => ⟨S16384x3x8, .f32⟩
  | .hbm, ⟨79, _⟩ => ⟨S_, .f32⟩
  | .hbm, ⟨80, _⟩ => ⟨S16384x8, .f32⟩
  | .hbm, ⟨81, _⟩ => ⟨S16384x3x8, .f32⟩
  | .hbm, ⟨82, _⟩ => ⟨S16384x3x8, .f32⟩
  | .hbm, ⟨83, _⟩ => ⟨S16384x3x8, .f32⟩
  | .hbm, ⟨84, _⟩ => ⟨S16384x1x8, .f32⟩
  | .hbm, ⟨85, _⟩ => ⟨S16384x8, .f32⟩
  | .hbm, ⟨86, _⟩ => ⟨S16384x1x8, .f32⟩
  | .hbm, ⟨87, _⟩ => ⟨S16384x8, .f32⟩
  | .hbm, ⟨88, _⟩ => ⟨S16384x1x8, .f32⟩
  | .hbm, ⟨89, _⟩ => ⟨S16384x8, .f32⟩
  | .hbm, ⟨90, _⟩ => ⟨S16384x3x512, .f32⟩
  | .hbm, ⟨91, _⟩ => ⟨S16384x1x512, .f32⟩
  | .hbm, ⟨92, _⟩ => ⟨S16384x512, .f32⟩
  | .hbm, ⟨93, _⟩ => ⟨S16384x1x512, .f32⟩
  | .hbm, ⟨94, _⟩ => ⟨S16384x512, .f32⟩
  | .hbm, ⟨95, _⟩ => ⟨S16384x1x512, .f32⟩
  | .hbm, ⟨96, _⟩ => ⟨S16384x512, .f32⟩
  | .hbm, ⟨97, _⟩ => ⟨S16384x512, .f32⟩
  | .hbm, ⟨98, _⟩ => ⟨S16384x8x64, .f32⟩
  | .hbm, ⟨99, _⟩ => ⟨S_, .f32⟩
  | .hbm, ⟨100, _⟩ => ⟨S16384x8, .f32⟩
  | .hbm, ⟨101, _⟩ => ⟨S16384x512, .f32⟩
  | .hbm, ⟨102, _⟩ => ⟨S16384x8x64, .f32⟩
  | .hbm, ⟨103, _⟩ => ⟨S_, .f32⟩
  | .hbm, ⟨104, _⟩ => ⟨S16384x8, .f32⟩
  | .hbm, ⟨105, _⟩ => ⟨S16384x512, .f32⟩
  | .hbm, ⟨106, _⟩ => ⟨S16384x8x64, .f32⟩
  | .hbm, ⟨107, _⟩ => ⟨S_, .f32⟩
  | .hbm, ⟨108, _⟩ => ⟨S16384x8, .f32⟩
  | .hbm, ⟨109, _⟩ => ⟨S16384x512, .bf16⟩
  | .hbm, ⟨110, _⟩ => ⟨S16384x512, .bf16⟩
  | .hbm, ⟨111, _⟩ => ⟨S16384x512, .bf16⟩
  | .hbm, ⟨112, _⟩ => ⟨S16384x8, .f32⟩
  | .hbm, ⟨113, _⟩ => ⟨S16384x8x1, .f32⟩
  | .hbm, ⟨114, _⟩ => ⟨S16384x8x64, .f32⟩
  | .hbm, ⟨115, _⟩ => ⟨S16384x512, .f32⟩
  | .hbm, ⟨116, _⟩ => ⟨S16384x8, .f32⟩
  | .hbm, ⟨117, _⟩ => ⟨S16384x8x1, .f32⟩
  | .hbm, ⟨118, _⟩ => ⟨S16384x8x64, .f32⟩
  | .hbm, ⟨119, _⟩ => ⟨S16384x512, .f32⟩
  | .hbm, ⟨120, _⟩ => ⟨S16384x8, .f32⟩
  | .hbm, ⟨121, _⟩ => ⟨S16384x8x1, .f32⟩
  | .hbm, ⟨122, _⟩ => ⟨S16384x8x64, .f32⟩
  | .hbm, ⟨123, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_16 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]
-- ==== ConvBwdPre.lean ====
abbrev S16384x8704 : Shape := ⟨2, ![16384, 8704]⟩
abbrev S4x2048 : Shape := ⟨2, ![4, 2048]⟩
abbrev S2048 : Shape := ⟨1, ![2048]⟩
abbrev S16384x2048 : Shape := ⟨2, ![16384, 2048]⟩
abbrev S1x2048 : Shape := ⟨2, ![1, 2048]⟩
abbrev S512x512 : Shape := ⟨2, ![512, 512]⟩
abbrev S16x512 : Shape := ⟨2, ![16, 512]⟩
abbrev S4x512 : Shape := ⟨2, ![4, 512]⟩
abbrev S1x512 : Shape := ⟨2, ![1, 512]⟩
abbrev S528x512 : Shape := ⟨2, ![528, 512]⟩
abbrev S8x512 : Shape := ⟨2, ![8, 512]⟩
abbrev S32x512 : Shape := ⟨2, ![32, 512]⟩
abbrev S4x8x512 : Shape := ⟨3, ![4, 8, 512]⟩
abbrev S512 : Shape := ⟨1, ![512]⟩

abbrev nBuf : Space → Nat
  | .hbm => 9
  | .vmem => 17
  | .smem => 0
  | _ => 0

abbrev bufTy : (tb : Table) → Fin (tcTables nBuf tb) → BufTy
  | .hbm, ⟨0, _⟩ => ⟨S16384x8704, .bf16⟩
  | .hbm, ⟨1, _⟩ => ⟨S4x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S4x2048, .f32⟩
  | .hbm, ⟨7, _⟩ => ⟨S1x2048, .f32⟩
  | .hbm, ⟨8, _⟩ => ⟨S2048, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | .local _ .vmem, ⟨16, _⟩ => ⟨S528x512, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvBwdPreRefIdeal.lean ====
abbrev S16384x8704 : Shape := ⟨2, ![16384, 8704]⟩
abbrev S4x2048 : Shape := ⟨2, ![4, 2048]⟩
abbrev S2048 : Shape := ⟨1, ![2048]⟩
abbrev S16384x2048 : Shape := ⟨2, ![16384, 2048]⟩
abbrev S_ : Shape := ⟨0, ![]⟩
abbrev S3x2048 : Shape := ⟨2, ![3, 2048]⟩
abbrev S16387x2048 : Shape := ⟨2, ![16387, 2048]⟩
abbrev S1x2048 : Shape := ⟨2, ![1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S4x2048, .f32⟩
  | .hbm, ⟨2, _⟩ => ⟨S2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S_, .f32⟩
  | .hbm, ⟨7, _⟩ => ⟨S3x2048, .f32⟩
  | .hbm, ⟨8, _⟩ => ⟨S16387x2048, .f32⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S2048, .f32⟩
  | .hbm, ⟨64, _⟩ => ⟨S16384x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S_, .f32⟩
  | .hbm, ⟨72, _⟩ => ⟨S4x2048, .f32⟩
  | .hbm, ⟨73, _⟩ => ⟨S16384x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S4x2048, .f32⟩
  | .hbm, ⟨82, _⟩ => ⟨S4x2048, .f32⟩
  | .hbm, ⟨83, _⟩ => ⟨S16384x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S_, .f32⟩
  | .hbm, ⟨88, _⟩ => ⟨S2048, .f32⟩
  | .hbm, ⟨89, _⟩ => ⟨S1x2048, .f32⟩
  | .hbm, ⟨90, _⟩ => ⟨S_, .f32⟩
  | .hbm, ⟨91, _⟩ => ⟨S4x2048, .f32⟩
  | .hbm, ⟨92, _⟩ => ⟨S4x2048, .f32⟩
  | .hbm, ⟨93, _⟩ => ⟨S16384x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S_, .f32⟩
  | .hbm, ⟨101, _⟩ => ⟨S4x2048, .f32⟩
  | .hbm, ⟨102, _⟩ => ⟨S4x2048, .f32⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v36_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v36_1 : Ref sig .tc := ⟨.hbm, 53, rfl⟩
abbrev main_v36_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]
-- ==== ConvBwdIn.lean ====
abbrev S16384x2048 : Shape := ⟨2, ![16384, 2048]⟩
abbrev S4x2048 : Shape := ⟨2, ![4, 2048]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩
abbrev S32x512 : Shape := ⟨2, ![32, 512]⟩

abbrev nBuf : Space → Nat
  | .hbm => 3
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .bf16⟩
  | .local _ .vmem, ⟨7, _⟩ => ⟨S512x512, .bf16⟩
  | .local _ .vmem, ⟨8, _⟩ => ⟨S520x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvBwdInRefIdeal.lean ====
abbrev S16384x2048 : Shape := ⟨2, ![16384, 2048]⟩
abbrev S4x2048 : Shape := ⟨2, ![4, 2048]⟩
abbrev S_ : Shape := ⟨0, ![]⟩
abbrev S2048 : Shape := ⟨1, ![2048]⟩
abbrev S3x2048 : Shape := ⟨2, ![3, 2048]⟩
abbrev S16387x2048 : Shape := ⟨2, ![16387, 2048]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S_, .f32⟩
  | .hbm, ⟨3, _⟩ => ⟨S16384x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S3x2048, .f32⟩
  | .hbm, ⟨8, _⟩ => ⟨S16387x2048, .f32⟩
  | .hbm, ⟨9, _⟩ => ⟨S_, .f32⟩
  | .hbm, ⟨10, _⟩ => ⟨S3x2048, .f32⟩
  | .hbm, ⟨11, _⟩ => ⟨S16384x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16387x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16387x2048, .f32⟩
  | .hbm, ⟨54, _⟩ => ⟨S16387x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16387x2048, .f32⟩
  | .hbm, ⟨59, _⟩ => ⟨S16387x2048, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16387x2048, .f32⟩
  | .hbm, ⟨64, _⟩ => ⟨S16387x2048, .f32⟩
  | .hbm, ⟨65, _⟩ => ⟨S3x2048, .f32⟩
  | .hbm, ⟨66, _⟩ => ⟨S16384x2048, .f32⟩
  | .hbm, ⟨67, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== Combine.lean ====
abbrev S16384x512 : Shape := ⟨2, ![16384, 512]⟩
abbrev S16384x8 : Shape := ⟨2, ![16384, 8]⟩
abbrev S16384x8x1 : Shape := ⟨3, ![16384, 8, 1]⟩
abbrev S16384x8x64 : Shape := ⟨3, ![16384, 8, 64]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x8, .f32⟩
  | .hbm, ⟨5, _⟩ => ⟨S16384x8, .f32⟩
  | .hbm, ⟨6, _⟩ => ⟨S16384x8x1, .f32⟩
  | .hbm, ⟨7, _⟩ => ⟨S16384x8x64, .f32⟩
  | .hbm, ⟨8, _⟩ => ⟨S16384x512, .f32⟩
  | .hbm, ⟨9, _⟩ => ⟨S16384x8x1, .f32⟩
  | .hbm, ⟨10, _⟩ => ⟨S16384x8x64, .f32⟩
  | .hbm, ⟨11, _⟩ => ⟨S16384x512, .f32⟩
  | .hbm, ⟨12, _⟩ => ⟨S16384x8x1, .f32⟩
  | .hbm, ⟨13, _⟩ => ⟨S16384x8x64, .f32⟩
  | .hbm, ⟨14, _⟩ => ⟨S16384x512, .f32⟩
  | .hbm, ⟨15, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S16384x512 : Shape := ⟨2, ![16384, 512]⟩
abbrev S16384x8 : Shape := ⟨2, ![16384, 8]⟩
abbrev S16384x1x512 : Shape := ⟨3, ![16384, 1, 512]⟩
abbrev S16384x3x512 : Shape := ⟨3, ![16384, 3, 512]⟩
abbrev S16384x3x8x64 : Shape := ⟨4, ![16384, 3, 8, 64]⟩
abbrev S16384x1x8 : Shape := ⟨3, ![16384, 1, 8]⟩
abbrev S16384x3x8 : Shape := ⟨3, ![16384, 3, 8]⟩
abbrev S_ : Shape := ⟨0, ![]⟩
abbrev S16384x3x8x1 : Shape := ⟨4, ![16384, 3, 8, 1]⟩
abbrev S16384x8x64 : Shape := ⟨3, ![16384, 8, 64]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x8, .f32⟩
  | .hbm, ⟨5, _⟩ => ⟨S16384x8, .f32⟩
  | .hbm, ⟨6, _⟩ => ⟨S16384x1x512, .f32⟩
  | .hbm, ⟨7, _⟩ => ⟨S16384x1x512, .f32⟩
  | .hbm, ⟨8, _⟩ => ⟨S16384x1x512, .f32⟩
  | .hbm, ⟨9, _⟩ => ⟨S16384x3x512, .f32⟩
  | .hbm, ⟨10, _⟩ => ⟨S16384x3x8x64, .f32⟩
  | .hbm, ⟨11, _⟩ => ⟨S16384x1x8, .f32⟩
  | .hbm, ⟨12, _⟩ => ⟨S16384x1x8, .f32⟩
  | .hbm, ⟨13, _⟩ => ⟨S16384x1x8, .f32⟩
  | .hbm, ⟨14, _⟩ => ⟨S16384x3x8, .f32⟩
  | .hbm, ⟨15, _⟩ => ⟨S_, .f32⟩
  | .hbm, ⟨16, _⟩ => ⟨S16384x8, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S16384x1x8, .f32⟩
  | .hbm, ⟨21, _⟩ => ⟨S16384x3x8, .f32⟩
  | .hbm, ⟨22, _⟩ => ⟨S16384x3x8, .f32⟩
  | .hbm, ⟨23, _⟩ => ⟨S16384x3x8, .f32⟩
  | .hbm, ⟨24, _⟩ => ⟨S_, .f32⟩
  | .hbm, ⟨25, _⟩ => ⟨S16384x8, .f32⟩
  | .hbm, ⟨26, _⟩ => ⟨S16384x1x8, .f32⟩
  | .hbm, ⟨27, _⟩ => ⟨S16384x3x8, .f32⟩
  | .hbm, ⟨28, _⟩ => ⟨S16384x3x8, .f32⟩
  | .hbm, ⟨29, _⟩ => ⟨S16384x3x8x1, .f32⟩
  | .hbm, ⟨30, _⟩ => ⟨S16384x3x8x64, .f32⟩
  | .hbm, ⟨31, _⟩ => ⟨S16384x3x8x64, .f32⟩
  | .hbm, ⟨32, _⟩ => ⟨S_, .f32⟩
  | .hbm, ⟨33, _⟩ => ⟨S16384x8x64, .f32⟩
  | .hbm, ⟨34, _⟩ => ⟨S16384x512, .f32⟩
  | .hbm, ⟨35, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Conv.lean ====
abbrev S16384x8704 : Shape := ⟨2, ![16384, 8704]⟩
abbrev S4x3072 : Shape := ⟨2, ![4, 3072]⟩
abbrev S3072 : Shape := ⟨1, ![3072]⟩
abbrev S1x3072 : Shape := ⟨2, ![1, 3072]⟩
abbrev S16384x3072 : Shape := ⟨2, ![16384, 3072]⟩
abbrev S512x512 : Shape := ⟨2, ![512, 512]⟩
abbrev S16x512 : Shape := ⟨2, ![16, 512]⟩
abbrev S4x512 : Shape := ⟨2, ![4, 512]⟩
abbrev S1x512 : Shape := ⟨2, ![1, 512]⟩
abbrev S528x512 : Shape := ⟨2, ![528, 512]⟩
abbrev S32x512 : Shape := ⟨2, ![32, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x8704, .bf16⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S16384x3072, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S528x512, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S16384x8704 : Shape := ⟨2, ![16384, 8704]⟩
abbrev S4x3072 : Shape := ⟨2, ![4, 3072]⟩
abbrev S3072 : Shape := ⟨1, ![3072]⟩
abbrev S16384x3072 : Shape := ⟨2, ![16384, 3072]⟩
abbrev S_ : Shape := ⟨0, ![]⟩
abbrev S3x3072 : Shape := ⟨2, ![3, 3072]⟩
abbrev S16387x3072 : Shape := ⟨2, ![16387, 3072]⟩
abbrev S1x3072 : Shape := ⟨2, ![1, 3072]⟩

abbrev nBuf : Space → Nat
  | .hbm => 51
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S4x3072, .f32⟩
  | .hbm, ⟨2, _⟩ => ⟨S3072, .f32⟩
  | .hbm, ⟨3, _⟩ => ⟨S16384x3072, .bf16⟩
  | .hbm, ⟨4, _⟩ => ⟨S16384x3072, .f32⟩
  | .hbm, ⟨5, _⟩ => ⟨S_, .f32⟩
  | .hbm, ⟨6, _⟩ => ⟨S3x3072, .f32⟩
  | .hbm, ⟨7, _⟩ => ⟨S16387x3072, .f32⟩
  | .hbm, ⟨8, _⟩ => ⟨S16384x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S16384x3072, .f32⟩
  | .hbm, ⟨13, _⟩ => ⟨S16384x3072, .f32⟩
  | .hbm, ⟨14, _⟩ => ⟨S_, .f32⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S16384x3072, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S16384x3072, .f32⟩
  | .hbm, ⟨36, _⟩ => ⟨S16384x3072, .f32⟩
  | .hbm, ⟨37, _⟩ => ⟨S16384x3072, .f32⟩
  | .hbm, ⟨38, _⟩ => ⟨S1x3072, .f32⟩
  | .hbm, ⟨39, _⟩ => ⟨S16384x3072, .f32⟩
  | .hbm, ⟨40, _⟩ => ⟨S16384x3072, .f32⟩
  | .hbm, ⟨41, _⟩ => ⟨S16384x3072, .f32⟩
  | .hbm, ⟨42, _⟩ => ⟨S16384x3072, .f32⟩
  | .hbm, ⟨43, _⟩ => ⟨S_, .f32⟩
  | .hbm, ⟨44, _⟩ => ⟨S16384x3072, .f32⟩
  | .hbm, ⟨45, _⟩ => ⟨S16384x3072, .f32⟩
  | .hbm, ⟨46, _⟩ => ⟨S_, .f32⟩
  | .hbm, ⟨47, _⟩ => ⟨S16384x3072, .f32⟩
  | .hbm, ⟨48, _⟩ => ⟨S16384x3072, .f32⟩
  | .hbm, ⟨49, _⟩ => ⟨S16384x3072, .f32⟩
  | .hbm, ⟨50, _⟩ => ⟨S16384x3072, .bf16⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== AdamwSmall.lean ====
abbrev S40x1024 : Shape := ⟨2, ![40, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S40x1024, .f32⟩
  | .hbm, ⟨5, _⟩ => ⟨S40x1024, .f32⟩
  | .hbm, ⟨6, _⟩ => ⟨S40x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S40x1024 : Shape := ⟨2, ![40, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S_, .f32⟩
  | .hbm, ⟨5, _⟩ => ⟨S40x1024, .f32⟩
  | .hbm, ⟨6, _⟩ => ⟨S40x1024, .f32⟩
  | .hbm, ⟨7, _⟩ => ⟨S_, .f32⟩
  | .hbm, ⟨8, _⟩ => ⟨S40x1024, .f32⟩
  | .hbm, ⟨9, _⟩ => ⟨S40x1024, .f32⟩
  | .hbm, ⟨10, _⟩ => ⟨S40x1024, .f32⟩
  | .hbm, ⟨11, _⟩ => ⟨S_, .f32⟩
  | .hbm, ⟨12, _⟩ => ⟨S40x1024, .f32⟩
  | .hbm, ⟨13, _⟩ => ⟨S40x1024, .f32⟩
  | .hbm, ⟨14, _⟩ => ⟨S40x1024, .f32⟩
  | .hbm, ⟨15, _⟩ => ⟨S_, .f32⟩
  | .hbm, ⟨16, _⟩ => ⟨S40x1024, .f32⟩
  | .hbm, ⟨17, _⟩ => ⟨S40x1024, .f32⟩
  | .hbm, ⟨18, _⟩ => ⟨S40x1024, .f32⟩
  | .hbm, ⟨19, _⟩ => ⟨S_, .f32⟩
  | .hbm, ⟨20, _⟩ => ⟨S40x1024, .f32⟩
  | .hbm, ⟨21, _⟩ => ⟨S40x1024, .f32⟩
  | .hbm, ⟨22, _⟩ => ⟨S_, .f32⟩
  | .hbm, ⟨23, _⟩ => ⟨S40x1024, .f32⟩
  | .hbm, ⟨24, _⟩ => ⟨S40x1024, .f32⟩
  | .hbm, ⟨25, _⟩ => ⟨S40x1024, .f32⟩
  | .hbm, ⟨26, _⟩ => ⟨S_, .f32⟩
  | .hbm, ⟨27, _⟩ => ⟨S40x1024, .f32⟩
  | .hbm, ⟨28, _⟩ => ⟨S40x1024, .f32⟩
  | .hbm, ⟨29, _⟩ => ⟨S40x1024, .f32⟩
  | .hbm, ⟨30, _⟩ => ⟨S_, .f32⟩
  | .hbm, ⟨31, _⟩ => ⟨S40x1024, .f32⟩
  | .hbm, ⟨32, _⟩ => ⟨S40x1024, .f32⟩
  | .hbm, ⟨33, _⟩ => ⟨S40x1024, .f32⟩
  | .hbm, ⟨34, _⟩ => ⟨S_, .f32⟩
  | .hbm, ⟨35, _⟩ => ⟨S40x1024, .f32⟩
  | .hbm, ⟨36, _⟩ => ⟨S40x1024, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWIn.lean ====
abbrev S1 : Shape := ⟨1, ![1]⟩
abbrev S2x1024x2952 : Shape := ⟨3, ![2, 1024, 2952]⟩
abbrev S1024x2952 : Shape := ⟨2, ![1024, 2952]⟩
abbrev S1x64x2952 : Shape := ⟨3, ![1, 64, 2952]⟩
abbrev S64x2952 : Shape := ⟨2, ![64, 2952]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x2952, .f32⟩
  | .hbm, ⟨1, _⟩ => ⟨S1024x2952, .f32⟩
  | .hbm, ⟨2, _⟩ => ⟨S1024x2952, .f32⟩
  | .hbm, ⟨3, _⟩ => ⟨S2x1024x2952, .f32⟩
  | .hbm, ⟨4, _⟩ => ⟨S2x1024x2952, .f32⟩
  | .hbm, ⟨5, _⟩ => ⟨S2x1024x2952, .f32⟩
  | .hbm, ⟨6, _⟩ => ⟨S2x1024x2952, .f32⟩
  | .hbm, ⟨7, _⟩ => ⟨S2x1024x2952, .f32⟩
  | .hbm, ⟨8, _⟩ => ⟨S2x1024x2952, .f32⟩
  | .local _ .vmem, ⟨0, _⟩ => ⟨S1x64x2952, .f32⟩
  | .local _ .vmem, ⟨1, _⟩ => ⟨S1x64x2952, .f32⟩
  | .local _ .vmem, ⟨2, _⟩ => ⟨S64x2952, .f32⟩
  | .local _ .vmem, ⟨3, _⟩ => ⟨S64x2952, .f32⟩
  | .local _ .vmem, ⟨4, _⟩ => ⟨S64x2952, .f32⟩
  | .local _ .vmem, ⟨5, _⟩ => ⟨S64x2952, .f32⟩
  | .local _ .vmem, ⟨6, _⟩ => ⟨S1x64x2952, .f32⟩
  | .local _ .vmem, ⟨7, _⟩ => ⟨S1x64x2952, .f32⟩
  | .local _ .vmem, ⟨8, _⟩ => ⟨S1x64x2952, .f32⟩
  | .local _ .vmem, ⟨9, _⟩ => ⟨S1x64x2952, .f32⟩
  | .local _ .vmem, ⟨10, _⟩ => ⟨S1x64x2952, .f32⟩
  | .local _ .vmem, ⟨11, _⟩ => ⟨S1x64x2952, .f32⟩
  | .local _ .vmem, ⟨12, _⟩ => ⟨S1x64x2952, .f32⟩
  | .local _ .vmem, ⟨13, _⟩ => ⟨S1x64x2952, .f32⟩
  | .local _ .vmem, ⟨14, _⟩ => ⟨S1x64x2952, .f32⟩
  | .local _ .vmem, ⟨15, _⟩ => ⟨S1x64x2952, .f32⟩
  | .local _ .vmem, ⟨16, _⟩ => ⟨S1x64x2952, .f32⟩
  | .local _ .vmem, ⟨17, _⟩ => ⟨S1x64x2952, .f32⟩
  | .local _ .smem, ⟨0, _⟩ => ⟨S1, .i32⟩
  | _, _ => ⟨S2x1024x2952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2952 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2952 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2952 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2952 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2952 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2952 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2952 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2952 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2952 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWInIdeal.lean ====
abbrev S1 : Shape := ⟨1, ![1]⟩
abbrev S2x1024x2952 : Shape := ⟨3, ![2, 1024, 2952]⟩
abbrev S1024x2952 : Shape := ⟨2, ![1024, 2952]⟩
abbrev S1x64x2952 : Shape := ⟨3, ![1, 64, 2952]⟩
abbrev S64x2952 : Shape := ⟨2, ![64, 2952]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x2952, .f32⟩
  | .hbm, ⟨1, _⟩ => ⟨S1024x2952, .f32⟩
  | .hbm, ⟨2, _⟩ => ⟨S1024x2952, .f32⟩
  | .hbm, ⟨3, _⟩ => ⟨S2x1024x2952, .f32⟩
  | .hbm, ⟨4, _⟩ => ⟨S2x1024x2952, .f32⟩
  | .hbm, ⟨5, _⟩ => ⟨S2x1024x2952, .f32⟩
  | .hbm, ⟨6, _⟩ => ⟨S2x1024x2952, .f32⟩
  | .hbm, ⟨7, _⟩ => ⟨S2x1024x2952, .f32⟩
  | .hbm, ⟨8, _⟩ => ⟨S2x1024x2952, .f32⟩
  | .local _ .vmem, ⟨0, _⟩ => ⟨S1x64x2952, .f32⟩
  | .local _ .vmem, ⟨1, _⟩ => ⟨S1x64x2952, .f32⟩
  | .local _ .vmem, ⟨2, _⟩ => ⟨S64x2952, .f32⟩
  | .local _ .vmem, ⟨3, _⟩ => ⟨S64x2952, .f32⟩
  | .local _ .vmem, ⟨4, _⟩ => ⟨S64x2952, .f32⟩
  | .local _ .vmem, ⟨5, _⟩ => ⟨S64x2952, .f32⟩
  | .local _ .vmem, ⟨6, _⟩ => ⟨S1x64x2952, .f32⟩
  | .local _ .vmem, ⟨7, _⟩ => ⟨S1x64x2952, .f32⟩
  | .local _ .vmem, ⟨8, _⟩ => ⟨S1x64x2952, .f32⟩
  | .local _ .vmem, ⟨9, _⟩ => ⟨S1x64x2952, .f32⟩
  | .local _ .vmem, ⟨10, _⟩ => ⟨S1x64x2952, .f32⟩
  | .local _ .vmem, ⟨11, _⟩ => ⟨S1x64x2952, .f32⟩
  | .local _ .vmem, ⟨12, _⟩ => ⟨S1x64x2952, .f32⟩
  | .local _ .vmem, ⟨13, _⟩ => ⟨S1x64x2952, .f32⟩
  | .local _ .vmem, ⟨14, _⟩ => ⟨S1x64x2952, .f32⟩
  | .local _ .vmem, ⟨15, _⟩ => ⟨S1x64x2952, .f32⟩
  | .local _ .vmem, ⟨16, _⟩ => ⟨S1x64x2952, .f32⟩
  | .local _ .vmem, ⟨17, _⟩ => ⟨S1x64x2952, .f32⟩
  | .local _ .smem, ⟨0, _⟩ => ⟨S1, .i32⟩
  | _, _ => ⟨S2x1024x2952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2952 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2952 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2952 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2952 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2952 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2952 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2952 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2952 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2952 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWInRefIdeal.lean ====
abbrev S1 : Shape := ⟨1, ![1]⟩
abbrev S2x1024x2952 : Shape := ⟨3, ![2, 1024, 2952]⟩
abbrev S1024x2952 : Shape := ⟨2, ![1024, 2952]⟩
abbrev S2 : Shape := ⟨1, ![2]⟩
abbrev S_ : Shape := ⟨0, ![]⟩
abbrev S2x1x1 : Shape := ⟨3, ![2, 1, 1]⟩
abbrev S1x1024x2952 : Shape := ⟨3, ![1, 1024, 2952]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x2952, .f32⟩
  | .hbm, ⟨2, _⟩ => ⟨S1024x2952, .f32⟩
  | .hbm, ⟨3, _⟩ => ⟨S1024x2952, .f32⟩
  | .hbm, ⟨4, _⟩ => ⟨S2x1024x2952, .f32⟩
  | .hbm, ⟨5, _⟩ => ⟨S2x1024x2952, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x1024x2952, .f32⟩
  | .hbm, ⟨12, _⟩ => ⟨S1x1024x2952, .f32⟩
  | .hbm, ⟨13, _⟩ => ⟨S2x1024x2952, .i1⟩
  | .hbm, ⟨14, _⟩ => ⟨S2x1024x2952, .f32⟩
  | .hbm, ⟨15, _⟩ => ⟨S2x1024x2952, .f32⟩
  | .hbm, ⟨16, _⟩ => ⟨S2x1024x2952, .f32⟩
  | .hbm, ⟨17, _⟩ => ⟨S_, .f32⟩
  | .hbm, ⟨18, _⟩ => ⟨S2x1024x2952, .f32⟩
  | .hbm, ⟨19, _⟩ => ⟨S2x1024x2952, .f32⟩
  | .hbm, ⟨20, _⟩ => ⟨S_, .f32⟩
  | .hbm, ⟨21, _⟩ => ⟨S2x1024x2952, .f32⟩
  | .hbm, ⟨22, _⟩ => ⟨S2x1024x2952, .f32⟩
  | .hbm, ⟨23, _⟩ => ⟨S2x1024x2952, .f32⟩
  | .hbm, ⟨24, _⟩ => ⟨S_, .f32⟩
  | .hbm, ⟨25, _⟩ => ⟨S2x1024x2952, .f32⟩
  | .hbm, ⟨26, _⟩ => ⟨S2x1024x2952, .f32⟩
  | .hbm, ⟨27, _⟩ => ⟨S2x1024x2952, .f32⟩
  | .hbm, ⟨28, _⟩ => ⟨S_, .f32⟩
  | .hbm, ⟨29, _⟩ => ⟨S2x1024x2952, .f32⟩
  | .hbm, ⟨30, _⟩ => ⟨S2x1024x2952, .f32⟩
  | .hbm, ⟨31, _⟩ => ⟨S2x1024x2952, .f32⟩
  | .hbm, ⟨32, _⟩ => ⟨S_, .f32⟩
  | .hbm, ⟨33, _⟩ => ⟨S2x1024x2952, .f32⟩
  | .hbm, ⟨34, _⟩ => ⟨S2x1024x2952, .f32⟩
  | .hbm, ⟨35, _⟩ => ⟨S_, .f32⟩
  | .hbm, ⟨36, _⟩ => ⟨S2x1024x2952, .f32⟩
  | .hbm, ⟨37, _⟩ => ⟨S2x1024x2952, .f32⟩
  | .hbm, ⟨38, _⟩ => ⟨S2x1024x2952, .f32⟩
  | .hbm, ⟨39, _⟩ => ⟨S_, .f32⟩
  | .hbm, ⟨40, _⟩ => ⟨S2x1024x2952, .f32⟩
  | .hbm, ⟨41, _⟩ => ⟨S2x1024x2952, .f32⟩
  | .hbm, ⟨42, _⟩ => ⟨S2x1024x2952, .f32⟩
  | .hbm, ⟨43, _⟩ => ⟨S_, .f32⟩
  | .hbm, ⟨44, _⟩ => ⟨S2x1024x2952, .f32⟩
  | .hbm, ⟨45, _⟩ => ⟨S2x1024x2952, .f32⟩
  | .hbm, ⟨46, _⟩ => ⟨S2x1024x2952, .f32⟩
  | .hbm, ⟨47, _⟩ => ⟨S_, .f32⟩
  | .hbm, ⟨48, _⟩ => ⟨S2x1024x2952, .f32⟩
  | .hbm, ⟨49, _⟩ => ⟨S2x1024x2952, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== AdamwWAttnBranch.lean ====
abbrev S1 : Shape := ⟨1, ![1]⟩
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .smem, ⟨0, _⟩ => ⟨S1, .i32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWAttnBranchIdeal.lean ====
abbrev S1 : Shape := ⟨1, ![1]⟩
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .smem, ⟨0, _⟩ => ⟨S1, .i32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWAttnBranchRefIdeal.lean ====
abbrev S1 : Shape := ⟨1, ![1]⟩
abbrev S2x512x256 : Shape := ⟨3, ![2, 512, 256]⟩
abbrev S512x256 : Shape := ⟨2, ![512, 256]⟩
abbrev S2 : Shape := ⟨1, ![2]⟩
abbrev S_ : Shape := ⟨0, ![]⟩
abbrev S2x1x1 : Shape := ⟨3, ![2, 1, 1]⟩
abbrev S1x512x256 : Shape := ⟨3, ![1, 512, 256]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x512x256, .f32⟩
  | .hbm, ⟨2, _⟩ => ⟨S512x256, .f32⟩
  | .hbm, ⟨3, _⟩ => ⟨S512x256, .f32⟩
  | .hbm, ⟨4, _⟩ => ⟨S2x512x256, .f32⟩
  | .hbm, ⟨5, _⟩ => ⟨S2x512x256, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x512x256, .f32⟩
  | .hbm, ⟨12, _⟩ => ⟨S1x512x256, .f32⟩
  | .hbm, ⟨13, _⟩ => ⟨S2x512x256, .i1⟩
  | .hbm, ⟨14, _⟩ => ⟨S2x512x256, .f32⟩
  | .hbm, ⟨15, _⟩ => ⟨S2x512x256, .f32⟩
  | .hbm, ⟨16, _⟩ => ⟨S2x512x256, .f32⟩
  | .hbm, ⟨17, _⟩ => ⟨S_, .f32⟩
  | .hbm, ⟨18, _⟩ => ⟨S2x512x256, .f32⟩
  | .hbm, ⟨19, _⟩ => ⟨S2x512x256, .f32⟩
  | .hbm, ⟨20, _⟩ => ⟨S_, .f32⟩
  | .hbm, ⟨21, _⟩ => ⟨S2x512x256, .f32⟩
  | .hbm, ⟨22, _⟩ => ⟨S2x512x256, .f32⟩
  | .hbm, ⟨23, _⟩ => ⟨S2x512x256, .f32⟩
  | .hbm, ⟨24, _⟩ => ⟨S_, .f32⟩
  | .hbm, ⟨25, _⟩ => ⟨S2x512x256, .f32⟩
  | .hbm, ⟨26, _⟩ => ⟨S2x512x256, .f32⟩
  | .hbm, ⟨27, _⟩ => ⟨S2x512x256, .f32⟩
  | .hbm, ⟨28, _⟩ => ⟨S_, .f32⟩
  | .hbm, ⟨29, _⟩ => ⟨S2x512x256, .f32⟩
  | .hbm, ⟨30, _⟩ => ⟨S2x512x256, .f32⟩
  | .hbm, ⟨31, _⟩ => ⟨S2x512x256, .f32⟩
  | .hbm, ⟨32, _⟩ => ⟨S_, .f32⟩
  | .hbm, ⟨33, _⟩ => ⟨S2x512x256, .f32⟩
  | .hbm, ⟨34, _⟩ => ⟨S2x512x256, .f32⟩
  | .hbm, ⟨35, _⟩ => ⟨S_, .f32⟩
  | .hbm, ⟨36, _⟩ => ⟨S2x512x256, .f32⟩
  | .hbm, ⟨37, _⟩ => ⟨S2x512x256, .f32⟩
  | .hbm, ⟨38, _⟩ => ⟨S2x512x256, .f32⟩
  | .hbm, ⟨39, _⟩ => ⟨S_, .f32⟩
  | .hbm, ⟨40, _⟩ => ⟨S2x512x256, .f32⟩
  | .hbm, ⟨41, _⟩ => ⟨S2x512x256, .f32⟩
  | .hbm, ⟨42, _⟩ => ⟨S2x512x256, .f32⟩
  | .hbm, ⟨43, _⟩ => ⟨S_, .f32⟩
  | .hbm, ⟨44, _⟩ => ⟨S2x512x256, .f32⟩
  | .hbm, ⟨45, _⟩ => ⟨S2x512x256, .f32⟩
  | .hbm, ⟨46, _⟩ => ⟨S2x512x256, .f32⟩
  | .hbm, ⟨47, _⟩ => ⟨S_, .f32⟩
  | .hbm, ⟨48, _⟩ => ⟨S2x512x256, .f32⟩
  | .hbm, ⟨49, _⟩ => ⟨S2x512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== AdamwWSsmBranch.lean ====
abbrev S1 : Shape := ⟨1, ![1]⟩
abbrev S2x512x1024 : Shape := ⟨3, ![2, 512, 1024]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWSsmBranchIdeal.lean ====
abbrev S1 : Shape := ⟨1, ![1]⟩
abbrev S2x512x1024 : Shape := ⟨3, ![2, 512, 1024]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWSsmBranchRefIdeal.lean ====
abbrev S1 : Shape := ⟨1, ![1]⟩
abbrev S2x512x1024 : Shape := ⟨3, ![2, 512, 1024]⟩
abbrev S512x1024 : Shape := ⟨2, ![512, 1024]⟩
abbrev S2 : Shape := ⟨1, ![2]⟩
abbrev S_ : Shape := ⟨0, ![]⟩
abbrev S2x1x1 : Shape := ⟨3, ![2, 1, 1]⟩
abbrev S1x512x1024 : Shape := ⟨3, ![1, 512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x512x1024, .f32⟩
  | .hbm, ⟨2, _⟩ => ⟨S512x1024, .f32⟩
  | .hbm, ⟨3, _⟩ => ⟨S512x1024, .f32⟩
  | .hbm, ⟨4, _⟩ => ⟨S2x512x1024, .f32⟩
  | .hbm, ⟨5, _⟩ => ⟨S2x512x1024, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x512x1024, .f32⟩
  | .hbm, ⟨12, _⟩ => ⟨S1x512x1024, .f32⟩
  | .hbm, ⟨13, _⟩ => ⟨S2x512x1024, .i1⟩
  | .hbm, ⟨14, _⟩ => ⟨S2x512x1024, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S_, .f32⟩
  | .hbm, ⟨21, _⟩ => ⟨S2x512x1024, .f32⟩
  | .hbm, ⟨22, _⟩ => ⟨S2x512x1024, .f32⟩
  | .hbm, ⟨23, _⟩ => ⟨S2x512x1024, .f32⟩
  | .hbm, ⟨24, _⟩ => ⟨S_, .f32⟩
  | .hbm, ⟨25, _⟩ => ⟨S2x512x1024, .f32⟩
  | .hbm, ⟨26, _⟩ => ⟨S2x512x1024, .f32⟩
  | .hbm, ⟨27, _⟩ => ⟨S2x512x1024, .f32⟩
  | .hbm, ⟨28, _⟩ => ⟨S_, .f32⟩
  | .hbm, ⟨29, _⟩ => ⟨S2x512x1024, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S_, .f32⟩
  | .hbm, ⟨36, _⟩ => ⟨S2x512x1024, .f32⟩
  | .hbm, ⟨37, _⟩ => ⟨S2x512x1024, .f32⟩
  | .hbm, ⟨38, _⟩ => ⟨S2x512x1024, .f32⟩
  | .hbm, ⟨39, _⟩ => ⟨S_, .f32⟩
  | .hbm, ⟨40, _⟩ => ⟨S2x512x1024, .f32⟩
  | .hbm, ⟨41, _⟩ => ⟨S2x512x1024, .f32⟩
  | .hbm, ⟨42, _⟩ => ⟨S2x512x1024, .f32⟩
  | .hbm, ⟨43, _⟩ => ⟨S_, .f32⟩
  | .hbm, ⟨44, _⟩ => ⟨S2x512x1024, .f32⟩
  | .hbm, ⟨45, _⟩ => ⟨S2x512x1024, .f32⟩
  | .hbm, ⟨46, _⟩ => ⟨S2x512x1024, .f32⟩
  | .hbm, ⟨47, _⟩ => ⟨S_, .f32⟩
  | .hbm, ⟨48, _⟩ => ⟨S2x512x1024, .f32⟩
  | .hbm, ⟨49, _⟩ => ⟨S2x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== AdamwWOut.lean ====
abbrev S1 : Shape := ⟨1, ![1]⟩
abbrev S2x256x1024 : Shape := ⟨3, ![2, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWOutIdeal.lean ====
abbrev S1 : Shape := ⟨1, ![1]⟩
abbrev S2x256x1024 : Shape := ⟨3, ![2, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWOutRefIdeal.lean ====
abbrev S1 : Shape := ⟨1, ![1]⟩
abbrev S2x256x1024 : Shape := ⟨3, ![2, 256, 1024]⟩
abbrev S256x1024 : Shape := ⟨2, ![256, 1024]⟩
abbrev S2 : Shape := ⟨1, ![2]⟩
abbrev S_ : Shape := ⟨0, ![]⟩
abbrev S2x1x1 : Shape := ⟨3, ![2, 1, 1]⟩
abbrev S1x256x1024 : Shape := ⟨3, ![1, 256, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x1024, .f32⟩
  | .hbm, ⟨2, _⟩ => ⟨S256x1024, .f32⟩
  | .hbm, ⟨3, _⟩ => ⟨S256x1024, .f32⟩
  | .hbm, ⟨4, _⟩ => ⟨S2x256x1024, .f32⟩
  | .hbm, ⟨5, _⟩ => ⟨S2x256x1024, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x256x1024, .f32⟩
  | .hbm, ⟨12, _⟩ => ⟨S1x256x1024, .f32⟩
  | .hbm, ⟨13, _⟩ => ⟨S2x256x1024, .i1⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S_, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S_, .f32⟩
  | .hbm, ⟨36, _⟩ => ⟨S2x256x1024, .f32⟩
  | .hbm, ⟨37, _⟩ => ⟨S2x256x1024, .f32⟩
  | .hbm, ⟨38, _⟩ => ⟨S2x256x1024, .f32⟩
  | .hbm, ⟨39, _⟩ => ⟨S_, .f32⟩
  | .hbm, ⟨40, _⟩ => ⟨S2x256x1024, .f32⟩
  | .hbm, ⟨41, _⟩ => ⟨S2x256x1024, .f32⟩
  | .hbm, ⟨42, _⟩ => ⟨S2x256x1024, .f32⟩
  | .hbm, ⟨43, _⟩ => ⟨S_, .f32⟩
  | .hbm, ⟨44, _⟩ => ⟨S2x256x1024, .f32⟩
  | .hbm, ⟨45, _⟩ => ⟨S2x256x1024, .f32⟩
  | .hbm, ⟨46, _⟩ => ⟨S2x256x1024, .f32⟩
  | .hbm, ⟨47, _⟩ => ⟨S_, .f32⟩
  | .hbm, ⟨48, _⟩ => ⟨S2x256x1024, .f32⟩
  | .hbm, ⟨49, _⟩ => ⟨S2x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== AdamwWFfnIn.lean ====
abbrev S1 : Shape := ⟨1, ![1]⟩
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWFfnInIdeal.lean ====
abbrev S1 : Shape := ⟨1, ![1]⟩
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWFfnInRefIdeal.lean ====
abbrev S1 : Shape := ⟨1, ![1]⟩
abbrev S2x1024x1408 : Shape := ⟨3, ![2, 1024, 1408]⟩
abbrev S1024x1408 : Shape := ⟨2, ![1024, 1408]⟩
abbrev S2 : Shape := ⟨1, ![2]⟩
abbrev S_ : Shape := ⟨0, ![]⟩
abbrev S2x1x1 : Shape := ⟨3, ![2, 1, 1]⟩
abbrev S1x1024x1408 : Shape := ⟨3, ![1, 1024, 1408]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x1408, .f32⟩
  | .hbm, ⟨2, _⟩ => ⟨S1024x1408, .f32⟩
  | .hbm, ⟨3, _⟩ => ⟨S1024x1408, .f32⟩
  | .hbm, ⟨4, _⟩ => ⟨S2x1024x1408, .f32⟩
  | .hbm, ⟨5, _⟩ => ⟨S2x1024x1408, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x1024x1408, .f32⟩
  | .hbm, ⟨12, _⟩ => ⟨S1x1024x1408, .f32⟩
  | .hbm, ⟨13, _⟩ => ⟨S2x1024x1408, .i1⟩
  | .hbm, ⟨14, _⟩ => ⟨S2x1024x1408, .f32⟩
  | .hbm, ⟨15, _⟩ => ⟨S2x1024x1408, .f32⟩
  | .hbm, ⟨16, _⟩ => ⟨S2x1024x1408, .f32⟩
  | .hbm, ⟨17, _⟩ => ⟨S_, .f32⟩
  | .hbm, ⟨18, _⟩ => ⟨S2x1024x1408, .f32⟩
  | .hbm, ⟨19, _⟩ => ⟨S2x1024x1408, .f32⟩
  | .hbm, ⟨20, _⟩ => ⟨S_, .f32⟩
  | .hbm, ⟨21, _⟩ => ⟨S2x1024x1408, .f32⟩
  | .hbm, ⟨22, _⟩ => ⟨S2x1024x1408, .f32⟩
  | .hbm, ⟨23, _⟩ => ⟨S2x1024x1408, .f32⟩
  | .hbm, ⟨24, _⟩ => ⟨S_, .f32⟩
  | .hbm, ⟨25, _⟩ => ⟨S2x1024x1408, .f32⟩
  | .hbm, ⟨26, _⟩ => ⟨S2x1024x1408, .f32⟩
  | .hbm, ⟨27, _⟩ => ⟨S2x1024x1408, .f32⟩
  | .hbm, ⟨28, _⟩ => ⟨S_, .f32⟩
  | .hbm, ⟨29, _⟩ => ⟨S2x1024x1408, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S_, .f32⟩
  | .hbm, ⟨36, _⟩ => ⟨S2x1024x1408, .f32⟩
  | .hbm, ⟨37, _⟩ => ⟨S2x1024x1408, .f32⟩
  | .hbm, ⟨38, _⟩ => ⟨S2x1024x1408, .f32⟩
  | .hbm, ⟨39, _⟩ => ⟨S_, .f32⟩
  | .hbm, ⟨40, _⟩ => ⟨S2x1024x1408, .f32⟩
  | .hbm, ⟨41, _⟩ => ⟨S2x1024x1408, .f32⟩
  | .hbm, ⟨42, _⟩ => ⟨S2x1024x1408, .f32⟩
  | .hbm, ⟨43, _⟩ => ⟨S_, .f32⟩
  | .hbm, ⟨44, _⟩ => ⟨S2x1024x1408, .f32⟩
  | .hbm, ⟨45, _⟩ => ⟨S2x1024x1408, .f32⟩
  | .hbm, ⟨46, _⟩ => ⟨S2x1024x1408, .f32⟩
  | .hbm, ⟨47, _⟩ => ⟨S_, .f32⟩
  | .hbm, ⟨48, _⟩ => ⟨S2x1024x1408, .f32⟩
  | .hbm, ⟨49, _⟩ => ⟨S2x1024x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== AdamwWFfnOut.lean ====
abbrev S1 : Shape := ⟨1, ![1]⟩
abbrev S2x704x1024 : Shape := ⟨3, ![2, 704, 1024]⟩
abbrev S704x1024 : Shape := ⟨2, ![704, 1024]⟩
abbrev S1x64x1024 : Shape := ⟨3, ![1, 64, 1024]⟩
abbrev S64x1024 : Shape := ⟨2, ![64, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let v6 : BitVec 32 := Scalar.muli arg1 v5
  let c0_i32 : BitVec 32 := 0#32
  let c0_i32_1 : BitVec 32 := 0#32
  ![v6.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.subi arg0 v0
  let c0_0 : Index := 0#32
  let v2 : BitVec 32 := pf.at 0 (Rect.unit (s := S1) ![0] S1.size inb_S1_S1_0) numel1_S1
  let v3 : BitVec 32 := Scalar.subi arg0 v2
  let v4 : BitVec 32 := Scalar.muli v1 v3
  let c1_i32 : BitVec 32 := 1#32
  let v5 : BitVec 32 := Scalar.subi c1_i32 v4
  let c1_i32_1 : BitVec 32 := 1#32
  let v6 : BitVec 32 := Scalar.subi c1_i32_1 v5
  let v7 : BitVec 32 := Scalar.muli arg1 v6
  let c0_i32 : BitVec 32 := 0#32
  let c0_i32_2 : BitVec 32 := 0#32
  ![v7.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWFfnOutRefIdeal.lean ====
abbrev S1 : Shape := ⟨1, ![1]⟩
abbrev S2x704x1024 : Shape := ⟨3, ![2, 704, 1024]⟩
abbrev S704x1024 : Shape := ⟨2, ![704, 1024]⟩
abbrev S2 : Shape := ⟨1, ![2]⟩
abbrev S_ : Shape := ⟨0, ![]⟩
abbrev S2x1x1 : Shape := ⟨3, ![2, 1, 1]⟩
abbrev S1x704x1024 : Shape := ⟨3, ![1, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x1024, .f32⟩
  | .hbm, ⟨2, _⟩ => ⟨S704x1024, .f32⟩
  | .hbm, ⟨3, _⟩ => ⟨S704x1024, .f32⟩
  | .hbm, ⟨4, _⟩ => ⟨S2x704x1024, .f32⟩
  | .hbm, ⟨5, _⟩ => ⟨S2x704x1024, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x704x1024, .f32⟩
  | .hbm, ⟨12, _⟩ => ⟨S1x704x1024, .f32⟩
  | .hbm, ⟨13, _⟩ => ⟨S2x704x1024, .i1⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S2x704x1024, .f32⟩
  | .hbm, ⟨24, _⟩ => ⟨S_, .f32⟩
  | .hbm, ⟨25, _⟩ => ⟨S2x704x1024, .f32⟩
  | .hbm, ⟨26, _⟩ => ⟨S2x704x1024, .f32⟩
  | .hbm, ⟨27, _⟩ => ⟨S2x704x1024, .f32⟩
  | .hbm, ⟨28, _⟩ => ⟨S_, .f32⟩
  | .hbm, ⟨29, _⟩ => ⟨S2x704x1024, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S_, .f32⟩
  | .hbm, ⟨40, _⟩ => ⟨S2x704x1024, .f32⟩
  | .hbm, ⟨41, _⟩ => ⟨S2x704x1024, .f32⟩
  | .hbm, ⟨42, _⟩ => ⟨S2x704x1024, .f32⟩
  | .hbm, ⟨43, _⟩ => ⟨S_, .f32⟩
  | .hbm, ⟨44, _⟩ => ⟨S2x704x1024, .f32⟩
  | .hbm, ⟨45, _⟩ => ⟨S2x704x1024, .f32⟩
  | .hbm, ⟨46, _⟩ => ⟨S2x704x1024, .f32⟩
  | .hbm, ⟨47, _⟩ => ⟨S_, .f32⟩
  | .hbm, ⟨48, _⟩ => ⟨S2x704x1024, .f32⟩
  | .hbm, ⟨49, _⟩ => ⟨S2x704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.AdamwSmallValue.lean ====
/-
  The AdamW step of the small weights: the three arrays that the call returns are the weights' change and the two
  moments, as the plain lines of the optimiser compute them element by element.
-/
module

public import proofs.«01_k».proof.Proof.Gen.AdamwSmallIdeal.Value
public import proofs.«01_k».proof.Proof.Gen.AdamwSmallRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwSmallIdeal.Final

open Cert.AdamwSmallIdeal Cert.AdamwSmallIdeal.Gen Cert.AdamwSmallRefIdeal.Read

variable (m : (ℓ : Loc nD τ sig) → Buf (Elt Ideal) ℓ)

/-- Every window takes the rows of its point's number. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first moment of a block at an index is the reference's at the array index there. -/
theorem point5 (c : Dev nD) (t : Fin cfg0.N) (y : S8x1024.Idx) :
    k0_pay1 (iblk m c 1 t) (iblk m c 2 t) y
      = val_main_v4 (F := Ideal) (m ((c : Thread nD τ).loc main_arg1)) (m ((c : Thread nD τ).loc main_arg2)) (((cfg0.win 5).blk t).view.emb y) := by
  have ht : t.val < 5 := lt_of_lt_of_eq t.isLt N_0
  obtain_idx j : S40x1024 := [8 * t.val + (y 0).val, (y 1).val] with hj
  have hj' : ((cfg0.win 5).blk t).view.emb y = j := by blk_ext [idx t]
  rw [hj']
  idx_vars j
  pointwise [k0_pay1, val_main_v0, val_main_v1, val_main_v2, val_main_v3, val_main_v4, val_main_cst, val_main_cst_0] at hj0 hj1 ⊢
  blk_point [iblk, V, idx t]

/-- The second moment of a block at an index is the reference's at the array index there. -/
theorem point6 (c : Dev nD) (t : Fin cfg0.N) (y : S8x1024.Idx) :
    k0_pay2 (iblk m c 1 t) (iblk m c 3 t) y
      = val_main_v10 (F := Ideal) (m ((c : Thread nD τ).loc main_arg1)) (m ((c : Thread nD τ).loc main_arg3)) (((cfg0.win 6).blk t).view.emb y) := by
  have ht : t.val < 5 := lt_of_lt_of_eq t.isLt N_0
  obtain_idx j : S40x1024 := [8 * t.val + (y 0).val, (y 1).val] with hj
  have hj' : ((cfg0.win 6).blk t).view.emb y = j := by blk_ext [idx t]
  rw [hj']
  idx_vars j
  pointwise [k0_pay2, val_main_v5, val_main_v6, val_main_v7, val_main_v8, val_main_v9, val_main_v10, val_main_cst_1, val_main_cst_2] at hj0 hj1 ⊢
  blk_point [iblk, V, idx t]

/-- The change of the weights of a block at an index is the reference's at the array index there. -/
theorem point4 (c : Dev nD) (t : Fin cfg0.N) (y : S8x1024.Idx) :
    k0_pay3 (iblk m c 1 t) (iblk m c 2 t) (iblk m c 3 t) (iblk m c 0 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 5 := lt_of_lt_of_eq t.isLt N_0
  obtain_idx j : S40x1024 := [8 * t.val + (y 0).val, (y 1).val] with hj
  have hj' : ((cfg0.win 4).blk t).view.emb y = j := by blk_ext [idx t]
  have e5 : ((cfg0.win 5).blk t).view.emb y = j := by blk_ext [idx t]
  have e6 : ((cfg0.win 6).blk t).view.emb y = j := by blk_ext [idx t]
  have p5 := point5 m c t y
  have p6 := point6 m c t y
  rw [hj']
  rw [e5] at p5
  rw [e6] at p6
  idx_vars j
  pointwise [k0_pay3, val_main_v11, val_main_v12, val_main_v13, val_main_v14, val_main_v15, val_main_v16, val_main_v17, val_main_v18, val_main_v19, val_main_v20, val_main_v21, val_main_v22, val_main_v23, val_main_cst_3, val_main_cst_4, val_main_cst_5, val_main_cst_6, val_main_cst_7] at hj0 hj1 ⊢
  rw [p5, p6]
  blk_point [iblk, V, idx t]

/-- After the run the array holds the change of the weights. -/
theorem final4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

/-- After the run the array holds the first moments. -/
theorem final5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- After the run the array holds the second moments. -/
theorem final6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

end Cert.AdamwSmallIdeal.Final

end
-- ==== Proof.Place.lean ====
/-
  The block index of the two gradients that a matrix' optimiser call is given, as a function of the layer, the row block
  and the word that names the device's core.
-/
module

public import Idealize.ShloMosaic.Lib.Pipeline.ValueKit

@[expose] public section

noncomputable section

open Idealize.ShloMosaic

namespace Cert.Place

/-- The row block of the own gradient: `r` at the layer of the core, 0 at the other. -/
def own (i r : ℕ) (w : BitVec 32) : BitVec 32 :=
  Scalar.muli (BitVec.ofNat 32 r) (Scalar.subi 1#32 (Scalar.muli (Scalar.subi (BitVec.ofNat 32 i) w) (Scalar.subi (BitVec.ofNat 32 i) w)))

/-- The row block of the other gradient: 0 at the layer of the core, `r` at the other. -/
def oth (i r : ℕ) (w : BitVec 32) : BitVec 32 :=
  Scalar.muli (BitVec.ofNat 32 r) (Scalar.subi 1#32 (Scalar.subi 1#32 (Scalar.muli (Scalar.subi (BitVec.ofNat 32 i) w) (Scalar.subi (BitVec.ofNat 32 i) w))))

/-- Both closed forms, for the two values of the word and up to 64 row blocks. -/
theorem closed : ∀ i < 2, ∀ r < 64, (own i r 0#32).toNat = (if i = 0 then r else 0) ∧ (own i r 1#32).toNat = (if i = 1 then r else 0)
    ∧ (oth i r 0#32).toNat = (if i = 0 then 0 else r) ∧ (oth i r 1#32).toNat = (if i = 1 then 0 else r) := by decide +kernel

/-- The own gradient's row block. -/
theorem own_eq {i r : ℕ} {w : BitVec 32} (h : w = 0#32 ∨ w = 1#32) (hi : i < 2) (hr : r < 64) :
    (own i r w).toNat = if i = w.toNat then r else 0 := by
  have := closed i hi r hr
  rcases h with rfl | rfl
  · exact this.1
  · exact this.2.1

/-- The other gradient's row block. -/
theorem oth_eq {i r : ℕ} {w : BitVec 32} (h : w = 0#32 ∨ w = 1#32) (hi : i < 2) (hr : r < 64) :
    (oth i r w).toNat = if i = w.toNat then 0 else r := by
  have := closed i hi r hr
  rcases h with rfl | rfl
  · exact this.2.2.1
  · exact this.2.2.2

/-- The comparison of a layer's number with the word. -/
theorem select_eq {A : Type} {i : ℕ} {w : BitVec 32} (h : w = 0#32 ∨ w = 1#32) (hi : i < 2) (a b : A) :
    Scalar.select (Scalar.cmpi .eq (BitVec.ofNat 32 i) w) a b = if i = w.toNat then a else b := by
  have : i = 0 ∨ i = 1 := by omega
  rcases this with rfl | rfl <;> rcases h with rfl | rfl <;> rfl

/-- An array of one element has one index. -/
theorem one_idx (x y : (⟨1, ![1]⟩ : Shape).Idx) : x = y :=
  funext fun a => match a with | ⟨0, _⟩ => Subsingleton.elim (α := Fin 1) _ _

/-- A word that is at least 0 and at most 1 is 0 or 1. -/
theorem word_of_le {w : BitVec 32} (h : IntOp.andi (IntOp.cmpi .sge w 0#32) (IntOp.cmpi .sle w 1#32) = 1#1) : w = 0#32 ∨ w = 1#32 := by
  have both : ∀ p q : Bool, IntOp.andi (BitVec.ofBool p) (BitVec.ofBool q) = 1#1 → p = true ∧ q = true := by decide
  obtain ⟨h0, h1⟩ := both _ _ h
  simp only [BitVec.sle_eq_decide, decide_eq_true_eq, BitVec.toInt_eq_toNat_cond, BitVec.toNat_ofNat] at h0 h1
  have lt := w.isLt
  have : w.toNat = 0 ∨ w.toNat = 1 := by
    split at h0 <;> omega
  rcases this with e | e
  · exact .inl (BitVec.eq_of_toNat_eq e)
  · exact .inr (BitVec.eq_of_toNat_eq e)

end Cert.Place

end
-- ==== Proof.AdamwWAttnBranchValue.lean ====
/-
  The AdamW step of the two layers' w_attn_branch: the arrays that the call returns are the gradient of both layers, the weights'
  change and the two moments, as the plain lines of the optimiser compute them, on either core.
-/
module

public import proofs.«01_k».proof.Proof.Place
public import proofs.«01_k».proof.Proof.Gen.AdamwWAttnBranchIdeal.Frame
public import proofs.«01_k».proof.Proof.Gen.AdamwWAttnBranchRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwWAttnBranchIdeal.Final

open Cert.AdamwWAttnBranchIdeal Cert.AdamwWAttnBranchIdeal.Gen Cert.AdamwWAttnBranchRefIdeal.Read

section Word

variable {F : FTy → Type} [FloatOps F] (m : (ℓ : Loc nD τ sig) → Buf (Elt F) ℓ)

/-- The word that names this device's core. -/
def core : BitVec 32 := m (((0 : Dev nD) : Thread nD τ).loc main_arg0) (ix1 (n0 := 1) 0)

/-- The grid's points go through the row blocks of layer 0, then of layer 1. -/
theorem coords : ∀ t : Fin grid0.N, (grid0.coords t 0).val = t.val / 1 ∧ (grid0.coords t 1).val = t.val % 1 := by decide +kernel

/-- What a load of the table's one word reads. -/
theorem table : (tbl m).at 0 (Rect.unit (s := S1) ![0] S1.size inb_S1_S1_0) numel1_S1 = core m :=
  congrArg (m (((0 : Dev nD) : Thread nD τ).loc main_arg0)) (Place.one_idx _ _)

/-- What the body reads at the table's one word. -/
theorem read_word (h) : View.readAt (Elt F) (View.whole main_arg0) (Rect.unit ![0] ![1] inb_S1_S1_0).toLoadRect (tbl m 0) (Shape.Idx.first h) = core m :=
  congrArg (m (((0 : Dev nD) : Thread nD τ).loc main_arg0)) (Place.one_idx _ _)

/-- The block of the own gradient at a grid point. -/
theorem own_at (h : core m = 0#32 ∨ core m = 1#32) (i : grid0.Coords) :
    cc0_transform_1 inb_S1_S1_0 numel1_S1 (tbl m) i = ![if (i 0).val = (core m).toNat then (i 1).val else 0, 0] := by
  have l0 : (i 0).val < 2 := (i 0).isLt
  have l1 : (i 1).val < 1 := (i 1).isLt
  rw [← Place.own_eq h l0 (by omega), ← table]
  rfl

/-- The block of the other gradient at a grid point. -/
theorem oth_at (h : core m = 0#32 ∨ core m = 1#32) (i : grid0.Coords) :
    cc0_transform_2 inb_S1_S1_0 numel1_S1 (tbl m) i = ![if (i 0).val = (core m).toNat then 0 else (i 1).val, 0] := by
  have l0 : (i 0).val < 2 := (i 0).isLt
  have l1 : (i 1).val < 1 := (i 1).isLt
  rw [← Place.oth_eq h l0 (by omega), ← table]
  rfl

/-- Where the word is 0 or 1 every block that it names lies inside its array. -/
theorem ok (h : core m = 0#32 ∨ core m = 1#32) : Ok m := by
  refine ⟨fun i => ⟨fun a => ?_, .inl rfl⟩, fun i => ⟨fun a => ?_, .inl rfl⟩⟩
  all_goals
    have l0 : (i 0).val < 2 := (i 0).isLt
    have l1 : (i 1).val < 1 := (i 1).isLt
  · rw [own_at m h i]
    match a with
    | 0 => show ((if _ then _ else _) + 1) * 512 ≤ 512; split <;> omega
    | 1 => show (0 + 1) * 256 ≤ 256; omega
  · rw [oth_at m h i]
    match a with
    | 0 => show ((if _ then _ else _) + 1) * 512 ≤ 512; split <;> omega
    | 1 => show (0 + 1) * 256 ≤ 256; omega

end Word

variable (m : (ℓ : Loc nD τ sig) → Buf (Elt Ideal) ℓ)

/-- The blocks of the windows that do not depend on the word. -/
theorem idx (hO : Ok m) : ∀ t : Fin (cfgM m hO).N, ((cfgM m hO).win 0).index t = ![t.val / 1, t.val % 1, 0]
    ∧ ((cfgM m hO).win 3).index t = ![t.val / 1, t.val % 1, 0] ∧ ((cfgM m hO).win 4).index t = ![t.val / 1, t.val % 1, 0]
    ∧ ((cfgM m hO).win 5).index t = ![t.val / 1, t.val % 1, 0] ∧ ((cfgM m hO).win 6).index t = ![t.val / 1, t.val % 1, 0]
    ∧ ((cfgM m hO).win 7).index t = ![t.val / 1, t.val % 1, 0] ∧ ((cfgM m hO).win 8).index t = ![t.val / 1, t.val % 1, 0] :=
  (by decide +kernel : ∀ t : Fin grid0.N, cc0_transform_0 (grid0.coords t) = ![t.val / 1, t.val % 1, 0]
    ∧ cc0_transform_3 (grid0.coords t) = ![t.val / 1, t.val % 1, 0] ∧ cc0_transform_4 (grid0.coords t) = ![t.val / 1, t.val % 1, 0]
    ∧ cc0_transform_5 (grid0.coords t) = ![t.val / 1, t.val % 1, 0] ∧ cc0_transform_6 (grid0.coords t) = ![t.val / 1, t.val % 1, 0]
    ∧ cc0_transform_7 (grid0.coords t) = ![t.val / 1, t.val % 1, 0] ∧ cc0_transform_8 (grid0.coords t) = ![t.val / 1, t.val % 1, 0])

/-- The own gradient's block at a point of the core's layer. -/
theorem idx_own (hO : Ok m) (h : core m = 0#32 ∨ core m = 1#32) (t : Fin (cfgM m hO).N) (e : t.val / 1 = (core m).toNat) :
    ((cfgM m hO).win 1).index t = ![t.val % 1, 0] := by
  refine (own_at m h (grid0.coords t)).trans ?_
  rw [(coords t).1, (coords t).2, if_pos e]

/-- The other gradient's block at a point of the other layer. -/
theorem idx_oth (hO : Ok m) (h : core m = 0#32 ∨ core m = 1#32) (t : Fin (cfgM m hO).N) (e : t.val / 1 ≠ (core m).toNat) :
    ((cfgM m hO).win 2).index t = ![t.val % 1, 0] := by
  refine (oth_at m h (grid0.coords t)).trans ?_
  rw [(coords t).1, (coords t).2, if_neg e]

/-- The reference's gradient at an index: the own one at the core's layer, the other one at the other. -/
theorem ref_grad (c : Dev nD) (h : core m = 0#32 ∨ core m = 1#32) (l : Fin 2) (r : Fin 512) (k : Fin 256) :
    val_main_v7 (F := Ideal) (m ((c : Thread nD τ).loc main_arg0)) (m ((c : Thread nD τ).loc main_arg2)) (m ((c : Thread nD τ).loc main_arg3)) (ix3 l r k)
      = if l.val = (core m).toNat then m ((c : Thread nD τ).loc main_arg2) (ix2 r k) else m ((c : Thread nD τ).loc main_arg3) (ix2 r k) := by
  obtain rfl : c = 0 := Subsingleton.elim _ _
  have s := Place.select_eq h l.isLt (m (((0 : Dev nD) : Thread nD τ).loc main_arg2) (ix2 r k)) (m (((0 : Dev nD) : Thread nD τ).loc main_arg3) (ix2 r k))
  rw [← s]
  pointwise [val_main_v0, val_main_v1, val_main_v2, val_main_v3, val_main_v4, val_main_v5, val_main_v6, val_main_v7, val_main_call0_v0, val_main_call0_v1, val_main_call0_v2, core]
  rfl

/-- What the body chooses at a block index, between its two blocks. -/
theorem pay4_at (i : grid0.Coords) {w : BitVec 32} (h : w = 0#32 ∨ w = 1#32) (x y : Vec Ideal S512x256 .f32) (a : Fin 512) (b : Fin 256) :
    k0_pay4 (F := Ideal) i w x y (ix2 a b) = if (i 0).val = w.toNat then x (ix2 a b) else y (ix2 a b) := by
  have l0 : (i 0).val < 2 := (i 0).isLt
  unfold k0_pay4
  dsimp only
  rw [Place.select_eq h l0]
  split <;> rfl

/-- The gradient that the body chooses at a block index is the reference's at the array index there. -/
theorem grad (hO : Ok m) (h : core m = 0#32 ∨ core m = 1#32) (c : Dev nD) (t : Fin (cfgM m hO).N) (a : Fin 512) (b : Fin 256)
    (l : Fin 2) (r : Fin 512) (hl : l.val = t.val / 1) (hr : r.val = 512 * (t.val % 1) + a.val) :
    k0_pay4 (F := Ideal) (grid0.coords t) (core m) (iblk m hO c 1 t) (iblk m hO c 2 t) (ix2 a b)
      = val_main_v7 (F := Ideal) (m ((c : Thread nD τ).loc main_arg0)) (m ((c : Thread nD τ).loc main_arg2)) (m ((c : Thread nD τ).loc main_arg3)) (ix3 l r b) := by
  have ht : t.val < 2 := lt_of_lt_of_eq t.isLt N_0
  rw [ref_grad m c h]
  refine (pay4_at _ h _ _ a b).trans ?_
  rw [(coords t).1, hl]
  by_cases e : t.val / 1 = (core m).toNat
  · refine (if_pos e).trans (Eq.trans ?_ (if_pos e).symm)
    have ix := idx_own m hO h t e
    blk_point [iblk, V, ix]
  · refine (if_neg e).trans (Eq.trans ?_ (if_neg e).symm)
    have ix := idx_oth m hO h t e
    blk_point [iblk, V, ix]

/-- At a block index of a point the body's value of the gradient of both layers is the reference's at the array index there. -/
theorem point5 (hO : Ok m) (h : core m = 0#32 ∨ core m = 1#32) (c : Dev nD) (t : Fin (cfgM m hO).N) (y : S1x512x256.Idx) :
    k0_pay7 (F := Ideal) (grid0.coords t) (core m) (iblk m hO c 1 t) (iblk m hO c 2 t) y
      = val_main_v7 (F := Ideal) (m ((c : Thread nD τ).loc main_arg0)) (m ((c : Thread nD τ).loc main_arg2)) (m ((c : Thread nD τ).loc main_arg3)) ((((cfgM m hO).win 5).blk t).view.emb y) := by
  have ht : t.val < 2 := lt_of_lt_of_eq t.isLt N_0
  obtain_idx j : S2x512x256 := [t.val / 1, 512 * (t.val % 1) + (y 1).val, (y 2).val] with hj
  have hj' : (((cfgM m hO).win 5).blk t).view.emb y = j := by blk_ext [idx m hO t]
  rw [hj']
  idx_vars j
  idx_vars y
  pointwise [k0_pay7] at hj0 hj1 hj2 ⊢
  obtain rfl : j2 = y2 := Fin.ext hj2
  have g := grad m hO h c t y1 j2 j0 j1 (by omega) (by omega)
  exact g

/-- After the run the array holds the gradient of both layers. -/
theorem final5 (hO : Ok m) (h : core m = 0#32 ∨ core m = 1#32) (c : Dev nD) : (dats m hO 0 c).arrAt 5 (cfgM m hO).N
    = val_main_v7 (F := Ideal) (m ((c : Thread nD τ).loc main_arg0)) (m ((c : Thread nD τ).loc main_arg2)) (m ((c : Thread nD τ).loc main_arg3)) := by
  refine (dats m hO 0 c).arrAt_eq_of_covers 5 _ (of_decide_eq_true (by sl_kernel_rfl)) fun t _ y => ?_
  blk_simp
  rw [after0_5]; unfold outsAt0; dsimp only; frame_out
  exact (congrFun (congr (congr (congrArg (k0_pay7 (F := Ideal) (grid0.coords t)) (read_word m _)) (Memref.IsWhole.read_unread _ _)) (Memref.IsWhole.read_unread _ _)) y).trans (point5 m hO h c t y)

/-- At a block index of a point the body's value of the first moments is the reference's at the array index there. -/
theorem point7 (hO : Ok m) (h : core m = 0#32 ∨ core m = 1#32) (c : Dev nD) (t : Fin (cfgM m hO).N) (y : S1x512x256.Idx) :
    k0_pay2 (F := Ideal) (k0_pay5 (F := Ideal) (grid0.coords t) (core m) (iblk m hO c 1 t) (iblk m hO c 2 t) (iblk m hO c 3 t)) y
      = val_main_v12 (F := Ideal) (m ((c : Thread nD τ).loc main_arg0)) (m ((c : Thread nD τ).loc main_arg2)) (m ((c : Thread nD τ).loc main_arg3)) (m ((c : Thread nD τ).loc main_arg4)) ((((cfgM m hO).win 7).blk t).view.emb y) := by
  have ht : t.val < 2 := lt_of_lt_of_eq t.isLt N_0
  obtain_idx j : S2x512x256 := [t.val / 1, 512 * (t.val % 1) + (y 1).val, (y 2).val] with hj
  have hj' : (((cfgM m hO).win 7).blk t).view.emb y = j := by blk_ext [idx m hO t]
  rw [hj']
  idx_vars j
  idx_vars y
  pointwise [k0_pay2, k0_pay5, val_main_v8, val_main_v9, val_main_v10, val_main_v11, val_main_v12, val_main_cst, val_main_cst_0] at hj0 hj1 hj2 ⊢
  obtain rfl : j2 = y2 := Fin.ext hj2
  have g := grad m hO h c t y1 j2 j0 j1 (by omega) (by omega)
  rw [g]
  blk_point [iblk, V, idx m hO t]

/-- After the run the array holds the first moments. -/
theorem final7 (hO : Ok m) (h : core m = 0#32 ∨ core m = 1#32) (c : Dev nD) : (dats m hO 0 c).arrAt 7 (cfgM m hO).N
    = val_main_v12 (F := Ideal) (m ((c : Thread nD τ).loc main_arg0)) (m ((c : Thread nD τ).loc main_arg2)) (m ((c : Thread nD τ).loc main_arg3)) (m ((c : Thread nD τ).loc main_arg4)) := by
  refine (dats m hO 0 c).arrAt_eq_of_covers 7 _ (of_decide_eq_true (by sl_kernel_rfl)) fun t _ y => ?_
  blk_simp
  rw [after0_7]; unfold outsAt0; dsimp only; frame_out
  exact (congrFun (congrArg (k0_pay2 (F := Ideal)) (congr (congr (congr (congrArg (k0_pay5 (F := Ideal) (grid0.coords t)) (read_word m _)) (Memref.IsWhole.read_unread _ _)) (Memref.IsWhole.read_unread _ _)) (Memref.IsWhole.read_unread _ _))) y).trans (point7 m hO h c t y)

/-- At a block index of a point the body's value of the second moments is the reference's at the array index there. -/
theorem point8 (hO : Ok m) (h : core m = 0#32 ∨ core m = 1#32) (c : Dev nD) (t : Fin (cfgM m hO).N) (y : S1x512x256.Idx) :
    k0_pay3 (F := Ideal) (k0_pay6 (F := Ideal) (grid0.coords t) (core m) (iblk m hO c 1 t) (iblk m hO c 2 t) (iblk m hO c 4 t)) y
      = val_main_v18 (F := Ideal) (m ((c : Thread nD τ).loc main_arg0)) (m ((c : Thread nD τ).loc main_arg2)) (m ((c : Thread nD τ).loc main_arg3)) (m ((c : Thread nD τ).loc main_arg5)) ((((cfgM m hO).win 8).blk t).view.emb y) := by
  have ht : t.val < 2 := lt_of_lt_of_eq t.isLt N_0
  obtain_idx j : S2x512x256 := [t.val / 1, 512 * (t.val % 1) + (y 1).val, (y 2).val] with hj
  have hj' : (((cfgM m hO).win 8).blk t).view.emb y = j := by blk_ext [idx m hO t]
  rw [hj']
  idx_vars j
  idx_vars y
  pointwise [k0_pay3, k0_pay6, val_main_v13, val_main_v14, val_main_v15, val_main_v16, val_main_v17, val_main_v18, val_main_cst_1, val_main_cst_2] at hj0 hj1 hj2 ⊢
  obtain rfl : j2 = y2 := Fin.ext hj2
  have g := grad m hO h c t y1 j2 j0 j1 (by omega) (by omega)
  rw [g]
  blk_point [iblk, V, idx m hO t]

/-- After the run the array holds the second moments. -/
theorem final8 (hO : Ok m) (h : core m = 0#32 ∨ core m = 1#32) (c : Dev nD) : (dats m hO 0 c).arrAt 8 (cfgM m hO).N
    = val_main_v18 (F := Ideal) (m ((c : Thread nD τ).loc main_arg0)) (m ((c : Thread nD τ).loc main_arg2)) (m ((c : Thread nD τ).loc main_arg3)) (m ((c : Thread nD τ).loc main_arg5)) := by
  refine (dats m hO 0 c).arrAt_eq_of_covers 8 _ (of_decide_eq_true (by sl_kernel_rfl)) fun t _ y => ?_
  blk_simp
  rw [after0_8]; unfold outsAt0; dsimp only; frame_out
  exact (congrFun (congrArg (k0_pay3 (F := Ideal)) (congr (congr (congr (congrArg (k0_pay6 (F := Ideal) (grid0.coords t)) (read_word m _)) (Memref.IsWhole.read_unread _ _)) (Memref.IsWhole.read_unread _ _)) (Memref.IsWhole.read_unread _ _))) y).trans (point8 m hO h c t y)

/-- At a block index of a point the body's value of the weights' change is the reference's at the array index there. -/
theorem point6 (hO : Ok m) (h : core m = 0#32 ∨ core m = 1#32) (c : Dev nD) (t : Fin (cfgM m hO).N) (y : S1x512x256.Idx) :
    k0_pay1 (F := Ideal) (k0_pay8 (F := Ideal) (grid0.coords t) (core m) (iblk m hO c 1 t) (iblk m hO c 2 t) (iblk m hO c 3 t) (iblk m hO c 4 t)) (k0_pay9 (iblk m hO c 0 t)) y
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 6).blk t).view.emb y) := by
  have ht : t.val < 2 := lt_of_lt_of_eq t.isLt N_0
  obtain_idx j : S2x512x256 := [t.val / 1, 512 * (t.val % 1) + (y 1).val, (y 2).val] with hj
  have hj' : (((cfgM m hO).win 6).blk t).view.emb y = j := by blk_ext [idx m hO t]
  rw [hj']
  idx_vars j
  idx_vars y
  pointwise [k0_pay1, k0_pay8, k0_pay9, k0_pay5, k0_pay6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, val_main_cst_5, val_main_cst_6, val_main_cst_7] at hj0 hj1 hj2 ⊢
  obtain rfl : j2 = y2 := Fin.ext hj2
  have g := grad m hO h c t y1 j2 j0 j1 (by omega) (by omega)
  rw [g]
  blk_point [iblk, V, idx m hO t]

/-- After the run the array holds the weights' change. -/
theorem final6 (hO : Ok m) (h : core m = 0#32 ∨ core m = 1#32) (c : Dev nD) : (dats m hO 0 c).arrAt 6 (cfgM m hO).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]; unfold outsAt0; dsimp only; frame_out
  exact (congrFun (congr (congrArg (k0_pay1 (F := Ideal)) (congr (congr (congr (congr (congrArg (k0_pay8 (F := Ideal) (grid0.coords t)) (read_word m _)) (Memref.IsWhole.read_unread _ _)) (Memref.IsWhole.read_unread _ _)) (Memref.IsWhole.read_unread _ _)) (Memref.IsWhole.read_unread _ _))) (congrArg (k0_pay9 (F := Ideal)) (Memref.IsWhole.read_unread _ _))) y).trans (point6 m hO h c t y)

end Cert.AdamwWAttnBranchIdeal.Final

end
-- ==== Proof.AdamwWFfnInValue.lean ====
/-
  The AdamW step of the two layers' w_ffn_in: the arrays that the call returns are the gradient of both layers, the weights'
  change and the two moments, as the plain lines of the optimiser compute them, on either core.
-/
module

public import proofs.«01_k».proof.Proof.Place
public import proofs.«01_k».proof.Proof.Gen.AdamwWFfnInIdeal.Frame
public import proofs.«01_k».proof.Proof.Gen.AdamwWFfnInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwWFfnInIdeal.Final

open Cert.AdamwWFfnInIdeal Cert.AdamwWFfnInIdeal.Gen Cert.AdamwWFfnInRefIdeal.Read

section Word

variable {F : FTy → Type} [FloatOps F] (m : (ℓ : Loc nD τ sig) → Buf (Elt F) ℓ)

/-- The word that names this device's core. -/
def core : BitVec 32 := m (((0 : Dev nD) : Thread nD τ).loc main_arg0) (ix1 (n0 := 1) 0)

/-- The grid's points go through the row blocks of layer 0, then of layer 1. -/
theorem coords : ∀ t : Fin grid0.N, (grid0.coords t 0).val = t.val / 8 ∧ (grid0.coords t 1).val = t.val % 8 := by decide +kernel

/-- What a load of the table's one word reads. -/
theorem table : (tbl m).at 0 (Rect.unit (s := S1) ![0] S1.size inb_S1_S1_0) numel1_S1 = core m :=
  congrArg (m (((0 : Dev nD) : Thread nD τ).loc main_arg0)) (Place.one_idx _ _)

/-- What the body reads at the table's one word. -/
theorem read_word (h) : View.readAt (Elt F) (View.whole main_arg0) (Rect.unit ![0] ![1] inb_S1_S1_0).toLoadRect (tbl m 0) (Shape.Idx.first h) = core m :=
  congrArg (m (((0 : Dev nD) : Thread nD τ).loc main_arg0)) (Place.one_idx _ _)

/-- The block of the own gradient at a grid point. -/
theorem own_at (h : core m = 0#32 ∨ core m = 1#32) (i : grid0.Coords) :
    cc0_transform_1 inb_S1_S1_0 numel1_S1 (tbl m) i = ![if (i 0).val = (core m).toNat then (i 1).val else 0, 0] := by
  have l0 : (i 0).val < 2 := (i 0).isLt
  have l1 : (i 1).val < 8 := (i 1).isLt
  rw [← Place.own_eq h l0 (by omega), ← table]
  rfl

/-- The block of the other gradient at a grid point. -/
theorem oth_at (h : core m = 0#32 ∨ core m = 1#32) (i : grid0.Coords) :
    cc0_transform_2 inb_S1_S1_0 numel1_S1 (tbl m) i = ![if (i 0).val = (core m).toNat then 0 else (i 1).val, 0] := by
  have l0 : (i 0).val < 2 := (i 0).isLt
  have l1 : (i 1).val < 8 := (i 1).isLt
  rw [← Place.oth_eq h l0 (by omega), ← table]
  rfl

/-- Where the word is 0 or 1 every block that it names lies inside its array. -/
theorem ok (h : core m = 0#32 ∨ core m = 1#32) : Ok m := by
  refine ⟨fun i => ⟨fun a => ?_, .inl rfl⟩, fun i => ⟨fun a => ?_, .inl rfl⟩⟩
  all_goals
    have l0 : (i 0).val < 2 := (i 0).isLt
    have l1 : (i 1).val < 8 := (i 1).isLt
  · rw [own_at m h i]
    match a with
    | 0 => show ((if _ then _ else _) + 1) * 128 ≤ 1024; split <;> omega
    | 1 => show (0 + 1) * 1408 ≤ 1408; omega
  · rw [oth_at m h i]
    match a with
    | 0 => show ((if _ then _ else _) + 1) * 128 ≤ 1024; split <;> omega
    | 1 => show (0 + 1) * 1408 ≤ 1408; omega

end Word

variable (m : (ℓ : Loc nD τ sig) → Buf (Elt Ideal) ℓ)

/-- The blocks of the windows that do not depend on the word. -/
theorem idx (hO : Ok m) : ∀ t : Fin (cfgM m hO).N, ((cfgM m hO).win 0).index t = ![t.val / 8, t.val % 8, 0]
    ∧ ((cfgM m hO).win 3).index t = ![t.val / 8, t.val % 8, 0] ∧ ((cfgM m hO).win 4).index t = ![t.val / 8, t.val % 8, 0]
    ∧ ((cfgM m hO).win 5).index t = ![t.val / 8, t.val % 8, 0] ∧ ((cfgM m hO).win 6).index t = ![t.val / 8, t.val % 8, 0]
    ∧ ((cfgM m hO).win 7).index t = ![t.val / 8, t.val % 8, 0] ∧ ((cfgM m hO).win 8).index t = ![t.val / 8, t.val % 8, 0] :=
  (by decide +kernel : ∀ t : Fin grid0.N, cc0_transform_0 (grid0.coords t) = ![t.val / 8, t.val % 8, 0]
    ∧ cc0_transform_3 (grid0.coords t) = ![t.val / 8, t.val % 8, 0] ∧ cc0_transform_4 (grid0.coords t) = ![t.val / 8, t.val % 8, 0]
    ∧ cc0_transform_5 (grid0.coords t) = ![t.val / 8, t.val % 8, 0] ∧ cc0_transform_6 (grid0.coords t) = ![t.val / 8, t.val % 8, 0]
    ∧ cc0_transform_7 (grid0.coords t) = ![t.val / 8, t.val % 8, 0] ∧ cc0_transform_8 (grid0.coords t) = ![t.val / 8, t.val % 8, 0])

/-- The own gradient's block at a point of the core's layer. -/
theorem idx_own (hO : Ok m) (h : core m = 0#32 ∨ core m = 1#32) (t : Fin (cfgM m hO).N) (e : t.val / 8 = (core m).toNat) :
    ((cfgM m hO).win 1).index t = ![t.val % 8, 0] := by
  refine (own_at m h (grid0.coords t)).trans ?_
  rw [(coords t).1, (coords t).2, if_pos e]

/-- The other gradient's block at a point of the other layer. -/
theorem idx_oth (hO : Ok m) (h : core m = 0#32 ∨ core m = 1#32) (t : Fin (cfgM m hO).N) (e : t.val / 8 ≠ (core m).toNat) :
    ((cfgM m hO).win 2).index t = ![t.val % 8, 0] := by
  refine (oth_at m h (grid0.coords t)).trans ?_
  rw [(coords t).1, (coords t).2, if_neg e]

/-- The reference's gradient at an index: the own one at the core's layer, the other one at the other. -/
theorem ref_grad (c : Dev nD) (h : core m = 0#32 ∨ core m = 1#32) (l : Fin 2) (r : Fin 1024) (k : Fin 1408) :
    val_main_v7 (F := Ideal) (m ((c : Thread nD τ).loc main_arg0)) (m ((c : Thread nD τ).loc main_arg2)) (m ((c : Thread nD τ).loc main_arg3)) (ix3 l r k)
      = if l.val = (core m).toNat then m ((c : Thread nD τ).loc main_arg2) (ix2 r k) else m ((c : Thread nD τ).loc main_arg3) (ix2 r k) := by
  obtain rfl : c = 0 := Subsingleton.elim _ _
  have s := Place.select_eq h l.isLt (m (((0 : Dev nD) : Thread nD τ).loc main_arg2) (ix2 r k)) (m (((0 : Dev nD) : Thread nD τ).loc main_arg3) (ix2 r k))
  rw [← s]
  pointwise [val_main_v0, val_main_v1, val_main_v2, val_main_v3, val_main_v4, val_main_v5, val_main_v6, val_main_v7, val_main_call0_v0, val_main_call0_v1, val_main_call0_v2, core]
  rfl

/-- What the body chooses at a block index, between its two blocks. -/
theorem pay4_at (i : grid0.Coords) {w : BitVec 32} (h : w = 0#32 ∨ w = 1#32) (x y : Vec Ideal S128x1408 .f32) (a : Fin 128) (b : Fin 1408) :
    k0_pay4 (F := Ideal) i w x y (ix2 a b) = if (i 0).val = w.toNat then x (ix2 a b) else y (ix2 a b) := by
  have l0 : (i 0).val < 2 := (i 0).isLt
  unfold k0_pay4
  dsimp only
  rw [Place.select_eq h l0]
  split <;> rfl

/-- The gradient that the body chooses at a block index is the reference's at the array index there. -/
theorem grad (hO : Ok m) (h : core m = 0#32 ∨ core m = 1#32) (c : Dev nD) (t : Fin (cfgM m hO).N) (a : Fin 128) (b : Fin 1408)
    (l : Fin 2) (r : Fin 1024) (hl : l.val = t.val / 8) (hr : r.val = 128 * (t.val % 8) + a.val) :
    k0_pay4 (F := Ideal) (grid0.coords t) (core m) (iblk m hO c 1 t) (iblk m hO c 2 t) (ix2 a b)
      = val_main_v7 (F := Ideal) (m ((c : Thread nD τ).loc main_arg0)) (m ((c : Thread nD τ).loc main_arg2)) (m ((c : Thread nD τ).loc main_arg3)) (ix3 l r b) := by
  have ht : t.val < 16 := lt_of_lt_of_eq t.isLt N_0
  rw [ref_grad m c h]
  refine (pay4_at _ h _ _ a b).trans ?_
  rw [(coords t).1, hl]
  by_cases e : t.val / 8 = (core m).toNat
  · refine (if_pos e).trans (Eq.trans ?_ (if_pos e).symm)
    have ix := idx_own m hO h t e
    blk_point [iblk, V, ix]
  · refine (if_neg e).trans (Eq.trans ?_ (if_neg e).symm)
    have ix := idx_oth m hO h t e
    blk_point [iblk, V, ix]

/-- At a block index of a point the body's value of the gradient of both layers is the reference's at the array index there. -/
theorem point5 (hO : Ok m) (h : core m = 0#32 ∨ core m = 1#32) (c : Dev nD) (t : Fin (cfgM m hO).N) (y : S1x128x1408.Idx) :
    k0_pay7 (F := Ideal) (grid0.coords t) (core m) (iblk m hO c 1 t) (iblk m hO c 2 t) y
      = val_main_v7 (F := Ideal) (m ((c : Thread nD τ).loc main_arg0)) (m ((c : Thread nD τ).loc main_arg2)) (m ((c : Thread nD τ).loc main_arg3)) ((((cfgM m hO).win 5).blk t).view.emb y) := by
  have ht : t.val < 16 := lt_of_lt_of_eq t.isLt N_0
  obtain_idx j : S2x1024x1408 := [t.val / 8, 128 * (t.val % 8) + (y 1).val, (y 2).val] with hj
  have hj' : (((cfgM m hO).win 5).blk t).view.emb y = j := by blk_ext [idx m hO t]
  rw [hj']
  idx_vars j
  idx_vars y
  pointwise [k0_pay7] at hj0 hj1 hj2 ⊢
  obtain rfl : j2 = y2 := Fin.ext hj2
  have g := grad m hO h c t y1 j2 j0 j1 (by omega) (by omega)
  exact g

/-- After the run the array holds the gradient of both layers. -/
theorem final5 (hO : Ok m) (h : core m = 0#32 ∨ core m = 1#32) (c : Dev nD) : (dats m hO 0 c).arrAt 5 (cfgM m hO).N
    = val_main_v7 (F := Ideal) (m ((c : Thread nD τ).loc main_arg0)) (m ((c : Thread nD τ).loc main_arg2)) (m ((c : Thread nD τ).loc main_arg3)) := by
  refine (dats m hO 0 c).arrAt_eq_of_covers 5 _ (of_decide_eq_true (by sl_kernel_rfl)) fun t _ y => ?_
  blk_simp
  rw [after0_5]; unfold outsAt0; dsimp only; frame_out
  exact (congrFun (congr (congr (congrArg (k0_pay7 (F := Ideal) (grid0.coords t)) (read_word m _)) (Memref.IsWhole.read_unread _ _)) (Memref.IsWhole.read_unread _ _)) y).trans (point5 m hO h c t y)

/-- At a block index of a point the body's value of the first moments is the reference's at the array index there. -/
theorem point7 (hO : Ok m) (h : core m = 0#32 ∨ core m = 1#32) (c : Dev nD) (t : Fin (cfgM m hO).N) (y : S1x128x1408.Idx) :
    k0_pay2 (F := Ideal) (k0_pay5 (F := Ideal) (grid0.coords t) (core m) (iblk m hO c 1 t) (iblk m hO c 2 t) (iblk m hO c 3 t)) y
      = val_main_v12 (F := Ideal) (m ((c : Thread nD τ).loc main_arg0)) (m ((c : Thread nD τ).loc main_arg2)) (m ((c : Thread nD τ).loc main_arg3)) (m ((c : Thread nD τ).loc main_arg4)) ((((cfgM m hO).win 7).blk t).view.emb y) := by
  have ht : t.val < 16 := lt_of_lt_of_eq t.isLt N_0
  obtain_idx j : S2x1024x1408 := [t.val / 8, 128 * (t.val % 8) + (y 1).val, (y 2).val] with hj
  have hj' : (((cfgM m hO).win 7).blk t).view.emb y = j := by blk_ext [idx m hO t]
  rw [hj']
  idx_vars j
  idx_vars y
  pointwise [k0_pay2, k0_pay5, val_main_v8, val_main_v9, val_main_v10, val_main_v11, val_main_v12, val_main_cst, val_main_cst_0] at hj0 hj1 hj2 ⊢
  obtain rfl : j2 = y2 := Fin.ext hj2
  have g := grad m hO h c t y1 j2 j0 j1 (by omega) (by omega)
  rw [g]
  blk_point [iblk, V, idx m hO t]

/-- After the run the array holds the first moments. -/
theorem final7 (hO : Ok m) (h : core m = 0#32 ∨ core m = 1#32) (c : Dev nD) : (dats m hO 0 c).arrAt 7 (cfgM m hO).N
    = val_main_v12 (F := Ideal) (m ((c : Thread nD τ).loc main_arg0)) (m ((c : Thread nD τ).loc main_arg2)) (m ((c : Thread nD τ).loc main_arg3)) (m ((c : Thread nD τ).loc main_arg4)) := by
  refine (dats m hO 0 c).arrAt_eq_of_covers 7 _ (of_decide_eq_true (by sl_kernel_rfl)) fun t _ y => ?_
  blk_simp
  rw [after0_7]; unfold outsAt0; dsimp only; frame_out
  exact (congrFun (congrArg (k0_pay2 (F := Ideal)) (congr (congr (congr (congrArg (k0_pay5 (F := Ideal) (grid0.coords t)) (read_word m _)) (Memref.IsWhole.read_unread _ _)) (Memref.IsWhole.read_unread _ _)) (Memref.IsWhole.read_unread _ _))) y).trans (point7 m hO h c t y)

/-- At a block index of a point the body's value of the second moments is the reference's at the array index there. -/
theorem point8 (hO : Ok m) (h : core m = 0#32 ∨ core m = 1#32) (c : Dev nD) (t : Fin (cfgM m hO).N) (y : S1x128x1408.Idx) :
    k0_pay3 (F := Ideal) (k0_pay6 (F := Ideal) (grid0.coords t) (core m) (iblk m hO c 1 t) (iblk m hO c 2 t) (iblk m hO c 4 t)) y
      = val_main_v18 (F := Ideal) (m ((c : Thread nD τ).loc main_arg0)) (m ((c : Thread nD τ).loc main_arg2)) (m ((c : Thread nD τ).loc main_arg3)) (m ((c : Thread nD τ).loc main_arg5)) ((((cfgM m hO).win 8).blk t).view.emb y) := by
  have ht : t.val < 16 := lt_of_lt_of_eq t.isLt N_0
  obtain_idx j : S2x1024x1408 := [t.val / 8, 128 * (t.val % 8) + (y 1).val, (y 2).val] with hj
  have hj' : (((cfgM m hO).win 8).blk t).view.emb y = j := by blk_ext [idx m hO t]
  rw [hj']
  idx_vars j
  idx_vars y
  pointwise [k0_pay3, k0_pay6, val_main_v13, val_main_v14, val_main_v15, val_main_v16, val_main_v17, val_main_v18, val_main_cst_1, val_main_cst_2] at hj0 hj1 hj2 ⊢
  obtain rfl : j2 = y2 := Fin.ext hj2
  have g := grad m hO h c t y1 j2 j0 j1 (by omega) (by omega)
  rw [g]
  blk_point [iblk, V, idx m hO t]

/-- After the run the array holds the second moments. -/
theorem final8 (hO : Ok m) (h : core m = 0#32 ∨ core m = 1#32) (c : Dev nD) : (dats m hO 0 c).arrAt 8 (cfgM m hO).N
    = val_main_v18 (F := Ideal) (m ((c : Thread nD τ).loc main_arg0)) (m ((c : Thread nD τ).loc main_arg2)) (m ((c : Thread nD τ).loc main_arg3)) (m ((c : Thread nD τ).loc main_arg5)) := by
  refine (dats m hO 0 c).arrAt_eq_of_covers 8 _ (of_decide_eq_true (by sl_kernel_rfl)) fun t _ y => ?_
  blk_simp
  rw [after0_8]; unfold outsAt0; dsimp only; frame_out
  exact (congrFun (congrArg (k0_pay3 (F := Ideal)) (congr (congr (congr (congrArg (k0_pay6 (F := Ideal) (grid0.coords t)) (read_word m _)) (Memref.IsWhole.read_unread _ _)) (Memref.IsWhole.read_unread _ _)) (Memref.IsWhole.read_unread _ _))) y).trans (point8 m hO h c t y)

/-- At a block index of a point the body's value of the weights' change is the reference's at the array index there. -/
theorem point6 (hO : Ok m) (h : core m = 0#32 ∨ core m = 1#32) (c : Dev nD) (t : Fin (cfgM m hO).N) (y : S1x128x1408.Idx) :
    k0_pay1 (F := Ideal) (k0_pay8 (F := Ideal) (grid0.coords t) (core m) (iblk m hO c 1 t) (iblk m hO c 2 t) (iblk m hO c 3 t) (iblk m hO c 4 t)) (k0_pay9 (iblk m hO c 0 t)) y
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 6).blk t).view.emb y) := by
  have ht : t.val < 16 := lt_of_lt_of_eq t.isLt N_0
  obtain_idx j : S2x1024x1408 := [t.val / 8, 128 * (t.val % 8) + (y 1).val, (y 2).val] with hj
  have hj' : (((cfgM m hO).win 6).blk t).view.emb y = j := by blk_ext [idx m hO t]
  rw [hj']
  idx_vars j
  idx_vars y
  pointwise [k0_pay1, k0_pay8, k0_pay9, k0_pay5, k0_pay6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, val_main_cst_5, val_main_cst_6, val_main_cst_7] at hj0 hj1 hj2 ⊢
  obtain rfl : j2 = y2 := Fin.ext hj2
  have g := grad m hO h c t y1 j2 j0 j1 (by omega) (by omega)
  rw [g]
  blk_point [iblk, V, idx m hO t]

/-- After the run the array holds the weights' change. -/
theorem final6 (hO : Ok m) (h : core m = 0#32 ∨ core m = 1#32) (c : Dev nD) : (dats m hO 0 c).arrAt 6 (cfgM m hO).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]; unfold outsAt0; dsimp only; frame_out
  exact (congrFun (congr (congrArg (k0_pay1 (F := Ideal)) (congr (congr (congr (congr (congrArg (k0_pay8 (F := Ideal) (grid0.coords t)) (read_word m _)) (Memref.IsWhole.read_unread _ _)) (Memref.IsWhole.read_unread _ _)) (Memref.IsWhole.read_unread _ _)) (Memref.IsWhole.read_unread _ _))) (congrArg (k0_pay9 (F := Ideal)) (Memref.IsWhole.read_unread _ _))) y).trans (point6 m hO h c t y)

end Cert.AdamwWFfnInIdeal.Final

end
-- ==== Proof.AdamwWFfnOutValue.lean ====
/-
  The AdamW step of the two layers' w_ffn_out: the arrays that the call returns are the gradient of both layers, the weights'
  change and the two moments, as the plain lines of the optimiser compute them, on either core.
-/
module

public import proofs.«01_k».proof.Proof.Place
public import proofs.«01_k».proof.Proof.Gen.AdamwWFfnOutIdeal.Frame
public import proofs.«01_k».proof.Proof.Gen.AdamwWFfnOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwWFfnOutIdeal.Final

open Cert.AdamwWFfnOutIdeal Cert.AdamwWFfnOutIdeal.Gen Cert.AdamwWFfnOutRefIdeal.Read

section Word

variable {F : FTy → Type} [FloatOps F] (m : (ℓ : Loc nD τ sig) → Buf (Elt F) ℓ)

/-- The word that names this device's core. -/
def core : BitVec 32 := m (((0 : Dev nD) : Thread nD τ).loc main_arg0) (ix1 (n0 := 1) 0)

/-- The grid's points go through the row blocks of layer 0, then of layer 1. -/
theorem coords : ∀ t : Fin grid0.N, (grid0.coords t 0).val = t.val / 11 ∧ (grid0.coords t 1).val = t.val % 11 := by decide +kernel

/-- What a load of the table's one word reads. -/
theorem table : (tbl m).at 0 (Rect.unit (s := S1) ![0] S1.size inb_S1_S1_0) numel1_S1 = core m :=
  congrArg (m (((0 : Dev nD) : Thread nD τ).loc main_arg0)) (Place.one_idx _ _)

/-- What the body reads at the table's one word. -/
theorem read_word (h) : View.readAt (Elt F) (View.whole main_arg0) (Rect.unit ![0] ![1] inb_S1_S1_0).toLoadRect (tbl m 0) (Shape.Idx.first h) = core m :=
  congrArg (m (((0 : Dev nD) : Thread nD τ).loc main_arg0)) (Place.one_idx _ _)

/-- The block of the own gradient at a grid point. -/
theorem own_at (h : core m = 0#32 ∨ core m = 1#32) (i : grid0.Coords) :
    cc0_transform_1 inb_S1_S1_0 numel1_S1 (tbl m) i = ![if (i 0).val = (core m).toNat then (i 1).val else 0, 0] := by
  have l0 : (i 0).val < 2 := (i 0).isLt
  have l1 : (i 1).val < 11 := (i 1).isLt
  rw [← Place.own_eq h l0 (by omega), ← table]
  rfl

/-- The block of the other gradient at a grid point. -/
theorem oth_at (h : core m = 0#32 ∨ core m = 1#32) (i : grid0.Coords) :
    cc0_transform_2 inb_S1_S1_0 numel1_S1 (tbl m) i = ![if (i 0).val = (core m).toNat then 0 else (i 1).val, 0] := by
  have l0 : (i 0).val < 2 := (i 0).isLt
  have l1 : (i 1).val < 11 := (i 1).isLt
  rw [← Place.oth_eq h l0 (by omega), ← table]
  rfl

/-- Where the word is 0 or 1 every block that it names lies inside its array. -/
theorem ok (h : core m = 0#32 ∨ core m = 1#32) : Ok m := by
  refine ⟨fun i => ⟨fun a => ?_, .inl rfl⟩, fun i => ⟨fun a => ?_, .inl rfl⟩⟩
  all_goals
    have l0 : (i 0).val < 2 := (i 0).isLt
    have l1 : (i 1).val < 11 := (i 1).isLt
  · rw [own_at m h i]
    match a with
    | 0 => show ((if _ then _ else _) + 1) * 64 ≤ 704; split <;> omega
    | 1 => show (0 + 1) * 1024 ≤ 1024; omega
  · rw [oth_at m h i]
    match a with
    | 0 => show ((if _ then _ else _) + 1) * 64 ≤ 704; split <;> omega
    | 1 => show (0 + 1) * 1024 ≤ 1024; omega

end Word

variable (m : (ℓ : Loc nD τ sig) → Buf (Elt Ideal) ℓ)

/-- The blocks of the windows that do not depend on the word. -/
theorem idx (hO : Ok m) : ∀ t : Fin (cfgM m hO).N, ((cfgM m hO).win 0).index t = ![t.val / 11, t.val % 11, 0]
    ∧ ((cfgM m hO).win 3).index t = ![t.val / 11, t.val % 11, 0] ∧ ((cfgM m hO).win 4).index t = ![t.val / 11, t.val % 11, 0]
    ∧ ((cfgM m hO).win 5).index t = ![t.val / 11, t.val % 11, 0] ∧ ((cfgM m hO).win 6).index t = ![t.val / 11, t.val % 11, 0]
    ∧ ((cfgM m hO).win 7).index t = ![t.val / 11, t.val % 11, 0] ∧ ((cfgM m hO).win 8).index t = ![t.val / 11, t.val % 11, 0] :=
  (by decide +kernel : ∀ t : Fin grid0.N, cc0_transform_0 (grid0.coords t) = ![t.val / 11, t.val % 11, 0]
    ∧ cc0_transform_3 (grid0.coords t) = ![t.val / 11, t.val % 11, 0] ∧ cc0_transform_4 (grid0.coords t) = ![t.val / 11, t.val % 11, 0]
    ∧ cc0_transform_5 (grid0.coords t) = ![t.val / 11, t.val % 11, 0] ∧ cc0_transform_6 (grid0.coords t) = ![t.val / 11, t.val % 11, 0]
    ∧ cc0_transform_7 (grid0.coords t) = ![t.val / 11, t.val % 11, 0] ∧ cc0_transform_8 (grid0.coords t) = ![t.val / 11, t.val % 11, 0])

/-- The own gradient's block at a point of the core's layer. -/
theorem idx_own (hO : Ok m) (h : core m = 0#32 ∨ core m = 1#32) (t : Fin (cfgM m hO).N) (e : t.val / 11 = (core m).toNat) :
    ((cfgM m hO).win 1).index t = ![t.val % 11, 0] := by
  refine (own_at m h (grid0.coords t)).trans ?_
  rw [(coords t).1, (coords t).2, if_pos e]

/-- The other gradient's block at a point of the other layer. -/
theorem idx_oth (hO : Ok m) (h : core m = 0#32 ∨ core m = 1#32) (t : Fin (cfgM m hO).N) (e : t.val / 11 ≠ (core m).toNat) :
    ((cfgM m hO).win 2).index t = ![t.val % 11, 0] := by
  refine (oth_at m h (grid0.coords t)).trans ?_
  rw [(coords t).1, (coords t).2, if_neg e]

/-- The reference's gradient at an index: the own one at the core's layer, the other one at the other. -/
theorem ref_grad (c : Dev nD) (h : core m = 0#32 ∨ core m = 1#32) (l : Fin 2) (r : Fin 704) (k : Fin 1024) :
    val_main_v7 (F := Ideal) (m ((c : Thread nD τ).loc main_arg0)) (m ((c : Thread nD τ).loc main_arg2)) (m ((c : Thread nD τ).loc main_arg3)) (ix3 l r k)
      = if l.val = (core m).toNat then m ((c : Thread nD τ).loc main_arg2) (ix2 r k) else m ((c : Thread nD τ).loc main_arg3) (ix2 r k) := by
  obtain rfl : c = 0 := Subsingleton.elim _ _
  have s := Place.select_eq h l.isLt (m (((0 : Dev nD) : Thread nD τ).loc main_arg2) (ix2 r k)) (m (((0 : Dev nD) : Thread nD τ).loc main_arg3) (ix2 r k))
  rw [← s]
  pointwise [val_main_v0, val_main_v1, val_main_v2, val_main_v3, val_main_v4, val_main_v5, val_main_v6, val_main_v7, val_main_call0_v0, val_main_call0_v1, val_main_call0_v2, core]
  rfl

/-- What the body chooses at a block index, between its two blocks. -/
theorem pay4_at (i : grid0.Coords) {w : BitVec 32} (h : w = 0#32 ∨ w = 1#32) (x y : Vec Ideal S64x1024 .f32) (a : Fin 64) (b : Fin 1024) :
    k0_pay4 (F := Ideal) i w x y (ix2 a b) = if (i 0).val = w.toNat then x (ix2 a b) else y (ix2 a b) := by
  have l0 : (i 0).val < 2 := (i 0).isLt
  unfold k0_pay4
  dsimp only
  rw [Place.select_eq h l0]
  split <;> rfl

/-- The gradient that the body chooses at a block index is the reference's at the array index there. -/
theorem grad (hO : Ok m) (h : core m = 0#32 ∨ core m = 1#32) (c : Dev nD) (t : Fin (cfgM m hO).N) (a : Fin 64) (b : Fin 1024)
    (l : Fin 2) (r : Fin 704) (hl : l.val = t.val / 11) (hr : r.val = 64 * (t.val % 11) + a.val) :
    k0_pay4 (F := Ideal) (grid0.coords t) (core m) (iblk m hO c 1 t) (iblk m hO c 2 t) (ix2 a b)
      = val_main_v7 (F := Ideal) (m ((c : Thread nD τ).loc main_arg0)) (m ((c : Thread nD τ).loc main_arg2)) (m ((c : Thread nD τ).loc main_arg3)) (ix3 l r b) := by
  have ht : t.val < 22 := lt_of_lt_of_eq t.isLt N_0
  rw [ref_grad m c h]
  refine (pay4_at _ h _ _ a b).trans ?_
  rw [(coords t).1, hl]
  by_cases e : t.val / 11 = (core m).toNat
  · refine (if_pos e).trans (Eq.trans ?_ (if_pos e).symm)
    have ix := idx_own m hO h t e
    blk_point [iblk, V, ix]
  · refine (if_neg e).trans (Eq.trans ?_ (if_neg e).symm)
    have ix := idx_oth m hO h t e
    blk_point [iblk, V, ix]

/-- At a block index of a point the body's value of the gradient of both layers is the reference's at the array index there. -/
theorem point5 (hO : Ok m) (h : core m = 0#32 ∨ core m = 1#32) (c : Dev nD) (t : Fin (cfgM m hO).N) (y : S1x64x1024.Idx) :
    k0_pay7 (F := Ideal) (grid0.coords t) (core m) (iblk m hO c 1 t) (iblk m hO c 2 t) y
      = val_main_v7 (F := Ideal) (m ((c : Thread nD τ).loc main_arg0)) (m ((c : Thread nD τ).loc main_arg2)) (m ((c : Thread nD τ).loc main_arg3)) ((((cfgM m hO).win 5).blk t).view.emb y) := by
  have ht : t.val < 22 := lt_of_lt_of_eq t.isLt N_0
  obtain_idx j : S2x704x1024 := [t.val / 11, 64 * (t.val % 11) + (y 1).val, (y 2).val] with hj
  have hj' : (((cfgM m hO).win 5).blk t).view.emb y = j := by blk_ext [idx m hO t]
  rw [hj']
  idx_vars j
  idx_vars y
  pointwise [k0_pay7] at hj0 hj1 hj2 ⊢
  obtain rfl : j2 = y2 := Fin.ext hj2
  have g := grad m hO h c t y1 j2 j0 j1 (by omega) (by omega)
  exact g

/-- After the run the array holds the gradient of both layers. -/
theorem final5 (hO : Ok m) (h : core m = 0#32 ∨ core m = 1#32) (c : Dev nD) : (dats m hO 0 c).arrAt 5 (cfgM m hO).N
    = val_main_v7 (F := Ideal) (m ((c : Thread nD τ).loc main_arg0)) (m ((c : Thread nD τ).loc main_arg2)) (m ((c : Thread nD τ).loc main_arg3)) := by
  refine (dats m hO 0 c).arrAt_eq_of_covers 5 _ (of_decide_eq_true (by sl_kernel_rfl)) fun t _ y => ?_
  blk_simp
  rw [after0_5]; unfold outsAt0; dsimp only; frame_out
  exact (congrFun (congr (congr (congrArg (k0_pay7 (F := Ideal) (grid0.coords t)) (read_word m _)) (Memref.IsWhole.read_unread _ _)) (Memref.IsWhole.read_unread _ _)) y).trans (point5 m hO h c t y)

/-- At a block index of a point the body's value of the first moments is the reference's at the array index there. -/
theorem point7 (hO : Ok m) (h : core m = 0#32 ∨ core m = 1#32) (c : Dev nD) (t : Fin (cfgM m hO).N) (y : S1x64x1024.Idx) :
    k0_pay2 (F := Ideal) (k0_pay5 (F := Ideal) (grid0.coords t) (core m) (iblk m hO c 1 t) (iblk m hO c 2 t) (iblk m hO c 3 t)) y
      = val_main_v12 (F := Ideal) (m ((c : Thread nD τ).loc main_arg0)) (m ((c : Thread nD τ).loc main_arg2)) (m ((c : Thread nD τ).loc main_arg3)) (m ((c : Thread nD τ).loc main_arg4)) ((((cfgM m hO).win 7).blk t).view.emb y) := by
  have ht : t.val < 22 := lt_of_lt_of_eq t.isLt N_0
  obtain_idx j : S2x704x1024 := [t.val / 11, 64 * (t.val % 11) + (y 1).val, (y 2).val] with hj
  have hj' : (((cfgM m hO).win 7).blk t).view.emb y = j := by blk_ext [idx m hO t]
  rw [hj']
  idx_vars j
  idx_vars y
  pointwise [k0_pay2, k0_pay5, val_main_v8, val_main_v9, val_main_v10, val_main_v11, val_main_v12, val_main_cst, val_main_cst_0] at hj0 hj1 hj2 ⊢
  obtain rfl : j2 = y2 := Fin.ext hj2
  have g := grad m hO h c t y1 j2 j0 j1 (by omega) (by omega)
  rw [g]
  blk_point [iblk, V, idx m hO t]

/-- After the run the array holds the first moments. -/
theorem final7 (hO : Ok m) (h : core m = 0#32 ∨ core m = 1#32) (c : Dev nD) : (dats m hO 0 c).arrAt 7 (cfgM m hO).N
    = val_main_v12 (F := Ideal) (m ((c : Thread nD τ).loc main_arg0)) (m ((c : Thread nD τ).loc main_arg2)) (m ((c : Thread nD τ).loc main_arg3)) (m ((c : Thread nD τ).loc main_arg4)) := by
  refine (dats m hO 0 c).arrAt_eq_of_covers 7 _ (of_decide_eq_true (by sl_kernel_rfl)) fun t _ y => ?_
  blk_simp
  rw [after0_7]; unfold outsAt0; dsimp only; frame_out
  exact (congrFun (congrArg (k0_pay2 (F := Ideal)) (congr (congr (congr (congrArg (k0_pay5 (F := Ideal) (grid0.coords t)) (read_word m _)) (Memref.IsWhole.read_unread _ _)) (Memref.IsWhole.read_unread _ _)) (Memref.IsWhole.read_unread _ _))) y).trans (point7 m hO h c t y)

/-- At a block index of a point the body's value of the second moments is the reference's at the array index there. -/
theorem point8 (hO : Ok m) (h : core m = 0#32 ∨ core m = 1#32) (c : Dev nD) (t : Fin (cfgM m hO).N) (y : S1x64x1024.Idx) :
    k0_pay3 (F := Ideal) (k0_pay6 (F := Ideal) (grid0.coords t) (core m) (iblk m hO c 1 t) (iblk m hO c 2 t) (iblk m hO c 4 t)) y
      = val_main_v18 (F := Ideal) (m ((c : Thread nD τ).loc main_arg0)) (m ((c : Thread nD τ).loc main_arg2)) (m ((c : Thread nD τ).loc main_arg3)) (m ((c : Thread nD τ).loc main_arg5)) ((((cfgM m hO).win 8).blk t).view.emb y) := by
  have ht : t.val < 22 := lt_of_lt_of_eq t.isLt N_0
  obtain_idx j : S2x704x1024 := [t.val / 11, 64 * (t.val % 11) + (y 1).val, (y 2).val] with hj
  have hj' : (((cfgM m hO).win 8).blk t).view.emb y = j := by blk_ext [idx m hO t]
  rw [hj']
  idx_vars j
  idx_vars y
  pointwise [k0_pay3, k0_pay6, val_main_v13, val_main_v14, val_main_v15, val_main_v16, val_main_v17, val_main_v18, val_main_cst_1, val_main_cst_2] at hj0 hj1 hj2 ⊢
  obtain rfl : j2 = y2 := Fin.ext hj2
  have g := grad m hO h c t y1 j2 j0 j1 (by omega) (by omega)
  rw [g]
  blk_point [iblk, V, idx m hO t]

/-- After the run the array holds the second moments. -/
theorem final8 (hO : Ok m) (h : core m = 0#32 ∨ core m = 1#32) (c : Dev nD) : (dats m hO 0 c).arrAt 8 (cfgM m hO).N
    = val_main_v18 (F := Ideal) (m ((c : Thread nD τ).loc main_arg0)) (m ((c : Thread nD τ).loc main_arg2)) (m ((c : Thread nD τ).loc main_arg3)) (m ((c : Thread nD τ).loc main_arg5)) := by
  refine (dats m hO 0 c).arrAt_eq_of_covers 8 _ (of_decide_eq_true (by sl_kernel_rfl)) fun t _ y => ?_
  blk_simp
  rw [after0_8]; unfold outsAt0; dsimp only; frame_out
  exact (congrFun (congrArg (k0_pay3 (F := Ideal)) (congr (congr (congr (congrArg (k0_pay6 (F := Ideal) (grid0.coords t)) (read_word m _)) (Memref.IsWhole.read_unread _ _)) (Memref.IsWhole.read_unread _ _)) (Memref.IsWhole.read_unread _ _))) y).trans (point8 m hO h c t y)

/-- At a block index of a point the body's value of the weights' change is the reference's at the array index there. -/
theorem point6 (hO : Ok m) (h : core m = 0#32 ∨ core m = 1#32) (c : Dev nD) (t : Fin (cfgM m hO).N) (y : S1x64x1024.Idx) :
    k0_pay1 (F := Ideal) (k0_pay8 (F := Ideal) (grid0.coords t) (core m) (iblk m hO c 1 t) (iblk m hO c 2 t) (iblk m hO c 3 t) (iblk m hO c 4 t)) (k0_pay9 (iblk m hO c 0 t)) y
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 6).blk t).view.emb y) := by
  have ht : t.val < 22 := lt_of_lt_of_eq t.isLt N_0
  obtain_idx j : S2x704x1024 := [t.val / 11, 64 * (t.val % 11) + (y 1).val, (y 2).val] with hj
  have hj' : (((cfgM m hO).win 6).blk t).view.emb y = j := by blk_ext [idx m hO t]
  rw [hj']
  idx_vars j
  idx_vars y
  pointwise [k0_pay1, k0_pay8, k0_pay9, k0_pay5, k0_pay6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, val_main_cst_5, val_main_cst_6, val_main_cst_7] at hj0 hj1 hj2 ⊢
  obtain rfl : j2 = y2 := Fin.ext hj2
  have g := grad m hO h c t y1 j2 j0 j1 (by omega) (by omega)
  rw [g]
  blk_point [iblk, V, idx m hO t]

/-- After the run the array holds the weights' change. -/
theorem final6 (hO : Ok m) (h : core m = 0#32 ∨ core m = 1#32) (c : Dev nD) : (dats m hO 0 c).arrAt 6 (cfgM m hO).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]; unfold outsAt0; dsimp only; frame_out
  exact (congrFun (congr (congrArg (k0_pay1 (F := Ideal)) (congr (congr (congr (congr (congrArg (k0_pay8 (F := Ideal) (grid0.coords t)) (read_word m _)) (Memref.IsWhole.read_unread _ _)) (Memref.IsWhole.read_unread _ _)) (Memref.IsWhole.read_unread _ _)) (Memref.IsWhole.read_unread _ _))) (congrArg (k0_pay9 (F := Ideal)) (Memref.IsWhole.read_unread _ _))) y).trans (point6 m hO h c t y)

end Cert.AdamwWFfnOutIdeal.Final

end
-- ==== Proof.AdamwWInValue.lean ====
/-
  The AdamW step of the two layers' w_in: the arrays that the call returns are the gradient of both layers, the weights'
  change and the two moments, as the plain lines of the optimiser compute them, on either core.
-/
module

public import proofs.«01_k».proof.Proof.Place
public import proofs.«01_k».proof.Proof.Gen.AdamwWInIdeal.Frame
public import proofs.«01_k».proof.Proof.Gen.AdamwWInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwWInIdeal.Final

open Cert.AdamwWInIdeal Cert.AdamwWInIdeal.Gen Cert.AdamwWInRefIdeal.Read

section Word

variable {F : FTy → Type} [FloatOps F] (m : (ℓ : Loc nD τ sig) → Buf (Elt F) ℓ)

/-- The word that names this device's core. -/
def core : BitVec 32 := m (((0 : Dev nD) : Thread nD τ).loc main_arg0) (ix1 (n0 := 1) 0)

/-- The grid's points go through the row blocks of layer 0, then of layer 1. -/
theorem coords : ∀ t : Fin grid0.N, (grid0.coords t 0).val = t.val / 16 ∧ (grid0.coords t 1).val = t.val % 16 := by decide +kernel

/-- What a load of the table's one word reads. -/
theorem table : (tbl m).at 0 (Rect.unit (s := S1) ![0] S1.size inb_S1_S1_0) numel1_S1 = core m :=
  congrArg (m (((0 : Dev nD) : Thread nD τ).loc main_arg0)) (Place.one_idx _ _)

/-- What the body reads at the table's one word. -/
theorem read_word (h) : View.readAt (Elt F) (View.whole main_arg0) (Rect.unit ![0] ![1] inb_S1_S1_0).toLoadRect (tbl m 0) (Shape.Idx.first h) = core m :=
  congrArg (m (((0 : Dev nD) : Thread nD τ).loc main_arg0)) (Place.one_idx _ _)

/-- The block of the own gradient at a grid point. -/
theorem own_at (h : core m = 0#32 ∨ core m = 1#32) (i : grid0.Coords) :
    cc0_transform_1 inb_S1_S1_0 numel1_S1 (tbl m) i = ![if (i 0).val = (core m).toNat then (i 1).val else 0, 0] := by
  have l0 : (i 0).val < 2 := (i 0).isLt
  have l1 : (i 1).val < 16 := (i 1).isLt
  rw [← Place.own_eq h l0 (by omega), ← table]
  rfl

/-- The block of the other gradient at a grid point. -/
theorem oth_at (h : core m = 0#32 ∨ core m = 1#32) (i : grid0.Coords) :
    cc0_transform_2 inb_S1_S1_0 numel1_S1 (tbl m) i = ![if (i 0).val = (core m).toNat then 0 else (i 1).val, 0] := by
  have l0 : (i 0).val < 2 := (i 0).isLt
  have l1 : (i 1).val < 16 := (i 1).isLt
  rw [← Place.oth_eq h l0 (by omega), ← table]
  rfl

/-- Where the word is 0 or 1 every block that it names lies inside its array. -/
theorem ok (h : core m = 0#32 ∨ core m = 1#32) : Ok m := by
  refine ⟨fun i => ⟨fun a => ?_, .inl rfl⟩, fun i => ⟨fun a => ?_, .inl rfl⟩⟩
  all_goals
    have l0 : (i 0).val < 2 := (i 0).isLt
    have l1 : (i 1).val < 16 := (i 1).isLt
  · rw [own_at m h i]
    match a with
    | 0 => show ((if _ then _ else _) + 1) * 64 ≤ 1024; split <;> omega
    | 1 => show (0 + 1) * 2952 ≤ 2952; omega
  · rw [oth_at m h i]
    match a with
    | 0 => show ((if _ then _ else _) + 1) * 64 ≤ 1024; split <;> omega
    | 1 => show (0 + 1) * 2952 ≤ 2952; omega

end Word

variable (m : (ℓ : Loc nD τ sig) → Buf (Elt Ideal) ℓ)

/-- The blocks of the windows that do not depend on the word. -/
theorem idx (hO : Ok m) : ∀ t : Fin (cfgM m hO).N, ((cfgM m hO).win 0).index t = ![t.val / 16, t.val % 16, 0]
    ∧ ((cfgM m hO).win 3).index t = ![t.val / 16, t.val % 16, 0] ∧ ((cfgM m hO).win 4).index t = ![t.val / 16, t.val % 16, 0]
    ∧ ((cfgM m hO).win 5).index t = ![t.val / 16, t.val % 16, 0] ∧ ((cfgM m hO).win 6).index t = ![t.val / 16, t.val % 16, 0]
    ∧ ((cfgM m hO).win 7).index t = ![t.val / 16, t.val % 16, 0] ∧ ((cfgM m hO).win 8).index t = ![t.val / 16, t.val % 16, 0] :=
  (by decide +kernel : ∀ t : Fin grid0.N, cc0_transform_0 (grid0.coords t) = ![t.val / 16, t.val % 16, 0]
    ∧ cc0_transform_3 (grid0.coords t) = ![t.val / 16, t.val % 16, 0] ∧ cc0_transform_4 (grid0.coords t) = ![t.val / 16, t.val % 16, 0]
    ∧ cc0_transform_5 (grid0.coords t) = ![t.val / 16, t.val % 16, 0] ∧ cc0_transform_6 (grid0.coords t) = ![t.val / 16, t.val % 16, 0]
    ∧ cc0_transform_7 (grid0.coords t) = ![t.val / 16, t.val % 16, 0] ∧ cc0_transform_8 (grid0.coords t) = ![t.val / 16, t.val % 16, 0])

/-- The own gradient's block at a point of the core's layer. -/
theorem idx_own (hO : Ok m) (h : core m = 0#32 ∨ core m = 1#32) (t : Fin (cfgM m hO).N) (e : t.val / 16 = (core m).toNat) :
    ((cfgM m hO).win 1).index t = ![t.val % 16, 0] := by
  refine (own_at m h (grid0.coords t)).trans ?_
  rw [(coords t).1, (coords t).2, if_pos e]

/-- The other gradient's block at a point of the other layer. -/
theorem idx_oth (hO : Ok m) (h : core m = 0#32 ∨ core m = 1#32) (t : Fin (cfgM m hO).N) (e : t.val / 16 ≠ (core m).toNat) :
    ((cfgM m hO).win 2).index t = ![t.val % 16, 0] := by
  refine (oth_at m h (grid0.coords t)).trans ?_
  rw [(coords t).1, (coords t).2, if_neg e]

/-- The reference's gradient at an index: the own one at the core's layer, the other one at the other. -/
theorem ref_grad (c : Dev nD) (h : core m = 0#32 ∨ core m = 1#32) (l : Fin 2) (r : Fin 1024) (k : Fin 2952) :
    val_main_v7 (F := Ideal) (m ((c : Thread nD τ).loc main_arg0)) (m ((c : Thread nD τ).loc main_arg2)) (m ((c : Thread nD τ).loc main_arg3)) (ix3 l r k)
      = if l.val = (core m).toNat then m ((c : Thread nD τ).loc main_arg2) (ix2 r k) else m ((c : Thread nD τ).loc main_arg3) (ix2 r k) := by
  obtain rfl : c = 0 := Subsingleton.elim _ _
  have s := Place.select_eq h l.isLt (m (((0 : Dev nD) : Thread nD τ).loc main_arg2) (ix2 r k)) (m (((0 : Dev nD) : Thread nD τ).loc main_arg3) (ix2 r k))
  rw [← s]
  pointwise [val_main_v0, val_main_v1, val_main_v2, val_main_v3, val_main_v4, val_main_v5, val_main_v6, val_main_v7, val_main_call0_v0, val_main_call0_v1, val_main_call0_v2, core]
  rfl

/-- What the body chooses at a block index, between its two blocks. -/
theorem pay4_at (i : grid0.Coords) {w : BitVec 32} (h : w = 0#32 ∨ w = 1#32) (x y : Vec Ideal S64x2952 .f32) (a : Fin 64) (b : Fin 2952) :
    k0_pay4 (F := Ideal) i w x y (ix2 a b) = if (i 0).val = w.toNat then x (ix2 a b) else y (ix2 a b) := by
  have l0 : (i 0).val < 2 := (i 0).isLt
  unfold k0_pay4
  dsimp only
  rw [Place.select_eq h l0]
  split <;> rfl

/-- The gradient that the body chooses at a block index is the reference's at the array index there. -/
theorem grad (hO : Ok m) (h : core m = 0#32 ∨ core m = 1#32) (c : Dev nD) (t : Fin (cfgM m hO).N) (a : Fin 64) (b : Fin 2952)
    (l : Fin 2) (r : Fin 1024) (hl : l.val = t.val / 16) (hr : r.val = 64 * (t.val % 16) + a.val) :
    k0_pay4 (F := Ideal) (grid0.coords t) (core m) (iblk m hO c 1 t) (iblk m hO c 2 t) (ix2 a b)
      = val_main_v7 (F := Ideal) (m ((c : Thread nD τ).loc main_arg0)) (m ((c : Thread nD τ).loc main_arg2)) (m ((c : Thread nD τ).loc main_arg3)) (ix3 l r b) := by
  have ht : t.val < 32 := lt_of_lt_of_eq t.isLt N_0
  rw [ref_grad m c h]
  refine (pay4_at _ h _ _ a b).trans ?_
  rw [(coords t).1, hl]
  by_cases e : t.val / 16 = (core m).toNat
  · refine (if_pos e).trans (Eq.trans ?_ (if_pos e).symm)
    have ix := idx_own m hO h t e
    blk_point [iblk, V, ix]
  · refine (if_neg e).trans (Eq.trans ?_ (if_neg e).symm)
    have ix := idx_oth m hO h t e
    blk_point [iblk, V, ix]

/-- At a block index of a point the body's value of the gradient of both layers is the reference's at the array index there. -/
theorem point5 (hO : Ok m) (h : core m = 0#32 ∨ core m = 1#32) (c : Dev nD) (t : Fin (cfgM m hO).N) (y : S1x64x2952.Idx) :
    k0_pay7 (F := Ideal) (grid0.coords t) (core m) (iblk m hO c 1 t) (iblk m hO c 2 t) y
      = val_main_v7 (F := Ideal) (m ((c : Thread nD τ).loc main_arg0)) (m ((c : Thread nD τ).loc main_arg2)) (m ((c : Thread nD τ).loc main_arg3)) ((((cfgM m hO).win 5).blk t).view.emb y) := by
  have ht : t.val < 32 := lt_of_lt_of_eq t.isLt N_0
  obtain_idx j : S2x1024x2952 := [t.val / 16, 64 * (t.val % 16) + (y 1).val, (y 2).val] with hj
  have hj' : (((cfgM m hO).win 5).blk t).view.emb y = j := by blk_ext [idx m hO t]
  rw [hj']
  idx_vars j
  idx_vars y
  pointwise [k0_pay7] at hj0 hj1 hj2 ⊢
  obtain rfl : j2 = y2 := Fin.ext hj2
  have g := grad m hO h c t y1 j2 j0 j1 (by omega) (by omega)
  exact g

/-- After the run the array holds the gradient of both layers. -/
theorem final5 (hO : Ok m) (h : core m = 0#32 ∨ core m = 1#32) (c : Dev nD) : (dats m hO 0 c).arrAt 5 (cfgM m hO).N
    = val_main_v7 (F := Ideal) (m ((c : Thread nD τ).loc main_arg0)) (m ((c : Thread nD τ).loc main_arg2)) (m ((c : Thread nD τ).loc main_arg3)) := by
  refine (dats m hO 0 c).arrAt_eq_of_covers 5 _ (of_decide_eq_true (by sl_kernel_rfl)) fun t _ y => ?_
  blk_simp
  rw [after0_5]; unfold outsAt0; dsimp only; frame_out
  exact (congrFun (congr (congr (congrArg (k0_pay7 (F := Ideal) (grid0.coords t)) (read_word m _)) (Memref.IsWhole.read_unread _ _)) (Memref.IsWhole.read_unread _ _)) y).trans (point5 m hO h c t y)

/-- At a block index of a point the body's value of the first moments is the reference's at the array index there. -/
theorem point7 (hO : Ok m) (h : core m = 0#32 ∨ core m = 1#32) (c : Dev nD) (t : Fin (cfgM m hO).N) (y : S1x64x2952.Idx) :
    k0_pay2 (F := Ideal) (k0_pay5 (F := Ideal) (grid0.coords t) (core m) (iblk m hO c 1 t) (iblk m hO c 2 t) (iblk m hO c 3 t)) y
      = val_main_v12 (F := Ideal) (m ((c : Thread nD τ).loc main_arg0)) (m ((c : Thread nD τ).loc main_arg2)) (m ((c : Thread nD τ).loc main_arg3)) (m ((c : Thread nD τ).loc main_arg4)) ((((cfgM m hO).win 7).blk t).view.emb y) := by
  have ht : t.val < 32 := lt_of_lt_of_eq t.isLt N_0
  obtain_idx j : S2x1024x2952 := [t.val / 16, 64 * (t.val % 16) + (y 1).val, (y 2).val] with hj
  have hj' : (((cfgM m hO).win 7).blk t).view.emb y = j := by blk_ext [idx m hO t]
  rw [hj']
  idx_vars j
  idx_vars y
  pointwise [k0_pay2, k0_pay5, val_main_v8, val_main_v9, val_main_v10, val_main_v11, val_main_v12, val_main_cst, val_main_cst_0] at hj0 hj1 hj2 ⊢
  obtain rfl : j2 = y2 := Fin.ext hj2
  have g := grad m hO h c t y1 j2 j0 j1 (by omega) (by omega)
  rw [g]
  blk_point [iblk, V, idx m hO t]

/-- After the run the array holds the first moments. -/
theorem final7 (hO : Ok m) (h : core m = 0#32 ∨ core m = 1#32) (c : Dev nD) : (dats m hO 0 c).arrAt 7 (cfgM m hO).N
    = val_main_v12 (F := Ideal) (m ((c : Thread nD τ).loc main_arg0)) (m ((c : Thread nD τ).loc main_arg2)) (m ((c : Thread nD τ).loc main_arg3)) (m ((c : Thread nD τ).loc main_arg4)) := by
  refine (dats m hO 0 c).arrAt_eq_of_covers 7 _ (of_decide_eq_true (by sl_kernel_rfl)) fun t _ y => ?_
  blk_simp
  rw [after0_7]; unfold outsAt0; dsimp only; frame_out
  exact (congrFun (congrArg (k0_pay2 (F := Ideal)) (congr (congr (congr (congrArg (k0_pay5 (F := Ideal) (grid0.coords t)) (read_word m _)) (Memref.IsWhole.read_unread _ _)) (Memref.IsWhole.read_unread _ _)) (Memref.IsWhole.read_unread _ _))) y).trans (point7 m hO h c t y)

/-- At a block index of a point the body's value of the second moments is the reference's at the array index there. -/
theorem point8 (hO : Ok m) (h : core m = 0#32 ∨ core m = 1#32) (c : Dev nD) (t : Fin (cfgM m hO).N) (y : S1x64x2952.Idx) :
    k0_pay3 (F := Ideal) (k0_pay6 (F := Ideal) (grid0.coords t) (core m) (iblk m hO c 1 t) (iblk m hO c 2 t) (iblk m hO c 4 t)) y
      = val_main_v18 (F := Ideal) (m ((c : Thread nD τ).loc main_arg0)) (m ((c : Thread nD τ).loc main_arg2)) (m ((c : Thread nD τ).loc main_arg3)) (m ((c : Thread nD τ).loc main_arg5)) ((((cfgM m hO).win 8).blk t).view.emb y) := by
  have ht : t.val < 32 := lt_of_lt_of_eq t.isLt N_0
  obtain_idx j : S2x1024x2952 := [t.val / 16, 64 * (t.val % 16) + (y 1).val, (y 2).val] with hj
  have hj' : (((cfgM m hO).win 8).blk t).view.emb y = j := by blk_ext [idx m hO t]
  rw [hj']
  idx_vars j
  idx_vars y
  pointwise [k0_pay3, k0_pay6, val_main_v13, val_main_v14, val_main_v15, val_main_v16, val_main_v17, val_main_v18, val_main_cst_1, val_main_cst_2] at hj0 hj1 hj2 ⊢
  obtain rfl : j2 = y2 := Fin.ext hj2
  have g := grad m hO h c t y1 j2 j0 j1 (by omega) (by omega)
  rw [g]
  blk_point [iblk, V, idx m hO t]

/-- After the run the array holds the second moments. -/
theorem final8 (hO : Ok m) (h : core m = 0#32 ∨ core m = 1#32) (c : Dev nD) : (dats m hO 0 c).arrAt 8 (cfgM m hO).N
    = val_main_v18 (F := Ideal) (m ((c : Thread nD τ).loc main_arg0)) (m ((c : Thread nD τ).loc main_arg2)) (m ((c : Thread nD τ).loc main_arg3)) (m ((c : Thread nD τ).loc main_arg5)) := by
  refine (dats m hO 0 c).arrAt_eq_of_covers 8 _ (of_decide_eq_true (by sl_kernel_rfl)) fun t _ y => ?_
  blk_simp
  rw [after0_8]; unfold outsAt0; dsimp only; frame_out
  exact (congrFun (congrArg (k0_pay3 (F := Ideal)) (congr (congr (congr (congrArg (k0_pay6 (F := Ideal) (grid0.coords t)) (read_word m _)) (Memref.IsWhole.read_unread _ _)) (Memref.IsWhole.read_unread _ _)) (Memref.IsWhole.read_unread _ _))) y).trans (point8 m hO h c t y)

/-- At a block index of a point the body's value of the weights' change is the reference's at the array index there. -/
theorem point6 (hO : Ok m) (h : core m = 0#32 ∨ core m = 1#32) (c : Dev nD) (t : Fin (cfgM m hO).N) (y : S1x64x2952.Idx) :
    k0_pay1 (F := Ideal) (k0_pay8 (F := Ideal) (grid0.coords t) (core m) (iblk m hO c 1 t) (iblk m hO c 2 t) (iblk m hO c 3 t) (iblk m hO c 4 t)) (k0_pay9 (iblk m hO c 0 t)) y
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 6).blk t).view.emb y) := by
  have ht : t.val < 32 := lt_of_lt_of_eq t.isLt N_0
  obtain_idx j : S2x1024x2952 := [t.val / 16, 64 * (t.val % 16) + (y 1).val, (y 2).val] with hj
  have hj' : (((cfgM m hO).win 6).blk t).view.emb y = j := by blk_ext [idx m hO t]
  rw [hj']
  idx_vars j
  idx_vars y
  pointwise [k0_pay1, k0_pay8, k0_pay9, k0_pay5, k0_pay6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, val_main_cst_5, val_main_cst_6, val_main_cst_7] at hj0 hj1 hj2 ⊢
  obtain rfl : j2 = y2 := Fin.ext hj2
  have g := grad m hO h c t y1 j2 j0 j1 (by omega) (by omega)
  rw [g]
  blk_point [iblk, V, idx m hO t]

/-- After the run the array holds the weights' change. -/
theorem final6 (hO : Ok m) (h : core m = 0#32 ∨ core m = 1#32) (c : Dev nD) : (dats m hO 0 c).arrAt 6 (cfgM m hO).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]; unfold outsAt0; dsimp only; frame_out
  exact (congrFun (congr (congrArg (k0_pay1 (F := Ideal)) (congr (congr (congr (congr (congrArg (k0_pay8 (F := Ideal) (grid0.coords t)) (read_word m _)) (Memref.IsWhole.read_unread _ _)) (Memref.IsWhole.read_unread _ _)) (Memref.IsWhole.read_unread _ _)) (Memref.IsWhole.read_unread _ _))) (congrArg (k0_pay9 (F := Ideal)) (Memref.IsWhole.read_unread _ _))) y).trans (point6 m hO h c t y)

end Cert.AdamwWInIdeal.Final

end
-- ==== Proof.AdamwWOutValue.lean ====
/-
  The AdamW step of the two layers' w_out: the arrays that the call returns are the gradient of both layers, the weights'
  change and the two moments, as the plain lines of the optimiser compute them, on either core.
-/
module

public import proofs.«01_k».proof.Proof.Place
public import proofs.«01_k».proof.Proof.Gen.AdamwWOutIdeal.Frame
public import proofs.«01_k».proof.Proof.Gen.AdamwWOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwWOutIdeal.Final

open Cert.AdamwWOutIdeal Cert.AdamwWOutIdeal.Gen Cert.AdamwWOutRefIdeal.Read

section Word

variable {F : FTy → Type} [FloatOps F] (m : (ℓ : Loc nD τ sig) → Buf (Elt F) ℓ)

/-- The word that names this device's core. -/
def core : BitVec 32 := m (((0 : Dev nD) : Thread nD τ).loc main_arg0) (ix1 (n0 := 1) 0)

/-- The grid's points go through the row blocks of layer 0, then of layer 1. -/
theorem coords : ∀ t : Fin grid0.N, (grid0.coords t 0).val = t.val / 2 ∧ (grid0.coords t 1).val = t.val % 2 := by decide +kernel

/-- What a load of the table's one word reads. -/
theorem table : (tbl m).at 0 (Rect.unit (s := S1) ![0] S1.size inb_S1_S1_0) numel1_S1 = core m :=
  congrArg (m (((0 : Dev nD) : Thread nD τ).loc main_arg0)) (Place.one_idx _ _)

/-- What the body reads at the table's one word. -/
theorem read_word (h) : View.readAt (Elt F) (View.whole main_arg0) (Rect.unit ![0] ![1] inb_S1_S1_0).toLoadRect (tbl m 0) (Shape.Idx.first h) = core m :=
  congrArg (m (((0 : Dev nD) : Thread nD τ).loc main_arg0)) (Place.one_idx _ _)

/-- The block of the own gradient at a grid point. -/
theorem own_at (h : core m = 0#32 ∨ core m = 1#32) (i : grid0.Coords) :
    cc0_transform_1 inb_S1_S1_0 numel1_S1 (tbl m) i = ![if (i 0).val = (core m).toNat then (i 1).val else 0, 0] := by
  have l0 : (i 0).val < 2 := (i 0).isLt
  have l1 : (i 1).val < 2 := (i 1).isLt
  rw [← Place.own_eq h l0 (by omega), ← table]
  rfl

/-- The block of the other gradient at a grid point. -/
theorem oth_at (h : core m = 0#32 ∨ core m = 1#32) (i : grid0.Coords) :
    cc0_transform_2 inb_S1_S1_0 numel1_S1 (tbl m) i = ![if (i 0).val = (core m).toNat then 0 else (i 1).val, 0] := by
  have l0 : (i 0).val < 2 := (i 0).isLt
  have l1 : (i 1).val < 2 := (i 1).isLt
  rw [← Place.oth_eq h l0 (by omega), ← table]
  rfl

/-- Where the word is 0 or 1 every block that it names lies inside its array. -/
theorem ok (h : core m = 0#32 ∨ core m = 1#32) : Ok m := by
  refine ⟨fun i => ⟨fun a => ?_, .inl rfl⟩, fun i => ⟨fun a => ?_, .inl rfl⟩⟩
  all_goals
    have l0 : (i 0).val < 2 := (i 0).isLt
    have l1 : (i 1).val < 2 := (i 1).isLt
  · rw [own_at m h i]
    match a with
    | 0 => show ((if _ then _ else _) + 1) * 128 ≤ 256; split <;> omega
    | 1 => show (0 + 1) * 1024 ≤ 1024; omega
  · rw [oth_at m h i]
    match a with
    | 0 => show ((if _ then _ else _) + 1) * 128 ≤ 256; split <;> omega
    | 1 => show (0 + 1) * 1024 ≤ 1024; omega

end Word

variable (m : (ℓ : Loc nD τ sig) → Buf (Elt Ideal) ℓ)

/-- The blocks of the windows that do not depend on the word. -/
theorem idx (hO : Ok m) : ∀ t : Fin (cfgM m hO).N, ((cfgM m hO).win 0).index t = ![t.val / 2, t.val % 2, 0]
    ∧ ((cfgM m hO).win 3).index t = ![t.val / 2, t.val % 2, 0] ∧ ((cfgM m hO).win 4).index t = ![t.val / 2, t.val % 2, 0]
    ∧ ((cfgM m hO).win 5).index t = ![t.val / 2, t.val % 2, 0] ∧ ((cfgM m hO).win 6).index t = ![t.val / 2, t.val % 2, 0]
    ∧ ((cfgM m hO).win 7).index t = ![t.val / 2, t.val % 2, 0] ∧ ((cfgM m hO).win 8).index t = ![t.val / 2, t.val % 2, 0] :=
  (by decide +kernel : ∀ t : Fin grid0.N, cc0_transform_0 (grid0.coords t) = ![t.val / 2, t.val % 2, 0]
    ∧ cc0_transform_3 (grid0.coords t) = ![t.val / 2, t.val % 2, 0] ∧ cc0_transform_4 (grid0.coords t) = ![t.val / 2, t.val % 2, 0]
    ∧ cc0_transform_5 (grid0.coords t) = ![t.val / 2, t.val % 2, 0] ∧ cc0_transform_6 (grid0.coords t) = ![t.val / 2, t.val % 2, 0]
    ∧ cc0_transform_7 (grid0.coords t) = ![t.val / 2, t.val % 2, 0] ∧ cc0_transform_8 (grid0.coords t) = ![t.val / 2, t.val % 2, 0])

/-- The own gradient's block at a point of the core's layer. -/
theorem idx_own (hO : Ok m) (h : core m = 0#32 ∨ core m = 1#32) (t : Fin (cfgM m hO).N) (e : t.val / 2 = (core m).toNat) :
    ((cfgM m hO).win 1).index t = ![t.val % 2, 0] := by
  refine (own_at m h (grid0.coords t)).trans ?_
  rw [(coords t).1, (coords t).2, if_pos e]

/-- The other gradient's block at a point of the other layer. -/
theorem idx_oth (hO : Ok m) (h : core m = 0#32 ∨ core m = 1#32) (t : Fin (cfgM m hO).N) (e : t.val / 2 ≠ (core m).toNat) :
    ((cfgM m hO).win 2).index t = ![t.val % 2, 0] := by
  refine (oth_at m h (grid0.coords t)).trans ?_
  rw [(coords t).1, (coords t).2, if_neg e]

/-- The reference's gradient at an index: the own one at the core's layer, the other one at the other. -/
theorem ref_grad (c : Dev nD) (h : core m = 0#32 ∨ core m = 1#32) (l : Fin 2) (r : Fin 256) (k : Fin 1024) :
    val_main_v7 (F := Ideal) (m ((c : Thread nD τ).loc main_arg0)) (m ((c : Thread nD τ).loc main_arg2)) (m ((c : Thread nD τ).loc main_arg3)) (ix3 l r k)
      = if l.val = (core m).toNat then m ((c : Thread nD τ).loc main_arg2) (ix2 r k) else m ((c : Thread nD τ).loc main_arg3) (ix2 r k) := by
  obtain rfl : c = 0 := Subsingleton.elim _ _
  have s := Place.select_eq h l.isLt (m (((0 : Dev nD) : Thread nD τ).loc main_arg2) (ix2 r k)) (m (((0 : Dev nD) : Thread nD τ).loc main_arg3) (ix2 r k))
  rw [← s]
  pointwise [val_main_v0, val_main_v1, val_main_v2, val_main_v3, val_main_v4, val_main_v5, val_main_v6, val_main_v7, val_main_call0_v0, val_main_call0_v1, val_main_call0_v2, core]
  rfl

/-- What the body chooses at a block index, between its two blocks. -/
theorem pay4_at (i : grid0.Coords) {w : BitVec 32} (h : w = 0#32 ∨ w = 1#32) (x y : Vec Ideal S128x1024 .f32) (a : Fin 128) (b : Fin 1024) :
    k0_pay4 (F := Ideal) i w x y (ix2 a b) = if (i 0).val = w.toNat then x (ix2 a b) else y (ix2 a b) := by
  have l0 : (i 0).val < 2 := (i 0).isLt
  unfold k0_pay4
  dsimp only
  rw [Place.select_eq h l0]
  split <;> rfl

/-- The gradient that the body chooses at a block index is the reference's at the array index there. -/
theorem grad (hO : Ok m) (h : core m = 0#32 ∨ core m = 1#32) (c : Dev nD) (t : Fin (cfgM m hO).N) (a : Fin 128) (b : Fin 1024)
    (l : Fin 2) (r : Fin 256) (hl : l.val = t.val / 2) (hr : r.val = 128 * (t.val % 2) + a.val) :
    k0_pay4 (F := Ideal) (grid0.coords t) (core m) (iblk m hO c 1 t) (iblk m hO c 2 t) (ix2 a b)
      = val_main_v7 (F := Ideal) (m ((c : Thread nD τ).loc main_arg0)) (m ((c : Thread nD τ).loc main_arg2)) (m ((c : Thread nD τ).loc main_arg3)) (ix3 l r b) := by
  have ht : t.val < 4 := lt_of_lt_of_eq t.isLt N_0
  rw [ref_grad m c h]
  refine (pay4_at _ h _ _ a b).trans ?_
  rw [(coords t).1, hl]
  by_cases e : t.val / 2 = (core m).toNat
  · refine (if_pos e).trans (Eq.trans ?_ (if_pos e).symm)
    have ix := idx_own m hO h t e
    blk_point [iblk, V, ix]
  · refine (if_neg e).trans (Eq.trans ?_ (if_neg e).symm)
    have ix := idx_oth m hO h t e
    blk_point [iblk, V, ix]

/-- At a block index of a point the body's value of the gradient of both layers is the reference's at the array index there. -/
theorem point5 (hO : Ok m) (h : core m = 0#32 ∨ core m = 1#32) (c : Dev nD) (t : Fin (cfgM m hO).N) (y : S1x128x1024.Idx) :
    k0_pay7 (F := Ideal) (grid0.coords t) (core m) (iblk m hO c 1 t) (iblk m hO c 2 t) y
      = val_main_v7 (F := Ideal) (m ((c : Thread nD τ).loc main_arg0)) (m ((c : Thread nD τ).loc main_arg2)) (m ((c : Thread nD τ).loc main_arg3)) ((((cfgM m hO).win 5).blk t).view.emb y) := by
  have ht : t.val < 4 := lt_of_lt_of_eq t.isLt N_0
  obtain_idx j : S2x256x1024 := [t.val / 2, 128 * (t.val % 2) + (y 1).val, (y 2).val] with hj
  have hj' : (((cfgM m hO).win 5).blk t).view.emb y = j := by blk_ext [idx m hO t]
  rw [hj']
  idx_vars j
  idx_vars y
  pointwise [k0_pay7] at hj0 hj1 hj2 ⊢
  obtain rfl : j2 = y2 := Fin.ext hj2
  have g := grad m hO h c t y1 j2 j0 j1 (by omega) (by omega)
  exact g

/-- After the run the array holds the gradient of both layers. -/
theorem final5 (hO : Ok m) (h : core m = 0#32 ∨ core m = 1#32) (c : Dev nD) : (dats m hO 0 c).arrAt 5 (cfgM m hO).N
    = val_main_v7 (F := Ideal) (m ((c : Thread nD τ).loc main_arg0)) (m ((c : Thread nD τ).loc main_arg2)) (m ((c : Thread nD τ).loc main_arg3)) := by
  refine (dats m hO 0 c).arrAt_eq_of_covers 5 _ (of_decide_eq_true (by sl_kernel_rfl)) fun t _ y => ?_
  blk_simp
  rw [after0_5]; unfold outsAt0; dsimp only; frame_out
  exact (congrFun (congr (congr (congrArg (k0_pay7 (F := Ideal) (grid0.coords t)) (read_word m _)) (Memref.IsWhole.read_unread _ _)) (Memref.IsWhole.read_unread _ _)) y).trans (point5 m hO h c t y)

/-- At a block index of a point the body's value of the first moments is the reference's at the array index there. -/
theorem point7 (hO : Ok m) (h : core m = 0#32 ∨ core m = 1#32) (c : Dev nD) (t : Fin (cfgM m hO).N) (y : S1x128x1024.Idx) :
    k0_pay2 (F := Ideal) (k0_pay5 (F := Ideal) (grid0.coords t) (core m) (iblk m hO c 1 t) (iblk m hO c 2 t) (iblk m hO c 3 t)) y
      = val_main_v12 (F := Ideal) (m ((c : Thread nD τ).loc main_arg0)) (m ((c : Thread nD τ).loc main_arg2)) (m ((c : Thread nD τ).loc main_arg3)) (m ((c : Thread nD τ).loc main_arg4)) ((((cfgM m hO).win 7).blk t).view.emb y) := by
  have ht : t.val < 4 := lt_of_lt_of_eq t.isLt N_0
  obtain_idx j : S2x256x1024 := [t.val / 2, 128 * (t.val % 2) + (y 1).val, (y 2).val] with hj
  have hj' : (((cfgM m hO).win 7).blk t).view.emb y = j := by blk_ext [idx m hO t]
  rw [hj']
  idx_vars j
  idx_vars y
  pointwise [k0_pay2, k0_pay5, val_main_v8, val_main_v9, val_main_v10, val_main_v11, val_main_v12, val_main_cst, val_main_cst_0] at hj0 hj1 hj2 ⊢
  obtain rfl : j2 = y2 := Fin.ext hj2
  have g := grad m hO h c t y1 j2 j0 j1 (by omega) (by omega)
  rw [g]
  blk_point [iblk, V, idx m hO t]

/-- After the run the array holds the first moments. -/
theorem final7 (hO : Ok m) (h : core m = 0#32 ∨ core m = 1#32) (c : Dev nD) : (dats m hO 0 c).arrAt 7 (cfgM m hO).N
    = val_main_v12 (F := Ideal) (m ((c : Thread nD τ).loc main_arg0)) (m ((c : Thread nD τ).loc main_arg2)) (m ((c : Thread nD τ).loc main_arg3)) (m ((c : Thread nD τ).loc main_arg4)) := by
  refine (dats m hO 0 c).arrAt_eq_of_covers 7 _ (of_decide_eq_true (by sl_kernel_rfl)) fun t _ y => ?_
  blk_simp
  rw [after0_7]; unfold outsAt0; dsimp only; frame_out
  exact (congrFun (congrArg (k0_pay2 (F := Ideal)) (congr (congr (congr (congrArg (k0_pay5 (F := Ideal) (grid0.coords t)) (read_word m _)) (Memref.IsWhole.read_unread _ _)) (Memref.IsWhole.read_unread _ _)) (Memref.IsWhole.read_unread _ _))) y).trans (point7 m hO h c t y)

/-- At a block index of a point the body's value of the second moments is the reference's at the array index there. -/
theorem point8 (hO : Ok m) (h : core m = 0#32 ∨ core m = 1#32) (c : Dev nD) (t : Fin (cfgM m hO).N) (y : S1x128x1024.Idx) :
    k0_pay3 (F := Ideal) (k0_pay6 (F := Ideal) (grid0.coords t) (core m) (iblk m hO c 1 t) (iblk m hO c 2 t) (iblk m hO c 4 t)) y
      = val_main_v18 (F := Ideal) (m ((c : Thread nD τ).loc main_arg0)) (m ((c : Thread nD τ).loc main_arg2)) (m ((c : Thread nD τ).loc main_arg3)) (m ((c : Thread nD τ).loc main_arg5)) ((((cfgM m hO).win 8).blk t).view.emb y) := by
  have ht : t.val < 4 := lt_of_lt_of_eq t.isLt N_0
  obtain_idx j : S2x256x1024 := [t.val / 2, 128 * (t.val % 2) + (y 1).val, (y 2).val] with hj
  have hj' : (((cfgM m hO).win 8).blk t).view.emb y = j := by blk_ext [idx m hO t]
  rw [hj']
  idx_vars j
  idx_vars y
  pointwise [k0_pay3, k0_pay6, val_main_v13, val_main_v14, val_main_v15, val_main_v16, val_main_v17, val_main_v18, val_main_cst_1, val_main_cst_2] at hj0 hj1 hj2 ⊢
  obtain rfl : j2 = y2 := Fin.ext hj2
  have g := grad m hO h c t y1 j2 j0 j1 (by omega) (by omega)
  rw [g]
  blk_point [iblk, V, idx m hO t]

/-- After the run the array holds the second moments. -/
theorem final8 (hO : Ok m) (h : core m = 0#32 ∨ core m = 1#32) (c : Dev nD) : (dats m hO 0 c).arrAt 8 (cfgM m hO).N
    = val_main_v18 (F := Ideal) (m ((c : Thread nD τ).loc main_arg0)) (m ((c : Thread nD τ).loc main_arg2)) (m ((c : Thread nD τ).loc main_arg3)) (m ((c : Thread nD τ).loc main_arg5)) := by
  refine (dats m hO 0 c).arrAt_eq_of_covers 8 _ (of_decide_eq_true (by sl_kernel_rfl)) fun t _ y => ?_
  blk_simp
  rw [after0_8]; unfold outsAt0; dsimp only; frame_out
  exact (congrFun (congrArg (k0_pay3 (F := Ideal)) (congr (congr (congr (congrArg (k0_pay6 (F := Ideal) (grid0.coords t)) (read_word m _)) (Memref.IsWhole.read_unread _ _)) (Memref.IsWhole.read_unread _ _)) (Memref.IsWhole.read_unread _ _))) y).trans (point8 m hO h c t y)

/-- At a block index of a point the body's value of the weights' change is the reference's at the array index there. -/
theorem point6 (hO : Ok m) (h : core m = 0#32 ∨ core m = 1#32) (c : Dev nD) (t : Fin (cfgM m hO).N) (y : S1x128x1024.Idx) :
    k0_pay1 (F := Ideal) (k0_pay8 (F := Ideal) (grid0.coords t) (core m) (iblk m hO c 1 t) (iblk m hO c 2 t) (iblk m hO c 3 t) (iblk m hO c 4 t)) (k0_pay9 (iblk m hO c 0 t)) y
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 6).blk t).view.emb y) := by
  have ht : t.val < 4 := lt_of_lt_of_eq t.isLt N_0
  obtain_idx j : S2x256x1024 := [t.val / 2, 128 * (t.val % 2) + (y 1).val, (y 2).val] with hj
  have hj' : (((cfgM m hO).win 6).blk t).view.emb y = j := by blk_ext [idx m hO t]
  rw [hj']
  idx_vars j
  idx_vars y
  pointwise [k0_pay1, k0_pay8, k0_pay9, k0_pay5, k0_pay6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, val_main_cst_5, val_main_cst_6, val_main_cst_7] at hj0 hj1 hj2 ⊢
  obtain rfl : j2 = y2 := Fin.ext hj2
  have g := grad m hO h c t y1 j2 j0 j1 (by omega) (by omega)
  rw [g]
  blk_point [iblk, V, idx m hO t]

/-- After the run the array holds the weights' change. -/
theorem final6 (hO : Ok m) (h : core m = 0#32 ∨ core m = 1#32) (c : Dev nD) : (dats m hO 0 c).arrAt 6 (cfgM m hO).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]; unfold outsAt0; dsimp only; frame_out
  exact (congrFun (congr (congrArg (k0_pay1 (F := Ideal)) (congr (congr (congr (congr (congrArg (k0_pay8 (F := Ideal) (grid0.coords t)) (read_word m _)) (Memref.IsWhole.read_unread _ _)) (Memref.IsWhole.read_unread _ _)) (Memref.IsWhole.read_unread _ _)) (Memref.IsWhole.read_unread _ _))) (congrArg (k0_pay9 (F := Ideal)) (Memref.IsWhole.read_unread _ _))) y).trans (point6 m hO h c t y)

end Cert.AdamwWOutIdeal.Final

end
-- ==== Proof.AdamwWSsmBranchValue.lean ====
/-
  The AdamW step of the two layers' w_ssm_branch: the arrays that the call returns are the gradient of both layers, the weights'
  change and the two moments, as the plain lines of the optimiser compute them, on either core.
-/
module

public import proofs.«01_k».proof.Proof.Place
public import proofs.«01_k».proof.Proof.Gen.AdamwWSsmBranchIdeal.Frame
public import proofs.«01_k».proof.Proof.Gen.AdamwWSsmBranchRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwWSsmBranchIdeal.Final

open Cert.AdamwWSsmBranchIdeal Cert.AdamwWSsmBranchIdeal.Gen Cert.AdamwWSsmBranchRefIdeal.Read

section Word

variable {F : FTy → Type} [FloatOps F] (m : (ℓ : Loc nD τ sig) → Buf (Elt F) ℓ)

/-- The word that names this device's core. -/
def core : BitVec 32 := m (((0 : Dev nD) : Thread nD τ).loc main_arg0) (ix1 (n0 := 1) 0)

/-- The grid's points go through the row blocks of layer 0, then of layer 1. -/
theorem coords : ∀ t : Fin grid0.N, (grid0.coords t 0).val = t.val / 4 ∧ (grid0.coords t 1).val = t.val % 4 := by decide +kernel

/-- What a load of the table's one word reads. -/
theorem table : (tbl m).at 0 (Rect.unit (s := S1) ![0] S1.size inb_S1_S1_0) numel1_S1 = core m :=
  congrArg (m (((0 : Dev nD) : Thread nD τ).loc main_arg0)) (Place.one_idx _ _)

/-- What the body reads at the table's one word. -/
theorem read_word (h) : View.readAt (Elt F) (View.whole main_arg0) (Rect.unit ![0] ![1] inb_S1_S1_0).toLoadRect (tbl m 0) (Shape.Idx.first h) = core m :=
  congrArg (m (((0 : Dev nD) : Thread nD τ).loc main_arg0)) (Place.one_idx _ _)

/-- The block of the own gradient at a grid point. -/
theorem own_at (h : core m = 0#32 ∨ core m = 1#32) (i : grid0.Coords) :
    cc0_transform_1 inb_S1_S1_0 numel1_S1 (tbl m) i = ![if (i 0).val = (core m).toNat then (i 1).val else 0, 0] := by
  have l0 : (i 0).val < 2 := (i 0).isLt
  have l1 : (i 1).val < 4 := (i 1).isLt
  rw [← Place.own_eq h l0 (by omega), ← table]
  rfl

/-- The block of the other gradient at a grid point. -/
theorem oth_at (h : core m = 0#32 ∨ core m = 1#32) (i : grid0.Coords) :
    cc0_transform_2 inb_S1_S1_0 numel1_S1 (tbl m) i = ![if (i 0).val = (core m).toNat then 0 else (i 1).val, 0] := by
  have l0 : (i 0).val < 2 := (i 0).isLt
  have l1 : (i 1).val < 4 := (i 1).isLt
  rw [← Place.oth_eq h l0 (by omega), ← table]
  rfl

/-- Where the word is 0 or 1 every block that it names lies inside its array. -/
theorem ok (h : core m = 0#32 ∨ core m = 1#32) : Ok m := by
  refine ⟨fun i => ⟨fun a => ?_, .inl rfl⟩, fun i => ⟨fun a => ?_, .inl rfl⟩⟩
  all_goals
    have l0 : (i 0).val < 2 := (i 0).isLt
    have l1 : (i 1).val < 4 := (i 1).isLt
  · rw [own_at m h i]
    match a with
    | 0 => show ((if _ then _ else _) + 1) * 128 ≤ 512; split <;> omega
    | 1 => show (0 + 1) * 1024 ≤ 1024; omega
  · rw [oth_at m h i]
    match a with
    | 0 => show ((if _ then _ else _) + 1) * 128 ≤ 512; split <;> omega
    | 1 => show (0 + 1) * 1024 ≤ 1024; omega

end Word

variable (m : (ℓ : Loc nD τ sig) → Buf (Elt Ideal) ℓ)

/-- The blocks of the windows that do not depend on the word. -/
theorem idx (hO : Ok m) : ∀ t : Fin (cfgM m hO).N, ((cfgM m hO).win 0).index t = ![t.val / 4, t.val % 4, 0]
    ∧ ((cfgM m hO).win 3).index t = ![t.val / 4, t.val % 4, 0] ∧ ((cfgM m hO).win 4).index t = ![t.val / 4, t.val % 4, 0]
    ∧ ((cfgM m hO).win 5).index t = ![t.val / 4, t.val % 4, 0] ∧ ((cfgM m hO).win 6).index t = ![t.val / 4, t.val % 4, 0]
    ∧ ((cfgM m hO).win 7).index t = ![t.val / 4, t.val % 4, 0] ∧ ((cfgM m hO).win 8).index t = ![t.val / 4, t.val % 4, 0] :=
  (by decide +kernel : ∀ t : Fin grid0.N, cc0_transform_0 (grid0.coords t) = ![t.val / 4, t.val % 4, 0]
    ∧ cc0_transform_3 (grid0.coords t) = ![t.val / 4, t.val % 4, 0] ∧ cc0_transform_4 (grid0.coords t) = ![t.val / 4, t.val % 4, 0]
    ∧ cc0_transform_5 (grid0.coords t) = ![t.val / 4, t.val % 4, 0] ∧ cc0_transform_6 (grid0.coords t) = ![t.val / 4, t.val % 4, 0]
    ∧ cc0_transform_7 (grid0.coords t) = ![t.val / 4, t.val % 4, 0] ∧ cc0_transform_8 (grid0.coords t) = ![t.val / 4, t.val % 4, 0])

/-- The own gradient's block at a point of the core's layer. -/
theorem idx_own (hO : Ok m) (h : core m = 0#32 ∨ core m = 1#32) (t : Fin (cfgM m hO).N) (e : t.val / 4 = (core m).toNat) :
    ((cfgM m hO).win 1).index t = ![t.val % 4, 0] := by
  refine (own_at m h (grid0.coords t)).trans ?_
  rw [(coords t).1, (coords t).2, if_pos e]

/-- The other gradient's block at a point of the other layer. -/
theorem idx_oth (hO : Ok m) (h : core m = 0#32 ∨ core m = 1#32) (t : Fin (cfgM m hO).N) (e : t.val / 4 ≠ (core m).toNat) :
    ((cfgM m hO).win 2).index t = ![t.val % 4, 0] := by
  refine (oth_at m h (grid0.coords t)).trans ?_
  rw [(coords t).1, (coords t).2, if_neg e]

/-- The reference's gradient at an index: the own one at the core's layer, the other one at the other. -/
theorem ref_grad (c : Dev nD) (h : core m = 0#32 ∨ core m = 1#32) (l : Fin 2) (r : Fin 512) (k : Fin 1024) :
    val_main_v7 (F := Ideal) (m ((c : Thread nD τ).loc main_arg0)) (m ((c : Thread nD τ).loc main_arg2)) (m ((c : Thread nD τ).loc main_arg3)) (ix3 l r k)
      = if l.val = (core m).toNat then m ((c : Thread nD τ).loc main_arg2) (ix2 r k) else m ((c : Thread nD τ).loc main_arg3) (ix2 r k) := by
  obtain rfl : c = 0 := Subsingleton.elim _ _
  have s := Place.select_eq h l.isLt (m (((0 : Dev nD) : Thread nD τ).loc main_arg2) (ix2 r k)) (m (((0 : Dev nD) : Thread nD τ).loc main_arg3) (ix2 r k))
  rw [← s]
  pointwise [val_main_v0, val_main_v1, val_main_v2, val_main_v3, val_main_v4, val_main_v5, val_main_v6, val_main_v7, val_main_call0_v0, val_main_call0_v1, val_main_call0_v2, core]
  rfl

/-- What the body chooses at a block index, between its two blocks. -/
theorem pay4_at (i : grid0.Coords) {w : BitVec 32} (h : w = 0#32 ∨ w = 1#32) (x y : Vec Ideal S128x1024 .f32) (a : Fin 128) (b : Fin 1024) :
    k0_pay4 (F := Ideal) i w x y (ix2 a b) = if (i 0).val = w.toNat then x (ix2 a b) else y (ix2 a b) := by
  have l0 : (i 0).val < 2 := (i 0).isLt
  unfold k0_pay4
  dsimp only
  rw [Place.select_eq h l0]
  split <;> rfl

/-- The gradient that the body chooses at a block index is the reference's at the array index there. -/
theorem grad (hO : Ok m) (h : core m = 0#32 ∨ core m = 1#32) (c : Dev nD) (t : Fin (cfgM m hO).N) (a : Fin 128) (b : Fin 1024)
    (l : Fin 2) (r : Fin 512) (hl : l.val = t.val / 4) (hr : r.val = 128 * (t.val % 4) + a.val) :
    k0_pay4 (F := Ideal) (grid0.coords t) (core m) (iblk m hO c 1 t) (iblk m hO c 2 t) (ix2 a b)
      = val_main_v7 (F := Ideal) (m ((c : Thread nD τ).loc main_arg0)) (m ((c : Thread nD τ).loc main_arg2)) (m ((c : Thread nD τ).loc main_arg3)) (ix3 l r b) := by
  have ht : t.val < 8 := lt_of_lt_of_eq t.isLt N_0
  rw [ref_grad m c h]
  refine (pay4_at _ h _ _ a b).trans ?_
  rw [(coords t).1, hl]
  by_cases e : t.val / 4 = (core m).toNat
  · refine (if_pos e).trans (Eq.trans ?_ (if_pos e).symm)
    have ix := idx_own m hO h t e
    blk_point [iblk, V, ix]
  · refine (if_neg e).trans (Eq.trans ?_ (if_neg e).symm)
    have ix := idx_oth m hO h t e
    blk_point [iblk, V, ix]

/-- At a block index of a point the body's value of the gradient of both layers is the reference's at the array index there. -/
theorem point5 (hO : Ok m) (h : core m = 0#32 ∨ core m = 1#32) (c : Dev nD) (t : Fin (cfgM m hO).N) (y : S1x128x1024.Idx) :
    k0_pay7 (F := Ideal) (grid0.coords t) (core m) (iblk m hO c 1 t) (iblk m hO c 2 t) y
      = val_main_v7 (F := Ideal) (m ((c : Thread nD τ).loc main_arg0)) (m ((c : Thread nD τ).loc main_arg2)) (m ((c : Thread nD τ).loc main_arg3)) ((((cfgM m hO).win 5).blk t).view.emb y) := by
  have ht : t.val < 8 := lt_of_lt_of_eq t.isLt N_0
  obtain_idx j : S2x512x1024 := [t.val / 4, 128 * (t.val % 4) + (y 1).val, (y 2).val] with hj
  have hj' : (((cfgM m hO).win 5).blk t).view.emb y = j := by blk_ext [idx m hO t]
  rw [hj']
  idx_vars j
  idx_vars y
  pointwise [k0_pay7] at hj0 hj1 hj2 ⊢
  obtain rfl : j2 = y2 := Fin.ext hj2
  have g := grad m hO h c t y1 j2 j0 j1 (by omega) (by omega)
  exact g

/-- After the run the array holds the gradient of both layers. -/
theorem final5 (hO : Ok m) (h : core m = 0#32 ∨ core m = 1#32) (c : Dev nD) : (dats m hO 0 c).arrAt 5 (cfgM m hO).N
    = val_main_v7 (F := Ideal) (m ((c : Thread nD τ).loc main_arg0)) (m ((c : Thread nD τ).loc main_arg2)) (m ((c : Thread nD τ).loc main_arg3)) := by
  refine (dats m hO 0 c).arrAt_eq_of_covers 5 _ (of_decide_eq_true (by sl_kernel_rfl)) fun t _ y => ?_
  blk_simp
  rw [after0_5]; unfold outsAt0; dsimp only; frame_out
  exact (congrFun (congr (congr (congrArg (k0_pay7 (F := Ideal) (grid0.coords t)) (read_word m _)) (Memref.IsWhole.read_unread _ _)) (Memref.IsWhole.read_unread _ _)) y).trans (point5 m hO h c t y)

/-- At a block index of a point the body's value of the first moments is the reference's at the array index there. -/
theorem point7 (hO : Ok m) (h : core m = 0#32 ∨ core m = 1#32) (c : Dev nD) (t : Fin (cfgM m hO).N) (y : S1x128x1024.Idx) :
    k0_pay2 (F := Ideal) (k0_pay5 (F := Ideal) (grid0.coords t) (core m) (iblk m hO c 1 t) (iblk m hO c 2 t) (iblk m hO c 3 t)) y
      = val_main_v12 (F := Ideal) (m ((c : Thread nD τ).loc main_arg0)) (m ((c : Thread nD τ).loc main_arg2)) (m ((c : Thread nD τ).loc main_arg3)) (m ((c : Thread nD τ).loc main_arg4)) ((((cfgM m hO).win 7).blk t).view.emb y) := by
  have ht : t.val < 8 := lt_of_lt_of_eq t.isLt N_0
  obtain_idx j : S2x512x1024 := [t.val / 4, 128 * (t.val % 4) + (y 1).val, (y 2).val] with hj
  have hj' : (((cfgM m hO).win 7).blk t).view.emb y = j := by blk_ext [idx m hO t]
  rw [hj']
  idx_vars j
  idx_vars y
  pointwise [k0_pay2, k0_pay5, val_main_v8, val_main_v9, val_main_v10, val_main_v11, val_main_v12, val_main_cst, val_main_cst_0] at hj0 hj1 hj2 ⊢
  obtain rfl : j2 = y2 := Fin.ext hj2
  have g := grad m hO h c t y1 j2 j0 j1 (by omega) (by omega)
  rw [g]
  blk_point [iblk, V, idx m hO t]

/-- After the run the array holds the first moments. -/
theorem final7 (hO : Ok m) (h : core m = 0#32 ∨ core m = 1#32) (c : Dev nD) : (dats m hO 0 c).arrAt 7 (cfgM m hO).N
    = val_main_v12 (F := Ideal) (m ((c : Thread nD τ).loc main_arg0)) (m ((c : Thread nD τ).loc main_arg2)) (m ((c : Thread nD τ).loc main_arg3)) (m ((c : Thread nD τ).loc main_arg4)) := by
  refine (dats m hO 0 c).arrAt_eq_of_covers 7 _ (of_decide_eq_true (by sl_kernel_rfl)) fun t _ y => ?_
  blk_simp
  rw [after0_7]; unfold outsAt0; dsimp only; frame_out
  exact (congrFun (congrArg (k0_pay2 (F := Ideal)) (congr (congr (congr (congrArg (k0_pay5 (F := Ideal) (grid0.coords t)) (read_word m _)) (Memref.IsWhole.read_unread _ _)) (Memref.IsWhole.read_unread _ _)) (Memref.IsWhole.read_unread _ _))) y).trans (point7 m hO h c t y)

/-- At a block index of a point the body's value of the second moments is the reference's at the array index there. -/
theorem point8 (hO : Ok m) (h : core m = 0#32 ∨ core m = 1#32) (c : Dev nD) (t : Fin (cfgM m hO).N) (y : S1x128x1024.Idx) :
    k0_pay3 (F := Ideal) (k0_pay6 (F := Ideal) (grid0.coords t) (core m) (iblk m hO c 1 t) (iblk m hO c 2 t) (iblk m hO c 4 t)) y
      = val_main_v18 (F := Ideal) (m ((c : Thread nD τ).loc main_arg0)) (m ((c : Thread nD τ).loc main_arg2)) (m ((c : Thread nD τ).loc main_arg3)) (m ((c : Thread nD τ).loc main_arg5)) ((((cfgM m hO).win 8).blk t).view.emb y) := by
  have ht : t.val < 8 := lt_of_lt_of_eq t.isLt N_0
  obtain_idx j : S2x512x1024 := [t.val / 4, 128 * (t.val % 4) + (y 1).val, (y 2).val] with hj
  have hj' : (((cfgM m hO).win 8).blk t).view.emb y = j := by blk_ext [idx m hO t]
  rw [hj']
  idx_vars j
  idx_vars y
  pointwise [k0_pay3, k0_pay6, val_main_v13, val_main_v14, val_main_v15, val_main_v16, val_main_v17, val_main_v18, val_main_cst_1, val_main_cst_2] at hj0 hj1 hj2 ⊢
  obtain rfl : j2 = y2 := Fin.ext hj2
  have g := grad m hO h c t y1 j2 j0 j1 (by omega) (by omega)
  rw [g]
  blk_point [iblk, V, idx m hO t]

/-- After the run the array holds the second moments. -/
theorem final8 (hO : Ok m) (h : core m = 0#32 ∨ core m = 1#32) (c : Dev nD) : (dats m hO 0 c).arrAt 8 (cfgM m hO).N
    = val_main_v18 (F := Ideal) (m ((c : Thread nD τ).loc main_arg0)) (m ((c : Thread nD τ).loc main_arg2)) (m ((c : Thread nD τ).loc main_arg3)) (m ((c : Thread nD τ).loc main_arg5)) := by
  refine (dats m hO 0 c).arrAt_eq_of_covers 8 _ (of_decide_eq_true (by sl_kernel_rfl)) fun t _ y => ?_
  blk_simp
  rw [after0_8]; unfold outsAt0; dsimp only; frame_out
  exact (congrFun (congrArg (k0_pay3 (F := Ideal)) (congr (congr (congr (congrArg (k0_pay6 (F := Ideal) (grid0.coords t)) (read_word m _)) (Memref.IsWhole.read_unread _ _)) (Memref.IsWhole.read_unread _ _)) (Memref.IsWhole.read_unread _ _))) y).trans (point8 m hO h c t y)

/-- At a block index of a point the body's value of the weights' change is the reference's at the array index there. -/
theorem point6 (hO : Ok m) (h : core m = 0#32 ∨ core m = 1#32) (c : Dev nD) (t : Fin (cfgM m hO).N) (y : S1x128x1024.Idx) :
    k0_pay1 (F := Ideal) (k0_pay8 (F := Ideal) (grid0.coords t) (core m) (iblk m hO c 1 t) (iblk m hO c 2 t) (iblk m hO c 3 t) (iblk m hO c 4 t)) (k0_pay9 (iblk m hO c 0 t)) y
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 6).blk t).view.emb y) := by
  have ht : t.val < 8 := lt_of_lt_of_eq t.isLt N_0
  obtain_idx j : S2x512x1024 := [t.val / 4, 128 * (t.val % 4) + (y 1).val, (y 2).val] with hj
  have hj' : (((cfgM m hO).win 6).blk t).view.emb y = j := by blk_ext [idx m hO t]
  rw [hj']
  idx_vars j
  idx_vars y
  pointwise [k0_pay1, k0_pay8, k0_pay9, k0_pay5, k0_pay6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, val_main_cst_5, val_main_cst_6, val_main_cst_7] at hj0 hj1 hj2 ⊢
  obtain rfl : j2 = y2 := Fin.ext hj2
  have g := grad m hO h c t y1 j2 j0 j1 (by omega) (by omega)
  rw [g]
  blk_point [iblk, V, idx m hO t]

/-- After the run the array holds the weights' change. -/
theorem final6 (hO : Ok m) (h : core m = 0#32 ∨ core m = 1#32) (c : Dev nD) : (dats m hO 0 c).arrAt 6 (cfgM m hO).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]; unfold outsAt0; dsimp only; frame_out
  exact (congrFun (congr (congrArg (k0_pay1 (F := Ideal)) (congr (congr (congr (congr (congrArg (k0_pay8 (F := Ideal) (grid0.coords t)) (read_word m _)) (Memref.IsWhole.read_unread _ _)) (Memref.IsWhole.read_unread _ _)) (Memref.IsWhole.read_unread _ _)) (Memref.IsWhole.read_unread _ _))) (congrArg (k0_pay9 (F := Ideal)) (Memref.IsWhole.read_unread _ _))) y).trans (point6 m hO h c t y)

end Cert.AdamwWSsmBranchIdeal.Final

end
-- ==== Proof.AttnBranchDwValue.lean ====
/-
  The attention branch projection, the gradient of the weight: the tiled product of the kernel is the plain product of the reference.
-/
module

public import proofs.«01_k».proof.Proof.Gen.AttnBranchDwIdeal.Frame
public import proofs.«01_k».proof.Proof.Gen.AttnBranchDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnBranchDwIdeal.Final

open Cert.AttnBranchDwIdeal Cert.AttnBranchDwIdeal.Gen Cert.AttnBranchDwRefIdeal.Read

variable (m : (ℓ : Loc nD τ sig) → Buf (Elt Ideal) ℓ)

/-- Every window's block index at every point. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The reference's result at an index. -/
theorem refAt (x0 : Vec Ideal S16384x512 .bf16) (x1 : Vec Ideal S16384x1024 .bf16) (r : Fin 512) (l : Fin 1024) :
    (val_main_v5 (F := Ideal) x0 x1 (ix2 r l) : EReal) = ∑ k : Fin 16384, (x0 (ix2 k r) : EReal) * x1 (ix2 k l) := by
  pointwise [val_main_v5, val_main_v4, val_main_v3, val_main_v2, val_main_v1, val_main_v0, val_main_cst]
  exact Finset.sum_congr rfl fun k _ => mul_comm _ _

/-- The body's product of two blocks at an index. -/
theorem payAt (v0 : Vec Ideal S4096x512 .bf16) (v1 : Vec Ideal S4096x512 .bf16) (r : Fin 512) (l : Fin 512) :
    (k0_pay2 (F := Ideal) v0 v1 (ix2 r l) : EReal) = ∑ k : Fin 4096, (v0 (ix2 k r) : EReal) * v1 (ix2 k l) := by
  pointwise [k0_pay3, k0_pay2, k0_pay1]

/-- The accumulating payload at an index. -/
theorem accAt (v0 : Vec Ideal S4096x512 .bf16) (v1 : Vec Ideal S4096x512 .bf16) (v : Vec Ideal S512x512 .f32) (j : S512x512.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 4 = 4 - 1) (y : S512x512.Idx) :
    (outsAt0 m c t.val t.isLt).1 y
      = ∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 4 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 4 = 3
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 4 = 4 - 1) (y : S512x512.Idx) :
    (∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal))
      = val_main_v5 (F := Ideal) (m ((c : Thread nD τ).loc main_arg0)) (m ((c : Thread nD τ).loc main_arg1)) (((cfg0.win 2).blk t).view.emb y) := by
  have ht : t.val < 8 := lt_of_lt_of_eq t.isLt N_0
  obtain_idx j : S512x1024 := [(y 0).val, 512 * (t.val / 4) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.AttnBranchDwIdeal.Final
-- ==== Proof.AttnBranchDxValue.lean ====
/-
  The attention branch projection, the gradient of the activations: the tiled product of the kernel is the plain product of the reference.
-/
module

public import proofs.«01_k».proof.Proof.Gen.AttnBranchDxIdeal.Frame
public import proofs.«01_k».proof.Proof.Gen.AttnBranchDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnBranchDxIdeal.Final

open Cert.AttnBranchDxIdeal Cert.AttnBranchDxIdeal.Gen Cert.AttnBranchDxRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x1024 .bf16) (x1 : Vec Ideal S512x1024 .bf16) (r : Fin 16384) (l : Fin 512) :
    (val_main_v4 (F := Ideal) x0 x1 (ix2 r l) : EReal) = ∑ k : Fin 1024, (x0 (ix2 r k) : EReal) * x1 (ix2 l k) := by
  pointwise [val_main_v4, val_main_v3, val_main_v2, val_main_v1, val_main_v0, val_main_cst]

/-- The body's product of two blocks at an index. -/
theorem payAt (v0 : Vec Ideal S2048x1024 .bf16) (v1 : Vec Ideal S512x1024 .bf16) (r : Fin 2048) (l : Fin 512) :
    (k0_pay1 (F := Ideal) v0 v1 (ix2 r l) : EReal) = ∑ k : Fin 1024, (v0 (ix2 r k) : EReal) * v1 (ix2 l k) := by
  pointwise [k0_pay1]

/-- The body's product, at an index of its block, is the reference's result at the array index there. -/
theorem pointAt (c : Dev nD) (t : Fin cfg0.N) (y : S2048x512.Idx) :
    k0_pay1 (F := Ideal) (iblk m c 0 t) (iblk m c 1 t) y
      = val_main_v4 (F := Ideal) (m ((c : Thread nD τ).loc main_arg0)) (m ((c : Thread nD τ).loc main_arg1)) (((cfg0.win 2).blk t).view.emb y) := by
  have ht : t.val < 8 := lt_of_lt_of_eq t.isLt N_0
  obtain_idx j : S16384x512 := [2048 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.AttnBranchDxIdeal.Final
-- ==== Proof.AttnBranchValue.lean ====
/-
  The attention branch projection, the forward product: the tiled product of the kernel is the plain product of the reference.
-/
module

public import proofs.«01_k».proof.Proof.Gen.AttnBranchIdeal.Frame
public import proofs.«01_k».proof.Proof.Gen.AttnBranchRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnBranchIdeal.Final

open Cert.AttnBranchIdeal Cert.AttnBranchIdeal.Gen Cert.AttnBranchRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x512 .bf16) (x1 : Vec Ideal S512x1024 .bf16) (r : Fin 16384) (l : Fin 1024) :
    (val_main_v2 (F := Ideal) x0 x1 (ix2 r l) : EReal) = ∑ k : Fin 512, (x0 (ix2 r k) : EReal) * x1 (ix2 k l) := by
  pointwise [val_main_v2, val_main_v1, val_main_v0]

/-- The body's product of two blocks at an index. -/
theorem payAt (v0 : Vec Ideal S2048x512 .bf16) (v1 : Vec Ideal S512x1024 .bf16) (r : Fin 2048) (l : Fin 1024) :
    (k0_pay1 (F := Ideal) v0 v1 (ix2 r l) : EReal) = ∑ k : Fin 512, (v0 (ix2 r k) : EReal) * v1 (ix2 k l) := by
  pointwise [k0_pay1]

/-- The body's product, at an index of its block, is the reference's result at the array index there. -/
theorem pointAt (c : Dev nD) (t : Fin cfg0.N) (y : S2048x1024.Idx) :
    k0_pay1 (F := Ideal) (iblk m c 0 t) (iblk m c 1 t) y
      = val_main_v2 (F := Ideal) (m ((c : Thread nD τ).loc main_arg0)) (m ((c : Thread nD τ).loc main_arg1)) (((cfg0.win 2).blk t).view.emb y) := by
  have ht : t.val < 8 := lt_of_lt_of_eq t.isLt N_0
  obtain_idx j : S16384x1024 := [2048 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.AttnBranchIdeal.Final
-- ==== Proof.AttnFwdPure.lean ====
/-
  Attention over a window of keys, row by row: the arithmetic that one lane pair of the kernel's body does, and the one the plain
  lines do, are the same functions of the projected array and the bias.
-/
module

public import proofs.«01_k».proof.Proof.Gen.AttnFwdIdeal.Frame
public import proofs.«01_k».proof.Proof.Gen.AttnFwdRefIdeal.Read
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.AttnFwdIdeal.Final

open Cert.AttnFwdIdeal Cert.AttnFwdIdeal.Gen Cert.AttnFwdRefIdeal.Read

/-! ### One row of a softmax -/

/-- The word that both programs use for minus infinity. -/
abbrev ninf : EReal := Ideal.ofBits .f32 4286578688#32

/-- The scale of the scores, one eighth. -/
abbrev c8 : EReal := Ideal.ofBits .f32 1040187392#32

theorem ninf_eq : ninf = ⊥ := by simp [Ideal.ofBits, Ideal.ieee]

/-- The largest score of a row. -/
def top (s : Fin 256 → EReal) : EReal := Finset.univ.fold max ninf s

/-- The weight of key `j`, not normalised. -/
def pr (s : Fin 256 → EReal) (j : Fin 256) : EReal := Ideal.exp (s j - top s)

/-- The weighted mean of `v`. -/
def att (s v : Fin 256 → EReal) : EReal := Ideal.div (∑ j, pr s j * v j) (∑ j, pr s j)

/-- The logarithm of the sum of the exponentials of a row. -/
def lse (s : Fin 256 → EReal) : EReal := top s + Ideal.log (∑ j, pr s j)

/-- A key whose score is minus infinity has no weight, whatever the other scores are. -/
theorem pr_masked (s : Fin 256 → EReal) (j : Fin 256) (h : s j = ninf) : pr s j = 0 := by
  rw [pr, h, ninf_eq, sub_eq_add_neg, EReal.bot_add]; rfl

/-- A weighted mean does not depend on the values at masked keys. -/
theorem att_congr (s v v' : Fin 256 → EReal) (h : ∀ j, s j ≠ ninf → v j = v' j) : att s v = att s v' := by
  refine congrArg (Ideal.div · _) (Finset.sum_congr rfl fun j _ => ?_)
  by_cases hj : s j = ninf
  · rw [pr_masked s j hj, zero_mul, zero_mul]
  · rw [h j hj]

/-! ### The scores -/

/-- Key slot `j` of the window of a sequence's block `n` is one that query row `i` sees: at most 128 steps back, not ahead, and not
    before the sequence's first row. -/
def Sees (n i j : ℕ) : Prop := (j ≤ i + 128 ∧ i ≤ j) ∧ (128 ≤ j ∨ 0 < n)

instance (n i j : ℕ) : Decidable (Sees n i j) := by unfold Sees; infer_instance

/-- The row of the array that key slot `j` of block `n` holds. -/
def src (n : Fin 128) (j : Fin 256) : Fin 16384 := ⟨128 * n.val + j.val - 128, by have := n.isLt; have := j.isLt; omega⟩

/-- The row of the array that query `i` of block `n` is. -/
def row (n : Fin 128) (i : Fin 128) : Fin 16384 := ⟨128 * n.val + i.val, by have := n.isLt; have := i.isLt; omega⟩

/-- The score of key slot `j` for query `i` of block `n` in head `h`, the rows being sequences of `4 * S` blocks one after the other. -/
def score (S : ℕ) (x0 : FVec Ideal S16384x1536 .bf16) (x1 : FVec Ideal S8x128x256 .f32) (n : Fin 128) (h : Fin 8) (i : Fin 128) (j : Fin 256) : EReal :=
  if Sees (n.val % (4 * S)) i j then (∑ d : Fin 64, x0 (ix2 (row n i) ⟨64 * h.val + d.val, by have := h.isLt; have := d.isLt; omega⟩)
      * x0 (ix2 (src n j) ⟨512 + (64 * h.val + d.val), by have := h.isLt; have := d.isLt; omega⟩)) * c8 + x1 (ix3 h i j) else ninf

/-- The attention at row `r` and lane `l`, the rows being sequences of `4 * S` blocks one after the other. -/
def outO (S : ℕ) (x0 : FVec Ideal S16384x1536 .bf16) (x1 : FVec Ideal S8x128x256 .f32) (r : Fin 16384) (l : Fin 512) : EReal :=
  att (score S x0 x1 ⟨r.val / 128, by omega⟩ ⟨l.val / 64, by omega⟩ ⟨r.val % 128, by omega⟩)
    (fun j => x0 (ix2 (src ⟨r.val / 128, by omega⟩ j) ⟨1024 + l.val, by omega⟩))

/-- The logarithm of the sum of exponentials at row `r`, of the head that lane `l` belongs to. -/
def outL (S : ℕ) (x0 : FVec Ideal S16384x1536 .bf16) (x1 : FVec Ideal S8x128x256 .f32) (r : Fin 16384) (l : Fin 512) : EReal :=
  lse (score S x0 x1 ⟨r.val / 128, by omega⟩ ⟨l.val / 64, by omega⟩ ⟨r.val % 128, by omega⟩)

/-- Point `t` stages four blocks, the first of them block `4 * (t % S)` of its sequence. -/
theorem mod_block {S t k : ℕ} (hS : 0 < S) (hk : k < 4) : (4 * t + k) % (4 * S) = 4 * (t % S) + k := by
  have h1 := Nat.div_add_mod t S
  have h2 := Nat.mod_lt t hS
  have e : 4 * t + k = 4 * (t % S) + k + (4 * S) * (t / S) := by
    conv_lhs => rw [← h1]
    ring
  rw [e, Nat.add_mul_mod_self_left, Nat.mod_eq_of_lt (by omega)]

/-! ### The plain lines -/

/-- A signed sum of small words. -/
theorem toInt_diff (i j : ℕ) (hi : i < 256) (hj : j < 256) : (IntOp.subi (IntOp.addi (BitVec.ofNat 32 i) 128#32) (BitVec.ofNat 32 j)).toInt = (i : ℤ) + 128 - j := by
  have e : IntOp.subi (IntOp.addi (BitVec.ofNat 32 i) 128#32) (BitVec.ofNat 32 j) = BitVec.ofInt 32 ((i : ℤ) + 128 - j) := by
    rw [sub_eq_add_neg, BitVec.ofInt_add, BitVec.ofInt_add, BitVec.ofInt_neg, BitVec.ofInt_natCast, BitVec.ofInt_natCast, ← BitVec.sub_eq_add_neg]; rfl
  rw [e, BitVec.toInt_ofInt, Int.bmod_eq_of_le (by norm_num; omega) (by norm_num; omega)]

/-- The same for the first key slot of a block. -/
theorem toInt_slot (n j : ℕ) (hn : n < 128) (hj : j < 256) :
    (IntOp.addi (IntOp.subi (IntOp.muli (BitVec.ofNat 32 n) 128#32) 128#32) (BitVec.ofNat 32 j)).toInt = (n : ℤ) * 128 - 128 + j := by
  have e : IntOp.addi (IntOp.subi (IntOp.muli (BitVec.ofNat 32 n) 128#32) 128#32) (BitVec.ofNat 32 j) = BitVec.ofInt 32 ((n : ℤ) * 128 - 128 + j) := by
    rw [BitVec.ofInt_add, sub_eq_add_neg, BitVec.ofInt_add, BitVec.ofInt_mul, BitVec.ofInt_neg, BitVec.ofInt_natCast, BitVec.ofInt_natCast, ← BitVec.sub_eq_add_neg]; rfl
  rw [e, BitVec.toInt_ofInt, Int.bmod_eq_of_le (by norm_num; omega) (by norm_num; omega)]

/-- A number of a query row within its block, as a word. -/
theorem and_127 (R : ℕ) (hR : R < 256) : IntOp.andi (BitVec.ofNat 32 R) 127#32 = BitVec.ofNat 32 (R % 128) := by
  apply BitVec.eq_of_toNat_eq
  show (BitVec.ofNat 32 R &&& 127#32).toNat = _
  rw [BitVec.toNat_and, BitVec.toNat_ofNat, BitVec.toNat_ofNat, BitVec.toNat_ofNat, Nat.mod_eq_of_lt (by omega : R < 2 ^ 32),
    Nat.mod_eq_of_lt (by omega : R % 128 < 2 ^ 32)]
  exact Nat.and_two_pow_sub_one_eq_mod R 7

/-- The plain lines' mask word. -/
theorem ref_word (n i : Fin 128) (j : Fin 256) : val_main_v59 (F := Ideal) (ix3 n i j) = BitVec.ofBool (decide (Sees n i j)) := by
  have hn := n.isLt
  have hi := i.isLt
  have hj := j.isLt
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8, val_main_c_9]
  rw [WordCmp.cmpi_sge_eq, WordCmp.cmpi_sle_eq, WordCmp.cmpi_sge_eq, toInt_diff _ _ (by omega) hj, toInt_slot _ _ hn hj,
    WordCmp.andi_ofBool, WordCmp.andi_ofBool]
  refine congrArg BitVec.ofBool ?_
  rw [← Bool.decide_and, ← Bool.decide_and, decide_eq_decide]
  simp only [Sees, show (0#32).toInt = 0 from rfl, show (128#32).toInt = 128 from rfl]
  omega

/-- The kernel's mask word. -/
theorem ker_word (t : ℕ) (ht : t < 32) (k : Fin k0_t1_loop.trips) (n : ℕ) (hn : n = 4 * t + k.val) (R j : Fin 256) :
    k0_pay8 (BitVec.ofNat 32 t) 0#32 1#32 k (ix2 R j) = BitVec.ofBool (decide (Sees n (R.val % 128) j)) := by
  have hk : k.val < 4 := lt_of_lt_of_le k.isLt k0_t1_abs.2.1
  have hR := R.isLt
  have hj := j.isLt
  have hw : Scalar.addi (Scalar.muli (BitVec.ofNat 32 t) 4#32) (Scf.iv 0#32 1#32 k.val) = BitVec.ofNat 32 n := by
    rw [hn, BitVec.ofNat_add, Nat.mul_comm, BitVec.ofNat_mul, Scf.iv, BitVec.zero_add, BitVec.mul_one]; rfl
  pointwise [k0_pay8]
  rw [hw, and_127 _ hR, WordCmp.cmpi_sge_eq, WordCmp.cmpi_sle_eq, WordCmp.cmpi_sge_eq, toInt_diff _ _ (by omega) hj]
  rw [show Scalar.cmpi CmpIPredicate.sgt (BitVec.ofNat 32 n) 0#32 = BitVec.ofBool (decide ((0#32).toInt < (BitVec.ofNat 32 n).toInt)) from rfl,
    WordCmp.toInt_ofNat_of_lt (by norm_num; omega : j.val < 2 ^ (32 - 1)), WordCmp.toInt_ofNat_of_lt (by norm_num; omega : n < 2 ^ (32 - 1)),
    WordCmp.ori_ofBool, WordCmp.andi_ofBool, WordCmp.andi_ofBool]
  refine congrArg BitVec.ofBool ?_
  rw [← Bool.decide_and, ← Bool.decide_or, ← Bool.decide_and, decide_eq_decide]
  simp only [Sees, show (0#32).toInt = 0 from rfl, show (128#32).toInt = 128 from rfl]
  omega

/-- The plain lines' query. -/
theorem ref_q (x0 : FVec Ideal S16384x1536 .bf16) (n : Fin 128) (h : Fin 8) (i : Fin 128) (d : Fin 64) :
    val_main_v13 (F := Ideal) x0 (ix5 (n0 := 1) 0 n i h d) = x0 (ix2 (row n i) ⟨64 * h.val + d.val, by have := h.isLt; have := d.isLt; omega⟩) := by
  have hn := n.isLt
  have hi := i.isLt
  pointwise [val_main_v13, val_main_v12, val_main_v11, val_main_v10, val_main_v9, val_main_v2, val_main_v1, val_main_v0]
  rw [dif_pos (by omega)]
  exact congrArg x0 ((ix2_inj ..).2 ⟨Fin.ext (show n.val * 128 + i.val = 128 * n.val + i.val by omega), Fin.ext (show h.val * 64 + d.val = 64 * h.val + d.val by omega)⟩)

/-- The plain lines' key at a slot that is not before the first row. -/
theorem ref_k (x0 : FVec Ideal S16384x1536 .bf16) (n : Fin 128) (h : Fin 8) (j : Fin 256) (d : Fin 64) (hs : 128 ≤ j.val ∨ 0 < n.val) :
    val_main_v21 (F := Ideal) x0 (ix5 (n0 := 1) 0 n j h d) = x0 (ix2 (src n j) ⟨512 + (64 * h.val + d.val), by have := h.isLt; have := d.isLt; omega⟩) := by
  have hn := n.isLt
  have hj := j.isLt
  pointwise [val_main_v21, val_main_v20, val_main_v19, val_main_v18, val_main_v17, val_main_v16, val_main_v15, val_main_v14, val_main_v5, val_main_v4, val_main_v3]
  by_cases h1 : j.val < 128
  · rw [dif_pos h1, dif_pos ⟨by omega, h1⟩, dif_pos (by omega)]
    exact congrArg x0 ((ix2_inj ..).2 ⟨Fin.ext (show (n.val - 1) * 128 + j.val = 128 * n.val + j.val - 128 by omega), Fin.ext (show 512 + (h.val * 64 + d.val) = 512 + (64 * h.val + d.val) by omega)⟩)
  · rw [dif_neg h1, dif_pos (by omega)]
    exact congrArg x0 ((ix2_inj ..).2 ⟨Fin.ext (show n.val * 128 + (j.val - 128) = 128 * n.val + j.val - 128 by omega), Fin.ext (show 512 + (h.val * 64 + d.val) = 512 + (64 * h.val + d.val) by omega)⟩)

/-- The plain lines' value at a slot that is not before the first row. -/
theorem ref_v (x0 : FVec Ideal S16384x1536 .bf16) (n : Fin 128) (h : Fin 8) (j : Fin 256) (d : Fin 64) (hs : 128 ≤ j.val ∨ 0 < n.val) :
    val_main_v29 (F := Ideal) x0 (ix5 (n0 := 1) 0 n j h d) = x0 (ix2 (src n j) ⟨1024 + (64 * h.val + d.val), by have := h.isLt; have := d.isLt; omega⟩) := by
  have hn := n.isLt
  have hj := j.isLt
  pointwise [val_main_v29, val_main_v28, val_main_v27, val_main_v26, val_main_v25, val_main_v24, val_main_v23, val_main_v22, val_main_v8, val_main_v7, val_main_v6]
  by_cases h1 : j.val < 128
  · rw [dif_pos h1, dif_pos ⟨by omega, h1⟩, dif_pos (by omega)]
    exact congrArg x0 ((ix2_inj ..).2 ⟨Fin.ext (show (n.val - 1) * 128 + j.val = 128 * n.val + j.val - 128 by omega), Fin.ext (show 1024 + (h.val * 64 + d.val) = 1024 + (64 * h.val + d.val) by omega)⟩)
  · rw [dif_neg h1, dif_pos (by omega)]
    exact congrArg x0 ((ix2_inj ..).2 ⟨Fin.ext (show n.val * 128 + (j.val - 128) = 128 * n.val + j.val - 128 by omega), Fin.ext (show 1024 + (h.val * 64 + d.val) = 1024 + (64 * h.val + d.val) by omega)⟩)

/-- The plain lines' score. -/
theorem ref_score (x0 : FVec Ideal S16384x1536 .bf16) (x1 : FVec Ideal S8x128x256 .f32) (n : Fin 128) (h : Fin 8) (i : Fin 128) (j : Fin 256) :
    val_main_v67 (F := Ideal) x0 x1 (ix5 (n0 := 1) 0 n h i j) = score 32 x0 x1 n h i j := by
  pointwise [val_main_v67, val_main_v66, val_main_v65, val_main_v64, val_main_v63, val_main_v62, val_main_v61, val_main_v60, val_main_call5_v1, val_main_call5_v2, val_main_call5_v0, val_main_cst, val_main_cst_10]
  rw [ref_word, WordCmp.select_decide, score, Nat.mod_eq_of_lt (by have := n.isLt; omega : n.val < 4 * 32)]
  by_cases hs : Sees n i j
  · rw [if_pos hs, if_pos hs]
    refine congrArg (· * c8 + _) (Finset.sum_congr rfl fun d _ => ?_)
    rw [ref_q, ref_k x0 n h j d hs.2]
  · rw [if_neg hs, if_neg hs]
    rfl

/-- The plain lines' weight. -/
theorem ref_pr (x0 : FVec Ideal S16384x1536 .bf16) (x1 : FVec Ideal S8x128x256 .f32) (n : Fin 128) (h : Fin 8) (i : Fin 128) (j : Fin 256) :
    val_main_v72 (F := Ideal) x0 x1 (ix5 (n0 := 1) 0 n h i j) = pr (score 32 x0 x1 n h i) j := by
  pointwise [val_main_v72, val_main_v71, val_main_v70, val_main_v69, val_main_v68, val_main_cst_11]
  simp only [ref_score]
  rfl

/-- The plain lines' attention as a quotient of sums, at an array index. -/
theorem ref_quot (x0 : FVec Ideal S16384x1536 .bf16) (x1 : FVec Ideal S8x128x256 .f32) (r : Fin 16384) (l : Fin 512) :
    val_main_v90 (F := Ideal) x0 x1 (ix2 r l)
      = Ideal.div (∑ j : Fin 256, val_main_v29 (F := Ideal) x0 (ix5 (n0 := 1) 0 ⟨r.val / 128, by omega⟩ j ⟨l.val / 64, by omega⟩ ⟨l.val % 64, by omega⟩)
            * val_main_v72 (F := Ideal) x0 x1 (ix5 (n0 := 1) 0 ⟨r.val / 128, by omega⟩ ⟨l.val / 64, by omega⟩ ⟨r.val % 128, by omega⟩ j))
          (∑ j : Fin 256, val_main_v72 (F := Ideal) x0 x1 (ix5 (n0 := 1) 0 ⟨r.val / 128, by omega⟩ ⟨l.val / 64, by omega⟩ ⟨r.val % 128, by omega⟩ j)) := by
  have hr := r.isLt
  have hl := l.isLt
  pointwise [val_main_v90, val_main_v86, val_main_v85, val_main_v84, val_main_v79, val_main_v78, val_main_v77, val_main_v76, val_main_v75, val_main_v74, val_main_v73, val_main_cst_12]

/-- The plain lines' attention, at an array index. -/
theorem ref_o (x0 : FVec Ideal S16384x1536 .bf16) (x1 : FVec Ideal S8x128x256 .f32) (r : Fin 16384) (l : Fin 512) :
    val_main_v90 (F := Ideal) x0 x1 (ix2 r l)
      = outO 32 x0 x1 r l := by
  have hr := r.isLt
  have hl := l.isLt
  rw [ref_quot, outO, att]
  have e : ∀ j : Fin 256, val_main_v72 (F := Ideal) x0 x1 (ix5 (n0 := 1) 0 ⟨r.val / 128, by omega⟩ ⟨l.val / 64, by omega⟩ ⟨r.val % 128, by omega⟩ j)
      = pr (score 32 x0 x1 ⟨r.val / 128, by omega⟩ ⟨l.val / 64, by omega⟩ ⟨r.val % 128, by omega⟩) j := fun j => ref_pr x0 x1 _ _ _ j
  simp only [e]
  refine congrArg (Ideal.div · _) (Finset.sum_congr rfl fun j _ => ?_)
  rw [mul_comm]
  by_cases hs : 128 ≤ j.val ∨ 0 < r.val / 128
  · rw [ref_v x0 _ _ _ _ hs]
    refine congrArg (_ * x0 ·) ((ix2_inj ..).2 ⟨rfl, Fin.ext ?_⟩)
    show 1024 + (64 * (l.val / 64) + l.val % 64) = 1024 + l.val
    omega
  · rw [pr_masked _ _ (if_neg fun h => hs (h.2.imp_right fun h0 => lt_of_lt_of_le h0 (Nat.mod_le _ _))), zero_mul, zero_mul]

/-- The plain lines' logarithm of the sum of exponentials, from its two parts. -/
theorem ref_parts (x0 : FVec Ideal S16384x1536 .bf16) (x1 : FVec Ideal S8x128x256 .f32) (n : Fin 128) (h : Fin 8) (i : Fin 128) :
    val_main_v81 (F := Ideal) x0 x1 (ix5 (n0 := 1) (n4 := 1) 0 n h i 0)
      = val_main_v69 (F := Ideal) x0 x1 (ix5 (n0 := 1) (n4 := 1) 0 n h i 0) + Ideal.log (val_main_v74 (F := Ideal) x0 x1 (ix5 (n0 := 1) (n4 := 1) 0 n h i 0)) := by
  rw [val_main_v81_apply, val_main_v80_apply]
  rfl

theorem ref_top (x0 : FVec Ideal S16384x1536 .bf16) (x1 : FVec Ideal S8x128x256 .f32) (n : Fin 128) (h : Fin 8) (i : Fin 128) :
    val_main_v69 (F := Ideal) x0 x1 (ix5 (n0 := 1) (n4 := 1) 0 n h i 0) = top (score 32 x0 x1 n h i) := by
  pointwise [val_main_v69, val_main_v68, val_main_cst_11]
  simp only [ref_score]
  rfl

theorem ref_sum (x0 : FVec Ideal S16384x1536 .bf16) (x1 : FVec Ideal S8x128x256 .f32) (n : Fin 128) (h : Fin 8) (i : Fin 128) :
    val_main_v74 (F := Ideal) x0 x1 (ix5 (n0 := 1) (n4 := 1) 0 n h i 0) = ∑ j, pr (score 32 x0 x1 n h i) j := by
  pointwise [val_main_v74, val_main_v73, val_main_cst_12]
  simp only [ref_pr]

/-- The layout of the plain lines' logarithm of the sum of exponentials, step by step. -/
theorem lay_a (x0 : FVec Ideal S16384x1536 .bf16) (x1 : FVec Ideal S8x128x256 .f32) (n : Fin 128) (h : Fin 8) (i : Fin 128) :
    val_main_v83 (F := Ideal) x0 x1 (ix4 (n0 := 1) 0 n i h) = val_main_v82 (F := Ideal) x0 x1 (ix4 (n0 := 1) 0 n h i) := by
  pointwise [val_main_v83]

theorem lay_b (x0 : FVec Ideal S16384x1536 .bf16) (x1 : FVec Ideal S8x128x256 .f32) (n : Fin 128) (h : Fin 8) (i : Fin 128) :
    val_main_v82 (F := Ideal) x0 x1 (ix4 (n0 := 1) 0 n h i) = val_main_v81 (F := Ideal) x0 x1 (ix5 (n0 := 1) (n4 := 1) 0 n h i 0) := by
  pointwise [val_main_v82]

theorem lay_c (x0 : FVec Ideal S16384x1536 .bf16) (x1 : FVec Ideal S8x128x256 .f32) (r : Fin 16384) (l : Fin 512) :
    val_main_v94 (F := Ideal) x0 x1 (ix2 r l) = val_main_v89 (F := Ideal) x0 x1 (ix3 (n0 := 1) 0 r ⟨l.val / 64, by omega⟩) := by
  have hr := r.isLt
  have hl := l.isLt
  pointwise [val_main_v94, val_main_v93, val_main_v92, val_main_v91]

theorem lay_d (x0 : FVec Ideal S16384x1536 .bf16) (x1 : FVec Ideal S8x128x256 .f32) (r : Fin 16384) (h : Fin 8) :
    val_main_v89 (F := Ideal) x0 x1 (ix3 (n0 := 1) 0 r h)
      = val_main_v83 (F := Ideal) x0 x1 (ix4 (n0 := 1) 0 ⟨r.val / 128, by omega⟩ ⟨r.val % 128, by omega⟩ h) := by
  have hr := r.isLt
  have hh := h.isLt
  pointwise [val_main_v89, val_main_v88, val_main_v87]

/-- The plain lines' logarithm of the sum of exponentials, at an array index. -/
theorem ref_l (x0 : FVec Ideal S16384x1536 .bf16) (x1 : FVec Ideal S8x128x256 .f32) (r : Fin 16384) (l : Fin 512) :
    val_main_v94 (F := Ideal) x0 x1 (ix2 r l)
      = outL 32 x0 x1 r l := by
  rw [lay_c, lay_d, lay_a, lay_b, ref_parts, ref_top, ref_sum, outL, lse]

/-! ### One lane pair of the kernel's body -/

/-- Head `hh` of the pair `p` of heads that share 128 lanes. -/
def hd (p : Fin 4) (hh : Fin 2) : Fin 8 := ⟨2 * p.val + hh.val, by omega⟩

/-- What the body holds for lane pair `p` of block `n`: the mask, the pair's columns of the block's queries, of its window's keys
    and values wherever the window does not lie before the sequence's first row, and the pair's biases. -/
structure Pair (S : ℕ) (x0 : FVec Ideal S16384x1536 .bf16) (x1 : FVec Ideal S8x128x256 .f32) (n : Fin 128) (p : Fin 4)
    (v36 : IVec S256x256 1) (kk vv : FVec Ideal S256x128 .bf16) (q : FVec Ideal S128x128 .bf16) (b : FVec Ideal S2x128x256 .f32) : Prop where
  mask : ∀ R j : Fin 256, v36 (ix2 R j) = BitVec.ofBool (decide (Sees (n.val % (4 * S)) (R.val % 128) j))
  query : ∀ a l : Fin 128, q (ix2 a l) = x0 (ix2 (row n a) ⟨128 * p.val + l.val, by omega⟩)
  key : ∀ (j : Fin 256) (l : Fin 128), (128 ≤ j.val ∨ 0 < n.val % (4 * S)) → kk (ix2 j l) = x0 (ix2 (src n j) ⟨512 + (128 * p.val + l.val), by omega⟩)
  value : ∀ (j : Fin 256) (l : Fin 128), (128 ≤ j.val ∨ 0 < n.val % (4 * S)) → vv (ix2 j l) = x0 (ix2 (src n j) ⟨1024 + (128 * p.val + l.val), by omega⟩)
  bias : ∀ (hh : Fin 2) (a : Fin 128) (j : Fin 256), b (ix3 hh a j) = x1 (ix3 (hd p hh) a j)

/-- Row `128 * hh + a` of the stacked queries holds head `hh` of the pair and nothing else, so that its product with the keys is
    that head's. -/
theorem ker_score {S x0 x1 n p v36 kk vv q b} (P : Pair S x0 x1 n p v36 kk vv q b) (hh : Fin 2) (a : Fin 128) (j : Fin 256) :
    k0_pay12 (F := Ideal) v36 kk (k0_pay10 q) (k0_pay11 b) (ix2 ⟨128 * hh.val + a.val, by omega⟩ j) = score S x0 x1 n (hd p hh) a j := by
  have ha := a.isLt
  have hp := p.isLt
  pointwise [k0_pay12, k0_pay10, k0_pay11, k0_pay9]
  have hR : (128 * hh.val + a.val) % 128 = a.val := by omega
  rw [P.mask, hR, WordCmp.select_decide, score]
  by_cases hs : Sees (n.val % (4 * S)) a j
  · rw [if_pos hs, if_pos hs, P.bias]
    refine congrArg (· * c8 + _) ?_
    have hw : ∀ x : Fin 128, IntOp.cmpi CmpIPredicate.slt (BitVec.ofNat 32 x.val) 64#32 = BitVec.ofBool (decide (x.val < 64)) := fun x => by
      have hx := x.isLt
      exact WordCmp.cmpi_slt_ofNat (by norm_num; omega) (by norm_num)
    simp only [hw, WordCmp.select_decide]
    rw [Fin.sum_univ_two_halves 64 64 rfl]
    have hd' : hh.val < 2 := hh.isLt
    by_cases h0 : hh.val = 0
    · refine (congrArg₂ (· + ·) (Finset.sum_congr rfl fun d _ => ?_) (Finset.sum_eq_zero fun d _ => ?_)).trans (add_zero _)
      · rw [dif_pos (by omega), if_pos d.isLt, P.query, P.key j _ hs.2]
        exact congrArg₂ (fun u v => x0 u * x0 v) ((ix2_inj ..).2 ⟨Fin.ext (by simp only [row]; omega), Fin.ext (by simp only [hd]; omega)⟩)
          ((ix2_inj ..).2 ⟨rfl, Fin.ext (by simp only [hd]; omega)⟩)
      · rw [dif_pos (by omega), if_neg (show ¬(64 + d.val < 64) by omega), zero_mul]
    · refine (congrArg₂ (· + ·) (Finset.sum_eq_zero fun d _ => ?_) (Finset.sum_congr rfl fun d _ => ?_)).trans (zero_add _)
      · rw [dif_neg (by omega), if_pos d.isLt, zero_mul]
      · rw [dif_neg (by omega), if_neg (show ¬(64 + d.val < 64) by omega), P.query, P.key j _ hs.2]
        exact congrArg₂ (fun u v => x0 u * x0 v) ((ix2_inj ..).2 ⟨Fin.ext (by simp only [row]; omega), Fin.ext (by simp only [hd]; omega)⟩)
          ((ix2_inj ..).2 ⟨rfl, Fin.ext (by simp only [hd]; omega)⟩)
  · rw [if_neg hs, if_neg hs]

theorem ker_top {S x0 x1 n p v36 kk vv q b} (P : Pair S x0 x1 n p v36 kk vv q b) (hh : Fin 2) (a : Fin 128) :
    k0_pay13 (F := Ideal) v36 kk (k0_pay10 q) (k0_pay11 b) (ix2 (n1 := 1) ⟨128 * hh.val + a.val, by omega⟩ 0) = top (score S x0 x1 n (hd p hh) a) := by
  pointwise [k0_pay13]
  simp only [ker_score P]
  rfl

theorem ker_pr {S x0 x1 n p v36 kk vv q b} (P : Pair S x0 x1 n p v36 kk vv q b) (hh : Fin 2) (a : Fin 128) (j : Fin 256) :
    k0_pay14 (F := Ideal) v36 kk (k0_pay10 q) (k0_pay11 b) (ix2 ⟨128 * hh.val + a.val, by omega⟩ j) = pr (score S x0 x1 n (hd p hh) a) j := by
  pointwise [k0_pay14]
  simp only [ker_score P, ker_top P]
  rfl

theorem ker_sum {S x0 x1 n p v36 kk vv q b} (P : Pair S x0 x1 n p v36 kk vv q b) (hh : Fin 2) (a : Fin 128) :
    k0_pay15 (F := Ideal) v36 kk (k0_pay10 q) (k0_pay11 b) (ix2 (n1 := 1) ⟨128 * hh.val + a.val, by omega⟩ 0) = ∑ j, pr (score S x0 x1 n (hd p hh) a) j := by
  pointwise [k0_pay15]
  simp only [ker_pr P]

/-- The pair's output at a lane: the attention of the head that the lane belongs to. -/
theorem ker_o {S x0 x1 n p v36 kk vv q b} (P : Pair S x0 x1 n p v36 kk vv q b) (a l : Fin 128) :
    k0_pay16 (F := Ideal) v36 k0_pay9 kk vv (k0_pay10 q) (k0_pay11 b) (ix2 a l)
      = att (score S x0 x1 n (hd p ⟨l.val / 64, by omega⟩) a) (fun j => x0 (ix2 (src n j) ⟨1024 + (128 * p.val + l.val), by omega⟩)) := by
  have ha := a.isLt
  have hl := l.isLt
  pointwise [k0_pay16, k0_pay9]
  have hw : IntOp.cmpi CmpIPredicate.slt (BitVec.ofNat 32 l.val) 64#32 = BitVec.ofBool (decide (l.val < 64)) :=
    WordCmp.cmpi_slt_ofNat (by norm_num; omega) (by norm_num)
  rw [hw, WordCmp.select_decide]
  have hv : ∀ (w : Fin 256 → EReal) (h : Fin 8), (∀ j, w j = pr (score S x0 x1 n h a) j) →
      (∑ j, w j * vv (ix2 j l)) = ∑ j, pr (score S x0 x1 n h a) j * x0 (ix2 (src n j) ⟨1024 + (128 * p.val + l.val), by omega⟩) := fun w h hw => by
    refine Finset.sum_congr rfl fun j _ => ?_
    rw [hw]
    by_cases hs : 128 ≤ j.val ∨ 0 < n.val % (4 * S)
    · rw [P.value j l hs]
    · rw [pr_masked _ _ (if_neg fun h => hs h.2), zero_mul, zero_mul]
  by_cases h64 : l.val < 64
  · rw [if_pos h64]
    have e0 : (⟨l.val / 64, by omega⟩ : Fin 2) = 0 := Fin.ext (show l.val / 64 = 0 by omega)
    have ea : (⟨a.val, by omega⟩ : Fin 256) = ⟨128 * (0 : Fin 2).val + a.val, by simp; omega⟩ := Fin.ext (show a.val = 128 * 0 + a.val by omega)
    rw [e0, ea, hv _ (hd p 0) fun j => ker_pr P 0 a j, ker_sum P, att]
  · rw [if_neg h64]
    have e0 : (⟨l.val / 64, by omega⟩ : Fin 2) = 1 := Fin.ext (show l.val / 64 = 1 by omega)
    have ea : (⟨128 + a.val, by omega⟩ : Fin 256) = ⟨128 * (1 : Fin 2).val + a.val, by simp; omega⟩ := Fin.ext (show 128 + a.val = 128 * 1 + a.val by omega)
    rw [e0, ea, hv _ (hd p 1) fun j => ker_pr P 1 a j, ker_sum P, att]

/-- The pair's logarithm of the sum of exponentials at a lane. -/
theorem ker_l {S x0 x1 n p v36 kk vv q b} (P : Pair S x0 x1 n p v36 kk vv q b) (a l : Fin 128) :
    k0_pay17 (F := Ideal) v36 k0_pay9 kk (k0_pay10 q) (k0_pay11 b) (ix2 a l) = lse (score S x0 x1 n (hd p ⟨l.val / 64, by omega⟩) a) := by
  have ha := a.isLt
  have hl := l.isLt
  pointwise [k0_pay17, k0_pay9]
  have hw : IntOp.cmpi CmpIPredicate.slt (BitVec.ofNat 32 l.val) 64#32 = BitVec.ofBool (decide (l.val < 64)) :=
    WordCmp.cmpi_slt_ofNat (by norm_num; omega) (by norm_num)
  rw [hw, WordCmp.select_decide]
  by_cases h64 : l.val < 64
  · rw [if_pos h64]
    have e0 : (⟨l.val / 64, by omega⟩ : Fin 2) = 0 := Fin.ext (show l.val / 64 = 0 by omega)
    have ea : (⟨a.val, by omega⟩ : Fin 256) = ⟨128 * (0 : Fin 2).val + a.val, by simp; omega⟩ := Fin.ext (show a.val = 128 * 0 + a.val by omega)
    rw [e0, ea, ker_top P, ker_sum P, lse]
  · rw [if_neg h64]
    have e0 : (⟨l.val / 64, by omega⟩ : Fin 2) = 1 := Fin.ext (show l.val / 64 = 1 by omega)
    have ea : (⟨128 + a.val, by omega⟩ : Fin 256) = ⟨128 * (1 : Fin 2).val + a.val, by simp; omega⟩ := Fin.ext (show 128 + a.val = 128 * 1 + a.val by omega)
    rw [e0, ea, ker_top P, ker_sum P, lse]

end Cert.AttnFwdIdeal.Final
-- ==== Proof.AttnFwdPoint.lean ====
/-
  Attention over a window of keys, at one point of the grid: from what a point's buffers hold, what each lane pair of each of its four
  blocks leaves. The rows are sequences of some number of points one after the other; the three groups of heads differ only in this number.
-/
module

public import proofs.«01_k».proof.Proof.AttnFwdPure
public import Idealize.ShloMosaic.Lib.Pipeline.ReadBack
public import Idealize.ShloMosaic.Lib.Writes
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnFwdIdeal.Final

open Cert.AttnFwdIdeal Cert.AttnFwdIdeal.Gen Cert.AttnFwdRefIdeal.Read

/-! ### One point -/

/-- A row of the array, from a point's block. -/
def prow (t : Fin 32) (r : Fin 512) : Fin 16384 := ⟨512 * t.val + r.val, by omega⟩

/-- What the outputs' blocks of point `t` are to hold, the rows being sequences of `4 * S` blocks one after the other. -/
def blkO (S : ℕ) (x0 : FVec Ideal S16384x1536 .bf16) (x1 : FVec Ideal S8x128x256 .f32) (t : Fin 32) (y : S512x512.Idx) : EReal :=
  outO S x0 x1 (prow t (y 0)) (y 1)
def blkL (S : ℕ) (x0 : FVec Ideal S16384x1536 .bf16) (x1 : FVec Ideal S8x128x256 .f32) (t : Fin 32) (y : S512x512.Idx) : EReal :=
  outL S x0 x1 (prow t (y 0)) (y 1)

/-- What a point's buffers hold: the block's queries, the keys and values of the block and the 128 rows before it (except before a
    sequence's first row), and the biases. -/
structure Held (S : ℕ) (x0 : FVec Ideal S16384x1536 .bf16) (x1 : FVec Ideal S8x128x256 .f32) (t : Fin 32)
    (Q : FVec Ideal S512x512 .bf16) (K V : FVec Ideal S640x512 .bf16) (B : FVec Ideal S8x128x256 .f32) : Prop where
  query : ∀ r c : Fin 512, Q (ix2 r c) = x0 (ix2 (prow t r) ⟨c.val, by omega⟩)
  key : ∀ (r : Fin 640) (c : Fin 512), (128 ≤ r.val ∨ 0 < t.val % S) → K (ix2 r c) = x0 (ix2 ⟨512 * t.val + r.val - 128, by omega⟩ ⟨512 + c.val, by omega⟩)
  value : ∀ (r : Fin 640) (c : Fin 512), (128 ≤ r.val ∨ 0 < t.val % S) → V (ix2 r c) = x0 (ix2 ⟨512 * t.val + r.val - 128, by omega⟩ ⟨1024 + c.val, by omega⟩)
  bias : ∀ (h : Fin 8) (a : Fin 128) (j : Fin 256), B (ix3 h a j) = x1 (ix3 h a j)

/-- The attention at the row and column of a query and a head. -/
theorem outO_at {S x0 x1} (n i : Fin 128) (h : Fin 8) (r : Fin 16384) (l : Fin 512) (hr : r.val = 128 * n.val + i.val) (hl : l.val / 64 = h.val) :
    outO S x0 x1 r l = att (score S x0 x1 n h i) (fun j => x0 (ix2 (src n j) ⟨1024 + l.val, by omega⟩)) := by
  rw [outO, show (⟨r.val / 128, by omega⟩ : Fin 128) = n from Fin.ext (show r.val / 128 = n.val by omega),
    show (⟨r.val % 128, by omega⟩ : Fin 128) = i from Fin.ext (show r.val % 128 = i.val by omega),
    show (⟨l.val / 64, by omega⟩ : Fin 8) = h from Fin.ext hl]

theorem outL_at {S x0 x1} (n i : Fin 128) (h : Fin 8) (r : Fin 16384) (l : Fin 512) (hr : r.val = 128 * n.val + i.val) (hl : l.val / 64 = h.val) :
    outL S x0 x1 r l = lse (score S x0 x1 n h i) := by
  rw [outL, show (⟨r.val / 128, by omega⟩ : Fin 128) = n from Fin.ext (show r.val / 128 = n.val by omega),
    show (⟨r.val % 128, by omega⟩ : Fin 128) = i from Fin.ext (show r.val % 128 = i.val by omega),
    show (⟨l.val / 64, by omega⟩ : Fin 8) = h from Fin.ext hl]

/-- A piece of the output that a lane pair of a block computes holds the attention there. -/
theorem piece_o {S x0 x1 n p v36 kk vv q b} (P : Pair S x0 x1 n p v36 kk vv q b) (t : Fin 32) (k : Fin k0_t1_loop.trips) (hn : n.val = 4 * t.val + k.val)
    {off : Fin 2 → ℕ} (hoff : off = ![128 * k.val, 128 * p.val]) (inb) (x : S128x128.Idx) :
    k0_pay16 (F := Ideal) v36 k0_pay9 kk vv (k0_pay10 q) (k0_pay11 b) x
      = blkO S x0 x1 t ((Rect.unit (s := S512x512) off S128x128.size inb).emb x) := by
  have hk : k.val < 4 := lt_of_lt_of_le k.isLt k0_t1_abs.2.1
  have hp := p.isLt
  subst hoff
  obtain ⟨a, l, rfl⟩ : ∃ a l, x = ix2 a l := ⟨x 0, x 1, by ext d; fin_cases d <;> rfl⟩
  have he : (Rect.unit (s := S512x512) ![128 * k.val, 128 * p.val] S128x128.size inb).emb (ix2 a l)
      = ix2 (⟨128 * k.val + a.val, by omega⟩ : Fin 512) (⟨128 * p.val + l.val, by omega⟩ : Fin 512) :=
    Rect.emb_eq_of_coords _ _ _ fun d => by
      fin_cases d
      · exact (congrArg (128 * k.val + ·) (one_mul _)).symm
      · exact (congrArg (128 * p.val + ·) (one_mul _)).symm
  rw [he]
  refine (ker_o P a l).trans (outO_at n a _ (prow t ⟨128 * k.val + a.val, by omega⟩) ⟨128 * p.val + l.val, by omega⟩ ?_ ?_).symm
  · show 512 * t.val + (128 * k.val + a.val) = 128 * n.val + a.val
    omega
  · show (128 * p.val + l.val) / 64 = 2 * p.val + l.val / 64
    omega

theorem piece_l {S x0 x1 n p v36 kk vv q b} (P : Pair S x0 x1 n p v36 kk vv q b) (t : Fin 32) (k : Fin k0_t1_loop.trips) (hn : n.val = 4 * t.val + k.val)
    {off : Fin 2 → ℕ} (hoff : off = ![128 * k.val, 128 * p.val]) (inb) (x : S128x128.Idx) :
    k0_pay17 (F := Ideal) v36 k0_pay9 kk (k0_pay10 q) (k0_pay11 b) x
      = blkL S x0 x1 t ((Rect.unit (s := S512x512) off S128x128.size inb).emb x) := by
  have hk : k.val < 4 := lt_of_lt_of_le k.isLt k0_t1_abs.2.1
  have hp := p.isLt
  subst hoff
  obtain ⟨a, l, rfl⟩ : ∃ a l, x = ix2 a l := ⟨x 0, x 1, by ext d; fin_cases d <;> rfl⟩
  have he : (Rect.unit (s := S512x512) ![128 * k.val, 128 * p.val] S128x128.size inb).emb (ix2 a l)
      = ix2 (⟨128 * k.val + a.val, by omega⟩ : Fin 512) (⟨128 * p.val + l.val, by omega⟩ : Fin 512) :=
    Rect.emb_eq_of_coords _ _ _ fun d => by
      fin_cases d
      · exact (congrArg (128 * k.val + ·) (one_mul _)).symm
      · exact (congrArg (128 * p.val + ·) (one_mul _)).symm
  rw [he]
  refine (ker_l P a l).trans (outL_at n a _ (prow t ⟨128 * k.val + a.val, by omega⟩) ⟨128 * p.val + l.val, by omega⟩ ?_ ?_).symm
  · show 512 * t.val + (128 * k.val + a.val) = 128 * n.val + a.val
    omega
  · show (128 * p.val + l.val) / 64 = 2 * p.val + l.val / 64
    omega

/-- The body of a point finds in its buffers what a lane pair of a block needs. -/
theorem pair_of {sig : RefSig} {S x0 x1 t} (hS : 0 < S) {arg2 : Memref sig .tc .vmem S512x512 .bf16} {arg7 : Memref sig .tc .vmem S8x128x256 .f32}
    {arg10 : Memref sig .tc .vmem S640x512 .bf16} {arg11 : Memref sig .tc .vmem S640x512 .bf16} {X2 X7 X10 X11}
    (H : Held S x0 x1 t (arg2.view.read (Elt Ideal) X2) (arg10.view.read (Elt Ideal) X10) (arg11.view.read (Elt Ideal) X11) (arg7.view.read (Elt Ideal) X7))
    (k : Fin k0_t1_loop.trips) (n : Fin 128) (hn : n.val = 4 * t.val + k.val) (p : Fin 4)
    {o1 o2 : Fin 2 → ℕ} {o3 : Fin 3 → ℕ} (h1 : o1 = ![128 * k.val, 128 * p.val]) (h2 : o2 = ![128 * k.val, 128 * p.val]) (h3 : o3 = ![2 * p.val, 0, 0]) (i1 i2 i3) :
    Pair S x0 x1 n p (k0_pay8 (BitVec.ofNat 32 (t.val % S)) 0#32 1#32 k)
      (View.readAt (Elt Ideal) arg10.view (Rect.unit (s := S640x512) o1 S256x128.size i1).toLoadRect X10)
      (View.readAt (Elt Ideal) arg11.view (Rect.unit (s := S640x512) o1 S256x128.size i1).toLoadRect X11)
      (View.readAt (Elt Ideal) arg2.view (Rect.unit (s := S512x512) o2 S128x128.size i2).toLoadRect X2)
      (View.readAt (Elt Ideal) arg7.view (Rect.unit (s := S8x128x256) o3 S2x128x256.size i3).toLoadRect X7) := by
  have hk : k.val < 4 := lt_of_lt_of_le k.isLt k0_t1_abs.2.1
  have hp := p.isLt
  have ht := t.isLt
  have hm : n.val % (4 * S) = 4 * (t.val % S) + k.val := hn ▸ mod_block hS hk
  have hw : ∀ j, 128 ≤ j ∨ 0 < n.val % (4 * S) → 128 ≤ 128 * k.val + j ∨ 0 < t.val % S := fun j h => by
    rw [hm] at h
    omega
  subst h1 h2 h3
  have e1 : ∀ (j : Fin 256) (l : Fin 128), (Rect.unit (s := S640x512) ![128 * k.val, 128 * p.val] S256x128.size i1).emb (ix2 j l)
      = ix2 (⟨128 * k.val + j.val, by omega⟩ : Fin 640) (⟨128 * p.val + l.val, by omega⟩ : Fin 512) := fun j l =>
    Rect.emb_eq_of_coords _ _ _ fun d => by
      fin_cases d
      · exact (congrArg (128 * k.val + ·) (one_mul _)).symm
      · exact (congrArg (128 * p.val + ·) (one_mul _)).symm
  have e2 : ∀ (a l : Fin 128), (Rect.unit (s := S512x512) ![128 * k.val, 128 * p.val] S128x128.size i2).emb (ix2 a l)
      = ix2 (⟨128 * k.val + a.val, by omega⟩ : Fin 512) (⟨128 * p.val + l.val, by omega⟩ : Fin 512) := fun a l =>
    Rect.emb_eq_of_coords _ _ _ fun d => by
      fin_cases d
      · exact (congrArg (128 * k.val + ·) (one_mul _)).symm
      · exact (congrArg (128 * p.val + ·) (one_mul _)).symm
  have e3 : ∀ (h : Fin 2) (a : Fin 128) (j : Fin 256), (Rect.unit (s := S8x128x256) ![2 * p.val, 0, 0] S2x128x256.size i3).emb (ix3 h a j) = ix3 (hd p h) a j := fun h a j =>
    Rect.emb_eq_of_coords _ _ _ fun d => by
      fin_cases d
      · exact (congrArg (2 * p.val + ·) (one_mul _)).symm
      · exact ((zero_add _).trans (one_mul _)).symm
      · exact ((zero_add _).trans (one_mul _)).symm
  refine ⟨fun R j => ker_word (t.val % S) (lt_of_le_of_lt (Nat.mod_le _ _) ht) k _ hm R j, fun a l => ?_, fun j l hs => ?_, fun j l hs => ?_, fun h a j => ?_⟩
  · refine (congrArg (arg2.view.read (Elt Ideal) X2) (e2 a l)).trans ((H.query _ _).trans (congrArg x0 ((ix2_inj ..).2 ⟨Fin.ext ?_, rfl⟩)))
    show 512 * t.val + (128 * k.val + a.val) = 128 * n.val + a.val
    omega
  · refine (congrArg (arg10.view.read (Elt Ideal) X10) (e1 j l)).trans ((H.key _ _ (hw _ hs)).trans (congrArg x0 ((ix2_inj ..).2 ⟨Fin.ext ?_, rfl⟩)))
    show 512 * t.val + (128 * k.val + j.val) - 128 = 128 * n.val + j.val - 128
    omega
  · refine (congrArg (arg11.view.read (Elt Ideal) X11) (e1 j l)).trans ((H.value _ _ (hw _ hs)).trans (congrArg x0 ((ix2_inj ..).2 ⟨Fin.ext ?_, rfl⟩)))
    show 512 * t.val + (128 * k.val + j.val) - 128 = 128 * n.val + j.val - 128
    omega
  · exact (congrArg (arg7.view.read (Elt Ideal) X7) (e3 h a j)).trans (H.bias _ _ _)

/-! ### What the body finds in its buffers -/

/-- The staged keys or values: 128 rows of the block before, then the 512 rows of the block. -/
theorem stage {sig : RefSig} {κ : Kind} {sp : Space} (v : View sig κ sp S640x512 .bf16) (f : v.ty.Contents (Elt Ideal)) (w1 : FVec Ideal S512x512 .bf16) (w2 : FVec Ideal S128x512 .bf16)
    (i1 i2) (r : Fin 640) (c : Fin 512) :
    v.read (Elt Ideal) (v.writes (Elt Ideal) f [⟨Rect.unit (s := S640x512) ![128, 0] S512x512.size i1, w1⟩, ⟨Rect.unit (s := S640x512) ![0, 0] S128x512.size i2, w2⟩]) (ix2 r c)
      = if h : 128 ≤ r.val then w1 (ix2 ⟨r.val - 128, by omega⟩ c) else w2 (ix2 ⟨r.val, by omega⟩ c) := by
  by_cases h : 128 ≤ r.val
  · rw [dif_pos h]
    exact View.read_writes_cons_hit_of_coords v f (Rect.unit (s := S640x512) ![128, 0] S512x512.size i1) w1 _ (ix2 (⟨r.val - 128, by omega⟩ : Fin 512) c) (ix2 r c)
      (Fin.forall_fin_two.2 ⟨show r.val = 128 + 1 * (r.val - 128) by omega, show c.val = 0 + 1 * c.val by omega⟩)
  · rw [dif_neg h]
    refine (View.read_writes_cons_miss_of_axis v f ⟨Rect.unit (s := S640x512) ![128, 0] S512x512.size i1, w1⟩ _ (ix2 r c) (0 : Fin 2) 128 512 rfl rfl rfl (.inl (show r.val < 128 by omega))).trans ?_
    exact View.read_writes_cons_hit_of_coords v f (Rect.unit (s := S640x512) ![0, 0] S128x512.size i2) w2 _ (ix2 (⟨r.val, by omega⟩ : Fin 128) c) (ix2 r c)
      (Fin.forall_fin_two.2 ⟨show r.val = 0 + 1 * r.val by omega, show c.val = 0 + 1 * c.val by omega⟩)

end Cert.AttnFwdIdeal.Final
-- ==== Proof.AttnFwd16Pure.lean ====
/-
  The plain lines of attention over a window of keys for the group of heads with dilation 16: the tokens are ordered by their residue class
  modulo 16, and each class is a sequence of its own.
-/
module

public import proofs.«01_k».proof.Proof.Gen.AttnFwd16Ideal.Frame
public import proofs.«01_k».proof.Proof.Gen.AttnFwd16RefIdeal.Read
public import proofs.«01_k».proof.Proof.AttnFwdPoint

@[expose] public section

set_option maxRecDepth 16384

noncomputable section

open Idealize.ShloMosaic Idealize.ShloMosaic.TcCoe Idealize.SL.Sem

namespace Cert.AttnFwd16Ideal.Final

open Cert.AttnFwd16Ideal Cert.AttnFwd16Ideal.Gen Cert.AttnFwd16RefIdeal.Read
open Cert.AttnFwdIdeal.Final (Sees score row src top pr att lse outO outL ninf c8 pr_masked toInt_diff toInt_slot)

/-- The token that row `r` of the reordered array is. -/
def tok (r : Fin 16384) : Fin 16384 := ⟨r.val % 1024 * 16 + r.val / 1024, by omega⟩

/-- The projected array with its rows reordered by residue class. -/
def res (x0 : FVec Ideal S16384x1536 .bf16) : FVec Ideal S16384x1536 .bf16 := fun i => x0 (ix2 (tok (i 0)) (i 1))

/-- Block `b` of residue class `z`, among all blocks. -/
def blk (z : Fin 16) (b : Fin 8) : Fin 128 := ⟨8 * z.val + b.val, by omega⟩

theorem blk_mod (z : Fin 16) (b : Fin 8) : (blk z b).val % (4 * 2) = b.val := by
  have hb := b.isLt
  show (8 * z.val + b.val) % 8 = b.val
  omega

/-- The plain lines' mask word. -/
theorem ref_word (n : Fin 8) (i : Fin 128) (j : Fin 256) : val_main_v59 (F := Ideal) (ix3 n i j) = BitVec.ofBool (decide (Sees n i j)) := by
  have hn := n.isLt
  have hi := i.isLt
  have hj := j.isLt
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8, val_main_c_9]
  rw [WordCmp.cmpi_sge_eq, WordCmp.cmpi_sle_eq, WordCmp.cmpi_sge_eq, toInt_diff _ _ (by omega) hj, toInt_slot _ _ (by omega) hj,
    WordCmp.andi_ofBool, WordCmp.andi_ofBool]
  refine congrArg BitVec.ofBool ?_
  rw [← Bool.decide_and, ← Bool.decide_and, decide_eq_decide]
  simp only [Sees, show (0#32).toInt = 0 from rfl, show (128#32).toInt = 128 from rfl]
  omega

/-- An entry of the reordered array, from the token it is of. -/
theorem res_at (x0 : FVec Ideal S16384x1536 .bf16) (R r : Fin 16384) (l l' : Fin 1536) (hr : R.val % 1024 * 16 + R.val / 1024 = r.val) (hl : l'.val = l.val) :
    x0 (ix2 r l) = res x0 (ix2 R l') :=
  congrArg x0 ((ix2_inj ..).2 ⟨Fin.ext hr.symm, Fin.ext hl.symm⟩)

/-- The plain lines' query. -/
theorem ref_q (x0 : FVec Ideal S16384x1536 .bf16) (z : Fin 16) (b : Fin 8) (h : Fin 8) (i : Fin 128) (d : Fin 64) :
    val_main_v13 (F := Ideal) x0 (ix5 z b i h d) = res x0 (ix2 (row (blk z b) i) ⟨64 * h.val + d.val, by have := h.isLt; have := d.isLt; omega⟩) := by
  have hz := z.isLt
  have hb := b.isLt
  have hi := i.isLt
  have hh := h.isLt
  have hd := d.isLt
  pointwise [val_main_v13, val_main_v12, val_main_v11, val_main_v10, val_main_v9, val_main_v2, val_main_v1, val_main_v0]
  rw [dif_pos (by omega)]
  exact res_at _ _ _ _ _ (by dsimp only [row, blk]; omega) (by dsimp only; omega)

/-- The plain lines' key at a slot that is not before its sequence's first row. -/
theorem ref_k (x0 : FVec Ideal S16384x1536 .bf16) (z : Fin 16) (b : Fin 8) (h : Fin 8) (j : Fin 256) (d : Fin 64) (hs : 128 ≤ j.val ∨ 0 < b.val) :
    val_main_v21 (F := Ideal) x0 (ix5 z b j h d) = res x0 (ix2 (src (blk z b) j) ⟨512 + (64 * h.val + d.val), by have := h.isLt; have := d.isLt; omega⟩) := by
  have hz := z.isLt
  have hb := b.isLt
  have hj := j.isLt
  have hh := h.isLt
  have hd := d.isLt
  pointwise [val_main_v21, val_main_v20, val_main_v19, val_main_v18, val_main_v17, val_main_v16, val_main_v15, val_main_v14, val_main_v5, val_main_v4, val_main_v3]
  by_cases h1 : j.val < 128
  · rw [dif_pos h1, dif_pos ⟨by omega, h1⟩, dif_pos (by omega)]
    exact res_at _ _ _ _ _ (by dsimp only [src, blk]; omega) (by dsimp only; omega)
  · rw [dif_neg h1, dif_pos (by omega)]
    exact res_at _ _ _ _ _ (by dsimp only [src, blk]; omega) (by dsimp only; omega)

/-- The plain lines' value at a slot that is not before its sequence's first row. -/
theorem ref_v (x0 : FVec Ideal S16384x1536 .bf16) (z : Fin 16) (b : Fin 8) (h : Fin 8) (j : Fin 256) (d : Fin 64) (hs : 128 ≤ j.val ∨ 0 < b.val) :
    val_main_v29 (F := Ideal) x0 (ix5 z b j h d) = res x0 (ix2 (src (blk z b) j) ⟨1024 + (64 * h.val + d.val), by have := h.isLt; have := d.isLt; omega⟩) := by
  have hz := z.isLt
  have hb := b.isLt
  have hj := j.isLt
  have hh := h.isLt
  have hd := d.isLt
  pointwise [val_main_v29, val_main_v28, val_main_v27, val_main_v26, val_main_v25, val_main_v24, val_main_v23, val_main_v22, val_main_v8, val_main_v7, val_main_v6]
  by_cases h1 : j.val < 128
  · rw [dif_pos h1, dif_pos ⟨by omega, h1⟩, dif_pos (by omega)]
    exact res_at _ _ _ _ _ (by dsimp only [src, blk]; omega) (by dsimp only; omega)
  · rw [dif_neg h1, dif_pos (by omega)]
    exact res_at _ _ _ _ _ (by dsimp only [src, blk]; omega) (by dsimp only; omega)

/-- The plain lines' score. -/
theorem ref_score (x0 : FVec Ideal S16384x1536 .bf16) (x1 : FVec Ideal S8x128x256 .f32) (z : Fin 16) (b : Fin 8) (h : Fin 8) (i : Fin 128) (j : Fin 256) :
    val_main_v67 (F := Ideal) x0 x1 (ix5 z b h i j) = score 2 (res x0) x1 (blk z b) h i j := by
  pointwise [val_main_v67, val_main_v66, val_main_v65, val_main_v64, val_main_v63, val_main_v62, val_main_v61, val_main_v60, val_main_call5_v1, val_main_call5_v2, val_main_call5_v0, val_main_cst, val_main_cst_10]
  rw [ref_word, WordCmp.select_decide, score, blk_mod]
  by_cases hs : Sees b i j
  · rw [if_pos hs, if_pos hs]
    refine congrArg (· * c8 + _) (Finset.sum_congr rfl fun d _ => ?_)
    rw [ref_q, ref_k x0 z b h j d hs.2]
  · rw [if_neg hs, if_neg hs]
    rfl

/-- The plain lines' weight. -/
theorem ref_pr (x0 : FVec Ideal S16384x1536 .bf16) (x1 : FVec Ideal S8x128x256 .f32) (z : Fin 16) (b : Fin 8) (h : Fin 8) (i : Fin 128) (j : Fin 256) :
    val_main_v72 (F := Ideal) x0 x1 (ix5 z b h i j) = pr (score 2 (res x0) x1 (blk z b) h i) j := by
  pointwise [val_main_v72, val_main_v71, val_main_v70, val_main_v69, val_main_v68, val_main_cst_11]
  simp only [ref_score]
  rfl

/-- The plain lines' logarithm of the sum of exponentials, from its two parts. -/
theorem ref_parts (x0 : FVec Ideal S16384x1536 .bf16) (x1 : FVec Ideal S8x128x256 .f32) (z : Fin 16) (b : Fin 8) (h : Fin 8) (i : Fin 128) :
    val_main_v81 (F := Ideal) x0 x1 (ix5 (n4 := 1) z b h i 0)
      = val_main_v69 (F := Ideal) x0 x1 (ix5 (n4 := 1) z b h i 0) + Ideal.log (val_main_v74 (F := Ideal) x0 x1 (ix5 (n4 := 1) z b h i 0)) := by
  rw [val_main_v81_apply, val_main_v80_apply]
  rfl

theorem ref_top (x0 : FVec Ideal S16384x1536 .bf16) (x1 : FVec Ideal S8x128x256 .f32) (z : Fin 16) (b : Fin 8) (h : Fin 8) (i : Fin 128) :
    val_main_v69 (F := Ideal) x0 x1 (ix5 (n4 := 1) z b h i 0) = top (score 2 (res x0) x1 (blk z b) h i) := by
  pointwise [val_main_v69, val_main_v68, val_main_cst_11]
  simp only [ref_score]
  rfl

theorem ref_sum (x0 : FVec Ideal S16384x1536 .bf16) (x1 : FVec Ideal S8x128x256 .f32) (z : Fin 16) (b : Fin 8) (h : Fin 8) (i : Fin 128) :
    val_main_v74 (F := Ideal) x0 x1 (ix5 (n4 := 1) z b h i 0) = ∑ j, pr (score 2 (res x0) x1 (blk z b) h i) j := by
  pointwise [val_main_v74, val_main_v73, val_main_cst_12]
  simp only [ref_pr]

/-- The plain lines' attention as a quotient of sums, at a token. -/
theorem ref_quot (x0 : FVec Ideal S16384x1536 .bf16) (x1 : FVec Ideal S8x128x256 .f32) (R : Fin 16384) (l : Fin 512) :
    val_main_v90 (F := Ideal) x0 x1 (ix2 (tok R) l)
      = Ideal.div (∑ j : Fin 256, val_main_v29 (F := Ideal) x0 (ix5 ⟨R.val / 1024, by omega⟩ ⟨R.val % 1024 / 128, by omega⟩ j ⟨l.val / 64, by omega⟩ ⟨l.val % 64, by omega⟩)
            * val_main_v72 (F := Ideal) x0 x1 (ix5 ⟨R.val / 1024, by omega⟩ ⟨R.val % 1024 / 128, by omega⟩ ⟨l.val / 64, by omega⟩ ⟨R.val % 128, by omega⟩ j))
          (∑ j : Fin 256, val_main_v72 (F := Ideal) x0 x1 (ix5 ⟨R.val / 1024, by omega⟩ ⟨R.val % 1024 / 128, by omega⟩ ⟨l.val / 64, by omega⟩ ⟨R.val % 128, by omega⟩ j)) := by
  have hr := R.isLt
  have hl := l.isLt
  pointwise [tok, val_main_v90, val_main_v86, val_main_v85, val_main_v84, val_main_v79, val_main_v78, val_main_v77, val_main_v76, val_main_v75, val_main_v74, val_main_v73, val_main_cst_12]
  have e1 : (R.val % 1024 * 16 + R.val / 1024) % 16 = R.val / 1024 := by omega
  have e2 : (R.val % 1024 * 16 + R.val / 1024) / 16 = R.val % 1024 := by omega
  have e3 : R.val % 1024 % 128 = R.val % 128 := by omega
  simp only [e1, e2, e3]

/-- A row's block and place in the block. -/
theorem blk_of (R : Fin 16384) : blk ⟨R.val / 1024, by omega⟩ ⟨R.val % 1024 / 128, by omega⟩ = ⟨R.val / 128, by omega⟩ := Fin.ext (by dsimp only [blk]; omega)

/-- The plain lines' attention, at a token. -/
theorem ref_o (x0 : FVec Ideal S16384x1536 .bf16) (x1 : FVec Ideal S8x128x256 .f32) (R : Fin 16384) (l : Fin 512) :
    val_main_v90 (F := Ideal) x0 x1 (ix2 (tok R) l) = outO 2 (res x0) x1 R l := by
  have hr := R.isLt
  have hl := l.isLt
  rw [ref_quot, outO, att]
  simp only [ref_pr, blk_of]
  refine congrArg (Ideal.div · _) (Finset.sum_congr rfl fun j _ => ?_)
  rw [mul_comm]
  by_cases hs : 128 ≤ j.val ∨ 0 < R.val % 1024 / 128
  · rw [ref_v x0 _ _ _ _ _ hs, blk_of]
    refine congrArg (_ * res x0 ·) ((ix2_inj ..).2 ⟨rfl, Fin.ext ?_⟩)
    show 1024 + (64 * (l.val / 64) + l.val % 64) = 1024 + l.val
    omega
  · rw [pr_masked _ _ (if_neg fun h => hs (h.2.imp_right fun h0 => by dsimp only at h0; omega)), zero_mul, zero_mul]

/-- The layout of the plain lines' logarithm of the sum of exponentials, step by step. -/
theorem lay_b (x0 : FVec Ideal S16384x1536 .bf16) (x1 : FVec Ideal S8x128x256 .f32) (z : Fin 16) (b : Fin 8) (h : Fin 8) (i : Fin 128) :
    val_main_v83 (F := Ideal) x0 x1 (ix4 z b i h) = val_main_v81 (F := Ideal) x0 x1 (ix5 (n4 := 1) z b h i 0) := by
  pointwise [val_main_v83, val_main_v82]

theorem lay_c (x0 : FVec Ideal S16384x1536 .bf16) (x1 : FVec Ideal S8x128x256 .f32) (r : Fin 16384) (l : Fin 512) :
    val_main_v94 (F := Ideal) x0 x1 (ix2 r l) = val_main_v89 (F := Ideal) x0 x1 (ix3 (n0 := 1) 0 r ⟨l.val / 64, by omega⟩) := by
  have hr := r.isLt
  have hl := l.isLt
  pointwise [val_main_v94, val_main_v93, val_main_v92, val_main_v91]

theorem lay_d (x0 : FVec Ideal S16384x1536 .bf16) (x1 : FVec Ideal S8x128x256 .f32) (R : Fin 16384) (h : Fin 8) :
    val_main_v89 (F := Ideal) x0 x1 (ix3 (n0 := 1) 0 (tok R) h) = val_main_v83 (F := Ideal) x0 x1 (ix4 ⟨R.val / 1024, by omega⟩ ⟨R.val % 1024 / 128, by omega⟩ ⟨R.val % 128, by omega⟩ h) := by
  have hr := R.isLt
  have hh := h.isLt
  pointwise [tok, val_main_v89, val_main_v88, val_main_v87]
  have e1 : (R.val % 1024 * 16 + R.val / 1024) % 16 = R.val / 1024 := by omega
  have e2 : (R.val % 1024 * 16 + R.val / 1024) / 16 = R.val % 1024 := by omega
  have e3 : R.val % 1024 % 128 = R.val % 128 := by omega
  simp only [e1, e2, e3]

/-- The plain lines' logarithm of the sum of exponentials, at a token. -/
theorem ref_l (x0 : FVec Ideal S16384x1536 .bf16) (x1 : FVec Ideal S8x128x256 .f32) (R : Fin 16384) (l : Fin 512) :
    val_main_v94 (F := Ideal) x0 x1 (ix2 (tok R) l) = outL 2 (res x0) x1 R l := by
  rw [lay_c, lay_d, lay_b, ref_parts, ref_top, ref_sum, outL, lse, blk_of]

end Cert.AttnFwd16Ideal.Final
-- ==== Proof.AttnFwd4Pure.lean ====
/-
  The plain lines of attention over a window of keys for the group of heads with dilation 4: the tokens are ordered by their residue class
  modulo 4, and each class is a sequence of its own.
-/
module

public import proofs.«01_k».proof.Proof.Gen.AttnFwd4Ideal.Frame
public import proofs.«01_k».proof.Proof.Gen.AttnFwd4RefIdeal.Read
public import proofs.«01_k».proof.Proof.AttnFwdPoint

@[expose] public section

set_option maxRecDepth 16384

noncomputable section

open Idealize.ShloMosaic Idealize.ShloMosaic.TcCoe Idealize.SL.Sem

namespace Cert.AttnFwd4Ideal.Final

open Cert.AttnFwd4Ideal Cert.AttnFwd4Ideal.Gen Cert.AttnFwd4RefIdeal.Read
open Cert.AttnFwdIdeal.Final (Sees score row src top pr att lse outO outL ninf c8 pr_masked toInt_diff toInt_slot)

/-- The token that row `r` of the reordered array is. -/
def tok (r : Fin 16384) : Fin 16384 := ⟨r.val % 4096 * 4 + r.val / 4096, by omega⟩

/-- The projected array with its rows reordered by residue class. -/
def res (x0 : FVec Ideal S16384x1536 .bf16) : FVec Ideal S16384x1536 .bf16 := fun i => x0 (ix2 (tok (i 0)) (i 1))

/-- Block `b` of residue class `z`, among all blocks. -/
def blk (z : Fin 4) (b : Fin 32) : Fin 128 := ⟨32 * z.val + b.val, by omega⟩

theorem blk_mod (z : Fin 4) (b : Fin 32) : (blk z b).val % (4 * 8) = b.val := by
  have hb := b.isLt
  show (32 * z.val + b.val) % 32 = b.val
  omega

/-- The plain lines' mask word. -/
theorem ref_word (n : Fin 32) (i : Fin 128) (j : Fin 256) : val_main_v59 (F := Ideal) (ix3 n i j) = BitVec.ofBool (decide (Sees n i j)) := by
  have hn := n.isLt
  have hi := i.isLt
  have hj := j.isLt
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8, val_main_c_9]
  rw [WordCmp.cmpi_sge_eq, WordCmp.cmpi_sle_eq, WordCmp.cmpi_sge_eq, toInt_diff _ _ (by omega) hj, toInt_slot _ _ (by omega) hj,
    WordCmp.andi_ofBool, WordCmp.andi_ofBool]
  refine congrArg BitVec.ofBool ?_
  rw [← Bool.decide_and, ← Bool.decide_and, decide_eq_decide]
  simp only [Sees, show (0#32).toInt = 0 from rfl, show (128#32).toInt = 128 from rfl]
  omega

/-- An entry of the reordered array, from the token it is of. -/
theorem res_at (x0 : FVec Ideal S16384x1536 .bf16) (R r : Fin 16384) (l l' : Fin 1536) (hr : R.val % 4096 * 4 + R.val / 4096 = r.val) (hl : l'.val = l.val) :
    x0 (ix2 r l) = res x0 (ix2 R l') :=
  congrArg x0 ((ix2_inj ..).2 ⟨Fin.ext hr.symm, Fin.ext hl.symm⟩)

/-- The plain lines' query. -/
theorem ref_q (x0 : FVec Ideal S16384x1536 .bf16) (z : Fin 4) (b : Fin 32) (h : Fin 8) (i : Fin 128) (d : Fin 64) :
    val_main_v13 (F := Ideal) x0 (ix5 z b i h d) = res x0 (ix2 (row (blk z b) i) ⟨64 * h.val + d.val, by have := h.isLt; have := d.isLt; omega⟩) := by
  have hz := z.isLt
  have hb := b.isLt
  have hi := i.isLt
  have hh := h.isLt
  have hd := d.isLt
  pointwise [val_main_v13, val_main_v12, val_main_v11, val_main_v10, val_main_v9, val_main_v2, val_main_v1, val_main_v0]
  rw [dif_pos (by omega)]
  exact res_at _ _ _ _ _ (by dsimp only [row, blk]; omega) (by dsimp only; omega)

/-- The plain lines' key at a slot that is not before its sequence's first row. -/
theorem ref_k (x0 : FVec Ideal S16384x1536 .bf16) (z : Fin 4) (b : Fin 32) (h : Fin 8) (j : Fin 256) (d : Fin 64) (hs : 128 ≤ j.val ∨ 0 < b.val) :
    val_main_v21 (F := Ideal) x0 (ix5 z b j h d) = res x0 (ix2 (src (blk z b) j) ⟨512 + (64 * h.val + d.val), by have := h.isLt; have := d.isLt; omega⟩) := by
  have hz := z.isLt
  have hb := b.isLt
  have hj := j.isLt
  have hh := h.isLt
  have hd := d.isLt
  pointwise [val_main_v21, val_main_v20, val_main_v19, val_main_v18, val_main_v17, val_main_v16, val_main_v15, val_main_v14, val_main_v5, val_main_v4, val_main_v3]
  by_cases h1 : j.val < 128
  · rw [dif_pos h1, dif_pos ⟨by omega, h1⟩, dif_pos (by omega)]
    exact res_at _ _ _ _ _ (by dsimp only [src, blk]; omega) (by dsimp only; omega)
  · rw [dif_neg h1, dif_pos (by omega)]
    exact res_at _ _ _ _ _ (by dsimp only [src, blk]; omega) (by dsimp only; omega)

/-- The plain lines' value at a slot that is not before its sequence's first row. -/
theorem ref_v (x0 : FVec Ideal S16384x1536 .bf16) (z : Fin 4) (b : Fin 32) (h : Fin 8) (j : Fin 256) (d : Fin 64) (hs : 128 ≤ j.val ∨ 0 < b.val) :
    val_main_v29 (F := Ideal) x0 (ix5 z b j h d) = res x0 (ix2 (src (blk z b) j) ⟨1024 + (64 * h.val + d.val), by have := h.isLt; have := d.isLt; omega⟩) := by
  have hz := z.isLt
  have hb := b.isLt
  have hj := j.isLt
  have hh := h.isLt
  have hd := d.isLt
  pointwise [val_main_v29, val_main_v28, val_main_v27, val_main_v26, val_main_v25, val_main_v24, val_main_v23, val_main_v22, val_main_v8, val_main_v7, val_main_v6]
  by_cases h1 : j.val < 128
  · rw [dif_pos h1, dif_pos ⟨by omega, h1⟩, dif_pos (by omega)]
    exact res_at _ _ _ _ _ (by dsimp only [src, blk]; omega) (by dsimp only; omega)
  · rw [dif_neg h1, dif_pos (by omega)]
    exact res_at _ _ _ _ _ (by dsimp only [src, blk]; omega) (by dsimp only; omega)

/-- The plain lines' score. -/
theorem ref_score (x0 : FVec Ideal S16384x1536 .bf16) (x1 : FVec Ideal S8x128x256 .f32) (z : Fin 4) (b : Fin 32) (h : Fin 8) (i : Fin 128) (j : Fin 256) :
    val_main_v67 (F := Ideal) x0 x1 (ix5 z b h i j) = score 8 (res x0) x1 (blk z b) h i j := by
  pointwise [val_main_v67, val_main_v66, val_main_v65, val_main_v64, val_main_v63, val_main_v62, val_main_v61, val_main_v60, val_main_call5_v1, val_main_call5_v2, val_main_call5_v0, val_main_cst, val_main_cst_10]
  rw [ref_word, WordCmp.select_decide, score, blk_mod]
  by_cases hs : Sees b i j
  · rw [if_pos hs, if_pos hs]
    refine congrArg (· * c8 + _) (Finset.sum_congr rfl fun d _ => ?_)
    rw [ref_q, ref_k x0 z b h j d hs.2]
  · rw [if_neg hs, if_neg hs]
    rfl

/-- The plain lines' weight. -/
theorem ref_pr (x0 : FVec Ideal S16384x1536 .bf16) (x1 : FVec Ideal S8x128x256 .f32) (z : Fin 4) (b : Fin 32) (h : Fin 8) (i : Fin 128) (j : Fin 256) :
    val_main_v72 (F := Ideal) x0 x1 (ix5 z b h i j) = pr (score 8 (res x0) x1 (blk z b) h i) j := by
  pointwise [val_main_v72, val_main_v71, val_main_v70, val_main_v69, val_main_v68, val_main_cst_11]
  simp only [ref_score]
  rfl

/-- The plain lines' logarithm of the sum of exponentials, from its two parts. -/
theorem ref_parts (x0 : FVec Ideal S16384x1536 .bf16) (x1 : FVec Ideal S8x128x256 .f32) (z : Fin 4) (b : Fin 32) (h : Fin 8) (i : Fin 128) :
    val_main_v81 (F := Ideal) x0 x1 (ix5 (n4 := 1) z b h i 0)
      = val_main_v69 (F := Ideal) x0 x1 (ix5 (n4 := 1) z b h i 0) + Ideal.log (val_main_v74 (F := Ideal) x0 x1 (ix5 (n4 := 1) z b h i 0)) := by
  rw [val_main_v81_apply, val_main_v80_apply]
  rfl

theorem ref_top (x0 : FVec Ideal S16384x1536 .bf16) (x1 : FVec Ideal S8x128x256 .f32) (z : Fin 4) (b : Fin 32) (h : Fin 8) (i : Fin 128) :
    val_main_v69 (F := Ideal) x0 x1 (ix5 (n4 := 1) z b h i 0) = top (score 8 (res x0) x1 (blk z b) h i) := by
  pointwise [val_main_v69, val_main_v68, val_main_cst_11]
  simp only [ref_score]
  rfl

theorem ref_sum (x0 : FVec Ideal S16384x1536 .bf16) (x1 : FVec Ideal S8x128x256 .f32) (z : Fin 4) (b : Fin 32) (h : Fin 8) (i : Fin 128) :
    val_main_v74 (F := Ideal) x0 x1 (ix5 (n4 := 1) z b h i 0) = ∑ j, pr (score 8 (res x0) x1 (blk z b) h i) j := by
  pointwise [val_main_v74, val_main_v73, val_main_cst_12]
  simp only [ref_pr]

/-- The plain lines' attention as a quotient of sums, at a token. -/
theorem ref_quot (x0 : FVec Ideal S16384x1536 .bf16) (x1 : FVec Ideal S8x128x256 .f32) (R : Fin 16384) (l : Fin 512) :
    val_main_v90 (F := Ideal) x0 x1 (ix2 (tok R) l)
      = Ideal.div (∑ j : Fin 256, val_main_v29 (F := Ideal) x0 (ix5 ⟨R.val / 4096, by omega⟩ ⟨R.val % 4096 / 128, by omega⟩ j ⟨l.val / 64, by omega⟩ ⟨l.val % 64, by omega⟩)
            * val_main_v72 (F := Ideal) x0 x1 (ix5 ⟨R.val / 4096, by omega⟩ ⟨R.val % 4096 / 128, by omega⟩ ⟨l.val / 64, by omega⟩ ⟨R.val % 128, by omega⟩ j))
          (∑ j : Fin 256, val_main_v72 (F := Ideal) x0 x1 (ix5 ⟨R.val / 4096, by omega⟩ ⟨R.val % 4096 / 128, by omega⟩ ⟨l.val / 64, by omega⟩ ⟨R.val % 128, by omega⟩ j)) := by
  have hr := R.isLt
  have hl := l.isLt
  pointwise [tok, val_main_v90, val_main_v86, val_main_v85, val_main_v84, val_main_v79, val_main_v78, val_main_v77, val_main_v76, val_main_v75, val_main_v74, val_main_v73, val_main_cst_12]
  have e1 : (R.val % 4096 * 4 + R.val / 4096) % 4 = R.val / 4096 := by omega
  have e2 : (R.val % 4096 * 4 + R.val / 4096) / 4 = R.val % 4096 := by omega
  have e3 : R.val % 4096 % 128 = R.val % 128 := by omega
  simp only [e1, e2, e3]

/-- A row's block and place in the block. -/
theorem blk_of (R : Fin 16384) : blk ⟨R.val / 4096, by omega⟩ ⟨R.val % 4096 / 128, by omega⟩ = ⟨R.val / 128, by omega⟩ := Fin.ext (by dsimp only [blk]; omega)

/-- The plain lines' attention, at a token. -/
theorem ref_o (x0 : FVec Ideal S16384x1536 .bf16) (x1 : FVec Ideal S8x128x256 .f32) (R : Fin 16384) (l : Fin 512) :
    val_main_v90 (F := Ideal) x0 x1 (ix2 (tok R) l) = outO 8 (res x0) x1 R l := by
  have hr := R.isLt
  have hl := l.isLt
  rw [ref_quot, outO, att]
  simp only [ref_pr, blk_of]
  refine congrArg (Ideal.div · _) (Finset.sum_congr rfl fun j _ => ?_)
  rw [mul_comm]
  by_cases hs : 128 ≤ j.val ∨ 0 < R.val % 4096 / 128
  · rw [ref_v x0 _ _ _ _ _ hs, blk_of]
    refine congrArg (_ * res x0 ·) ((ix2_inj ..).2 ⟨rfl, Fin.ext ?_⟩)
    show 1024 + (64 * (l.val / 64) + l.val % 64) = 1024 + l.val
    omega
  · rw [pr_masked _ _ (if_neg fun h => hs (h.2.imp_right fun h0 => by dsimp only at h0; omega)), zero_mul, zero_mul]

/-- The layout of the plain lines' logarithm of the sum of exponentials, step by step. -/
theorem lay_b (x0 : FVec Ideal S16384x1536 .bf16) (x1 : FVec Ideal S8x128x256 .f32) (z : Fin 4) (b : Fin 32) (h : Fin 8) (i : Fin 128) :
    val_main_v83 (F := Ideal) x0 x1 (ix4 z b i h) = val_main_v81 (F := Ideal) x0 x1 (ix5 (n4 := 1) z b h i 0) := by
  pointwise [val_main_v83, val_main_v82]

theorem lay_c (x0 : FVec Ideal S16384x1536 .bf16) (x1 : FVec Ideal S8x128x256 .f32) (r : Fin 16384) (l : Fin 512) :
    val_main_v94 (F := Ideal) x0 x1 (ix2 r l) = val_main_v89 (F := Ideal) x0 x1 (ix3 (n0 := 1) 0 r ⟨l.val / 64, by omega⟩) := by
  have hr := r.isLt
  have hl := l.isLt
  pointwise [val_main_v94, val_main_v93, val_main_v92, val_main_v91]

theorem lay_d (x0 : FVec Ideal S16384x1536 .bf16) (x1 : FVec Ideal S8x128x256 .f32) (R : Fin 16384) (h : Fin 8) :
    val_main_v89 (F := Ideal) x0 x1 (ix3 (n0 := 1) 0 (tok R) h) = val_main_v83 (F := Ideal) x0 x1 (ix4 ⟨R.val / 4096, by omega⟩ ⟨R.val % 4096 / 128, by omega⟩ ⟨R.val % 128, by omega⟩ h) := by
  have hr := R.isLt
  have hh := h.isLt
  pointwise [tok, val_main_v89, val_main_v88, val_main_v87]
  have e1 : (R.val % 4096 * 4 + R.val / 4096) % 4 = R.val / 4096 := by omega
  have e2 : (R.val % 4096 * 4 + R.val / 4096) / 4 = R.val % 4096 := by omega
  have e3 : R.val % 4096 % 128 = R.val % 128 := by omega
  simp only [e1, e2, e3]

/-- The plain lines' logarithm of the sum of exponentials, at a token. -/
theorem ref_l (x0 : FVec Ideal S16384x1536 .bf16) (x1 : FVec Ideal S8x128x256 .f32) (R : Fin 16384) (l : Fin 512) :
    val_main_v94 (F := Ideal) x0 x1 (ix2 (tok R) l) = outL 8 (res x0) x1 R l := by
  rw [lay_c, lay_d, lay_b, ref_parts, ref_top, ref_sum, outL, lse, blk_of]

end Cert.AttnFwd4Ideal.Final
-- ==== Proof.AttnFwd4Value.lean ====
/-
  Attention over a window of keys for the group of heads with dilation 4: the trip of the body's loop over the four blocks of a point, the
  buffers that it reads, and what the kernel and the reordering of the rows after it leave in the two results.
-/
module

public import proofs.«01_k».proof.Proof.AttnFwd4Pure
public import Idealize.ShloMosaic.Lib.Pipeline.ReadBack
public import Idealize.ShloMosaic.Lib.Writes
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnFwd4Ideal.Final

open Cert.AttnFwd4Ideal Cert.AttnFwd4Ideal.Gen Cert.AttnFwd4RefIdeal.Read
open Cert.AttnFwdIdeal.Final (outO outL blkO blkL Held pair_of piece_o piece_l prow stage)

/-! ### The four pairs compute the function that the first group's do; their bodies also reshape what they load to its own shape -/

theorem self (q : Vec Ideal S128x128 .bf16) : shapeCast S128x128 q shapeCasts_S128x128_S128x128 = q := shapeCast_self q _

theorem o_pair0 (v36 kk vv q b) : k0_pay17 (F := Ideal) v36 k0_pay11 kk vv (k0_pay12 q) b = Cert.AttnFwdIdeal.Gen.k0_pay16 (F := Ideal) v36 Cert.AttnFwdIdeal.Gen.k0_pay9 kk vv (Cert.AttnFwdIdeal.Gen.k0_pay10 q) (Cert.AttnFwdIdeal.Gen.k0_pay11 b) := by
  rw [← congrArg (fun q => Cert.AttnFwdIdeal.Gen.k0_pay16 (F := Ideal) v36 Cert.AttnFwdIdeal.Gen.k0_pay9 kk vv (Cert.AttnFwdIdeal.Gen.k0_pay10 q) (Cert.AttnFwdIdeal.Gen.k0_pay11 b)) (self q)]
  rfl
theorem l_pair0 (v36 kk q b) : k0_pay18 (F := Ideal) v36 k0_pay11 kk (k0_pay12 q) b = Cert.AttnFwdIdeal.Gen.k0_pay17 (F := Ideal) v36 Cert.AttnFwdIdeal.Gen.k0_pay9 kk (Cert.AttnFwdIdeal.Gen.k0_pay10 q) (Cert.AttnFwdIdeal.Gen.k0_pay11 b) := by
  rw [← congrArg (fun q => Cert.AttnFwdIdeal.Gen.k0_pay17 (F := Ideal) v36 Cert.AttnFwdIdeal.Gen.k0_pay9 kk (Cert.AttnFwdIdeal.Gen.k0_pay10 q) (Cert.AttnFwdIdeal.Gen.k0_pay11 b)) (self q)]
  rfl
theorem o_pair1 (v36 kk vv q b) : k0_pay23 (F := Ideal) v36 k0_pay11 kk vv q b = Cert.AttnFwdIdeal.Gen.k0_pay16 (F := Ideal) v36 Cert.AttnFwdIdeal.Gen.k0_pay9 kk vv (Cert.AttnFwdIdeal.Gen.k0_pay10 q) (Cert.AttnFwdIdeal.Gen.k0_pay11 b) := by
  rw [← congrArg (fun q => Cert.AttnFwdIdeal.Gen.k0_pay16 (F := Ideal) v36 Cert.AttnFwdIdeal.Gen.k0_pay9 kk vv (Cert.AttnFwdIdeal.Gen.k0_pay10 q) (Cert.AttnFwdIdeal.Gen.k0_pay11 b)) (self q)]
  rfl
theorem l_pair1 (v36 kk q b) : k0_pay24 (F := Ideal) v36 k0_pay11 kk q b = Cert.AttnFwdIdeal.Gen.k0_pay17 (F := Ideal) v36 Cert.AttnFwdIdeal.Gen.k0_pay9 kk (Cert.AttnFwdIdeal.Gen.k0_pay10 q) (Cert.AttnFwdIdeal.Gen.k0_pay11 b) := by
  rw [← congrArg (fun q => Cert.AttnFwdIdeal.Gen.k0_pay17 (F := Ideal) v36 Cert.AttnFwdIdeal.Gen.k0_pay9 kk (Cert.AttnFwdIdeal.Gen.k0_pay10 q) (Cert.AttnFwdIdeal.Gen.k0_pay11 b)) (self q)]
  rfl
theorem o_pair2 (v36 kk vv q b) : k0_pay31 (F := Ideal) k0_pay11 (k0_pay29 v36 k0_pay11 kk vv q b) = Cert.AttnFwdIdeal.Gen.k0_pay16 (F := Ideal) v36 Cert.AttnFwdIdeal.Gen.k0_pay9 kk vv (Cert.AttnFwdIdeal.Gen.k0_pay10 q) (Cert.AttnFwdIdeal.Gen.k0_pay11 b) := by
  rw [← congrArg (fun q => Cert.AttnFwdIdeal.Gen.k0_pay16 (F := Ideal) v36 Cert.AttnFwdIdeal.Gen.k0_pay9 kk vv (Cert.AttnFwdIdeal.Gen.k0_pay10 q) (Cert.AttnFwdIdeal.Gen.k0_pay11 b)) (self q)]
  rfl
theorem l_pair2 (v36 kk q b) : k0_pay32 (F := Ideal) k0_pay11 (k0_pay30 v36 k0_pay11 kk q b) = Cert.AttnFwdIdeal.Gen.k0_pay17 (F := Ideal) v36 Cert.AttnFwdIdeal.Gen.k0_pay9 kk (Cert.AttnFwdIdeal.Gen.k0_pay10 q) (Cert.AttnFwdIdeal.Gen.k0_pay11 b) := by
  rw [← congrArg (fun q => Cert.AttnFwdIdeal.Gen.k0_pay17 (F := Ideal) v36 Cert.AttnFwdIdeal.Gen.k0_pay9 kk (Cert.AttnFwdIdeal.Gen.k0_pay10 q) (Cert.AttnFwdIdeal.Gen.k0_pay11 b)) (self q)]
  rfl
theorem o_pair3 (v36 kk vv q b) : k0_pay8 (F := Ideal) k0_pay11 vv (k0_pay33 v36 k0_pay11 kk q b) (k0_pay34 v36 k0_pay11 kk q b) = Cert.AttnFwdIdeal.Gen.k0_pay16 (F := Ideal) v36 Cert.AttnFwdIdeal.Gen.k0_pay9 kk vv (Cert.AttnFwdIdeal.Gen.k0_pay10 q) (Cert.AttnFwdIdeal.Gen.k0_pay11 b) := by
  rw [← congrArg (fun q => Cert.AttnFwdIdeal.Gen.k0_pay16 (F := Ideal) v36 Cert.AttnFwdIdeal.Gen.k0_pay9 kk vv (Cert.AttnFwdIdeal.Gen.k0_pay10 q) (Cert.AttnFwdIdeal.Gen.k0_pay11 b)) (self q)]
  rfl
theorem l_pair3 (v36 kk q b) : k0_pay9 (F := Ideal) k0_pay11 (k0_pay33 v36 k0_pay11 kk q b) (k0_pay34 v36 k0_pay11 kk q b) = Cert.AttnFwdIdeal.Gen.k0_pay17 (F := Ideal) v36 Cert.AttnFwdIdeal.Gen.k0_pay9 kk (Cert.AttnFwdIdeal.Gen.k0_pay10 q) (Cert.AttnFwdIdeal.Gen.k0_pay11 b) := by
  rw [← congrArg (fun q => Cert.AttnFwdIdeal.Gen.k0_pay17 (F := Ideal) v36 Cert.AttnFwdIdeal.Gen.k0_pay9 kk (Cert.AttnFwdIdeal.Gen.k0_pay10 q) (Cert.AttnFwdIdeal.Gen.k0_pay11 b)) (self q)]
  rfl

/-! ### The trip and the loop -/

section Loop

variable {x0 : FVec Ideal S16384x1536 .bf16} {x1 : FVec Ideal S8x128x256 .f32} {t : Fin 32}
variable (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S128x512 .bf16) (harg4 : arg4.IsWhole) (arg5 : Memref sig .tc .vmem S512x512 .bf16) (harg5 : arg5.IsWhole) (arg6 : Memref sig .tc .vmem S128x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S640x512 .bf16) (harg10 : arg10.IsWhole) (arg11 : Memref sig .tc .vmem S640x512 .bf16) (harg11 : arg11.IsWhole) (X_arg2 : BufTy.Contents (Elt Ideal) arg2.view.ty) (X_arg7 : BufTy.Contents (Elt Ideal) arg7.view.ty) (X_arg10 : BufTy.Contents (Elt Ideal) arg10.view.ty) (X_arg11 : BufTy.Contents (Elt Ideal) arg11.view.ty)
variable (H : Held 8 x0 x1 t (arg2.view.read (Elt Ideal) X_arg2) (arg10.view.read (Elt Ideal) X_arg10) (arg11.view.read (Elt Ideal) X_arg11) (arg7.view.read (Elt Ideal) X_arg7))
include H

/-- Every piece that a trip writes holds what is to be there. -/
theorem trip_pieces (k : Fin k0_t1_loop.trips) :
    (∀ pc ∈ (tripL_k0_t1 (F := Ideal) 𝒱 c bd i arg2 harg2 arg3 harg3 arg4 harg4 arg5 harg5 arg6 harg6 arg7 harg7 arg8 harg8 arg9 harg9 arg10 harg10 arg11 harg11 (BitVec.ofNat 32 (t.val % 8)) X_arg2 X_arg7 X_arg10 X_arg11 k).1, ∀ x : pc.1.shape.Idx, pc.2 x = blkO 8 x0 x1 t (pc.1.emb x))
    ∧ (∀ pc ∈ (tripL_k0_t1 (F := Ideal) 𝒱 c bd i arg2 harg2 arg3 harg3 arg4 harg4 arg5 harg5 arg6 harg6 arg7 harg7 arg8 harg8 arg9 harg9 arg10 harg10 arg11 harg11 (BitVec.ofNat 32 (t.val % 8)) X_arg2 X_arg7 X_arg10 X_arg11 k).2, ∀ x : pc.1.shape.Idx, pc.2 x = blkL 8 x0 x1 t (pc.1.emb x)) := by
  have hk : k.val < 4 := lt_of_lt_of_le k.isLt k0_t1_abs.2.1
  have ht := t.isLt
  have P := fun p o1 o2 o3 h1 h2 h3 => pair_of (by norm_num) H k ⟨4 * t.val + k.val, by omega⟩ rfl p (o1 := o1) (o2 := o2) (o3 := o3) h1 h2 h3
  have P0 := P 0 _ _ _ (k0_off1_eq k) (k0_off2_eq k) rfl
  have P1 := P 1 _ _ _ (k0_off3_eq k) (k0_off4_eq k) rfl
  have P2 := P 2 _ _ _ (k0_off5_eq k) (k0_off6_eq k) rfl
  have P3 := P 3 _ _ _ (k0_off7_eq k) (k0_off8_eq k) rfl
  have I : ∀ (p : Fin 4) (off : Fin 2 → ℕ), off = ![128 * k.val, 128 * p.val] → ∀ a, off a + S128x128.size a ≤ S512x512.size a := fun p off h a => by
    have hp := p.isLt
    subst h
    fin_cases a
    · show 128 * k.val + 128 ≤ 512
      omega
    · show 128 * p.val + 128 ≤ 512
      omega
  unfold tripL_k0_t1 trip_k0_t1
  dsimp only
  constructor
  · intro pc hpc x
    rcases List.mem_cons.1 hpc with rfl | hpc
    · exact (congrFun (o_pair3 _ _ _ _ _) x).trans (piece_o (P3 _ _ _) t k rfl (k0_off8_eq k) (I 3 _ (k0_off8_eq k)) x)
    rcases List.mem_cons.1 hpc with rfl | hpc
    · exact (congrFun (o_pair2 _ _ _ _ _) x).trans (piece_o (P2 _ _ _) t k rfl (k0_off6_eq k) (I 2 _ (k0_off6_eq k)) x)
    rcases List.mem_cons.1 hpc with rfl | hpc
    · exact (congrFun (o_pair1 _ _ _ _ _) x).trans (piece_o (P1 _ _ _) t k rfl (k0_off4_eq k) (I 1 _ (k0_off4_eq k)) x)
    rcases List.mem_cons.1 hpc with rfl | hpc
    · exact (congrFun (o_pair0 _ _ _ _ _) x).trans (piece_o (P0 _ _ _) t k rfl (k0_off2_eq k) (I 0 _ (k0_off2_eq k)) x)
    exact absurd hpc List.not_mem_nil
  · intro pc hpc x
    rcases List.mem_cons.1 hpc with rfl | hpc
    · exact (congrFun (l_pair3 _ _ _ _) x).trans (piece_l (P3 _ _ _) t k rfl (k0_off8_eq k) (I 3 _ (k0_off8_eq k)) x)
    rcases List.mem_cons.1 hpc with rfl | hpc
    · exact (congrFun (l_pair2 _ _ _ _) x).trans (piece_l (P2 _ _ _) t k rfl (k0_off6_eq k) (I 2 _ (k0_off6_eq k)) x)
    rcases List.mem_cons.1 hpc with rfl | hpc
    · exact (congrFun (l_pair1 _ _ _ _) x).trans (piece_l (P1 _ _ _) t k rfl (k0_off4_eq k) (I 1 _ (k0_off4_eq k)) x)
    rcases List.mem_cons.1 hpc with rfl | hpc
    · exact (congrFun (l_pair0 _ _ _ _) x).trans (piece_l (P0 _ _ _) t k rfl (k0_off2_eq k) (I 0 _ (k0_off2_eq k)) x)
    exact absurd hpc List.not_mem_nil

/-- The same of all trips before the `k`-th. -/
theorem loop_pieces : ∀ k : ℕ, k ≤ k0_t1_loop.trips →
    (∀ pc ∈ (pb_k0_t1 (F := Ideal) 𝒱 c bd i arg2 harg2 arg3 harg3 arg4 harg4 arg5 harg5 arg6 harg6 arg7 harg7 arg8 harg8 arg9 harg9 arg10 harg10 arg11 harg11 (BitVec.ofNat 32 (t.val % 8)) X_arg2 X_arg7 X_arg10 X_arg11 k).1, ∀ x : pc.1.shape.Idx, pc.2 x = blkO 8 x0 x1 t (pc.1.emb x))
    ∧ (∀ pc ∈ (pb_k0_t1 (F := Ideal) 𝒱 c bd i arg2 harg2 arg3 harg3 arg4 harg4 arg5 harg5 arg6 harg6 arg7 harg7 arg8 harg8 arg9 harg9 arg10 harg10 arg11 harg11 (BitVec.ofNat 32 (t.val % 8)) X_arg2 X_arg7 X_arg10 X_arg11 k).2, ∀ x : pc.1.shape.Idx, pc.2 x = blkL 8 x0 x1 t (pc.1.emb x))
  | 0, _ => ⟨fun pc h => absurd h List.not_mem_nil, fun pc h => absurd h List.not_mem_nil⟩
  | k + 1, hk => by
    have ih := loop_pieces k (by omega)
    have hs := trip_pieces 𝒱 c bd i arg2 harg2 arg3 harg3 arg4 harg4 arg5 harg5 arg6 harg6 arg7 harg7 arg8 harg8 arg9 harg9 arg10 harg10 arg11 harg11 X_arg2 X_arg7 X_arg10 X_arg11 H ⟨k, hk⟩
    have e := pb_k0_t1_succ (F := Ideal) 𝒱 c bd i arg2 harg2 arg3 harg3 arg4 harg4 arg5 harg5 arg6 harg6 arg7 harg7 arg8 harg8 arg9 harg9 arg10 harg10 arg11 harg11 (BitVec.ofNat 32 (t.val % 8)) X_arg2 X_arg7 X_arg10 X_arg11 ⟨k, hk⟩
    rw [e]
    exact ⟨fun pc h => (List.mem_append.1 h).elim (hs.1 pc) (ih.1 pc), fun pc h => (List.mem_append.1 h).elim (hs.2 pc) (ih.2 pc)⟩

end Loop

variable (m : (ℓ : Loc nD τ sig) → Buf (Elt Ideal) ℓ)

/-- Every window's block index at every point. -/
theorem idx : ∀ t : Fin cfg0.N, win0_0.index t = ![t.val, 0] ∧ win0_1.index t = ![t.val, 1] ∧ (0 < t.val % 8 → win0_2.index t = ![4 * t.val - 1, 1])
    ∧ win0_3.index t = ![t.val, 2] ∧ (0 < t.val % 8 → win0_4.index t = ![4 * t.val - 1, 2]) ∧ win0_5.index t = ![0, 0, 0]
    ∧ win0_6.index t = ![t.val, 0] ∧ win0_7.index t = ![t.val, 0] ∧ (grid0.coords t 1).val = t.val % 8 :=
  (by decide +kernel : ∀ t : Fin grid0.N, _)

/-- A point of the grid, as a number below 32. -/
def pt (t : Fin cfg0.N) : Fin 32 := ⟨t.val, lt_of_lt_of_eq t.isLt N_0⟩

/-- What the lines before the region do to the rows of an array. -/
theorem reorder (x : Vec Ideal S16384x1536 .bf16) : shapeCast S16384x1536 (transpose S4x4096x1536 [1, 0, 2] (shapeCast S4096x4x1536 (x : Vec Ideal S16384x1536 .bf16) shapeCasts_S16384x1536_S4096x4x1536) transposes_S4096x4x1536_S4x4096x1536_1_0_2) shapeCasts_S4x4096x1536_S16384x1536 = res x := by
  funext i
  obtain ⟨R, l, rfl⟩ : ∃ a l, i = ix2 a l := ⟨i 0, i 1, by ext d; fin_cases d <;> rfl⟩
  have hR := R.isLt
  have hl := l.isLt
  pointwise [res, tok]

/-- The array that the region finds, as these lines make it. -/
theorem entry_lay (c : Dev nD) : V m c main_v2 = shapeCast S16384x1536 (transpose S4x4096x1536 [1, 0, 2] (shapeCast S4096x4x1536 ((m ((c : Thread nD τ).loc main_arg0)) : Vec Ideal S16384x1536 .bf16) shapeCasts_S16384x1536_S4096x4x1536) transposes_S4096x4x1536_S4x4096x1536_1_0_2) shapeCasts_S4x4096x1536_S16384x1536 := by
  show StableHlo.after hostOps0 (fun b => m (c, b)) _ = _
  entry_read
  rfl

/-- The array that the region finds: the projected array, its rows reordered. -/
theorem entry (c : Dev nD) : V m c main_v2 = res (m ((c : Thread nD τ).loc main_arg0)) :=
  (entry_lay m c).trans (reorder (m ((c : Thread nD τ).loc main_arg0)))

theorem blk0 (c : Dev nD) (t : Fin cfg0.N) (r l : Fin 512) :
    iblk m c 0 t (ix2 r l) = res (m ((c : Thread nD τ).loc main_arg0)) (ix2 ⟨512 * t.val + r.val, by have := (pt t).isLt; simp [pt] at this; omega⟩ ⟨l.val, by omega⟩) := by
  have ht : t.val < 32 := lt_of_lt_of_eq t.isLt N_0
  rw [← entry m c]
  blk_point [iblk, idx t]

theorem blk1 (c : Dev nD) (t : Fin cfg0.N) (r l : Fin 512) :
    iblk m c 1 t (ix2 r l) = res (m ((c : Thread nD τ).loc main_arg0)) (ix2 ⟨512 * t.val + r.val, by have := (pt t).isLt; simp [pt] at this; omega⟩ ⟨512 + l.val, by omega⟩) := by
  have ht : t.val < 32 := lt_of_lt_of_eq t.isLt N_0
  rw [← entry m c]
  blk_point [iblk, idx t]

theorem blk2 (c : Dev nD) (t : Fin cfg0.N) (h : 0 < t.val % 8) (r : Fin 128) (l : Fin 512) :
    iblk m c 2 t (ix2 r l) = res (m ((c : Thread nD τ).loc main_arg0)) (ix2 ⟨512 * t.val + r.val - 128, by have := (pt t).isLt; simp [pt] at this; omega⟩ ⟨512 + l.val, by omega⟩) := by
  have ht : t.val < 32 := lt_of_lt_of_eq t.isLt N_0
  rw [← entry m c]
  have e := (idx t).2.2.1 h
  blk_point [iblk, e]

theorem blk3 (c : Dev nD) (t : Fin cfg0.N) (r l : Fin 512) :
    iblk m c 3 t (ix2 r l) = res (m ((c : Thread nD τ).loc main_arg0)) (ix2 ⟨512 * t.val + r.val, by have := (pt t).isLt; simp [pt] at this; omega⟩ ⟨1024 + l.val, by omega⟩) := by
  have ht : t.val < 32 := lt_of_lt_of_eq t.isLt N_0
  rw [← entry m c]
  blk_point [iblk, idx t]

theorem blk5 (c : Dev nD) (t : Fin cfg0.N) (h : Fin 8) (a : Fin 128) (j : Fin 256) :
    iblk m c 5 t (ix3 h a j) = m ((c : Thread nD τ).loc main_arg1) (ix3 h a j) := by
  have ht : t.val < 32 := lt_of_lt_of_eq t.isLt N_0
  rw [← V_main_arg1 m c]
  blk_point [iblk, idx t]

theorem blk4 (c : Dev nD) (t : Fin cfg0.N) (h : 0 < t.val % 8) (r : Fin 128) (l : Fin 512) :
    iblk m c 4 t (ix2 r l) = res (m ((c : Thread nD τ).loc main_arg0)) (ix2 ⟨512 * t.val + r.val - 128, by have := (pt t).isLt; simp [pt] at this; omega⟩ ⟨1024 + l.val, by omega⟩) := by
  have ht : t.val < 32 := lt_of_lt_of_eq t.isLt N_0
  rw [← entry m c]
  have e := (idx t).2.2.2.2.1 h
  blk_point [iblk, e]

/-! What the body stages is what it read. -/

theorem pay1 (v : FVec Ideal S128x512 .bf16) : k0_pay1 (F := Ideal) v = v := (shapeCast_self _ _).trans (shapeCast_self v _)
theorem pay2 (v : FVec Ideal S512x512 .bf16) : k0_pay2 (F := Ideal) v = v := (shapeCast_self _ _).trans (shapeCast_self v _)
theorem pay3 (v : FVec Ideal S128x512 .bf16) : k0_pay3 (F := Ideal) v = v := (shapeCast_self _ _).trans (shapeCast_self v _)
theorem pay4 (v : FVec Ideal S512x512 .bf16) : k0_pay4 (F := Ideal) v = v := (shapeCast_self _ _).trans (shapeCast_self v _)

/-- The buffers of a point hold what the loop needs. -/
theorem held (c : Dev nD) (t : Fin cfg0.N) :
    Held 8 (res (m ((c : Thread nD τ).loc main_arg0))) (m ((c : Thread nD τ).loc main_arg1)) (pt t)
      ((ms0_0 t).view.read (Elt Ideal) ((hs0_0 t).unread (iblk m c 0 t)))
      (scM0_0.view.read (Elt Ideal) ((View.whole cc0_scratch0).writes (Elt Ideal) (View.whole cc0_scratch0).junk (kernelRun0_A.sl.HS0_2 c (ms0_1 t) (hs0_1 t) (ms0_2 t) (hs0_2 t) (iblk m c 1 t) (iblk m c 2 t))))
      (scM0_1.view.read (Elt Ideal) ((View.whole cc0_scratch1).writes (Elt Ideal) (View.whole cc0_scratch1).junk (kernelRun0_A.sl.HS1_2 c (ms0_3 t) (hs0_3 t) (ms0_4 t) (hs0_4 t) (iblk m c 3 t) (iblk m c 4 t))))
      ((ms0_5 t).view.read (Elt Ideal) ((hs0_5 t).unread (iblk m c 5 t))) := by
  refine ⟨fun r l => ?_, fun r l hr => ?_, fun r l hr => ?_, fun h a j => ?_⟩
  · exact (congrFun ((hs0_0 t).read_unread (iblk m c 0 t)) _).trans (blk0 m c t r l)
  · unfold kernelRun0_A.sl.HS0_2
    dsimp only
    refine (stage _ _ _ _ _ _ r l).trans ?_
    split_ifs with h
    · refine (congrFun (congrArg (k0_pay2 (F := Ideal)) ((View.readAt_full (ms0_1 t).view ((hs0_1 t).unread (iblk m c 1 t)) _).trans ((hs0_1 t).read_unread _))) _).trans ?_
      refine (congrFun (pay2 (iblk m c 1 t)) _).trans ((blk1 m c t _ l).trans ?_)
      exact congrArg (fun n => res (m ((c : Thread nD τ).loc main_arg0)) (ix2 n _)) (Fin.ext (show 512 * t.val + (r.val - 128) = 512 * t.val + r.val - 128 by omega))
    · have h0 : 0 < t.val % 8 := hr.resolve_left h
      refine (congrFun (congrArg (k0_pay1 (F := Ideal)) ((View.readAt_full (ms0_2 t).view ((hs0_2 t).unread (iblk m c 2 t)) _).trans ((hs0_2 t).read_unread _))) _).trans ?_
      exact (congrFun (pay1 (iblk m c 2 t)) _).trans (blk2 m c t h0 _ l)
  · unfold kernelRun0_A.sl.HS1_2
    dsimp only
    refine (stage _ _ _ _ _ _ r l).trans ?_
    split_ifs with h
    · refine (congrFun (congrArg (k0_pay4 (F := Ideal)) ((View.readAt_full (ms0_3 t).view ((hs0_3 t).unread (iblk m c 3 t)) _).trans ((hs0_3 t).read_unread _))) _).trans ?_
      refine (congrFun (pay4 (iblk m c 3 t)) _).trans ((blk3 m c t _ l).trans ?_)
      exact congrArg (fun n => res (m ((c : Thread nD τ).loc main_arg0)) (ix2 n _)) (Fin.ext (show 512 * t.val + (r.val - 128) = 512 * t.val + r.val - 128 by omega))
    · have h0 : 0 < t.val % 8 := hr.resolve_left h
      refine (congrFun (congrArg (k0_pay3 (F := Ideal)) ((View.readAt_full (ms0_4 t).view ((hs0_4 t).unread (iblk m c 4 t)) _).trans ((hs0_4 t).read_unread _))) _).trans ?_
      exact (congrFun (pay3 (iblk m c 4 t)) _).trans (blk4 m c t h0 _ l)
  · exact (congrFun ((hs0_5 t).read_unread (iblk m c 5 t)) _).trans (blk5 m c t h a j)

/-- What point `t` leaves in the block of output 6. -/
theorem point6 (c : Dev nD) (t : Fin cfg0.N) (y : S512x512.Idx) :
    (outsAt0 m c t).1 y = (fun j : S16384x512.Idx => (outO 8 (res (m ((c : Thread nD τ).loc main_arg0))) (m ((c : Thread nD τ).loc main_arg1)) (j 0) (j 1) : EReal)) (((cfg0.win 6).blk t).view.emb y) := by
  have ht : t.val < 32 := lt_of_lt_of_eq t.isLt N_0
  have hj : ((cfg0.win 6).blk t).view.emb y = ix2 (prow (pt t) (y 0)) (y 1) := by
    unfold prow pt
    blk_ext [idx t]
  rw [hj]
  unfold outsAt0
  dsimp only
  refine View.read_writes_apply_of_pieces (Val := Elt Ideal) VO0_6 VO0_6.junk (blkO 8 (res (m ((c : Thread nD τ).loc main_arg0))) (m ((c : Thread nD τ).loc main_arg1)) (pt t)) _ (fun pc hpc => ?_) y
    (cover0_A_6 c _ _ _ _ _ _ _ _ _ _ _ _ _ _ _ _ _ _ _ _ _ _ _ _ _ _ _ y)
  unfold kernelRun0_A at hpc
  dsimp only at hpc
  rw [show BitVec.ofNat 32 (grid0.coords t 1).val = BitVec.ofNat 32 ((pt t).val % 8) from congrArg (BitVec.ofNat 32) (idx t).2.2.2.2.2.2.2.2] at hpc
  exact (loop_pieces (t := pt t) _ _ _ _ _ _ _ _ _ _ _ _ _ _ _ _ _ _ _ _ _ _ _ _ _ _ _ _ (held m c t) _ le_rfl).1 pc hpc

/-- What the region leaves in output 6. -/
theorem final6 (c : Dev nD) : (dats m 0 c).arrAt 6 (cfgs 0).N
    = fun j : S16384x512.Idx => (outO 8 (res (m ((c : Thread nD τ).loc main_arg0))) (m ((c : Thread nD τ).loc main_arg1)) (j 0) (j 1) : EReal) := by
  refine (dats m 0 c).arrAt_eq_of_covers 6 _ (by decide +kernel) fun t _ y => ?_
  blk_simp
  rw [after0_6]
  exact point6 m c t y

/-- What point `t` leaves in the block of output 7. -/
theorem point7 (c : Dev nD) (t : Fin cfg0.N) (y : S512x512.Idx) :
    (outsAt0 m c t).2 y = (fun j : S16384x512.Idx => (outL 8 (res (m ((c : Thread nD τ).loc main_arg0))) (m ((c : Thread nD τ).loc main_arg1)) (j 0) (j 1) : EReal)) (((cfg0.win 7).blk t).view.emb y) := by
  have ht : t.val < 32 := lt_of_lt_of_eq t.isLt N_0
  have hj : ((cfg0.win 7).blk t).view.emb y = ix2 (prow (pt t) (y 0)) (y 1) := by
    unfold prow pt
    blk_ext [idx t]
  rw [hj]
  unfold outsAt0
  dsimp only
  refine View.read_writes_apply_of_pieces (Val := Elt Ideal) VO0_7 VO0_7.junk (blkL 8 (res (m ((c : Thread nD τ).loc main_arg0))) (m ((c : Thread nD τ).loc main_arg1)) (pt t)) _ (fun pc hpc => ?_) y
    (cover0_A_7 c _ _ _ _ _ _ _ _ _ _ _ _ _ _ _ _ _ _ _ _ _ _ _ _ _ _ _ y)
  unfold kernelRun0_A at hpc
  dsimp only at hpc
  rw [show BitVec.ofNat 32 (grid0.coords t 1).val = BitVec.ofNat 32 ((pt t).val % 8) from congrArg (BitVec.ofNat 32) (idx t).2.2.2.2.2.2.2.2] at hpc
  exact (loop_pieces (t := pt t) _ _ _ _ _ _ _ _ _ _ _ _ _ _ _ _ _ _ _ _ _ _ _ _ _ _ _ _ (held m c t) _ le_rfl).2 pc hpc

/-- What the region leaves in output 7. -/
theorem final7 (c : Dev nD) : (dats m 0 c).arrAt 7 (cfgs 0).N
    = fun j : S16384x512.Idx => (outL 8 (res (m ((c : Thread nD τ).loc main_arg0))) (m ((c : Thread nD τ).loc main_arg1)) (j 0) (j 1) : EReal) := by
  refine (dats m 0 c).arrAt_eq_of_covers 7 _ (by decide +kernel) fun t _ y => ?_
  blk_simp
  rw [after0_7]
  exact point7 m c t y

/-- Every token is the token of a row of the reordered array. -/
theorem tok_surj (T : Fin 16384) : tok ⟨T.val % 4 * 4096 + T.val / 4, by omega⟩ = T :=
  Fin.ext (by dsimp only [tok]; omega)

/-- The rows put back in the tokens' order. -/
theorem back (v : Vec Ideal S16384x512 .f32) (T : Fin 16384) (l : Fin 512) :
    (shapeCast S16384x512 (transpose S4096x4x512 [1, 0, 2] (shapeCast S4x4096x512 v shapeCasts_S16384x512_S4x4096x512) transposes_S4x4096x512_S4096x4x512_1_0_2) shapeCasts_S4096x4x512_S16384x512) (ix2 T l)
      = v (ix2 ⟨T.val % 4 * 4096 + T.val / 4, by omega⟩ l) := by
  have hT := T.isLt
  have hl := l.isLt
  pointwise

/-- What the lines after the region leave in result 0: the attention of every query, in the tokens' order. -/
theorem finalO (c : Dev nD) : Pipeline.afterTail₀ cfgs (dats m) 0 (V0 m) [hostOps1] c main_v6
    = val_main_v90 (F := Ideal) (m ((c : Thread nD τ).loc main_arg0)) (m ((c : Thread nD τ).loc main_arg1)) := by
  have hv : Pipeline.afterTail₀ cfgs (dats m) 0 (V0 m) [hostOps1] c main_v6 = shapeCast S16384x512 (transpose S4096x4x512 [1, 0, 2] (shapeCast S4x4096x512 ((dats m 0 c).arrAt 6 (cfgs 0).N : Vec Ideal S16384x512 .f32) shapeCasts_S16384x512_S4x4096x512) transposes_S4x4096x512_S4096x4x512_1_0_2) shapeCasts_S4096x4x512_S16384x512 := by
    rw [← (dats m 0 c).withArrays_arrAt sharedIn0 (V0 m c) (A_eq m c) 6]
    unfold Pipeline.afterTail₀
    show StableHlo.after hostOps1 _ _ = _
    entry_read
    rfl
  rw [hv, final6]
  funext i
  obtain ⟨T, l, rfl⟩ : ∃ a l, i = ix2 a l := ⟨i 0, i 1, by ext d; fin_cases d <;> rfl⟩
  refine (back _ T l).trans ((ref_o (m ((c : Thread nD τ).loc main_arg0)) (m ((c : Thread nD τ).loc main_arg1)) _ l).symm.trans ?_)
  exact congrArg (fun r => val_main_v90 (F := Ideal) (m ((c : Thread nD τ).loc main_arg0)) (m ((c : Thread nD τ).loc main_arg1)) (ix2 r l)) (tok_surj T)

/-- What the lines after the region leave in result 1: the logarithm of the sum of exponentials of every query and head, in the tokens' order. -/
theorem finalL (c : Dev nD) : Pipeline.afterTail₀ cfgs (dats m) 0 (V0 m) [hostOps1] c main_v9
    = val_main_v94 (F := Ideal) (m ((c : Thread nD τ).loc main_arg0)) (m ((c : Thread nD τ).loc main_arg1)) := by
  have hv : Pipeline.afterTail₀ cfgs (dats m) 0 (V0 m) [hostOps1] c main_v9 = shapeCast S16384x512 (transpose S4096x4x512 [1, 0, 2] (shapeCast S4x4096x512 ((dats m 0 c).arrAt 7 (cfgs 0).N : Vec Ideal S16384x512 .f32) shapeCasts_S16384x512_S4x4096x512) transposes_S4x4096x512_S4096x4x512_1_0_2) shapeCasts_S4096x4x512_S16384x512 := by
    rw [← (dats m 0 c).withArrays_arrAt sharedIn0 (V0 m c) (A_eq m c) 7]
    unfold Pipeline.afterTail₀
    show StableHlo.after hostOps1 _ _ = _
    entry_read
    rfl
  rw [hv, final7]
  funext i
  obtain ⟨T, l, rfl⟩ : ∃ a l, i = ix2 a l := ⟨i 0, i 1, by ext d; fin_cases d <;> rfl⟩
  refine (back _ T l).trans ((ref_l (m ((c : Thread nD τ).loc main_arg0)) (m ((c : Thread nD τ).loc main_arg1)) _ l).symm.trans ?_)
  exact congrArg (fun r => val_main_v94 (F := Ideal) (m ((c : Thread nD τ).loc main_arg0)) (m ((c : Thread nD τ).loc main_arg1)) (ix2 r l)) (tok_surj T)

end Cert.AttnFwd4Ideal.Final
-- ==== Proof.AttnFwd16Value.lean ====
/-
  Attention over a window of keys for the group of heads with dilation 16: the trip of the body's loop over the four blocks of a point, the
  buffers that it reads, and what the kernel and the reordering of the rows after it leave in the two results.
-/
module

public import proofs.«01_k».proof.Proof.AttnFwd16Pure
public import proofs.«01_k».proof.Proof.AttnFwd4Value
public import Idealize.ShloMosaic.Lib.Pipeline.ReadBack
public import Idealize.ShloMosaic.Lib.Writes
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnFwd16Ideal.Final

open Cert.AttnFwd16Ideal Cert.AttnFwd16Ideal.Gen Cert.AttnFwd16RefIdeal.Read
open Cert.AttnFwdIdeal.Final (outO outL blkO blkL Held pair_of piece_o piece_l prow stage)
open Cert.AttnFwd4Ideal.Final (o_pair0 o_pair1 o_pair2 o_pair3 l_pair0 l_pair1 l_pair2)

/-- The last pair's log-sum-exp, whose body this group's shares with the one before. -/
theorem l_pair3 (v36 kk q b) : k0_pay9 (F := Ideal) k0_pay11 (k0_pay33 v36 k0_pay11 kk q b) (k0_pay34 v36 k0_pay11 kk q b) = Cert.AttnFwdIdeal.Gen.k0_pay17 (F := Ideal) v36 Cert.AttnFwdIdeal.Gen.k0_pay9 kk (Cert.AttnFwdIdeal.Gen.k0_pay10 q) (Cert.AttnFwdIdeal.Gen.k0_pay11 b) :=
  Cert.AttnFwd4Ideal.Final.l_pair3 v36 kk q b

/-! ### The trip and the loop -/

section Loop

variable {x0 : FVec Ideal S16384x1536 .bf16} {x1 : FVec Ideal S8x128x256 .f32} {t : Fin 32}
variable (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S128x512 .bf16) (harg4 : arg4.IsWhole) (arg5 : Memref sig .tc .vmem S512x512 .bf16) (harg5 : arg5.IsWhole) (arg6 : Memref sig .tc .vmem S128x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S640x512 .bf16) (harg10 : arg10.IsWhole) (arg11 : Memref sig .tc .vmem S640x512 .bf16) (harg11 : arg11.IsWhole) (X_arg2 : BufTy.Contents (Elt Ideal) arg2.view.ty) (X_arg7 : BufTy.Contents (Elt Ideal) arg7.view.ty) (X_arg10 : BufTy.Contents (Elt Ideal) arg10.view.ty) (X_arg11 : BufTy.Contents (Elt Ideal) arg11.view.ty)
variable (H : Held 2 x0 x1 t (arg2.view.read (Elt Ideal) X_arg2) (arg10.view.read (Elt Ideal) X_arg10) (arg11.view.read (Elt Ideal) X_arg11) (arg7.view.read (Elt Ideal) X_arg7))
include H

/-- Every piece that a trip writes holds what is to be there. -/
theorem trip_pieces (k : Fin k0_t1_loop.trips) :
    (∀ pc ∈ (tripL_k0_t1 (F := Ideal) 𝒱 c bd i arg2 harg2 arg3 harg3 arg4 harg4 arg5 harg5 arg6 harg6 arg7 harg7 arg8 harg8 arg9 harg9 arg10 harg10 arg11 harg11 (BitVec.ofNat 32 (t.val % 2)) X_arg2 X_arg7 X_arg10 X_arg11 k).1, ∀ x : pc.1.shape.Idx, pc.2 x = blkO 2 x0 x1 t (pc.1.emb x))
    ∧ (∀ pc ∈ (tripL_k0_t1 (F := Ideal) 𝒱 c bd i arg2 harg2 arg3 harg3 arg4 harg4 arg5 harg5 arg6 harg6 arg7 harg7 arg8 harg8 arg9 harg9 arg10 harg10 arg11 harg11 (BitVec.ofNat 32 (t.val % 2)) X_arg2 X_arg7 X_arg10 X_arg11 k).2, ∀ x : pc.1.shape.Idx, pc.2 x = blkL 2 x0 x1 t (pc.1.emb x)) := by
  have hk : k.val < 4 := lt_of_lt_of_le k.isLt k0_t1_abs.2.1
  have ht := t.isLt
  have P := fun p o1 o2 o3 h1 h2 h3 => pair_of (by norm_num) H k ⟨4 * t.val + k.val, by omega⟩ rfl p (o1 := o1) (o2 := o2) (o3 := o3) h1 h2 h3
  have P0 := P 0 _ _ _ (k0_off1_eq k) (k0_off2_eq k) rfl
  have P1 := P 1 _ _ _ (k0_off3_eq k) (k0_off4_eq k) rfl
  have P2 := P 2 _ _ _ (k0_off5_eq k) (k0_off6_eq k) rfl
  have P3 := P 3 _ _ _ (k0_off7_eq k) (k0_off8_eq k) rfl
  have I : ∀ (p : Fin 4) (off : Fin 2 → ℕ), off = ![128 * k.val, 128 * p.val] → ∀ a, off a + S128x128.size a ≤ S512x512.size a := fun p off h a => by
    have hp := p.isLt
    subst h
    fin_cases a
    · show 128 * k.val + 128 ≤ 512
      omega
    · show 128 * p.val + 128 ≤ 512
      omega
  unfold tripL_k0_t1 trip_k0_t1
  dsimp only
  constructor
  · intro pc hpc x
    rcases List.mem_cons.1 hpc with rfl | hpc
    · exact (congrFun (o_pair3 _ _ _ _ _) x).trans (piece_o (P3 _ _ _) t k rfl (k0_off8_eq k) (I 3 _ (k0_off8_eq k)) x)
    rcases List.mem_cons.1 hpc with rfl | hpc
    · exact (congrFun (o_pair2 _ _ _ _ _) x).trans (piece_o (P2 _ _ _) t k rfl (k0_off6_eq k) (I 2 _ (k0_off6_eq k)) x)
    rcases List.mem_cons.1 hpc with rfl | hpc
    · exact (congrFun (o_pair1 _ _ _ _ _) x).trans (piece_o (P1 _ _ _) t k rfl (k0_off4_eq k) (I 1 _ (k0_off4_eq k)) x)
    rcases List.mem_cons.1 hpc with rfl | hpc
    · exact (congrFun (o_pair0 _ _ _ _ _) x).trans (piece_o (P0 _ _ _) t k rfl (k0_off2_eq k) (I 0 _ (k0_off2_eq k)) x)
    exact absurd hpc List.not_mem_nil
  · intro pc hpc x
    rcases List.mem_cons.1 hpc with rfl | hpc
    · exact (congrFun (l_pair3 _ _ _ _) x).trans (piece_l (P3 _ _ _) t k rfl (k0_off8_eq k) (I 3 _ (k0_off8_eq k)) x)
    rcases List.mem_cons.1 hpc with rfl | hpc
    · exact (congrFun (l_pair2 _ _ _ _) x).trans (piece_l (P2 _ _ _) t k rfl (k0_off6_eq k) (I 2 _ (k0_off6_eq k)) x)
    rcases List.mem_cons.1 hpc with rfl | hpc
    · exact (congrFun (l_pair1 _ _ _ _) x).trans (piece_l (P1 _ _ _) t k rfl (k0_off4_eq k) (I 1 _ (k0_off4_eq k)) x)
    rcases List.mem_cons.1 hpc with rfl | hpc
    · exact (congrFun (l_pair0 _ _ _ _) x).trans (piece_l (P0 _ _ _) t k rfl (k0_off2_eq k) (I 0 _ (k0_off2_eq k)) x)
    exact absurd hpc List.not_mem_nil

/-- The same of all trips before the `k`-th. -/
theorem loop_pieces : ∀ k : ℕ, k ≤ k0_t1_loop.trips →
    (∀ pc ∈ (pb_k0_t1 (F := Ideal) 𝒱 c bd i arg2 harg2 arg3 harg3 arg4 harg4 arg5 harg5 arg6 harg6 arg7 harg7 arg8 harg8 arg9 harg9 arg10 harg10 arg11 harg11 (BitVec.ofNat 32 (t.val % 2)) X_arg2 X_arg7 X_arg10 X_arg11 k).1, ∀ x : pc.1.shape.Idx, pc.2 x = blkO 2 x0 x1 t (pc.1.emb x))
    ∧ (∀ pc ∈ (pb_k0_t1 (F := Ideal) 𝒱 c bd i arg2 harg2 arg3 harg3 arg4 harg4 arg5 harg5 arg6 harg6 arg7 harg7 arg8 harg8 arg9 harg9 arg10 harg10 arg11 harg11 (BitVec.ofNat 32 (t.val % 2)) X_arg2 X_arg7 X_arg10 X_arg11 k).2, ∀ x : pc.1.shape.Idx, pc.2 x = blkL 2 x0 x1 t (pc.1.emb x))
  | 0, _ => ⟨fun pc h => absurd h List.not_mem_nil, fun pc h => absurd h List.not_mem_nil⟩
  | k + 1, hk => by
    have ih := loop_pieces k (by omega)
    have hs := trip_pieces 𝒱 c bd i arg2 harg2 arg3 harg3 arg4 harg4 arg5 harg5 arg6 harg6 arg7 harg7 arg8 harg8 arg9 harg9 arg10 harg10 arg11 harg11 X_arg2 X_arg7 X_arg10 X_arg11 H ⟨k, hk⟩
    have e := pb_k0_t1_succ (F := Ideal) 𝒱 c bd i arg2 harg2 arg3 harg3 arg4 harg4 arg5 harg5 arg6 harg6 arg7 harg7 arg8 harg8 arg9 harg9 arg10 harg10 arg11 harg11 (BitVec.ofNat 32 (t.val % 2)) X_arg2 X_arg7 X_arg10 X_arg11 ⟨k, hk⟩
    rw [e]
    exact ⟨fun pc h => (List.mem_append.1 h).elim (hs.1 pc) (ih.1 pc), fun pc h => (List.mem_append.1 h).elim (hs.2 pc) (ih.2 pc)⟩

end Loop

variable (m : (ℓ : Loc nD τ sig) → Buf (Elt Ideal) ℓ)

/-- Every window's block index at every point. -/
theorem idx : ∀ t : Fin cfg0.N, win0_0.index t = ![t.val, 0] ∧ win0_1.index t = ![t.val, 1] ∧ (0 < t.val % 2 → win0_2.index t = ![4 * t.val - 1, 1])
    ∧ win0_3.index t = ![t.val, 2] ∧ (0 < t.val % 2 → win0_4.index t = ![4 * t.val - 1, 2]) ∧ win0_5.index t = ![0, 0, 0]
    ∧ win0_6.index t = ![t.val, 0] ∧ win0_7.index t = ![t.val, 0] ∧ (grid0.coords t 1).val = t.val % 2 :=
  (by decide +kernel : ∀ t : Fin grid0.N, _)

/-- A point of the grid, as a number below 32. -/
def pt (t : Fin cfg0.N) : Fin 32 := ⟨t.val, lt_of_lt_of_eq t.isLt N_0⟩

/-- What the lines before the region do to the rows of an array. -/
theorem reorder (x : Vec Ideal S16384x1536 .bf16) : shapeCast S16384x1536 (transpose S16x1024x1536 [1, 0, 2] (shapeCast S1024x16x1536 (x : Vec Ideal S16384x1536 .bf16) shapeCasts_S16384x1536_S1024x16x1536) transposes_S1024x16x1536_S16x1024x1536_1_0_2) shapeCasts_S16x1024x1536_S16384x1536 = res x := by
  funext i
  obtain ⟨R, l, rfl⟩ : ∃ a l, i = ix2 a l := ⟨i 0, i 1, by ext d; fin_cases d <;> rfl⟩
  have hR := R.isLt
  have hl := l.isLt
  pointwise [res, tok]

/-- The array that the region finds, as these lines make it. -/
theorem entry_lay (c : Dev nD) : V m c main_v2 = shapeCast S16384x1536 (transpose S16x1024x1536 [1, 0, 2] (shapeCast S1024x16x1536 ((m ((c : Thread nD τ).loc main_arg0)) : Vec Ideal S16384x1536 .bf16) shapeCasts_S16384x1536_S1024x16x1536) transposes_S1024x16x1536_S16x1024x1536_1_0_2) shapeCasts_S16x1024x1536_S16384x1536 := by
  show StableHlo.after hostOps0 (fun b => m (c, b)) _ = _
  entry_read
  rfl

/-- The array that the region finds: the projected array, its rows reordered. -/
theorem entry (c : Dev nD) : V m c main_v2 = res (m ((c : Thread nD τ).loc main_arg0)) :=
  (entry_lay m c).trans (reorder (m ((c : Thread nD τ).loc main_arg0)))

theorem blk0 (c : Dev nD) (t : Fin cfg0.N) (r l : Fin 512) :
    iblk m c 0 t (ix2 r l) = res (m ((c : Thread nD τ).loc main_arg0)) (ix2 ⟨512 * t.val + r.val, by have := (pt t).isLt; simp [pt] at this; omega⟩ ⟨l.val, by omega⟩) := by
  have ht : t.val < 32 := lt_of_lt_of_eq t.isLt N_0
  rw [← entry m c]
  blk_point [iblk, idx t]

theorem blk1 (c : Dev nD) (t : Fin cfg0.N) (r l : Fin 512) :
    iblk m c 1 t (ix2 r l) = res (m ((c : Thread nD τ).loc main_arg0)) (ix2 ⟨512 * t.val + r.val, by have := (pt t).isLt; simp [pt] at this; omega⟩ ⟨512 + l.val, by omega⟩) := by
  have ht : t.val < 32 := lt_of_lt_of_eq t.isLt N_0
  rw [← entry m c]
  blk_point [iblk, idx t]

theorem blk2 (c : Dev nD) (t : Fin cfg0.N) (h : 0 < t.val % 2) (r : Fin 128) (l : Fin 512) :
    iblk m c 2 t (ix2 r l) = res (m ((c : Thread nD τ).loc main_arg0)) (ix2 ⟨512 * t.val + r.val - 128, by have := (pt t).isLt; simp [pt] at this; omega⟩ ⟨512 + l.val, by omega⟩) := by
  have ht : t.val < 32 := lt_of_lt_of_eq t.isLt N_0
  rw [← entry m c]
  have e := (idx t).2.2.1 h
  blk_point [iblk, e]

theorem blk3 (c : Dev nD) (t : Fin cfg0.N) (r l : Fin 512) :
    iblk m c 3 t (ix2 r l) = res (m ((c : Thread nD τ).loc main_arg0)) (ix2 ⟨512 * t.val + r.val, by have := (pt t).isLt; simp [pt] at this; omega⟩ ⟨1024 + l.val, by omega⟩) := by
  have ht : t.val < 32 := lt_of_lt_of_eq t.isLt N_0
  rw [← entry m c]
  blk_point [iblk, idx t]

theorem blk5 (c : Dev nD) (t : Fin cfg0.N) (h : Fin 8) (a : Fin 128) (j : Fin 256) :
    iblk m c 5 t (ix3 h a j) = m ((c : Thread nD τ).loc main_arg1) (ix3 h a j) := by
  have ht : t.val < 32 := lt_of_lt_of_eq t.isLt N_0
  rw [← V_main_arg1 m c]
  blk_point [iblk, idx t]

theorem blk4 (c : Dev nD) (t : Fin cfg0.N) (h : 0 < t.val % 2) (r : Fin 128) (l : Fin 512) :
    iblk m c 4 t (ix2 r l) = res (m ((c : Thread nD τ).loc main_arg0)) (ix2 ⟨512 * t.val + r.val - 128, by have := (pt t).isLt; simp [pt] at this; omega⟩ ⟨1024 + l.val, by omega⟩) := by
  have ht : t.val < 32 := lt_of_lt_of_eq t.isLt N_0
  rw [← entry m c]
  have e := (idx t).2.2.2.2.1 h
  blk_point [iblk, e]

/-! What the body stages is what it read. -/

theorem pay1 (v : FVec Ideal S128x512 .bf16) : k0_pay1 (F := Ideal) v = v := (shapeCast_self _ _).trans (shapeCast_self v _)
theorem pay2 (v : FVec Ideal S512x512 .bf16) : k0_pay2 (F := Ideal) v = v := (shapeCast_self _ _).trans (shapeCast_self v _)
theorem pay3 (v : FVec Ideal S128x512 .bf16) : k0_pay3 (F := Ideal) v = v := (shapeCast_self _ _).trans (shapeCast_self v _)
theorem pay4 (v : FVec Ideal S512x512 .bf16) : k0_pay4 (F := Ideal) v = v := (shapeCast_self _ _).trans (shapeCast_self v _)

/-- The buffers of a point hold what the loop needs. -/
theorem held (c : Dev nD) (t : Fin cfg0.N) :
    Held 2 (res (m ((c : Thread nD τ).loc main_arg0))) (m ((c : Thread nD τ).loc main_arg1)) (pt t)
      ((ms0_0 t).view.read (Elt Ideal) ((hs0_0 t).unread (iblk m c 0 t)))
      (scM0_0.view.read (Elt Ideal) ((View.whole cc0_scratch0).writes (Elt Ideal) (View.whole cc0_scratch0).junk (kernelRun0_A.sl.HS0_2 c (ms0_1 t) (hs0_1 t) (ms0_2 t) (hs0_2 t) (iblk m c 1 t) (iblk m c 2 t))))
      (scM0_1.view.read (Elt Ideal) ((View.whole cc0_scratch1).writes (Elt Ideal) (View.whole cc0_scratch1).junk (kernelRun0_A.sl.HS1_2 c (ms0_3 t) (hs0_3 t) (ms0_4 t) (hs0_4 t) (iblk m c 3 t) (iblk m c 4 t))))
      ((ms0_5 t).view.read (Elt Ideal) ((hs0_5 t).unread (iblk m c 5 t))) := by
  refine ⟨fun r l => ?_, fun r l hr => ?_, fun r l hr => ?_, fun h a j => ?_⟩
  · exact (congrFun ((hs0_0 t).read_unread (iblk m c 0 t)) _).trans (blk0 m c t r l)
  · unfold kernelRun0_A.sl.HS0_2
    dsimp only
    refine (stage _ _ _ _ _ _ r l).trans ?_
    split_ifs with h
    · refine (congrFun (congrArg (k0_pay2 (F := Ideal)) ((View.readAt_full (ms0_1 t).view ((hs0_1 t).unread (iblk m c 1 t)) _).trans ((hs0_1 t).read_unread _))) _).trans ?_
      refine (congrFun (pay2 (iblk m c 1 t)) _).trans ((blk1 m c t _ l).trans ?_)
      exact congrArg (fun n => res (m ((c : Thread nD τ).loc main_arg0)) (ix2 n _)) (Fin.ext (show 512 * t.val + (r.val - 128) = 512 * t.val + r.val - 128 by omega))
    · have h0 : 0 < t.val % 2 := hr.resolve_left h
      refine (congrFun (congrArg (k0_pay1 (F := Ideal)) ((View.readAt_full (ms0_2 t).view ((hs0_2 t).unread (iblk m c 2 t)) _).trans ((hs0_2 t).read_unread _))) _).trans ?_
      exact (congrFun (pay1 (iblk m c 2 t)) _).trans (blk2 m c t h0 _ l)
  · unfold kernelRun0_A.sl.HS1_2
    dsimp only
    refine (stage _ _ _ _ _ _ r l).trans ?_
    split_ifs with h
    · refine (congrFun (congrArg (k0_pay4 (F := Ideal)) ((View.readAt_full (ms0_3 t).view ((hs0_3 t).unread (iblk m c 3 t)) _).trans ((hs0_3 t).read_unread _))) _).trans ?_
      refine (congrFun (pay4 (iblk m c 3 t)) _).trans ((blk3 m c t _ l).trans ?_)
      exact congrArg (fun n => res (m ((c : Thread nD τ).loc main_arg0)) (ix2 n _)) (Fin.ext (show 512 * t.val + (r.val - 128) = 512 * t.val + r.val - 128 by omega))
    · have h0 : 0 < t.val % 2 := hr.resolve_left h
      refine (congrFun (congrArg (k0_pay3 (F := Ideal)) ((View.readAt_full (ms0_4 t).view ((hs0_4 t).unread (iblk m c 4 t)) _).trans ((hs0_4 t).read_unread _))) _).trans ?_
      exact (congrFun (pay3 (iblk m c 4 t)) _).trans (blk4 m c t h0 _ l)
  · exact (congrFun ((hs0_5 t).read_unread (iblk m c 5 t)) _).trans (blk5 m c t h a j)

/-- What point `t` leaves in the block of output 6. -/
theorem point6 (c : Dev nD) (t : Fin cfg0.N) (y : S512x512.Idx) :
    (outsAt0 m c t).1 y = (fun j : S16384x512.Idx => (outO 2 (res (m ((c : Thread nD τ).loc main_arg0))) (m ((c : Thread nD τ).loc main_arg1)) (j 0) (j 1) : EReal)) (((cfg0.win 6).blk t).view.emb y) := by
  have ht : t.val < 32 := lt_of_lt_of_eq t.isLt N_0
  have hj : ((cfg0.win 6).blk t).view.emb y = ix2 (prow (pt t) (y 0)) (y 1) := by
    unfold prow pt
    blk_ext [idx t]
  rw [hj]
  unfold outsAt0
  dsimp only
  refine View.read_writes_apply_of_pieces (Val := Elt Ideal) VO0_6 VO0_6.junk (blkO 2 (res (m ((c : Thread nD τ).loc main_arg0))) (m ((c : Thread nD τ).loc main_arg1)) (pt t)) _ (fun pc hpc => ?_) y
    (cover0_A_6 c _ _ _ _ _ _ _ _ _ _ _ _ _ _ _ _ _ _ _ _ _ _ _ _ _ _ _ y)
  unfold kernelRun0_A at hpc
  dsimp only at hpc
  rw [show BitVec.ofNat 32 (grid0.coords t 1).val = BitVec.ofNat 32 ((pt t).val % 2) from congrArg (BitVec.ofNat 32) (idx t).2.2.2.2.2.2.2.2] at hpc
  exact (loop_pieces (t := pt t) _ _ _ _ _ _ _ _ _ _ _ _ _ _ _ _ _ _ _ _ _ _ _ _ _ _ _ _ (held m c t) _ le_rfl).1 pc hpc

/-- What the region leaves in output 6. -/
theorem final6 (c : Dev nD) : (dats m 0 c).arrAt 6 (cfgs 0).N
    = fun j : S16384x512.Idx => (outO 2 (res (m ((c : Thread nD τ).loc main_arg0))) (m ((c : Thread nD τ).loc main_arg1)) (j 0) (j 1) : EReal) := by
  refine (dats m 0 c).arrAt_eq_of_covers 6 _ (by decide +kernel) fun t _ y => ?_
  blk_simp
  rw [after0_6]
  exact point6 m c t y

/-- What point `t` leaves in the block of output 7. -/
theorem point7 (c : Dev nD) (t : Fin cfg0.N) (y : S512x512.Idx) :
    (outsAt0 m c t).2 y = (fun j : S16384x512.Idx => (outL 2 (res (m ((c : Thread nD τ).loc main_arg0))) (m ((c : Thread nD τ).loc main_arg1)) (j 0) (j 1) : EReal)) (((cfg0.win 7).blk t).view.emb y) := by
  have ht : t.val < 32 := lt_of_lt_of_eq t.isLt N_0
  have hj : ((cfg0.win 7).blk t).view.emb y = ix2 (prow (pt t) (y 0)) (y 1) := by
    unfold prow pt
    blk_ext [idx t]
  rw [hj]
  unfold outsAt0
  dsimp only
  refine View.read_writes_apply_of_pieces (Val := Elt Ideal) VO0_7 VO0_7.junk (blkL 2 (res (m ((c : Thread nD τ).loc main_arg0))) (m ((c : Thread nD τ).loc main_arg1)) (pt t)) _ (fun pc hpc => ?_) y
    (cover0_A_7 c _ _ _ _ _ _ _ _ _ _ _ _ _ _ _ _ _ _ _ _ _ _ _ _ _ _ _ y)
  unfold kernelRun0_A at hpc
  dsimp only at hpc
  rw [show BitVec.ofNat 32 (grid0.coords t 1).val = BitVec.ofNat 32 ((pt t).val % 2) from congrArg (BitVec.ofNat 32) (idx t).2.2.2.2.2.2.2.2] at hpc
  exact (loop_pieces (t := pt t) _ _ _ _ _ _ _ _ _ _ _ _ _ _ _ _ _ _ _ _ _ _ _ _ _ _ _ _ (held m c t) _ le_rfl).2 pc hpc

/-- What the region leaves in output 7. -/
theorem final7 (c : Dev nD) : (dats m 0 c).arrAt 7 (cfgs 0).N
    = fun j : S16384x512.Idx => (outL 2 (res (m ((c : Thread nD τ).loc main_arg0))) (m ((c : Thread nD τ).loc main_arg1)) (j 0) (j 1) : EReal) := by
  refine (dats m 0 c).arrAt_eq_of_covers 7 _ (by decide +kernel) fun t _ y => ?_
  blk_simp
  rw [after0_7]
  exact point7 m c t y

/-- Every token is the token of a row of the reordered array. -/
theorem tok_surj (T : Fin 16384) : tok ⟨T.val % 16 * 1024 + T.val / 16, by omega⟩ = T :=
  Fin.ext (by dsimp only [tok]; omega)

/-- The rows put back in the tokens' order. -/
theorem back (v : Vec Ideal S16384x512 .f32) (T : Fin 16384) (l : Fin 512) :
    (shapeCast S16384x512 (transpose S1024x16x512 [1, 0, 2] (shapeCast S16x1024x512 v shapeCasts_S16384x512_S16x1024x512) transposes_S16x1024x512_S1024x16x512_1_0_2) shapeCasts_S1024x16x512_S16384x512) (ix2 T l)
      = v (ix2 ⟨T.val % 16 * 1024 + T.val / 16, by omega⟩ l) := by
  have hT := T.isLt
  have hl := l.isLt
  pointwise

/-- What the lines after the region leave in result 0: the attention of every query, in the tokens' order. -/
theorem finalO (c : Dev nD) : Pipeline.afterTail₀ cfgs (dats m) 0 (V0 m) [hostOps1] c main_v6
    = val_main_v90 (F := Ideal) (m ((c : Thread nD τ).loc main_arg0)) (m ((c : Thread nD τ).loc main_arg1)) := by
  have hv : Pipeline.afterTail₀ cfgs (dats m) 0 (V0 m) [hostOps1] c main_v6 = shapeCast S16384x512 (transpose S1024x16x512 [1, 0, 2] (shapeCast S16x1024x512 ((dats m 0 c).arrAt 6 (cfgs 0).N : Vec Ideal S16384x512 .f32) shapeCasts_S16384x512_S16x1024x512) transposes_S16x1024x512_S1024x16x512_1_0_2) shapeCasts_S1024x16x512_S16384x512 := by
    rw [← (dats m 0 c).withArrays_arrAt sharedIn0 (V0 m c) (A_eq m c) 6]
    unfold Pipeline.afterTail₀
    show StableHlo.after hostOps1 _ _ = _
    entry_read
    rfl
  rw [hv, final6]
  funext i
  obtain ⟨T, l, rfl⟩ : ∃ a l, i = ix2 a l := ⟨i 0, i 1, by ext d; fin_cases d <;> rfl⟩
  refine (back _ T l).trans ((ref_o (m ((c : Thread nD τ).loc main_arg0)) (m ((c : Thread nD τ).loc main_arg1)) _ l).symm.trans ?_)
  exact congrArg (fun r => val_main_v90 (F := Ideal) (m ((c : Thread nD τ).loc main_arg0)) (m ((c : Thread nD τ).loc main_arg1)) (ix2 r l)) (tok_surj T)

/-- What the lines after the region leave in result 1: the logarithm of the sum of exponentials of every query and head, in the tokens' order. -/
theorem finalL (c : Dev nD) : Pipeline.afterTail₀ cfgs (dats m) 0 (V0 m) [hostOps1] c main_v9
    = val_main_v94 (F := Ideal) (m ((c : Thread nD τ).loc main_arg0)) (m ((c : Thread nD τ).loc main_arg1)) := by
  have hv : Pipeline.afterTail₀ cfgs (dats m) 0 (V0 m) [hostOps1] c main_v9 = shapeCast S16384x512 (transpose S1024x16x512 [1, 0, 2] (shapeCast S16x1024x512 ((dats m 0 c).arrAt 7 (cfgs 0).N : Vec Ideal S16384x512 .f32) shapeCasts_S16384x512_S16x1024x512) transposes_S16x1024x512_S1024x16x512_1_0_2) shapeCasts_S1024x16x512_S16384x512 := by
    rw [← (dats m 0 c).withArrays_arrAt sharedIn0 (V0 m c) (A_eq m c) 7]
    unfold Pipeline.afterTail₀
    show StableHlo.after hostOps1 _ _ = _
    entry_read
    rfl
  rw [hv, final7]
  funext i
  obtain ⟨T, l, rfl⟩ : ∃ a l, i = ix2 a l := ⟨i 0, i 1, by ext d; fin_cases d <;> rfl⟩
  refine (back _ T l).trans ((ref_l (m ((c : Thread nD τ).loc main_arg0)) (m ((c : Thread nD τ).loc main_arg1)) _ l).symm.trans ?_)
  exact congrArg (fun r => val_main_v94 (F := Ideal) (m ((c : Thread nD τ).loc main_arg0)) (m ((c : Thread nD τ).loc main_arg1)) (ix2 r l)) (tok_surj T)

end Cert.AttnFwd16Ideal.Final
-- ==== Proof.AttnFwdValue.lean ====
/-
  Attention over a window of keys: the trip of the body's loop over the four blocks of a point, the buffers that it reads, and what
  the pipelined kernel leaves in its two result arrays.
-/
module

public import proofs.«01_k».proof.Proof.AttnFwdPoint
public import Idealize.ShloMosaic.Lib.Pipeline.ReadBack
public import Idealize.ShloMosaic.Lib.Writes
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnFwdIdeal.Final

open Cert.AttnFwdIdeal Cert.AttnFwdIdeal.Gen Cert.AttnFwdRefIdeal.Read

/-! ### The other three pairs compute the same function -/

theorem o_pair1 (v36 kk vv q b) : k0_pay22 (F := Ideal) v36 k0_pay9 kk vv q b = k0_pay16 (F := Ideal) v36 k0_pay9 kk vv (k0_pay10 q) (k0_pay11 b) := rfl
theorem l_pair1 (v36 kk q b) : k0_pay23 (F := Ideal) v36 k0_pay9 kk q b = k0_pay17 (F := Ideal) v36 k0_pay9 kk (k0_pay10 q) (k0_pay11 b) := rfl
theorem o_pair2 (v36 kk vv q b) : k0_pay29 (F := Ideal) v36 k0_pay9 kk vv q b = k0_pay16 (F := Ideal) v36 k0_pay9 kk vv (k0_pay10 q) (k0_pay11 b) := rfl
theorem l_pair2 (v36 kk q b) : k0_pay30 (F := Ideal) k0_pay9 (k0_pay28 v36 k0_pay9 kk q b) = k0_pay17 (F := Ideal) v36 k0_pay9 kk (k0_pay10 q) (k0_pay11 b) := rfl
theorem o_pair3 (v36 kk vv q b) : k0_pay6 (F := Ideal) k0_pay9 vv (k0_pay33 v36 k0_pay9 kk q b) = k0_pay16 (F := Ideal) v36 k0_pay9 kk vv (k0_pay10 q) (k0_pay11 b) := rfl
theorem l_pair3 (v36 kk q b) : k0_pay7 (F := Ideal) k0_pay9 (k0_pay32 v36 k0_pay9 kk q b) (k0_pay33 v36 k0_pay9 kk q b) = k0_pay17 (F := Ideal) v36 k0_pay9 kk (k0_pay10 q) (k0_pay11 b) := rfl

/-! ### The trip and the loop -/

section Loop

variable {x0 : FVec Ideal S16384x1536 .bf16} {x1 : FVec Ideal S8x128x256 .f32} {t : Fin 32}
variable (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S128x512 .bf16) (harg4 : arg4.IsWhole) (arg5 : Memref sig .tc .vmem S512x512 .bf16) (harg5 : arg5.IsWhole) (arg6 : Memref sig .tc .vmem S128x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S640x512 .bf16) (harg10 : arg10.IsWhole) (arg11 : Memref sig .tc .vmem S640x512 .bf16) (harg11 : arg11.IsWhole) (X_arg2 : BufTy.Contents (Elt Ideal) arg2.view.ty) (X_arg7 : BufTy.Contents (Elt Ideal) arg7.view.ty) (X_arg10 : BufTy.Contents (Elt Ideal) arg10.view.ty) (X_arg11 : BufTy.Contents (Elt Ideal) arg11.view.ty)
variable (H : Held 32 x0 x1 t (arg2.view.read (Elt Ideal) X_arg2) (arg10.view.read (Elt Ideal) X_arg10) (arg11.view.read (Elt Ideal) X_arg11) (arg7.view.read (Elt Ideal) X_arg7))
include H

/-- Every piece that a trip writes holds what is to be there. -/
theorem trip_pieces (k : Fin k0_t1_loop.trips) :
    (∀ pc ∈ (tripL_k0_t1 (F := Ideal) 𝒱 c bd i arg2 harg2 arg3 harg3 arg4 harg4 arg5 harg5 arg6 harg6 arg7 harg7 arg8 harg8 arg9 harg9 arg10 harg10 arg11 harg11 (BitVec.ofNat 32 (t.val % 32)) X_arg2 X_arg7 X_arg10 X_arg11 k).1, ∀ x : pc.1.shape.Idx, pc.2 x = blkO 32 x0 x1 t (pc.1.emb x))
    ∧ (∀ pc ∈ (tripL_k0_t1 (F := Ideal) 𝒱 c bd i arg2 harg2 arg3 harg3 arg4 harg4 arg5 harg5 arg6 harg6 arg7 harg7 arg8 harg8 arg9 harg9 arg10 harg10 arg11 harg11 (BitVec.ofNat 32 (t.val % 32)) X_arg2 X_arg7 X_arg10 X_arg11 k).2, ∀ x : pc.1.shape.Idx, pc.2 x = blkL 32 x0 x1 t (pc.1.emb x)) := by
  have hk : k.val < 4 := lt_of_lt_of_le k.isLt k0_t1_abs.2.1
  have ht := t.isLt
  have P := fun p o1 o2 o3 h1 h2 h3 => pair_of (by norm_num) H k ⟨4 * t.val + k.val, by omega⟩ rfl p (o1 := o1) (o2 := o2) (o3 := o3) h1 h2 h3
  have P0 := P 0 _ _ _ (k0_off1_eq k) (k0_off2_eq k) rfl
  have P1 := P 1 _ _ _ (k0_off3_eq k) (k0_off4_eq k) rfl
  have P2 := P 2 _ _ _ (k0_off5_eq k) (k0_off6_eq k) rfl
  have P3 := P 3 _ _ _ (k0_off7_eq k) (k0_off8_eq k) rfl
  have I : ∀ (p : Fin 4) (off : Fin 2 → ℕ), off = ![128 * k.val, 128 * p.val] → ∀ a, off a + S128x128.size a ≤ S512x512.size a := fun p off h a => by
    have hp := p.isLt
    subst h
    fin_cases a
    · show 128 * k.val + 128 ≤ 512
      omega
    · show 128 * p.val + 128 ≤ 512
      omega
  unfold tripL_k0_t1 trip_k0_t1
  dsimp only
  constructor
  · intro pc hpc x
    rcases List.mem_cons.1 hpc with rfl | hpc
    · exact (congrFun (o_pair3 _ _ _ _ _) x).trans (piece_o (P3 _ _ _) t k rfl (k0_off8_eq k) (I 3 _ (k0_off8_eq k)) x)
    rcases List.mem_cons.1 hpc with rfl | hpc
    · exact (congrFun (o_pair2 _ _ _ _ _) x).trans (piece_o (P2 _ _ _) t k rfl (k0_off6_eq k) (I 2 _ (k0_off6_eq k)) x)
    rcases List.mem_cons.1 hpc with rfl | hpc
    · exact (congrFun (o_pair1 _ _ _ _ _) x).trans (piece_o (P1 _ _ _) t k rfl (k0_off4_eq k) (I 1 _ (k0_off4_eq k)) x)
    rcases List.mem_cons.1 hpc with rfl | hpc
    · exact piece_o (P0 _ _ _) t k rfl (k0_off2_eq k) (I 0 _ (k0_off2_eq k)) x
    exact absurd hpc List.not_mem_nil
  · intro pc hpc x
    rcases List.mem_cons.1 hpc with rfl | hpc
    · exact (congrFun (l_pair3 _ _ _ _) x).trans (piece_l (P3 _ _ _) t k rfl (k0_off8_eq k) (I 3 _ (k0_off8_eq k)) x)
    rcases List.mem_cons.1 hpc with rfl | hpc
    · exact (congrFun (l_pair2 _ _ _ _) x).trans (piece_l (P2 _ _ _) t k rfl (k0_off6_eq k) (I 2 _ (k0_off6_eq k)) x)
    rcases List.mem_cons.1 hpc with rfl | hpc
    · exact (congrFun (l_pair1 _ _ _ _) x).trans (piece_l (P1 _ _ _) t k rfl (k0_off4_eq k) (I 1 _ (k0_off4_eq k)) x)
    rcases List.mem_cons.1 hpc with rfl | hpc
    · exact piece_l (P0 _ _ _) t k rfl (k0_off2_eq k) (I 0 _ (k0_off2_eq k)) x
    exact absurd hpc List.not_mem_nil

/-- The same of all trips before the `k`-th. -/
theorem loop_pieces : ∀ k : ℕ, k ≤ k0_t1_loop.trips →
    (∀ pc ∈ (pb_k0_t1 (F := Ideal) 𝒱 c bd i arg2 harg2 arg3 harg3 arg4 harg4 arg5 harg5 arg6 harg6 arg7 harg7 arg8 harg8 arg9 harg9 arg10 harg10 arg11 harg11 (BitVec.ofNat 32 (t.val % 32)) X_arg2 X_arg7 X_arg10 X_arg11 k).1, ∀ x : pc.1.shape.Idx, pc.2 x = blkO 32 x0 x1 t (pc.1.emb x))
    ∧ (∀ pc ∈ (pb_k0_t1 (F := Ideal) 𝒱 c bd i arg2 harg2 arg3 harg3 arg4 harg4 arg5 harg5 arg6 harg6 arg7 harg7 arg8 harg8 arg9 harg9 arg10 harg10 arg11 harg11 (BitVec.ofNat 32 (t.val % 32)) X_arg2 X_arg7 X_arg10 X_arg11 k).2, ∀ x : pc.1.shape.Idx, pc.2 x = blkL 32 x0 x1 t (pc.1.emb x))
  | 0, _ => ⟨fun pc h => absurd h List.not_mem_nil, fun pc h => absurd h List.not_mem_nil⟩
  | k + 1, hk => by
    have ih := loop_pieces k (by omega)
    have hs := trip_pieces 𝒱 c bd i arg2 harg2 arg3 harg3 arg4 harg4 arg5 harg5 arg6 harg6 arg7 harg7 arg8 harg8 arg9 harg9 arg10 harg10 arg11 harg11 X_arg2 X_arg7 X_arg10 X_arg11 H ⟨k, hk⟩
    have e := pb_k0_t1_succ (F := Ideal) 𝒱 c bd i arg2 harg2 arg3 harg3 arg4 harg4 arg5 harg5 arg6 harg6 arg7 harg7 arg8 harg8 arg9 harg9 arg10 harg10 arg11 harg11 (BitVec.ofNat 32 (t.val % 32)) X_arg2 X_arg7 X_arg10 X_arg11 ⟨k, hk⟩
    rw [e]
    exact ⟨fun pc h => (List.mem_append.1 h).elim (hs.1 pc) (ih.1 pc), fun pc h => (List.mem_append.1 h).elim (hs.2 pc) (ih.2 pc)⟩

end Loop

variable (m : (ℓ : Loc nD τ sig) → Buf (Elt Ideal) ℓ)

/-- Every window's block index at every point. -/
theorem idx : ∀ t : Fin cfg0.N, win0_0.index t = ![t.val, 0] ∧ win0_1.index t = ![t.val, 1] ∧ win0_2.index t = ![4 * t.val - 1, 1]
    ∧ win0_3.index t = ![t.val, 2] ∧ win0_4.index t = ![4 * t.val - 1, 2] ∧ win0_5.index t = ![0, 0, 0]
    ∧ win0_6.index t = ![t.val, 0] ∧ win0_7.index t = ![t.val, 0] ∧ (grid0.coords t 1).val = t.val % 32 :=
  (by decide +kernel : ∀ t : Fin grid0.N, _)

/-- A point of the grid, as a number below 32. -/
def pt (t : Fin cfg0.N) : Fin 32 := ⟨t.val, lt_of_lt_of_eq t.isLt N_0⟩

theorem blk0 (c : Dev nD) (t : Fin cfg0.N) (r l : Fin 512) :
    iblk m c 0 t (ix2 r l) = m ((c : Thread nD τ).loc main_arg0) (ix2 ⟨512 * t.val + r.val, by have := (pt t).isLt; simp [pt] at this; omega⟩ ⟨l.val, by omega⟩) := by
  have ht : t.val < 32 := lt_of_lt_of_eq t.isLt N_0
  blk_point [iblk, V, idx t]

theorem blk1 (c : Dev nD) (t : Fin cfg0.N) (r l : Fin 512) :
    iblk m c 1 t (ix2 r l) = m ((c : Thread nD τ).loc main_arg0) (ix2 ⟨512 * t.val + r.val, by have := (pt t).isLt; simp [pt] at this; omega⟩ ⟨512 + l.val, by omega⟩) := by
  have ht : t.val < 32 := lt_of_lt_of_eq t.isLt N_0
  blk_point [iblk, V, idx t]

theorem blk2 (c : Dev nD) (t : Fin cfg0.N) (h : 0 < t.val) (r : Fin 128) (l : Fin 512) :
    iblk m c 2 t (ix2 r l) = m ((c : Thread nD τ).loc main_arg0) (ix2 ⟨512 * t.val + r.val - 128, by have := (pt t).isLt; simp [pt] at this; omega⟩ ⟨512 + l.val, by omega⟩) := by
  have ht : t.val < 32 := lt_of_lt_of_eq t.isLt N_0
  blk_point [iblk, V, idx t]

theorem blk3 (c : Dev nD) (t : Fin cfg0.N) (r l : Fin 512) :
    iblk m c 3 t (ix2 r l) = m ((c : Thread nD τ).loc main_arg0) (ix2 ⟨512 * t.val + r.val, by have := (pt t).isLt; simp [pt] at this; omega⟩ ⟨1024 + l.val, by omega⟩) := by
  have ht : t.val < 32 := lt_of_lt_of_eq t.isLt N_0
  blk_point [iblk, V, idx t]

theorem blk5 (c : Dev nD) (t : Fin cfg0.N) (h : Fin 8) (a : Fin 128) (j : Fin 256) :
    iblk m c 5 t (ix3 h a j) = m ((c : Thread nD τ).loc main_arg1) (ix3 h a j) := by
  have ht : t.val < 32 := lt_of_lt_of_eq t.isLt N_0
  blk_point [iblk, V, idx t]

theorem blk4 (c : Dev nD) (t : Fin cfg0.N) (h : 0 < t.val) (r : Fin 128) (l : Fin 512) :
    iblk m c 4 t (ix2 r l) = m ((c : Thread nD τ).loc main_arg0) (ix2 ⟨512 * t.val + r.val - 128, by have := (pt t).isLt; simp [pt] at this; omega⟩ ⟨1024 + l.val, by omega⟩) := by
  have ht : t.val < 32 := lt_of_lt_of_eq t.isLt N_0
  blk_point [iblk, V, idx t]

/-! What the body stages is what it read. -/

theorem pay1 (v : FVec Ideal S128x512 .bf16) : k0_pay1 (F := Ideal) v = v := shapeCast_self v _
theorem pay2 (v : FVec Ideal S512x512 .bf16) : k0_pay2 (F := Ideal) v = v := shapeCast_self v _
theorem pay3 (v : FVec Ideal S128x512 .bf16) : k0_pay3 (F := Ideal) v = v := shapeCast_self v _
theorem pay4 (v : FVec Ideal S512x512 .bf16) : k0_pay4 (F := Ideal) v = v := shapeCast_self v _

/-- The buffers of a point hold what the loop needs. -/
theorem held (c : Dev nD) (t : Fin cfg0.N) :
    Held 32 (m ((c : Thread nD τ).loc main_arg0)) (m ((c : Thread nD τ).loc main_arg1)) (pt t)
      ((ms0_0 t).view.read (Elt Ideal) ((hs0_0 t).unread (iblk m c 0 t)))
      (scM0_0.view.read (Elt Ideal) ((View.whole cc0_scratch0).writes (Elt Ideal) (View.whole cc0_scratch0).junk (kernelRun0_A.sl.HS0_2 c (ms0_1 t) (hs0_1 t) (ms0_2 t) (hs0_2 t) (iblk m c 1 t) (iblk m c 2 t))))
      (scM0_1.view.read (Elt Ideal) ((View.whole cc0_scratch1).writes (Elt Ideal) (View.whole cc0_scratch1).junk (kernelRun0_A.sl.HS1_2 c (ms0_3 t) (hs0_3 t) (ms0_4 t) (hs0_4 t) (iblk m c 3 t) (iblk m c 4 t))))
      ((ms0_5 t).view.read (Elt Ideal) ((hs0_5 t).unread (iblk m c 5 t))) := by
  refine ⟨fun r l => ?_, fun r l hr => ?_, fun r l hr => ?_, fun h a j => ?_⟩
  · exact (congrFun ((hs0_0 t).read_unread (iblk m c 0 t)) _).trans (blk0 m c t r l)
  · unfold kernelRun0_A.sl.HS0_2
    dsimp only
    refine (stage _ _ _ _ _ _ r l).trans ?_
    split_ifs with h
    · refine (congrFun (congrArg (k0_pay2 (F := Ideal)) ((View.readAt_full (ms0_1 t).view ((hs0_1 t).unread (iblk m c 1 t)) _).trans ((hs0_1 t).read_unread _))) _).trans ?_
      refine (congrFun (pay2 (iblk m c 1 t)) _).trans ((blk1 m c t _ l).trans ?_)
      exact congrArg (fun n => m ((c : Thread nD τ).loc main_arg0) (ix2 n _)) (Fin.ext (show 512 * t.val + (r.val - 128) = 512 * t.val + r.val - 128 by omega))
    · have h0 : 0 < t.val := lt_of_lt_of_le (hr.resolve_left h) (Nat.mod_le _ _)
      refine (congrFun (congrArg (k0_pay1 (F := Ideal)) ((View.readAt_full (ms0_2 t).view ((hs0_2 t).unread (iblk m c 2 t)) _).trans ((hs0_2 t).read_unread _))) _).trans ?_
      exact (congrFun (pay1 (iblk m c 2 t)) _).trans (blk2 m c t h0 _ l)
  · unfold kernelRun0_A.sl.HS1_2
    dsimp only
    refine (stage _ _ _ _ _ _ r l).trans ?_
    split_ifs with h
    · refine (congrFun (congrArg (k0_pay4 (F := Ideal)) ((View.readAt_full (ms0_3 t).view ((hs0_3 t).unread (iblk m c 3 t)) _).trans ((hs0_3 t).read_unread _))) _).trans ?_
      refine (congrFun (pay4 (iblk m c 3 t)) _).trans ((blk3 m c t _ l).trans ?_)
      exact congrArg (fun n => m ((c : Thread nD τ).loc main_arg0) (ix2 n _)) (Fin.ext (show 512 * t.val + (r.val - 128) = 512 * t.val + r.val - 128 by omega))
    · have h0 : 0 < t.val := lt_of_lt_of_le (hr.resolve_left h) (Nat.mod_le _ _)
      refine (congrFun (congrArg (k0_pay3 (F := Ideal)) ((View.readAt_full (ms0_4 t).view ((hs0_4 t).unread (iblk m c 4 t)) _).trans ((hs0_4 t).read_unread _))) _).trans ?_
      exact (congrFun (pay3 (iblk m c 4 t)) _).trans (blk4 m c t h0 _ l)
  · exact (congrFun ((hs0_5 t).read_unread (iblk m c 5 t)) _).trans (blk5 m c t h a j)

/-- What point `t` leaves in the block of output 6 is what the plain lines put at the array index there. -/
theorem point6 (c : Dev nD) (t : Fin cfg0.N) (y : S512x512.Idx) :
    (outsAt0 m c t).1 y = val_main_v90 (F := Ideal) (m ((c : Thread nD τ).loc main_arg0)) (m ((c : Thread nD τ).loc main_arg1)) (((cfg0.win 6).blk t).view.emb y) := by
  have ht : t.val < 32 := lt_of_lt_of_eq t.isLt N_0
  have hj : ((cfg0.win 6).blk t).view.emb y = ix2 (prow (pt t) (y 0)) (y 1) := by
    unfold prow pt
    blk_ext [idx t]
  rw [hj]
  refine Eq.trans ?_ (ref_o _ _ (prow (pt t) (y 0)) (y 1)).symm
  unfold outsAt0
  dsimp only
  refine View.read_writes_apply_of_pieces (Val := Elt Ideal) VO0_6 VO0_6.junk (blkO 32 (m ((c : Thread nD τ).loc main_arg0)) (m ((c : Thread nD τ).loc main_arg1)) (pt t)) _ (fun pc hpc => ?_) y
    (cover0_A_6 c _ _ _ _ _ _ _ _ _ _ _ _ _ _ _ _ _ _ _ _ _ _ _ _ _ _ _ y)
  unfold kernelRun0_A at hpc
  dsimp only at hpc
  rw [show BitVec.ofNat 32 (grid0.coords t 1).val = BitVec.ofNat 32 ((pt t).val % 32) from congrArg (BitVec.ofNat 32) (idx t).2.2.2.2.2.2.2.2] at hpc
  exact (loop_pieces (t := pt t) _ _ _ _ _ _ _ _ _ _ _ _ _ _ _ _ _ _ _ _ _ _ _ _ _ _ _ _ (held m c t) _ le_rfl).1 pc hpc

/-- What point `t` leaves in the block of output 7 is what the plain lines put at the array index there. -/
theorem point7 (c : Dev nD) (t : Fin cfg0.N) (y : S512x512.Idx) :
    (outsAt0 m c t).2 y = val_main_v94 (F := Ideal) (m ((c : Thread nD τ).loc main_arg0)) (m ((c : Thread nD τ).loc main_arg1)) (((cfg0.win 7).blk t).view.emb y) := by
  have ht : t.val < 32 := lt_of_lt_of_eq t.isLt N_0
  have hj : ((cfg0.win 7).blk t).view.emb y = ix2 (prow (pt t) (y 0)) (y 1) := by
    unfold prow pt
    blk_ext [idx t]
  rw [hj]
  refine Eq.trans ?_ (ref_l _ _ (prow (pt t) (y 0)) (y 1)).symm
  unfold outsAt0
  dsimp only
  refine View.read_writes_apply_of_pieces (Val := Elt Ideal) VO0_7 VO0_7.junk (blkL 32 (m ((c : Thread nD τ).loc main_arg0)) (m ((c : Thread nD τ).loc main_arg1)) (pt t)) _ (fun pc hpc => ?_) y
    (cover0_A_7 c _ _ _ _ _ _ _ _ _ _ _ _ _ _ _ _ _ _ _ _ _ _ _ _ _ _ _ y)
  unfold kernelRun0_A at hpc
  dsimp only at hpc
  rw [show BitVec.ofNat 32 (grid0.coords t 1).val = BitVec.ofNat 32 ((pt t).val % 32) from congrArg (BitVec.ofNat 32) (idx t).2.2.2.2.2.2.2.2] at hpc
  exact (loop_pieces (t := pt t) _ _ _ _ _ _ _ _ _ _ _ _ _ _ _ _ _ _ _ _ _ _ _ _ _ _ _ _ (held m c t) _ le_rfl).2 pc hpc

/-- After the run the first array holds the attention of every query. -/
theorem final6 (c : Dev nD) : (dats m 0 c).arrAt 6 (cfgs 0).N
    = val_main_v90 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  exact point6 m c t y

/-- After the run the second array holds the logarithm of the sum of exponentials of every query and head. -/
theorem final7 (c : Dev nD) : (dats m 0 c).arrAt 7 (cfgs 0).N
    = val_main_v94 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  exact point7 m c t y

end Cert.AttnFwdIdeal.Final
-- ==== Proof.SiluPure.lean ====
/-
  The logistic function, SiLU and its derivative over the extended reals, as both programs compute them, and what a
  finiteness test says of an element.
-/
module

public import Idealize.ShloMosaic.Lib.Pipeline.ValueKit
public import Idealize.ShloMosaic.Lib.Pointwise
public import Idealize.ShloMosaic.Lib.WordCmp

@[expose] public section

set_option maxRecDepth 16384

noncomputable section

open Idealize.ShloMosaic

namespace Cert.Silu

/-- The logistic function of an extended real, spelt as both programs compute it. -/
def sg (x : EReal) : EReal := Ideal.div 1 (1 + Ideal.exp (-x))

/-- The pattern of +∞ in 32 bits is ⊤. -/
theorem inf32 : Ideal.ofBits .f32 0x7F800000#32 = (⊤ : EReal) := by
  simp [Ideal.ofBits, Ideal.ieee]

/-- The pattern of +∞ in 16 bits is ⊤. -/
theorem inf16 : Ideal.ofBits .bf16 0x7F80#16 = (⊤ : EReal) := by
  simp [Ideal.ofBits, Ideal.ieee]

/-- One plus an exponential is positive. -/
theorem den_pos (x : EReal) : (0 : EReal) < 1 + Ideal.exp x := by
  have h : (0 : EReal) ≤ Ideal.exp x := by
    induction x using EReal.rec with
    | bot => exact le_refl (0 : EReal)
    | coe r => exact (by exact_mod_cast (Real.exp_pos r).le : (0 : EReal) ≤ (Real.exp r : EReal))
    | top => exact (le_top : (0 : EReal) ≤ ⊤)
  exact lt_of_lt_of_le zero_lt_one (le_add_of_nonneg_right h)

/-- Dividing by one plus the exponential is multiplying by the logistic function, also at the infinities. -/
theorem silu_eq (x : EReal) : Ideal.div x (1 + Ideal.exp (-x)) = x * sg x := by
  have h := (den_pos (-x)).ne'
  unfold sg Ideal.div
  rw [if_neg h, if_neg h, one_mul]

/-- The logistic function of a real number is a real number. -/
theorem sg_coe (x : ℝ) : ∃ s : ℝ, sg (x : EReal) = (s : EReal) := by
  refine ⟨(1 + Real.exp (-x))⁻¹, ?_⟩
  have e : (1 : EReal) + Ideal.exp (-(x : EReal)) = ((1 + Real.exp (-x) : ℝ) : EReal) := by
    rw [EReal.coe_add]
    rfl
  rw [sg, Ideal.div, if_neg (den_pos _).ne', one_mul, e, EReal.coe_inv]

/-- A product with SiLU's derivative, and the two addends into which the chain rule writes it, for finite numbers. -/
theorem dsilu_eq (c g : ℝ) : (c : EReal) * (sg (g : EReal) * (1 + (g : EReal) * (1 - sg (g : EReal))))
    = (c : EReal) * sg (g : EReal) + (g : EReal) * (c : EReal) * (sg (g : EReal) * (1 - sg (g : EReal))) := by
  obtain ⟨s, hs⟩ := sg_coe g
  rw [hs]
  norm_cast
  ring

/-- SiLU's derivative applied to a finite number, as the kernels compute it, written with the logistic function's sign as theirs. -/
theorem dsilu_coe {x : EReal} (h : ∃ r : ℝ, x = (r : EReal)) {c : EReal} (hc : ∃ r : ℝ, c = (r : EReal)) :
    c * (sg x * (1 + x * (1 - sg x))) = c * sg x + x * c * (sg x * (1 - sg x)) := by
  obtain ⟨r, rfl⟩ := h
  obtain ⟨q, rfl⟩ := hc
  exact dsilu_eq q r

/-- An element whose absolute value is below +∞ is a real number. -/
theorem coe_of_abs {x : EReal} (h : max x (-x) < ⊤) : ∃ r : ℝ, x = (r : EReal) := by
  induction x using EReal.rec with
  | bot => simp at h
  | coe r => exact ⟨r, rfl⟩
  | top => simp at h

/-- What the test of an element in 16 bits against +∞ says. -/
theorem real16 {x : FVec Ideal ⟨0, ![]⟩ .bf16} (h : BitVec.ofBool (decide ((FloatOps.absf (x ix0) : EReal) < Ideal.ofBits .bf16 0x7F80#16)) = 1#1) : ∃ r : ℝ, (x ix0 : EReal) = (r : EReal) := by
  rw [inf16] at h
  refine coe_of_abs ?_
  by_contra hn
  have : decide ((FloatOps.absf (x ix0) : EReal) < ⊤) = false := decide_eq_false hn
  rw [this] at h
  exact absurd h (by decide)

/-- What the test of an element in 32 bits against +∞ says. -/
theorem real32 {x : FVec Ideal ⟨0, ![]⟩ .f32} (h : BitVec.ofBool (decide ((FloatOps.absf (x ix0) : EReal) < Ideal.ofBits .f32 0x7F800000#32)) = 1#1) : ∃ r : ℝ, (x ix0 : EReal) = (r : EReal) := by
  rw [inf32] at h
  refine coe_of_abs ?_
  by_contra hn
  have : decide ((FloatOps.absf (x ix0) : EReal) < ⊤) = false := decide_eq_false hn
  rw [this] at h
  exact absurd h (by decide)

/-- The product of two real numbers is a real number. -/
theorem mul_coe {x y : EReal} (hx : ∃ r : ℝ, x = (r : EReal)) (hy : ∃ r : ℝ, y = (r : EReal)) : ∃ r : ℝ, x * y = (r : EReal) := by
  obtain ⟨r, rfl⟩ := hx
  obtain ⟨q, rfl⟩ := hy
  exact ⟨r * q, by norm_cast⟩

end Cert.Silu

end
-- ==== Proof.CombinePure.lean ====
/-
  The softmax over three groups of a head: the largest of three numbers as a fold from minus infinity, the three
  weights, and the weights' gradient over finite numbers.
-/
module

public import proofs.«01_k».proof.Proof.SiluPure

@[expose] public section

set_option maxRecDepth 16384

noncomputable section

open Idealize.ShloMosaic

namespace Cert.Soft3

/-- The largest of three numbers. -/
def mx (L : Fin 3 → EReal) : EReal := max (max (L 0) (L 1)) (L 2)

/-- The pattern of minus infinity is the least extended real. -/
theorem bot_eq : Ideal.ofBits .f32 4286578688#32 = ⊥ := by simp [Ideal.ofBits, Ideal.ieee]

/-- The fold of the maximum from minus infinity over three numbers is the largest of them. -/
theorem fold_mx (L : Fin 3 → EReal) : max (Ideal.ofBits .f32 4286578688#32) (Finset.fold max (Ideal.ofBits .f32 4286578688#32) L Finset.univ) = mx L := by
  rw [bot_eq, max_eq_right bot_le]
  have h : (Finset.univ : Finset (Fin 3)) = {0, 1, 2} := by decide
  rw [h, Finset.fold_insert (by decide), Finset.fold_insert (by decide), Finset.fold_singleton, max_eq_left (bot_le : ⊥ ≤ L 2), mx, max_assoc]

/-- The exponential of a number's distance to the largest. -/
def ex (L : Fin 3 → EReal) (k : Fin 3) : EReal := Ideal.exp (L k - mx L)

/-- The weight of a group. -/
def wt (L : Fin 3 → EReal) (k : Fin 3) : EReal := Ideal.div (ex L k) (ex L 0 + ex L 1 + ex L 2)

/-- The gradient of a group's log-sum-exp less the group's own inner product, from the three inner products `s`, as the kernel groups it. -/
def corr (L s : Fin 3 → EReal) (k : Fin 3) : EReal := (0 - wt L k) * (wt L 0 * s 0 + wt L 1 * s 1 + wt L 2 * s 2)

/-- The exponentials of three real numbers are positive real numbers. -/
theorem ex_coe {L : Fin 3 → EReal} (hL : ∀ k, ∃ r : ℝ, L k = (r : EReal)) : ∃ e : Fin 3 → ℝ, (∀ k, 0 < e k) ∧ ∀ k, ex L k = (e k : EReal) := by
  choose a ha using hL
  refine ⟨fun k => Real.exp (a k - max (max (a 0) (a 1)) (a 2)), fun k => Real.exp_pos _, fun k => ?_⟩
  have h : mx L = ((max (max (a 0) (a 1)) (a 2) : ℝ) : EReal) := by
    rw [mx, ha 0, ha 1, ha 2, EReal.coe_strictMono.monotone.map_max, EReal.coe_strictMono.monotone.map_max]
  rw [ex, h, ha k, ← EReal.coe_sub]
  rfl

/-- The weights of three real numbers are real numbers. -/
theorem wt_coe {L : Fin 3 → EReal} (hL : ∀ k, ∃ r : ℝ, L k = (r : EReal)) (k : Fin 3) : ∃ w : ℝ, wt L k = (w : EReal) := by
  obtain ⟨e, hp, he⟩ := ex_coe hL
  have hD : e 0 + e 1 + e 2 ≠ 0 := by have := hp 0; have := hp 1; have := hp 2; positivity
  refine ⟨e k * (e 0 + e 1 + e 2)⁻¹, ?_⟩
  rw [wt, he, he, he, he, ← EReal.coe_add, ← EReal.coe_add, Ideal.div, if_neg (by exact_mod_cast hD), ← EReal.coe_inv, EReal.coe_mul]

/-- For finite numbers the chain rule's terms through the softmax, less the group's own inner product, are the kernel's one term. -/
theorem grad {L s : Fin 3 → EReal} (hL : ∀ k, ∃ r : ℝ, L k = (r : EReal)) (hs : ∀ k, ∃ r : ℝ, s k = (r : EReal)) (k : Fin 3) :
    (Ideal.div (s k) (ex L 0 + ex L 1 + ex L 2)
        + -(s 0 * Ideal.div 1 ((ex L 0 + ex L 1 + ex L 2) * (ex L 0 + ex L 1 + ex L 2)) * ex L 0
          + s 1 * Ideal.div 1 ((ex L 0 + ex L 1 + ex L 2) * (ex L 0 + ex L 1 + ex L 2)) * ex L 1
          + s 2 * Ideal.div 1 ((ex L 0 + ex L 1 + ex L 2) * (ex L 0 + ex L 1 + ex L 2)) * ex L 2)) * ex L k - wt L k * s k = corr L s k := by
  obtain ⟨e, hp, he⟩ := ex_coe hL
  choose b hb using hs
  have hD : e 0 + e 1 + e 2 ≠ 0 := by have := hp 0; have := hp 1; have := hp 2; positivity
  have hDD : (e 0 + e 1 + e 2) * (e 0 + e 1 + e 2) ≠ 0 := mul_ne_zero hD hD
  have hw : ∀ j, wt L j = ((e j * (e 0 + e 1 + e 2)⁻¹ : ℝ) : EReal) := fun j => by
    rw [wt, he, he, he, he, ← EReal.coe_add, ← EReal.coe_add, Ideal.div, if_neg (by exact_mod_cast hD), ← EReal.coe_inv, EReal.coe_mul]
  have h1 : Ideal.div (s k) ((e 0 + e 1 + e 2 : ℝ) : EReal) = ((b k * (e 0 + e 1 + e 2)⁻¹ : ℝ) : EReal) := by
    rw [hb, Ideal.div, if_neg (by exact_mod_cast hD), ← EReal.coe_inv, EReal.coe_mul]
  have h2 : Ideal.div 1 (((e 0 + e 1 + e 2) * (e 0 + e 1 + e 2) : ℝ) : EReal) = ((((e 0 + e 1 + e 2) * (e 0 + e 1 + e 2))⁻¹ : ℝ) : EReal) := by
    rw [Ideal.div, if_neg (by exact_mod_cast hDD), ← EReal.coe_inv, one_mul]
  rw [corr, hw, hw, hw, hw]
  simp only [he, ← EReal.coe_add]
  rw [h1, ← EReal.coe_mul, h2]
  simp only [hb, ← EReal.coe_mul, ← EReal.coe_add, ← EReal.coe_neg, ← EReal.coe_sub, ← EReal.coe_zero]
  congr 1
  field_simp
  ring

/-- A finite sum of real numbers is a real number. -/
theorem sum_coe {n : ℕ} {f : Fin n → EReal} (hf : ∀ x, ∃ r : ℝ, f x = (r : EReal)) : ∃ r : ℝ, ∑ x, f x = (r : EReal) := by
  refine Finset.sum_induction (M := EReal) f (fun x => ∃ r : ℝ, x = (r : EReal)) ?_ ⟨0, rfl⟩ fun x _ => hf x
  rintro _ _ ⟨a, rfl⟩ ⟨b, rfl⟩
  exact ⟨a + b, by norm_cast⟩

/-- A real factor common to the terms of an inner product of real numbers comes out of the sum. -/
theorem factor {n : ℕ} {w : EReal} {f g : Fin n → EReal} (hw : ∃ r : ℝ, w = (r : EReal)) (hf : ∀ x, ∃ r : ℝ, f x = (r : EReal))
    (hg : ∀ x, ∃ r : ℝ, g x = (r : EReal)) : ∑ x, w * f x * g x = w * ∑ x, f x * g x := by
  obtain ⟨w, rfl⟩ := hw
  choose a ha using hf
  choose b hb using hg
  simp only [ha, hb]
  refine (?_ : ∀ S : Finset (Fin n), ∑ x ∈ S, (w : EReal) * a x * b x = w * ∑ x ∈ S, (a x : EReal) * b x ∧ ∃ r : ℝ, ∑ x ∈ S, (a x : EReal) * b x = (r : EReal)) Finset.univ |>.1
  intro S
  induction S using Finset.induction_on with
  | empty => exact ⟨by simp, 0, by simp⟩
  | insert y S hy ih =>
    obtain ⟨h, r, hr⟩ := ih
    rw [Finset.sum_insert hy, Finset.sum_insert hy, h, hr]
    exact ⟨by norm_cast; ring, a y * b y + r, by norm_cast⟩

/-- The sum of the first sixty-four of a hundred and twenty-eight lanes, the others counted as zero. -/
theorem sum_low (f : Fin 128 → EReal) : ∑ x : Fin 128, (if x.val < 64 then f x else 0) = ∑ e : Fin 64, f ⟨e.val, by omega⟩ := by
  refine (Fin.sum_univ_add (a := 64) (b := 64) fun x : Fin 128 => if x.val < 64 then f x else 0).trans ?_
  rw [Finset.sum_congr rfl fun (e : Fin 64) _ => if_pos (show (Fin.castAdd 64 e).val < 64 from e.isLt),
    Finset.sum_congr rfl fun (e : Fin 64) _ => if_neg (show ¬ (Fin.natAdd 64 e).val < 64 from by simp), Finset.sum_const_zero, add_zero]
  rfl

/-- The sum of the last sixty-four of a hundred and twenty-eight lanes, the others counted as zero. -/
theorem sum_high (f : Fin 128 → EReal) : ∑ x : Fin 128, (if x.val < 64 then 0 else f x) = ∑ e : Fin 64, f ⟨64 + e.val, by omega⟩ := by
  refine (Fin.sum_univ_add (a := 64) (b := 64) fun x : Fin 128 => if x.val < 64 then 0 else f x).trans ?_
  rw [Finset.sum_congr rfl fun (e : Fin 64) _ => if_pos (show (Fin.castAdd 64 e).val < 64 from e.isLt),
    Finset.sum_congr rfl fun (e : Fin 64) _ => if_neg (show ¬ (Fin.natAdd 64 e).val < 64 from by simp), Finset.sum_const_zero, zero_add]
  rfl

/-- The comparison of a lane's number with sixty-four, as a word. -/
theorem low_word (x : Fin 128) : IntOp.cmpi .slt (BitVec.ofNat 32 x.val) 64#32 = BitVec.ofBool (decide (x.val < 64)) := by
  revert x; decide +kernel

/-- A choice by a word of a truth value. -/
theorem select_word (P : Prop) [Decidable P] (a b : EReal) : Scalar.select (BitVec.ofBool (decide P)) a b = if P then a else b := by
  by_cases h : P <;> simp [h, Scalar.select]

/-- The two lane-masked sums of the two heads of a hundred and twenty-eight lanes, chosen by the lane's own head, are its head's sum. -/
theorem head_sum (f : Fin 128 → EReal) (l : Fin 128) :
    Scalar.select (IntOp.cmpi .slt (BitVec.ofNat 32 l.val) 64#32)
        (∑ x : Fin 128, Scalar.select (IntOp.cmpi .slt (BitVec.ofNat 32 x.val) 64#32) (f x) 0)
        (∑ x : Fin 128, Scalar.select (IntOp.cmpi .slt (BitVec.ofNat 32 x.val) 64#32) 0 (f x))
      = ∑ e : Fin 64, f ⟨l.val / 64 * 64 + e.val, by omega⟩ := by
  simp only [low_word, select_word]
  rw [sum_low, sum_high]
  have hl := l.isLt
  split
  · exact Finset.sum_congr rfl fun e _ => congrArg f (Fin.ext (by dsimp only; omega))
  · exact Finset.sum_congr rfl fun e _ => congrArg f (Fin.ext (by dsimp only; omega))

end Cert.Soft3

end
-- ==== Proof.CombineBwdValue.lean ====
/-
  The backward pass of the combination of the three attention groups: the kernel leaves the gradients of the groups' outputs,
  and the gradients of their log-sum-exps less each group's own inner product, as the chain rule of the reference gives them.
-/
module

public import proofs.«01_k».proof.Proof.Gen.CombineBwdIdeal.Frame
public import proofs.«01_k».proof.Proof.Gen.CombineBwdRefIdeal.Read
public import proofs.«01_k».proof.Proof.Gen.Pre_combine_finite
public import proofs.«01_k».proof.Defs
public import proofs.«01_k».proof.Proof.CombinePure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineBwdIdeal.Final

open Cert.CombineBwdIdeal Cert.CombineBwdIdeal.Gen Cert.CombineBwdRefIdeal.Read

variable (m : (ℓ : Loc nD τ sig) → Buf (Elt Ideal) ℓ)

/-- Every window's block at every point is the point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-! ## The reference's values -/

/-- The three log-sum-exps of a row's head. -/
def lse (x4 x5 x6 : FVec Ideal S16384x8 .f32) (r : Fin 16384) (h : Fin 8) : Fin 3 → EReal := ![(x4 (ix2 r h) : EReal), x5 (ix2 r h), x6 (ix2 r h)]

/-- The inner product of the gradient with a group's output over a head's lanes. -/
def inner (x0 x1 x2 x3 : FVec Ideal S16384x512 .f32) (r : Fin 16384) (h : Fin 8) (k : Fin 3) : EReal :=
  ∑ e : Fin 64, (x0 (ix2 r ⟨h.val * 64 + e.val, by omega⟩) : EReal)
    * (![(x1 (ix2 r ⟨h.val * 64 + e.val, by omega⟩) : EReal), x2 (ix2 r ⟨h.val * 64 + e.val, by omega⟩), x3 (ix2 r ⟨h.val * 64 + e.val, by omega⟩)] : Fin 3 → EReal) k

/-- The three log-sum-exps of a row's head, stacked. -/
theorem cat8 (x4 x5 x6 : FVec Ideal S16384x8 .f32) (r : Fin 16384) (h : Fin 8) (k : Fin 3) :
    (val_main_v8 (F := Ideal) x4 x5 x6 (ix3 r k h) : EReal) = lse x4 x5 x6 r h k := by
  unfold lse
  fin_cases k <;> pointwise [val_main_v5, val_main_v6, val_main_v7, val_main_v8]

/-- The three outputs at an index, stacked. -/
theorem cat3 (x1 x2 x3 : FVec Ideal S16384x512 .f32) (r : Fin 16384) (l : Fin 512) (k : Fin 3) :
    (val_main_v3 (F := Ideal) x1 x2 x3 (ix3 r k l) : EReal) = (![(x1 (ix2 r l) : EReal), x2 (ix2 r l), x3 (ix2 r l)] : Fin 3 → EReal) k := by
  fin_cases k <;> pointwise [val_main_v0, val_main_v1, val_main_v2, val_main_v3]

/-- The reference's maximum of the three. -/
theorem maxAt (x4 x5 x6 : FVec Ideal S16384x8 .f32) (r : Fin 16384) (h : Fin 8) (k : Fin 3) :
    (val_main_v27 (F := Ideal) x4 x5 x6 (ix3 r k h) : EReal) = Soft3.mx (lse x4 x5 x6 r h) := by
  rw [← Soft3.fold_mx, ← funext (cat8 x4 x5 x6 r h)]
  pointwise [val_main_cst, val_main_v9, val_main_v15, val_main_cst_1, val_main_v16, val_main_v26, val_main_v27]

/-- The reference's exponentials. -/
theorem exAt (x4 x5 x6 : FVec Ideal S16384x8 .f32) (r : Fin 16384) (h : Fin 8) (k : Fin 3) :
    (val_main_v29 (F := Ideal) x4 x5 x6 (ix3 r k h) : EReal) = Soft3.ex (lse x4 x5 x6 r h) k := by
  pointwise [val_main_v28, val_main_v29]
  rw [cat8, maxAt]
  rfl

/-- The reference's weights. -/
theorem wtAt (x4 x5 x6 : FVec Ideal S16384x8 .f32) (r : Fin 16384) (h : Fin 8) (k : Fin 3) :
    (val_main_v33 (F := Ideal) x4 x5 x6 (ix3 r k h) : EReal) = Soft3.wt (lse x4 x5 x6 r h) k := by
  pointwise [val_main_cst_7, val_main_v30, val_main_v31, val_main_v32, val_main_v33]
  simp only [exAt, Fin.sum_univ_three]
  rfl

/-- The reference's inner products. -/
theorem innerAt (x0 x1 x2 x3 : FVec Ideal S16384x512 .f32) (r : Fin 16384) (h : Fin 8) (k : Fin 3) :
    (val_main_v49 (F := Ideal) x0 x1 x2 x3 (ix3 r k h) : EReal) = inner x0 x1 x2 x3 r h k := by
  pointwise [val_main_v4, val_main_v42, val_main_v43, val_main_v46, val_main_cst_10, val_main_v47, val_main_v48, val_main_cst_11, val_main_v49]
  simp only [cat3, Fin.sum_univ_one]
  rfl

/-- The reference's gradient of a log-sum-exp. -/
theorem dlseAt (x0 x1 x2 x3 : FVec Ideal S16384x512 .f32) (x4 x5 x6 : FVec Ideal S16384x8 .f32) (r : Fin 16384) (h : Fin 8) (k : Fin 3) :
    let L := lse x4 x5 x6 r h
    let s := inner x0 x1 x2 x3 r h
    (val_main_v61 (F := Ideal) x0 x1 x2 x3 x4 x5 x6 (ix3 r k h) : EReal)
      = (Ideal.div (s k) (Soft3.ex L 0 + Soft3.ex L 1 + Soft3.ex L 2)
        + -(s 0 * Ideal.div 1 ((Soft3.ex L 0 + Soft3.ex L 1 + Soft3.ex L 2) * (Soft3.ex L 0 + Soft3.ex L 1 + Soft3.ex L 2)) * Soft3.ex L 0
          + s 1 * Ideal.div 1 ((Soft3.ex L 0 + Soft3.ex L 1 + Soft3.ex L 2) * (Soft3.ex L 0 + Soft3.ex L 1 + Soft3.ex L 2)) * Soft3.ex L 1
          + s 2 * Ideal.div 1 ((Soft3.ex L 0 + Soft3.ex L 1 + Soft3.ex L 2) * (Soft3.ex L 0 + Soft3.ex L 1 + Soft3.ex L 2)) * Soft3.ex L 2)) * Soft3.ex L k := by
  intro L s
  pointwise [val_main_v31, val_main_cst_7, val_main_v30, val_main_v34, val_main_v35, val_main_cst_8, val_main_v36, val_main_v50, val_main_v51, val_main_v52, val_main_cst_12, val_main_v53, val_main_v54, val_main_v55, val_main_v56, val_main_v57, val_main_cst_13, val_main_v58, val_main_v59, val_main_v60, val_main_v61]
  simp only [exAt, innerAt, Fin.sum_univ_three, Fin.sum_univ_one]
  rfl

/-- The head of a lane. -/
def hd (l : Fin 512) : Fin 8 := ⟨l.val / 64, by omega⟩

/-- A group's gradient of its log-sum-exp, less the group's own inner product, is for finite numbers the kernel's term. -/
theorem corr_ref {x0 x1 x2 x3 : FVec Ideal S16384x512 .f32} {x4 x5 x6 : FVec Ideal S16384x8 .f32}
    (h0 : ∀ i, ∃ r : ℝ, (x0 i : EReal) = (r : EReal)) (h1 : ∀ i, ∃ r : ℝ, (x1 i : EReal) = (r : EReal))
    (h2 : ∀ i, ∃ r : ℝ, (x2 i : EReal) = (r : EReal)) (h3 : ∀ i, ∃ r : ℝ, (x3 i : EReal) = (r : EReal))
    (h4 : ∀ i, ∃ r : ℝ, (x4 i : EReal) = (r : EReal)) (h5 : ∀ i, ∃ r : ℝ, (x5 i : EReal) = (r : EReal))
    (h6 : ∀ i, ∃ r : ℝ, (x6 i : EReal) = (r : EReal)) (r : Fin 16384) (h : Fin 8) (k : Fin 3) :
    (val_main_v61 (F := Ideal) x0 x1 x2 x3 x4 x5 x6 (ix3 r k h) : EReal)
        - ∑ e : Fin 64, Soft3.wt (lse x4 x5 x6 r h) k * (x0 (ix2 r ⟨h.val * 64 + e.val, by omega⟩) : EReal)
          * (![(x1 (ix2 r ⟨h.val * 64 + e.val, by omega⟩) : EReal), x2 (ix2 r ⟨h.val * 64 + e.val, by omega⟩), x3 (ix2 r ⟨h.val * 64 + e.val, by omega⟩)] : Fin 3 → EReal) k
      = Soft3.corr (lse x4 x5 x6 r h) (inner x0 x1 x2 x3 r h) k := by
  have hL : ∀ k, ∃ q : ℝ, lse x4 x5 x6 r h k = (q : EReal) := fun k => by
    fin_cases k
    exacts [h4 _, h5 _, h6 _]
  have hO : ∀ (k : Fin 3) (e : Fin 64), ∃ q : ℝ, (![(x1 (ix2 r ⟨h.val * 64 + e.val, by omega⟩) : EReal), x2 (ix2 r ⟨h.val * 64 + e.val, by omega⟩), x3 (ix2 r ⟨h.val * 64 + e.val, by omega⟩)] : Fin 3 → EReal) k = (q : EReal) := fun k e => by
    fin_cases k
    exacts [h1 _, h2 _, h3 _]
  have hS : ∀ k, ∃ q : ℝ, inner x0 x1 x2 x3 r h k = (q : EReal) := fun k => Soft3.sum_coe fun e => Silu.mul_coe (h0 _) (hO k e)
  refine (congrArg₂ (fun a b : EReal => a - b) (dlseAt x0 x1 x2 x3 x4 x5 x6 r h k) ?_).trans (Soft3.grad hL hS k)
  exact Soft3.factor (Soft3.wt_coe hL k) (fun e => h0 _) (hO k)

/-- The reference's gradient of the first group's output at an index. -/
theorem d84 (x0 : FVec Ideal S16384x512 .f32) (x4 x5 x6 : FVec Ideal S16384x8 .f32) (r : Fin 16384) (l : Fin 512) :
    (val_main_v84 (F := Ideal) x0 x4 x5 x6 (ix2 r l) : EReal) = Soft3.wt (lse x4 x5 x6 r (hd l)) 0 * x0 (ix2 r l) := by
  rw [← wtAt]
  pointwise [val_main_v37, val_main_v44, val_main_v45, val_main_v42, val_main_v43, val_main_v68, val_main_v69, val_main_v70, val_main_v84, hd]

/-- The same, of the second group. -/
theorem d85 (x0 : FVec Ideal S16384x512 .f32) (x4 x5 x6 : FVec Ideal S16384x8 .f32) (r : Fin 16384) (l : Fin 512) :
    (val_main_v85 (F := Ideal) x0 x4 x5 x6 (ix2 r l) : EReal) = Soft3.wt (lse x4 x5 x6 r (hd l)) 1 * x0 (ix2 r l) := by
  rw [← wtAt]
  pointwise [val_main_v37, val_main_v44, val_main_v45, val_main_v42, val_main_v43, val_main_v68, val_main_v71, val_main_v72, val_main_v85, hd]

/-- The same, of the third group. -/
theorem d86 (x0 : FVec Ideal S16384x512 .f32) (x4 x5 x6 : FVec Ideal S16384x8 .f32) (r : Fin 16384) (l : Fin 512) :
    (val_main_v86 (F := Ideal) x0 x4 x5 x6 (ix2 r l) : EReal) = Soft3.wt (lse x4 x5 x6 r (hd l)) 2 * x0 (ix2 r l) := by
  rw [← wtAt]
  pointwise [val_main_v37, val_main_v44, val_main_v45, val_main_v42, val_main_v43, val_main_v68, val_main_v73, val_main_v74, val_main_v86, hd]

/-- The reference's last three results at an index, written with the gradient of the head's log-sum-exp. -/
theorem c90 (x0 x1 x2 x3 : FVec Ideal S16384x512 .f32) (x4 x5 x6 : FVec Ideal S16384x8 .f32) (r : Fin 16384) (l : Fin 512) :
    (val_main_v90 (F := Ideal) x0 x1 x2 x3 x4 x5 x6 (ix2 r l) : EReal) = (val_main_v61 (F := Ideal) x0 x1 x2 x3 x4 x5 x6 (ix3 r 0 (hd l)) : EReal)
        - ∑ e : Fin 64, Soft3.wt (lse x4 x5 x6 r (hd l)) 0 * (x0 (ix2 r ⟨(hd l).val * 64 + e.val, by omega⟩) : EReal)
          * (x1 (ix2 r ⟨(hd l).val * 64 + e.val, by omega⟩) : EReal) := by
  simp only [← wtAt]
  pointwise [val_main_v37, val_main_v44, val_main_v45, val_main_v42, val_main_v43, val_main_v68, val_main_v69, val_main_v70, val_main_v75, val_main_v76, val_main_cst_14, val_main_v77, val_main_v62, val_main_v63, val_main_v87, val_main_v88, val_main_v89, val_main_v90, hd]
  have hh : ∀ x : Fin 64, (l.val / 64 * 64 + x.val) / 64 = l.val / 64 := fun x => by omega
  simp only [hh]

/-- The same, of the second group. -/
theorem c94 (x0 x1 x2 x3 : FVec Ideal S16384x512 .f32) (x4 x5 x6 : FVec Ideal S16384x8 .f32) (r : Fin 16384) (l : Fin 512) :
    (val_main_v94 (F := Ideal) x0 x1 x2 x3 x4 x5 x6 (ix2 r l) : EReal) = (val_main_v61 (F := Ideal) x0 x1 x2 x3 x4 x5 x6 (ix3 r 1 (hd l)) : EReal)
        - ∑ e : Fin 64, Soft3.wt (lse x4 x5 x6 r (hd l)) 1 * (x0 (ix2 r ⟨(hd l).val * 64 + e.val, by omega⟩) : EReal)
          * (x2 (ix2 r ⟨(hd l).val * 64 + e.val, by omega⟩) : EReal) := by
  simp only [← wtAt]
  pointwise [val_main_v37, val_main_v44, val_main_v45, val_main_v42, val_main_v43, val_main_v68, val_main_v71, val_main_v72, val_main_v78, val_main_v79, val_main_cst_15, val_main_v80, val_main_v64, val_main_v65, val_main_v91, val_main_v92, val_main_v93, val_main_v94, hd]
  have hh : ∀ x : Fin 64, (l.val / 64 * 64 + x.val) / 64 = l.val / 64 := fun x => by omega
  simp only [hh]

/-- The same, of the third group. -/
theorem c98 (x0 x1 x2 x3 : FVec Ideal S16384x512 .f32) (x4 x5 x6 : FVec Ideal S16384x8 .f32) (r : Fin 16384) (l : Fin 512) :
    (val_main_v98 (F := Ideal) x0 x1 x2 x3 x4 x5 x6 (ix2 r l) : EReal) = (val_main_v61 (F := Ideal) x0 x1 x2 x3 x4 x5 x6 (ix3 r 2 (hd l)) : EReal)
        - ∑ e : Fin 64, Soft3.wt (lse x4 x5 x6 r (hd l)) 2 * (x0 (ix2 r ⟨(hd l).val * 64 + e.val, by omega⟩) : EReal)
          * (x3 (ix2 r ⟨(hd l).val * 64 + e.val, by omega⟩) : EReal) := by
  simp only [← wtAt]
  pointwise [val_main_v37, val_main_v44, val_main_v45, val_main_v42, val_main_v43, val_main_v68, val_main_v73, val_main_v74, val_main_v81, val_main_v82, val_main_cst_16, val_main_v83, val_main_v66, val_main_v67, val_main_v95, val_main_v96, val_main_v97, val_main_v98, hd]
  have hh : ∀ x : Fin 64, (l.val / 64 * 64 + x.val) / 64 = l.val / 64 := fun x => by omega
  simp only [hh]

/-! ## The body's values -/

/-- A block's hundred and twenty-eight columns from a quarter on. -/
def sl0 (x : Vec Ideal S512x512 .f32) : Vec Ideal S512x128 .f32 := View.ld x r0_0
/-- The second quarter. -/
def sl1 (x : Vec Ideal S512x512 .f32) : Vec Ideal S512x128 .f32 := View.ld x r0_1
/-- The third quarter. -/
def sl2 (x : Vec Ideal S512x512 .f32) : Vec Ideal S512x128 .f32 := View.ld x r0_2
/-- The fourth quarter. -/
def sl3 (x : Vec Ideal S512x512 .f32) : Vec Ideal S512x128 .f32 := View.ld x r0_3

/-- The body's weight of a group over a quarter's lanes. -/
def wv (k : Fin 3) (a b c : FVec Ideal S512x128 .f32) : FVec Ideal S512x128 .f32 :=
  match k with
  | 0 => k0_pay14 (F := Ideal) a b c
  | 1 => k0_pay15 (F := Ideal) a b c
  | 2 => k0_pay16 (F := Ideal) a b c

/-- The body's weighted sum of the three inner products over a quarter's lanes. -/
def tot (x0 x1 x2 x3 x4 x5 x6 : FVec Ideal S512x128 .f32) : FVec Ideal S512x128 .f32 :=
  k0_pay18 (F := Ideal) k0_pay5 x0 (k0_pay15 x4 x5 x6) (k0_pay16 x4 x5 x6) (k0_pay17 x0 x4 x5 x6 x1) x2 x3

/-- The body's gradient of a group's output over a quarter's lanes. -/
def dv (s : FVec Ideal S512x512 .f32 → FVec Ideal S512x128 .f32) (k : Fin 3) (x0 x4 x5 x6 : FVec Ideal S512x512 .f32) : FVec Ideal S512x128 .bf16 :=
  truncf .bf16 (mulf (wv k (s x4) (s x5) (s x6)) (s x0)) bitsLt_bf16_f32

/-- The body's term of a group's log-sum-exp over a quarter's lanes. -/
def cv (s : FVec Ideal S512x512 .f32 → FVec Ideal S512x128 .f32) (k : Fin 3) (x0 x1 x2 x3 x4 x5 x6 : FVec Ideal S512x512 .f32) : FVec Ideal S512x128 .f32 :=
  mulf (subf (broadcast S512x128 (Scalar.ofBits .f32 0x00000000#32)) (wv k (s x4) (s x5) (s x6))) (tot (s x0) (s x1) (s x2) (s x3) (s x4) (s x5) (s x6))

/-- The body's weights at an index. -/
theorem wvAt (k : Fin 3) (a b c : FVec Ideal S512x128 .f32) (y : S512x128.Idx) :
    (wv k a b c y : EReal) = Soft3.wt ![(a y : EReal), b y, c y] k := by
  idx_vars y
  fin_cases k <;> (unfold wv; pointwise [k0_pay6, k0_pay7, k0_pay8, k0_pay9, k0_pay10, k0_pay11, k0_pay12, k0_pay13, k0_pay14, k0_pay15, k0_pay16]; rfl)

/-- The body's weighted sum at an index. -/
theorem totAt (x0 x1 x2 x3 x4 x5 x6 : FVec Ideal S512x128 .f32) (r : Fin 512) (l : Fin 128) :
    (tot x0 x1 x2 x3 x4 x5 x6 (ix2 r l) : EReal)
      = Soft3.wt ![(x4 (ix2 r l) : EReal), x5 (ix2 r l), x6 (ix2 r l)] 0 * (∑ e : Fin 64, (x0 (ix2 r ⟨l.val / 64 * 64 + e.val, by omega⟩) : EReal) * x1 (ix2 r ⟨l.val / 64 * 64 + e.val, by omega⟩))
      + Soft3.wt ![(x4 (ix2 r l) : EReal), x5 (ix2 r l), x6 (ix2 r l)] 1 * (∑ e : Fin 64, (x0 (ix2 r ⟨l.val / 64 * 64 + e.val, by omega⟩) : EReal) * x2 (ix2 r ⟨l.val / 64 * 64 + e.val, by omega⟩))
      + Soft3.wt ![(x4 (ix2 r l) : EReal), x5 (ix2 r l), x6 (ix2 r l)] 2 * (∑ e : Fin 64, (x0 (ix2 r ⟨l.val / 64 * 64 + e.val, by omega⟩) : EReal) * x3 (ix2 r ⟨l.val / 64 * 64 + e.val, by omega⟩)) := by
  rw [← wvAt 0 x4 x5 x6 (ix2 r l), ← wvAt 1 x4 x5 x6 (ix2 r l), ← wvAt 2 x4 x5 x6 (ix2 r l)]
  unfold wv
  pointwise [tot, k0_pay5, k0_pay17, k0_pay18]
  rw [Soft3.head_sum (fun x => (x0 (ix2 r x) : EReal) * x1 (ix2 r x)) l, Soft3.head_sum (fun x => (x0 (ix2 r x) : EReal) * x2 (ix2 r x)) l,
    Soft3.head_sum (fun x => (x0 (ix2 r x) : EReal) * x3 (ix2 r x)) l]

/-- What a block of rows holds of the gradient of a group's output at an index. -/
def dB (k : Fin 3) (x0 x4 x5 x6 : FVec Ideal S512x512 .f32) (y : S512x512.Idx) : EReal :=
  Soft3.wt ![(x4 y : EReal), x5 y, x6 y] k * x0 y

/-- What a block of rows holds of a group's log-sum-exp's term at an index. -/
def cB (k : Fin 3) (x0 x1 x2 x3 x4 x5 x6 : FVec Ideal S512x512 .f32) (y : S512x512.Idx) : EReal :=
  Soft3.corr ![(x4 y : EReal), x5 y, x6 y] (fun j => ∑ e : Fin 64,
    (x0 (ix2 (y 0) ⟨(y 1).val / 64 * 64 + e.val, by have := (y 1).isLt; change (y 1).val < 512 at this; omega⟩) : EReal)
      * (![(x1 (ix2 (y 0) ⟨(y 1).val / 64 * 64 + e.val, by have := (y 1).isLt; change (y 1).val < 512 at this; omega⟩) : EReal),
          x2 (ix2 (y 0) ⟨(y 1).val / 64 * 64 + e.val, by have := (y 1).isLt; change (y 1).val < 512 at this; omega⟩),
          x3 (ix2 (y 0) ⟨(y 1).val / 64 * 64 + e.val, by have := (y 1).isLt; change (y 1).val < 512 at this; omega⟩)] : Fin 3 → EReal) j) k

/-- A function that reads a block's quarter `p`. -/
def Quarter (s : FVec Ideal S512x512 .f32 → FVec Ideal S512x128 .f32) (p : Fin 4) : Prop :=
  ∀ (x : FVec Ideal S512x512 .f32) (r : Fin 512) (l : Fin 128), (s x (ix2 r l) : EReal) = x (ix2 r ⟨128 * p.val + l.val, by omega⟩)

/-- The four quarters. -/
theorem quarters : Quarter sl0 0 ∧ Quarter sl1 1 ∧ Quarter sl2 2 ∧ Quarter sl3 3 := by
  refine ⟨fun x r l => ?_, fun x r l => ?_, fun x r l => ?_, fun x r l => ?_⟩
  · pointwise [sl0]
  · pointwise [sl1]
  · pointwise [sl2]
  · pointwise [sl3]

/-- A quarter's gradient of a group's output is the block's. -/
theorem dvAt {s : FVec Ideal S512x512 .f32 → FVec Ideal S512x128 .f32} {p : Fin 4} (hs : Quarter s p) (k : Fin 3) (x0 x4 x5 x6 : FVec Ideal S512x512 .f32)
    (r : Fin 512) (l : Fin 128) (y : S512x512.Idx) (hy : y = ix2 r ⟨128 * p.val + l.val, by omega⟩) :
    (dv s k x0 x4 x5 x6 (ix2 r l) : EReal) = dB k x0 x4 x5 x6 y := by
  subst hy
  show (wv k (s x4) (s x5) (s x6) (ix2 r l) : EReal) * s x0 (ix2 r l) = _
  rw [wvAt, hs, hs, hs, hs]
  rfl

/-- A quarter's term of a group's log-sum-exp is the block's. -/
theorem cvAt {s : FVec Ideal S512x512 .f32 → FVec Ideal S512x128 .f32} {p : Fin 4} (hs : Quarter s p) (k : Fin 3) (x0 x1 x2 x3 x4 x5 x6 : FVec Ideal S512x512 .f32)
    (r : Fin 512) (l : Fin 128) (y : S512x512.Idx) (hy : y = ix2 r ⟨128 * p.val + l.val, by omega⟩) :
    (cv s k x0 x1 x2 x3 x4 x5 x6 (ix2 r l) : EReal) = cB k x0 x1 x2 x3 x4 x5 x6 y := by
  subst hy
  have hc : (cv s k x0 x1 x2 x3 x4 x5 x6 (ix2 r l) : EReal)
      = (0 - (wv k (s x4) (s x5) (s x6) (ix2 r l) : EReal)) * tot (s x0) (s x1) (s x2) (s x3) (s x4) (s x5) (s x6) (ix2 r l) := by
    pointwise [cv]
  have hq : ∀ e : Fin 64, 128 * p.val + (l.val / 64 * 64 + e.val) = (128 * p.val + l.val) / 64 * 64 + e.val := fun e => by omega
  rw [hc, wvAt, totAt]
  simp only [hs _ _ _, hq]
  rfl

/-- The body's first result is four quarters of the gradient of the first group's output. -/
theorem out7 (x0 x1 x2 x3 x4 x5 x6 : FVec Ideal S512x512 .f32) : out0_7 (F := Ideal) x0 x1 x2 x3 x4 x5 x6
    = View.canon [⟨r0_3, dv sl3 0 x0 x4 x5 x6⟩, ⟨r0_2, dv sl2 0 x0 x4 x5 x6⟩, ⟨r0_1, dv sl1 0 x0 x4 x5 x6⟩, ⟨r0_0, dv sl0 0 x0 x4 x5 x6⟩] := rfl

/-- The same, of the second group. -/
theorem out8 (x0 x1 x2 x3 x4 x5 x6 : FVec Ideal S512x512 .f32) : out0_8 (F := Ideal) x0 x1 x2 x3 x4 x5 x6
    = View.canon [⟨r0_3, dv sl3 1 x0 x4 x5 x6⟩, ⟨r0_2, dv sl2 1 x0 x4 x5 x6⟩, ⟨r0_1, dv sl1 1 x0 x4 x5 x6⟩, ⟨r0_0, dv sl0 1 x0 x4 x5 x6⟩] := rfl

/-- The same, of the third group. -/
theorem out9 (x0 x1 x2 x3 x4 x5 x6 : FVec Ideal S512x512 .f32) : out0_9 (F := Ideal) x0 x1 x2 x3 x4 x5 x6
    = View.canon [⟨r0_3, dv sl3 2 x0 x4 x5 x6⟩, ⟨r0_2, dv sl2 2 x0 x4 x5 x6⟩, ⟨r0_1, dv sl1 2 x0 x4 x5 x6⟩, ⟨r0_0, dv sl0 2 x0 x4 x5 x6⟩] := rfl

/-- The body's fourth result is four quarters of the first group's term. -/
theorem out10 (x0 x1 x2 x3 x4 x5 x6 : FVec Ideal S512x512 .f32) : out0_10 (F := Ideal) x0 x1 x2 x3 x4 x5 x6
    = View.canon [⟨r0_3, cv sl3 0 x0 x1 x2 x3 x4 x5 x6⟩, ⟨r0_2, cv sl2 0 x0 x1 x2 x3 x4 x5 x6⟩, ⟨r0_1, cv sl1 0 x0 x1 x2 x3 x4 x5 x6⟩, ⟨r0_0, cv sl0 0 x0 x1 x2 x3 x4 x5 x6⟩] := rfl

/-- The same, of the second group. -/
theorem out11 (x0 x1 x2 x3 x4 x5 x6 : FVec Ideal S512x512 .f32) : out0_11 (F := Ideal) x0 x1 x2 x3 x4 x5 x6
    = View.canon [⟨r0_3, cv sl3 1 x0 x1 x2 x3 x4 x5 x6⟩, ⟨r0_2, cv sl2 1 x0 x1 x2 x3 x4 x5 x6⟩, ⟨r0_1, cv sl1 1 x0 x1 x2 x3 x4 x5 x6⟩, ⟨r0_0, cv sl0 1 x0 x1 x2 x3 x4 x5 x6⟩] := rfl

/-- The same, of the third group. -/
theorem out12 (x0 x1 x2 x3 x4 x5 x6 : FVec Ideal S512x512 .f32) : out0_12 (F := Ideal) x0 x1 x2 x3 x4 x5 x6
    = View.canon [⟨r0_3, cv sl3 2 x0 x1 x2 x3 x4 x5 x6⟩, ⟨r0_2, cv sl2 2 x0 x1 x2 x3 x4 x5 x6⟩, ⟨r0_1, cv sl1 2 x0 x1 x2 x3 x4 x5 x6⟩, ⟨r0_0, cv sl0 2 x0 x1 x2 x3 x4 x5 x6⟩] := rfl

/-- Four quarters of the gradient of a group's output are the block's. -/
theorem dAll (k : Fin 3) (x0 x4 x5 x6 : FVec Ideal S512x512 .f32) (y : S512x512.Idx) :
    (View.canon (Val := Elt Ideal) (e := .bf16) [⟨r0_3, dv sl3 k x0 x4 x5 x6⟩, ⟨r0_2, dv sl2 k x0 x4 x5 x6⟩, ⟨r0_1, dv sl1 k x0 x4 x5 x6⟩, ⟨r0_0, dv sl0 k x0 x4 x5 x6⟩] y : EReal)
      = dB k x0 x4 x5 x6 y := by
  obtain ⟨q0, q1, q2, q3⟩ := quarters
  refine View.canon_apply_of_pieces (Val := Elt Ideal) (e := .bf16) (dB k x0 x4 x5 x6) _ ?_ y (cover0_7 (F := Ideal) _ _ _ _ y)
  intro p hp x
  simp only [List.mem_cons, List.not_mem_nil, or_false] at hp
  rcases hp with rfl | rfl | rfl | rfl
  · idx_vars x; exact dvAt q3 k _ _ _ _ _ _ _ (by blk_ext [])
  · idx_vars x; exact dvAt q2 k _ _ _ _ _ _ _ (by blk_ext [])
  · idx_vars x; exact dvAt q1 k _ _ _ _ _ _ _ (by blk_ext [])
  · idx_vars x; exact dvAt q0 k _ _ _ _ _ _ _ (by blk_ext [])

/-- Four quarters of a group's term are the block's. -/
theorem cAll (k : Fin 3) (x0 x1 x2 x3 x4 x5 x6 : FVec Ideal S512x512 .f32) (y : S512x512.Idx) :
    (View.canon (Val := Elt Ideal) (e := .f32) [⟨r0_3, cv sl3 k x0 x1 x2 x3 x4 x5 x6⟩, ⟨r0_2, cv sl2 k x0 x1 x2 x3 x4 x5 x6⟩, ⟨r0_1, cv sl1 k x0 x1 x2 x3 x4 x5 x6⟩, ⟨r0_0, cv sl0 k x0 x1 x2 x3 x4 x5 x6⟩] y : EReal)
      = cB k x0 x1 x2 x3 x4 x5 x6 y := by
  obtain ⟨q0, q1, q2, q3⟩ := quarters
  refine View.canon_apply_of_pieces (Val := Elt Ideal) (e := .f32) (cB k x0 x1 x2 x3 x4 x5 x6) _ ?_ y (cover0_10 (F := Ideal) _ _ _ _ y)
  intro p hp x
  simp only [List.mem_cons, List.not_mem_nil, or_false] at hp
  rcases hp with rfl | rfl | rfl | rfl
  · idx_vars x; exact cvAt q3 k _ _ _ _ _ _ _ _ _ _ (by blk_ext [])
  · idx_vars x; exact cvAt q2 k _ _ _ _ _ _ _ _ _ _ (by blk_ext [])
  · idx_vars x; exact cvAt q1 k _ _ _ _ _ _ _ _ _ _ (by blk_ext [])
  · idx_vars x; exact cvAt q0 k _ _ _ _ _ _ _ _ _ _ (by blk_ext [])

/-! ## The blocks a point reads -/

/-- The host's widened log-sum-exps: a column holds its head's number. -/
theorem wide_at (x : FVec Ideal S16384x8 .f32) (r : Fin 16384) (l : Fin 512) :
    (shapeCast S16384x512 (broadcastInDim S16384x8x64 ![0, 1, 2] bcast_S16384x8x1_S16384x8x64_0_1_2
      (broadcastInDim S16384x8x1 ![0, 1] bcast_S16384x8_S16384x8x1_0_1 x)) shapeCasts_S16384x8x64_S16384x512 (ix2 r l) : EReal)
      = x (ix2 r (hd l)) := by
  pointwise [hd]

/-- The region's last three arrays are the log-sum-exps, widened. -/
theorem V_lse (c : Dev nD) (r : Fin 16384) (l : Fin 512) :
    (V m c main_v2 (ix2 r l) : EReal) = m ((c : Thread nD τ).loc main_arg4) (ix2 r (hd l))
    ∧ (V m c main_v5 (ix2 r l) : EReal) = m ((c : Thread nD τ).loc main_arg5) (ix2 r (hd l))
    ∧ (V m c main_v8 (ix2 r l) : EReal) = m ((c : Thread nD τ).loc main_arg6) (ix2 r (hd l)) := by
  refine ⟨Eq.trans (congrFun (?_ : V m c main_v2 = _) _) (wide_at (m ((c : Thread nD τ).loc main_arg4)) r l),
    Eq.trans (congrFun (?_ : V m c main_v5 = _) _) (wide_at (m ((c : Thread nD τ).loc main_arg5)) r l),
    Eq.trans (congrFun (?_ : V m c main_v8 = _) _) (wide_at (m ((c : Thread nD τ).loc main_arg6)) r l)⟩
    <;> (show StableHlo.after hostOps0 (fun b => m (c, b)) _ = _; entry_read; rfl)

/-- An argument array is at the region's entry as launched. -/
theorem V_arg (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩ <;> (show StableHlo.after hostOps0 (fun b => m (c, b)) _ = _; entry_read; try rfl)

/-- The row of the arrays that a point's block holds as its row `y`. -/
def row (t : Fin cfg0.N) (y : Fin 512) : Fin 16384 := ⟨512 * t.val + y.val, by have := lt_of_lt_of_eq t.isLt N_0; omega⟩

/-- The four blocks of outputs and gradient that a point reads. -/
theorem blk_out (c : Dev nD) (t : Fin cfg0.N) (y : Fin 512) (l : Fin 512) :
    (iblk m c 0 t (ix2 y l) : EReal) = m ((c : Thread nD τ).loc main_arg0) (ix2 (row t y) l)
    ∧ (iblk m c 1 t (ix2 y l) : EReal) = m ((c : Thread nD τ).loc main_arg1) (ix2 (row t y) l)
    ∧ (iblk m c 2 t (ix2 y l) : EReal) = m ((c : Thread nD τ).loc main_arg2) (ix2 (row t y) l)
    ∧ (iblk m c 3 t (ix2 y l) : EReal) = m ((c : Thread nD τ).loc main_arg3) (ix2 (row t y) l) := by
  obtain ⟨a0, a1, a2, a3⟩ := V_arg m c
  rw [← a0, ← a1, ← a2, ← a3]
  refine ⟨?_, ?_, ?_, ?_⟩ <;> blk_point [iblk, idx t, row]

/-- The three blocks of log-sum-exps that a point reads. -/
theorem blk_lse (c : Dev nD) (t : Fin cfg0.N) (y : Fin 512) (l : Fin 512) :
    (iblk m c 4 t (ix2 y l) : EReal) = m ((c : Thread nD τ).loc main_arg4) (ix2 (row t y) (hd l))
    ∧ (iblk m c 5 t (ix2 y l) : EReal) = m ((c : Thread nD τ).loc main_arg5) (ix2 (row t y) (hd l))
    ∧ (iblk m c 6 t (ix2 y l) : EReal) = m ((c : Thread nD τ).loc main_arg6) (ix2 (row t y) (hd l)) := by
  obtain ⟨a0, a1, a2⟩ := V_lse m c (row t y) l
  rw [← a0, ← a1, ← a2]
  refine ⟨?_, ?_, ?_⟩ <;> blk_point [iblk, idx t, row]

/-- A point's gradient of a group's output, by the rows of the arrays. -/
theorem d_point (c : Dev nD) (t : Fin cfg0.N) (k : Fin 3) (y l : Fin 512) :
    dB k (iblk m c 0 t) (iblk m c 4 t) (iblk m c 5 t) (iblk m c 6 t) (ix2 y l)
      = Soft3.wt (lse (m ((c : Thread nD τ).loc main_arg4)) (m ((c : Thread nD τ).loc main_arg5)) (m ((c : Thread nD τ).loc main_arg6)) (row t y) (hd l)) k
        * m ((c : Thread nD τ).loc main_arg0) (ix2 (row t y) l) := by
  obtain ⟨a0, -⟩ := blk_out m c t y l
  obtain ⟨b0, b1, b2⟩ := blk_lse m c t y l
  unfold dB lse
  rw [← a0, ← b0, ← b1, ← b2]

/-- A point's term of a group's log-sum-exp, by the rows of the arrays. -/
theorem c_point (c : Dev nD) (t : Fin cfg0.N) (k : Fin 3) (y l : Fin 512) :
    cB k (iblk m c 0 t) (iblk m c 1 t) (iblk m c 2 t) (iblk m c 3 t) (iblk m c 4 t) (iblk m c 5 t) (iblk m c 6 t) (ix2 y l)
      = Soft3.corr (lse (m ((c : Thread nD τ).loc main_arg4)) (m ((c : Thread nD τ).loc main_arg5)) (m ((c : Thread nD τ).loc main_arg6)) (row t y) (hd l))
          (inner (m ((c : Thread nD τ).loc main_arg0)) (m ((c : Thread nD τ).loc main_arg1)) (m ((c : Thread nD τ).loc main_arg2)) (m ((c : Thread nD τ).loc main_arg3)) (row t y) (hd l)) k := by
  obtain ⟨b0, b1, b2⟩ := blk_lse m c t y l
  unfold cB lse
  rw [← b0, ← b1, ← b2]
  refine congrArg (fun s => Soft3.corr _ s k) (funext fun j => ?_)
  unfold inner
  refine Finset.sum_congr rfl fun e _ => ?_
  obtain ⟨a0, a1, a2, a3⟩ := blk_out m c t y ⟨(hd l).val * 64 + e.val, by omega⟩
  rw [← a0, ← a1, ← a2, ← a3]
  rfl

/-! ## The results -/

/-- After the run the first result array holds the gradient of the first group's output. -/
theorem final7 (c : Dev nD) : (dats m 0 c).arrAt 7 (cfgs 0).N
    = val_main_v84 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  idx_vars y
  refine (congrFun (out7 ..) _).trans ((dAll 0 _ _ _ _ _).trans ((d_point m c t 0 y0 y1).trans ?_))
  have hj : ((cfg0.win 7).blk t).view.emb (ix2 y0 y1) = ix2 (row t y0) y1 := by blk_ext [idx t, row]
  rw [hj, d84]

/-- The second, of the second group. -/
theorem final8 (c : Dev nD) : (dats m 0 c).arrAt 8 (cfgs 0).N
    = val_main_v85 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  idx_vars y
  refine (congrFun (out8 ..) _).trans ((dAll 1 _ _ _ _ _).trans ((d_point m c t 1 y0 y1).trans ?_))
  have hj : ((cfg0.win 8).blk t).view.emb (ix2 y0 y1) = ix2 (row t y0) y1 := by blk_ext [idx t, row]
  rw [hj, d85]

/-- The third, of the third group. -/
theorem final9 (c : Dev nD) : (dats m 0 c).arrAt 9 (cfgs 0).N
    = val_main_v86 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  idx_vars y
  refine (congrFun (out9 ..) _).trans ((dAll 2 _ _ _ _ _).trans ((d_point m c t 2 y0 y1).trans ?_))
  have hj : ((cfg0.win 9).blk t).view.emb (ix2 y0 y1) = ix2 (row t y0) y1 := by blk_ext [idx t, row]
  rw [hj, d86]

/-- The precondition, spelt out: every element of the seven arguments is a real number. -/
structure Finite (c : Dev nD) : Prop where
  r0 : ∀ i : S16384x512.Idx, ∃ r : ℝ, (m ((c : Thread nD τ).loc main_arg0) i : EReal) = (r : EReal)
  r1 : ∀ i : S16384x512.Idx, ∃ r : ℝ, (m ((c : Thread nD τ).loc main_arg1) i : EReal) = (r : EReal)
  r2 : ∀ i : S16384x512.Idx, ∃ r : ℝ, (m ((c : Thread nD τ).loc main_arg2) i : EReal) = (r : EReal)
  r3 : ∀ i : S16384x512.Idx, ∃ r : ℝ, (m ((c : Thread nD τ).loc main_arg3) i : EReal) = (r : EReal)
  r4 : ∀ i : S16384x8.Idx, ∃ r : ℝ, (m ((c : Thread nD τ).loc main_arg4) i : EReal) = (r : EReal)
  r5 : ∀ i : S16384x8.Idx, ∃ r : ℝ, (m ((c : Thread nD τ).loc main_arg5) i : EReal) = (r : EReal)
  r6 : ∀ i : S16384x8.Idx, ∃ r : ℝ, (m ((c : Thread nD τ).loc main_arg6) i : EReal) = (r : EReal)

/-- The stated precondition says that. -/
theorem finite [Cert.Pre_combine_finite.Facts] (h : Cert.Pre_CombineBwdIdeal_combine_finite m) (c : Dev nD) : Finite m c := by
  obtain ⟨p0, p1, p2, p3, p4, p5, p6⟩ := h c
  constructor
  · intro i; have := congrFun p0 i; simp only [Cert.Pre_combine_finite.fn] at this; pointwise at this
    exact Silu.real32 (x := fun _ => (m ((c : Thread nD τ).loc main_arg0)) i) this
  · intro i; have := congrFun p1 i; simp only [Cert.Pre_combine_finite.fn] at this; pointwise at this
    exact Silu.real32 (x := fun _ => (m ((c : Thread nD τ).loc main_arg1)) i) this
  · intro i; have := congrFun p2 i; simp only [Cert.Pre_combine_finite.fn] at this; pointwise at this
    exact Silu.real32 (x := fun _ => (m ((c : Thread nD τ).loc main_arg2)) i) this
  · intro i; have := congrFun p3 i; simp only [Cert.Pre_combine_finite.fn] at this; pointwise at this
    exact Silu.real32 (x := fun _ => (m ((c : Thread nD τ).loc main_arg3)) i) this
  · intro i; have := congrFun p4 i; simp only [Cert.Pre_combine_finite.fn] at this; pointwise at this
    exact Silu.real32 (x := fun _ => (m ((c : Thread nD τ).loc main_arg4)) i) this
  · intro i; have := congrFun p5 i; simp only [Cert.Pre_combine_finite.fn] at this; pointwise at this
    exact Silu.real32 (x := fun _ => (m ((c : Thread nD τ).loc main_arg5)) i) this
  · intro i; have := congrFun p6 i; simp only [Cert.Pre_combine_finite.fn] at this; pointwise at this
    exact Silu.real32 (x := fun _ => (m ((c : Thread nD τ).loc main_arg6)) i) this

/-- The fourth result array holds the gradient of the first group's log-sum-exp less the group's own inner product. -/
theorem final10 (c : Dev nD) (h : Finite m c) : (dats m 0 c).arrAt 10 (cfgs 0).N
    = val_main_v90 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  idx_vars y
  refine (congrFun (out10 ..) _).trans ((cAll 0 _ _ _ _ _ _ _ _).trans ((c_point m c t 0 y0 y1).trans ?_))
  have hj : ((cfg0.win 10).blk t).view.emb (ix2 y0 y1) = ix2 (row t y0) y1 := by blk_ext [idx t, row]
  rw [hj, c90]
  exact (corr_ref h.r0 h.r1 h.r2 h.r3 h.r4 h.r5 h.r6 (row t y0) (hd y1) 0).symm

/-- The fifth, of the second group. -/
theorem final11 (c : Dev nD) (h : Finite m c) : (dats m 0 c).arrAt 11 (cfgs 0).N
    = val_main_v94 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  idx_vars y
  refine (congrFun (out11 ..) _).trans ((cAll 1 _ _ _ _ _ _ _ _).trans ((c_point m c t 1 y0 y1).trans ?_))
  have hj : ((cfg0.win 11).blk t).view.emb (ix2 y0 y1) = ix2 (row t y0) y1 := by blk_ext [idx t, row]
  rw [hj, c94]
  exact (corr_ref h.r0 h.r1 h.r2 h.r3 h.r4 h.r5 h.r6 (row t y0) (hd y1) 1).symm

/-- The sixth, of the third group. -/
theorem final12 (c : Dev nD) (h : Finite m c) : (dats m 0 c).arrAt 12 (cfgs 0).N
    = val_main_v98 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  idx_vars y
  refine (congrFun (out12 ..) _).trans ((cAll 2 _ _ _ _ _ _ _ _).trans ((c_point m c t 2 y0 y1).trans ?_))
  have hj : ((cfg0.win 12).blk t).view.emb (ix2 y0 y1) = ix2 (row t y0) y1 := by blk_ext [idx t, row]
  rw [hj, c98]
  exact (corr_ref h.r0 h.r1 h.r2 h.r3 h.r4 h.r5 h.r6 (row t y0) (hd y1) 2).symm

end Cert.CombineBwdIdeal.Final

end
-- ==== Proof.CombineValue.lean ====
/-
  The combination of the three attention groups: the kernel leaves the sum of the groups' outputs, each times the softmax
  weight of its log-sum-exp among the three, as the reference defines it.
-/
module

public import proofs.«01_k».proof.Proof.Gen.CombineIdeal.Frame
public import proofs.«01_k».proof.Proof.Gen.CombineRefIdeal.Read
public import proofs.«01_k».proof.Proof.CombinePure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineIdeal.Final

open Cert.CombineIdeal Cert.CombineIdeal.Gen Cert.CombineRefIdeal.Read

variable (m : (ℓ : Loc nD τ sig) → Buf (Elt Ideal) ℓ)

/-- Every window's block at every point is the point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The three log-sum-exps of a row's head, stacked. -/
theorem cat8 (x3 x4 x5 : FVec Ideal S16384x8 .f32) (r : Fin 16384) (h : Fin 8) (k : Fin 3) :
    (val_main_v8 (F := Ideal) x3 x4 x5 (ix3 r k h) : EReal) = ![(x3 (ix2 r h) : EReal), x4 (ix2 r h), x5 (ix2 r h)] k := by
  fin_cases k <;> pointwise [val_main_v5, val_main_v6, val_main_v7, val_main_v8]

/-- The three outputs at an index, stacked. -/
theorem cat3 (x0 x1 x2 : FVec Ideal S16384x512 .f32) (r : Fin 16384) (l : Fin 512) (k : Fin 3) :
    (val_main_v3 (F := Ideal) x0 x1 x2 (ix3 r k l) : EReal) = ![(x0 (ix2 r l) : EReal), x1 (ix2 r l), x2 (ix2 r l)] k := by
  fin_cases k <;> pointwise [val_main_v0, val_main_v1, val_main_v2, val_main_v3]

/-- The reference's maximum of the three. -/
theorem maxAt (x3 x4 x5 : FVec Ideal S16384x8 .f32) (r : Fin 16384) (h : Fin 8) :
    (val_main_v11 (F := Ideal) x3 x4 x5 (ix2 r h) : EReal) = Soft3.mx ![(x3 (ix2 r h) : EReal), x4 (ix2 r h), x5 (ix2 r h)] := by
  rw [← Soft3.fold_mx, ← funext (cat8 x3 x4 x5 r h)]
  pointwise [val_main_v9, val_main_v10, val_main_cst, val_main_cst_0, val_main_v11]

/-- The weighted sum of three numbers. -/
def comb (L O : Fin 3 → EReal) : EReal := Soft3.wt L 0 * O 0 + Soft3.wt L 1 * O 1 + Soft3.wt L 2 * O 2

/-- The reference's result at an index: the head of column `l` is `l / 64`. -/
theorem refAt (x0 x1 x2 : FVec Ideal S16384x512 .f32) (x3 x4 x5 : FVec Ideal S16384x8 .f32) (r : Fin 16384) (l : Fin 512) :
    (val_main_v25 (F := Ideal) x0 x1 x2 x3 x4 x5 (ix2 r l) : EReal)
      = comb ![(x3 (ix2 r ⟨l.val / 64, by omega⟩) : EReal), x4 (ix2 r ⟨l.val / 64, by omega⟩), x5 (ix2 r ⟨l.val / 64, by omega⟩)]
          ![(x0 (ix2 r l) : EReal), x1 (ix2 r l), x2 (ix2 r l)] := by
  pointwise [val_main_v12, val_main_v13, val_main_v14, val_main_v15, val_main_cst_1, val_main_v16, val_main_v17, val_main_v18, val_main_v19, val_main_v20, val_main_v21, val_main_v22, val_main_cst_2, val_main_v23, val_main_v24, val_main_v25, val_main_v4]
  simp only [cat8, cat3, maxAt, Fin.sum_univ_three]
  rfl

/-- The body's value at an index of its block. -/
theorem payAt (a b c d e f : FVec Ideal S512x512 .f32) (y : S512x512.Idx) :
    (k0_pay1 (F := Ideal) a b c d e f y : EReal) = comb ![(a y : EReal), b y, c y] ![(d y : EReal), e y, f y] := by
  idx_vars y
  pointwise [k0_pay1]
  rfl

/-- The host's widened log-sum-exps: a column holds its head's number. -/
theorem wide_at (x : FVec Ideal S16384x8 .f32) (r : Fin 16384) (l : Fin 512) :
    (shapeCast S16384x512 (broadcastInDim S16384x8x64 ![0, 1, 2] bcast_S16384x8x1_S16384x8x64_0_1_2
      (broadcastInDim S16384x8x1 ![0, 1] bcast_S16384x8_S16384x8x1_0_1 x)) shapeCasts_S16384x8x64_S16384x512 (ix2 r l) : EReal)
      = x (ix2 r ⟨l.val / 64, by omega⟩) := by
  pointwise

/-- The region's fourth array is the first group's log-sum-exps, widened. -/
theorem V_2 (c : Dev nD) (r : Fin 16384) (l : Fin 512) :
    (V m c main_v2 (ix2 r l) : EReal) = m ((c : Thread nD τ).loc main_arg3) (ix2 r ⟨l.val / 64, by omega⟩) := by
  refine Eq.trans (congrFun (?_ : V m c main_v2 = _) _) (wide_at (m ((c : Thread nD τ).loc main_arg3)) r l)
  show StableHlo.after hostOps0 (fun b => m (c, b)) _ = _
  entry_read
  rfl

/-- The region's fifth array is the second group's log-sum-exps, widened. -/
theorem V_5 (c : Dev nD) (r : Fin 16384) (l : Fin 512) :
    (V m c main_v5 (ix2 r l) : EReal) = m ((c : Thread nD τ).loc main_arg4) (ix2 r ⟨l.val / 64, by omega⟩) := by
  refine Eq.trans (congrFun (?_ : V m c main_v5 = _) _) (wide_at (m ((c : Thread nD τ).loc main_arg4)) r l)
  show StableHlo.after hostOps0 (fun b => m (c, b)) _ = _
  entry_read
  rfl

/-- The region's sixth array is the third group's log-sum-exps, widened. -/
theorem V_8 (c : Dev nD) (r : Fin 16384) (l : Fin 512) :
    (V m c main_v8 (ix2 r l) : EReal) = m ((c : Thread nD τ).loc main_arg5) (ix2 r ⟨l.val / 64, by omega⟩) := by
  refine Eq.trans (congrFun (?_ : V m c main_v8 = _) _) (wide_at (m ((c : Thread nD τ).loc main_arg5)) r l)
  show StableHlo.after hostOps0 (fun b => m (c, b)) _ = _
  entry_read
  rfl

/-- An argument array is at the region's entry as launched. -/
theorem V_arg (c : Dev nD) : V m c main_arg0 = m ((c : Thread nD τ).loc main_arg0)
    ∧ V m c main_arg1 = m ((c : Thread nD τ).loc main_arg1) ∧ V m c main_arg2 = m ((c : Thread nD τ).loc main_arg2) := by
  refine ⟨?_, ?_, ?_⟩ <;> (show StableHlo.after hostOps0 (fun b => m (c, b)) _ = _; entry_read; try rfl)

/-- After the run the result array holds the reference's result. -/
theorem final6 (c : Dev nD) : (dats m 0 c).arrAt 6 (cfgs 0).N
    = val_main_v25 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 32 := lt_of_lt_of_eq t.isLt N_0
  blk_simp
  rw [after0_6]
  frame_out
  refine (payAt _ _ _ _ _ _ y).trans ?_
  obtain_idx j : S16384x512 := [512 * t.val + (y 0).val, (y 1).val] with hj
  have hj' : ((cfg0.win 6).blk t).view.emb y = j := by blk_ext [idx t]
  rw [hj']
  idx_vars j
  idx_vars y
  rw [refAt]
  have hl : j1.val < 512 := j1.isLt
  obtain ⟨a0, a1, a2⟩ := V_arg m c
  have e0 : (iblk m c 0 t (ix2 y0 y1) : EReal) = m ((c : Thread nD τ).loc main_arg0) (ix2 j0 j1) := by
    rw [← a0]; blk_point [iblk, idx t]
  have e1 : (iblk m c 1 t (ix2 y0 y1) : EReal) = m ((c : Thread nD τ).loc main_arg1) (ix2 j0 j1) := by
    rw [← a1]; blk_point [iblk, idx t]
  have e2 : (iblk m c 2 t (ix2 y0 y1) : EReal) = m ((c : Thread nD τ).loc main_arg2) (ix2 j0 j1) := by
    rw [← a2]; blk_point [iblk, idx t]
  have e3 : (iblk m c 3 t (ix2 y0 y1) : EReal) = m ((c : Thread nD τ).loc main_arg3) (ix2 j0 ⟨j1.val / 64, by omega⟩) := by
    rw [← V_2 m c]; blk_point [iblk, idx t]
  have e4 : (iblk m c 4 t (ix2 y0 y1) : EReal) = m ((c : Thread nD τ).loc main_arg4) (ix2 j0 ⟨j1.val / 64, by omega⟩) := by
    rw [← V_5 m c]; blk_point [iblk, idx t]
  have e5 : (iblk m c 5 t (ix2 y0 y1) : EReal) = m ((c : Thread nD τ).loc main_arg5) (ix2 j0 ⟨j1.val / 64, by omega⟩) := by
    rw [← V_8 m c]; blk_point [iblk, idx t]
  rw [← e0, ← e1, ← e2, ← e3, ← e4, ← e5]

end Cert.CombineIdeal.Final

end
-- ==== Proof.ConvBwdInValue.lean ====
/-
  The gradient of what the causal convolution is given: the kernel leaves in every row the four taps times the rows
  of the incoming gradient at that row and the three after it, as the reference's gradient does.
-/
module

public import proofs.«01_k».proof.Proof.Gen.ConvBwdInIdeal.Frame
public import proofs.«01_k».proof.Proof.Gen.ConvBwdInRefIdeal.Read
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.WordCmp
public import Idealize.ShloMosaic.Lib.Writes
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdInIdeal.Final

open Cert.ConvBwdInIdeal Cert.ConvBwdInIdeal.Gen Cert.ConvBwdInRefIdeal.Read

variable (m : (ℓ : Loc nD τ sig) → Buf (Elt Ideal) ℓ)

/-- Every window's block index at every point, and the row tile the body is told: column block t / 32, row tile t % 32. -/
theorem idx : ∀ t : Fin cfg0.N, win0_0.index t = ![t.val % 32, t.val / 32]
    ∧ win0_1.index t = ![min ((t.val % 32 + 1) * 64) 2047, t.val / 32] ∧ win0_2.index t = ![0, t.val / 32]
    ∧ win0_3.index t = ![t.val % 32, t.val / 32] ∧ ((grid0.coords t) 1).val = t.val % 32 :=
  (by decide +kernel : ∀ t : Fin grid0.N, _)

/-- A row of the gradient, zero after the last. -/
def nth (x : FVec Ideal S16384x2048 .f32) (r : ℕ) (l : Fin 2048) : EReal := if h : r < 16384 then x (ix2 ⟨r, h⟩ l) else 0

/-- The gradient of a row, from the gradient's rows after it (`n`) and the taps. -/
def grad (n : ℕ → EReal) (w : Fin 4 → EReal) : EReal := w 3 * n 0 + w 0 * n 3 + w 1 * n 2 + w 2 * n 1

/-- The reference pads each tap's product: the rows that the tap does not reach are zero. -/
theorem padAt (lo hi : ℕ) (x : FVec Ideal Cert.ConvBwdInRefIdeal.S16384x2048 .f32) (v : FVec Ideal Cert.ConvBwdInRefIdeal.S_ .f32)
    (hv : ∀ i, v i = (0 : EReal)) (hp) (hu) (r : Fin 16387) (l : Fin 2048) (hlo : lo ≤ 3) (hr : 3 ≤ r.val) :
    (pad Cert.ConvBwdInRefIdeal.S16387x2048 ![lo, 0] ![hi, 0] ![0, 0] x v hp hu (ix2 r l) : EReal) = nth x (r.val - lo) l := by
  unfold nth
  split
  next h =>
    exact pad_apply_of_inside _ _ _ x v hp hu _ (ix2 ⟨r.val - lo, h⟩ l) (Fin.forall_fin_two.mpr ⟨by
      show r.val = lo + (r.val - lo) * 1; omega, by show l.val = 0 + l.val * 1; omega⟩)
  next h =>
    refine (pad_apply_of_not_inside _ _ _ x v hp hu _ (0 : Fin 2) ?_).trans (hv _)
    rintro ⟨h1, -, h3⟩
    change (r.val - lo) / 1 < 16384 at h3
    omega

/-- A tap's product in a row is the row's number times the tap, and zero after the last row. -/
theorem nth_mul (x y : FVec Ideal S16384x2048 .f32) (a : EReal) (r : ℕ) (l : Fin 2048)
    (h : ∀ r' : Fin 16384, (y (ix2 r' l) : EReal) = x (ix2 r' l) * a) : nth y r l = a * nth x r l := by
  unfold nth
  split
  · rw [h, mul_comm]
  · rw [mul_zero]

/-- The reference's result at an index. -/
theorem refAt (x0 : FVec Ideal S16384x2048 .f32) (x1 : FVec Ideal S4x2048 .f32) (r : Fin 16384) (l : Fin 2048) :
    (val_main_v56 (F := Ideal) x0 x1 (ix2 r l) : EReal) = grad (fun k => nth x0 (r.val + k) l) (fun k => x1 (ix2 k l)) := by
  have hl : l.val < 2048 := l.isLt
  have z4 : ∀ i, (val_main_cst_4 (F := Ideal) i : EReal) = 0 := fun i => by pointwise [val_main_cst_4]
  have z5 : ∀ i, (val_main_cst_5 (F := Ideal) i : EReal) = 0 := fun i => by pointwise [val_main_cst_5]
  have z6 : ∀ i, (val_main_cst_6 (F := Ideal) i : EReal) = 0 := fun i => by pointwise [val_main_cst_6]
  have z7 : ∀ i, (val_main_cst_7 (F := Ideal) i : EReal) = 0 := fun i => by pointwise [val_main_cst_7]
  have e40 : ∀ r' : Fin 16384, (val_main_v40 (F := Ideal) x0 x1 (ix2 r' l) : EReal) = x0 (ix2 r' l) * x1 (ix2 3 l) := fun r' => by
    pointwise [val_main_v40, val_main_v38, val_main_v39, val_main_v30, val_main_v29, val_main_v28]
  have e43 : ∀ r' : Fin 16384, (val_main_v43 (F := Ideal) x0 x1 (ix2 r' l) : EReal) = x0 (ix2 r' l) * x1 (ix2 2 l) := fun r' => by
    pointwise [val_main_v43, val_main_v37, val_main_v42, val_main_v23, val_main_v22, val_main_v21]
  have e47 : ∀ r' : Fin 16384, (val_main_v47 (F := Ideal) x0 x1 (ix2 r' l) : EReal) = x0 (ix2 r' l) * x1 (ix2 1 l) := fun r' => by
    pointwise [val_main_v47, val_main_v37, val_main_v46, val_main_v16, val_main_v15, val_main_v14]
  have e51 : ∀ r' : Fin 16384, (val_main_v51 (F := Ideal) x0 x1 (ix2 r' l) : EReal) = x0 (ix2 r' l) * x1 (ix2 0 l) := fun r' => by
    pointwise [val_main_v51, val_main_v37, val_main_v50, val_main_v8, val_main_v7, val_main_v6]
  have key : (val_main_v53 (F := Ideal) x0 x1 (ix2 (⟨3 + r.val, by omega⟩ : Fin 16387) l) : EReal)
      = grad (fun k => nth x0 (r.val + k) l) (fun k => x1 (ix2 k l)) := by
    rw [val_main_v53_apply, val_main_v49_apply, val_main_v45_apply]
    unfold val_main_v41 val_main_v44 val_main_v48 val_main_v52 grad
    refine (congr (congrArg HAdd.hAdd (congr (congrArg HAdd.hAdd (congr (congrArg HAdd.hAdd
      ((padAt 3 0 _ _ z4 _ _ _ l (by omega) (by dsimp only; omega)).trans (nth_mul x0 _ _ _ l e40)))
      ((padAt 2 1 _ _ z5 _ _ _ l (by omega) (by dsimp only; omega)).trans (nth_mul x0 _ _ _ l e43))))
      ((padAt 1 2 _ _ z6 _ _ _ l (by omega) (by dsimp only; omega)).trans (nth_mul x0 _ _ _ l e47))))
      ((padAt 0 3 _ _ z7 _ _ _ l (by omega) (by dsimp only; omega)).trans (nth_mul x0 _ _ _ l e51))).trans ?_
    dsimp only
    rw [show 3 + r.val - 3 = r.val + 0 by omega, show 3 + r.val - 2 = r.val + 1 by omega, show 3 + r.val - 1 = r.val + 2 by omega,
      show 3 + r.val - 0 = r.val + 3 by omega]
    ac_rfl
  refine Eq.trans ?_ key
  pointwise [val_main_v56, val_main_v55]

/-- The rows a tile's body reads: its own 512 and the 8 after them, which are zero after the last tile. -/
def ext (last : Prop) [Decidable last] (x0 : Vec Ideal S512x512 .f32) (x1 : Vec Ideal S8x512 .f32) (r : ℕ) (l : Fin 512) : EReal :=
  if h : r < 512 then x0 (ix2 ⟨r, h⟩ l) else if last then 0 else if h : r - 512 < 8 then x1 (ix2 ⟨r - 512, h⟩ l) else 0

/-- What the body computes of a tile at an index of its block. -/
def tile (last : Prop) [Decidable last] (x0 : Vec Ideal S512x512 .f32) (x1 : Vec Ideal S8x512 .f32) (x2 : Vec Ideal S4x512 .f32)
    (y : S512x512.Idx) : EReal :=
  grad (fun k => ext last x0 x1 ((y 0).val + k) (y 1)) (fun k => x2 (ix2 k (y 1)))

/-- The body's product of 32 rows, from the taps and the rows at the four offsets. -/
theorem payAt (w0 w1 w2 w3 : Vec Ideal S1x512 .f32) (n0 n3 n2 n1 : Vec Ideal S32x512 .f32) (p : Fin 32) (q : Fin 512) :
    (k0_pay6 (F := Ideal) w0 w1 w2 w3 n0 n3 n2 n1 (ix2 p q) : EReal)
      = w3 (ix2 0 q) * n0 (ix2 p q) + w0 (ix2 0 q) * n3 (ix2 p q) + w1 (ix2 0 q) * n2 (ix2 p q) + w2 (ix2 0 q) * n1 (ix2 p q) := by
  pointwise [k0_pay6]

section run

variable (c : Dev nD) (i : grid0.Coords) (a2 : Memref sig .tc .vmem S512x512 .f32) (h2 : a2.IsWhole) (a3 : Memref sig .tc .vmem S8x512 .f32) (h3 : a3.IsWhole)
  (a4 : Memref sig .tc .vmem S4x512 .f32) (h4 : a4.IsWhole) (a5 : Memref sig .tc .vmem S512x512 .bf16) (h5 : a5.IsWhole)
  (a6 : Memref sig .tc .vmem S520x512 .f32) (h6 : a6.IsWhole)
  (x0 : Vec Ideal S512x512 .f32) (x1 : Vec Ideal S8x512 .f32) (x2 : Vec Ideal S4x512 .f32)

/-- Rows o, …, o + 31 lie in a block of 512 rows. -/
theorem in512 (o : ℕ) (h : o + 32 ≤ 512) : ∀ a : Fin 2, (![o, 0] : Fin 2 → ℕ) a + S32x512.size a ≤ S512x512.size a :=
  Fin.forall_fin_two.mpr ⟨h, le_refl 512⟩

/-- Rows o, …, o + 31 lie in the scratch. -/
theorem in520 (o : ℕ) (h : o + 32 ≤ 520) : ∀ a : Fin 2, (![o, 0] : Fin 2 → ℕ) a + S32x512.size a ≤ S520x512.size a :=
  Fin.forall_fin_two.mpr ⟨h, le_refl 512⟩

/-- The rows after the tile that the body stores are the next tile's first eight, or zero after the last. -/
theorem nextAt (p : S8x512.Idx) :
    (k0_pay3 (F := Ideal) i (View.readAt (Elt Ideal) a3.view (Rect.unit (s := S8x512) ![0, 0] ![8, 512] inb_S8x512_S8x512_0_0).toLoadRect (h3.unread x1)) p : EReal)
      = ext ((i 1).val = 31) x0 x1 (((Rect.unit (s := S520x512) ![512, 0] ![8, 512] inb_S520x512_S8x512_512_0).emb p) 0).val
          (((Rect.unit (s := S520x512) ![512, 0] ![8, 512] inb_S520x512_S8x512_512_0).emb p) 1) := by
  rw [View.readAt_eq_ld, Memref.IsWhole.read_unread]
  have hb : Scalar.cmpi .slt (BitVec.ofNat 32 (i 1).val) 31#32 = if (i 1).val = 31 then 0#1 else 1#1 :=
    (by decide : ∀ n : Fin 32, Scalar.cmpi .slt (BitVec.ofNat 32 n.val) 31#32 = if n.val = 31 then 0#1 else 1#1) (i 1)
  idx_vars p
  have h8 : p0.val < 8 := p0.isLt
  have e1 : ((Rect.unit (s := S520x512) ![512, 0] ![8, 512] inb_S520x512_S8x512_512_0).emb (ix2 p0 p1)) 1 = p1 := Fin.ext (by show 0 + 1 * p1.val = _; omega)
  have e0 : (((Rect.unit (s := S520x512) ![512, 0] ![8, 512] inb_S520x512_S8x512_512_0).emb (ix2 p0 p1)) 0).val = 512 + p0.val := by
    show 512 + 1 * p0.val = _; omega
  rw [e1, e0]
  unfold ext k0_pay3
  rw [dif_neg (by omega), hb]
  by_cases hi : (i 1).val = 31
  · rw [if_pos hi, if_pos hi]
    pointwise
  · rw [if_neg hi, if_neg hi, dif_pos (by omega)]
    pointwise

/-- The rows of the tile that the body stores are the tile's. -/
theorem ownAt (p : S512x512.Idx) :
    (k0_pay2 (F := Ideal) (View.readAt (Elt Ideal) a2.view (Rect.unit (s := S512x512) ![0, 0] ![512, 512] inb_S512x512_S512x512_0_0).toLoadRect (h2.unread x0)) p : EReal)
      = ext ((i 1).val = 31) x0 x1 (((Rect.unit (s := S520x512) ![0, 0] ![512, 512] inb_S520x512_S512x512_0_0).emb p) 0).val
          (((Rect.unit (s := S520x512) ![0, 0] ![512, 512] inb_S520x512_S512x512_0_0).emb p) 1) := by
  rw [View.readAt_eq_ld, Memref.IsWhole.read_unread]
  idx_vars p
  have h8 : p0.val < 512 := p0.isLt
  have e1 : ((Rect.unit (s := S520x512) ![0, 0] ![512, 512] inb_S520x512_S512x512_0_0).emb (ix2 p0 p1)) 1 = p1 := Fin.ext (by show 0 + 1 * p1.val = _; omega)
  have e0 : (((Rect.unit (s := S520x512) ![0, 0] ![512, 512] inb_S520x512_S512x512_0_0).emb (ix2 p0 p1)) 0).val = p0.val := by
    show 0 + 1 * p0.val = _; omega
  rw [e1, e0]
  unfold ext
  rw [dif_pos h8]
  pointwise [k0_pay2]

/-- A load of 32 rows of the scratch reads the rows the body put there. -/
theorem loadAt (o : ℕ) (h : o + 32 ≤ 520) (p : Fin 32) (q : Fin 512) :
    (a6.view.readCov (kernelRun0_A.sl.HS0_2 (F := Ideal) c i a2 h2 a3 h3 x0 x1)
      (Rect.unit (s := S520x512) ![o, 0] S32x512.size (in520 o h)).toLoadRect (ix2 p q) : EReal) = ext ((i 1).val = 31) x0 x1 (o + p.val) q := by
  unfold View.readCov
  rw [View.readAt_apply]
  obtain_idx z : S520x512 := [o + p.val, q.val] with hz
  have e : (Rect.unit (s := S520x512) ![o, 0] S32x512.size (in520 o h)).toLoadRect.idx (ix2 p q) = z :=
    funext (Fin.forall_fin_two.mpr ⟨Fin.ext (by rw [hz0]; show o + 1 * p.val = _; omega), Fin.ext (by rw [hz1]; show 0 + 1 * q.val = _; omega)⟩)
  rw [e]
  refine (View.read_writes_apply_of_pieces (Val := Elt Ideal) (e := .f32) _ _ (fun y => ext ((i 1).val = 31) x0 x1 (y 0).val (y 1)) _ ?_ z ?_).trans ?_
  · intro pc hp x
    dsimp only [kernelRun0_A.sl.HS0_2] at hp
    simp only [List.mem_cons, List.not_mem_nil, or_false] at hp
    rcases hp with rfl | rfl
    · exact nextAt i a3 h3 x0 x1 x
    · exact ownAt i a2 h2 x0 x1 x
  · have hz : (z 0).val < 520 := (z 0).isLt
    have hz' : (z 1).val < 512 := (z 1).isLt
    unfold kernelRun0_A.sl.HS0_2
    by_cases hr : (z 0).val < 512
    · refine ⟨_, List.mem_cons_of_mem _ (List.mem_cons_self ..), ?_⟩
      exact (Rect.mem_set_unit (inb := inb_S520x512_S512x512_0_0)).mpr (Fin.forall_fin_two.mpr ⟨⟨Nat.zero_le _, by show _ < 0 + 512; omega⟩, ⟨Nat.zero_le _, by show _ < 0 + 512; omega⟩⟩)
    · refine ⟨_, List.mem_cons_self .., ?_⟩
      exact (Rect.mem_set_unit (inb := inb_S520x512_S8x512_512_0)).mpr (Fin.forall_fin_two.mpr ⟨⟨by show 512 ≤ _; omega, by show _ < 512 + 8; omega⟩, ⟨Nat.zero_le _, by show _ < 0 + 512; omega⟩⟩)
  · dsimp only
    rw [hz0]
    exact congrArg (ext _ _ _ _) (Fin.ext hz1)

/-- A load of a tap reads its row. -/
theorem tapAt (o : ℕ) (inb) (ho : o < 4) (q : Fin 512) :
    (View.readAt (Elt Ideal) a4.view (Rect.unit (s := S4x512) ![o, 0] S1x512.size inb).toLoadRect (h4.unread x2) (ix2 0 q) : EReal)
      = x2 (ix2 ⟨o, ho⟩ q) := by
  rw [View.readAt_eq_ld, Memref.IsWhole.read_unread]
  refine congrArg x2 (funext (Fin.forall_fin_two.mpr ⟨Fin.ext ?_, Fin.ext ?_⟩))
  · show o + 1 * 0 = o
    omega
  · show 0 + 1 * q.val = q.val
    omega

/-- The body's 32 rows from row o on are the tile's. -/
theorem pieceAt (o : ℕ) (h : o + 32 ≤ 512) (p : S32x512.Idx) :
    (k0_pay6 (F := Ideal) (kernelRun0_A.sl.r c a4 h4 x2) (kernelRun0_A.sl.r_1 c a4 h4 x2) (kernelRun0_A.sl.r_2 c a4 h4 x2) (kernelRun0_A.sl.r_3 c a4 h4 x2)
      (a6.view.readCov (kernelRun0_A.sl.HS0_2 (F := Ideal) c i a2 h2 a3 h3 x0 x1) (Rect.unit (s := S520x512) ![o, 0] S32x512.size (in520 o (by omega))).toLoadRect)
      (a6.view.readCov (kernelRun0_A.sl.HS0_2 (F := Ideal) c i a2 h2 a3 h3 x0 x1) (Rect.unit (s := S520x512) ![o + 3, 0] S32x512.size (in520 (o + 3) (by omega))).toLoadRect)
      (a6.view.readCov (kernelRun0_A.sl.HS0_2 (F := Ideal) c i a2 h2 a3 h3 x0 x1) (Rect.unit (s := S520x512) ![o + 2, 0] S32x512.size (in520 (o + 2) (by omega))).toLoadRect)
      (a6.view.readCov (kernelRun0_A.sl.HS0_2 (F := Ideal) c i a2 h2 a3 h3 x0 x1) (Rect.unit (s := S520x512) ![o + 1, 0] S32x512.size (in520 (o + 1) (by omega))).toLoadRect) p : EReal)
      = tile ((i 1).val = 31) x0 x1 x2 ((Rect.unit (s := S512x512) ![o, 0] S32x512.size (in512 o h)).emb p) := by
  have hp0' : (p 0).val < 32 := (p 0).isLt
  have hp1' : (p 1).val < 512 := (p 1).isLt
  obtain_idx z : S512x512 := [o + (p 0).val, (p 1).val] with hz
  have e : (Rect.unit (s := S512x512) ![o, 0] S32x512.size (in512 o h)).emb p = z := by blk_ext []
  rw [e]
  idx_vars z
  idx_vars p
  obtain rfl : z1 = p1 := Fin.ext hz1
  have hv : z0.val = o + p0.val := hz0
  have hk : ∀ k : ℕ, ext ((i 1).val = 31) x0 x1 (o + k + p0.val) z1 = ext ((i 1).val = 31) x0 x1 (z0.val + k) z1 :=
    fun k => congrArg (ext _ x0 x1 · z1) (by omega)
  have hk0 : ext ((i 1).val = 31) x0 x1 (o + p0.val) z1 = ext ((i 1).val = 31) x0 x1 (z0.val + 0) z1 :=
    congrArg (ext _ x0 x1 · z1) (by omega)
  refine (payAt _ _ _ _ _ _ _ _ _ _).trans ?_
  rw [loadAt c i a2 h2 a3 h3 a6 _ _ o (by omega), loadAt c i a2 h2 a3 h3 a6 _ _ (o + 1) (by omega), loadAt c i a2 h2 a3 h3 a6 _ _ (o + 2) (by omega),
    loadAt c i a2 h2 a3 h3 a6 _ _ (o + 3) (by omega)]
  unfold tile grad
  refine congr (congrArg HAdd.hAdd (congr (congrArg HAdd.hAdd (congr (congrArg HAdd.hAdd
    (congr (congrArg HMul.hMul (tapAt a4 h4 x2 3 _ (by omega) _)) ?_))
    (congr (congrArg HMul.hMul (tapAt a4 h4 x2 0 _ (by omega) _)) ?_)))
    (congr (congrArg HMul.hMul (tapAt a4 h4 x2 1 _ (by omega) _)) ?_)))
    (congr (congrArg HMul.hMul (tapAt a4 h4 x2 2 _ (by omega) _)) ?_)
  · exact hk0
  · exact hk 3
  · exact hk 2
  · exact hk 1

/-- What the body leaves in the result's buffer. -/
theorem outAt (y : S512x512.Idx) :
    (out0_A_3 (F := Ideal) c i a2 h2 a3 h3 a4 h4 a5 h5 a6 h6 x0 x1 x2 y : EReal) = tile ((i 1).val = 31) x0 x1 x2 y := by
  unfold out0_A_3
  refine View.read_writes_apply_of_pieces (Val := Elt Ideal) (e := .bf16) _ _ (tile ((i 1).val = 31) x0 x1 x2) _ ?_ y (cover0_A_3 c i a2 h2 a3 h3 a4 h4 a5 h5 a6 h6 x0 x1 x2 y)
  have piece := pieceAt c i a2 h2 a3 h3 a4 h4 a6 x0 x1 x2
  intro p hp x
  dsimp only [kernelRun0_A] at hp
  simp only [List.mem_cons, List.not_mem_nil, or_false] at hp
  rcases hp with rfl | rfl | rfl | rfl | rfl | rfl | rfl | rfl | rfl | rfl | rfl | rfl | rfl | rfl | rfl | rfl
  · exact piece 480 (by omega) x
  · exact piece 448 (by omega) x
  · exact piece 416 (by omega) x
  · exact piece 384 (by omega) x
  · exact piece 352 (by omega) x
  · exact piece 320 (by omega) x
  · exact piece 288 (by omega) x
  · exact piece 256 (by omega) x
  · exact piece 224 (by omega) x
  · exact piece 192 (by omega) x
  · exact piece 160 (by omega) x
  · exact piece 128 (by omega) x
  · exact piece 96 (by omega) x
  · exact piece 64 (by omega) x
  · exact piece 32 (by omega) x
  · exact piece 0 (by omega) x

end run

/-- The rows a tile's body reads are the gradient's rows from the tile's first row on. -/
theorem extAt (c : Dev nD) (t : Fin cfg0.N) (r : ℕ) (hr : r < 520) (q : Fin 512) (l : Fin 2048) (hl : l.val = 512 * (t.val / 32) + q.val) :
    ext (((grid0.coords t) 1).val = 31) (iblk m c 0 t) (iblk m c 1 t) r q
      = nth (m ((c : Thread nD τ).loc main_arg0)) (512 * (t.val % 32) + r) l := by
  have ht : t.val < 128 := lt_of_lt_of_eq t.isLt N_0
  rw [(idx t).2.2.2.2]
  unfold ext nth
  by_cases h : r < 512
  · rw [dif_pos h, dif_pos (by omega)]
    blk_point [iblk, V, idx t]
  · rw [dif_neg h]
    by_cases h31 : t.val % 32 = 31
    · rw [if_pos h31, dif_neg (by omega)]
    · rw [if_neg h31, dif_pos (by omega), dif_pos (by omega)]
      blk_point [iblk, V, idx t]

/-- After the run the result array holds the reference's gradient. -/
theorem final3 (c : Dev nD) : (dats m 0 c).arrAt 3 (cfgs 0).N
    = val_main_v56 (F := Ideal) (m ((c : Thread nD τ).loc main_arg0)) (m ((c : Thread nD τ).loc main_arg1)) := by
  refine (dats m 0 c).arrAt_eq_of_covers 3 _ (by decide +kernel) fun t _ y => ?_
  have ht : t.val < 128 := lt_of_lt_of_eq t.isLt N_0
  blk_simp
  rw [after0_3]
  unfold outsAt0
  refine (outAt _ _ _ _ _ _ _ _ _ _ _ _ _ _ _ y).trans ?_
  obtain_idx j : S16384x2048 := [512 * (t.val % 32) + (y 0).val, 512 * (t.val / 32) + (y 1).val] with hj
  have hj' : ((cfg0.win 3).blk t).view.emb y = j := by blk_ext [idx t]
  rw [hj']
  idx_vars j
  idx_vars y
  rw [refAt]
  have hv0 : j0.val = 512 * (t.val % 32) + y0.val := hj0
  have hv1 : j1.val = 512 * (t.val / 32) + y1.val := hj1
  have hy0 : y0.val < 512 := y0.isLt
  have en : ∀ k : ℕ, k < 8 → ext (((grid0.coords t) 1).val = 31) (iblk m c 0 t) (iblk m c 1 t) (y0.val + k) y1
      = nth (m ((c : Thread nD τ).loc main_arg0)) (j0.val + k) j1 := fun k hk => by
    rw [extAt m c t _ (by omega) _ j1 hv1]
    exact congrArg (nth _ · j1) (by omega)
  have ew : ∀ k : Fin 4, (iblk m c 2 t (ix2 k y1) : EReal) = m ((c : Thread nD τ).loc main_arg1) (ix2 k j1) := fun k => by
    blk_point [iblk, V, idx t]
  show grad _ _ = _
  unfold grad
  exact congr (congrArg HAdd.hAdd (congr (congrArg HAdd.hAdd (congr (congrArg HAdd.hAdd
    (congr (congrArg HMul.hMul (ew 3)) (en 0 (by omega)))) (congr (congrArg HMul.hMul (ew 0)) (en 3 (by omega)))))
    (congr (congrArg HMul.hMul (ew 1)) (en 2 (by omega))))) (congr (congrArg HMul.hMul (ew 2)) (en 1 (by omega)))

end Cert.ConvBwdInIdeal.Final

end
-- ==== Proof.ConvBwdPrePure.lean ====
/-
  The first launch of the causal convolution's backward pass, one tile at a time: SiLU's derivative at the convolution, and
  what the body adds up over a tile's rows for the taps and for the bias.
-/
module

public import proofs.«01_k».proof.Proof.Gen.ConvBwdPreIdeal.Frame
public import proofs.«01_k».proof.Proof.Gen.ConvBwdPreRefIdeal.Read
public import Idealize.ShloMosaic.Lib.Pipeline.ValueKit.Acc
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.WordCmp
public import Idealize.ShloMosaic.Lib.Writes
public import Idealize.ShloMosaic.Lib.WritesUnit
public import Idealize.ShloMosaic.Lib.Claim
public import proofs.«01_k».proof.Proof.SiluPure

@[expose] public section

set_option maxRecDepth 16384

noncomputable section

open Idealize.ShloMosaic Idealize.ShloMosaic.TcCoe Idealize.SL.Sem
open Idealize.ShloMosaic.Pipeline (Dat)

namespace Cert.ConvBwdPreIdeal.Final

open Cert.ConvBwdPreIdeal Cert.ConvBwdPreIdeal.Gen Cert.ConvBwdPreRefIdeal.Read

/-- A gradient times SiLU's derivative, the factor written as the kernel does. -/
def dp (p d : EReal) : EReal := d * (Silu.sg p * (1 + p * (1 - Silu.sg p)))

/-- The logistic function at +∞ is one. -/
theorem sg_top : Silu.sg ⊤ = 1 := by
  have e : Ideal.exp (-⊤) = 0 := rfl
  unfold Silu.sg Ideal.div
  rw [e, add_zero, if_neg one_ne_zero, one_mul]
  exact_mod_cast (EReal.coe_inv 1).symm.trans (by norm_num)

/-- The logistic function at −∞ is zero. -/
theorem sg_bot : Silu.sg ⊥ = 0 := by
  have e : Ideal.exp (-⊥) = ⊤ := rfl
  unfold Silu.sg Ideal.div
  rw [e, EReal.add_top_of_ne_bot (by decide), if_neg (by decide), EReal.inv_top, mul_zero]

/-- The kernel's product with SiLU's derivative is the chain rule's two addends, for a finite gradient and any argument. -/
theorem dp_eq (p : EReal) {d : EReal} (hd : ∃ r : ℝ, d = (r : EReal)) :
    dp p d = d * Silu.sg p + p * d * (Silu.sg p * (1 - Silu.sg p)) := by
  obtain ⟨d, rfl⟩ := hd
  unfold dp
  induction p using EReal.rec with
  | bot => rw [sg_bot, zero_mul, zero_mul, mul_zero, mul_zero, add_zero]
  | coe r => exact Silu.dsilu_eq d r
  | top =>
    have e : (1 : EReal) - 1 = 0 := EReal.sub_self (by decide) (by decide)
    rw [sg_top, e, mul_zero, add_zero, mul_zero, mul_zero, add_zero, mul_one]

/-- A row of the convolution's input in one of its columns, three rows up: zero before the first. -/
def prv (x : FVec Ideal S16384x8704 .bf16) (r : ℕ) (l : Fin 2048) : EReal :=
  if h : 3 ≤ r ∧ r - 3 < 16384 then x (ix2 ⟨r - 3, h.2⟩ ⟨3584 + l.val, by have hl : l.val < 2048 := l.isLt; omega⟩) else 0

/-- The convolution of a row, from the four rows up to it, the taps and the bias. -/
def pre (n : ℕ → EReal) (w : Fin 4 → EReal) (b : EReal) : EReal := b + w 0 * n 0 + w 1 * n 1 + w 2 * n 2 + w 3 * n 3

/-- The reference's rows, three zeros put before them. -/
theorem rowAt (x0 : FVec Ideal S16384x8704 .bf16) (r : ℕ) (hr : r < 16387) (l : Fin 2048) :
    (val_main_v3 (F := Ideal) x0 (ix2 ⟨r, hr⟩ l) : EReal) = prv x0 r l := by
  have hl : l.val < 2048 := l.isLt
  unfold prv
  by_cases h : 3 ≤ r
  · rw [dif_pos ⟨h, by omega⟩]
    unfold val_main_v3
    refine (concatenate_pair_apply_right (t := Cert.ConvBwdPreRefIdeal.S16387x2048) (s₁ := Cert.ConvBwdPreRefIdeal.S3x2048) (s₂ := Cert.ConvBwdPreRefIdeal.S16384x2048) 0 _ _ _ _ rfl rfl (ix2 ⟨r - 3, by omega⟩ l)
      (Fin.forall_fin_two.mpr ⟨fun h' => absurd rfl h', fun _ => rfl⟩) (by show r - 3 + 3 = r; omega)).trans ?_
    pointwise [val_main_v1, val_main_v0]
  · rw [dif_neg (fun h' => h h'.1)]
    unfold val_main_v3
    refine (concatenate_pair_apply_left (t := Cert.ConvBwdPreRefIdeal.S16387x2048) (s₁ := Cert.ConvBwdPreRefIdeal.S3x2048) (s₂ := Cert.ConvBwdPreRefIdeal.S16384x2048) 0 _ _ _ _ rfl (ix2 ⟨r, by omega⟩ l)
      (Fin.forall_fin_two.mpr ⟨rfl, rfl⟩)).trans ?_
    pointwise [val_main_v2, val_main_cst]

/-- The reference's convolution at an index. -/
theorem preAt (x0 : FVec Ideal S16384x8704 .bf16) (x1 : FVec Ideal S4x2048 .f32) (x2 : FVec Ideal S2048 .f32) (r : Fin 16384) (l : Fin 2048) :
    (val_main_v35 (F := Ideal) x0 x1 x2 (ix2 r l) : EReal) = pre (fun k => prv x0 (r.val + k) l) (fun k => x1 (ix2 k l)) (x2 (ix1 l)) := by
  have e0 : (val_main_v4 (F := Ideal) x0 (ix2 r l) : EReal) = prv x0 (r.val + 0) l := by
    refine Eq.trans ?_ (rowAt x0 (r.val + 0) (by omega) l)
    pointwise [val_main_v4]
  have e1 : (val_main_v12 (F := Ideal) x0 (ix2 r l) : EReal) = prv x0 (r.val + 1) l := by
    refine (Eq.trans ?_ (rowAt x0 (1 + r.val) (by omega) l)).trans (congrArg (prv x0 · l) (by omega))
    pointwise [val_main_v12]
  have e2 : (val_main_v19 (F := Ideal) x0 (ix2 r l) : EReal) = prv x0 (r.val + 2) l := by
    refine (Eq.trans ?_ (rowAt x0 (2 + r.val) (by omega) l)).trans (congrArg (prv x0 · l) (by omega))
    pointwise [val_main_v19]
  have e3 : (val_main_v26 (F := Ideal) x0 (ix2 r l) : EReal) = prv x0 (r.val + 3) l := by
    refine (Eq.trans ?_ (rowAt x0 (3 + r.val) (by omega) l)).trans (congrArg (prv x0 · l) (by omega))
    pointwise [val_main_v26]
  have w0 : (val_main_v8 (F := Ideal) x1 (ix2 r l) : EReal) = x1 (ix2 0 l) := by
    pointwise [val_main_v8, val_main_v7, val_main_v6, val_main_v5]
  have w1 : (val_main_v16 (F := Ideal) x1 (ix2 r l) : EReal) = x1 (ix2 1 l) := by
    pointwise [val_main_v16, val_main_v15, val_main_v14, val_main_v13]
  have w2 : (val_main_v23 (F := Ideal) x1 (ix2 r l) : EReal) = x1 (ix2 2 l) := by
    pointwise [val_main_v23, val_main_v22, val_main_v21, val_main_v20]
  have w3 : (val_main_v30 (F := Ideal) x1 (ix2 r l) : EReal) = x1 (ix2 3 l) := by
    pointwise [val_main_v30, val_main_v29, val_main_v28, val_main_v27]
  have b : (val_main_v34 (F := Ideal) x2 (ix2 r l) : EReal) = x2 (ix1 l) := by
    pointwise [val_main_v34, val_main_v33]
  have z : (val_main_v10 (F := Ideal) (ix2 r l) : EReal) = 0 := by
    pointwise [val_main_v10, val_main_cst_0]
  unfold pre
  rw [val_main_v35_apply, val_main_v32_apply, val_main_v25_apply, val_main_v18_apply, val_main_v11_apply, val_main_v9_apply, val_main_v17_apply,
    val_main_v24_apply, val_main_v31_apply]
  refine (congr (congrArg HAdd.hAdd (congr (congrArg HAdd.hAdd (congr (congrArg HAdd.hAdd (congr (congrArg HAdd.hAdd (congr (congrArg HAdd.hAdd z)
    (congr (congrArg HMul.hMul e0) w0))) (congr (congrArg HMul.hMul e1) w1))) (congr (congrArg HMul.hMul e2) w2))) (congr (congrArg HMul.hMul e3) w3))) b).trans ?_
  rw [zero_add]
  dsimp only
  ac_rfl

/-- The reference's gradient of the convolution at an index, for a finite gradient given. -/
theorem refDp (x0 : FVec Ideal S16384x8704 .bf16) (x1 : FVec Ideal S4x2048 .f32) (x2 : FVec Ideal S2048 .f32) (x3 : FVec Ideal S16384x2048 .f32)
    (r : Fin 16384) (l : Fin 2048) (hd : ∃ v : ℝ, (x3 (ix2 r l) : EReal) = (v : EReal)) :
    (val_main_v37 (F := Ideal) x0 x1 x2 x3 (ix2 r l) : EReal)
      = dp (pre (fun k => prv x0 (r.val + k) l) (fun k => x1 (ix2 k l)) (x2 (ix1 l))) (x3 (ix2 r l)) := by
  rw [dp_eq _ hd, ← preAt]
  pointwise [val_main_v37, val_main_call1_v1, val_main_call1_v2, val_main_call1_v0, val_main_v36_1, val_main_v36_2, val_main_call0_v7, val_main_call0_v6,
    val_main_call0_cst_1, val_main_call0_v4, val_main_call0_cst_0, val_main_call0_v3, val_main_call0_v2, val_main_call0_cst, val_main_call0_v1,
    val_main_call0_v0, Silu.sg]

/-- The reference's gradient of the bias at an index. -/
theorem refDb (x0 : FVec Ideal S16384x8704 .bf16) (x1 : FVec Ideal S4x2048 .f32) (x2 : FVec Ideal S2048 .f32) (x3 : FVec Ideal S16384x2048 .f32) (l : Fin 2048) :
    (val_main_v40 (F := Ideal) x0 x1 x2 x3 (ix1 l) : EReal) = ∑ r : Fin 16384, val_main_v37 (F := Ideal) x0 x1 x2 x3 (ix2 r l) := by
  pointwise [val_main_v40, val_main_cst_2, val_main_v39, val_main_v38, val_main_cst_1]
  simp only [Finset.univ_unique, Finset.sum_singleton]

/-- The reference's rows at an offset. -/
theorem offAt (x0 : FVec Ideal S16384x8704 .bf16) (r : Fin 16384) (l : Fin 2048) :
    (val_main_v4 (F := Ideal) x0 (ix2 r l) : EReal) = prv x0 (r.val + 0) l ∧ (val_main_v12 (F := Ideal) x0 (ix2 r l) : EReal) = prv x0 (r.val + 1) l
      ∧ (val_main_v19 (F := Ideal) x0 (ix2 r l) : EReal) = prv x0 (r.val + 2) l ∧ (val_main_v26 (F := Ideal) x0 (ix2 r l) : EReal) = prv x0 (r.val + 3) l := by
  refine ⟨?_, ?_, ?_, ?_⟩
  · refine Eq.trans ?_ (rowAt x0 (r.val + 0) (by omega) l)
    pointwise [val_main_v4]
  · refine (Eq.trans ?_ (rowAt x0 (1 + r.val) (by omega) l)).trans (congrArg (prv x0 · l) (by omega))
    pointwise [val_main_v12]
  · refine (Eq.trans ?_ (rowAt x0 (2 + r.val) (by omega) l)).trans (congrArg (prv x0 · l) (by omega))
    pointwise [val_main_v19]
  · refine (Eq.trans ?_ (rowAt x0 (3 + r.val) (by omega) l)).trans (congrArg (prv x0 · l) (by omega))
    pointwise [val_main_v26]

/-- A row laid in a matrix of four rows that is zero elsewhere. -/
theorem padAt (lo hi : ℕ) (x : Vec Ideal Cert.ConvBwdPreRefIdeal.S1x2048 .f32) (hp hu) (k : Fin 4) (l : Fin 2048) :
    (pad Cert.ConvBwdPreRefIdeal.S4x2048 ![lo, 0] ![hi, 0] ![0, 0] x (constant (F := Ideal) Cert.ConvBwdPreRefIdeal.S_ .f32 0x00000000#32) hp hu (ix2 k l) : EReal)
      = if k.val = lo then x (ix2 0 l) else 0 := by
  by_cases h : k.val = lo
  · rw [if_pos h]
    exact pad_apply_of_inside _ _ _ x _ hp hu _ (ix2 0 l) (Fin.forall_fin_two.mpr ⟨by
      show k.val = lo + 0 * (0 + 1)
      omega, by
      show l.val = 0 + l.val * (0 + 1)
      omega⟩)
  · rw [if_neg h]
    refine (pad_apply_of_not_inside _ _ _ x _ hp hu _ (0 : Fin 2) ?_).trans ?_
    · rintro ⟨h1, -, h3⟩
      have h1' : lo ≤ k.val := h1
      have h3' : (k.val - lo) / (0 + 1) < 1 := h3
      rw [Nat.div_one] at h3'
      omega
    · pointwise

/-- The reference's gradient of the taps at an index. -/
theorem refDw (x0 : FVec Ideal S16384x8704 .bf16) (x1 : FVec Ideal S4x2048 .f32) (x2 : FVec Ideal S2048 .f32) (x3 : FVec Ideal S16384x2048 .f32)
    (k : Fin 4) (l : Fin 2048) :
    (val_main_v67 (F := Ideal) x0 x1 x2 x3 (ix2 k l) : EReal)
      = ∑ r : Fin 16384, prv x0 (r.val + k.val) l * val_main_v37 (F := Ideal) x0 x1 x2 x3 (ix2 r l) := by
  have s3 : (val_main_v45 (F := Ideal) x0 x1 x2 x3 (ix2 0 l) : EReal) = ∑ r : Fin 16384, prv x0 (r.val + 3) l * val_main_v37 (F := Ideal) x0 x1 x2 x3 (ix2 r l) := by
    simp only [← (offAt x0 _ l).2.2.2]
    pointwise [val_main_v45, val_main_v44, val_main_cst_4, val_main_v43, val_main_v42, val_main_cst_3, val_main_v41]
    simp only [Finset.univ_unique, Finset.sum_singleton]
  have s2 : (val_main_v51 (F := Ideal) x0 x1 x2 x3 (ix2 0 l) : EReal) = ∑ r : Fin 16384, prv x0 (r.val + 2) l * val_main_v37 (F := Ideal) x0 x1 x2 x3 (ix2 r l) := by
    simp only [← (offAt x0 _ l).2.2.1]
    pointwise [val_main_v51, val_main_v50, val_main_cst_7, val_main_v49, val_main_v48, val_main_cst_6, val_main_v47]
    simp only [Finset.univ_unique, Finset.sum_singleton]
  have s1 : (val_main_v58 (F := Ideal) x0 x1 x2 x3 (ix2 0 l) : EReal) = ∑ r : Fin 16384, prv x0 (r.val + 1) l * val_main_v37 (F := Ideal) x0 x1 x2 x3 (ix2 r l) := by
    simp only [← (offAt x0 _ l).2.1]
    pointwise [val_main_v58, val_main_v57, val_main_cst_10, val_main_v56, val_main_v55, val_main_cst_9, val_main_v54]
    simp only [Finset.univ_unique, Finset.sum_singleton]
  have s0 : (val_main_v65 (F := Ideal) x0 x1 x2 x3 (ix2 0 l) : EReal) = ∑ r : Fin 16384, prv x0 (r.val + 0) l * val_main_v37 (F := Ideal) x0 x1 x2 x3 (ix2 r l) := by
    simp only [← (offAt x0 _ l).1]
    pointwise [val_main_v65, val_main_v64, val_main_cst_13, val_main_v63, val_main_v62, val_main_cst_12, val_main_v61]
    simp only [Finset.univ_unique, Finset.sum_singleton]
  have p3 : (val_main_v46 (F := Ideal) x0 x1 x2 x3 (ix2 k l) : EReal) = if k.val = 3 then val_main_v45 (F := Ideal) x0 x1 x2 x3 (ix2 0 l) else 0 := padAt 3 0 _ _ _ k l
  have p2 : (val_main_v52 (F := Ideal) x0 x1 x2 x3 (ix2 k l) : EReal) = if k.val = 2 then val_main_v51 (F := Ideal) x0 x1 x2 x3 (ix2 0 l) else 0 := padAt 2 1 _ _ _ k l
  have p1 : (val_main_v59 (F := Ideal) x0 x1 x2 x3 (ix2 k l) : EReal) = if k.val = 1 then val_main_v58 (F := Ideal) x0 x1 x2 x3 (ix2 0 l) else 0 := padAt 1 2 _ _ _ k l
  have p0 : (val_main_v66 (F := Ideal) x0 x1 x2 x3 (ix2 k l) : EReal) = if k.val = 0 then val_main_v65 (F := Ideal) x0 x1 x2 x3 (ix2 0 l) else 0 := padAt 0 3 _ _ _ k l
  rw [val_main_v67_apply, val_main_v60_apply, val_main_v53_apply]
  refine (congr (congrArg HAdd.hAdd (congr (congrArg HAdd.hAdd (congr (congrArg HAdd.hAdd p3) p2)) p1)) p0).trans ?_
  obtain ⟨n, hn⟩ := k
  interval_cases n
  · simp only [Nat.reduceEqDiff, if_true, if_false, OfNat.zero_ne_ofNat, zero_ne_one, zero_add, s0]
  · simp only [Nat.reduceEqDiff, if_true, if_false, OfNat.one_ne_ofNat, one_ne_zero, zero_add, add_zero, s1]
  · simp only [Nat.reduceEqDiff, if_true, if_false, OfNat.ofNat_ne_zero, OfNat.ofNat_ne_one, zero_add, add_zero, s2]
  · simp only [Nat.reduceEqDiff, if_true, if_false, OfNat.ofNat_ne_zero, OfNat.ofNat_ne_one, zero_add, add_zero, s3]

/-- The rows a tile's body reads: the 16 before it, which are zero before the first tile, and its own 512. -/
def ext (first : Prop) [Decidable first] (x0 : Vec Ideal S512x512 .bf16) (x1 : Vec Ideal S16x512 .bf16) (r : ℕ) (l : Fin 512) : EReal :=
  if h : r < 16 then (if first then 0 else x1 (ix2 ⟨r, h⟩ l)) else if h : r - 16 < 512 then x0 (ix2 ⟨r - 16, h⟩ l) else 0

/-- What the body leaves of the convolution's gradient at a row and a lane of its tile. -/
def tile (first : Prop) [Decidable first] (x0 : Vec Ideal S512x512 .bf16) (x1 : Vec Ideal S16x512 .bf16) (x2 : Vec Ideal S4x512 .f32)
    (x3 : Vec Ideal S1x512 .f32) (x4 : Vec Ideal S512x512 .f32) (r q : Fin 512) : EReal :=
  dp (pre (fun k => ext first x0 x1 (13 + r.val + k) q) (fun k => x2 (ix2 k q)) (x3 (ix2 0 q))) (x4 (ix2 r q))

/-- The body's 32 rows, from the taps, the bias, the rows at the four offsets and the gradient given. -/
theorem payAt (w0 w1 w2 w3 b : Vec Ideal S1x512 .f32) (n0 n1 n2 n3 d : Vec Ideal S32x512 .f32) (p : Fin 32) (q : Fin 512) (n : ℕ → EReal) (w : Fin 4 → EReal)
    (hw0 : (w0 (ix2 0 q) : EReal) = w 0) (hw1 : (w1 (ix2 0 q) : EReal) = w 1) (hw2 : (w2 (ix2 0 q) : EReal) = w 2) (hw3 : (w3 (ix2 0 q) : EReal) = w 3)
    (h0 : (n0 (ix2 p q) : EReal) = n 0) (h1 : (n1 (ix2 p q) : EReal) = n 1) (h2 : (n2 (ix2 p q) : EReal) = n 2) (h3 : (n3 (ix2 p q) : EReal) = n 3) :
    (k0_pay13 (F := Ideal) w0 w1 w2 w3 b n0 n1 n2 n3 d (ix2 p q) : EReal) = dp (pre n w (b (ix2 0 q))) (d (ix2 p q)) := by
  unfold dp Silu.sg pre
  rw [← hw0, ← hw1, ← hw2, ← hw3, ← h0, ← h1, ← h2, ← h3]
  pointwise [k0_pay13]
  simp only [zero_sub]

/-- Eight running sums after the first n slabs of 32 rows: each takes four rows of a slab. -/
def acc (z : FVec Ideal S8x512 .f32) (s : ∀ n : ℕ, n < 16 → FVec Ideal S32x512 .f32) : ∀ n : ℕ, n ≤ 16 → FVec Ideal S8x512 .f32
  | 0, _ => z
  | n + 1, h => addf (acc z s n (Nat.le_of_succ_le h))
      (multiReduction .add [0] S8x512 (shapeCast S4x8x512 (s n h) shapeCasts_S32x512_S4x8x512) 0x00000000#32 reduces_S4x8x512_S8x512 (.inl rfl) rfl)

/-- The eight running sums at an index. -/
theorem accAt (z : FVec Ideal S8x512 .f32) (s : ∀ n : ℕ, n < 16 → FVec Ideal S32x512 .f32) (a : Fin 8) (q : Fin 512) : ∀ (n : ℕ) (h : n ≤ 16),
    (acc z s n h (ix2 a q) : EReal) = z (ix2 a q) + ∑ b : Fin n, ∑ k : Fin 4, s b.val (lt_of_lt_of_le b.isLt h) (ix2 ⟨k.val * 8 + a.val, by omega⟩ q)
  | 0, h => by
    rw [Finset.univ_eq_empty, Finset.sum_empty, add_zero]
    rfl
  | n + 1, h => by
    rw [Fin.sum_univ_castSucc, ← add_assoc]
    refine Eq.trans ?_ (congrArg (· + _) (accAt z s a q n (Nat.le_of_succ_le h)))
    dsimp only [acc, Fin.val_last, Fin.val_castSucc]
    generalize acc z s n _ = u
    generalize s n _ = v
    pointwise

/-- The rows of a tile are the sixteen slabs' rows, in the order in which the running sums take them. -/
theorem sumRows (f : Fin 512 → EReal) :
    ∑ a : Fin 8, ∑ b : Fin 16, ∑ k : Fin 4, f ⟨b.val * 32 + (k.val * 8 + a.val), by omega⟩ = ∑ r : Fin 512, f r := by
  rw [Finset.sum_comm]
  refine Eq.trans (Finset.sum_congr rfl fun b _ => ?_) (Fin.sum_mul_add_congr (L := 512) (S := 16) (n := 32) (F := fun b x => f ⟨b.val * 32 + x.val, by omega⟩) fun b x hl => rfl)
  rw [Finset.sum_comm]
  exact Fin.sum_mul_add_congr (L := 32) (S := 4) (n := 8) fun k a hl => rfl

/-- What the body stores of eight running sums: what was there plus their sum. -/
theorem storeAt (u : FVec Ideal S8x512 .f32) (v : FVec Ideal S1x512 .f32) (o : Fin 1) (q : Fin 512) :
    (k0_pay2 (F := Ideal) u v (ix2 o q) : EReal) = v (ix2 0 q) + ∑ a : Fin 8, u (ix2 a q) := by
  obtain rfl : o = 0 := Subsingleton.elim _ _
  pointwise [k0_pay2]

/-- What the body stores of eight running sums that started from zero: what was there plus the sum of the tile's rows. -/
theorem storeSum (z : FVec Ideal S8x512 .f32) (hz : ∀ j, (z j : EReal) = 0) (s : ∀ n : ℕ, n < 16 → FVec Ideal S32x512 .f32) (f : Fin 512 → EReal) (q : Fin 512)
    (hs : ∀ (n : ℕ) (h : n < 16) (p : Fin 32), (s n h (ix2 p q) : EReal) = f ⟨n * 32 + p.val, by omega⟩) (v : FVec Ideal S1x512 .f32) (o : Fin 1) :
    (k0_pay2 (F := Ideal) (acc z s 16 (le_refl 16)) v (ix2 o q) : EReal) = v (ix2 0 q) + ∑ r : Fin 512, f r := by
  rw [storeAt, ← sumRows]
  refine congrArg (v (ix2 0 q) + ·) (Finset.sum_congr rfl fun a _ => ?_)
  rw [accAt, hz, zero_add]
  exact Finset.sum_congr rfl fun b _ => Finset.sum_congr rfl fun k _ => hs b.val b.isLt ⟨k.val * 8 + a.val, by omega⟩

section run

variable (c : Dev nD) (i : grid0.Coords) (a2 : Memref sig .tc .vmem S512x512 .bf16) (h2 : a2.IsWhole) (a3 : Memref sig .tc .vmem S16x512 .bf16) (h3 : a3.IsWhole)
  (a4 : Memref sig .tc .vmem S4x512 .f32) (h4 : a4.IsWhole) (a5 : Memref sig .tc .vmem S1x512 .f32) (h5 : a5.IsWhole)
  (a6 : Memref sig .tc .vmem S512x512 .f32) (h6 : a6.IsWhole) (a10 : Memref sig .tc .vmem S528x512 .f32)
  (x0 : Vec Ideal S512x512 .bf16) (x1 : Vec Ideal S16x512 .bf16) (x2 : Vec Ideal S4x512 .f32) (x3 : Vec Ideal S1x512 .f32) (x4 : Vec Ideal S512x512 .f32)

/-- What the body stores in the scratch: the tile's rows, after the sixteen rows before them. -/
def scr : List (View.Piece (Elt Ideal) S528x512 .f32) :=
  [⟨Rect.unit ![16, 0] S512x512.size inb_S528x512_S512x512_16_0,
      k0_pay11 (View.readAt (Elt Ideal) a2.view (Rect.unit ![0, 0] S512x512.size inb_S512x512_S512x512_0_0).toLoadRect (h2.unread x0))⟩,
    ⟨Rect.unit ![0, 0] S16x512.size inb_S528x512_S16x512_0_0,
      k0_pay10 i (View.readAt (Elt Ideal) a3.view (Rect.unit ![0, 0] S16x512.size inb_S16x512_S16x512_0_0).toLoadRect (h3.unread x1))⟩]

/-- Rows o, …, o + 31 lie in a block of 512 rows. -/
theorem in512 (o : ℕ) (h : o + 32 ≤ 512) : ∀ a : Fin 2, (![o, 0] : Fin 2 → ℕ) a + S32x512.size a ≤ S512x512.size a :=
  Fin.forall_fin_two.mpr ⟨h, le_refl 512⟩

/-- Rows o, …, o + 31 lie in the scratch. -/
theorem in528 (o : ℕ) (h : o + 32 ≤ 528) : ∀ a : Fin 2, (![o, 0] : Fin 2 → ℕ) a + S32x512.size a ≤ S528x512.size a :=
  Fin.forall_fin_two.mpr ⟨h, le_refl 512⟩

/-- The rows before the tile that the body stores are the tile before's last sixteen, or zero before the first. -/
theorem haloAt (p : S16x512.Idx) :
    (k0_pay10 (F := Ideal) i (View.readAt (Elt Ideal) a3.view (Rect.unit (s := S16x512) ![0, 0] ![16, 512] inb_S16x512_S16x512_0_0).toLoadRect (h3.unread x1)) p : EReal)
      = ext ((i 1).val = 0) x0 x1 (((Rect.unit (s := S528x512) ![0, 0] ![16, 512] inb_S528x512_S16x512_0_0).emb p) 0).val
          (((Rect.unit (s := S528x512) ![0, 0] ![16, 512] inb_S528x512_S16x512_0_0).emb p) 1) := by
  rw [View.readAt_eq_ld, Memref.IsWhole.read_unread]
  have hb : Scalar.cmpi .sgt (BitVec.ofNat 32 (i 1).val) 0#32 = if (i 1).val = 0 then 0#1 else 1#1 :=
    (by decide : ∀ n : Fin 32, Scalar.cmpi .sgt (BitVec.ofNat 32 n.val) 0#32 = if n.val = 0 then 0#1 else 1#1) (i 1)
  idx_vars p
  have h8 : p0.val < 16 := p0.isLt
  have e1 : ((Rect.unit (s := S528x512) ![0, 0] ![16, 512] inb_S528x512_S16x512_0_0).emb (ix2 p0 p1)) 1 = p1 := Fin.ext (by show 0 + 1 * p1.val = _; omega)
  have e0 : (((Rect.unit (s := S528x512) ![0, 0] ![16, 512] inb_S528x512_S16x512_0_0).emb (ix2 p0 p1)) 0).val = p0.val := by
    show 0 + 1 * p0.val = _; omega
  rw [e1, e0]
  unfold ext k0_pay10
  rw [dif_pos h8, hb]
  by_cases hi : (i 1).val = 0
  · rw [if_pos hi, if_pos hi]
    pointwise
  · rw [if_neg hi, if_neg hi]
    pointwise

/-- The rows of the tile that the body stores are the tile's. -/
theorem ownAt (p : S512x512.Idx) :
    (k0_pay11 (F := Ideal) (View.readAt (Elt Ideal) a2.view (Rect.unit (s := S512x512) ![0, 0] ![512, 512] inb_S512x512_S512x512_0_0).toLoadRect (h2.unread x0)) p : EReal)
      = ext ((i 1).val = 0) x0 x1 (((Rect.unit (s := S528x512) ![16, 0] ![512, 512] inb_S528x512_S512x512_16_0).emb p) 0).val
          (((Rect.unit (s := S528x512) ![16, 0] ![512, 512] inb_S528x512_S512x512_16_0).emb p) 1) := by
  rw [View.readAt_eq_ld, Memref.IsWhole.read_unread]
  idx_vars p
  have h8 : p0.val < 512 := p0.isLt
  have e1 : ((Rect.unit (s := S528x512) ![16, 0] ![512, 512] inb_S528x512_S512x512_16_0).emb (ix2 p0 p1)) 1 = p1 := Fin.ext (by show 0 + 1 * p1.val = _; omega)
  have e0 : (((Rect.unit (s := S528x512) ![16, 0] ![512, 512] inb_S528x512_S512x512_16_0).emb (ix2 p0 p1)) 0).val = 16 + p0.val := by
    show 16 + 1 * p0.val = _; omega
  rw [e1, e0]
  unfold ext
  rw [dif_neg (by omega), dif_pos (by omega)]
  pointwise [k0_pay11]

/-- A load of 32 rows of the scratch reads the rows the body put there. -/
theorem loadAt (o : ℕ) (h : o + 32 ≤ 528) (p : Fin 32) (q : Fin 512) :
    (a10.view.readCov (scr i a2 h2 a3 h3 x0 x1)
      (Rect.unit (s := S528x512) ![o, 0] S32x512.size (in528 o h)).toLoadRect (ix2 p q) : EReal) = ext ((i 1).val = 0) x0 x1 (o + p.val) q := by
  unfold View.readCov
  rw [View.readAt_apply]
  obtain_idx z : S528x512 := [o + p.val, q.val] with hz
  have e : (Rect.unit (s := S528x512) ![o, 0] S32x512.size (in528 o h)).toLoadRect.idx (ix2 p q) = z :=
    funext (Fin.forall_fin_two.mpr ⟨Fin.ext (by rw [hz0]; show o + 1 * p.val = _; omega), Fin.ext (by rw [hz1]; show 0 + 1 * q.val = _; omega)⟩)
  rw [e]
  refine (View.read_writes_apply_of_pieces (Val := Elt Ideal) (e := .f32) _ _ (fun y => ext ((i 1).val = 0) x0 x1 (y 0).val (y 1)) _ ?_ z ?_).trans ?_
  · intro pc hp x
    unfold scr at hp
    simp only [List.mem_cons, List.not_mem_nil, or_false] at hp
    rcases hp with rfl | rfl
    · exact ownAt i a2 h2 x0 x1 x
    · exact haloAt i a3 h3 x0 x1 x
  · have hz : (z 0).val < 528 := (z 0).isLt
    have hz' : (z 1).val < 512 := (z 1).isLt
    unfold scr
    by_cases hr : (z 0).val < 16
    · refine ⟨_, List.mem_cons_of_mem _ (List.mem_cons_self ..), ?_⟩
      exact (Rect.mem_set_unit (inb := inb_S528x512_S16x512_0_0)).mpr (Fin.forall_fin_two.mpr ⟨⟨Nat.zero_le _, by show _ < 0 + 16; omega⟩, ⟨Nat.zero_le _, by show _ < 0 + 512; omega⟩⟩)
    · refine ⟨_, List.mem_cons_self .., ?_⟩
      exact (Rect.mem_set_unit (inb := inb_S528x512_S512x512_16_0)).mpr (Fin.forall_fin_two.mpr ⟨⟨by show 16 ≤ _; omega, by show _ < 16 + 512; omega⟩, ⟨Nat.zero_le _, by show _ < 0 + 512; omega⟩⟩)
  · dsimp only
    rw [hz0]
    exact congrArg (ext _ _ _ _) (Fin.ext hz1)

/-- A load of a tap reads its row. -/
theorem tapAt (o : ℕ) (inb) (ho : o < 4) (q : Fin 512) :
    (View.readAt (Elt Ideal) a4.view (Rect.unit (s := S4x512) ![o, 0] S1x512.size inb).toLoadRect (h4.unread x2) (ix2 0 q) : EReal)
      = x2 (ix2 ⟨o, ho⟩ q) := by
  rw [View.readAt_eq_ld, Memref.IsWhole.read_unread]
  refine congrArg x2 (funext (Fin.forall_fin_two.mpr ⟨Fin.ext ?_, Fin.ext ?_⟩))
  · show o + 1 * 0 = o
    omega
  · show 0 + 1 * q.val = q.val
    omega

/-- The load of the bias reads it. -/
theorem biasAt (q : Fin 512) :
    (k0_pay12 (F := Ideal) (View.readAt (Elt Ideal) a5.view (Rect.unit (s := S1x512) ![0, 0] S1x512.size inb_S1x512_S1x512_0_0).toLoadRect (h5.unread x3)) (ix2 0 q) : EReal)
      = x3 (ix2 0 q) := by
  rw [View.readAt_eq_ld, Memref.IsWhole.read_unread]
  pointwise [k0_pay12]

/-- A load of 32 rows of the scratch. -/
def rows (o : ℕ) (h : o + 32 ≤ 528) : FVec Ideal S32x512 .f32 :=
  a10.view.readCov (scr i a2 h2 a3 h3 x0 x1) (Rect.unit (s := S528x512) ![o, 0] S32x512.size (in528 o h)).toLoadRect

/-- A load of a tap. -/
def tap (o : ℕ) (inb : ∀ a : Fin 2, (![o, 0] : Fin 2 → ℕ) a + S1x512.size a ≤ S4x512.size a) : FVec Ideal S1x512 .f32 := View.readAt (Elt Ideal) a4.view (Rect.unit (s := S4x512) ![o, 0] S1x512.size inb).toLoadRect (h4.unread x2)

/-- The body's 32 rows of the convolution's gradient from row o on. -/
def slab (o : ℕ) (h : o + 32 ≤ 512) : FVec Ideal S32x512 .f32 :=
  k0_pay13 (tap a4 h4 x2 0 inb_S4x512_S1x512_0_0) (tap a4 h4 x2 1 inb_S4x512_S1x512_1_0) (tap a4 h4 x2 2 inb_S4x512_S1x512_2_0) (tap a4 h4 x2 3 inb_S4x512_S1x512_3_0)
    (k0_pay12 (View.readAt (Elt Ideal) a5.view (Rect.unit (s := S1x512) ![0, 0] S1x512.size inb_S1x512_S1x512_0_0).toLoadRect (h5.unread x3)))
    (rows i a2 h2 a3 h3 a10 x0 x1 (o + 13) (by omega)) (rows i a2 h2 a3 h3 a10 x0 x1 (o + 14) (by omega))
    (rows i a2 h2 a3 h3 a10 x0 x1 (o + 15) (by omega)) (rows i a2 h2 a3 h3 a10 x0 x1 (o + 16) (by omega))
    (View.readAt (Elt Ideal) a6.view (Rect.unit (s := S512x512) ![o, 0] S32x512.size (in512 o h)).toLoadRect (h6.unread x4))

/-- The body's 32 rows are the tile's. -/
theorem slabAt (o : ℕ) (h : o + 32 ≤ 512) (p : Fin 32) (q : Fin 512) :
    (slab i a2 h2 a3 h3 a4 h4 a5 h5 a6 h6 a10 x0 x1 x2 x3 x4 o h (ix2 p q) : EReal) = tile ((i 1).val = 0) x0 x1 x2 x3 x4 ⟨o + p.val, by omega⟩ q := by
  have hk : ∀ k : ℕ, ∀ hk : o + (13 + k) + 32 ≤ 528, (rows i a2 h2 a3 h3 a10 x0 x1 (o + (13 + k)) hk (ix2 p q) : EReal)
      = ext ((i 1).val = 0) x0 x1 (13 + (o + p.val) + k) q :=
    fun k hk => (loadAt i a2 h2 a3 h3 a10 x0 x1 (o + (13 + k)) hk p q).trans (congrArg (ext _ x0 x1 · q) (by omega))
  have hd : (View.readAt (Elt Ideal) a6.view (Rect.unit (s := S512x512) ![o, 0] S32x512.size (in512 o h)).toLoadRect (h6.unread x4) (ix2 p q) : EReal)
      = x4 (ix2 ⟨o + p.val, by omega⟩ q) := by
    rw [View.readAt_eq_ld, Memref.IsWhole.read_unread]
    refine congrArg x4 (funext (Fin.forall_fin_two.mpr ⟨Fin.ext ?_, Fin.ext ?_⟩))
    · show o + 1 * p.val = o + p.val
      omega
    · show 0 + 1 * q.val = q.val
      omega
  unfold slab
  refine (payAt _ _ _ _ _ _ _ _ _ _ p q (fun k => ext ((i 1).val = 0) x0 x1 (13 + (o + p.val) + k) q) (fun k => x2 (ix2 k q))
    (tapAt a4 h4 x2 0 _ (by omega) _) (tapAt a4 h4 x2 1 _ (by omega) _) (tapAt a4 h4 x2 2 _ (by omega) _) (tapAt a4 h4 x2 3 _ (by omega) _)
    (hk 0 (by omega)) (hk 1 (by omega)) (hk 2 (by omega)) (hk 3 (by omega))).trans ?_
  exact congr (congrArg (fun b e => dp (pre _ _ b) e) (biasAt a5 h5 x3 q)) hd

/-- The body's eight running sums for the bias. -/
def accB : FVec Ideal S8x512 .f32 :=
  acc k0_pay5 (fun n h => slab i a2 h2 a3 h3 a4 h4 a5 h5 a6 h6 a10 x0 x1 x2 x3 x4 (n * 32) (by omega)) 16 (le_refl 16)

/-- The body's eight running sums for a tap. -/
def accW (z : FVec Ideal S8x512 .f32) (k : ℕ) (hk : k < 4) : FVec Ideal S8x512 .f32 :=
  acc z (fun n h => mulf (slab i a2 h2 a3 h3 a4 h4 a5 h5 a6 h6 a10 x0 x1 x2 x3 x4 (n * 32) (by omega)) (rows i a2 h2 a3 h3 a10 x0 x1 (n * 32 + (13 + k)) (by omega))) 16 (le_refl 16)

/-- A tile's part of the gradient of the bias. -/
def partB (first : Prop) [Decidable first] (x0 : Vec Ideal S512x512 .bf16) (x1 : Vec Ideal S16x512 .bf16) (x2 : Vec Ideal S4x512 .f32)
    (x3 : Vec Ideal S1x512 .f32) (x4 : Vec Ideal S512x512 .f32) (j : S1x512.Idx) : EReal :=
  ∑ r : Fin 512, tile first x0 x1 x2 x3 x4 r (j 1)

/-- A tile's part of the gradient of the taps. -/
def partW (first : Prop) [Decidable first] (x0 : Vec Ideal S512x512 .bf16) (x1 : Vec Ideal S16x512 .bf16) (x2 : Vec Ideal S4x512 .f32)
    (x3 : Vec Ideal S1x512 .f32) (x4 : Vec Ideal S512x512 .f32) (j : S4x512.Idx) : EReal :=
  ∑ r : Fin 512, tile first x0 x1 x2 x3 x4 r (j 1) * ext first x0 x1 (13 + r.val + (j 0).val) (j 1)

/-- What the body stores for the bias. -/
theorem storeB (v : FVec Ideal S1x512 .f32) (o : Fin 1) (q : Fin 512) :
    (k0_pay2 (F := Ideal) (accB i a2 h2 a3 h3 a4 h4 a5 h5 a6 h6 a10 x0 x1 x2 x3 x4) v (ix2 o q) : EReal)
      = v (ix2 0 q) + partB ((i 1).val = 0) x0 x1 x2 x3 x4 (ix2 0 q) :=
  storeSum _ (fun j => by idx_vars j; pointwise [k0_pay5]) _ (fun r => tile ((i 1).val = 0) x0 x1 x2 x3 x4 r q) q
    (fun n h p => slabAt i a2 h2 a3 h3 a4 h4 a5 h5 a6 h6 a10 x0 x1 x2 x3 x4 (n * 32) (by omega) p q) v o

/-- What the body stores for a tap. -/
theorem storeW (z : FVec Ideal S8x512 .f32) (hz : ∀ j, (z j : EReal) = 0) (k : ℕ) (hk : k < 4) (v : FVec Ideal S1x512 .f32) (o : Fin 1) (q : Fin 512) :
    (k0_pay2 (F := Ideal) (accW i a2 h2 a3 h3 a4 h4 a5 h5 a6 h6 a10 x0 x1 x2 x3 x4 z k hk) v (ix2 o q) : EReal)
      = v (ix2 0 q) + partW ((i 1).val = 0) x0 x1 x2 x3 x4 (ix2 ⟨k, hk⟩ q) :=
  storeSum _ hz _ (fun r => tile ((i 1).val = 0) x0 x1 x2 x3 x4 r q * ext ((i 1).val = 0) x0 x1 (13 + r.val + k) q) q
    (fun n h p => congr (congrArg HMul.hMul (slabAt i a2 h2 a3 h3 a4 h4 a5 h5 a6 h6 a10 x0 x1 x2 x3 x4 (n * 32) (by omega) p q))
      ((loadAt i a2 h2 a3 h3 a10 x0 x1 (n * 32 + (13 + k)) (by omega) p q).trans
        (congrArg (ext _ x0 x1 · q) (by show n * 32 + (13 + k) + p.val = 13 + (n * 32 + p.val) + k; omega)))) v o

end run

end Cert.ConvBwdPreIdeal.Final

end
-- ==== Proof.ConvBwdPreValue.lean ====
/-
  The first launch of the causal convolution's backward pass: for a finite gradient given, the kernel leaves the reference's
  gradients of the convolution, of the taps and of the bias.
-/
module

public import proofs.«01_k».proof.Proof.Gen.ConvBwdPreIdeal.Frame
public import proofs.«01_k».proof.Proof.Gen.ConvBwdPreRefIdeal.Read
public import Idealize.ShloMosaic.Lib.Pipeline.ValueKit.Acc
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.WordCmp
public import Idealize.ShloMosaic.Lib.Writes
public import Idealize.ShloMosaic.Lib.WritesUnit
public import Idealize.ShloMosaic.Lib.Claim
public import proofs.«01_k».proof.Proof.ConvBwdPrePure
public import proofs.«01_k».proof.Defs

@[expose] public section

set_option maxRecDepth 16384

noncomputable section

open Idealize.ShloMosaic Idealize.ShloMosaic.TcCoe Idealize.SL.Sem
open Idealize.ShloMosaic.Pipeline (Dat)

namespace Cert.ConvBwdPreIdeal.Final

open Cert.ConvBwdPreIdeal Cert.ConvBwdPreIdeal.Gen Cert.ConvBwdPreRefIdeal.Read

variable (m : (ℓ : Loc nD τ sig) → Buf (Elt Ideal) ℓ)

/-- Every window's block index at every point, and the row tile the body is told: column block t / 32, row tile t % 32. -/
theorem idx : ∀ t : Fin cfg0.N, win0_0.index t = ![t.val % 32, 7 + t.val / 32]
    ∧ win0_1.index t = ![t.val % 32 * 32 - 1, 7 + t.val / 32] ∧ win0_2.index t = ![0, t.val / 32]
    ∧ win0_3.index t = ![0, t.val / 32] ∧ win0_4.index t = ![t.val % 32, t.val / 32] ∧ win0_5.index t = ![t.val % 32, t.val / 32]
    ∧ win0_6.index t = ![0, t.val / 32] ∧ win0_7.index t = ![0, t.val / 32] ∧ ((grid0.coords t) 1).val = t.val % 32 :=
  (by decide +kernel : ∀ t : Fin grid0.N, _)

section run

variable (c : Dev nD) (i : grid0.Coords) (a2 : Memref sig .tc .vmem S512x512 .bf16) (h2 : a2.IsWhole) (a3 : Memref sig .tc .vmem S16x512 .bf16) (h3 : a3.IsWhole)
  (a4 : Memref sig .tc .vmem S4x512 .f32) (h4 : a4.IsWhole) (a5 : Memref sig .tc .vmem S1x512 .f32) (h5 : a5.IsWhole)
  (a6 : Memref sig .tc .vmem S512x512 .f32) (h6 : a6.IsWhole) (a7 : Memref sig .tc .vmem S512x512 .f32) (h7 : a7.IsWhole)
  (a8 : Memref sig .tc .vmem S4x512 .f32) (h8 : a8.IsWhole) (a9 : Memref sig .tc .vmem S1x512 .f32) (h9 : a9.IsWhole)
  (a10 : Memref sig .tc .vmem S528x512 .f32) (h10 : a10.IsWhole)
  (x0 : Vec Ideal S512x512 .bf16) (x1 : Vec Ideal S16x512 .bf16) (x2 : Vec Ideal S4x512 .f32) (x3 : Vec Ideal S1x512 .f32) (x4 : Vec Ideal S512x512 .f32)

/-- The body's 32 rows from row o on, at their place in the block. -/
theorem pieceAt (o : ℕ) (h : o + 32 ≤ 512) (p : S32x512.Idx) :
    (slab i a2 h2 a3 h3 a4 h4 a5 h5 a6 h6 a10 x0 x1 x2 x3 x4 o h p : EReal) = tile ((i 1).val = 0) x0 x1 x2 x3 x4
      (((Rect.unit (s := S512x512) ![o, 0] S32x512.size (in512 o h)).emb p) 0) (((Rect.unit (s := S512x512) ![o, 0] S32x512.size (in512 o h)).emb p) 1) := by
  idx_vars p
  refine (slabAt i a2 h2 a3 h3 a4 h4 a5 h5 a6 h6 a10 x0 x1 x2 x3 x4 o h p0 p1).trans (congrArg₂ (tile ((i 1).val = 0) x0 x1 x2 x3 x4) (Fin.ext ?_) (Fin.ext ?_))
  · show o + p0.val = o + 1 * p0.val
    omega
  · show p1.val = 0 + 1 * p1.val
    omega

/-- What the body leaves of the convolution's gradient at the first point of a column block. -/
theorem outA5 (hc : cond0_0 i) (y : S512x512.Idx) :
    (out0_A_5 (F := Ideal) c i a2 h2 a3 h3 a4 h4 a5 h5 a6 h6 a7 h7 a8 h8 a9 h9 a10 h10 hc x0 x1 x2 x3 x4 y : EReal) = tile ((i 1).val = 0) x0 x1 x2 x3 x4 (y 0) (y 1) := by
  unfold out0_A_5
  refine View.read_writes_apply_of_pieces (Val := Elt Ideal) (e := .f32) _ _ (fun y => tile ((i 1).val = 0) x0 x1 x2 x3 x4 (y 0) (y 1)) _ ?_ y (cover0_A_5 c i a2 h2 a3 h3 a4 h4 a5 h5 a6 h6 a7 h7 a8 h8 a9 h9 a10 h10 hc x0 x1 x2 x3 x4 y)
  have piece := pieceAt i a2 h2 a3 h3 a4 h4 a5 h5 a6 h6 a10 x0 x1 x2 x3 x4
  intro p hp x
  dsimp only [kernelRun0_A] at hp
  simp only [List.mem_cons, List.not_mem_nil, or_false] at hp
  rcases hp with rfl | rfl | rfl | rfl | rfl | rfl | rfl | rfl | rfl | rfl | rfl | rfl | rfl | rfl | rfl | rfl
  · exact piece 480 (by omega) x
  · exact piece 448 (by omega) x
  · exact piece 416 (by omega) x
  · exact piece 384 (by omega) x
  · exact piece 352 (by omega) x
  · exact piece 320 (by omega) x
  · exact piece 288 (by omega) x
  · exact piece 256 (by omega) x
  · exact piece 224 (by omega) x
  · exact piece 192 (by omega) x
  · exact piece 160 (by omega) x
  · exact piece 128 (by omega) x
  · exact piece 96 (by omega) x
  · exact piece 64 (by omega) x
  · exact piece 32 (by omega) x
  · exact piece 0 (by omega) x

/-- What the body leaves of the convolution's gradient at the other points. -/
theorem outB5 (hc : ¬cond0_0 i) (xo6 : Vec Ideal S4x512 .f32) (xo7 : Vec Ideal S1x512 .f32) (y : S512x512.Idx) :
    (out0_B_5 (F := Ideal) c i a2 h2 a3 h3 a4 h4 a5 h5 a6 h6 a7 h7 a8 h8 a9 h9 a10 h10 hc x0 x1 x2 x3 x4 xo6 xo7 y : EReal) = tile ((i 1).val = 0) x0 x1 x2 x3 x4 (y 0) (y 1) := by
  unfold out0_B_5
  refine View.read_writes_apply_of_pieces (Val := Elt Ideal) (e := .f32) _ _ (fun y => tile ((i 1).val = 0) x0 x1 x2 x3 x4 (y 0) (y 1)) _ ?_ y (cover0_B_5 c i a2 h2 a3 h3 a4 h4 a5 h5 a6 h6 a7 h7 a8 h8 a9 h9 a10 h10 hc x0 x1 x2 x3 x4 xo6 xo7 y)
  have piece := pieceAt i a2 h2 a3 h3 a4 h4 a5 h5 a6 h6 a10 x0 x1 x2 x3 x4
  intro p hp x
  dsimp only [kernelRun0_B] at hp
  simp only [List.mem_cons, List.not_mem_nil, or_false] at hp
  rcases hp with rfl | rfl | rfl | rfl | rfl | rfl | rfl | rfl | rfl | rfl | rfl | rfl | rfl | rfl | rfl | rfl
  · exact piece 480 (by omega) x
  · exact piece 448 (by omega) x
  · exact piece 416 (by omega) x
  · exact piece 384 (by omega) x
  · exact piece 352 (by omega) x
  · exact piece 320 (by omega) x
  · exact piece 288 (by omega) x
  · exact piece 256 (by omega) x
  · exact piece 224 (by omega) x
  · exact piece 192 (by omega) x
  · exact piece 160 (by omega) x
  · exact piece 128 (by omega) x
  · exact piece 96 (by omega) x
  · exact piece 64 (by omega) x
  · exact piece 32 (by omega) x
  · exact piece 0 (by omega) x

/-- The body's running sums for the bias are those of the tile, at the first point of a column block. -/
theorem sumBA : kernelRun0_A.sl.r_112 (F := Ideal) c i a2 h2 a3 h3 a4 h4 a5 h5 a6 h6 a10 x0 x1 x2 x3 x4 = accB i a2 h2 a3 h3 a4 h4 a5 h5 a6 h6 a10 x0 x1 x2 x3 x4 := rfl

/-- The body's running sums for the bias are those of the tile, at the other points. -/
theorem sumBB : kernelRun0_B.sl.r_112 (F := Ideal) c i a2 h2 a3 h3 a4 h4 a5 h5 a6 h6 a10 x0 x1 x2 x3 x4 = accB i a2 h2 a3 h3 a4 h4 a5 h5 a6 h6 a10 x0 x1 x2 x3 x4 := rfl

/-- The body's running sums for the taps are those of the tile, at the first point of a column block. -/
theorem sumWA : kernelRun0_A.sl.r_113 (F := Ideal) c i a2 h2 a3 h3 a4 h4 a5 h5 a6 h6 a10 x0 x1 x2 x3 x4 = accW i a2 h2 a3 h3 a4 h4 a5 h5 a6 h6 a10 x0 x1 x2 x3 x4 k0_pay6 0 (by omega)
    ∧ kernelRun0_A.sl.r_114 (F := Ideal) c i a2 h2 a3 h3 a4 h4 a5 h5 a6 h6 a10 x0 x1 x2 x3 x4 = accW i a2 h2 a3 h3 a4 h4 a5 h5 a6 h6 a10 x0 x1 x2 x3 x4 k0_pay7 1 (by omega)
    ∧ kernelRun0_A.sl.r_115 (F := Ideal) c i a2 h2 a3 h3 a4 h4 a5 h5 a6 h6 a10 x0 x1 x2 x3 x4 = accW i a2 h2 a3 h3 a4 h4 a5 h5 a6 h6 a10 x0 x1 x2 x3 x4 k0_pay8 2 (by omega)
    ∧ kernelRun0_A.sl.r_116 (F := Ideal) c i a2 h2 a3 h3 a4 h4 a5 h5 a6 h6 a10 x0 x1 x2 x3 x4 = accW i a2 h2 a3 h3 a4 h4 a5 h5 a6 h6 a10 x0 x1 x2 x3 x4 k0_pay9 3 (by omega) := ⟨rfl, rfl, rfl, rfl⟩

/-- The body's running sums for the taps are those of the tile, at the other points. -/
theorem sumWB : kernelRun0_B.sl.r_113 (F := Ideal) c i a2 h2 a3 h3 a4 h4 a5 h5 a6 h6 a10 x0 x1 x2 x3 x4 = accW i a2 h2 a3 h3 a4 h4 a5 h5 a6 h6 a10 x0 x1 x2 x3 x4 k0_pay6 0 (by omega)
    ∧ kernelRun0_B.sl.r_114 (F := Ideal) c i a2 h2 a3 h3 a4 h4 a5 h5 a6 h6 a10 x0 x1 x2 x3 x4 = accW i a2 h2 a3 h3 a4 h4 a5 h5 a6 h6 a10 x0 x1 x2 x3 x4 k0_pay7 1 (by omega)
    ∧ kernelRun0_B.sl.r_115 (F := Ideal) c i a2 h2 a3 h3 a4 h4 a5 h5 a6 h6 a10 x0 x1 x2 x3 x4 = accW i a2 h2 a3 h3 a4 h4 a5 h5 a6 h6 a10 x0 x1 x2 x3 x4 k0_pay8 2 (by omega)
    ∧ kernelRun0_B.sl.r_116 (F := Ideal) c i a2 h2 a3 h3 a4 h4 a5 h5 a6 h6 a10 x0 x1 x2 x3 x4 = accW i a2 h2 a3 h3 a4 h4 a5 h5 a6 h6 a10 x0 x1 x2 x3 x4 k0_pay9 3 (by omega) := ⟨rfl, rfl, rfl, rfl⟩

/-- What the body stores for the bias, at its place in the block. -/
theorem pieceB (P : S1x512.Idx → EReal) (v : FVec Ideal S1x512 .f32) (hv : ∀ q : Fin 512, (v (ix2 0 q) : EReal) = P (ix2 0 q)) (inb) (w : S1x512.Idx) :
    (k0_pay2 (F := Ideal) (accB i a2 h2 a3 h3 a4 h4 a5 h5 a6 h6 a10 x0 x1 x2 x3 x4) v w : EReal)
      = P ((Rect.unit (s := S1x512) ![0, 0] S1x512.size inb).emb w) + partB ((i 1).val = 0) x0 x1 x2 x3 x4 ((Rect.unit (s := S1x512) ![0, 0] S1x512.size inb).emb w) := by
  idx_vars w
  have e : (Rect.unit (s := S1x512) ![0, 0] S1x512.size inb).emb (ix2 w0 w1) = ix2 0 w1 := by
    have h0 : w0.val = 0 := by omega
    refine funext (Fin.forall_fin_two.mpr ⟨Fin.ext ?_, Fin.ext ?_⟩)
    · show 0 + 1 * w0.val = 0
      omega
    · show 0 + 1 * w1.val = w1.val
      omega
  rw [e, ← hv]
  exact storeB i a2 h2 a3 h3 a4 h4 a5 h5 a6 h6 a10 x0 x1 x2 x3 x4 v w0 w1

/-- The bias's one row covers its block. -/
theorem coverB (inb) (y : S1x512.Idx) : y ∈ (Rect.unit (s := S1x512) ![0, 0] S1x512.size inb).set := by
  have h0 : (y 0).val < 1 := (y 0).isLt
  have h1 : (y 1).val < 512 := (y 1).isLt
  exact (Rect.mem_set_unit (inb := inb)).mpr (Fin.forall_fin_two.mpr ⟨⟨Nat.zero_le _, by show _ < 0 + 1; omega⟩, ⟨Nat.zero_le _, by show _ < 0 + 512; omega⟩⟩)

/-- The zero row the body stores first for the bias. -/
theorem zero7 (y : S1x512.Idx) : (a9.view.read (Elt Ideal) (a9.view.writes (Elt Ideal) a9.view.junk kernelRun0_A.sl.H7_1) y : EReal) = 0 := by
  refine View.read_writes_apply_of_pieces (Val := Elt Ideal) (e := .f32) _ _ (fun _ => (0 : EReal)) _ ?_ y ?_
  · intro p hp x
    unfold kernelRun0_A.sl.H7_1 at hp
    simp only [List.mem_cons, List.not_mem_nil, or_false] at hp
    subst hp
    generalize hw : x = w
    idx_vars w
    pointwise [k0_pay4]
  · unfold kernelRun0_A.sl.H7_1
    exact ⟨_, List.mem_cons_self .., coverB inb_S1x512_S1x512_0_0 y⟩

/-- What the body leaves for the bias at the first point of a column block: the tile's part. -/
theorem outA7 (hc : cond0_0 i) (y : S1x512.Idx) :
    (out0_A_7 (F := Ideal) c i a2 h2 a3 h3 a4 h4 a5 h5 a6 h6 a7 h7 a8 h8 a9 h9 a10 h10 hc x0 x1 x2 x3 x4 y : EReal) = 0 + partB ((i 1).val = 0) x0 x1 x2 x3 x4 y := by
  unfold out0_A_7
  dsimp only [kernelRun0_A]
  refine View.read_writes_apply_of_pieces (Val := Elt Ideal) (e := .f32) VO0_7 (VO0_7.writes (Elt Ideal) VO0_7.junk kernelRun0_A.sl.H7_1)
    (fun y => (0 + partB ((i 1).val = 0) x0 x1 x2 x3 x4 y : EReal)) [_] ?_ y ?_
  · intro p hp x
    obtain rfl := List.mem_singleton.mp hp
    refine pieceB i a2 h2 a3 h3 a4 h4 a5 h5 a6 h6 a10 x0 x1 x2 x3 x4 (fun _ => 0) _ (fun q => ?_) inb_S1x512_S1x512_0_0 x
    exact (View.readAt_apply ..).trans (zero7 a9 _)
  · exact ⟨_, List.mem_cons_self .., coverB inb_S1x512_S1x512_0_0 y⟩

/-- What the body leaves for the bias at the other points: what was there plus the tile's part. -/
theorem outB7 (hc : ¬cond0_0 i) (xo6 : Vec Ideal S4x512 .f32) (xo7 : Vec Ideal S1x512 .f32) (y : S1x512.Idx) :
    (out0_B_7 (F := Ideal) c i a2 h2 a3 h3 a4 h4 a5 h5 a6 h6 a7 h7 a8 h8 a9 h9 a10 h10 hc x0 x1 x2 x3 x4 xo6 xo7 y : EReal) = xo7 y + partB ((i 1).val = 0) x0 x1 x2 x3 x4 y := by
  unfold out0_B_7
  dsimp only [kernelRun0_B]
  refine View.read_writes_apply_of_pieces (Val := Elt Ideal) (e := .f32) VO0_7 VO0_7.junk
    (fun y => (xo7 y + partB ((i 1).val = 0) x0 x1 x2 x3 x4 y : EReal)) [_] ?_ y ?_
  · intro p hp x
    obtain rfl := List.mem_singleton.mp hp
    refine pieceB i a2 h2 a3 h3 a4 h4 a5 h5 a6 h6 a10 x0 x1 x2 x3 x4 xo7 _ (fun q => ?_) inb_S1x512_S1x512_0_0 x
    refine (congrFun (View.readAt_eq_ld ..) _).trans ?_
    rw [Memref.IsWhole.read_unread]
    refine congrArg xo7 (funext (Fin.forall_fin_two.mpr ⟨Fin.ext rfl, Fin.ext ?_⟩))
    show 0 + 1 * q.val = q.val
    omega
  · exact ⟨_, List.mem_cons_self .., coverB inb_S1x512_S1x512_0_0 y⟩

/-- A row of the taps lies in their block. -/
theorem inW (k : ℕ) (hk : k < 4) : ∀ a : Fin 2, (![k, 0] : Fin 2 → ℕ) a + S1x512.size a ≤ S4x512.size a :=
  Fin.forall_fin_two.mpr ⟨hk, le_refl 512⟩

/-- What the body stores for a tap, at its place in the block. -/
theorem pieceW (z : FVec Ideal S8x512 .f32) (hz : ∀ j, (z j : EReal) = 0) (P : S4x512.Idx → EReal) (k : ℕ) (hk : k < 4) (v : FVec Ideal S1x512 .f32)
    (hv : ∀ q : Fin 512, (v (ix2 0 q) : EReal) = P (ix2 ⟨k, hk⟩ q)) (w : S1x512.Idx) :
    (k0_pay2 (F := Ideal) (accW i a2 h2 a3 h3 a4 h4 a5 h5 a6 h6 a10 x0 x1 x2 x3 x4 z k hk) v w : EReal)
      = P ((Rect.unit (s := S4x512) ![k, 0] S1x512.size (inW k hk)).emb w) + partW ((i 1).val = 0) x0 x1 x2 x3 x4 ((Rect.unit (s := S4x512) ![k, 0] S1x512.size (inW k hk)).emb w) := by
  idx_vars w
  have e : (Rect.unit (s := S4x512) ![k, 0] S1x512.size (inW k hk)).emb (ix2 w0 w1) = ix2 ⟨k, hk⟩ w1 := by
    have h0 : w0.val = 0 := by omega
    refine funext (Fin.forall_fin_two.mpr ⟨Fin.ext ?_, Fin.ext ?_⟩)
    · show k + 1 * w0.val = k
      omega
    · show 0 + 1 * w1.val = w1.val
      omega
  rw [e, ← hv]
  exact storeW i a2 h2 a3 h3 a4 h4 a5 h5 a6 h6 a10 x0 x1 x2 x3 x4 z hz k hk v w0 w1

/-- The running sums' starts are zero. -/
theorem zeros : (∀ j, (k0_pay6 (F := Ideal) j : EReal) = 0) ∧ (∀ j, (k0_pay7 (F := Ideal) j : EReal) = 0)
    ∧ (∀ j, (k0_pay8 (F := Ideal) j : EReal) = 0) ∧ (∀ j, (k0_pay9 (F := Ideal) j : EReal) = 0) := by
  refine ⟨fun j => ?_, fun j => ?_, fun j => ?_, fun j => ?_⟩ <;> idx_vars j <;> pointwise [k0_pay6, k0_pay7, k0_pay8, k0_pay9]

/-- What the body leaves for the taps at the other points: what was there plus the tile's part. -/
theorem outB6 (hc : ¬cond0_0 i) (xo6 : Vec Ideal S4x512 .f32) (xo7 : Vec Ideal S1x512 .f32) (y : S4x512.Idx) :
    (out0_B_6 (F := Ideal) c i a2 h2 a3 h3 a4 h4 a5 h5 a6 h6 a7 h7 a8 h8 a9 h9 a10 h10 hc x0 x1 x2 x3 x4 xo6 xo7 y : EReal) = xo6 y + partW ((i 1).val = 0) x0 x1 x2 x3 x4 y := by
  unfold out0_B_6
  refine View.read_writes_apply_of_pieces (Val := Elt Ideal) (e := .f32) _ _ (fun y => (xo6 y + partW ((i 1).val = 0) x0 x1 x2 x3 x4 y : EReal)) _ ?_ y (cover0_B_6 c i a2 h2 a3 h3 a4 h4 a5 h5 a6 h6 a7 h7 a8 h8 a9 h9 a10 h10 hc x0 x1 x2 x3 x4 xo6 xo7 y)
  obtain ⟨z0, z1, z2, z3⟩ := zeros
  intro p hp x
  dsimp only [kernelRun0_B] at hp
  simp only [List.mem_cons, List.not_mem_nil, or_false] at hp
  rcases hp with rfl | rfl | rfl | rfl
  · exact pieceW i a2 h2 a3 h3 a4 h4 a5 h5 a6 h6 a10 x0 x1 x2 x3 x4 k0_pay9 z3 xo6 3 (by omega) _ (fun q => tapAt a8 h8 xo6 3 _ (by omega) q) x
  · exact pieceW i a2 h2 a3 h3 a4 h4 a5 h5 a6 h6 a10 x0 x1 x2 x3 x4 k0_pay8 z2 xo6 2 (by omega) _ (fun q => tapAt a8 h8 xo6 2 _ (by omega) q) x
  · exact pieceW i a2 h2 a3 h3 a4 h4 a5 h5 a6 h6 a10 x0 x1 x2 x3 x4 k0_pay7 z1 xo6 1 (by omega) _ (fun q => tapAt a8 h8 xo6 1 _ (by omega) q) x
  · exact pieceW i a2 h2 a3 h3 a4 h4 a5 h5 a6 h6 a10 x0 x1 x2 x3 x4 k0_pay6 z0 xo6 0 (by omega) _ (fun q => tapAt a8 h8 xo6 0 _ (by omega) q) x

/-- A load of a row of the taps, of contents that are zero there. -/
theorem zeroAt (L : List (View.Piece (Elt Ideal) S4x512 .f32)) (k : ℕ) (hk : k < 4) (inb)
    (hL : ∀ y : S4x512.Idx, k ≤ (y 0).val → (a8.view.read (Elt Ideal) (a8.view.writes (Elt Ideal) a8.view.junk L) y : EReal) = 0) (q : Fin 512) :
    (a8.view.readCov L (Rect.unit (s := S4x512) ![k, 0] S1x512.size inb).toLoadRect (ix2 0 q) : EReal) = 0 := by
  unfold View.readCov
  rw [View.readAt_apply]
  exact hL _ (by show k ≤ k + 1 * 0; omega)

/-- The zero block the body stores first. -/
theorem zero1 (y : S4x512.Idx) : (a8.view.read (Elt Ideal) (a8.view.writes (Elt Ideal) a8.view.junk kernelRun0_A.sl.H6_1) y : EReal) = 0 := by
  have h0 : (y 0).val < 4 := (y 0).isLt
  have h1 : (y 1).val < 512 := (y 1).isLt
  refine View.read_writes_apply_of_pieces (Val := Elt Ideal) (e := .f32) _ _ (fun _ => (0 : EReal)) _ ?_ y ?_
  · intro p hp x
    unfold kernelRun0_A.sl.H6_1 at hp
    simp only [List.mem_cons, List.not_mem_nil, or_false] at hp
    subst hp
    generalize hw : x = w
    idx_vars w
    pointwise [k0_pay3]
  · unfold kernelRun0_A.sl.H6_1
    refine ⟨_, List.mem_cons_self .., ?_⟩
    exact (Rect.mem_set_unit (inb := inb_S4x512_S4x512_0_0)).mpr (Fin.forall_fin_two.mpr ⟨⟨Nat.zero_le _, by show _ < 0 + 4; omega⟩, ⟨Nat.zero_le _, by show _ < 0 + 512; omega⟩⟩)

/-- After the first row's store the others are zero. -/
theorem zero2 (y : S4x512.Idx) (hy : 1 ≤ (y 0).val) :
    (a8.view.read (Elt Ideal) (a8.view.writes (Elt Ideal) a8.view.junk (kernelRun0_A.sl.H6_2 (F := Ideal) c i a2 h2 a3 h3 a4 h4 a5 h5 a6 h6 a8 a10 x0 x1 x2 x3 x4)) y : EReal) = 0 :=
  (View.read_writes_cons_miss_of_axis _ _ _ _ y (0 : Fin 2) 0 1 rfl rfl rfl (Or.inr (by omega))).trans (zero1 a8 y)

/-- After the second row's store the last two are zero. -/
theorem zero3 (y : S4x512.Idx) (hy : 2 ≤ (y 0).val) :
    (a8.view.read (Elt Ideal) (a8.view.writes (Elt Ideal) a8.view.junk (kernelRun0_A.sl.H6_3 (F := Ideal) c i a2 h2 a3 h3 a4 h4 a5 h5 a6 h6 a8 a10 x0 x1 x2 x3 x4)) y : EReal) = 0 :=
  (View.read_writes_cons_miss_of_axis _ _ _ _ y (0 : Fin 2) 1 1 rfl rfl rfl (Or.inr (by omega))).trans (zero2 c i a2 h2 a3 h3 a4 h4 a5 h5 a6 h6 a8 a10 x0 x1 x2 x3 x4 y (by omega))

/-- After the third row's store the last is zero. -/
theorem zero4 (y : S4x512.Idx) (hy : 3 ≤ (y 0).val) :
    (a8.view.read (Elt Ideal) (a8.view.writes (Elt Ideal) a8.view.junk (kernelRun0_A.sl.H6_4 (F := Ideal) c i a2 h2 a3 h3 a4 h4 a5 h5 a6 h6 a8 a10 x0 x1 x2 x3 x4)) y : EReal) = 0 :=
  (View.read_writes_cons_miss_of_axis _ _ _ _ y (0 : Fin 2) 2 1 rfl rfl rfl (Or.inr (by omega))).trans (zero3 c i a2 h2 a3 h3 a4 h4 a5 h5 a6 h6 a8 a10 x0 x1 x2 x3 x4 y (by omega))

/-- What the body leaves for the taps at the first point of a column block: the tile's part. -/
theorem outA6 (hc : cond0_0 i) (y : S4x512.Idx) :
    (out0_A_6 (F := Ideal) c i a2 h2 a3 h3 a4 h4 a5 h5 a6 h6 a7 h7 a8 h8 a9 h9 a10 h10 hc x0 x1 x2 x3 x4 y : EReal) = 0 + partW ((i 1).val = 0) x0 x1 x2 x3 x4 y := by
  obtain ⟨z0, z1, z2, z3⟩ := zeros
  unfold out0_A_6
  dsimp only [kernelRun0_A, kernelRun0_A.sl.H6_4, kernelRun0_A.sl.H6_3, kernelRun0_A.sl.H6_2]
  refine View.read_writes_apply_of_pieces (Val := Elt Ideal) (e := .f32) VO0_6 (VO0_6.writes (Elt Ideal) VO0_6.junk kernelRun0_A.sl.H6_1)
    (fun y => (0 + partW ((i 1).val = 0) x0 x1 x2 x3 x4 y : EReal)) [_, _, _, _] ?_ y ?_
  · intro p hp x
    simp only [List.mem_cons, List.not_mem_nil, or_false] at hp
    rcases hp with rfl | rfl | rfl | rfl
    · exact pieceW i a2 h2 a3 h3 a4 h4 a5 h5 a6 h6 a10 x0 x1 x2 x3 x4 k0_pay9 z3 (fun _ => 0) 3 (by omega) _ (fun q => zeroAt a8 _ 3 (by omega) _ (fun y hy => zero4 c i a2 h2 a3 h3 a4 h4 a5 h5 a6 h6 a8 a10 x0 x1 x2 x3 x4 y hy) q) x
    · exact pieceW i a2 h2 a3 h3 a4 h4 a5 h5 a6 h6 a10 x0 x1 x2 x3 x4 k0_pay8 z2 (fun _ => 0) 2 (by omega) _ (fun q => zeroAt a8 _ 2 (by omega) _ (fun y hy => zero3 c i a2 h2 a3 h3 a4 h4 a5 h5 a6 h6 a8 a10 x0 x1 x2 x3 x4 y hy) q) x
    · exact pieceW i a2 h2 a3 h3 a4 h4 a5 h5 a6 h6 a10 x0 x1 x2 x3 x4 k0_pay7 z1 (fun _ => 0) 1 (by omega) _ (fun q => zeroAt a8 _ 1 (by omega) _ (fun y hy => zero2 c i a2 h2 a3 h3 a4 h4 a5 h5 a6 h6 a8 a10 x0 x1 x2 x3 x4 y hy) q) x
    · exact pieceW i a2 h2 a3 h3 a4 h4 a5 h5 a6 h6 a10 x0 x1 x2 x3 x4 k0_pay6 z0 (fun _ => 0) 0 (by omega) _ (fun q => zeroAt a8 _ 0 (by omega) _ (fun y _ => zero1 a8 y) q) x
  · have h0 : (y 0).val < 4 := (y 0).isLt
    have h1 : (y 1).val < 512 := (y 1).isLt
    rcases (by omega : (y 0).val = 3 ∨ (y 0).val = 2 ∨ (y 0).val = 1 ∨ (y 0).val = 0) with h | h | h | h
    · refine ⟨_, List.mem_cons_self .., ?_⟩
      exact (Rect.mem_set_unit (inb := inW 3 (by omega))).mpr (Fin.forall_fin_two.mpr ⟨⟨by show 3 ≤ _; omega, by show _ < 3 + 1; omega⟩, ⟨Nat.zero_le _, by show _ < 0 + 512; omega⟩⟩)
    · refine ⟨_, List.mem_cons_of_mem _ (List.mem_cons_self ..), ?_⟩
      exact (Rect.mem_set_unit (inb := inW 2 (by omega))).mpr (Fin.forall_fin_two.mpr ⟨⟨by show 2 ≤ _; omega, by show _ < 2 + 1; omega⟩, ⟨Nat.zero_le _, by show _ < 0 + 512; omega⟩⟩)
    · refine ⟨_, List.mem_cons_of_mem _ (List.mem_cons_of_mem _ (List.mem_cons_self ..)), ?_⟩
      exact (Rect.mem_set_unit (inb := inW 1 (by omega))).mpr (Fin.forall_fin_two.mpr ⟨⟨by show 1 ≤ _; omega, by show _ < 1 + 1; omega⟩, ⟨Nat.zero_le _, by show _ < 0 + 512; omega⟩⟩)
    · refine ⟨_, List.mem_cons_of_mem _ (List.mem_cons_of_mem _ (List.mem_cons_of_mem _ (List.mem_cons_self ..))), ?_⟩
      exact (Rect.mem_set_unit (inb := inW 0 (by omega))).mpr (Fin.forall_fin_two.mpr ⟨⟨by show 0 ≤ _; omega, by show _ < 0 + 1; omega⟩, ⟨Nat.zero_le _, by show _ < 0 + 512; omega⟩⟩)

end run

/-- The rows a tile's body reads are the input's rows up to three before the tile's first. -/
theorem extAt (c : Dev nD) (t : Fin cfg0.N) (r : ℕ) (hr : r < 515) (q : Fin 512) (l : Fin 2048) (hl : l.val = 512 * (t.val / 32) + q.val) :
    ext (((grid0.coords t) 1).val = 0) (iblk m c 0 t) (iblk m c 1 t) (13 + r) q
      = prv (m ((c : Thread nD τ).loc main_arg0)) (512 * (t.val % 32) + r) l := by
  have ht : t.val < 128 := lt_of_lt_of_eq t.isLt N_0
  have e0 : V m c main_arg0 = m ((c : Thread nD τ).loc main_arg0) := V_main_arg0 m c
  rw [(idx t).2.2.2.2.2.2.2.2]
  unfold ext prv
  by_cases h : 13 + r < 16
  · rw [dif_pos h]
    by_cases h0 : t.val % 32 = 0
    · rw [if_pos h0, dif_neg (by omega)]
    · rw [if_neg h0, dif_pos (by omega)]
      rw [← e0]
      blk_point [iblk, idx t]
  · rw [dif_neg h, dif_pos (by omega), dif_pos (by omega)]
    rw [← e0]
    blk_point [iblk, idx t]

/-- The bias's block is the bias's lanes. -/
theorem blockBias (c : Dev nD) (t : Fin cfg0.N) (q : Fin 512) (l : Fin 2048) (hl : l.val = 512 * (t.val / 32) + q.val) :
    (iblk m c 3 t (ix2 0 q) : EReal) = m ((c : Thread nD τ).loc main_arg2) (ix1 l) := by
  have hv : V m c main_v0 = shapeCast S1x2048 (m ((c : Thread nD τ).loc main_arg2) : Vec Ideal S2048 .f32) shapeCasts_S2048_S1x2048 := by
    show StableHlo.after hostOps0 (fun b => m (c, b)) _ = _
    entry_read
    rfl
  have hi : ((cfg0.win 3).blk t).view.emb (ix2 0 q) = ix2 0 l := by blk_ext [idx t]
  refine (congrArg (V m c main_v0) hi).trans ((congrFun hv _).trans ?_)
  pointwise

/-- The given gradient is finite, as the precondition says. -/
structure Finite (c : Dev nD) : Prop where
  h3 : ∀ i, ∃ r : ℝ, ((m ((c : Thread nD τ).loc main_arg3)) i : EReal) = (r : EReal)

/-- The precondition gives real numbers. -/
theorem finite [Cert.Pre_conv_finite.Facts] (h : Cert.Pre_ConvBwdPreIdeal_conv_finite m) (c : Dev nD) : Finite m c where
  h3 i := by
    have := congrFun (h c) i
    simp only [Cert.Pre_conv_finite.fn] at this
    pointwise at this
    exact Silu.real32 (x := fun _ => (m ((c : Thread nD τ).loc main_arg3)) i) this

/-- A tile's rows of the convolution's gradient are the reference's. -/
theorem tileAt (c : Dev nD) (h : Finite m c) (t : Fin cfg0.N) (r q : Fin 512) (R : Fin 16384) (l : Fin 2048) (hR : R.val = 512 * (t.val % 32) + r.val)
    (hl : l.val = 512 * (t.val / 32) + q.val) :
    tile (((grid0.coords t) 1).val = 0) (iblk m c 0 t) (iblk m c 1 t) (iblk m c 2 t) (iblk m c 3 t) (iblk m c 4 t) r q
      = val_main_v37 (F := Ideal) (m ((c : Thread nD τ).loc main_arg0)) (m ((c : Thread nD τ).loc main_arg1)) (m ((c : Thread nD τ).loc main_arg2)) (m ((c : Thread nD τ).loc main_arg3)) (ix2 R l) := by
  have ht : t.val < 128 := lt_of_lt_of_eq t.isLt N_0
  have hr : r.val < 512 := r.isLt
  rw [refDp _ _ _ _ R l (h.h3 _)]
  have en : ∀ k : ℕ, k < 4 → ext (((grid0.coords t) 1).val = 0) (iblk m c 0 t) (iblk m c 1 t) (13 + r.val + k) q
      = prv (m ((c : Thread nD τ).loc main_arg0)) (R.val + k) l := fun k hk => by
    rw [show 13 + r.val + k = 13 + (r.val + k) by omega, extAt m c t _ (by omega) _ l hl]
    exact congrArg (prv _ · l) (by omega)
  have ew : ∀ k : Fin 4, (iblk m c 2 t (ix2 k q) : EReal) = m ((c : Thread nD τ).loc main_arg1) (ix2 k l) := fun k => by
    rw [← V_main_arg1 m c]
    blk_point [iblk, idx t]
  have ed : (iblk m c 4 t (ix2 r q) : EReal) = m ((c : Thread nD τ).loc main_arg3) (ix2 R l) := by
    rw [← V_main_arg3 m c]
    blk_point [iblk, idx t]
  have ep : pre (fun k => ext (((grid0.coords t) 1).val = 0) (iblk m c 0 t) (iblk m c 1 t) (13 + r.val + k) q) (fun k => iblk m c 2 t (ix2 k q)) (iblk m c 3 t (ix2 0 q))
      = pre (fun k => prv (m ((c : Thread nD τ).loc main_arg0)) (R.val + k) l) (fun k => m ((c : Thread nD τ).loc main_arg1) (ix2 k l)) (m ((c : Thread nD τ).loc main_arg2) (ix1 l)) := by
    unfold pre
    exact congr (congrArg HAdd.hAdd (congr (congrArg HAdd.hAdd (congr (congrArg HAdd.hAdd (congr (congrArg HAdd.hAdd (blockBias m c t q l hl))
      (congr (congrArg HMul.hMul (ew 0)) (en 0 (by omega))))) (congr (congrArg HMul.hMul (ew 1)) (en 1 (by omega)))))
      (congr (congrArg HMul.hMul (ew 2)) (en 2 (by omega))))) (congr (congrArg HMul.hMul (ew 3)) (en 3 (by omega)))
  exact congr (congrArg dp ep) ed

/-- The block of the convolution's gradient after a point. -/
theorem out5 (c : Dev nD) (t : Fin cfg0.N) (y : S512x512.Idx) : ((outsAt0 m c t.val t.isLt).1 y : EReal)
    = tile (((grid0.coords t) 1).val = 0) (iblk m c 0 t) (iblk m c 1 t) (iblk m c 2 t) (iblk m c 3 t) (iblk m c 4 t) (y 0) (y 1) := by
  by_cases h : t.val % 32 = 0
  · rw [outsAt0_A m c t h]
    dsimp only
    refine (outA5 _ _ _ _ _ _ _ _ _ _ _ _ _ _ _ _ _ _ _ _ _ _ _ _ _ _ y).trans ?_
    rfl
  · rw [outsAt0_B m c t h]
    dsimp only
    refine (outB5 _ _ _ _ _ _ _ _ _ _ _ _ _ _ _ _ _ _ _ _ _ _ _ _ _ _ _ _ y).trans ?_
    rfl

/-- The taps' block after a column block's last point is the sum of the tiles' parts. -/
theorem out6 (c : Dev nD) (t : Fin cfg0.N) (h7 : t.val % 32 = 32 - 1) (y : S4x512.Idx) :
    (outsAt0 m c t.val t.isLt).2.1 y
      = ∑ s : Fin 32, (fun t : Fin cfg0.N => partW (((grid0.coords t) 1).val = 0) (iblk m c 0 t) (iblk m c 1 t) (iblk m c 2 t) (iblk m c 3 t) (iblk m c 4 t) y)
        ⟨32 * (t.val / 32) + s.val, Pipeline.run_point_lt_of_flush t h7 s⟩ := by
  rw [Pipeline.eq_sum_fin_of_reset_step_apply_of_flush (M := EReal) (fun n h => (outsAt0 m c n h).2.1) 32 (fun _ => 0)
    (fun t j => partW (((grid0.coords t) 1).val = 0) (iblk m c 0 t) (iblk m c 1 t) (iblk m c 2 t) (iblk m c 3 t) (iblk m c 4 t) j)
    (fun t h j => by
      rw [outsAt0_A m c t h]
      dsimp only
      refine (outA6 _ _ _ _ _ _ _ _ _ _ _ _ _ _ _ _ _ _ _ _ _ _ _ _ _ _ j).trans ?_
      rfl)
    (fun t h j => by
      rw [outsAt0_B m c t h]
      dsimp only
      refine (outB6 _ _ _ _ _ _ _ _ _ _ _ _ _ _ _ _ _ _ _ _ _ _ _ _ _ _ _ _ j).trans ?_
      rfl)
    t h7 _, zero_add]

/-- The bias's block after a column block's last point is the sum of the tiles' parts. -/
theorem out7 (c : Dev nD) (t : Fin cfg0.N) (h7 : t.val % 32 = 32 - 1) (y : S1x512.Idx) :
    (outsAt0 m c t.val t.isLt).2.2 y
      = ∑ s : Fin 32, (fun t : Fin cfg0.N => partB (((grid0.coords t) 1).val = 0) (iblk m c 0 t) (iblk m c 1 t) (iblk m c 2 t) (iblk m c 3 t) (iblk m c 4 t) y)
        ⟨32 * (t.val / 32) + s.val, Pipeline.run_point_lt_of_flush t h7 s⟩ := by
  rw [Pipeline.eq_sum_fin_of_reset_step_apply_of_flush (M := EReal) (fun n h => (outsAt0 m c n h).2.2) 32 (fun _ => 0)
    (fun t j => partB (((grid0.coords t) 1).val = 0) (iblk m c 0 t) (iblk m c 1 t) (iblk m c 2 t) (iblk m c 3 t) (iblk m c 4 t) j)
    (fun t h j => by
      rw [outsAt0_A m c t h]
      dsimp only
      refine (outA7 _ _ _ _ _ _ _ _ _ _ _ _ _ _ _ _ _ _ _ _ _ _ _ _ _ _ j).trans ?_
      rfl)
    (fun t h j => by
      rw [outsAt0_B m c t h]
      dsimp only
      refine (outB7 _ _ _ _ _ _ _ _ _ _ _ _ _ _ _ _ _ _ _ _ _ _ _ _ _ _ _ _ j).trans ?_
      rfl)
    t h7 _, zero_add]

/-- After the run the first result array holds the reference's gradient of the convolution. -/
theorem final5 (c : Dev nD) (h : Finite m c) : (dats m 0 c).arrAt 5 (cfgs 0).N
    = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht : t.val < 128 := lt_of_lt_of_eq t.isLt N_0
  blk_simp
  rw [after0_5]
  refine (out5 m c t y).trans ?_
  obtain_idx j : S16384x2048 := [512 * (t.val % 32) + (y 0).val, 512 * (t.val / 32) + (y 1).val] with hj
  have hj' : ((cfg0.win 5).blk t).view.emb y = j := by blk_ext [idx t]
  rw [hj']
  idx_vars j
  idx_vars y
  exact tileAt m c h t y0 y1 j0 j1 hj0 hj1

/-- After the run the second result array holds the reference's gradient of the taps. -/
theorem final6 (c : Dev nD) (h : Finite m c) : (dats m 0 c).arrAt 6 (cfgs 0).N
    = val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val < 128 := lt_of_lt_of_eq t.isLt N_0
  blk_simp
  rw [after0_6]
  refine (out6 m c t ((flush0_6 t).mp hf) y).trans ?_
  idx_vars y
  have hy0 : y0.val < 4 := y0.isLt
  have hy1 : y1.val < 512 := y1.isLt
  have hj' : ((cfg0.win 6).blk t).view.emb (ix2 y0 y1) = ix2 (n0 := 4) (n1 := 2048) y0 ⟨512 * (t.val / 32) + y1.val, by omega⟩ := by
    blk_ext [idx t]
  rw [hj']
  refine Eq.trans ?_ (refDw _ _ _ _ y0 _).symm
  dsimp only [partW]
  refine Fin.sum_mul_add_congr fun s r hl => ?_
  have hs := Pipeline.run_point_lt_of_flush t ((flush0_6 t).mp hf) s
  have hr : r.val < 512 := r.isLt
  have hb := tileAt m c h ⟨32 * (t.val / 32) + s.val, hs⟩ r y1 ⟨s.val * 512 + r.val, hl⟩ ⟨512 * (t.val / 32) + y1.val, by omega⟩ (by dsimp only; omega) (by dsimp only; omega)
  have hg := extAt m c ⟨32 * (t.val / 32) + s.val, hs⟩ (r.val + y0.val) (by omega) y1 ⟨512 * (t.val / 32) + y1.val, by omega⟩ (by dsimp only; omega)
  refine (congr (congrArg HMul.hMul hb) ((congrArg (ext _ _ _ · y1) (by show 13 + r.val + y0.val = 13 + (r.val + y0.val); omega)).trans hg)).trans ((mul_comm _ _).trans ?_)
  refine congr (congrArg HMul.hMul (congrArg (prv _ · _) ?_)) rfl
  dsimp only
  omega

/-- After the run the third result array holds the reference's gradient of the bias, as one row. -/
theorem final7 (c : Dev nD) (h : Finite m c) : (dats m 0 c).arrAt 7 (cfgs 0).N
    = fun j : S1x2048.Idx => (val_main_v40 (F := Ideal) (m ((c : Thread nD τ).loc main_arg0)) (m ((c : Thread nD τ).loc main_arg1)) (m ((c : Thread nD τ).loc main_arg2)) (m ((c : Thread nD τ).loc main_arg3)) (ix1 (j 1)) : EReal) := by
  refine (dats m 0 c).arrAt_eq_of_covers 7 _ (by decide +kernel) fun t hf y => ?_
  have ht : t.val < 128 := lt_of_lt_of_eq t.isLt N_0
  blk_simp
  rw [after0_7]
  refine (out7 m c t ((flush0_7 t).mp hf) y).trans ?_
  idx_vars y
  have hy1 : y1.val < 512 := y1.isLt
  have hj' : ((cfg0.win 7).blk t).view.emb (ix2 y0 y1) = ix2 (n0 := 1) (n1 := 2048) 0 ⟨512 * (t.val / 32) + y1.val, by omega⟩ := by
    blk_ext [idx t]
  rw [hj']
  refine Eq.trans ?_ (refDb _ _ _ _ _).symm
  dsimp only [partB]
  refine Fin.sum_mul_add_congr fun s r hl => ?_
  have hs := Pipeline.run_point_lt_of_flush t ((flush0_7 t).mp hf) s
  have hr : r.val < 512 := r.isLt
  exact tileAt m c h ⟨32 * (t.val / 32) + s.val, hs⟩ r y1 ⟨s.val * 512 + r.val, hl⟩ ⟨512 * (t.val / 32) + y1.val, by omega⟩ (by dsimp only; omega) (by dsimp only; omega)

/-- A row of a row's function, without its axis of extent one, is the function. -/
theorem flat (v : Vec Ideal S1x2048 .f32) (f : Vec Ideal S2048 .f32) (h : v = fun j => f (ix1 (j 1))) :
    shapeCast S2048 v shapeCasts_S1x2048_S2048 = f := by
  subst h
  funext j
  idx_vars j
  pointwise

/-- What the line after the region leaves in the third result is the reference's gradient of the bias. -/
theorem finalDb (c : Dev nD) (h : Finite m c) : Pipeline.afterTail₀ cfgs (dats m) 0 (V0 m) [hostOps1] c main_v2
    = val_main_v40 (F := Ideal) (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ _ = _
  entry_read
  exact flat _ _ (((dats m 0 c).withArrays_arrAt sharedIn0 _ (A_eq m c) 7).trans (final7 m c h))

end Cert.ConvBwdPreIdeal.Final

end
-- ==== Proof.ConvValue.lean ====
/-
  The causal convolution and its SiLU: the kernel leaves in every row the SiLU of the bias plus the four taps times the
  rows up to that one, as the reference does.
-/
module

public import proofs.«01_k».proof.Proof.Gen.ConvIdeal.Frame
public import proofs.«01_k».proof.Proof.Gen.ConvRefIdeal.Read
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.WordCmp
public import Idealize.ShloMosaic.Lib.Writes
public import Idealize.ShloMosaic.Lib.WritesUnit
public import Idealize.ShloMosaic.Lib.Claim
public import proofs.«01_k».proof.Proof.SiluPure

@[expose] public section

set_option maxRecDepth 16384

noncomputable section

open Idealize.ShloMosaic Idealize.ShloMosaic.TcCoe Idealize.SL.Sem
open Idealize.ShloMosaic.Pipeline (Dat)

namespace Cert.ConvIdeal.Final

open Cert.ConvIdeal Cert.ConvIdeal.Gen Cert.ConvRefIdeal.Read

variable (m : (ℓ : Loc nD τ sig) → Buf (Elt Ideal) ℓ)

/-- Every window's block index at every point, and the row tile the body is told: column block t / 32, row tile t % 32. -/
theorem idx : ∀ t : Fin cfg0.N, win0_0.index t = ![t.val % 32, 7 + t.val / 32]
    ∧ win0_1.index t = ![t.val % 32 * 32 - 1, 7 + t.val / 32] ∧ win0_2.index t = ![0, t.val / 32]
    ∧ win0_3.index t = ![0, t.val / 32] ∧ win0_4.index t = ![t.val % 32, t.val / 32] ∧ ((grid0.coords t) 1).val = t.val % 32 :=
  (by decide +kernel : ∀ t : Fin grid0.N, _)

/-- A row of the convolution's input in one of its columns, three rows up: zero before the first. -/
def prv (x : FVec Ideal S16384x8704 .bf16) (r : ℕ) (l : Fin 3072) : EReal :=
  if h : 3 ≤ r ∧ r - 3 < 16384 then x (ix2 ⟨r - 3, h.2⟩ ⟨3584 + l.val, by have hl : l.val < 3072 := l.isLt; omega⟩) else 0

/-- The convolution of a row, from the four rows up to it, the taps and the bias. -/
def pre (n : ℕ → EReal) (w : Fin 4 → EReal) (b : EReal) : EReal := b + w 0 * n 0 + w 1 * n 1 + w 2 * n 2 + w 3 * n 3

/-- The convolution's SiLU. -/
def act (n : ℕ → EReal) (w : Fin 4 → EReal) (b : EReal) : EReal := pre n w b * Silu.sg (pre n w b)

/-- The reference's rows, three zeros put before them. -/
theorem rowAt (x0 : FVec Ideal S16384x8704 .bf16) (r : ℕ) (hr : r < 16387) (l : Fin 3072) :
    (val_main_v3 (F := Ideal) x0 (ix2 ⟨r, hr⟩ l) : EReal) = prv x0 r l := by
  have hl : l.val < 3072 := l.isLt
  unfold prv
  by_cases h : 3 ≤ r
  · rw [dif_pos ⟨h, by omega⟩]
    unfold val_main_v3
    refine (concatenate_pair_apply_right (t := Cert.ConvRefIdeal.S16387x3072) (s₁ := Cert.ConvRefIdeal.S3x3072) (s₂ := Cert.ConvRefIdeal.S16384x3072) 0 _ _ _ _ rfl rfl (ix2 ⟨r - 3, by omega⟩ l)
      (Fin.forall_fin_two.mpr ⟨fun h' => absurd rfl h', fun _ => rfl⟩) (by show r - 3 + 3 = r; omega)).trans ?_
    pointwise [val_main_v1, val_main_v0]
  · rw [dif_neg (fun h' => h h'.1)]
    unfold val_main_v3
    refine (concatenate_pair_apply_left (t := Cert.ConvRefIdeal.S16387x3072) (s₁ := Cert.ConvRefIdeal.S3x3072) (s₂ := Cert.ConvRefIdeal.S16384x3072) 0 _ _ _ _ rfl (ix2 ⟨r, by omega⟩ l)
      (Fin.forall_fin_two.mpr ⟨rfl, rfl⟩)).trans ?_
    pointwise [val_main_v2, val_main_cst]

/-- The reference's convolution at an index. -/
theorem preAt (x0 : FVec Ideal S16384x8704 .bf16) (x1 : FVec Ideal S4x3072 .f32) (x2 : FVec Ideal S3072 .f32) (r : Fin 16384) (l : Fin 3072) :
    (val_main_v35 (F := Ideal) x0 x1 x2 (ix2 r l) : EReal) = pre (fun k => prv x0 (r.val + k) l) (fun k => x1 (ix2 k l)) (x2 (ix1 l)) := by
  have e0 : (val_main_v4 (F := Ideal) x0 (ix2 r l) : EReal) = prv x0 (r.val + 0) l := by
    refine Eq.trans ?_ (rowAt x0 (r.val + 0) (by omega) l)
    pointwise [val_main_v4]
  have e1 : (val_main_v12 (F := Ideal) x0 (ix2 r l) : EReal) = prv x0 (r.val + 1) l := by
    refine (Eq.trans ?_ (rowAt x0 (1 + r.val) (by omega) l)).trans (congrArg (prv x0 · l) (by omega))
    pointwise [val_main_v12]
  have e2 : (val_main_v19 (F := Ideal) x0 (ix2 r l) : EReal) = prv x0 (r.val + 2) l := by
    refine (Eq.trans ?_ (rowAt x0 (2 + r.val) (by omega) l)).trans (congrArg (prv x0 · l) (by omega))
    pointwise [val_main_v19]
  have e3 : (val_main_v26 (F := Ideal) x0 (ix2 r l) : EReal) = prv x0 (r.val + 3) l := by
    refine (Eq.trans ?_ (rowAt x0 (3 + r.val) (by omega) l)).trans (congrArg (prv x0 · l) (by omega))
    pointwise [val_main_v26]
  have w0 : (val_main_v8 (F := Ideal) x1 (ix2 r l) : EReal) = x1 (ix2 0 l) := by
    pointwise [val_main_v8, val_main_v7, val_main_v6, val_main_v5]
  have w1 : (val_main_v16 (F := Ideal) x1 (ix2 r l) : EReal) = x1 (ix2 1 l) := by
    pointwise [val_main_v16, val_main_v15, val_main_v14, val_main_v13]
  have w2 : (val_main_v23 (F := Ideal) x1 (ix2 r l) : EReal) = x1 (ix2 2 l) := by
    pointwise [val_main_v23, val_main_v22, val_main_v21, val_main_v20]
  have w3 : (val_main_v30 (F := Ideal) x1 (ix2 r l) : EReal) = x1 (ix2 3 l) := by
    pointwise [val_main_v30, val_main_v29, val_main_v28, val_main_v27]
  have b : (val_main_v34 (F := Ideal) x2 (ix2 r l) : EReal) = x2 (ix1 l) := by
    pointwise [val_main_v34, val_main_v33]
  have z : (val_main_v10 (F := Ideal) (ix2 r l) : EReal) = 0 := by
    pointwise [val_main_v10, val_main_cst_0]
  unfold pre
  rw [val_main_v35_apply, val_main_v32_apply, val_main_v25_apply, val_main_v18_apply, val_main_v11_apply, val_main_v9_apply, val_main_v17_apply,
    val_main_v24_apply, val_main_v31_apply]
  refine (congr (congrArg HAdd.hAdd (congr (congrArg HAdd.hAdd (congr (congrArg HAdd.hAdd (congr (congrArg HAdd.hAdd (congr (congrArg HAdd.hAdd z)
    (congr (congrArg HMul.hMul e0) w0))) (congr (congrArg HMul.hMul e1) w1))) (congr (congrArg HMul.hMul e2) w2))) (congr (congrArg HMul.hMul e3) w3))) b).trans ?_
  rw [zero_add]
  dsimp only
  ac_rfl

/-- The reference's result at an index. -/
theorem refAt (x0 : FVec Ideal S16384x8704 .bf16) (x1 : FVec Ideal S4x3072 .f32) (x2 : FVec Ideal S3072 .f32) (r : Fin 16384) (l : Fin 3072) :
    (val_main_v37 (F := Ideal) x0 x1 x2 (ix2 r l) : EReal) = act (fun k => prv x0 (r.val + k) l) (fun k => x1 (ix2 k l)) (x2 (ix1 l)) := by
  unfold act
  rw [← preAt]
  pointwise [val_main_v37, val_main_v36, val_main_call0_v5, val_main_call0_v4, val_main_call0_cst_0, val_main_call0_v3, val_main_call0_v2,
    val_main_call0_cst, val_main_call0_v1, val_main_call0_v0, Silu.sg]

/-- The rows a tile's body reads: the 16 before it, which are zero before the first tile, and its own 512. -/
def ext (first : Prop) [Decidable first] (x0 : Vec Ideal S512x512 .bf16) (x1 : Vec Ideal S16x512 .bf16) (r : ℕ) (l : Fin 512) : EReal :=
  if h : r < 16 then (if first then 0 else x1 (ix2 ⟨r, h⟩ l)) else if h : r - 16 < 512 then x0 (ix2 ⟨r - 16, h⟩ l) else 0

/-- What the body computes of a tile at an index of its block. -/
def tile (first : Prop) [Decidable first] (x0 : Vec Ideal S512x512 .bf16) (x1 : Vec Ideal S16x512 .bf16) (x2 : Vec Ideal S4x512 .f32)
    (x3 : Vec Ideal S1x512 .f32) (y : S512x512.Idx) : EReal :=
  act (fun k => ext first x0 x1 (13 + (y 0).val + k) (y 1)) (fun k => x2 (ix2 k (y 1))) (x3 (ix2 0 (y 1)))

/-- The body's 32 rows, from the taps, the bias and the rows at the four offsets. -/
theorem payAt (w0 w1 w2 w3 b : Vec Ideal S1x512 .f32) (n0 n1 n2 n3 : Vec Ideal S32x512 .f32) (p : Fin 32) (q : Fin 512) (n : ℕ → EReal) (w : Fin 4 → EReal)
    (hw0 : (w0 (ix2 0 q) : EReal) = w 0) (hw1 : (w1 (ix2 0 q) : EReal) = w 1) (hw2 : (w2 (ix2 0 q) : EReal) = w 2) (hw3 : (w3 (ix2 0 q) : EReal) = w 3)
    (h0 : (n0 (ix2 p q) : EReal) = n 0) (h1 : (n1 (ix2 p q) : EReal) = n 1) (h2 : (n2 (ix2 p q) : EReal) = n 2) (h3 : (n3 (ix2 p q) : EReal) = n 3) :
    (k0_pay7 (F := Ideal) w0 w1 w2 w3 b n0 n1 n2 n3 (ix2 p q) : EReal) = act n w (b (ix2 0 q)) := by
  unfold act
  rw [← Silu.silu_eq]
  unfold pre
  rw [← hw0, ← hw1, ← hw2, ← hw3, ← h0, ← h1, ← h2, ← h3]
  pointwise [k0_pay7]
  rw [zero_sub]

section run

variable (c : Dev nD) (i : grid0.Coords) (a2 : Memref sig .tc .vmem S512x512 .bf16) (h2 : a2.IsWhole) (a3 : Memref sig .tc .vmem S16x512 .bf16) (h3 : a3.IsWhole)
  (a4 : Memref sig .tc .vmem S4x512 .f32) (h4 : a4.IsWhole) (a5 : Memref sig .tc .vmem S1x512 .f32) (h5 : a5.IsWhole)
  (a6 : Memref sig .tc .vmem S512x512 .bf16) (h6 : a6.IsWhole) (a7 : Memref sig .tc .vmem S528x512 .f32) (h7 : a7.IsWhole)
  (x0 : Vec Ideal S512x512 .bf16) (x1 : Vec Ideal S16x512 .bf16) (x2 : Vec Ideal S4x512 .f32) (x3 : Vec Ideal S1x512 .f32)

/-- Rows o, …, o + 31 lie in a block of 512 rows. -/
theorem in512 (o : ℕ) (h : o + 32 ≤ 512) : ∀ a : Fin 2, (![o, 0] : Fin 2 → ℕ) a + S32x512.size a ≤ S512x512.size a :=
  Fin.forall_fin_two.mpr ⟨h, le_refl 512⟩

/-- Rows o, …, o + 31 lie in the scratch. -/
theorem in528 (o : ℕ) (h : o + 32 ≤ 528) : ∀ a : Fin 2, (![o, 0] : Fin 2 → ℕ) a + S32x512.size a ≤ S528x512.size a :=
  Fin.forall_fin_two.mpr ⟨h, le_refl 512⟩

/-- The rows before the tile that the body stores are the tile before's last sixteen, or zero before the first. -/
theorem haloAt (p : S16x512.Idx) :
    (k0_pay1 (F := Ideal) i (View.readAt (Elt Ideal) a3.view (Rect.unit (s := S16x512) ![0, 0] ![16, 512] inb_S16x512_S16x512_0_0).toLoadRect (h3.unread x1)) p : EReal)
      = ext ((i 1).val = 0) x0 x1 (((Rect.unit (s := S528x512) ![0, 0] ![16, 512] inb_S528x512_S16x512_0_0).emb p) 0).val
          (((Rect.unit (s := S528x512) ![0, 0] ![16, 512] inb_S528x512_S16x512_0_0).emb p) 1) := by
  rw [View.readAt_eq_ld, Memref.IsWhole.read_unread]
  have hb : Scalar.cmpi .sgt (BitVec.ofNat 32 (i 1).val) 0#32 = if (i 1).val = 0 then 0#1 else 1#1 :=
    (by decide : ∀ n : Fin 32, Scalar.cmpi .sgt (BitVec.ofNat 32 n.val) 0#32 = if n.val = 0 then 0#1 else 1#1) (i 1)
  idx_vars p
  have h8 : p0.val < 16 := p0.isLt
  have e1 : ((Rect.unit (s := S528x512) ![0, 0] ![16, 512] inb_S528x512_S16x512_0_0).emb (ix2 p0 p1)) 1 = p1 := Fin.ext (by show 0 + 1 * p1.val = _; omega)
  have e0 : (((Rect.unit (s := S528x512) ![0, 0] ![16, 512] inb_S528x512_S16x512_0_0).emb (ix2 p0 p1)) 0).val = p0.val := by
    show 0 + 1 * p0.val = _; omega
  rw [e1, e0]
  unfold ext k0_pay1
  rw [dif_pos h8, hb]
  by_cases hi : (i 1).val = 0
  · rw [if_pos hi, if_pos hi]
    pointwise
  · rw [if_neg hi, if_neg hi]
    pointwise

/-- The rows of the tile that the body stores are the tile's. -/
theorem ownAt (p : S512x512.Idx) :
    (k0_pay2 (F := Ideal) (View.readAt (Elt Ideal) a2.view (Rect.unit (s := S512x512) ![0, 0] ![512, 512] inb_S512x512_S512x512_0_0).toLoadRect (h2.unread x0)) p : EReal)
      = ext ((i 1).val = 0) x0 x1 (((Rect.unit (s := S528x512) ![16, 0] ![512, 512] inb_S528x512_S512x512_16_0).emb p) 0).val
          (((Rect.unit (s := S528x512) ![16, 0] ![512, 512] inb_S528x512_S512x512_16_0).emb p) 1) := by
  rw [View.readAt_eq_ld, Memref.IsWhole.read_unread]
  idx_vars p
  have h8 : p0.val < 512 := p0.isLt
  have e1 : ((Rect.unit (s := S528x512) ![16, 0] ![512, 512] inb_S528x512_S512x512_16_0).emb (ix2 p0 p1)) 1 = p1 := Fin.ext (by show 0 + 1 * p1.val = _; omega)
  have e0 : (((Rect.unit (s := S528x512) ![16, 0] ![512, 512] inb_S528x512_S512x512_16_0).emb (ix2 p0 p1)) 0).val = 16 + p0.val := by
    show 16 + 1 * p0.val = _; omega
  rw [e1, e0]
  unfold ext
  rw [dif_neg (by omega), dif_pos (by omega)]
  pointwise [k0_pay2]

/-- A load of 32 rows of the scratch reads the rows the body put there. -/
theorem loadAt (o : ℕ) (h : o + 32 ≤ 528) (p : Fin 32) (q : Fin 512) :
    (a7.view.readCov (kernelRun0_A.sl.HS0_2 (F := Ideal) c i a2 h2 a3 h3 x0 x1)
      (Rect.unit (s := S528x512) ![o, 0] S32x512.size (in528 o h)).toLoadRect (ix2 p q) : EReal) = ext ((i 1).val = 0) x0 x1 (o + p.val) q := by
  unfold View.readCov
  rw [View.readAt_apply]
  obtain_idx z : S528x512 := [o + p.val, q.val] with hz
  have e : (Rect.unit (s := S528x512) ![o, 0] S32x512.size (in528 o h)).toLoadRect.idx (ix2 p q) = z :=
    funext (Fin.forall_fin_two.mpr ⟨Fin.ext (by rw [hz0]; show o + 1 * p.val = _; omega), Fin.ext (by rw [hz1]; show 0 + 1 * q.val = _; omega)⟩)
  rw [e]
  refine (View.read_writes_apply_of_pieces (Val := Elt Ideal) (e := .f32) _ _ (fun y => ext ((i 1).val = 0) x0 x1 (y 0).val (y 1)) _ ?_ z ?_).trans ?_
  · intro pc hp x
    dsimp only [kernelRun0_A.sl.HS0_2] at hp
    simp only [List.mem_cons, List.not_mem_nil, or_false] at hp
    rcases hp with rfl | rfl
    · exact ownAt i a2 h2 x0 x1 x
    · exact haloAt i a3 h3 x0 x1 x
  · have hz : (z 0).val < 528 := (z 0).isLt
    have hz' : (z 1).val < 512 := (z 1).isLt
    unfold kernelRun0_A.sl.HS0_2
    by_cases hr : (z 0).val < 16
    · refine ⟨_, List.mem_cons_of_mem _ (List.mem_cons_self ..), ?_⟩
      exact (Rect.mem_set_unit (inb := inb_S528x512_S16x512_0_0)).mpr (Fin.forall_fin_two.mpr ⟨⟨Nat.zero_le _, by show _ < 0 + 16; omega⟩, ⟨Nat.zero_le _, by show _ < 0 + 512; omega⟩⟩)
    · refine ⟨_, List.mem_cons_self .., ?_⟩
      exact (Rect.mem_set_unit (inb := inb_S528x512_S512x512_16_0)).mpr (Fin.forall_fin_two.mpr ⟨⟨by show 16 ≤ _; omega, by show _ < 16 + 512; omega⟩, ⟨Nat.zero_le _, by show _ < 0 + 512; omega⟩⟩)
  · dsimp only
    rw [hz0]
    exact congrArg (ext _ _ _ _) (Fin.ext hz1)

/-- A load of a tap reads its row. -/
theorem tapAt (o : ℕ) (inb) (ho : o < 4) (q : Fin 512) :
    (View.readAt (Elt Ideal) a4.view (Rect.unit (s := S4x512) ![o, 0] S1x512.size inb).toLoadRect (h4.unread x2) (ix2 0 q) : EReal)
      = x2 (ix2 ⟨o, ho⟩ q) := by
  rw [View.readAt_eq_ld, Memref.IsWhole.read_unread]
  refine congrArg x2 (funext (Fin.forall_fin_two.mpr ⟨Fin.ext ?_, Fin.ext ?_⟩))
  · show o + 1 * 0 = o
    omega
  · show 0 + 1 * q.val = q.val
    omega

/-- The load of the bias reads it. -/
theorem biasAt (q : Fin 512) : (kernelRun0_A.sl.r_4 (F := Ideal) c a5 h5 x3 (ix2 0 q) : EReal) = x3 (ix2 0 q) := by
  unfold kernelRun0_A.sl.r_4
  rw [View.readAt_eq_ld, Memref.IsWhole.read_unread]
  pointwise [k0_pay3]

/-- The body's 32 rows from row o on are the tile's. -/
theorem pieceAt (o : ℕ) (h : o + 32 ≤ 512) (p : S32x512.Idx) :
    (k0_pay7 (F := Ideal) (kernelRun0_A.sl.r c a4 h4 x2) (kernelRun0_A.sl.r_1 c a4 h4 x2) (kernelRun0_A.sl.r_2 c a4 h4 x2) (kernelRun0_A.sl.r_3 c a4 h4 x2)
      (kernelRun0_A.sl.r_4 c a5 h5 x3)
      (a7.view.readCov (kernelRun0_A.sl.HS0_2 (F := Ideal) c i a2 h2 a3 h3 x0 x1) (Rect.unit (s := S528x512) ![o + 13, 0] S32x512.size (in528 (o + 13) (by omega))).toLoadRect)
      (a7.view.readCov (kernelRun0_A.sl.HS0_2 (F := Ideal) c i a2 h2 a3 h3 x0 x1) (Rect.unit (s := S528x512) ![o + 14, 0] S32x512.size (in528 (o + 14) (by omega))).toLoadRect)
      (a7.view.readCov (kernelRun0_A.sl.HS0_2 (F := Ideal) c i a2 h2 a3 h3 x0 x1) (Rect.unit (s := S528x512) ![o + 15, 0] S32x512.size (in528 (o + 15) (by omega))).toLoadRect)
      (a7.view.readCov (kernelRun0_A.sl.HS0_2 (F := Ideal) c i a2 h2 a3 h3 x0 x1) (Rect.unit (s := S528x512) ![o + 16, 0] S32x512.size (in528 (o + 16) (by omega))).toLoadRect) p : EReal)
      = tile ((i 1).val = 0) x0 x1 x2 x3 ((Rect.unit (s := S512x512) ![o, 0] S32x512.size (in512 o h)).emb p) := by
  have hp0' : (p 0).val < 32 := (p 0).isLt
  have hp1' : (p 1).val < 512 := (p 1).isLt
  obtain_idx z : S512x512 := [o + (p 0).val, (p 1).val] with hz
  have e : (Rect.unit (s := S512x512) ![o, 0] S32x512.size (in512 o h)).emb p = z := by blk_ext []
  rw [e]
  idx_vars z
  idx_vars p
  obtain rfl : z1 = p1 := Fin.ext hz1
  have hv : z0.val = o + p0.val := hz0
  have hk : ∀ k : ℕ, ∀ hk : o + (13 + k) + 32 ≤ 528, (a7.view.readCov (kernelRun0_A.sl.HS0_2 (F := Ideal) c i a2 h2 a3 h3 x0 x1)
      (Rect.unit (s := S528x512) ![o + (13 + k), 0] S32x512.size (in528 (o + (13 + k)) hk)).toLoadRect (ix2 p0 z1) : EReal)
      = ext ((i 1).val = 0) x0 x1 (13 + z0.val + k) z1 :=
    fun k hk => (loadAt c i a2 h2 a3 h3 a7 x0 x1 (o + (13 + k)) hk p0 z1).trans (congrArg (ext _ x0 x1 · z1) (by omega))
  refine (payAt _ _ _ _ _ _ _ _ _ p0 z1 (fun k => ext ((i 1).val = 0) x0 x1 (13 + z0.val + k) z1) (fun k => x2 (ix2 k z1))
    (tapAt a4 h4 x2 0 _ (by omega) _) (tapAt a4 h4 x2 1 _ (by omega) _) (tapAt a4 h4 x2 2 _ (by omega) _) (tapAt a4 h4 x2 3 _ (by omega) _)
    (hk 0 (by omega)) (hk 1 (by omega)) (hk 2 (by omega)) (hk 3 (by omega))).trans ?_
  exact congrArg (act _ _) (biasAt c a5 h5 x3 z1)

/-- What the body leaves in the result's buffer. -/
theorem outAt (y : S512x512.Idx) :
    (out0_A_4 (F := Ideal) c i a2 h2 a3 h3 a4 h4 a5 h5 a6 h6 a7 h7 x0 x1 x2 x3 y : EReal) = tile ((i 1).val = 0) x0 x1 x2 x3 y := by
  unfold out0_A_4
  refine View.read_writes_apply_of_pieces (Val := Elt Ideal) (e := .bf16) _ _ (tile ((i 1).val = 0) x0 x1 x2 x3) _ ?_ y (cover0_A_4 c i a2 h2 a3 h3 a4 h4 a5 h5 a6 h6 a7 h7 x0 x1 x2 x3 y)
  have piece := pieceAt c i a2 h2 a3 h3 a4 h4 a5 h5 a7 x0 x1 x2 x3
  intro p hp x
  dsimp only [kernelRun0_A] at hp
  simp only [List.mem_cons, List.not_mem_nil, or_false] at hp
  rcases hp with rfl | rfl | rfl | rfl | rfl | rfl | rfl | rfl | rfl | rfl | rfl | rfl | rfl | rfl | rfl | rfl
  · exact piece 480 (by omega) x
  · exact piece 448 (by omega) x
  · exact piece 416 (by omega) x
  · exact piece 384 (by omega) x
  · exact piece 352 (by omega) x
  · exact piece 320 (by omega) x
  · exact piece 288 (by omega) x
  · exact piece 256 (by omega) x
  · exact piece 224 (by omega) x
  · exact piece 192 (by omega) x
  · exact piece 160 (by omega) x
  · exact piece 128 (by omega) x
  · exact piece 96 (by omega) x
  · exact piece 64 (by omega) x
  · exact piece 32 (by omega) x
  · exact piece 0 (by omega) x

end run

/-- The rows a tile's body reads are the input's rows up to three before the tile's first. -/
theorem extAt (c : Dev nD) (t : Fin cfg0.N) (r : ℕ) (hr : r < 515) (q : Fin 512) (l : Fin 3072) (hl : l.val = 512 * (t.val / 32) + q.val) :
    ext (((grid0.coords t) 1).val = 0) (iblk m c 0 t) (iblk m c 1 t) (13 + r) q
      = prv (m ((c : Thread nD τ).loc main_arg0)) (512 * (t.val % 32) + r) l := by
  have ht : t.val < 192 := lt_of_lt_of_eq t.isLt N_0
  have e0 : V m c main_arg0 = m ((c : Thread nD τ).loc main_arg0) := V_main_arg0 m c
  rw [(idx t).2.2.2.2.2]
  unfold ext prv
  by_cases h : 13 + r < 16
  · rw [dif_pos h]
    by_cases h0 : t.val % 32 = 0
    · rw [if_pos h0, dif_neg (by omega)]
    · rw [if_neg h0, dif_pos (by omega)]
      rw [← e0]
      blk_point [iblk, idx t]
  · rw [dif_neg h, dif_pos (by omega), dif_pos (by omega)]
    rw [← e0]
    blk_point [iblk, idx t]

/-- The bias's block is the bias's lanes. -/
theorem blockBias (c : Dev nD) (t : Fin cfg0.N) (q : Fin 512) (l : Fin 3072) (hl : l.val = 512 * (t.val / 32) + q.val) :
    (iblk m c 3 t (ix2 0 q) : EReal) = m ((c : Thread nD τ).loc main_arg2) (ix1 l) := by
  have hv : V m c main_v0 = shapeCast S1x3072 (m ((c : Thread nD τ).loc main_arg2) : Vec Ideal S3072 .f32) shapeCasts_S3072_S1x3072 := by
    show StableHlo.after hostOps0 (fun b => m (c, b)) _ = _
    entry_read
    rfl
  have hi : ((cfg0.win 3).blk t).view.emb (ix2 0 q) = ix2 0 l := by blk_ext [idx t]
  refine (congrArg (V m c main_v0) hi).trans ((congrFun hv _).trans ?_)
  pointwise

/-- After the run the result array holds the reference's convolution and SiLU. -/
theorem final4 (c : Dev nD) : (dats m 0 c).arrAt 4 (cfgs 0).N
    = val_main_v37 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 192 := lt_of_lt_of_eq t.isLt N_0
  blk_simp
  rw [after0_4]
  unfold outsAt0
  refine (outAt _ _ _ _ _ _ _ _ _ _ _ _ _ _ _ _ _ _ y).trans ?_
  obtain_idx j : S16384x3072 := [512 * (t.val % 32) + (y 0).val, 512 * (t.val / 32) + (y 1).val] with hj
  have hj' : ((cfg0.win 4).blk t).view.emb y = j := by blk_ext [idx t]
  rw [hj']
  idx_vars j
  idx_vars y
  rw [refAt]
  have hv0 : j0.val = 512 * (t.val % 32) + y0.val := hj0
  have hv1 : j1.val = 512 * (t.val / 32) + y1.val := hj1
  have hy0 : y0.val < 512 := y0.isLt
  have en : ∀ k : ℕ, k < 4 → ext (((grid0.coords t) 1).val = 0) (iblk m c 0 t) (iblk m c 1 t) (13 + y0.val + k) y1
      = prv (m ((c : Thread nD τ).loc main_arg0)) (j0.val + k) j1 := fun k hk => by
    rw [show 13 + y0.val + k = 13 + (y0.val + k) by omega, extAt m c t _ (by omega) _ j1 hv1]
    exact congrArg (prv _ · j1) (by omega)
  have ew : ∀ k : Fin 4, (iblk m c 2 t (ix2 k y1) : EReal) = m ((c : Thread nD τ).loc main_arg1) (ix2 k j1) := fun k => by
    rw [← V_main_arg1 m c]
    blk_point [iblk, idx t]
  have ep : pre (fun k => ext (((grid0.coords t) 1).val = 0) (iblk m c 0 t) (iblk m c 1 t) (13 + y0.val + k) y1) (fun k => iblk m c 2 t (ix2 k y1)) (iblk m c 3 t (ix2 0 y1))
      = pre (fun k => prv (m ((c : Thread nD τ).loc main_arg0)) (j0.val + k) j1) (fun k => m ((c : Thread nD τ).loc main_arg1) (ix2 k j1)) (m ((c : Thread nD τ).loc main_arg2) (ix1 j1)) := by
    unfold pre
    exact congr (congrArg HAdd.hAdd (congr (congrArg HAdd.hAdd (congr (congrArg HAdd.hAdd (congr (congrArg HAdd.hAdd (blockBias m c t y1 j1 hv1))
      (congr (congrArg HMul.hMul (ew 0)) (en 0 (by omega))))) (congr (congrArg HMul.hMul (ew 1)) (en 1 (by omega)))))
      (congr (congrArg HMul.hMul (ew 2)) (en 2 (by omega))))) (congr (congrArg HMul.hMul (ew 3)) (en 3 (by omega)))
  exact congrArg (fun x : EReal => x * Silu.sg x) ep

end Cert.ConvIdeal.Final

end
-- ==== Proof.FfnInDwValue.lean ====
/-
  The feed-forward input projection, the gradient of the weight: the tiled product of the kernel is the plain product of the reference.
-/
module

public import proofs.«01_k».proof.Proof.Gen.FfnInDwIdeal.Frame
public import proofs.«01_k».proof.Proof.Gen.FfnInDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInDwIdeal.Final

open Cert.FfnInDwIdeal Cert.FfnInDwIdeal.Gen Cert.FfnInDwRefIdeal.Read

variable (m : (ℓ : Loc nD τ sig) → Buf (Elt Ideal) ℓ)

/-- Every window's block index at every point. -/
theorem idx : ∀ t : Fin cfg0.N, win0_0.index t = ![t.val % 8, t.val / 32]
    ∧ win0_1.index t = ![t.val % 8, t.val / 8 % 4]
    ∧ win0_2.index t = ![t.val / 32, t.val / 8 % 4] :=
  (by decide +kernel : ∀ t : Fin grid0.N, _)

/-- The reference's result at an index. -/
theorem refAt (x0 : Vec Ideal S16384x1024 .bf16) (x1 : Vec Ideal S16384x5632 .bf16) (r : Fin 1024) (l : Fin 5632) :
    (val_main_v5 (F := Ideal) x0 x1 (ix2 r l) : EReal) = ∑ k : Fin 16384, (x0 (ix2 k r) : EReal) * x1 (ix2 k l) := by
  pointwise [val_main_v5, val_main_v4, val_main_v3, val_main_v2, val_main_v1, val_main_v0, val_main_cst]
  exact Finset.sum_congr rfl fun k _ => mul_comm _ _

/-- The body's product of two blocks at an index. -/
theorem payAt (v0 : Vec Ideal S2048x512 .bf16) (v1 : Vec Ideal S2048x1408 .bf16) (r : Fin 512) (l : Fin 1408) :
    (k0_pay2 (F := Ideal) v0 v1 (ix2 r l) : EReal) = ∑ k : Fin 2048, (v0 (ix2 k r) : EReal) * v1 (ix2 k l) := by
  pointwise [k0_pay3, k0_pay2, k0_pay1]

/-- The accumulating payload at an index. -/
theorem accAt (v0 : Vec Ideal S2048x512 .bf16) (v1 : Vec Ideal S2048x1408 .bf16) (v : Vec Ideal S512x1408 .f32) (j : S512x1408.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 8 = 8 - 1) (y : S512x1408.Idx) :
    (outsAt0 m c t.val t.isLt).1 y
      = ∑ s : Fin 8, (k0_pay2 (F := Ideal) (iblk m c 0 ⟨8 * (t.val / 8) + s.val, Pipeline.run_point_lt_of_flush t h7 s⟩) (iblk m c 1 ⟨8 * (t.val / 8) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 8 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 8 = 7
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 8 = 8 - 1) (y : S512x1408.Idx) :
    (∑ s : Fin 8, (k0_pay2 (F := Ideal) (iblk m c 0 ⟨8 * (t.val / 8) + s.val, Pipeline.run_point_lt_of_flush t h7 s⟩) (iblk m c 1 ⟨8 * (t.val / 8) + s.val, Pipeline.run_point_lt_of_flush t h7 s⟩) y : EReal))
      = val_main_v5 (F := Ideal) (m ((c : Thread nD τ).loc main_arg0)) (m ((c : Thread nD τ).loc main_arg1)) (((cfg0.win 2).blk t).view.emb y) := by
  have ht : t.val < 64 := lt_of_lt_of_eq t.isLt N_0
  obtain_idx j : S1024x5632 := [512 * (t.val / 32) + (y 0).val, 1408 * (t.val / 8 % 4) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.FfnInDwIdeal.Final
-- ==== Proof.FfnInDxValue.lean ====
/-
  The feed-forward input projection, the gradient of the activations: the tiled product of the kernel is the plain product of the reference.
-/
module

public import proofs.«01_k».proof.Proof.Gen.FfnInDxIdeal.Frame
public import proofs.«01_k».proof.Proof.Gen.FfnInDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInDxIdeal.Final

open Cert.FfnInDxIdeal Cert.FfnInDxIdeal.Gen Cert.FfnInDxRefIdeal.Read

variable (m : (ℓ : Loc nD τ sig) → Buf (Elt Ideal) ℓ)

/-- Every window's block index at every point. -/
theorem idx : ∀ t : Fin cfg0.N, win0_0.index t = ![t.val / 2, t.val % 2]
    ∧ win0_1.index t = ![0, t.val % 2]
    ∧ win0_2.index t = ![t.val / 2, 0] :=
  (by decide +kernel : ∀ t : Fin grid0.N, _)

/-- The reference's result at an index. -/
theorem refAt (x0 : Vec Ideal S16384x5632 .bf16) (x1 : Vec Ideal S1024x5632 .bf16) (r : Fin 16384) (l : Fin 1024) :
    (val_main_v4 (F := Ideal) x0 x1 (ix2 r l) : EReal) = ∑ k : Fin 5632, (x0 (ix2 r k) : EReal) * x1 (ix2 l k) := by
  pointwise [val_main_v4, val_main_v3, val_main_v2, val_main_v1, val_main_v0, val_main_cst]

/-- The body's product of two blocks at an index. -/
theorem payAt (v0 : Vec Ideal S512x2816 .bf16) (v1 : Vec Ideal S1024x2816 .bf16) (r : Fin 512) (l : Fin 1024) :
    (k0_pay2 (F := Ideal) v0 v1 (ix2 r l) : EReal) = ∑ k : Fin 2816, (v0 (ix2 r k) : EReal) * v1 (ix2 l k) := by
  pointwise [k0_pay3, k0_pay2, k0_pay1]

/-- The accumulating payload at an index. -/
theorem accAt (v0 : Vec Ideal S512x2816 .bf16) (v1 : Vec Ideal S1024x2816 .bf16) (v : Vec Ideal S512x1024 .f32) (j : S512x1024.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 2 = 2 - 1) (y : S512x1024.Idx) :
    (outsAt0 m c t.val t.isLt).1 y
      = ∑ s : Fin 2, (k0_pay2 (F := Ideal) (iblk m c 0 ⟨2 * (t.val / 2) + s.val, Pipeline.run_point_lt_of_flush t h7 s⟩) (iblk m c 1 ⟨2 * (t.val / 2) + s.val, Pipeline.run_point_lt_of_flush t h7 s⟩) y : EReal) := by
  have e : (outsAt0 m c t.val t.isLt).1 = (outsAt0 m c t.val t.isLt).2 := by
    rw [outsAt0_B m c t (by omega) (by omega) (by omega)]; frame_out
  rw [e, Pipeline.eq_sum_fin_of_reset_step_apply_of_flush (M := EReal) (fun n h => (outsAt0 m c n h).2) 2 (fun _ => 0)
    (fun t j => k0_pay2 (F := Ideal) (iblk m c 0 t) (iblk m c 1 t) j)
    (fun t h j => by rw [outsAt0_A m c t (by omega) (by omega) (by omega)]; frame_out; rw [zero_add])
    (fun t h j => by
      rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 2 = 2 - 1) (y : S512x1024.Idx) :
    (∑ s : Fin 2, (k0_pay2 (F := Ideal) (iblk m c 0 ⟨2 * (t.val / 2) + s.val, Pipeline.run_point_lt_of_flush t h7 s⟩) (iblk m c 1 ⟨2 * (t.val / 2) + s.val, Pipeline.run_point_lt_of_flush t h7 s⟩) y : EReal))
      = val_main_v4 (F := Ideal) (m ((c : Thread nD τ).loc main_arg0)) (m ((c : Thread nD τ).loc main_arg1)) (((cfg0.win 2).blk t).view.emb y) := by
  have ht : t.val < 64 := lt_of_lt_of_eq t.isLt N_0
  obtain_idx j : S16384x1024 := [512 * (t.val / 2) + (y 0).val, (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.FfnInDxIdeal.Final
-- ==== Proof.FfnInValue.lean ====
/-
  The feed-forward input projection, the forward product: the tiled product of the kernel is the plain product of the reference.
-/
module

public import proofs.«01_k».proof.Proof.Gen.FfnInIdeal.Frame
public import proofs.«01_k».proof.Proof.Gen.FfnInRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInIdeal.Final

open Cert.FfnInIdeal Cert.FfnInIdeal.Gen Cert.FfnInRefIdeal.Read

variable (m : (ℓ : Loc nD τ sig) → Buf (Elt Ideal) ℓ)

/-- Every window's block index at every point. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- The reference's result at an index. -/
theorem refAt (x0 : Vec Ideal S16384x1024 .bf16) (x1 : Vec Ideal S1024x5632 .bf16) (r : Fin 16384) (l : Fin 5632) :
    (val_main_v3 (F := Ideal) x0 x1 (ix2 r l) : EReal) = ∑ k : Fin 1024, (x0 (ix2 r k) : EReal) * x1 (ix2 k l) := by
  pointwise [val_main_v3, val_main_v2, val_main_v1, val_main_v0]

/-- The body's product of two blocks at an index. -/
theorem payAt (v0 : Vec Ideal S1024x1024 .bf16) (v1 : Vec Ideal S1024x1408 .bf16) (r : Fin 1024) (l : Fin 1408) :
    (k0_pay1 (F := Ideal) v0 v1 (ix2 r l) : EReal) = ∑ k : Fin 1024, (v0 (ix2 r k) : EReal) * v1 (ix2 k l) := by
  pointwise [k0_pay1]

/-- The body's product, at an index of its block, is the reference's result at the array index there. -/
theorem pointAt (c : Dev nD) (t : Fin cfg0.N) (y : S1024x1408.Idx) :
    k0_pay1 (F := Ideal) (iblk m c 0 t) (iblk m c 1 t) y
      = val_main_v3 (F := Ideal) (m ((c : Thread nD τ).loc main_arg0)) (m ((c : Thread nD τ).loc main_arg1)) (((cfg0.win 2).blk t).view.emb y) := by
  have ht : t.val < 64 := lt_of_lt_of_eq t.isLt N_0
  obtain_idx j : S16384x5632 := [1024 * (t.val / 4) + (y 0).val, 1408 * (t.val % 4) + (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.FfnInIdeal.Final
-- ==== Proof.FfnOutDwValue.lean ====
/-
  The feed-forward output projection, the gradient of the weight: the tiled product of the kernel is the plain product of the reference.
-/
module

public import proofs.«01_k».proof.Proof.Gen.FfnOutDwIdeal.Frame
public import proofs.«01_k».proof.Proof.Gen.FfnOutDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutDwIdeal.Final

open Cert.FfnOutDwIdeal Cert.FfnOutDwIdeal.Gen Cert.FfnOutDwRefIdeal.Read

variable (m : (ℓ : Loc nD τ sig) → Buf (Elt Ideal) ℓ)

/-- Every window's block index at every point. -/
theorem idx : ∀ t : Fin cfg0.N, win0_0.index t = ![t.val % 16, t.val / 32]
    ∧ win0_1.index t = ![t.val % 16, t.val / 16 % 2]
    ∧ win0_2.index t = ![t.val / 32, t.val / 16 % 2] :=
  (by decide +kernel : ∀ t : Fin grid0.N, _)

/-- The reference's result at an index. -/
theorem refAt (x0 : Vec Ideal S16384x2816 .bf16) (x1 : Vec Ideal S16384x1024 .f32) (r : Fin 2816) (l : Fin 1024) :
    (val_main_v4 (F := Ideal) x0 x1 (ix2 r l) : EReal) = ∑ k : Fin 16384, (x0 (ix2 k r) : EReal) * x1 (ix2 k l) := by
  pointwise [val_main_v4, val_main_v3, val_main_v2, val_main_v1, val_main_v0, val_main_cst]
  exact Finset.sum_congr rfl fun k _ => mul_comm _ _

/-- The body's product of two blocks at an index. -/
theorem payAt (v0 : Vec Ideal S1024x1408 .bf16) (v1 : Vec Ideal S1024x512 .f32) (r : Fin 1408) (l : Fin 512) :
    (k0_pay2 (F := Ideal) v0 v1 (ix2 r l) : EReal) = ∑ k : Fin 1024, (v0 (ix2 k r) : EReal) * v1 (ix2 k l) := by
  pointwise [k0_pay3, k0_pay2, k0_pay1]

/-- The accumulating payload at an index. -/
theorem accAt (v0 : Vec Ideal S1024x1408 .bf16) (v1 : Vec Ideal S1024x512 .f32) (v : Vec Ideal S1408x512 .f32) (j : S1408x512.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 16 = 16 - 1) (y : S1408x512.Idx) :
    (outsAt0 m c t.val t.isLt).1 y
      = ∑ s : Fin 16, (k0_pay2 (F := Ideal) (iblk m c 0 ⟨16 * (t.val / 16) + s.val, Pipeline.run_point_lt_of_flush t h7 s⟩) (iblk m c 1 ⟨16 * (t.val / 16) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 16 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 16 = 15
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 16 = 16 - 1) (y : S1408x512.Idx) :
    (∑ s : Fin 16, (k0_pay2 (F := Ideal) (iblk m c 0 ⟨16 * (t.val / 16) + s.val, Pipeline.run_point_lt_of_flush t h7 s⟩) (iblk m c 1 ⟨16 * (t.val / 16) + s.val, Pipeline.run_point_lt_of_flush t h7 s⟩) y : EReal))
      = val_main_v4 (F := Ideal) (m ((c : Thread nD τ).loc main_arg0)) (m ((c : Thread nD τ).loc main_arg1)) (((cfg0.win 2).blk t).view.emb y) := by
  have ht : t.val < 64 := lt_of_lt_of_eq t.isLt N_0
  obtain_idx j : S2816x1024 := [1408 * (t.val / 32) + (y 0).val, 512 * (t.val / 16 % 2) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.FfnOutDwIdeal.Final
-- ==== Proof.FfnOutDxValue.lean ====
/-
  The feed-forward output projection, the gradient of the activations: the tiled product of the kernel is the plain product of the reference.
-/
module

public import proofs.«01_k».proof.Proof.Gen.FfnOutDxIdeal.Frame
public import proofs.«01_k».proof.Proof.Gen.FfnOutDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutDxIdeal.Final

open Cert.FfnOutDxIdeal Cert.FfnOutDxIdeal.Gen Cert.FfnOutDxRefIdeal.Read

variable (m : (ℓ : Loc nD τ sig) → Buf (Elt Ideal) ℓ)

/-- Every window's block index at every point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- The reference's result at an index. -/
theorem refAt (x0 : Vec Ideal S16384x1024 .f32) (x1 : Vec Ideal S2816x1024 .bf16) (r : Fin 16384) (l : Fin 2816) :
    (val_main_v4 (F := Ideal) x0 x1 (ix2 r l) : EReal) = ∑ k : Fin 1024, (x0 (ix2 r k) : EReal) * x1 (ix2 l k) := by
  pointwise [val_main_v4, val_main_v3, val_main_v2, val_main_v1, val_main_v0, val_main_cst]

/-- The body's product of two blocks at an index. -/
theorem payAt (v0 : Vec Ideal S1024x1024 .f32) (v1 : Vec Ideal S1408x1024 .bf16) (r : Fin 1024) (l : Fin 1408) :
    (k0_pay1 (F := Ideal) v0 v1 (ix2 r l) : EReal) = ∑ k : Fin 1024, (v0 (ix2 r k) : EReal) * v1 (ix2 l k) := by
  pointwise [k0_pay1]

/-- The body's product, at an index of its block, is the reference's result at the array index there. -/
theorem pointAt (c : Dev nD) (t : Fin cfg0.N) (y : S1024x1408.Idx) :
    k0_pay1 (F := Ideal) (iblk m c 0 t) (iblk m c 1 t) y
      = val_main_v4 (F := Ideal) (m ((c : Thread nD τ).loc main_arg0)) (m ((c : Thread nD τ).loc main_arg1)) (((cfg0.win 2).blk t).view.emb y) := by
  have ht : t.val < 32 := lt_of_lt_of_eq t.isLt N_0
  obtain_idx j : S16384x2816 := [1024 * (t.val / 2) + (y 0).val, 1408 * (t.val % 2) + (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.FfnOutDxIdeal.Final
-- ==== Proof.FfnOutValue.lean ====
/-
  The feed-forward output projection, the forward product: the tiled product of the kernel is the plain product of the reference.
-/
module

public import proofs.«01_k».proof.Proof.Gen.FfnOutIdeal.Frame
public import proofs.«01_k».proof.Proof.Gen.FfnOutRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutIdeal.Final

open Cert.FfnOutIdeal Cert.FfnOutIdeal.Gen Cert.FfnOutRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The reference's result at an index. -/
theorem refAt (x0 : Vec Ideal S16384x2816 .bf16) (x1 : Vec Ideal S2816x1024 .bf16) (x2 : Vec Ideal S16384x1024 .f32) (r : Fin 16384) (l : Fin 1024) :
    (val_main_v3 (F := Ideal) x0 x1 x2 (ix2 r l) : EReal) = (x2 (ix2 r l) : EReal) + ∑ k : Fin 2816, (x0 (ix2 r k) : EReal) * x1 (ix2 k l) := by
  pointwise [val_main_v3, val_main_v2, val_main_v1, val_main_v0]

/-- The body's product of two blocks at an index. -/
theorem payAt (v0 : Vec Ideal S512x2816 .bf16) (v1 : Vec Ideal S2816x1024 .bf16) (v2 : Vec Ideal S512x1024 .f32) (r : Fin 512) (l : Fin 1024) :
    (k0_pay1 (F := Ideal) v0 v1 v2 (ix2 r l) : EReal) = (v2 (ix2 r l) : EReal) + ∑ k : Fin 2816, (v0 (ix2 r k) : EReal) * v1 (ix2 k l) := by
  pointwise [k0_pay1]
  exact add_comm _ _

/-- The body's product, at an index of its block, is the reference's result at the array index there. -/
theorem pointAt (c : Dev nD) (t : Fin cfg0.N) (y : S512x1024.Idx) :
    k0_pay1 (F := Ideal) (iblk m c 0 t) (iblk m c 1 t) (iblk m c 2 t) y
      = val_main_v3 (F := Ideal) (m ((c : Thread nD τ).loc main_arg0)) (m ((c : Thread nD τ).loc main_arg1)) (m ((c : Thread nD τ).loc main_arg2)) (((cfg0.win 3).blk t).view.emb y) := by
  have ht : t.val < 32 := lt_of_lt_of_eq t.isLt N_0
  obtain_idx j : S16384x1024 := [512 * (t.val) + (y 0).val, (y 1).val] with hj
  have hj' : ((cfg0.win 3).blk t).view.emb y = j := by blk_ext [idx t]
  rw [hj']
  idx_vars y
  idx_vars j
  refine (payAt (iblk m c 0 t) (iblk m c 1 t) (iblk m c 2 t) _ _).trans ?_
  rw [refAt]
  blk_point [iblk, V, idx t]

/-- What the kernel leaves in its result array is the reference's result. -/
theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact pointAt m c t y

end Cert.FfnOutIdeal.Final
-- ==== Proof.GateNormPure.lean ====
/-
  The gradient of a group's normalisation over finite numbers: the chain rule's terms, as the reference groups them, and
  the kernel's one term are the same real number.
-/
module

public import proofs.«01_k».proof.Proof.SiluPure

@[expose] public section

set_option maxRecDepth 16384

noncomputable section

open Idealize.ShloMosaic

namespace Cert.Group

/-- The pattern of five hundred and twelve, the length of a group. -/
theorem len_eq : Ideal.ofBits .f32 1140850688#32 = ((512 : ℝ) : EReal) := by
  simp [Ideal.ofBits, Ideal.ieee, -EReal.coe_mul]; norm_num

/-- The pattern of minus one half. -/
theorem neg_half_eq : Ideal.ofBits .f32 3204448256#32 = ((-(1 / 2) : ℝ) : EReal) := by
  simp [Ideal.ofBits, Ideal.ieee, -EReal.coe_mul, -EReal.coe_neg]; norm_num

/-- The small number under the root is a positive real. -/
theorem eps_eq : ∃ e : ℝ, 0 < e ∧ Ideal.ofBits .f32 897988541#32 = (e : EReal) := by
  refine ⟨_, ?_, by simp only [Ideal.ofBits, Ideal.ieee]; simp [-EReal.coe_mul]; rfl⟩
  norm_num

/-- A quotient by the length of a group is the product with the reciprocal. -/
theorem div_len (x : EReal) : Ideal.div x (Ideal.ofBits .f32 1140850688#32) = x * ((1 / 512 : ℝ) : EReal) := by
  have h : ((512 : ℝ) : EReal) ≠ 0 := by exact_mod_cast (by norm_num : (512 : ℝ) ≠ 0)
  rw [len_eq, Ideal.div, if_neg h, one_div, EReal.coe_inv]

/-- A finite sum of real numbers, taken in the extended reals. -/
theorem coe_sum (f : Fin 512 → ℝ) : ∑ x, (f x : EReal) = ((∑ x, f x : ℝ) : EReal) := by
  refine Finset.induction_on (motive := fun s => ∑ x ∈ s, (f x : EReal) = ((∑ x ∈ s, f x : ℝ) : EReal)) Finset.univ rfl fun a s ha ih => ?_
  rw [Finset.sum_insert ha, Finset.sum_insert ha, ih, EReal.coe_add]

/-- A group's mean square with the small number added. -/
def ms (g : Fin 512 → EReal) : EReal :=
  Ideal.div (∑ x, g x * g x) (Ideal.ofBits .f32 1140850688#32) + Ideal.ofBits .f32 897988541#32

/-- The reciprocal root of a group's mean square. -/
def rs (g : Fin 512 → EReal) : EReal := Ideal.rsqrt (ms g)

/-- The gradient of the gated values `g` of a group, from the gradient `d` of the normalised values, in the kernel's grouping. -/
def dg (g d : Fin 512 → EReal) (l : Fin 512) : EReal :=
  rs g * (d l - g l * rs g * Ideal.div (∑ x, d x * (g x * rs g)) (Ideal.ofBits .f32 1140850688#32))

/-- The factor of the chain rule's two terms that come from the mean square. -/
def fac (g d : Fin 512 → EReal) : EReal :=
  Ideal.div ((∑ x, g x * d x) * (Ideal.ofBits .f32 3204448256#32 * Ideal.div (rs g) (ms g))) (Ideal.ofBits .f32 1140850688#32)

/-- For finite numbers the chain rule's three terms are the kernel's gradient, and that is a real number. -/
theorem grad (g d : Fin 512 → EReal) (hg : ∀ x, ∃ r : ℝ, g x = (r : EReal)) (hd : ∀ x, ∃ r : ℝ, d x = (r : EReal)) (l : Fin 512) :
    d l * rs g + g l * fac g d + fac g d * g l = dg g d l ∧ ∃ r : ℝ, dg g d l = (r : EReal) := by
  choose a ha using hg
  choose b hb using hd
  obtain rfl : g = fun x => (a x : EReal) := funext ha
  obtain rfl : d = fun x => (b x : EReal) := funext hb
  obtain ⟨e, he, hE⟩ := eps_eq
  have hq : 0 ≤ ∑ x, a x * a x := Finset.sum_nonneg fun x _ => mul_self_nonneg _
  obtain ⟨v, hv, hms⟩ : ∃ v : ℝ, 0 < v ∧ ms (fun x => (a x : EReal)) = v := by
    refine ⟨(∑ x, a x * a x) * (1 / 512) + e, by positivity, ?_⟩
    unfold ms
    rw [div_len, hE]
    simp only [← EReal.coe_mul]
    rw [coe_sum, ← EReal.coe_mul, ← EReal.coe_add]
  have hr : rs (fun x => (a x : EReal)) = (((Real.sqrt v)⁻¹ : ℝ) : EReal) := by
    unfold rs
    rw [hms]
    show (if v < 0 then (⊥ : EReal) else if v = 0 then ⊤ else ((Real.sqrt v)⁻¹ : ℝ)) = _
    rw [if_neg (by linarith), if_neg hv.ne']
  have hv0 : (v : EReal) ≠ 0 := by exact_mod_cast hv.ne'
  have hvr : v⁻¹ = (Real.sqrt v)⁻¹ * (Real.sqrt v)⁻¹ := by rw [← mul_inv, Real.mul_self_sqrt hv.le]
  have hk : dg (fun x => (a x : EReal)) (fun x => (b x : EReal)) l
      = (((Real.sqrt v)⁻¹ * (b l - a l * (Real.sqrt v)⁻¹ * ((∑ x, b x * (a x * (Real.sqrt v)⁻¹)) * (1 / 512))) : ℝ) : EReal) := by
    unfold dg
    rw [hr, div_len]
    simp only [← EReal.coe_mul]
    rw [coe_sum]
    norm_cast
  have hf : fac (fun x => (a x : EReal)) (fun x => (b x : EReal))
      = (((∑ x, a x * b x) * (-(1 / 2) * ((Real.sqrt v)⁻¹ * v⁻¹)) * (1 / 512) : ℝ) : EReal) := by
    unfold fac
    rw [hr, hms, div_len, neg_half_eq, Ideal.div, if_neg hv0, ← EReal.coe_inv]
    simp only [← EReal.coe_mul]
    rw [coe_sum]
    norm_cast
  refine ⟨?_, _, hk⟩
  rw [hk, hf, hr, hvr]
  simp only [← EReal.coe_mul, ← EReal.coe_add]
  congr 1
  have hs : ∑ x, b x * (a x * (Real.sqrt v)⁻¹) = (∑ x, a x * b x) * (Real.sqrt v)⁻¹ := by
    rw [Finset.sum_mul]
    exact Finset.sum_congr rfl fun x _ => by ring
  rw [hs]
  ring

end Cert.Group

end
-- ==== Proof.GateNormBwdValue.lean ====
/-
  The backward pass of the gated group normalisation: on finite inputs the kernel leaves the reference's gradients of the input, of the gate and of the weights.
-/
module

public import proofs.«01_k».proof.Proof.Gen.GateNormBwdIdeal.Frame
public import proofs.«01_k».proof.Proof.Gen.GateNormBwdRefIdeal.Read
public import proofs.«01_k».proof.Proof.GateNormPure
public import proofs.«01_k».proof.Defs
public import Idealize.ShloMosaic.Lib.Pipeline.ValueKit.Acc
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateNormBwdIdeal.Final

open Cert.GateNormBwdIdeal Cert.GateNormBwdIdeal.Gen Cert.GateNormBwdRefIdeal.Read

variable (m : (ℓ : Loc nD τ sig) → Buf (Elt Ideal) ℓ)

/-- Every window's block index at every point: a point's group and its tile of rows. -/
theorem idx : ∀ t : Fin cfg0.N, win0_0.index t = ![t.val % 32, t.val / 32] ∧ win0_1.index t = ![t.val % 32, t.val / 32]
    ∧ win0_2.index t = ![t.val % 32, 3 + t.val / 32] ∧ win0_3.index t = ![0, t.val / 32] ∧ win0_4.index t = ![t.val % 32, t.val / 32]
    ∧ win0_5.index t = ![t.val % 32, t.val / 32] ∧ win0_6.index t = ![0, t.val / 32] :=
  (by decide +kernel : ∀ t : Fin grid0.N, _)

/-- A value times the gate's SiLU. -/
def gated (y z : EReal) : EReal := y * (z * Silu.sg z)

/-- The gated values of a group of a row. -/
def G (x1 : FVec Ideal S16384x2048 .f32) (x2 : FVec Ideal S16384x8704 .bf16) (r : Fin 16384) (q : Fin 4) (x : Fin 512) : EReal :=
  gated (x1 (ix2 r ⟨512 * q.val + x.val, by omega⟩)) (x2 (ix2 r ⟨1536 + (512 * q.val + x.val), by omega⟩))

/-- The gradient of a group of a row's normalised values: the given gradient times the weights. -/
def D (x0 : FVec Ideal S16384x2048 .f32) (x3 : FVec Ideal S2048 .f32) (r : Fin 16384) (q : Fin 4) (x : Fin 512) : EReal :=
  x0 (ix2 r ⟨512 * q.val + x.val, by omega⟩) * x3 (ix1 ⟨512 * q.val + x.val, by omega⟩)

/-- The reference's gated values, group by group. -/
theorem refG (x1 : FVec Ideal S16384x2048 .f32) (x2 : FVec Ideal S16384x8704 .bf16) (r : Fin 16384) (q : Fin 4) (l : Fin 512) :
    (val_main_v4 (F := Ideal) x1 x2 (ix3 r q l) : EReal) = G x1 x2 r q l := by
  pointwise [val_main_v0, val_main_v1, val_main_v2_0, val_main_v2_2, val_main_v3, val_main_v4, val_main_call0_v0, val_main_call0_v1, val_main_call0_v2, val_main_call0_v3, val_main_call0_v4, val_main_call0_cst, val_main_call0_cst_0, G, gated, Silu.sg]
  simp only [Nat.mul_comm q.val 512]

/-- The reference's gradient of the normalised values, group by group. -/
theorem refD (x0 : FVec Ideal S16384x2048 .f32) (x3 : FVec Ideal S2048 .f32) (r : Fin 16384) (q : Fin 4) (l : Fin 512) :
    (val_main_v28 (F := Ideal) x0 x3 (ix3 r q l) : EReal) = D x0 x3 r q l := by
  pointwise [val_main_v19, val_main_v25, val_main_v26, val_main_v28, D]
  simp only [Nat.mul_comm q.val 512]

/-- The reference's reciprocal root of a group's mean square. -/
theorem refRs (x1 : FVec Ideal S16384x2048 .f32) (x2 : FVec Ideal S16384x8704 .bf16) (r : Fin 16384) (q : Fin 4) (o : Fin 1) :
    (val_main_v12 (F := Ideal) x1 x2 (ix3 r q o) : EReal) = Group.rs (G x1 x2 r q) := by
  pointwise [val_main_v5, val_main_v6, val_main_v7, val_main_v8, val_main_v9, val_main_v10, val_main_v11, val_main_v12, val_main_cst, val_main_cst_0, val_main_cst_1, Group.rs, Group.ms]
  simp only [refG]

/-- The reference's factor of the terms that come from the mean square. -/
theorem refFac (x0 x1 : FVec Ideal S16384x2048 .f32) (x2 : FVec Ideal S16384x8704 .bf16) (x3 : FVec Ideal S2048 .f32) (r : Fin 16384) (q : Fin 4) :
    (val_main_v37 (F := Ideal) x0 x1 x2 x3 (ix2 r q) : EReal) = Group.fac (G x1 x2 r q) (D x0 x3 r q) := by
  pointwise [val_main_v5, val_main_v6, val_main_v7, val_main_v8, val_main_v9, val_main_v10, val_main_v11, val_main_cst, val_main_cst_0, val_main_cst_1, val_main_v13, val_main_cst_2, val_main_v14, val_main_v15, val_main_v29, val_main_cst_5, val_main_v30, val_main_v31, val_main_v34, val_main_cst_6, val_main_v35, val_main_v36, val_main_cst_7, val_main_v37, Group.fac, Group.ms]
  simp only [Finset.univ_unique, Finset.sum_singleton, refG, refD, refRs]

/-- The reference's gradient of the gated values, for finite numbers, in the kernel's grouping. -/
theorem refDg (x0 x1 : FVec Ideal S16384x2048 .f32) (x2 : FVec Ideal S16384x8704 .bf16) (x3 : FVec Ideal S2048 .f32) (r : Fin 16384) (q : Fin 4) (l : Fin 512)
    (hg : ∀ x, ∃ v : ℝ, G x1 x2 r q x = (v : EReal)) (hd : ∀ x, ∃ v : ℝ, D x0 x3 r q x = (v : EReal)) :
    (val_main_v43 (F := Ideal) x0 x1 x2 x3 (ix2 r ⟨512 * q.val + l.val, by omega⟩) : EReal) = Group.dg (G x1 x2 r q) (D x0 x3 r q) l := by
  refine Eq.trans ?_ (Group.grad _ _ hg hd l).1
  have e1 : (512 * q.val + l.val) / 512 = q.val := by omega
  have e2 : (512 * q.val + l.val) % 512 = l.val := by omega
  pointwise [val_main_v32, val_main_v33, val_main_v38, val_main_v39, val_main_v40, val_main_v41, val_main_v42, val_main_v43]
  simp only [refG, refD, refRs, refFac]

/-- The reference's gradient of the first input at an index. -/
theorem refDy (x0 x1 : FVec Ideal S16384x2048 .f32) (x2 : FVec Ideal S16384x8704 .bf16) (x3 : FVec Ideal S2048 .f32) (r : Fin 16384) (l : Fin 2048) :
    (val_main_v45 (F := Ideal) x0 x1 x2 x3 (ix2 r l) : EReal)
      = val_main_v43 (F := Ideal) x0 x1 x2 x3 (ix2 r l) * (x2 (ix2 r ⟨1536 + l.val, by omega⟩) * Silu.sg (x2 (ix2 r ⟨1536 + l.val, by omega⟩))) := by
  pointwise [val_main_v0, val_main_v1, val_main_v2_0, val_main_v2_2, val_main_call0_v0, val_main_call0_v1, val_main_call0_v2, val_main_call0_v3, val_main_call0_v4, val_main_call0_cst, val_main_call0_cst_0, val_main_v45, Silu.sg]

/-- The gradient of a gate: the gradient of the gated value times the value, times the derivative of SiLU. -/
def dz (d y z : EReal) : EReal := d * y * (Silu.sg z * (1 + z * (1 - Silu.sg z)))

/-- The reference's gradient of the gate at an index, for finite numbers. -/
theorem refDz (x0 x1 : FVec Ideal S16384x2048 .f32) (x2 : FVec Ideal S16384x8704 .bf16) (x3 : FVec Ideal S2048 .f32) (r : Fin 16384) (l : Fin 2048)
    (h43 : ∃ v : ℝ, (val_main_v43 (F := Ideal) x0 x1 x2 x3 (ix2 r l) : EReal) = (v : EReal)) (h1 : ∀ i, ∃ v : ℝ, (x1 i : EReal) = (v : EReal)) (h2 : ∀ i, ∃ v : ℝ, (x2 i : EReal) = (v : EReal)) :
    (val_main_v47 (F := Ideal) x0 x1 x2 x3 (ix2 r l) : EReal)
      = dz (val_main_v43 (F := Ideal) x0 x1 x2 x3 (ix2 r l)) (x1 (ix2 r l)) (x2 (ix2 r ⟨1536 + l.val, by omega⟩)) := by
  unfold dz
  refine Eq.trans ?_ (Silu.dsilu_coe (h2 _) (Silu.mul_coe h43 (h1 _))).symm
  rw [mul_comm (val_main_v43 (F := Ideal) x0 x1 x2 x3 (ix2 r l) : EReal)]
  pointwise [val_main_v0, val_main_v1, val_main_v2_1, val_main_v2_2, val_main_call0_v0, val_main_call0_v1, val_main_call0_v2, val_main_call0_v3, val_main_call0_v4, val_main_call0_cst, val_main_call0_cst_0, val_main_call0_cst_1, val_main_call0_v6, val_main_call0_v7, val_main_v44, val_main_call1_v0, val_main_call1_v1, val_main_call1_v2, val_main_v46, val_main_v47, Silu.sg]

/-- The reference's gradient of the weights at an index. -/
theorem refDw (x0 x1 : FVec Ideal S16384x2048 .f32) (x2 : FVec Ideal S16384x8704 .bf16) (q : Fin 4) (l : Fin 512) :
    (val_main_v27 (F := Ideal) x0 x1 x2 (ix1 ⟨512 * q.val + l.val, by omega⟩) : EReal)
      = ∑ k : Fin 16384, x0 (ix2 k ⟨512 * q.val + l.val, by omega⟩) * (G x1 x2 k q l * Group.rs (G x1 x2 k q)) := by
  have e1 : (512 * q.val + l.val) / 512 = q.val := by omega
  have e2 : (512 * q.val + l.val) % 512 = l.val := by omega
  pointwise [val_main_v16, val_main_v17, val_main_v18, val_main_v22, val_main_cst_3, val_main_v23, val_main_v24, val_main_cst_4, val_main_v27]
  simp only [Finset.univ_unique, Finset.sum_singleton, refG, refRs]
  exact Finset.sum_congr rfl fun k _ => mul_comm _ _

/-- The gated values of a row of a block. -/
def g (v0 : FVec Ideal S512x512 .bf16) (v2 : FVec Ideal S512x512 .f32) (r : Fin 512) (x : Fin 512) : EReal := gated (v2 (ix2 r x)) (v0 (ix2 r x))

/-- The gradient of a row of a block's normalised values. -/
def d (v20 : FVec Ideal S512x512 .f32) (v21 : FVec Ideal S1x512 .f32) (r : Fin 512) (x : Fin 512) : EReal := v20 (ix2 r x) * v21 (ix2 (n0 := 1) 0 x)

/-- The body's gate at an index. -/
theorem paySilu (v0 : FVec Ideal S512x512 .bf16) (y : S512x512.Idx) : (k0_pay5 (F := Ideal) v0 y : EReal) = v0 y * Silu.sg (v0 y) := by
  idx_vars y
  rw [← Silu.silu_eq]
  pointwise [k0_pay5, k0_pay4]
  simp only [zero_sub]

/-- The body's gated values. -/
theorem payG (v0 : FVec Ideal S512x512 .bf16) (v2 : FVec Ideal S512x512 .f32) (r l : Fin 512) : (k0_pay6 (F := Ideal) v0 v2 (ix2 r l) : EReal) = g v0 v2 r l := by
  unfold g gated
  rw [← paySilu]
  pointwise [k0_pay6]

/-- The body's reciprocal root of a row's mean square. -/
theorem payRs (v0 : FVec Ideal S512x512 .bf16) (v2 : FVec Ideal S512x512 .f32) (r : Fin 512) (o : Fin 1) : (k0_pay7 (F := Ideal) v0 v2 (ix2 r o) : EReal) = Group.rs (g v0 v2 r) := by
  pointwise [k0_pay7, Group.rs, Group.ms]
  simp only [payG]

/-- The body's normalised values. -/
theorem payN (v0 : FVec Ideal S512x512 .bf16) (v2 : FVec Ideal S512x512 .f32) (r l : Fin 512) :
    (k0_pay8 (F := Ideal) v0 v2 (ix2 r l) : EReal) = g v0 v2 r l * Group.rs (g v0 v2 r) := by
  pointwise [k0_pay8]
  simp only [payG, payRs]

/-- The body's gradient of the gated values. -/
theorem payDg (v0 : FVec Ideal S512x512 .bf16) (v2 v20 : FVec Ideal S512x512 .f32) (v21 : FVec Ideal S1x512 .f32) (r l : Fin 512) :
    (k0_pay9 (F := Ideal) v0 v2 v20 v21 (ix2 r l) : EReal) = Group.dg (g v0 v2 r) (d v20 v21 r) l := by
  pointwise [k0_pay9, Group.dg, d]
  simp only [payN, payRs]

/-- The body's gradient of the first input. -/
theorem payDy (v0 : FVec Ideal S512x512 .bf16) (v2 v20 : FVec Ideal S512x512 .f32) (v21 : FVec Ideal S1x512 .f32) (r l : Fin 512) :
    (k0_pay10 (F := Ideal) v0 v2 v20 v21 (ix2 r l) : EReal) = Group.dg (g v0 v2 r) (d v20 v21 r) l * (v0 (ix2 r l) * Silu.sg (v0 (ix2 r l))) := by
  rw [← paySilu, ← payDg]
  pointwise [k0_pay10]

/-- The body's gradient of the gate. -/
theorem payDz (v0 : FVec Ideal S512x512 .bf16) (v2 v20 : FVec Ideal S512x512 .f32) (v21 : FVec Ideal S1x512 .f32) (r l : Fin 512) :
    (k0_pay1 (F := Ideal) (k0_pay4 v0) (k0_pay11 v0 v2 v20 v21) k0_pay12 (ix2 r l) : EReal) = dz (Group.dg (g v0 v2 r) (d v20 v21 r) l) (v2 (ix2 r l)) (v0 (ix2 r l)) := by
  rw [← payDg]
  pointwise [k0_pay1, k0_pay4, k0_pay11, k0_pay12, dz, Silu.sg]
  simp only [zero_sub]

/-- The body's gradient of the weights over the rows of one block. -/
def part (v0 : FVec Ideal S512x512 .bf16) (v2 v20 : FVec Ideal S512x512 .f32) (j : S1x512.Idx) : EReal :=
  ∑ k : Fin 512, v20 (ix2 (n1 := 512) k (j 1)) * (g v0 v2 k (j 1) * Group.rs (g v0 v2 k))

/-- The accumulating payload at an index. -/
theorem accAt (v0 : FVec Ideal S512x512 .bf16) (v2 v20 : FVec Ideal S512x512 .f32) (v : FVec Ideal S1x512 .f32) (j : S1x512.Idx) :
    (k0_pay3 (F := Ideal) (k0_pay8 v0 v2) v20 v j : EReal) = v j + part v0 v2 v20 j := by
  idx_vars j
  pointwise [k0_pay3, part]
  simp only [payN]

/-- The block of the weights at an index. -/
theorem blk3 (c : Dev nD) (t : Fin cfg0.N) (ht : t.val < 128) (x : Fin 512) :
    (iblk m c 3 t (ix2 (n0 := 1) 0 x) : EReal) = m ((c : Thread nD τ).loc main_arg3) (ix1 ⟨512 * (t.val / 32) + x.val, by omega⟩) := by
  have hv : V m c main_v0 = shapeCast S1x2048 (m ((c : Thread nD τ).loc main_arg3) : Vec Ideal S2048 .f32) shapeCasts_S2048_S1x2048 := by
    show StableHlo.after hostOps0 (fun b => m (c, b)) _ = _
    entry_read
    rfl
  have hi : ((cfg0.win 3).blk t).view.emb (ix2 (n0 := 1) 0 x) = ix2 (n0 := 1) (n1 := 2048) 0 ⟨512 * (t.val / 32) + x.val, by omega⟩ := by blk_ext [idx t]
  refine (congrArg (V m c main_v0) hi).trans ((congrFun hv _).trans ?_)
  pointwise

/-- The block of the given gradient at an index. -/
theorem blk0 (c : Dev nD) (t : Fin cfg0.N) (ht : t.val < 128) (r x : Fin 512) :
    (iblk m c 0 t (ix2 r x) : EReal) = m ((c : Thread nD τ).loc main_arg0) (ix2 ⟨512 * (t.val % 32) + r.val, by omega⟩ ⟨512 * (t.val / 32) + x.val, by omega⟩) := by
  blk_point [iblk, V, idx t]

/-- The block of the first input at an index. -/
theorem blk1 (c : Dev nD) (t : Fin cfg0.N) (ht : t.val < 128) (r x : Fin 512) :
    (iblk m c 1 t (ix2 r x) : EReal) = m ((c : Thread nD τ).loc main_arg1) (ix2 ⟨512 * (t.val % 32) + r.val, by omega⟩ ⟨512 * (t.val / 32) + x.val, by omega⟩) := by
  blk_point [iblk, V, idx t]

/-- The block of the gate at an index. -/
theorem blk2 (c : Dev nD) (t : Fin cfg0.N) (ht : t.val < 128) (r x : Fin 512) :
    (iblk m c 2 t (ix2 r x) : EReal) = m ((c : Thread nD τ).loc main_arg2) (ix2 ⟨512 * (t.val % 32) + r.val, by omega⟩ ⟨1536 + (512 * (t.val / 32) + x.val), by omega⟩) := by
  blk_point [iblk, V, idx t]

/-- The gated values of a row of a point's blocks are those of the row of the arrays. -/
theorem gAt (c : Dev nD) (t : Fin cfg0.N) (ht : t.val < 128) (r : Fin 512) :
    g (iblk m c 2 t) (iblk m c 1 t) r = G (m ((c : Thread nD τ).loc main_arg1)) (m ((c : Thread nD τ).loc main_arg2)) ⟨512 * (t.val % 32) + r.val, by omega⟩ ⟨t.val / 32, by omega⟩ :=
  funext fun x => (congrArg₂ gated (blk1 m c t ht r x) (blk2 m c t ht r x) :)

/-- The gradient of a row of a point's normalised values is that of the row of the arrays. -/
theorem dAt (c : Dev nD) (t : Fin cfg0.N) (ht : t.val < 128) (r : Fin 512) :
    d (iblk m c 0 t) (iblk m c 3 t) r = D (m ((c : Thread nD τ).loc main_arg0)) (m ((c : Thread nD τ).loc main_arg3)) ⟨512 * (t.val % 32) + r.val, by omega⟩ ⟨t.val / 32, by omega⟩ :=
  funext fun x => (congrArg₂ (fun a b : EReal => a * b) (blk0 m c t ht r x) (blk3 m c t ht x) :)

/-- The block of the first result after a point. -/
theorem out4 (c : Dev nD) (t : Fin cfg0.N) : (outsAt0 m c t.val t.isLt).1 = k0_pay10 (F := Ideal) (iblk m c 2 t) (iblk m c 1 t) (iblk m c 0 t) (iblk m c 3 t) := by
  by_cases h : t.val % 32 = 0
  · rw [outsAt0_A m c t h]; frame_out
  · rw [outsAt0_B m c t h]; frame_out

/-- The block of the second result after a point. -/
theorem out5 (c : Dev nD) (t : Fin cfg0.N) : (outsAt0 m c t.val t.isLt).2.1
    = k0_pay1 (F := Ideal) (k0_pay4 (iblk m c 2 t)) (k0_pay11 (iblk m c 2 t) (iblk m c 1 t) (iblk m c 0 t) (iblk m c 3 t)) k0_pay12 := by
  by_cases h : t.val % 32 = 0
  · rw [outsAt0_A m c t h]; frame_out
  · rw [outsAt0_B m c t h]; frame_out

/-- The accumulator after a group's last point is the sum of the parts of the group's points. -/
theorem out6 (c : Dev nD) (t : Fin cfg0.N) (h7 : t.val % 32 = 32 - 1) (y : S1x512.Idx) :
    (outsAt0 m c t.val t.isLt).2.2 y
      = ∑ s : Fin 32, part (iblk m c 2 ⟨32 * (t.val / 32) + s.val, Pipeline.run_point_lt_of_flush t h7 s⟩) (iblk m c 1 ⟨32 * (t.val / 32) + s.val, Pipeline.run_point_lt_of_flush t h7 s⟩) (iblk m c 0 ⟨32 * (t.val / 32) + s.val, Pipeline.run_point_lt_of_flush t h7 s⟩) y := by
  rw [Pipeline.eq_sum_fin_of_reset_step_apply_of_flush (M := EReal) (fun n h => (outsAt0 m c n h).2.2) 32 (fun _ => 0)
    (fun t j => part (iblk m c 2 t) (iblk m c 1 t) (iblk m c 0 t) j)
    (fun t h j => by
      rw [outsAt0_A m c t (by omega)]; frame_out; rw [accAt]
      refine congrArg (· + _) ?_
      pointwise [k0_pay2])
    (fun t h j => by
      rw [outsAt0_B m c t (by omega)]; frame_out; rw [accAt])
    t h7 _, zero_add]

/-- The arrays hold real numbers, as the precondition says. -/
structure Finite (c : Dev nD) : Prop where
  h0 : ∀ i, ∃ r : ℝ, ((m ((c : Thread nD τ).loc main_arg0)) i : EReal) = (r : EReal)
  h1 : ∀ i, ∃ r : ℝ, ((m ((c : Thread nD τ).loc main_arg1)) i : EReal) = (r : EReal)
  h2 : ∀ i, ∃ r : ℝ, ((m ((c : Thread nD τ).loc main_arg2)) i : EReal) = (r : EReal)
  h3 : ∀ i, ∃ r : ℝ, ((m ((c : Thread nD τ).loc main_arg3)) i : EReal) = (r : EReal)

/-- The precondition gives real numbers. -/
theorem finite [Cert.Pre_gate_norm_finite.Facts] (h : Cert.Pre_GateNormBwdIdeal_gate_norm_finite m) (c : Dev nD) : Finite m c where
  h0 i := by
    have := congrFun (h c).1 i
    simp only [Cert.Pre_gate_norm_finite.fn] at this
    pointwise at this
    exact Silu.real32 (x := fun _ => (m ((c : Thread nD τ).loc main_arg0)) i) this
  h1 i := by
    have := congrFun (h c).2.1 i
    simp only [Cert.Pre_gate_norm_finite.fn] at this
    pointwise at this
    exact Silu.real32 (x := fun _ => (m ((c : Thread nD τ).loc main_arg1)) i) this
  h2 i := by
    have := congrFun (h c).2.2.1 i
    simp only [Cert.Pre_gate_norm_finite.fn] at this
    pointwise at this
    exact Silu.real16 (x := fun _ => (m ((c : Thread nD τ).loc main_arg2)) i) this
  h3 i := by
    have := congrFun (h c).2.2.2 i
    simp only [Cert.Pre_gate_norm_finite.fn] at this
    pointwise at this
    exact Silu.real32 (x := fun _ => (m ((c : Thread nD τ).loc main_arg3)) i) this

variable {m}

/-- The gated values of a row are real numbers. -/
theorem Finite.g {c : Dev nD} (h : Finite m c) (r : Fin 16384) (q : Fin 4) (x : Fin 512) : ∃ v : ℝ, G (m ((c : Thread nD τ).loc main_arg1)) (m ((c : Thread nD τ).loc main_arg2)) r q x = (v : EReal) := by
  unfold G gated
  obtain ⟨z, hz⟩ := h.h2 (ix2 r ⟨1536 + (512 * q.val + x.val), by omega⟩)
  exact Silu.mul_coe (h.h1 _) (Silu.mul_coe ⟨z, hz⟩ (by rw [hz]; exact Silu.sg_coe z))

/-- The gradients of a row's normalised values are real numbers. -/
theorem Finite.d {c : Dev nD} (h : Finite m c) (r : Fin 16384) (q : Fin 4) (x : Fin 512) : ∃ v : ℝ, D (m ((c : Thread nD τ).loc main_arg0)) (m ((c : Thread nD τ).loc main_arg3)) r q x = (v : EReal) :=
  Silu.mul_coe (h.h0 _) (h.h3 _)

/-- The reference's gradient of the gated values at an index of a point's blocks is the body's. -/
theorem Finite.dg {c : Dev nD} (h : Finite m c) (t : Fin cfg0.N) (ht : t.val < 128) (r l : Fin 512) :
    (val_main_v43 (F := Ideal) (m ((c : Thread nD τ).loc main_arg0)) (m ((c : Thread nD τ).loc main_arg1)) (m ((c : Thread nD τ).loc main_arg2)) (m ((c : Thread nD τ).loc main_arg3)) (ix2 ⟨512 * (t.val % 32) + r.val, by omega⟩ ⟨512 * (t.val / 32) + l.val, by omega⟩) : EReal)
      = Group.dg (Final.g (iblk m c 2 t) (iblk m c 1 t) r) (Final.d (iblk m c 0 t) (iblk m c 3 t) r) l := by
  rw [gAt m c t ht r, dAt m c t ht r]
  exact refDg _ _ _ _ _ ⟨t.val / 32, by omega⟩ l (h.g _ _) (h.d _ _)

/-- What the kernel leaves in its first result array is the reference's gradient of the first input. -/
theorem final4 (c : Dev nD) (h : Finite m c) : (dats m 0 c).arrAt 4 (cfgs 0).N = val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 128 := lt_of_lt_of_eq t.isLt N_0
  blk_simp
  rw [after0_4, out4]
  idx_vars y
  have hj' : ((cfg0.win 4).blk t).view.emb (ix2 y0 y1) = ix2 (n0 := 16384) (n1 := 2048) ⟨512 * (t.val % 32) + y0.val, by omega⟩ ⟨512 * (t.val / 32) + y1.val, by omega⟩ := by
    blk_ext [idx t]
  rw [hj']
  refine (payDy _ _ _ _ _ _).trans (Eq.trans ?_ (refDy _ _ _ _ _ _).symm)
  exact congr (congrArg HMul.hMul (h.dg t ht y0 y1).symm) (congrArg (fun z : EReal => z * Silu.sg z) (blk2 m c t ht y0 y1))

/-- What the kernel leaves in its second result array is the reference's gradient of the gate. -/
theorem final5 (c : Dev nD) (h : Finite m c) : (dats m 0 c).arrAt 5 (cfgs 0).N = val_main_v47 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht : t.val < 128 := lt_of_lt_of_eq t.isLt N_0
  blk_simp
  rw [after0_5, out5]
  idx_vars y
  have hj' : ((cfg0.win 5).blk t).view.emb (ix2 y0 y1) = ix2 (n0 := 16384) (n1 := 2048) ⟨512 * (t.val % 32) + y0.val, by omega⟩ ⟨512 * (t.val / 32) + y1.val, by omega⟩ := by
    blk_ext [idx t]
  rw [hj']
  have hr := h.dg t ht y0 y1
  refine (payDz _ _ _ _ _ _).trans (Eq.trans ?_ (refDz _ _ _ _ _ _ ?_ h.h1 h.h2).symm)
  · exact congr (congr (congrArg dz hr.symm) (blk1 m c t ht y0 y1)) (blk2 m c t ht y0 y1)
  · rw [hr, gAt m c t ht y0, dAt m c t ht y0]
    exact (Group.grad _ _ (h.g _ _) (h.d _ _) _).2

variable (m)

/-- What the kernel leaves in its third result array is the reference's gradient of the weights, as one row. -/
theorem final6 (c : Dev nD) : (dats m 0 c).arrAt 6 (cfgs 0).N
    = fun j : S1x2048.Idx => (val_main_v27 (F := Ideal) (m ((c : Thread nD τ).loc main_arg0)) (m ((c : Thread nD τ).loc main_arg1)) (m ((c : Thread nD τ).loc main_arg2)) (ix1 (j 1)) : EReal) := by
  refine (dats m 0 c).arrAt_eq_of_covers 6 _ (by decide +kernel) fun t hf y => ?_
  have ht : t.val < 128 := lt_of_lt_of_eq t.isLt N_0
  blk_simp
  rw [after0_6]
  refine (out6 m c t ((flush0_6 t).mp hf) y).trans ?_
  idx_vars y
  have hj' : ((cfg0.win 6).blk t).view.emb (ix2 y0 y1) = ix2 (n0 := 1) (n1 := 2048) 0 ⟨512 * (t.val / 32) + y1.val, by omega⟩ := by
    blk_ext [idx t]
  rw [hj']
  refine Eq.trans ?_ (refDw _ _ _ ⟨t.val / 32, by omega⟩ y1).symm
  unfold part
  refine Fin.sum_mul_add_congr fun s k hl => ?_
  have hs := Pipeline.run_point_lt_of_flush t ((flush0_6 t).mp hf) s
  have hq : (32 * (t.val / 32) + s.val) / 32 = t.val / 32 := by omega
  have hk : 512 * ((32 * (t.val / 32) + s.val) % 32) + k.val = s.val * 512 + k.val := by omega
  have hb := blk0 m c ⟨32 * (t.val / 32) + s.val, hs⟩ (lt_of_lt_of_eq hs N_0) k y1
  have hg := gAt m c ⟨32 * (t.val / 32) + s.val, hs⟩ (lt_of_lt_of_eq hs N_0) k
  simp only [hq, hk] at hb hg
  exact congr (congrArg HMul.hMul hb) (congrArg (fun f : Fin 512 → EReal => f y1 * Group.rs f) hg)

/-- A row of a row's function, without its axis of extent one, is the function. -/
theorem flat (v : Vec Ideal S1x2048 .f32) (f : Vec Ideal S2048 .f32) (h : v = fun j => f (ix1 (j 1))) :
    shapeCast S2048 v shapeCasts_S1x2048_S2048 = f := by
  subst h
  funext j
  idx_vars j
  pointwise

/-- What the line after the region leaves in the third result is the reference's gradient of the weights. -/
theorem finalDw (c : Dev nD) : Pipeline.afterTail₀ cfgs (dats m) 0 (V0 m) [hostOps1] c main_v2
    = val_main_v27 (F := Ideal) (m ((c : Thread nD τ).loc main_arg0)) (m ((c : Thread nD τ).loc main_arg1)) (m ((c : Thread nD τ).loc main_arg2)) := by
  unfold Pipeline.afterTail₀
  show StableHlo.after hostOps1 _ _ = _
  entry_read
  exact flat _ _ ((Pipeline.withArrays_arr (cfgs 0).spec launch0.win.arr_inj c _ _ 6).trans (final6 m c))

end Cert.GateNormBwdIdeal.Final

end
-- ==== Proof.GateNormValue.lean ====
/-
  The gated group normalisation: the kernel leaves, in each group of 512 channels, the gated values over the root of their mean square, times the weights, as the reference defines it.
-/
module

public import proofs.«01_k».proof.Proof.Gen.GateNormIdeal.Frame
public import proofs.«01_k».proof.Proof.Gen.GateNormRefIdeal.Read
public import proofs.«01_k».proof.Proof.SiluPure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateNormIdeal.Final

open Cert.GateNormIdeal Cert.GateNormIdeal.Gen Cert.GateNormRefIdeal.Read

variable (m : (ℓ : Loc nD τ sig) → Buf (Elt Ideal) ℓ)

/-- Every window's block index at every point: the gate's channels begin three blocks into the projection. -/
theorem idx : ∀ t : Fin cfg0.N, win0_0.index t = ![t.val / 4, t.val % 4] ∧ win0_1.index t = ![t.val / 4, 3 + t.val % 4]
    ∧ win0_2.index t = ![0, t.val % 4] ∧ win0_3.index t = ![t.val / 4, t.val % 4] :=
  (by decide +kernel : ∀ t : Fin grid0.N, _)

/-- The normalised value of a group's channel: the gated values `g` over the root of their mean square, times the channel's weight. -/
def nrm (g w : Fin 512 → EReal) (l : Fin 512) : EReal :=
  g l * Ideal.rsqrt (Ideal.div (∑ k, g k * g k) (Ideal.ofBits .f32 1140850688#32) + Ideal.ofBits .f32 897988541#32) * w l

/-- A value times the gate's SiLU. -/
def gated (y z : EReal) : EReal := y * (z * Silu.sg z)

/-- The reference's result at an index. -/
theorem refAt (x0 : FVec Ideal S16384x2048 .f32) (x1 : FVec Ideal S16384x8704 .bf16) (x2 : FVec Ideal S2048 .f32) (r : Fin 16384) (q : Fin 4) (l : Fin 512) :
    (val_main_v19 (F := Ideal) x0 x1 x2 (ix2 r ⟨512 * q.val + l.val, by omega⟩) : EReal)
      = nrm (fun x => gated (x0 (ix2 r ⟨512 * q.val + x.val, by omega⟩)) (x1 (ix2 r ⟨1536 + (512 * q.val + x.val), by omega⟩)))
        (fun x => x2 (ix1 ⟨512 * q.val + x.val, by omega⟩)) l := by
  have e1 : (512 * q.val + l.val) / 512 = q.val := by omega
  have e2 : (512 * q.val + l.val) % 512 = l.val := by omega
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, nrm, gated, Silu.sg]
  simp only [Nat.mul_comm q.val 512]

/-- The body's value at an index of its block. -/
theorem payAt (v0 : FVec Ideal S512x512 .f32) (v1 : FVec Ideal S512x512 .bf16) (v20 : FVec Ideal S1x512 .f32) (r : Fin 512) (l : Fin 512) :
    (k0_pay1 (F := Ideal) v0 v1 v20 (ix2 r l) : EReal) = nrm (fun x => gated (v0 (ix2 r x)) (v1 (ix2 r x))) (fun x => v20 (ix2 (n0 := 1) 0 x)) l := by
  simp only [nrm, gated, ← Silu.silu_eq]
  pointwise [k0_pay1]
  simp only [zero_sub]

/-- The block of the weights at an index. -/
theorem blk2 (c : Dev nD) (t : Fin cfg0.N) (x : Fin 512) :
    (iblk m c 2 t (ix2 (n0 := 1) 0 x) : EReal) = m ((c : Thread nD τ).loc main_arg2) (ix1 ⟨512 * (t.val % 4) + x.val, by omega⟩) := by
  have hv : V m c main_v0 = shapeCast S1x2048 (m ((c : Thread nD τ).loc main_arg2) : Vec Ideal S2048 .f32) shapeCasts_S2048_S1x2048 := by
    show StableHlo.after hostOps0 (fun b => m (c, b)) _ = _
    entry_read
    rfl
  have hi : ((cfg0.win 2).blk t).view.emb (ix2 (n0 := 1) 0 x) = ix2 (n0 := 1) (n1 := 2048) 0 ⟨512 * (t.val % 4) + x.val, by omega⟩ := by blk_ext [idx t]
  refine (congrArg (V m c main_v0) hi).trans ((congrFun hv _).trans ?_)
  pointwise

/-- After the run the result array holds the reference's result. -/
theorem final3 (c : Dev nD) : (dats m 0 c).arrAt 3 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 128 := lt_of_lt_of_eq t.isLt N_0
  blk_simp
  rw [after0_3]
  frame_out
  idx_vars y
  have hj' : ((cfg0.win 3).blk t).view.emb (ix2 y0 y1) = ix2 (n0 := 16384) (n1 := 2048) ⟨512 * (t.val / 4) + y0.val, by omega⟩ ⟨512 * (t.val % 4) + y1.val, by omega⟩ := by
    blk_ext [idx t]
  rw [hj']
  refine Eq.trans ?_ (refAt _ _ _ _ ⟨t.val % 4, by omega⟩ _).symm
  refine (payAt _ _ _ _ _).trans ?_
  have hV0 : V m c main_arg0 = m ((c : Thread nD τ).loc main_arg0) := by
    show StableHlo.after hostOps0 (fun b => m (c, b)) _ = _
    entry_read
    rfl
  have hV1 : V m c main_arg1 = m ((c : Thread nD τ).loc main_arg1) := by
    show StableHlo.after hostOps0 (fun b => m (c, b)) _ = _
    entry_read
    rfl
  have e0 : ∀ x : Fin 512, (iblk m c 0 t (ix2 y0 x) : EReal) = m ((c : Thread nD τ).loc main_arg0) (ix2 ⟨512 * (t.val / 4) + y0.val, by omega⟩ ⟨512 * (t.val % 4) + x.val, by omega⟩) := fun x => by
    refine Eq.trans ?_ (congrFun hV0 _)
    blk_point [iblk, idx t]
  have e1 : ∀ x : Fin 512, (iblk m c 1 t (ix2 y0 x) : EReal) = m ((c : Thread nD τ).loc main_arg1) (ix2 ⟨512 * (t.val / 4) + y0.val, by omega⟩ ⟨1536 + (512 * (t.val % 4) + x.val), by omega⟩) := fun x => by
    refine Eq.trans ?_ (congrFun hV1 _)
    blk_point [iblk, idx t]
  exact congr (congr (congrArg nrm (funext fun x => congr (congrArg gated (e0 x)) (e1 x))) (funext (blk2 m c t))) rfl

end Cert.GateNormIdeal.Final

end
-- ==== Proof.InProjDtDwValue.lean ====
/-
  The projection onto the time steps, the gradient of the weight: the tiled product of the kernel is the plain product of the reference.
-/
module

public import proofs.«01_k».proof.Proof.Gen.InProjDtDwIdeal.Frame
public import proofs.«01_k».proof.Proof.Gen.InProjDtDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDtDwIdeal.Final

open Cert.InProjDtDwIdeal Cert.InProjDtDwIdeal.Gen Cert.InProjDtDwRefIdeal.Read

variable (m : (ℓ : Loc nD τ sig) → Buf (Elt Ideal) ℓ)

/-- Every window's block index at every point. -/
theorem idx : ∀ t : Fin cfg0.N, win0_0.index t = ![t.val, 0]
    ∧ win0_1.index t = ![t.val, 0]
    ∧ win0_2.index t = ![0, 0] :=
  (by decide +kernel : ∀ t : Fin grid0.N, _)

/-- The reference's result at an index. -/
theorem refAt (x0 : Vec Ideal S16384x1024 .bf16) (x1 : Vec Ideal S16384x128 .f32) (r : Fin 1024) (l : Fin 128) :
    (val_main_v4 (F := Ideal) x0 x1 (ix2 r l) : EReal) = ∑ k : Fin 16384, (x0 (ix2 k r) : EReal) * x1 (ix2 k l) := by
  pointwise [val_main_v4, val_main_v3, val_main_v2, val_main_v1, val_main_v0, val_main_cst]
  exact Finset.sum_congr rfl fun k _ => mul_comm _ _

/-- The body's product of two blocks at an index. -/
theorem payAt (v0 : Vec Ideal S4096x1024 .bf16) (v1 : Vec Ideal S4096x128 .f32) (r : Fin 1024) (l : Fin 128) :
    (k0_pay2 (F := Ideal) v0 v1 (ix2 r l) : EReal) = ∑ k : Fin 4096, (v0 (ix2 k r) : EReal) * v1 (ix2 k l) := by
  pointwise [k0_pay3, k0_pay2, k0_pay1]

/-- The accumulating payload at an index. -/
theorem accAt (v0 : Vec Ideal S4096x1024 .bf16) (v1 : Vec Ideal S4096x128 .f32) (v : Vec Ideal S1024x128 .f32) (j : S1024x128.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 4 = 4 - 1) (y : S1024x128.Idx) :
    (outsAt0 m c t.val t.isLt).1 y
      = ∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 4 (fun _ => 0)
    (fun t j => k0_pay2 (F := Ideal) (iblk m c 0 t) (iblk m c 1 t) j)
    (fun t h j => by have ht : t.val < 4 := lt_of_lt_of_eq t.isLt N_0; rw [outsAt0_A m c t (by omega) (by omega) (by omega)]; frame_out; rw [zero_add])
    (fun t h j => by
      by_cases h' : t.val % 4 = 3
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 4 = 4 - 1) (y : S1024x128.Idx) :
    (∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal))
      = val_main_v4 (F := Ideal) (m ((c : Thread nD τ).loc main_arg0)) (m ((c : Thread nD τ).loc main_arg1)) (((cfg0.win 2).blk t).view.emb y) := by
  have ht : t.val < 4 := lt_of_lt_of_eq t.isLt N_0
  obtain_idx j : S1024x128 := [(y 0).val, (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.InProjDtDwIdeal.Final
-- ==== Proof.InProjDtDxValue.lean ====
/-
  The projection onto the time steps, the gradient of the activations: the tiled product of the kernel is the plain product of the reference.
-/
module

public import proofs.«01_k».proof.Proof.Gen.InProjDtDxIdeal.Frame
public import proofs.«01_k».proof.Proof.Gen.InProjDtDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDtDxIdeal.Final

open Cert.InProjDtDxIdeal Cert.InProjDtDxIdeal.Gen Cert.InProjDtDxRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x128 .f32) (x1 : Vec Ideal S1024x128 .bf16) (r : Fin 16384) (l : Fin 1024) :
    (val_main_v3 (F := Ideal) x0 x1 (ix2 r l) : EReal) = ∑ k : Fin 128, (x0 (ix2 r k) : EReal) * x1 (ix2 l k) := by
  pointwise [val_main_v3, val_main_v2, val_main_v1, val_main_v0, val_main_cst]

/-- The body's product of two blocks at an index. -/
theorem payAt (v0 : Vec Ideal S2048x128 .f32) (v1 : Vec Ideal S1024x128 .bf16) (r : Fin 2048) (l : Fin 1024) :
    (k0_pay1 (F := Ideal) v0 v1 (ix2 r l) : EReal) = ∑ k : Fin 128, (v0 (ix2 r k) : EReal) * v1 (ix2 l k) := by
  pointwise [k0_pay1]

/-- The body's product, at an index of its block, is the reference's result at the array index there. -/
theorem pointAt (c : Dev nD) (t : Fin cfg0.N) (y : S2048x1024.Idx) :
    k0_pay1 (F := Ideal) (iblk m c 0 t) (iblk m c 1 t) y
      = val_main_v3 (F := Ideal) (m ((c : Thread nD τ).loc main_arg0)) (m ((c : Thread nD τ).loc main_arg1)) (((cfg0.win 2).blk t).view.emb y) := by
  have ht : t.val < 8 := lt_of_lt_of_eq t.isLt N_0
  obtain_idx j : S16384x1024 := [2048 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.InProjDtDxIdeal.Final
-- ==== Proof.InProjDtValue.lean ====
/-
  The projection onto the time steps, the forward product: the tiled product of the kernel is the plain product of the reference.
-/
module

public import proofs.«01_k».proof.Proof.Gen.InProjDtIdeal.Frame
public import proofs.«01_k».proof.Proof.Gen.InProjDtRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDtIdeal.Final

open Cert.InProjDtIdeal Cert.InProjDtIdeal.Gen Cert.InProjDtRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x1024 .bf16) (x1 : Vec Ideal S1024x128 .bf16) (r : Fin 16384) (l : Fin 128) :
    (val_main_v2 (F := Ideal) x0 x1 (ix2 r l) : EReal) = ∑ k : Fin 1024, (x0 (ix2 r k) : EReal) * x1 (ix2 k l) := by
  pointwise [val_main_v2, val_main_v1, val_main_v0]

/-- The body's product of two blocks at an index. -/
theorem payAt (v0 : Vec Ideal S2048x1024 .bf16) (v1 : Vec Ideal S1024x128 .bf16) (r : Fin 2048) (l : Fin 128) :
    (k0_pay1 (F := Ideal) v0 v1 (ix2 r l) : EReal) = ∑ k : Fin 1024, (v0 (ix2 r k) : EReal) * v1 (ix2 k l) := by
  pointwise [k0_pay1]

/-- The body's product, at an index of its block, is the reference's result at the array index there. -/
theorem pointAt (c : Dev nD) (t : Fin cfg0.N) (y : S2048x128.Idx) :
    k0_pay1 (F := Ideal) (iblk m c 0 t) (iblk m c 1 t) y
      = val_main_v2 (F := Ideal) (m ((c : Thread nD τ).loc main_arg0)) (m ((c : Thread nD τ).loc main_arg1)) (((cfg0.win 2).blk t).view.emb y) := by
  have ht : t.val < 8 := lt_of_lt_of_eq t.isLt N_0
  obtain_idx j : S16384x128 := [2048 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.InProjDtIdeal.Final
-- ==== Proof.InProjDwValue.lean ====
/-
  The input projection, the gradient of the weight: the tiled product of the kernel is the plain product of the reference.
-/
module

public import proofs.«01_k».proof.Proof.Gen.InProjDwIdeal.Frame
public import proofs.«01_k».proof.Proof.Gen.InProjDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDwIdeal.Final

open Cert.InProjDwIdeal Cert.InProjDwIdeal.Gen Cert.InProjDwRefIdeal.Read

variable (m : (ℓ : Loc nD τ sig) → Buf (Elt Ideal) ℓ)

/-- Every window's block index at every point. -/
theorem idx : ∀ t : Fin cfg0.N, win0_0.index t = ![t.val % 4, t.val / 68]
    ∧ win0_1.index t = ![t.val % 4, t.val / 4 % 17]
    ∧ win0_2.index t = ![t.val / 68, t.val / 4 % 17] :=
  (by decide +kernel : ∀ t : Fin grid0.N, _)

/-- The reference's result at an index. -/
theorem refAt (x0 : Vec Ideal S16384x1024 .bf16) (x1 : Vec Ideal S16384x8704 .bf16) (r : Fin 1024) (l : Fin 8704) :
    (val_main_v5 (F := Ideal) x0 x1 (ix2 r l) : EReal) = ∑ k : Fin 16384, (x0 (ix2 k r) : EReal) * x1 (ix2 k l) := by
  pointwise [val_main_v5, val_main_v4, val_main_v3, val_main_v2, val_main_v1, val_main_v0, val_main_cst]
  exact Finset.sum_congr rfl fun k _ => mul_comm _ _

/-- The body's product of two blocks at an index. -/
theorem payAt (v0 : Vec Ideal S4096x512 .bf16) (v1 : Vec Ideal S4096x512 .bf16) (r : Fin 512) (l : Fin 512) :
    (k0_pay2 (F := Ideal) v0 v1 (ix2 r l) : EReal) = ∑ k : Fin 4096, (v0 (ix2 k r) : EReal) * v1 (ix2 k l) := by
  pointwise [k0_pay3, k0_pay2, k0_pay1]

/-- The accumulating payload at an index. -/
theorem accAt (v0 : Vec Ideal S4096x512 .bf16) (v1 : Vec Ideal S4096x512 .bf16) (v : Vec Ideal S512x512 .f32) (j : S512x512.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 4 = 4 - 1) (y : S512x512.Idx) :
    (outsAt0 m c t.val t.isLt).1 y
      = ∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 4 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 4 = 3
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 4 = 4 - 1) (y : S512x512.Idx) :
    (∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal))
      = val_main_v5 (F := Ideal) (m ((c : Thread nD τ).loc main_arg0)) (m ((c : Thread nD τ).loc main_arg1)) (((cfg0.win 2).blk t).view.emb y) := by
  have ht : t.val < 136 := lt_of_lt_of_eq t.isLt N_0
  obtain_idx j : S1024x8704 := [512 * (t.val / 68) + (y 0).val, 512 * (t.val / 4 % 17) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.InProjDwIdeal.Final
-- ==== Proof.InProjDxValue.lean ====
/-
  The input projection, the gradient of the activations: the tiled product of the kernel is the plain product of the reference.
-/
module

public import proofs.«01_k».proof.Proof.Gen.InProjDxIdeal.Frame
public import proofs.«01_k».proof.Proof.Gen.InProjDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDxIdeal.Final

open Cert.InProjDxIdeal Cert.InProjDxIdeal.Gen Cert.InProjDxRefIdeal.Read

variable (m : (ℓ : Loc nD τ sig) → Buf (Elt Ideal) ℓ)

/-- Every window's block index at every point. -/
theorem idx : ∀ t : Fin cfg0.N, win0_0.index t = ![t.val / 4, t.val % 4]
    ∧ win0_1.index t = ![0, t.val % 4]
    ∧ win0_2.index t = ![t.val / 4, 0] :=
  (by decide +kernel : ∀ t : Fin grid0.N, _)

/-- The reference's result at an index. -/
theorem refAt (x0 : Vec Ideal S16384x8704 .bf16) (x1 : Vec Ideal S1024x8704 .bf16) (r : Fin 16384) (l : Fin 1024) :
    (val_main_v4 (F := Ideal) x0 x1 (ix2 r l) : EReal) = ∑ k : Fin 8704, (x0 (ix2 r k) : EReal) * x1 (ix2 l k) := by
  pointwise [val_main_v4, val_main_v3, val_main_v2, val_main_v1, val_main_v0, val_main_cst]

/-- The body's product of two blocks at an index. -/
theorem payAt (v0 : Vec Ideal S512x2176 .bf16) (v1 : Vec Ideal S1024x2176 .bf16) (r : Fin 512) (l : Fin 1024) :
    (k0_pay2 (F := Ideal) v0 v1 (ix2 r l) : EReal) = ∑ k : Fin 2176, (v0 (ix2 r k) : EReal) * v1 (ix2 l k) := by
  pointwise [k0_pay3, k0_pay2, k0_pay1]

/-- The accumulating payload at an index. -/
theorem accAt (v0 : Vec Ideal S512x2176 .bf16) (v1 : Vec Ideal S1024x2176 .bf16) (v : Vec Ideal S512x1024 .f32) (j : S512x1024.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 4 = 4 - 1) (y : S512x1024.Idx) :
    (outsAt0 m c t.val t.isLt).1 y
      = ∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 4 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 4 = 3
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 4 = 4 - 1) (y : S512x1024.Idx) :
    (∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal))
      = val_main_v4 (F := Ideal) (m ((c : Thread nD τ).loc main_arg0)) (m ((c : Thread nD τ).loc main_arg1)) (((cfg0.win 2).blk t).view.emb y) := by
  have ht : t.val < 128 := lt_of_lt_of_eq t.isLt N_0
  obtain_idx j : S16384x1024 := [512 * (t.val / 4) + (y 0).val, (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.InProjDxIdeal.Final
-- ==== Proof.InProjQkvDwValue.lean ====
/-
  The projection onto queries, keys and values of a dilated group, the gradient of the weight: the tiled product of the kernel is the plain product of the reference.
-/
module

public import proofs.«01_k».proof.Proof.Gen.InProjQkvDwIdeal.Frame
public import proofs.«01_k».proof.Proof.Gen.InProjQkvDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjQkvDwIdeal.Final

open Cert.InProjQkvDwIdeal Cert.InProjQkvDwIdeal.Gen Cert.InProjQkvDwRefIdeal.Read

variable (m : (ℓ : Loc nD τ sig) → Buf (Elt Ideal) ℓ)

/-- Every window's block index at every point. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- The reference's result at an index. -/
theorem refAt (x0 : Vec Ideal S16384x1024 .bf16) (x1 : Vec Ideal S16384x1536 .bf16) (r : Fin 1024) (l : Fin 1536) :
    (val_main_v5 (F := Ideal) x0 x1 (ix2 r l) : EReal) = ∑ k : Fin 16384, (x0 (ix2 k r) : EReal) * x1 (ix2 k l) := by
  pointwise [val_main_v5, val_main_v4, val_main_v3, val_main_v2, val_main_v1, val_main_v0, val_main_cst]
  exact Finset.sum_congr rfl fun k _ => mul_comm _ _

/-- The body's product of two blocks at an index. -/
theorem payAt (v0 : Vec Ideal S4096x512 .bf16) (v1 : Vec Ideal S4096x768 .bf16) (r : Fin 512) (l : Fin 768) :
    (k0_pay2 (F := Ideal) v0 v1 (ix2 r l) : EReal) = ∑ k : Fin 4096, (v0 (ix2 k r) : EReal) * v1 (ix2 k l) := by
  pointwise [k0_pay3, k0_pay2, k0_pay1]

/-- The accumulating payload at an index. -/
theorem accAt (v0 : Vec Ideal S4096x512 .bf16) (v1 : Vec Ideal S4096x768 .bf16) (v : Vec Ideal S512x768 .f32) (j : S512x768.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 4 = 4 - 1) (y : S512x768.Idx) :
    (outsAt0 m c t.val t.isLt).1 y
      = ∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 4 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 4 = 3
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 4 = 4 - 1) (y : S512x768.Idx) :
    (∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal))
      = val_main_v5 (F := Ideal) (m ((c : Thread nD τ).loc main_arg0)) (m ((c : Thread nD τ).loc main_arg1)) (((cfg0.win 2).blk t).view.emb y) := by
  have ht : t.val < 16 := lt_of_lt_of_eq t.isLt N_0
  obtain_idx j : S1024x1536 := [512 * (t.val / 8) + (y 0).val, 768 * (t.val / 4 % 2) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.InProjQkvDwIdeal.Final
-- ==== Proof.InProjQkvDxValue.lean ====
/-
  The projection onto queries, keys and values of a dilated group, the gradient of the activations: the tiled product of the kernel is the plain product of the reference.
-/
module

public import proofs.«01_k».proof.Proof.Gen.InProjQkvDxIdeal.Frame
public import proofs.«01_k».proof.Proof.Gen.InProjQkvDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjQkvDxIdeal.Final

open Cert.InProjQkvDxIdeal Cert.InProjQkvDxIdeal.Gen Cert.InProjQkvDxRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x1536 .bf16) (x1 : Vec Ideal S1024x1536 .bf16) (r : Fin 16384) (l : Fin 1024) :
    (val_main_v4 (F := Ideal) x0 x1 (ix2 r l) : EReal) = ∑ k : Fin 1536, (x0 (ix2 r k) : EReal) * x1 (ix2 l k) := by
  pointwise [val_main_v4, val_main_v3, val_main_v2, val_main_v1, val_main_v0, val_main_cst]

/-- The body's product of two blocks at an index. -/
theorem payAt (v0 : Vec Ideal S1024x1536 .bf16) (v1 : Vec Ideal S1024x1536 .bf16) (r : Fin 1024) (l : Fin 1024) :
    (k0_pay1 (F := Ideal) v0 v1 (ix2 r l) : EReal) = ∑ k : Fin 1536, (v0 (ix2 r k) : EReal) * v1 (ix2 l k) := by
  pointwise [k0_pay1]

/-- The body's product, at an index of its block, is the reference's result at the array index there. -/
theorem pointAt (c : Dev nD) (t : Fin cfg0.N) (y : S1024x1024.Idx) :
    k0_pay1 (F := Ideal) (iblk m c 0 t) (iblk m c 1 t) y
      = val_main_v4 (F := Ideal) (m ((c : Thread nD τ).loc main_arg0)) (m ((c : Thread nD τ).loc main_arg1)) (((cfg0.win 2).blk t).view.emb y) := by
  have ht : t.val < 16 := lt_of_lt_of_eq t.isLt N_0
  obtain_idx j : S16384x1024 := [1024 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.InProjQkvDxIdeal.Final
-- ==== Proof.InProjQkvValue.lean ====
/-
  The projection onto queries, keys and values of a dilated group, the forward product: the tiled product of the kernel is the plain product of the reference.
-/
module

public import proofs.«01_k».proof.Proof.Gen.InProjQkvIdeal.Frame
public import proofs.«01_k».proof.Proof.Gen.InProjQkvRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjQkvIdeal.Final

open Cert.InProjQkvIdeal Cert.InProjQkvIdeal.Gen Cert.InProjQkvRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x1024 .bf16) (x1 : Vec Ideal S1024x1536 .bf16) (r : Fin 16384) (l : Fin 1536) :
    (val_main_v3 (F := Ideal) x0 x1 (ix2 r l) : EReal) = ∑ k : Fin 1024, (x0 (ix2 r k) : EReal) * x1 (ix2 k l) := by
  pointwise [val_main_v3, val_main_v2, val_main_v1, val_main_v0]

/-- The body's product of two blocks at an index. -/
theorem payAt (v0 : Vec Ideal S1024x1024 .bf16) (v1 : Vec Ideal S1024x1536 .bf16) (r : Fin 1024) (l : Fin 1536) :
    (k0_pay1 (F := Ideal) v0 v1 (ix2 r l) : EReal) = ∑ k : Fin 1024, (v0 (ix2 r k) : EReal) * v1 (ix2 k l) := by
  pointwise [k0_pay1]

/-- The body's product, at an index of its block, is the reference's result at the array index there. -/
theorem pointAt (c : Dev nD) (t : Fin cfg0.N) (y : S1024x1536.Idx) :
    k0_pay1 (F := Ideal) (iblk m c 0 t) (iblk m c 1 t) y
      = val_main_v3 (F := Ideal) (m ((c : Thread nD τ).loc main_arg0)) (m ((c : Thread nD τ).loc main_arg1)) (((cfg0.win 2).blk t).view.emb y) := by
  have ht : t.val < 16 := lt_of_lt_of_eq t.isLt N_0
  obtain_idx j : S16384x1536 := [1024 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.InProjQkvIdeal.Final
-- ==== Proof.InProjValue.lean ====
/-
  The input projection, the forward product: the tiled product of the kernel is the plain product of the reference.
-/
module

public import proofs.«01_k».proof.Proof.Gen.InProjIdeal.Frame
public import proofs.«01_k».proof.Proof.Gen.InProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Final

open Cert.InProjIdeal Cert.InProjIdeal.Gen Cert.InProjRefIdeal.Read

variable (m : (ℓ : Loc nD τ sig) → Buf (Elt Ideal) ℓ)

/-- Every window's block index at every point. -/
theorem idx : ∀ t : Fin cfg0.N, win0_0.index t = ![t.val / 17, 0]
    ∧ win0_1.index t = ![0, t.val % 17]
    ∧ win0_2.index t = ![t.val / 17, t.val % 17] :=
  (by decide +kernel : ∀ t : Fin grid0.N, _)

/-- The reference's result at an index. -/
theorem refAt (x0 : Vec Ideal S16384x1024 .bf16) (x1 : Vec Ideal S1024x8704 .bf16) (r : Fin 16384) (l : Fin 8704) :
    (val_main_v3 (F := Ideal) x0 x1 (ix2 r l) : EReal) = ∑ k : Fin 1024, (x0 (ix2 r k) : EReal) * x1 (ix2 k l) := by
  pointwise [val_main_v3, val_main_v2, val_main_v1, val_main_v0]

/-- The body's product of two blocks at an index. -/
theorem payAt (v0 : Vec Ideal S2048x1024 .bf16) (v1 : Vec Ideal S1024x512 .bf16) (r : Fin 2048) (l : Fin 512) :
    (k0_pay1 (F := Ideal) v0 v1 (ix2 r l) : EReal) = ∑ k : Fin 1024, (v0 (ix2 r k) : EReal) * v1 (ix2 k l) := by
  pointwise [k0_pay1]

/-- The body's product, at an index of its block, is the reference's result at the array index there. -/
theorem pointAt (c : Dev nD) (t : Fin cfg0.N) (y : S2048x512.Idx) :
    k0_pay1 (F := Ideal) (iblk m c 0 t) (iblk m c 1 t) y
      = val_main_v3 (F := Ideal) (m ((c : Thread nD τ).loc main_arg0)) (m ((c : Thread nD τ).loc main_arg1)) (((cfg0.win 2).blk t).view.emb y) := by
  have ht : t.val < 136 := lt_of_lt_of_eq t.isLt N_0
  obtain_idx j : S16384x8704 := [2048 * (t.val / 17) + (y 0).val, 512 * (t.val % 17) + (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.InProjIdeal.Final
-- ==== Proof.RmsPure.lean ====
/-
  Extended-real facts about the root-mean-square normalisation: its gradient, as the chain rule of the
  reference groups the factors and as the kernels group them.
-/
module

public import Idealize.ShloMosaic.Lib.Pointwise
public import Idealize.ShloMosaic.Lib.IdealHost
public import Idealize.ShloMosaic.Lib.Pipeline.ValueKit.Acc

@[expose] public section

noncomputable section

open Idealize.ShloMosaic

namespace Cert.Rms

/-- The pattern of one thousand and twenty-four, the length of a row. -/
theorem len_eq : Ideal.ofBits .f32 1149239296#32 = ((1024 : ℝ) : EReal) := by
  simp [Ideal.ofBits, Ideal.ieee, -EReal.coe_mul]; norm_num

/-- The pattern of the reciprocal of a row's length. -/
theorem inv_len_eq : Ideal.ofBits .f32 981467136#32 = ((1 / 1024 : ℝ) : EReal) := by
  simp [Ideal.ofBits, Ideal.ieee, -EReal.coe_mul]; norm_num

/-- The pattern of minus one half. -/
theorem neg_half_eq : Ideal.ofBits .f32 3204448256#32 = ((-(1 / 2) : ℝ) : EReal) := by
  simp [Ideal.ofBits, Ideal.ieee, -EReal.coe_mul, -EReal.coe_neg]; norm_num

/-- The small number under the root is a positive real. -/
theorem eps_eq : ∃ e : ℝ, 0 < e ∧ Ideal.ofBits .f32 897988541#32 = (e : EReal) := by
  refine ⟨_, ?_, by simp only [Ideal.ofBits, Ideal.ieee]; simp [-EReal.coe_mul]; rfl⟩
  norm_num

/-- The mean square of a row, from the sum of the squares, with the small number added. -/
def ms (q : EReal) : EReal := Ideal.div q (Ideal.ofBits .f32 1149239296#32) + Ideal.ofBits .f32 897988541#32

/-- A square is not negative. -/
theorem sq_nonneg (x : EReal) : 0 ≤ x * x := by
  rcases le_total 0 x with h | h
  · exact mul_nonneg h h
  · rw [← neg_mul_neg]
    have : 0 ≤ -x := by simpa using EReal.neg_le_neg_iff.mpr h
    exact mul_nonneg this this

/-- A quotient by the length of a row is the product with the reciprocal. -/
theorem div_len (x : EReal) : Ideal.div x (Ideal.ofBits .f32 1149239296#32) = x * ((1 / 1024 : ℝ) : EReal) := by
  have h : ((1024 : ℝ) : EReal) ≠ 0 := by exact_mod_cast (by norm_num : (1024 : ℝ) ≠ 0)
  rw [len_eq, Ideal.div, if_neg h, one_div, EReal.coe_inv]

/-- The mean square with the small number added is infinite or a positive real. -/
theorem ms_cases (q : EReal) (hq : 0 ≤ q) : ms q = ⊤ ∨ ∃ v : ℝ, 0 < v ∧ ms q = v := by
  obtain ⟨e, he, hE⟩ := eps_eq
  unfold ms
  rw [div_len, hE]
  induction q with
  | bot => exact absurd hq (by simp)
  | top =>
    left
    rw [EReal.top_mul_of_pos (by exact_mod_cast (by norm_num : (0 : ℝ) < 1 / 1024))]
    exact EReal.top_add_coe e
  | coe r =>
    right
    have hr : 0 ≤ r := by exact_mod_cast hq
    exact ⟨r * (1 / 1024) + e, by positivity, by norm_cast⟩

/-- The two halves of the row term of the chain rule, added, are the kernels' one term: the factor of the
    reciprocal root cubed is the reciprocal root over the mean square. -/
theorem row_term (q x s : EReal) (hq : 0 ≤ q) :
    x * Ideal.div (s * (Ideal.ofBits .f32 3204448256#32 * Ideal.div (Ideal.rsqrt (ms q)) (ms q))) (Ideal.ofBits .f32 1149239296#32)
      + Ideal.div (s * (Ideal.ofBits .f32 3204448256#32 * Ideal.div (Ideal.rsqrt (ms q)) (ms q))) (Ideal.ofBits .f32 1149239296#32) * x
      = -(x * (Ideal.rsqrt (ms q) * Ideal.rsqrt (ms q) * Ideal.rsqrt (ms q)) * (s * Ideal.ofBits .f32 981467136#32)) := by
  rw [div_len, inv_len_eq, neg_half_eq]
  rcases ms_cases q hq with h | ⟨v, hv, h⟩
  · rw [h]
    have hr : Ideal.rsqrt ⊤ = 0 := rfl
    have hd : Ideal.div 0 ⊤ = 0 := by rw [Ideal.div, if_neg (by simp), zero_mul]
    simp [hr, hd]
  · rw [h]
    have hr : Ideal.rsqrt (v : EReal) = (((Real.sqrt v)⁻¹ : ℝ) : EReal) := by
      show (if v < 0 then (⊥ : EReal) else if v = 0 then ⊤ else ((Real.sqrt v)⁻¹ : ℝ)) = _
      rw [if_neg (by linarith), if_neg hv.ne']
    have hv0 : (v : EReal) ≠ 0 := by exact_mod_cast hv.ne'
    set r := (Real.sqrt v)⁻¹ with hrdef
    have hrp : 0 < r := inv_pos.mpr (Real.sqrt_pos.mpr hv)
    have hvr : v⁻¹ = r * r := by rw [hrdef, ← mul_inv, Real.mul_self_sqrt hv.le]
    rw [hr, Ideal.div, if_neg hv0, ← EReal.coe_inv, hvr]
    have hk : s * ((-(1 / 2) : ℝ) * ((r : EReal) * ((r * r : ℝ) : EReal))) * ((1 / 1024 : ℝ) : EReal)
        = -(s * ((r * r * r / 2048 : ℝ) : EReal)) := by
      rw [mul_assoc, ← EReal.coe_mul, ← EReal.coe_mul, ← EReal.coe_mul, ← mul_neg, ← EReal.coe_neg]
      congr 2
      ring
    rw [hk, mul_neg, mul_comm _ x, mul_neg, ← neg_mul, ← mul_assoc, neg_mul, ← neg_mul,
      ← EReal.left_distrib_of_nonneg (by exact_mod_cast (by positivity : 0 ≤ r * r * r / 2048)) (by exact_mod_cast (by positivity : 0 ≤ r * r * r / 2048)),
      neg_mul, ← EReal.coe_mul, ← EReal.coe_mul, ← EReal.coe_add]
    rw [mul_assoc x _ (s * _), mul_comm _ (s * _), mul_assoc s, ← EReal.coe_mul, neg_mul, mul_assoc x s]
    congr 4
    ring

/-- The reciprocal root of a row's mean square. -/
def rs (h : Fin 1024 → EReal) : EReal := Ideal.rsqrt (ms (∑ x, h x * h x))

/-- The gradient of a row `h` normalised with weights `w`, at one element, from the gradient `g` of the normalised row. -/
def dx (h w g : Fin 1024 → EReal) (l : Fin 1024) : EReal :=
  rs h * (g l * w l) - h l * (rs h * rs h * rs h) * ((∑ x, h x * (g x * w x)) * Ideal.ofBits .f32 981467136#32)

/-- The gradient of a weight that one row contributes. -/
def dw (h g : Fin 1024 → EReal) (l : Fin 1024) : EReal := g l * (h l * rs h)

/-- The chain rule's four terms at an element of a row, in the grouping of the reference, are the residual's
    gradient and the gradient of the normalised row. -/
theorem grad (h w g : Fin 1024 → EReal) (d : EReal) (l : Fin 1024) :
    d + g l * w l * rs h
      + h l * Ideal.div ((∑ x, h x * (g x * w x)) * (Ideal.ofBits .f32 3204448256#32 * Ideal.div (rs h) (ms (∑ x, h x * h x)))) (Ideal.ofBits .f32 1149239296#32)
      + Ideal.div ((∑ x, h x * (g x * w x)) * (Ideal.ofBits .f32 3204448256#32 * Ideal.div (rs h) (ms (∑ x, h x * h x)))) (Ideal.ofBits .f32 1149239296#32) * h l
      = d + dx h w g l := by
  unfold rs dx
  rw [add_assoc (d + _), row_term _ _ _ (Finset.sum_nonneg fun x _ => sq_nonneg _), sub_eq_add_neg, add_assoc, mul_comm (g l * w l)]
  rfl

/-- The same with no residual. -/
theorem grad0 (h w g : Fin 1024 → EReal) (l : Fin 1024) :
    g l * w l * rs h
      + h l * Ideal.div ((∑ x, h x * (g x * w x)) * (Ideal.ofBits .f32 3204448256#32 * Ideal.div (rs h) (ms (∑ x, h x * h x)))) (Ideal.ofBits .f32 1149239296#32)
      + Ideal.div ((∑ x, h x * (g x * w x)) * (Ideal.ofBits .f32 3204448256#32 * Ideal.div (rs h) (ms (∑ x, h x * h x)))) (Ideal.ofBits .f32 1149239296#32) * h l
      = dx h w g l := by
  have e := grad h w g 0 l
  rwa [zero_add, zero_add] at e

/-- The pattern of one half. -/
theorem half_eq : Ideal.ofBits .f32 1056964608#32 = ((1 / 2 : ℝ) : EReal) := by
  simp [Ideal.ofBits, Ideal.ieee, -EReal.coe_mul]; norm_num

/-- The pattern of two. -/
theorem two_eq : Ideal.ofBits .f32 1073741824#32 = ((2 : ℝ) : EReal) := by
  simp [Ideal.ofBits, Ideal.ieee, -EReal.coe_mul]; norm_num

/-- The error of a normalised row against its target, at an element. -/
def err (h w y : Fin 1024 → EReal) (x : Fin 1024) : EReal := h x * rs h * w x - y x

/-- The gradient of the loss with respect to a normalised row: the error over the row's length. -/
def ct (h w y : Fin 1024 → EReal) (x : Fin 1024) : EReal := err h w y x * Ideal.ofBits .f32 981467136#32

/-- Half of twice the error over the length is the error over the length. -/
theorem ct_eq (e : EReal) : Ideal.div (Ideal.ofBits .f32 1056964608#32) (Ideal.ofBits .f32 1149239296#32) * (Ideal.ofBits .f32 1073741824#32 * e)
    = e * Ideal.ofBits .f32 981467136#32 := by
  rw [div_len, half_eq, two_eq, inv_len_eq, ← mul_assoc, ← EReal.coe_mul, ← EReal.coe_mul, mul_comm e]
  congr 2
  ring

/-- A factor that is not negative moves into a sum of terms that are not negative. -/
theorem mul_sum {ι : Type} (s : Finset ι) (c : EReal) (f : ι → EReal) (hf : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- The squared errors of a row, summed. -/
def se (h w y : Fin 1024 → EReal) : EReal := ∑ x, err h w y x * err h w y x

/-- The loss as the reference writes it, from the rows' squared errors, is the sum over the tiles of rows of what the
    kernel keeps of each. -/
theorem loss (f : Fin (32 * 512) → EReal) (hf : ∀ i, 0 ≤ f i) (g : Fin 32 → Fin 512 → EReal) (hg : ∀ s k hl, g s k = f ⟨s.val * 512 + k.val, hl⟩) :
    Ideal.ofBits .f32 1056964608#32 * ∑ i, Ideal.div (f i) (Ideal.ofBits .f32 1149239296#32)
      = ∑ s, Ideal.ofBits .f32 1056964608#32 * (∑ k, g s k) * Ideal.ofBits .f32 981467136#32 := by
  have hc : (0 : EReal) ≤ ((1 / 1024 : ℝ) : EReal) := by exact_mod_cast (by norm_num : (0 : ℝ) ≤ 1 / 1024)
  have hg0 : ∀ s k, 0 ≤ g s k := fun s k => by rw [hg s k (by omega)]; exact hf _
  simp only [div_len, inv_len_eq]
  rw [mul_sum _ _ _ fun i => mul_nonneg (hf i) hc]
  have e : ∀ s, Ideal.ofBits .f32 1056964608#32 * (∑ k, g s k) * ((1 / 1024 : ℝ) : EReal)
      = ∑ k, Ideal.ofBits .f32 1056964608#32 * (g s k * ((1 / 1024 : ℝ) : EReal)) := fun s => by
    rw [mul_assoc, mul_comm (∑ k, g s k), mul_sum _ _ _ (hg0 s), mul_sum _ _ _ fun k => mul_nonneg hc (hg0 s k)]
    exact Finset.sum_congr rfl fun k _ => by rw [mul_comm (g s k)]
  simp only [e]
  refine (Fin.sum_mul_add_congr fun s k hl => ?_).symm
  rw [hg s k hl]

end Cert.Rms
-- ==== Proof.LossHeadValue.lean ====
/-
  The loss head: the kernel's loss and its two gradients are those of the reference.
-/
module

public import proofs.«01_k».proof.Proof.Gen.LossHeadIdeal.Frame
public import proofs.«01_k».proof.Proof.Gen.LossHeadRefIdeal.Read
public import proofs.«01_k».proof.Proof.RmsPure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.Final

open Cert.LossHeadIdeal Cert.LossHeadIdeal.Gen Cert.LossHeadRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0]
    ∧ win0_3.index t = ![t.val, 0, 0]
    ∧ win0_4.index t = ![t.val, 0]
    ∧ win0_5.index t = ![0, 0] :=
  (by decide +kernel : ∀ t : Fin grid0.N, _)

/-- The reference's gradient of the input at an index. -/
theorem refAt (x0 : Vec Ideal S16384x1024 .f32) (x1 : Vec Ideal S1024 .f32) (x2 : Vec Ideal S16384x1024 .f32) (r : Fin 16384) (l : Fin 1024) :
    (val_main_v50 (F := Ideal) x0 x1 x2 (ix2 r l) : EReal)
      = Rms.dx (fun x => x0 (ix2 r x)) (fun x => x1 (ix1 x)) (Rms.ct (fun x => x0 (ix2 r x)) (fun x => x1 (ix1 x)) (fun x => x2 (ix2 r x))) l := by
  refine Eq.trans ?_ (Rms.grad0 _ _ _ _)
  pointwise [Rms.ms, Rms.rs, Rms.err, Rms.ct, Rms.se, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50]
  simp only [Finset.univ_unique, Finset.sum_singleton, Rms.ct_eq]

/-- The reference's gradient of the weight at an index. -/
theorem refDwAt (x0 : Vec Ideal S16384x1024 .f32) (x1 : Vec Ideal S1024 .f32) (x2 : Vec Ideal S16384x1024 .f32) (l : Fin 1024) :
    (val_main_v36 (F := Ideal) x0 x1 x2 (ix1 l) : EReal)
      = ∑ k : Fin 16384, Rms.dw (fun x => x0 (ix2 k x)) (Rms.ct (fun x => x0 (ix2 k x)) (fun x => x1 (ix1 x)) (fun x => x2 (ix2 k x))) l := by
  pointwise [Rms.ms, Rms.rs, Rms.err, Rms.ct, Rms.se, Rms.dw, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36]
  simp only [Finset.univ_unique, Finset.sum_singleton, Rms.ct_eq]
  exact Finset.sum_congr rfl fun k _ => mul_comm _ _

/-- The reference's loss. -/
theorem refLossAt (x0 : Vec Ideal S16384x1024 .f32) (x1 : Vec Ideal S1024 .f32) (x2 : Vec Ideal S16384x1024 .f32) (i : S_.Idx) :
    (val_main_v24 (F := Ideal) x0 x1 x2 i : EReal)
      = Ideal.ofBits .f32 1056964608#32 * ∑ k : Fin 16384, Ideal.div (Rms.se (fun x => x0 (ix2 k x)) (fun x => x1 (ix1 x)) (fun x => x2 (ix2 k x))) (Ideal.ofBits .f32 1149239296#32) := by
  pointwise [Rms.ms, Rms.rs, Rms.err, Rms.ct, Rms.se, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24]

/-- The body's gradient of the input at an index of its block. -/
theorem payAt (v0 y : Vec Ideal S512x1024 .f32) (w : Vec Ideal S1x1024 .f32) (r : Fin 512) (l : Fin 1024) :
    (k0_pay1 (F := Ideal) v0 (k0_pay4 v0) (k0_pay8 v0 w y w) (k0_pay9 v0 w y w) (Scalar.ofBits .f32 981467136#32) (ix2 r l) : EReal)
      = Rms.dx (fun x => v0 (ix2 r x)) (fun x => w (ix2 (n0 := 1) 0 x)) (Rms.ct (fun x => v0 (ix2 r x)) (fun x => w (ix2 (n0 := 1) 0 x)) (fun x => y (ix2 r x))) l := by
  pointwise [Rms.ms, Rms.rs, Rms.err, Rms.ct, Rms.se, Rms.dx, k0_pay1, k0_pay4, k0_pay5, k0_pay7, k0_pay8, k0_pay9]
  simp only [mul_comm (v0 _ : EReal) (_ * _)]

/-- The body's part of the loss, the same in every lane of its block. -/
theorem lossAt (v0 y : Vec Ideal S512x1024 .f32) (w : Vec Ideal S1x1024 .f32) (a : Fin 8) (l : Fin 128) :
    (k0_pay6 (F := Ideal) v0 w y (ix3 (n0 := 1) 0 a l) : EReal)
      = Ideal.ofBits .f32 1056964608#32 * (∑ k : Fin 512, Rms.se (fun x => v0 (ix2 k x)) (fun x => w (ix2 (n0 := 1) 0 x)) (fun x => y (ix2 k x))) * Ideal.ofBits .f32 981467136#32 := by
  pointwise [Rms.ms, Rms.rs, Rms.err, Rms.ct, Rms.se, k0_pay1, k0_pay4, k0_pay5, k0_pay6, k0_pay7, k0_pay8, k0_pay9]

/-- The body's gradient of the weight over the rows of one pair of blocks. -/
def part (v0 : Vec Ideal S512x1024 .f32) (w : Vec Ideal S1x1024 .f32) (y : Vec Ideal S512x1024 .f32) (j : S1x1024.Idx) : EReal :=
  ∑ k : Fin 512, Rms.dw (fun x => v0 (ix2 k x)) (Rms.ct (fun x => v0 (ix2 k x)) (fun x => w (ix2 (n0 := 1) 0 x)) (fun x => y (ix2 k x))) (j 1)

/-- The accumulating payload at an index. -/
theorem accAt (v0 y : Vec Ideal S512x1024 .f32) (w v : Vec Ideal S1x1024 .f32) (j : S1x1024.Idx) :
    (k0_pay3 (F := Ideal) v0 (k0_pay4 v0) (k0_pay7 v0 w y) v j : EReal) = v j + part v0 w y j := by
  idx_vars j
  pointwise [Rms.ms, Rms.rs, Rms.err, Rms.ct, Rms.se, Rms.dw, part, k0_pay3, k0_pay4, k0_pay5, k0_pay7]
  simp only [mul_assoc]

/-- The block of the weights at an index. -/
theorem blk1 (c : Dev nD) (t : Fin cfg0.N) (x : Fin 1024) : (iblk m c 1 t (ix2 (n0 := 1) 0 x) : EReal) = m ((c : Thread nD τ).loc main_arg1) (ix1 x) := by
  have hv : V m c main_v0 = shapeCast S1x1024 (m ((c : Thread nD τ).loc main_arg1) : Vec Ideal S1024 .f32) shapeCasts_S1024_S1x1024 := by
    show StableHlo.after hostOps0 (fun b => m (c, b)) _ = _
    entry_read
    rfl
  have hi : ((cfg0.win 1).blk t).view.emb (ix2 (n0 := 1) 0 x) = ix2 (n0 := 1) (n1 := 1024) 0 x := by blk_ext [idx t]
  refine (congrArg (V m c main_v0) hi).trans ((congrFun hv _).trans ?_)
  pointwise

/-- The block at the loss's window after a point. -/
theorem out3 (c : Dev nD) (t : Fin cfg0.N) : (outsAt0 m c t.val t.isLt).1
    = k0_pay6 (F := Ideal) (iblk m c 0 t) (iblk m c 1 t) (iblk m c 2 t) := by
  by_cases h : t.val % 32 = 0
  · rw [outsAt0_A m c t h]; frame_out
  · rw [outsAt0_B m c t h]; frame_out

/-- The block at the window of the input's gradient after a point. -/
theorem out4 (c : Dev nD) (t : Fin cfg0.N) : (outsAt0 m c t.val t.isLt).2.1
    = k0_pay1 (F := Ideal) (iblk m c 0 t) (k0_pay4 (iblk m c 0 t)) (k0_pay8 (iblk m c 0 t) (iblk m c 1 t) (iblk m c 2 t) (iblk m c 1 t)) (k0_pay9 (iblk m c 0 t) (iblk m c 1 t) (iblk m c 2 t) (iblk m c 1 t)) (Scalar.ofBits .f32 981467136#32) := by
  by_cases h : t.val % 32 = 0
  · rw [outsAt0_A m c t h]; frame_out
  · rw [outsAt0_B m c t h]; frame_out

/-- The accumulator after the last point is the sum of the parts of all the points. -/
theorem out5 (c : Dev nD) (t : Fin cfg0.N) (h7 : t.val % 32 = 32 - 1) (y : S1x1024.Idx) :
    (outsAt0 m c t.val t.isLt).2.2 y
      = ∑ s : Fin 32, part (iblk m c 0 ⟨32 * (t.val / 32) + s.val, Pipeline.run_point_lt_of_flush t h7 s⟩) (iblk m c 1 ⟨32 * (t.val / 32) + s.val, Pipeline.run_point_lt_of_flush t h7 s⟩) (iblk m c 2 ⟨32 * (t.val / 32) + s.val, Pipeline.run_point_lt_of_flush t h7 s⟩) y := by
  rw [Pipeline.eq_sum_fin_of_reset_step_apply_of_flush (M := EReal) (fun n h => (outsAt0 m c n h).2.2) 32 (fun _ => 0)
    (fun t j => part (iblk m c 0 t) (iblk m c 1 t) (iblk m c 2 t) j)
    (fun t h j => by
      rw [outsAt0_A m c t (by omega)]; frame_out; rw [accAt]
      refine congrArg (· + _) ?_
      pointwise [k0_pay2])
    (fun t h j => by
      rw [outsAt0_B m c t (by omega)]; frame_out; rw [accAt])
    t h7 _, zero_add]

/-- A row of a block of the input is a row of the input. -/
theorem row0 (c : Dev nD) (t : Fin cfg0.N) (k : Fin 512) (r : Fin 16384) (hr : r.val = 512 * t.val + k.val) :
    (fun x : Fin 1024 => (iblk m c 0 t (ix2 k x) : EReal)) = fun x => m ((c : Thread nD τ).loc main_arg0) (ix2 r x) := funext fun x => by
  blk_point [iblk, V, idx t]

/-- A row of a block of the target is a row of the target. -/
theorem row2 (c : Dev nD) (t : Fin cfg0.N) (k : Fin 512) (r : Fin 16384) (hr : r.val = 512 * t.val + k.val) :
    (fun x : Fin 1024 => (iblk m c 2 t (ix2 k x) : EReal)) = fun x => m ((c : Thread nD τ).loc main_arg2) (ix2 r x) := funext fun x => by
  blk_point [iblk, V, idx t]

/-- The row at a place of a tile. -/
def rowOf (s : Fin 32) (k : Fin 512) : Fin 16384 := ⟨512 * s.val + k.val, by omega⟩

/-- The squared errors of a row. -/
def sqErr (c : Dev nD) (r : Fin 16384) : EReal :=
  Rms.se (fun x => m ((c : Thread nD τ).loc main_arg0) (ix2 r x)) (fun x => m ((c : Thread nD τ).loc main_arg1) (ix1 x)) (fun x => m ((c : Thread nD τ).loc main_arg2) (ix2 r x))

/-- A tile's part of the loss. -/
def tile (c : Dev nD) (s : Fin 32) : EReal :=
  Ideal.ofBits .f32 1056964608#32 * (∑ k : Fin 512, sqErr m c (rowOf s k)) * Ideal.ofBits .f32 981467136#32

/-- The body's part of the loss at a point is the tile's. -/
theorem tileAt (c : Dev nD) (t : Fin cfg0.N) (s : Fin 32) (hs : s.val = t.val) (y : S1x8x128.Idx) :
    (k0_pay6 (F := Ideal) (iblk m c 0 t) (iblk m c 1 t) (iblk m c 2 t) y : EReal) = tile m c s := by
  idx_vars y
  obtain rfl : y0 = 0 := Subsingleton.elim _ _
  refine (lossAt _ _ _ _ _).trans ?_
  unfold tile sqErr
  refine congrArg (· * _) (congrArg (_ * ·) (Finset.sum_congr rfl fun k _ => ?_))
  have e : (rowOf s k).val = 512 * t.val + k.val := by rw [← hs]; rfl
  rw [row0 m c t k _ e, funext (blk1 m c t), row2 m c t k _ e]

/-- What the kernel leaves in its array of losses: in every lane of a tile the tile's part. -/
theorem final3 (c : Dev nD) : (dats m 0 c).arrAt 3 (cfgs 0).N = fun j : S32x8x128.Idx => tile m c (j 0) := by
  refine (dats m 0 c).arrAt_eq_of_covers 3 _ (by decide +kernel) fun t hf y => ?_
  obtain_idx j : S32x8x128 := [t.val, (y 1).val, (y 2).val] with hj
  have hj' : ((cfg0.win 3).blk t).view.emb y = j := by blk_ext [idx t]
  refine Eq.trans (b := tile m c (j 0)) ?_ (congrArg (fun i : S32x8x128.Idx => tile m c (i 0)) hj').symm
  blk_simp
  rw [after0_3, out3]
  exact tileAt m c t (j 0) hj0 y

/-- What the kernel leaves in its second result array is the reference's gradient of the input. -/
theorem final4 (c : Dev nD) : (dats m 0 c).arrAt 4 (cfgs 0).N
    = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 32 := lt_of_lt_of_eq t.isLt N_0
  blk_simp
  rw [after0_4, out4]
  obtain_idx j : S16384x1024 := [512 * t.val + (y 0).val, (y 1).val] with hj
  have hj' : ((cfg0.win 4).blk t).view.emb y = j := by blk_ext [idx t]
  rw [hj']
  idx_vars y
  idx_vars j
  rw [refAt, payAt]
  obtain rfl : y1 = j1 := Fin.ext hj1.symm
  rw [row0 m c t y0 j0 hj0, funext (blk1 m c t), row2 m c t y0 j0 hj0]

/-- What the kernel leaves in its third result array is the reference's gradient of the weight, as one row. -/
theorem final5 (c : Dev nD) : (dats m 0 c).arrAt 5 (cfgs 0).N
    = fun j : S1x1024.Idx => (val_main_v36 (F := Ideal) (m ((c : Thread nD τ).loc main_arg0)) (m ((c : Thread nD τ).loc main_arg1)) (m ((c : Thread nD τ).loc main_arg2)) (ix1 (j 1)) : EReal) := by
  refine (dats m 0 c).arrAt_eq_of_covers 5 _ (by decide +kernel) fun t hf y => ?_
  have ht : t.val < 32 := lt_of_lt_of_eq t.isLt N_0
  have h7 := (flush0_5 t).mp hf
  blk_simp
  rw [after0_5]
  refine (out5 m c t h7 y).trans ?_
  obtain_idx j : S1x1024 := [0, (y 1).val] with hj
  have hj' : ((cfg0.win 5).blk t).view.emb y = j := by blk_ext [idx t]
  rw [hj']
  idx_vars y
  idx_vars j
  show _ = (val_main_v36 (F := Ideal) _ _ _ (ix1 j1) : EReal)
  rw [refDwAt]
  unfold part
  obtain rfl : y1 = j1 := Fin.ext hj1.symm
  refine Fin.sum_mul_add_congr fun s k hl => ?_
  have hs : (⟨s.val * 512 + k.val, hl⟩ : Fin 16384).val = 512 * (32 * (t.val / 32) + s.val) + k.val := by
    show s.val * 512 + k.val = _
    omega
  rw [row0 m c ⟨32 * (t.val / 32) + s.val, Pipeline.run_point_lt_of_flush t h7 s⟩ k _ hs, funext (blk1 m c ⟨32 * (t.val / 32) + s.val, Pipeline.run_point_lt_of_flush t h7 s⟩), row2 m c ⟨32 * (t.val / 32) + s.val, Pipeline.run_point_lt_of_flush t h7 s⟩ k _ hs]
  rfl

/-- A row of a row's function, without its axis of extent one, is the function. -/
theorem flat (v : Vec Ideal S1x1024 .f32) (f : Vec Ideal S1024 .f32) (h : v = fun j => f (ix1 (j 1))) :
    shapeCast S1024 v shapeCasts_S1x1024_S1024 = f := by
  subst h
  funext j
  idx_vars j
  pointwise

/-- One lane of each tile, added. -/
theorem lanes (v : Vec Ideal S32x8x128 .f32) (f : Fin 32 → EReal) (h : v = fun j => f (j 0)) (i : S_.Idx) :
    (Host.reduceAdd (F := Ideal) (fun i => shapeCast S32 (extractStridedSlice S32x1x1 ![0, 0, 0] v slices_S32x8x128_S32x1x1_0_0_0) shapeCasts_S32x1x1_S32 i)
      (constant S_ .f32 0#32) reducesTo_S32_S_d0 h_S_ i : EReal) = ∑ s, f s := by
  subst h
  pointwise

/-- What the lines after the region leave in the loss is the reference's loss. -/
theorem finalLoss (c : Dev nD) : Pipeline.afterTail₀ cfgs (dats m) 0 (V0 m) [hostOps1] c main_v4
    = val_main_v24 (F := Ideal) (m ((c : Thread nD τ).loc main_arg0)) (m ((c : Thread nD τ).loc main_arg1)) (m ((c : Thread nD τ).loc main_arg2)) := by
  unfold Pipeline.afterTail₀
  show StableHlo.after hostOps1 _ _ = _
  entry_read
  funext i
  refine (lanes _ _ ((Pipeline.withArrays_arr (cfgs 0).spec launch0.win.arr_inj c _ _ 3).trans (final3 m c)) i).trans ?_
  refine Eq.trans ?_ (refLossAt _ _ _ i).symm
  refine (Rms.loss (sqErr m c) (fun r => by unfold sqErr Rms.se; exact Finset.sum_nonneg fun x _ => Rms.sq_nonneg _) (fun s k => sqErr m c (rowOf s k)) fun s k hl => ?_).symm
  exact congrArg (sqErr m c) (Fin.ext (by show 512 * s.val + k.val = s.val * 512 + k.val; omega))

/-- What the lines after the region leave in the third result is the reference's gradient of the weight. -/
theorem finalDw (c : Dev nD) : Pipeline.afterTail₀ cfgs (dats m) 0 (V0 m) [hostOps1] c main_v5
    = val_main_v36 (F := Ideal) (m ((c : Thread nD τ).loc main_arg0)) (m ((c : Thread nD τ).loc main_arg1)) (m ((c : Thread nD τ).loc main_arg2)) := by
  unfold Pipeline.afterTail₀
  show StableHlo.after hostOps1 _ _ = _
  entry_read
  exact flat _ _ ((Pipeline.withArrays_arr (cfgs 0).spec launch0.win.arr_inj c _ _ 5).trans (final5 m c))

end Cert.LossHeadIdeal.Final
-- ==== Proof.MergeFwdValue.lean ====
/-
  The gated merge: the kernel leaves the sum of the two branches, each times its gate, as the reference defines it.
-/
module

public import proofs.«01_k».proof.Proof.Gen.MergeFwdIdeal.Frame
public import proofs.«01_k».proof.Proof.Gen.MergeFwdRefIdeal.Read
public import proofs.«01_k».proof.Proof.SiluPure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeFwdIdeal.Final

open Cert.MergeFwdIdeal Cert.MergeFwdIdeal.Gen Cert.MergeFwdRefIdeal.Read

variable (m : (ℓ : Loc nD τ sig) → Buf (Elt Ideal) ℓ)

/-- Every window's block index at every point: the two gate windows read columns 13 + j and 15 + j of the projection. -/
theorem idx : ∀ t : Fin cfg0.N, win0_0.index t = ![t.val / 2, 13 + t.val % 2] ∧ win0_1.index t = ![t.val / 2, 15 + t.val % 2]
    ∧ win0_2.index t = ![t.val / 2, t.val % 2] ∧ win0_3.index t = ![t.val / 2, t.val % 2] ∧ win0_4.index t = ![t.val / 2, t.val % 2] :=
  (by decide +kernel : ∀ t : Fin grid0.N, _)

/-- The reference's result at an index. -/
theorem refAt (x0 : FVec Ideal S16384x8704 .bf16) (x1 x2 : FVec Ideal S16384x1024 .f32) (r : Fin 16384) (l : Fin 1024) :
    (val_main_v16 (F := Ideal) x0 x1 x2 (ix2 r l) : EReal)
      = Silu.sg (x0 (ix2 r ⟨6656 + l.val, by omega⟩)) * x1 (ix2 r l) + Silu.sg (x0 (ix2 r ⟨7680 + l.val, by omega⟩)) * x2 (ix2 r l) := by
  have hl := l.isLt
  pointwise [val_main_v0, val_main_v1, val_main_v2, val_main_v3, val_main_cst, val_main_v4, val_main_v5, val_main_cst_0, val_main_v6, val_main_v7, val_main_v8, val_main_v9, val_main_v10, val_main_v11, val_main_v12, val_main_v13, val_main_v14, val_main_v15, val_main_v16, Silu.sg]
  refine congrArg (_ + ·) (congrArg (· * _) (congrArg (Ideal.div 1) (congrArg (1 + ·) (congrArg Ideal.exp (congrArg Neg.neg ?_)))))
  blk_ext

/-- The body's value at an index of its block. -/
theorem payAt (v0 : FVec Ideal S512x512 .bf16) (v9 : FVec Ideal S512x512 .f32) (v11 : FVec Ideal S512x512 .bf16) (v20 : FVec Ideal S512x512 .f32)
    (y : S512x512.Idx) : (k0_pay1 (F := Ideal) v0 v9 v11 v20 y : EReal) = Silu.sg (v0 y) * v9 y + Silu.sg (v11 y) * v20 y := by
  idx_vars y
  pointwise [k0_pay1, Silu.sg]
  simp only [zero_sub]

/-- After the run the result array holds the reference's result. -/
theorem final4 (c : Dev nD) : (dats m 0 c).arrAt 4 (cfgs 0).N
    = val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 64 := lt_of_lt_of_eq t.isLt N_0
  blk_simp
  rw [after0_4]
  frame_out
  refine (payAt _ _ _ _ y).trans ?_
  obtain_idx j : S16384x1024 := [512 * (t.val / 2) + (y 0).val, 512 * (t.val % 2) + (y 1).val] with hj
  have hj' : ((cfg0.win 4).blk t).view.emb y = j := by blk_ext [idx t]
  rw [hj']
  idx_vars j
  idx_vars y
  rw [refAt]
  have hl : j1.val < 1024 := j1.isLt
  have e0 : (iblk m c 0 t (ix2 y0 y1) : EReal) = m ((c : Thread nD τ).loc main_arg0) (ix2 j0 ⟨6656 + j1.val, by omega⟩) := by
    blk_point [iblk, V, idx t]
  have e1 : (iblk m c 1 t (ix2 y0 y1) : EReal) = m ((c : Thread nD τ).loc main_arg0) (ix2 j0 ⟨7680 + j1.val, by omega⟩) := by
    blk_point [iblk, V, idx t]
  have e2 : (iblk m c 2 t (ix2 y0 y1) : EReal) = m ((c : Thread nD τ).loc main_arg1) (ix2 j0 j1) := by
    blk_point [iblk, V, idx t]
  have e3 : (iblk m c 3 t (ix2 y0 y1) : EReal) = m ((c : Thread nD τ).loc main_arg2) (ix2 j0 j1) := by
    blk_point [iblk, V, idx t]
  exact congr (congrArg HAdd.hAdd (congr (congrArg HMul.hMul (congrArg Silu.sg e0)) e2)) (congr (congrArg HMul.hMul (congrArg Silu.sg e1)) e3)

end Cert.MergeFwdIdeal.Final

end
-- ==== Proof.MergeValue.lean ====
/-
  The backward pass of the gated merge: what the pipelined kernel leaves in each of its four result arrays is, element by
  element, what the derivative of the plain forward lines computes.
-/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen Cert.MergeRefIdeal.Read

variable (m : (ℓ : Loc nD τ sig) → Buf (Elt Ideal) ℓ)

/-- Every window's block index at every point: the two gate windows read columns 13 + j and 15 + j of the projection. -/
theorem idx : ∀ t : Fin cfg0.N, win0_0.index t = ![t.val / 2, 13 + t.val % 2] ∧ win0_1.index t = ![t.val / 2, 15 + t.val % 2]
    ∧ win0_2.index t = ![t.val / 2, t.val % 2] ∧ win0_3.index t = ![t.val / 2, t.val % 2] ∧ win0_4.index t = ![t.val / 2, t.val % 2]
    ∧ win0_5.index t = ![t.val / 2, t.val % 2] ∧ win0_6.index t = ![t.val / 2, t.val % 2] ∧ win0_7.index t = ![t.val / 2, t.val % 2]
    ∧ win0_8.index t = ![t.val / 2, t.val % 2] :=
  (by decide +kernel : ∀ t : Fin grid0.N, _)

/-- The logistic function of an extended real, spelt as both programs compute it. -/
def sg (x : EReal) : EReal := Ideal.div 1 (1 + Ideal.exp (-x))

/-- The reference's gradient of the attention branch at an index. -/
theorem ref5 (x0 : FVec Ideal S16384x8704 .bf16) (x3 : FVec Ideal S16384x1024 .f32) (r : Fin 16384) (l : Fin 1024) :
    val_main_v35 (F := Ideal) x0 x3 (ix2 r l) = sg (x0 (ix2 r ⟨6656 + l.val, by omega⟩)) * x3 (ix2 r l) := by
  have hl := l.isLt
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, sg]

/-- At a block index of a point the body's value is the gradient of the attention branch, as the reference defines it, at the array index there. -/
theorem point5 (c : Dev nD) (t : Fin cfg0.N) (y : S512x512.Idx) :
    k0_pay4 (iblk m c 4 t) (iblk m c 0 t) y
      = val_main_v35 (F := Ideal) (m ((c : Thread nD τ).loc main_arg0)) (m ((c : Thread nD τ).loc main_arg3)) (((cfg0.win 5).blk t).view.emb y) := by
  have ht : t.val < 64 := lt_of_lt_of_eq t.isLt N_0
  obtain_idx j : S16384x1024 := [512 * (t.val / 2) + (y 0).val, 512 * (t.val % 2) + (y 1).val] with hj
  have hj' : ((cfg0.win 5).blk t).view.emb y = j := by blk_ext [idx t]
  rw [hj']
  idx_vars j
  rw [ref5]
  pointwise [k0_pay4, k0_pay2, sg] at hj0 hj1 ⊢
  simp only [zero_sub, mul_assoc]
  blk_point [iblk, V, idx t]

/-- After the run the array holds the gradient of the attention branch. -/
theorem final5 (c : Dev nD) : (dats m 0 c).arrAt 5 (cfgs 0).N
    = val_main_v35 (F := Ideal) (m ((c : Thread nD τ).loc main_arg0)) (m ((c : Thread nD τ).loc main_arg3)) := by
  refine (dats m 0 c).arrAt_eq_of_covers 5 _ (by decide +kernel) fun t _ y => ?_
  blk_simp
  rw [after0_5]; frame_out
  exact point5 m c t y

/-- The reference's gradient of the state-space branch at an index. -/
theorem ref6 (x0 : FVec Ideal S16384x8704 .bf16) (x3 : FVec Ideal S16384x1024 .f32) (r : Fin 16384) (l : Fin 1024) :
    val_main_v36 (F := Ideal) x0 x3 (ix2 r l) = sg (x0 (ix2 r ⟨7680 + l.val, by omega⟩)) * x3 (ix2 r l) := by
  have hl := l.isLt
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, sg]
  refine congrArg (· * _) (congrArg (Ideal.div 1) (congrArg (1 + ·) (congrArg Ideal.exp (congrArg Neg.neg ?_))))
  blk_ext

/-- At a block index of a point the body's value is the gradient of the state-space branch, as the reference defines it, at the array index there. -/
theorem point6 (c : Dev nD) (t : Fin cfg0.N) (y : S512x512.Idx) :
    k0_pay5 (iblk m c 4 t) (iblk m c 1 t) y
      = val_main_v36 (F := Ideal) (m ((c : Thread nD τ).loc main_arg0)) (m ((c : Thread nD τ).loc main_arg3)) (((cfg0.win 6).blk t).view.emb y) := by
  have ht : t.val < 64 := lt_of_lt_of_eq t.isLt N_0
  obtain_idx j : S16384x1024 := [512 * (t.val / 2) + (y 0).val, 512 * (t.val % 2) + (y 1).val] with hj
  have hj' : ((cfg0.win 6).blk t).view.emb y = j := by blk_ext [idx t]
  rw [hj']
  idx_vars j
  rw [ref6]
  pointwise [k0_pay5, k0_pay3, sg] at hj0 hj1 ⊢
  simp only [zero_sub, mul_assoc]
  blk_point [iblk, V, idx t]

/-- After the run the array holds the gradient of the state-space branch. -/
theorem final6 (c : Dev nD) : (dats m 0 c).arrAt 6 (cfgs 0).N
    = val_main_v36 (F := Ideal) (m ((c : Thread nD τ).loc main_arg0)) (m ((c : Thread nD τ).loc main_arg3)) := by
  refine (dats m 0 c).arrAt_eq_of_covers 6 _ (by decide +kernel) fun t _ y => ?_
  blk_simp
  rw [after0_6]; frame_out
  exact point6 m c t y

/-- The reference's gradient of the attention gate's logits at an index. -/
theorem ref7 (x0 : FVec Ideal S16384x8704 .bf16) (x1 : FVec Ideal S16384x1024 .f32) (x2 : FVec Ideal S16384x1024 .f32) (x3 : FVec Ideal S16384x1024 .f32) (r : Fin 16384) (l : Fin 1024) :
    val_main_v33 (F := Ideal) x0 x1 x2 x3 (ix2 r l) = x3 (ix2 r l) * x1 (ix2 r l) * (sg (x0 (ix2 r ⟨6656 + l.val, by omega⟩)) * (1 - sg (x0 (ix2 r ⟨6656 + l.val, by omega⟩)))) := by
  have hl := l.isLt
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, sg]
  rw [dif_neg (by omega), dif_pos (by omega), zero_add]
  have e : (⟨l.val % 1024, Nat.mod_lt _ (by decide)⟩ : Fin 1024) = l := Fin.ext (Nat.mod_eq_of_lt hl)
  rw [e]

/-- At a block index of a point the body's value is the gradient of the attention gate's logits, as the reference defines it, at the array index there. -/
theorem point7 (c : Dev nD) (t : Fin cfg0.N) (y : S512x512.Idx) :
    k0_pay6 (iblk m c 4 t) (iblk m c 0 t) (iblk m c 2 t) y
      = val_main_v33 (F := Ideal) (m ((c : Thread nD τ).loc main_arg0)) (m ((c : Thread nD τ).loc main_arg1)) (m ((c : Thread nD τ).loc main_arg2)) (m ((c : Thread nD τ).loc main_arg3)) (((cfg0.win 7).blk t).view.emb y) := by
  have ht : t.val < 64 := lt_of_lt_of_eq t.isLt N_0
  obtain_idx j : S16384x1024 := [512 * (t.val / 2) + (y 0).val, 512 * (t.val % 2) + (y 1).val] with hj
  have hj' : ((cfg0.win 7).blk t).view.emb y = j := by blk_ext [idx t]
  rw [hj']
  idx_vars j
  rw [ref7]
  pointwise [k0_pay6, k0_pay2, sg] at hj0 hj1 ⊢
  simp only [zero_sub, mul_assoc]
  blk_point [iblk, V, idx t]

/-- After the run the array holds the gradient of the attention gate's logits. -/
theorem final7 (c : Dev nD) : (dats m 0 c).arrAt 7 (cfgs 0).N
    = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

/-- The reference's gradient of the state-space gate's logits at an index. -/
theorem ref8 (x0 : FVec Ideal S16384x8704 .bf16) (x1 : FVec Ideal S16384x1024 .f32) (x2 : FVec Ideal S16384x1024 .f32) (x3 : FVec Ideal S16384x1024 .f32) (r : Fin 16384) (l : Fin 1024) :
    val_main_v34 (F := Ideal) x0 x1 x2 x3 (ix2 r l) = x3 (ix2 r l) * x2 (ix2 r l) * (sg (x0 (ix2 r ⟨7680 + l.val, by omega⟩)) * (1 - sg (x0 (ix2 r ⟨7680 + l.val, by omega⟩)))) := by
  have hl := l.isLt
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, sg]
  rw [dif_pos (by omega), dif_neg (by omega), add_zero]
  have e : 6656 + (1024 + l.val) = 7680 + l.val := by omega
  simp only [e]

/-- At a block index of a point the body's value is the gradient of the state-space gate's logits, as the reference defines it, at the array index there. -/
theorem point8 (c : Dev nD) (t : Fin cfg0.N) (y : S512x512.Idx) :
    k0_pay1 (iblk m c 4 t) (k0_pay3 (iblk m c 1 t)) (iblk m c 3 t) y
      = val_main_v34 (F := Ideal) (m ((c : Thread nD τ).loc main_arg0)) (m ((c : Thread nD τ).loc main_arg1)) (m ((c : Thread nD τ).loc main_arg2)) (m ((c : Thread nD τ).loc main_arg3)) (((cfg0.win 8).blk t).view.emb y) := by
  have ht : t.val < 64 := lt_of_lt_of_eq t.isLt N_0
  obtain_idx j : S16384x1024 := [512 * (t.val / 2) + (y 0).val, 512 * (t.val % 2) + (y 1).val] with hj
  have hj' : ((cfg0.win 8).blk t).view.emb y = j := by blk_ext [idx t]
  rw [hj']
  idx_vars j
  rw [ref8]
  pointwise [k0_pay1, k0_pay3, sg] at hj0 hj1 ⊢
  simp only [zero_sub, mul_assoc]
  blk_point [iblk, V, idx t]

/-- After the run the array holds the gradient of the state-space gate's logits. -/
theorem final8 (c : Dev nD) : (dats m 0 c).arrAt 8 (cfgs 0).N
    = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact point8 m c t y

end Cert.MergeIdeal.Final

end
-- ==== Proof.Norm1Value.lean ====
/-
  The gradient of the first normalisation: the kernel's two results are the two gradients of the reference.
-/
module

public import proofs.«01_k».proof.Proof.Gen.Norm1Ideal.Frame
public import proofs.«01_k».proof.Proof.Gen.Norm1RefIdeal.Read
public import proofs.«01_k».proof.Proof.RmsPure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm1Ideal.Final

open Cert.Norm1Ideal Cert.Norm1Ideal.Gen Cert.Norm1RefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

/-- The sum of four rows, in the order of the kernel and of the reference. -/
def sum4 (a b d e : Fin 1024 → EReal) (x : Fin 1024) : EReal := a x + b x + d x + e x

/-- The reference's gradient of the input at an index. -/
theorem refAt (x0 : Vec Ideal S16384x1024 .f32) (x1 : Vec Ideal S1024 .f32) (x2 x3 x4 x5 x6 : Vec Ideal S16384x1024 .f32) (r : Fin 16384) (l : Fin 1024) :
    (val_main_v39 (F := Ideal) x0 x1 x2 x3 x4 x5 x6 (ix2 r l) : EReal)
      = x2 (ix2 r l) + Rms.dx (fun x => x0 (ix2 r x)) (fun x => x1 (ix1 x)) (sum4 (fun x => x3 (ix2 r x)) (fun x => x4 (ix2 r x)) (fun x => x5 (ix2 r x)) (fun x => x6 (ix2 r x))) l := by
  refine Eq.trans ?_ (Rms.grad _ _ _ _ _)
  pointwise [Rms.ms, Rms.rs, sum4, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39]
  simp only [Finset.univ_unique, Finset.sum_singleton]

/-- The reference's gradient of the weight at an index. -/
theorem refDwAt (x0 : Vec Ideal S16384x1024 .f32)  (x3 x4 x5 x6 : Vec Ideal S16384x1024 .f32) (l : Fin 1024) :
    (val_main_v24 (F := Ideal) x0 x3 x4 x5 x6 (ix1 l) : EReal)
      = ∑ k : Fin 16384, Rms.dw (fun x => x0 (ix2 k x)) (sum4 (fun x => x3 (ix2 k x)) (fun x => x4 (ix2 k x)) (fun x => x5 (ix2 k x)) (fun x => x6 (ix2 k x))) l := by
  pointwise [Rms.ms, Rms.rs, sum4, Rms.dw, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_cst_3, val_main_v20, val_main_v21, val_main_v22, val_main_v23, val_main_cst_4, val_main_v24]
  simp only [Finset.univ_unique, Finset.sum_singleton]
  exact Finset.sum_congr rfl fun k _ => mul_comm _ _

/-- The body's gradient of the input at an index of its block. -/
theorem payAt (v0 v1 v2 v4 v6 : Vec Ideal S512x1024 .f32) (v10 : Vec Ideal S1x1024 .f32) (v19 : Vec Ideal S512x1024 .f32) (r : Fin 512) (l : Fin 1024) :
    (k0_pay5 (F := Ideal) v0 v1 v2 v4 v6 v10 v19 (ix2 r l) : EReal)
      = v19 (ix2 r l) + Rms.dx (fun x => v0 (ix2 r x)) (fun x => v10 (ix2 (n0 := 1) 0 x)) (sum4 (fun x => v1 (ix2 r x)) (fun x => v2 (ix2 r x)) (fun x => v4 (ix2 r x)) (fun x => v6 (ix2 r x))) l := by
  pointwise [Rms.ms, Rms.rs, sum4, Rms.dx, k0_pay5, k0_pay4, k0_pay3]
  simp only [mul_comm (v0 _ : EReal) (_ * _), sub_eq_add_neg, add_assoc]

/-- The body's gradient of the weight over the rows of one pair of blocks. -/
def part (v0 v1 v2 v4 v6 : Vec Ideal S512x1024 .f32) (j : S1x1024.Idx) : EReal :=
  ∑ k : Fin 512, Rms.dw (fun x => v0 (ix2 k x)) (sum4 (fun x => v1 (ix2 k x)) (fun x => v2 (ix2 k x)) (fun x => v4 (ix2 k x)) (fun x => v6 (ix2 k x))) (j 1)

/-- The accumulating payload at an index. -/
theorem accAt (v0 v1 v2 v4 v6 : Vec Ideal S512x1024 .f32) (v : Vec Ideal S1x1024 .f32) (j : S1x1024.Idx) :
    (k0_pay2 (F := Ideal) v0 (k0_pay3 v1 v2 v4 v6) (k0_pay4 v0) v j : EReal) = v j + part v0 v1 v2 v4 v6 j := by
  idx_vars j
  pointwise [Rms.ms, Rms.rs, sum4, Rms.dw, part, k0_pay2, k0_pay3, k0_pay4]
  simp only [mul_assoc]

/-- The block of the weights at an index. -/
theorem blk1 (c : Dev nD) (t : Fin cfg0.N) (x : Fin 1024) : (iblk m c 1 t (ix2 (n0 := 1) 0 x) : EReal) = m ((c : Thread nD τ).loc main_arg1) (ix1 x) := by
  have hv : V m c main_v0 = shapeCast S1x1024 (m ((c : Thread nD τ).loc main_arg1) : Vec Ideal S1024 .f32) shapeCasts_S1024_S1x1024 := by
    show StableHlo.after hostOps0 (fun b => m (c, b)) _ = _
    entry_read
    rfl
  have hi : ((cfg0.win 1).blk t).view.emb (ix2 (n0 := 1) 0 x) = ix2 (n0 := 1) (n1 := 1024) 0 x := by blk_ext [idx t]
  refine (congrArg (V m c main_v0) hi).trans ((congrFun hv _).trans ?_)
  pointwise

/-- The block at the first result's window after a point. -/
theorem out7 (c : Dev nD) (t : Fin cfg0.N) : (outsAt0 m c t.val t.isLt).1
    = k0_pay5 (F := Ideal) (iblk m c 0 t) (iblk m c 2 t) (iblk m c 3 t) (iblk m c 4 t) (iblk m c 5 t) (iblk m c 1 t) (iblk m c 6 t) := by
  by_cases h : t.val % 32 = 0
  · rw [outsAt0_A m c t h]; frame_out
  · rw [outsAt0_B m c t h]; frame_out

/-- The accumulator after the last point is the sum of the parts of all the points. -/
theorem out8 (c : Dev nD) (t : Fin cfg0.N) (h7 : t.val % 32 = 32 - 1) (y : S1x1024.Idx) :
    (outsAt0 m c t.val t.isLt).2 y
      = ∑ s : Fin 32, part (iblk m c 0 ⟨32 * (t.val / 32) + s.val, Pipeline.run_point_lt_of_flush t h7 s⟩) (iblk m c 2 ⟨32 * (t.val / 32) + s.val, Pipeline.run_point_lt_of_flush t h7 s⟩) (iblk m c 3 ⟨32 * (t.val / 32) + s.val, Pipeline.run_point_lt_of_flush t h7 s⟩) (iblk m c 4 ⟨32 * (t.val / 32) + s.val, Pipeline.run_point_lt_of_flush t h7 s⟩) (iblk m c 5 ⟨32 * (t.val / 32) + s.val, Pipeline.run_point_lt_of_flush t h7 s⟩) y := by
  rw [Pipeline.eq_sum_fin_of_reset_step_apply_of_flush (M := EReal) (fun n h => (outsAt0 m c n h).2) 32 (fun _ => 0)
    (fun t j => part (iblk m c 0 t) (iblk m c 2 t) (iblk m c 3 t) (iblk m c 4 t) (iblk m c 5 t) j)
    (fun t h j => by
      rw [outsAt0_A m c t (by omega)]; frame_out; rw [accAt]
      refine congrArg (· + _) ?_
      pointwise [k0_pay1])
    (fun t h j => by
      rw [outsAt0_B m c t (by omega)]; frame_out; rw [accAt])
    t h7 _, zero_add]

/-- What the kernel leaves in its first result array is the reference's gradient of the input. -/
theorem final7 (c : Dev nD) : (dats m 0 c).arrAt 7 (cfgs 0).N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have ht : t.val < 32 := lt_of_lt_of_eq t.isLt N_0
  blk_simp
  rw [after0_7, out7]
  obtain_idx j : S16384x1024 := [512 * t.val + (y 0).val, (y 1).val] with hj
  have hj' : ((cfg0.win 7).blk t).view.emb y = j := by blk_ext [idx t]
  rw [hj']
  idx_vars y
  idx_vars j
  rw [refAt, payAt]
  have e0 : (fun x => (iblk m c 0 t (ix2 y0 x) : EReal)) = fun x => m ((c : Thread nD τ).loc main_arg0) (ix2 j0 x) := funext fun x => by
    blk_point [iblk, V, idx t]
  have e2 : (fun x => (iblk m c 2 t (ix2 y0 x) : EReal)) = fun x => m ((c : Thread nD τ).loc main_arg3) (ix2 j0 x) := funext fun x => by
    blk_point [iblk, V, idx t]
  have e3 : (fun x => (iblk m c 3 t (ix2 y0 x) : EReal)) = fun x => m ((c : Thread nD τ).loc main_arg4) (ix2 j0 x) := funext fun x => by
    blk_point [iblk, V, idx t]
  have e4 : (fun x => (iblk m c 4 t (ix2 y0 x) : EReal)) = fun x => m ((c : Thread nD τ).loc main_arg5) (ix2 j0 x) := funext fun x => by
    blk_point [iblk, V, idx t]
  have e5 : (fun x => (iblk m c 5 t (ix2 y0 x) : EReal)) = fun x => m ((c : Thread nD τ).loc main_arg6) (ix2 j0 x) := funext fun x => by
    blk_point [iblk, V, idx t]
  have e6 : (iblk m c 6 t (ix2 y0 y1) : EReal) = m ((c : Thread nD τ).loc main_arg2) (ix2 j0 j1) := by
    blk_point [iblk, V, idx t]
  obtain rfl : y1 = j1 := Fin.ext hj1.symm
  rw [e0, funext (blk1 m c t), e2, e3, e4, e5, e6]

/-- What the kernel leaves in its second result array is the reference's gradient of the weight, as one row. -/
theorem final8 (c : Dev nD) : (dats m 0 c).arrAt 8 (cfgs 0).N
    = fun j : S1x1024.Idx => (val_main_v24 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (ix1 (j 1)) : EReal) := by
  refine (dats m 0 c).arrAt_eq_of_covers 8 _ (by decide +kernel) fun t hf y => ?_
  have ht : t.val < 32 := lt_of_lt_of_eq t.isLt N_0
  blk_simp
  rw [after0_8]
  refine (out8 m c t ((flush0_8 t).mp hf) y).trans ?_
  obtain_idx j : S1x1024 := [0, (y 1).val] with hj
  have hj' : ((cfg0.win 8).blk t).view.emb y = j := by blk_ext [idx t]
  rw [hj']
  idx_vars y
  idx_vars j
  show _ = (val_main_v24 (F := Ideal) _ _ _ _ _ (ix1 j1) : EReal)
  rw [refDwAt]
  unfold part
  obtain rfl : y1 = j1 := Fin.ext hj1.symm
  refine Fin.sum_mul_add_congr fun s k hl => ?_
  have hs : 32 * (t.val / 32) + s.val = s.val := by omega
  congr 1
  · funext x
    blk_point [iblk, V, idx ⟨_, Pipeline.run_point_lt_of_flush t ((flush0_8 t).mp hf) s⟩]
  · congr 1 <;> funext x <;> blk_point [iblk, V, idx ⟨_, Pipeline.run_point_lt_of_flush t ((flush0_8 t).mp hf) s⟩]

/-- A row of a row's function, without its axis of extent one, is the function. -/
theorem flat (v : Vec Ideal S1x1024 .f32) (f : Vec Ideal S1024 .f32) (h : v = fun j => f (ix1 (j 1))) :
    shapeCast S1024 v shapeCasts_S1x1024_S1024 = f := by
  subst h
  funext j
  idx_vars j
  pointwise

/-- What the line after the region leaves in the second result is the reference's gradient of the weight. -/
theorem finalDw (c : Dev nD) : Pipeline.afterTail₀ cfgs (dats m) 0 (V0 m) [hostOps1] c main_v2
    = val_main_v24 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ _ = _
  entry_read
  exact flat _ _ ((Pipeline.withArrays_arr (cfgs 0).spec launch0.win.arr_inj c _ _ 8).trans (final8 m c))

end Cert.Norm1Ideal.Final
-- ==== Proof.Norm2Value.lean ====
/-
  The gradient of the second normalisation: the kernel's two results are the two gradients of the reference.
-/
module

public import proofs.«01_k».proof.Proof.Gen.Norm2Ideal.Frame
public import proofs.«01_k».proof.Proof.Gen.Norm2RefIdeal.Read
public import proofs.«01_k».proof.Proof.RmsPure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm2Ideal.Final

open Cert.Norm2Ideal Cert.Norm2Ideal.Gen Cert.Norm2RefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

/-- The reference's gradient of the input at an index. -/
theorem refAt (x0 : Vec Ideal S16384x1024 .f32) (x1 : Vec Ideal S1024 .f32) (x2 x3 : Vec Ideal S16384x1024 .f32) (r : Fin 16384) (l : Fin 1024) :
    (val_main_v36 (F := Ideal) x0 x1 x2 x3 (ix2 r l) : EReal)
      = x2 (ix2 r l) + Rms.dx (fun x => x0 (ix2 r x)) (fun x => x1 (ix1 x)) (fun x => x3 (ix2 r x)) l := by
  refine Eq.trans ?_ (Rms.grad _ _ _ _ _)
  pointwise [Rms.ms, Rms.rs, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36]
  simp only [Finset.univ_unique, Finset.sum_singleton]

/-- The reference's gradient of the weight at an index. -/
theorem refDwAt (x0 : Vec Ideal S16384x1024 .f32)  (x3 : Vec Ideal S16384x1024 .f32) (l : Fin 1024) :
    (val_main_v21 (F := Ideal) x0 x3 (ix1 l) : EReal)
      = ∑ k : Fin 16384, Rms.dw (fun x => x0 (ix2 k x)) (fun x => x3 (ix2 k x)) l := by
  pointwise [Rms.ms, Rms.rs, Rms.dw, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21]
  simp only [Finset.univ_unique, Finset.sum_singleton]
  exact Finset.sum_congr rfl fun k _ => mul_comm _ _

/-- The body's gradient of the input at an index of its block. -/
theorem payAt (v0 v1 : Vec Ideal S512x1024 .f32) (v10 : Vec Ideal S1x1024 .f32) (v19 : Vec Ideal S512x1024 .f32) (r : Fin 512) (l : Fin 1024) :
    (k0_pay3 (F := Ideal) v0 v1 v10 v19 (ix2 r l) : EReal)
      = v19 (ix2 r l) + Rms.dx (fun x => v0 (ix2 r x)) (fun x => v10 (ix2 (n0 := 1) 0 x)) (fun x => v1 (ix2 r x)) l := by
  pointwise [Rms.ms, Rms.rs, Rms.dx, k0_pay3, k0_pay2]
  simp only [mul_comm (v0 _ : EReal) (_ * _), sub_eq_add_neg, add_assoc]

/-- The body's gradient of the weight over the rows of one pair of blocks. -/
def part (v0 v1 : Vec Ideal S512x1024 .f32) (j : S1x1024.Idx) : EReal :=
  ∑ k : Fin 512, Rms.dw (fun x => v0 (ix2 k x)) (fun x => v1 (ix2 k x)) (j 1)

/-- The accumulating payload at an index. -/
theorem accAt (v0 v1 : Vec Ideal S512x1024 .f32) (v : Vec Ideal S1x1024 .f32) (j : S1x1024.Idx) :
    (k0_pay1 (F := Ideal) (k0_pay5 v) (k0_pay6 v0 v1) (k0_pay7 v0) j : EReal) = v j + part v0 v1 j := by
  idx_vars j
  pointwise [Rms.ms, Rms.rs, Rms.dw, part, k0_pay1, k0_pay2, k0_pay5, k0_pay6, k0_pay7]
  simp only [mul_assoc]

/-- The block of the weights at an index. -/
theorem blk1 (c : Dev nD) (t : Fin cfg0.N) (x : Fin 1024) : (iblk m c 1 t (ix2 (n0 := 1) 0 x) : EReal) = m ((c : Thread nD τ).loc main_arg1) (ix1 x) := by
  have hv : V m c main_v0 = shapeCast S1x1024 (m ((c : Thread nD τ).loc main_arg1) : Vec Ideal S1024 .f32) shapeCasts_S1024_S1x1024 := by
    show StableHlo.after hostOps0 (fun b => m (c, b)) _ = _
    entry_read
    rfl
  have hi : ((cfg0.win 1).blk t).view.emb (ix2 (n0 := 1) 0 x) = ix2 (n0 := 1) (n1 := 1024) 0 x := by blk_ext [idx t]
  refine (congrArg (V m c main_v0) hi).trans ((congrFun hv _).trans ?_)
  pointwise

/-- The block at the first result's window after a point. -/
theorem out4 (c : Dev nD) (t : Fin cfg0.N) : (outsAt0 m c t.val t.isLt).1
    = k0_pay3 (F := Ideal) (iblk m c 0 t) (iblk m c 2 t) (iblk m c 1 t) (iblk m c 3 t) := by
  by_cases h : t.val % 32 = 0
  · rw [outsAt0_A m c t h]; frame_out
  · rw [outsAt0_B m c t h]; frame_out

/-- The accumulator after the last point is the sum of the parts of all the points. -/
theorem out5 (c : Dev nD) (t : Fin cfg0.N) (h7 : t.val % 32 = 32 - 1) (y : S1x1024.Idx) :
    (outsAt0 m c t.val t.isLt).2 y
      = ∑ s : Fin 32, part (iblk m c 0 ⟨32 * (t.val / 32) + s.val, Pipeline.run_point_lt_of_flush t h7 s⟩) (iblk m c 2 ⟨32 * (t.val / 32) + s.val, Pipeline.run_point_lt_of_flush t h7 s⟩) y := by
  rw [Pipeline.eq_sum_fin_of_reset_step_apply_of_flush (M := EReal) (fun n h => (outsAt0 m c n h).2) 32 (fun _ => 0)
    (fun t j => part (iblk m c 0 t) (iblk m c 2 t) j)
    (fun t h j => by
      rw [outsAt0_A m c t (by omega)]; frame_out; rw [accAt]
      refine congrArg (· + _) ?_
      pointwise [k0_pay4])
    (fun t h j => by
      rw [outsAt0_B m c t (by omega)]; frame_out; rw [accAt])
    t h7 _, zero_add]

/-- What the kernel leaves in its first result array is the reference's gradient of the input. -/
theorem final4 (c : Dev nD) : (dats m 0 c).arrAt 4 (cfgs 0).N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := lt_of_lt_of_eq t.isLt N_0
  blk_simp
  rw [after0_4, out4]
  obtain_idx j : S16384x1024 := [512 * t.val + (y 0).val, (y 1).val] with hj
  have hj' : ((cfg0.win 4).blk t).view.emb y = j := by blk_ext [idx t]
  rw [hj']
  idx_vars y
  idx_vars j
  rw [refAt, payAt]
  have e0 : (fun x => (iblk m c 0 t (ix2 y0 x) : EReal)) = fun x => m ((c : Thread nD τ).loc main_arg0) (ix2 j0 x) := funext fun x => by
    blk_point [iblk, V, idx t]
  have e2 : (fun x => (iblk m c 2 t (ix2 y0 x) : EReal)) = fun x => m ((c : Thread nD τ).loc main_arg3) (ix2 j0 x) := funext fun x => by
    blk_point [iblk, V, idx t]
  have e3 : (iblk m c 3 t (ix2 y0 y1) : EReal) = m ((c : Thread nD τ).loc main_arg2) (ix2 j0 j1) := by
    blk_point [iblk, V, idx t]
  obtain rfl : y1 = j1 := Fin.ext hj1.symm
  rw [e0, funext (blk1 m c t), e2, e3]

/-- What the kernel leaves in its second result array is the reference's gradient of the weight, as one row. -/
theorem final5 (c : Dev nD) : (dats m 0 c).arrAt 5 (cfgs 0).N
    = fun j : S1x1024.Idx => (val_main_v21 (F := Ideal) (m ((c : Thread nD τ).loc main_arg0)) (m ((c : Thread nD τ).loc main_arg3)) (ix1 (j 1)) : EReal) := by
  refine (dats m 0 c).arrAt_eq_of_covers 5 _ (by decide +kernel) fun t hf y => ?_
  have ht : t.val < 32 := lt_of_lt_of_eq t.isLt N_0
  blk_simp
  rw [after0_5]
  refine (out5 m c t ((flush0_5 t).mp hf) y).trans ?_
  obtain_idx j : S1x1024 := [0, (y 1).val] with hj
  have hj' : ((cfg0.win 5).blk t).view.emb y = j := by blk_ext [idx t]
  rw [hj']
  idx_vars y
  idx_vars j
  show _ = (val_main_v21 (F := Ideal) _ _ (ix1 j1) : EReal)
  rw [refDwAt]
  unfold part
  obtain rfl : y1 = j1 := Fin.ext hj1.symm
  refine Fin.sum_mul_add_congr fun s k hl => ?_
  have hs : 32 * (t.val / 32) + s.val = s.val := by omega
  congr 1
  · funext x
    blk_point [iblk, V, idx ⟨_, Pipeline.run_point_lt_of_flush t ((flush0_5 t).mp hf) s⟩]
  · funext x
    blk_point [iblk, V, idx ⟨_, Pipeline.run_point_lt_of_flush t ((flush0_5 t).mp hf) s⟩]

/-- A row of a row's function, without its axis of extent one, is the function. -/
theorem flat (v : Vec Ideal S1x1024 .f32) (f : Vec Ideal S1024 .f32) (h : v = fun j => f (ix1 (j 1))) :
    shapeCast S1024 v shapeCasts_S1x1024_S1024 = f := by
  subst h
  funext j
  idx_vars j
  pointwise

/-- What the line after the region leaves in the second result is the reference's gradient of the weight. -/
theorem finalDw (c : Dev nD) : Pipeline.afterTail₀ cfgs (dats m) 0 (V0 m) [hostOps1] c main_v2
    = val_main_v21 (F := Ideal) (m ((c : Thread nD τ).loc main_arg0)) (m ((c : Thread nD τ).loc main_arg3)) := by
  unfold Pipeline.afterTail₀
  show StableHlo.after hostOps1 _ _ = _
  entry_read
  exact flat _ _ ((Pipeline.withArrays_arr (cfgs 0).spec launch0.win.arr_inj c _ _ 5).trans (final5 m c))

end Cert.Norm2Ideal.Final
-- ==== Proof.NormValue.lean ====
/-
  The root-mean-square normalisation: the kernel leaves the normalised rows times the weights, as the reference defines it.
-/
module

public import proofs.«01_k».proof.Proof.Gen.NormIdeal.Frame
public import proofs.«01_k».proof.Proof.Gen.NormRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Final

open Cert.NormIdeal Cert.NormIdeal.Gen Cert.NormRefIdeal.Read

variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![t.val, 0] :=
  (by decide +kernel : ∀ t : Fin grid0.N, _)

/-- A row's normalised value in a column: the value over the root of the mean square, times the column's weight. -/
def nrm (x w : Fin 1024 → EReal) (l : Fin 1024) : EReal :=
  x l * Ideal.rsqrt (Ideal.div (∑ k, x k * x k) (Ideal.ofBits .f32 1149239296#32) + Ideal.ofBits .f32 897988541#32) * w l

/-- The reference's result at an index. -/
theorem refAt (x0 : FVec Ideal S16384x1024 .f32) (x1 : FVec Ideal S1024 .f32) (r : Fin 16384) (l : Fin 1024) :
    (val_main_v13 (F := Ideal) x0 x1 (ix2 r l) : EReal) = nrm (fun x => x0 (ix2 r x)) (fun x => x1 (ix1 x)) l := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, nrm]

/-- The body's value at an index of its block. -/
theorem payAt (v0 : FVec Ideal S512x1024 .f32) (v11 : FVec Ideal S1x1024 .f32) (r : Fin 512) (l : Fin 1024) :
    (k0_pay1 (F := Ideal) v0 v11 (ix2 r l) : EReal) = nrm (fun x => v0 (ix2 r x)) (fun x => v11 (ix2 (n0 := 1) 0 x)) l := by
  pointwise [k0_pay1, nrm]

/-- The block of the weights at an index. -/
theorem blk1 (c : Dev nD) (t : Fin cfg0.N) (x : Fin 1024) : (iblk m c 1 t (ix2 (n0 := 1) 0 x) : EReal) = m ((c : Thread nD τ).loc main_arg1) (ix1 x) := by
  have hv : V m c main_v0 = shapeCast S1x1024 (m ((c : Thread nD τ).loc main_arg1) : Vec Ideal S1024 .f32) shapeCasts_S1024_S1x1024 := by
    show StableHlo.after hostOps0 (fun b => m (c, b)) _ = _
    entry_read
    rfl
  have hi : ((cfg0.win 1).blk t).view.emb (ix2 (n0 := 1) 0 x) = ix2 (n0 := 1) (n1 := 1024) 0 x := by blk_ext [idx t]
  refine (congrArg (V m c main_v0) hi).trans ((congrFun hv _).trans ?_)
  pointwise

/-- After the run the result array holds the reference's result. -/
theorem final2 (c : Dev nD) : (dats m 0 c).arrAt 2 (cfgs 0).N
    = val_main_v13 (F := Ideal) (m ((c : Thread nD τ).loc main_arg0)) (m ((c : Thread nD τ).loc main_arg1)) := by
  refine (dats m 0 c).arrAt_eq_of_covers 2 _ (by decide +kernel) fun t _ y => ?_
  have ht : t.val < 32 := lt_of_lt_of_eq t.isLt N_0
  blk_simp
  rw [after0_2]
  frame_out
  obtain_idx j : S16384x1024 := [512 * t.val + (y 0).val, (y 1).val] with hj
  have hj' : ((cfg0.win 2).blk t).view.emb y = j := by blk_ext [idx t]
  rw [hj']
  idx_vars j
  idx_vars y
  rw [refAt]
  obtain rfl : y1 = j1 := Fin.ext hj1.symm
  refine (payAt _ _ _ _).trans ?_
  have hV : V m c main_arg0 = m ((c : Thread nD τ).loc main_arg0) := by
    show StableHlo.after hostOps0 (fun b => m (c, b)) _ = _
    entry_read
    rfl
  have e0 : ∀ x, (iblk m c 0 t (ix2 y0 x) : EReal) = m ((c : Thread nD τ).loc main_arg0) (ix2 j0 x) := fun x => by
    refine Eq.trans ?_ (congrFun hV _)
    blk_point [iblk, idx t]
  exact congr (congr (congrArg nrm (funext e0)) (funext (blk1 m c t))) rfl

end Cert.NormIdeal.Final

end
-- ==== Proof.OutProjDwValue.lean ====
/-
  The output projection, the gradient of the weight: the tiled product of the kernel is the plain product of the reference.
-/
module

public import proofs.«01_k».proof.Proof.Gen.OutProjDwIdeal.Frame
public import proofs.«01_k».proof.Proof.Gen.OutProjDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjDwIdeal.Final

open Cert.OutProjDwIdeal Cert.OutProjDwIdeal.Gen Cert.OutProjDwRefIdeal.Read

variable (m : (ℓ : Loc nD τ sig) → Buf (Elt Ideal) ℓ)

/-- Every window's block index at every point. -/
theorem idx : ∀ t : Fin cfg0.N, win0_0.index t = ![t.val % 8, 0]
    ∧ win0_1.index t = ![t.val % 8, t.val / 8]
    ∧ win0_2.index t = ![0, t.val / 8] :=
  (by decide +kernel : ∀ t : Fin grid0.N, _)

/-- The reference's result at an index. -/
theorem refAt (x0 : Vec Ideal S16384x1024 .bf16) (x1 : Vec Ideal S16384x1024 .f32) (r : Fin 1024) (l : Fin 1024) :
    (val_main_v4 (F := Ideal) x0 x1 (ix2 r l) : EReal) = ∑ k : Fin 16384, (x0 (ix2 k r) : EReal) * x1 (ix2 k l) := by
  pointwise [val_main_v4, val_main_v3, val_main_v2, val_main_v1, val_main_v0, val_main_cst]
  exact Finset.sum_congr rfl fun k _ => mul_comm _ _

/-- The body's product of two blocks at an index. -/
theorem payAt (v0 : Vec Ideal S2048x1024 .bf16) (v1 : Vec Ideal S2048x512 .f32) (r : Fin 1024) (l : Fin 512) :
    (k0_pay2 (F := Ideal) v0 v1 (ix2 r l) : EReal) = ∑ k : Fin 2048, (v0 (ix2 k r) : EReal) * v1 (ix2 k l) := by
  pointwise [k0_pay3, k0_pay2, k0_pay1]

/-- The accumulating payload at an index. -/
theorem accAt (v0 : Vec Ideal S2048x1024 .bf16) (v1 : Vec Ideal S2048x512 .f32) (v : Vec Ideal S1024x512 .f32) (j : S1024x512.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 8 = 8 - 1) (y : S1024x512.Idx) :
    (outsAt0 m c t.val t.isLt).1 y
      = ∑ s : Fin 8, (k0_pay2 (F := Ideal) (iblk m c 0 ⟨8 * (t.val / 8) + s.val, Pipeline.run_point_lt_of_flush t h7 s⟩) (iblk m c 1 ⟨8 * (t.val / 8) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 8 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 8 = 7
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 8 = 8 - 1) (y : S1024x512.Idx) :
    (∑ s : Fin 8, (k0_pay2 (F := Ideal) (iblk m c 0 ⟨8 * (t.val / 8) + s.val, Pipeline.run_point_lt_of_flush t h7 s⟩) (iblk m c 1 ⟨8 * (t.val / 8) + s.val, Pipeline.run_point_lt_of_flush t h7 s⟩) y : EReal))
      = val_main_v4 (F := Ideal) (m ((c : Thread nD τ).loc main_arg0)) (m ((c : Thread nD τ).loc main_arg1)) (((cfg0.win 2).blk t).view.emb y) := by
  have ht : t.val < 16 := lt_of_lt_of_eq t.isLt N_0
  obtain_idx j : S1024x1024 := [(y 0).val, 512 * (t.val / 8) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.OutProjDwIdeal.Final
-- ==== Proof.OutProjDxValue.lean ====
/-
  The output projection, the gradient of the activations: the tiled product of the kernel is the plain product of the reference.
-/
module

public import proofs.«01_k».proof.Proof.Gen.OutProjDxIdeal.Frame
public import proofs.«01_k».proof.Proof.Gen.OutProjDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjDxIdeal.Final

open Cert.OutProjDxIdeal Cert.OutProjDxIdeal.Gen Cert.OutProjDxRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x1024 .f32) (x1 : Vec Ideal S1024x1024 .bf16) (r : Fin 16384) (l : Fin 1024) :
    (val_main_v3 (F := Ideal) x0 x1 (ix2 r l) : EReal) = ∑ k : Fin 1024, (x0 (ix2 r k) : EReal) * x1 (ix2 l k) := by
  pointwise [val_main_v3, val_main_v2, val_main_v1, val_main_v0, val_main_cst]

/-- The body's product of two blocks at an index. -/
theorem payAt (v0 : Vec Ideal S1024x1024 .f32) (v1 : Vec Ideal S1024x1024 .bf16) (r : Fin 1024) (l : Fin 1024) :
    (k0_pay1 (F := Ideal) v0 v1 (ix2 r l) : EReal) = ∑ k : Fin 1024, (v0 (ix2 r k) : EReal) * v1 (ix2 l k) := by
  pointwise [k0_pay1]

/-- The body's product, at an index of its block, is the reference's result at the array index there. -/
theorem pointAt (c : Dev nD) (t : Fin cfg0.N) (y : S1024x1024.Idx) :
    k0_pay1 (F := Ideal) (iblk m c 0 t) (iblk m c 1 t) y
      = val_main_v3 (F := Ideal) (m ((c : Thread nD τ).loc main_arg0)) (m ((c : Thread nD τ).loc main_arg1)) (((cfg0.win 2).blk t).view.emb y) := by
  have ht : t.val < 16 := lt_of_lt_of_eq t.isLt N_0
  obtain_idx j : S16384x1024 := [1024 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.OutProjDxIdeal.Final
-- ==== Proof.OutProjValue.lean ====
/-
  The output projection, the forward product: the tiled product of the kernel is the plain product of the reference.
-/
module

public import proofs.«01_k».proof.Proof.Gen.OutProjIdeal.Frame
public import proofs.«01_k».proof.Proof.Gen.OutProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen Cert.OutProjRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The reference's result at an index. -/
theorem refAt (x0 : Vec Ideal S16384x1024 .bf16) (x1 : Vec Ideal S1024x1024 .bf16) (x2 : Vec Ideal S16384x1024 .f32) (r : Fin 16384) (l : Fin 1024) :
    (val_main_v3 (F := Ideal) x0 x1 x2 (ix2 r l) : EReal) = (x2 (ix2 r l) : EReal) + ∑ k : Fin 1024, (x0 (ix2 r k) : EReal) * x1 (ix2 k l) := by
  pointwise [val_main_v3, val_main_v2, val_main_v1, val_main_v0]

/-- The body's product of two blocks at an index. -/
theorem payAt (v0 : Vec Ideal S1024x1024 .bf16) (v1 : Vec Ideal S1024x1024 .bf16) (v2 : Vec Ideal S1024x1024 .f32) (r : Fin 1024) (l : Fin 1024) :
    (k0_pay1 (F := Ideal) v0 v1 v2 (ix2 r l) : EReal) = (v2 (ix2 r l) : EReal) + ∑ k : Fin 1024, (v0 (ix2 r k) : EReal) * v1 (ix2 k l) := by
  pointwise [k0_pay1]
  exact add_comm _ _

/-- The body's product, at an index of its block, is the reference's result at the array index there. -/
theorem pointAt (c : Dev nD) (t : Fin cfg0.N) (y : S1024x1024.Idx) :
    k0_pay1 (F := Ideal) (iblk m c 0 t) (iblk m c 1 t) (iblk m c 2 t) y
      = val_main_v3 (F := Ideal) (m ((c : Thread nD τ).loc main_arg0)) (m ((c : Thread nD τ).loc main_arg1)) (m ((c : Thread nD τ).loc main_arg2)) (((cfg0.win 3).blk t).view.emb y) := by
  have ht : t.val < 16 := lt_of_lt_of_eq t.isLt N_0
  obtain_idx j : S16384x1024 := [1024 * (t.val) + (y 0).val, (y 1).val] with hj
  have hj' : ((cfg0.win 3).blk t).view.emb y = j := by blk_ext [idx t]
  rw [hj']
  idx_vars y
  idx_vars j
  refine (payAt (iblk m c 0 t) (iblk m c 1 t) (iblk m c 2 t) _ _).trans ?_
  rw [refAt]
  blk_point [iblk, V, idx t]

/-- What the kernel leaves in its result array is the reference's result. -/
theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact pointAt m c t y

end Cert.OutProjIdeal.Final
-- ==== Proof.SsmBranchDwValue.lean ====
/-
  The state space branch projection, the gradient of the weight: the tiled product of the kernel is the plain product of the reference.
-/
module

public import proofs.«01_k».proof.Proof.Gen.SsmBranchDwIdeal.Frame
public import proofs.«01_k».proof.Proof.Gen.SsmBranchDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmBranchDwIdeal.Final

open Cert.SsmBranchDwIdeal Cert.SsmBranchDwIdeal.Gen Cert.SsmBranchDwRefIdeal.Read

variable (m : (ℓ : Loc nD τ sig) → Buf (Elt Ideal) ℓ)

/-- Every window's block index at every point. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- The reference's result at an index. -/
theorem refAt (x0 : Vec Ideal S16384x2048 .bf16) (x1 : Vec Ideal S16384x1024 .bf16) (r : Fin 2048) (l : Fin 1024) :
    (val_main_v5 (F := Ideal) x0 x1 (ix2 r l) : EReal) = ∑ k : Fin 16384, (x0 (ix2 k r) : EReal) * x1 (ix2 k l) := by
  pointwise [val_main_v5, val_main_v4, val_main_v3, val_main_v2, val_main_v1, val_main_v0, val_main_cst]
  exact Finset.sum_congr rfl fun k _ => mul_comm _ _

/-- The body's product of two blocks at an index. -/
theorem payAt (v0 : Vec Ideal S4096x512 .bf16) (v1 : Vec Ideal S4096x512 .bf16) (r : Fin 512) (l : Fin 512) :
    (k0_pay2 (F := Ideal) v0 v1 (ix2 r l) : EReal) = ∑ k : Fin 4096, (v0 (ix2 k r) : EReal) * v1 (ix2 k l) := by
  pointwise [k0_pay3, k0_pay2, k0_pay1]

/-- The accumulating payload at an index. -/
theorem accAt (v0 : Vec Ideal S4096x512 .bf16) (v1 : Vec Ideal S4096x512 .bf16) (v : Vec Ideal S512x512 .f32) (j : S512x512.Idx) :
    (k0_pay3 (F := Ideal) v0 v1 v j : EReal) = v j + k0_pay2 (F := Ideal) v0 v1 j := by
  idx_vars j
  pointwise [k0_pay3, k0_pay2, k0_pay1]

/-- The block written back at the end of a run of points is the sum of the products of the run's blocks. -/
theorem outAt (c : Dev nD) (t : Fin cfg0.N) (h7 : t.val % 4 = 4 - 1) (y : S512x512.Idx) :
    (outsAt0 m c t.val t.isLt).1 y
      = ∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal) := by
  have e : (outsAt0 m c t.val t.isLt).1 = (outsAt0 m c t.val t.isLt).2 := by
    rw [outsAt0_C m c t (by omega) (by omega) (by omega)]; frame_out
  rw [e, Pipeline.eq_sum_fin_of_reset_step_apply_of_flush (M := EReal) (fun n h => (outsAt0 m c n h).2) 4 (fun _ => 0)
    (fun t j => k0_pay2 (F := Ideal) (iblk m c 0 t) (iblk m c 1 t) j)
    (fun t h j => by rw [outsAt0_A m c t (by omega) (by omega) (by omega)]; frame_out; rw [zero_add])
    (fun t h j => by
      by_cases h' : t.val % 4 = 3
      · rw [outsAt0_C m c t (by omega) (by omega) (by omega)]; frame_out; rw [accAt, read_unread_whole]
      · rw [outsAt0_B m c t (by omega) (by omega) (by omega)]; frame_out; rw [accAt, read_unread_whole])
    t h7 _, zero_add]

/-- The sum over a run, at an index of its block, is the reference's product at the array index there. -/
theorem pointAt (c : Dev nD) (t : Fin cfg0.N) (h7 : t.val % 4 = 4 - 1) (y : S512x512.Idx) :
    (∑ s : Fin 4, (k0_pay2 (F := Ideal) (iblk m c 0 ⟨4 * (t.val / 4) + s.val, Pipeline.run_point_lt_of_flush t h7 s⟩) (iblk m c 1 ⟨4 * (t.val / 4) + s.val, Pipeline.run_point_lt_of_flush t h7 s⟩) y : EReal))
      = val_main_v5 (F := Ideal) (m ((c : Thread nD τ).loc main_arg0)) (m ((c : Thread nD τ).loc main_arg1)) (((cfg0.win 2).blk t).view.emb y) := by
  have ht : t.val < 32 := lt_of_lt_of_eq t.isLt N_0
  obtain_idx j : S2048x1024 := [512 * (t.val / 8) + (y 0).val, 512 * (t.val / 4 % 2) + (y 1).val] with hj
  have hj' : ((cfg0.win 2).blk t).view.emb y = j := by blk_ext [idx t]
  rw [hj']
  idx_vars y
  idx_vars j
  rw [refAt]
  simp only [payAt]
  refine Fin.sum_mul_add_congr fun s k hl => ?_
  blk_point [iblk, V, idx t, idx ⟨_, Pipeline.run_point_lt_of_flush t h7 s⟩]

/-- What the kernel leaves in its result array is the reference's product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (outAt m c t ((flush0_2 t).mp hf) y).trans (pointAt m c t ((flush0_2 t).mp hf) y)

end Cert.SsmBranchDwIdeal.Final
-- ==== Proof.SsmBranchDxValue.lean ====
/-
  The state space branch projection, the gradient of the activations: the tiled product of the kernel is the plain product of the reference.
-/
module

public import proofs.«01_k».proof.Proof.Gen.SsmBranchDxIdeal.Frame
public import proofs.«01_k».proof.Proof.Gen.SsmBranchDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmBranchDxIdeal.Final

open Cert.SsmBranchDxIdeal Cert.SsmBranchDxIdeal.Gen Cert.SsmBranchDxRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x1024 .bf16) (x1 : Vec Ideal S2048x1024 .bf16) (r : Fin 16384) (l : Fin 2048) :
    (val_main_v4 (F := Ideal) x0 x1 (ix2 r l) : EReal) = ∑ k : Fin 1024, (x0 (ix2 r k) : EReal) * x1 (ix2 l k) := by
  pointwise [val_main_v4, val_main_v3, val_main_v2, val_main_v1, val_main_v0, val_main_cst]

/-- The body's product of two blocks at an index. -/
theorem payAt (v0 : Vec Ideal S512x1024 .bf16) (v1 : Vec Ideal S2048x1024 .bf16) (r : Fin 512) (l : Fin 2048) :
    (k0_pay1 (F := Ideal) v0 v1 (ix2 r l) : EReal) = ∑ k : Fin 1024, (v0 (ix2 r k) : EReal) * v1 (ix2 l k) := by
  pointwise [k0_pay1]

/-- The body's product, at an index of its block, is the reference's result at the array index there. -/
theorem pointAt (c : Dev nD) (t : Fin cfg0.N) (y : S512x2048.Idx) :
    k0_pay1 (F := Ideal) (iblk m c 0 t) (iblk m c 1 t) y
      = val_main_v4 (F := Ideal) (m ((c : Thread nD τ).loc main_arg0)) (m ((c : Thread nD τ).loc main_arg1)) (((cfg0.win 2).blk t).view.emb y) := by
  have ht : t.val < 32 := lt_of_lt_of_eq t.isLt N_0
  obtain_idx j : S16384x2048 := [512 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.SsmBranchDxIdeal.Final
-- ==== Proof.SsmBranchValue.lean ====
/-
  The state space branch projection, the forward product: the tiled product of the kernel is the plain product of the reference.
-/
module

public import proofs.«01_k».proof.Proof.Gen.SsmBranchIdeal.Frame
public import proofs.«01_k».proof.Proof.Gen.SsmBranchRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmBranchIdeal.Final

open Cert.SsmBranchIdeal Cert.SsmBranchIdeal.Gen Cert.SsmBranchRefIdeal.Read

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's result at an index. -/
theorem refAt (x0 : Vec Ideal S16384x2048 .bf16) (x1 : Vec Ideal S2048x1024 .bf16) (r : Fin 16384) (l : Fin 1024) :
    (val_main_v2 (F := Ideal) x0 x1 (ix2 r l) : EReal) = ∑ k : Fin 2048, (x0 (ix2 r k) : EReal) * x1 (ix2 k l) := by
  pointwise [val_main_v2, val_main_v1, val_main_v0]

/-- The body's product of two blocks at an index. -/
theorem payAt (v0 : Vec Ideal S1024x2048 .bf16) (v1 : Vec Ideal S2048x1024 .bf16) (r : Fin 1024) (l : Fin 1024) :
    (k0_pay1 (F := Ideal) v0 v1 (ix2 r l) : EReal) = ∑ k : Fin 2048, (v0 (ix2 r k) : EReal) * v1 (ix2 k l) := by
  pointwise [k0_pay1]

/-- The body's product, at an index of its block, is the reference's result at the array index there. -/
theorem pointAt (c : Dev nD) (t : Fin cfg0.N) (y : S1024x1024.Idx) :
    k0_pay1 (F := Ideal) (iblk m c 0 t) (iblk m c 1 t) y
      = val_main_v2 (F := Ideal) (m ((c : Thread nD τ).loc main_arg0)) (m ((c : Thread nD τ).loc main_arg1)) (((cfg0.win 2).blk t).view.emb y) := by
  have ht : t.val < 16 := lt_of_lt_of_eq t.isLt N_0
  obtain_idx j : S16384x1024 := [1024 * (t.val) + (y 0).val, (y 1).val] with hj
  have hj' : ((cfg0.win 2).blk t).view.emb y = j := by blk_ext [idx t]
  rw [hj']
  idx_vars y
  idx_vars j
  refine (payAt (iblk m c 0 t) (iblk m c 1 t) _ _).trans ?_
  rw [refAt]
  blk_point [iblk, V, idx t]

/-- What the kernel leaves in its result array is the reference's result. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact pointAt m c t y

end Cert.SsmBranchIdeal.Final
-- ==== Proof.SwigluBwdValue.lean ====
/-
  The backward pass of SwiGLU: on finite inputs the kernel leaves the two gradients of the reference side by side.
-/
module

public import proofs.«01_k».proof.Proof.SiluPure
public import proofs.«01_k».proof.Proof.Gen.SwigluBwdIdeal.Frame
public import proofs.«01_k».proof.Proof.Gen.SwigluBwdRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwigluBwdIdeal.Final

open Cert.SwigluBwdIdeal Cert.SwigluBwdIdeal.Gen Cert.SwigluBwdRefIdeal.Read

variable (m : (ℓ : Loc nD τ sig) → Buf (Elt Ideal) ℓ)

/-- Every window's block index at every point: the rows of tile t, all the columns. -/
theorem idx : ∀ t : Fin cfg0.N, win0_0.index t = ![t.val, 0] ∧ win0_1.index t = ![t.val, 0] ∧ win0_2.index t = ![t.val, 0] :=
  (by decide +kernel : ∀ t : Fin grid0.N, _)

/-- The gradient of the gate, from the gate `g`, the other half `u` and the gradient `d` of their product. -/
def lo (g u d : EReal) : EReal := d * u * (Silu.sg g * (1 + g * (1 - Silu.sg g)))

/-- The gradient of the half that the gate multiplies. -/
def hi (g d : EReal) : EReal := d * (g * Silu.sg g)

/-- What the kernel computes of a tile's rows at an index of its block: the gate's gradient in the columns of the gate. -/
def tile (x0 : Vec Ideal S256x5632 .bf16) (x1 : Vec Ideal S256x2816 .bf16) (y : S256x5632.Idx) : EReal :=
  if h : (y 1).val < 2816 then lo (x0 y) (x0 (ix2 (y 0) ⟨2816 + (y 1).val, by omega⟩)) (x1 (ix2 (y 0) ⟨(y 1).val, h⟩))
  else hi (x0 (ix2 (y 0) ⟨(y 1).val - 2816, by have := (y 1).isLt; change (y 1).val < 5632 at this; omega⟩))
    (x1 (ix2 (y 0) ⟨(y 1).val - 2816, by have := (y 1).isLt; change (y 1).val < 5632 at this; omega⟩))

/-- The body's gradient of a half of the gate's columns. -/
theorem pay5 (v0 v2 v4 : Vec Ideal S256x1408 .bf16) (y : S256x1408.Idx) : (k0_pay5 v0 v2 v4 y : EReal) = lo (v0 y) (v4 y) (v2 y) := by
  idx_vars y
  pointwise [k0_pay5, k0_pay3, k0_pay4, lo, Silu.sg]
  simp only [zero_sub]

/-- The same, from the other half's values. -/
theorem pay1 (v0 v2 v4 : Vec Ideal S256x1408 .bf16) (y : S256x1408.Idx) :
    (k0_pay1 (F := Ideal) (k0_pay7 v0) (k0_pay8 v2) v4 y : EReal) = lo (v0 y) (v4 y) (v2 y) := by
  idx_vars y
  pointwise [k0_pay1, k0_pay7, k0_pay8, lo, Silu.sg]
  simp only [zero_sub]

/-- The body's gradient of a half of the columns that the gate multiplies. -/
theorem pay6 (v0 v2 : Vec Ideal S256x1408 .bf16) (y : S256x1408.Idx) : (k0_pay6 v0 v2 y : EReal) = hi (v0 y) (v2 y) := by
  idx_vars y
  unfold hi
  rw [← Silu.silu_eq]
  pointwise [k0_pay6, k0_pay3, k0_pay4]
  simp only [zero_sub]

/-- The same, of the other half. -/
theorem pay2 (v0 v2 : Vec Ideal S256x1408 .bf16) (y : S256x1408.Idx) :
    (k0_pay2 (F := Ideal) (k0_pay7 v0) (k0_pay8 v2) y : EReal) = hi (v0 y) (v2 y) := by
  idx_vars y
  unfold hi
  rw [← Silu.silu_eq]
  pointwise [k0_pay2, k0_pay7, k0_pay8]
  simp only [zero_sub]

/-- A tile's value in a column of the gate. -/
theorem tile_lo (X0 : Vec Ideal S256x5632 .bf16) (X1 : Vec Ideal S256x2816 .bf16) (r : Fin 256) (l : Fin 5632) (h : l.val < 2816) :
    tile X0 X1 (ix2 r l) = lo (X0 (ix2 r l)) (X0 (ix2 r ⟨2816 + l.val, by omega⟩)) (X1 (ix2 r ⟨l.val, h⟩)) := dif_pos h

/-- A tile's value in a column of the half that the gate multiplies. -/
theorem tile_hi (X0 : Vec Ideal S256x5632 .bf16) (X1 : Vec Ideal S256x2816 .bf16) (r : Fin 256) (l : Fin 5632) (h : ¬ l.val < 2816) :
    tile X0 X1 (ix2 r l) = hi (X0 (ix2 r ⟨l.val - 2816, by omega⟩)) (X1 (ix2 r ⟨l.val - 2816, by omega⟩)) := dif_neg h

/-- What the body leaves in the result's buffer. -/
theorem outAt (X0 : Vec Ideal S256x5632 .bf16) (X1 : Vec Ideal S256x2816 .bf16) (y : S256x5632.Idx) :
    (out0_2 (F := Ideal) X0 X1 y : EReal) = tile X0 X1 y := by
  unfold out0_2 k0_pay9 k0_pay10
  refine View.canon_apply_of_pieces (Val := Elt Ideal) (e := .bf16) (tile X0 X1) _ ?_ y (cover0_2 _ _ _ _ y)
  intro p hp x
  simp only [List.mem_cons, List.not_mem_nil, or_false] at hp
  rcases hp with rfl | rfl | rfl | rfl
  · refine (pay2 _ _ _).trans ?_
    obtain_idx z : S256x5632 := [(x 0).val, 4224 + (x 1).val] with hz
    have e : r0_5.emb x = z := by blk_ext []
    refine Eq.trans ?_ (congrArg (tile X0 X1) e.symm)
    idx_vars z
    idx_vars x
    obtain rfl : z0 = x0 := Fin.ext hz0
    have hx := x1.isLt
    have hv : z1.val = 4224 + x1.val := hz1
    rw [tile_hi _ _ _ _ (show ¬ z1.val < 2816 by omega)]
    pointwise
    refine congr (congrArg hi ?_) ?_
    all_goals exact congrArg _ (congrArg (ix2 _) (Fin.ext (by dsimp only; omega)))
  · refine (pay1 _ _ _ _).trans ?_
    obtain_idx z : S256x5632 := [(x 0).val, 1408 + (x 1).val] with hz
    have e : r0_3.emb x = z := by blk_ext []
    refine Eq.trans ?_ (congrArg (tile X0 X1) e.symm)
    idx_vars z
    idx_vars x
    obtain rfl : z0 = x0 := Fin.ext hz0
    have hx := x1.isLt
    have hv : z1.val = 1408 + x1.val := hz1
    rw [tile_lo _ _ _ _ (show z1.val < 2816 by omega)]
    pointwise
    refine congr (congr (congrArg lo ?_) ?_) ?_
    all_goals exact congrArg _ (congrArg (ix2 _) (Fin.ext (by dsimp only; omega)))
  · refine (pay6 _ _ _).trans ?_
    obtain_idx z : S256x5632 := [(x 0).val, 2816 + (x 1).val] with hz
    have e : r0_2.emb x = z := by blk_ext []
    refine Eq.trans ?_ (congrArg (tile X0 X1) e.symm)
    idx_vars z
    idx_vars x
    obtain rfl : z0 = x0 := Fin.ext hz0
    have hx := x1.isLt
    have hv : z1.val = 2816 + x1.val := hz1
    rw [tile_hi _ _ _ _ (show ¬ z1.val < 2816 by omega)]
    pointwise
    refine congr (congrArg hi ?_) ?_
    all_goals exact congrArg _ (congrArg (ix2 _) (Fin.ext (by dsimp only; omega)))
  · refine (pay5 _ _ _ _).trans ?_
    obtain_idx z : S256x5632 := [(x 0).val, 0 + (x 1).val] with hz
    have e : r0_0.emb x = z := by blk_ext []
    refine Eq.trans ?_ (congrArg (tile X0 X1) e.symm)
    idx_vars z
    idx_vars x
    obtain rfl : z0 = x0 := Fin.ext hz0
    have hx := x1.isLt
    have hv : z1.val = 0 + x1.val := hz1
    rw [tile_lo _ _ _ _ (show z1.val < 2816 by omega)]
    pointwise
    refine congr (congr (congrArg lo ?_) ?_) ?_
    all_goals exact congrArg _ (congrArg (ix2 _) (Fin.ext (by dsimp only; omega)))

/-- The reference's result at an index, for finite numbers, in the kernel's grouping. -/
theorem refAt (x0 : FVec Ideal S16384x5632 .bf16) (x1 : FVec Ideal S16384x2816 .bf16) (h0 : ∀ i, ∃ r : ℝ, (x0 i : EReal) = (r : EReal))
    (h1 : ∀ i, ∃ r : ℝ, (x1 i : EReal) = (r : EReal)) (r : Fin 16384) (l : Fin 5632) :
    (val_main_v10 (F := Ideal) x0 x1 (ix2 r l) : EReal)
      = if h : l.val < 2816 then lo (x0 (ix2 r l)) (x0 (ix2 r ⟨2816 + l.val, by omega⟩)) (x1 (ix2 r ⟨l.val, h⟩))
        else hi (x0 (ix2 r ⟨l.val - 2816, by omega⟩)) (x1 (ix2 r ⟨l.val - 2816, by omega⟩)) := by
  pointwise [val_main_v0, val_main_v1, val_main_v2, val_main_v3_0, val_main_v3_1, val_main_v3_2, val_main_v4, val_main_v5, val_main_v6, val_main_v7, val_main_v8, val_main_v9, val_main_v10, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2, hi]
  refine dite_congr rfl (fun h => ?_) fun h => mul_comm _ _
  exact (Silu.dsilu_coe (h0 _) (Silu.mul_coe (h1 _) (h0 _))).symm

/-- The precondition, at an element of the first input. -/
theorem real0 [Cert.Pre_swiglu_finite.Facts] (h : Cert.Pre_SwigluBwdIdeal_swiglu_finite m) (c : Dev nD) (i : S16384x5632.Idx) :
    ∃ r : ℝ, ((m ((c : Thread nD τ).loc main_arg0)) i : EReal) = (r : EReal) := by
  have := congrFun (h c).1 i
  simp only [Cert.Pre_swiglu_finite.fn] at this
  pointwise at this
  exact Silu.real16 (x := fun _ => (m ((c : Thread nD τ).loc main_arg0)) i) this

/-- The precondition, at an element of the second input. -/
theorem real1 [Cert.Pre_swiglu_finite.Facts] (h : Cert.Pre_SwigluBwdIdeal_swiglu_finite m) (c : Dev nD) (i : S16384x2816.Idx) :
    ∃ r : ℝ, ((m ((c : Thread nD τ).loc main_arg1)) i : EReal) = (r : EReal) := by
  have := congrFun (h c).2 i
  simp only [Cert.Pre_swiglu_finite.fn] at this
  pointwise at this
  exact Silu.real16 (x := fun _ => (m ((c : Thread nD τ).loc main_arg1)) i) this

/-- What the kernel leaves in its result array is the reference's two gradients. -/
theorem final2 [Cert.Pre_swiglu_finite.Facts] (h : Cert.Pre_SwigluBwdIdeal_swiglu_finite m) (c : Dev nD) : (dats m 0 c).arrAt 2 (cfgs 0).N
    = val_main_v10 (F := Ideal) (m ((c : Thread nD τ).loc main_arg0)) (m ((c : Thread nD τ).loc main_arg1)) := by
  refine (dats m 0 c).arrAt_eq_of_covers 2 _ (by decide +kernel) fun t _ y => ?_
  have ht : t.val < 64 := lt_of_lt_of_eq t.isLt N_0
  blk_simp
  rw [after0_2]
  refine (outAt _ _ y).trans ?_
  obtain_idx j : S16384x5632 := [256 * t.val + (y 0).val, (y 1).val] with hj
  have hj' : ((cfg0.win 2).blk t).view.emb y = j := by blk_ext [idx t]
  rw [hj']
  idx_vars j
  idx_vars y
  rw [refAt _ _ (real0 m h c) (real1 m h c)]
  obtain rfl : y1 = j1 := Fin.ext hj1.symm
  have e0 : ∀ x, (iblk m c 0 t (ix2 y0 x) : EReal) = m ((c : Thread nD τ).loc main_arg0) (ix2 j0 x) := fun x => by
    blk_point [iblk, V, idx t]
  have e1 : ∀ x, (iblk m c 1 t (ix2 y0 x) : EReal) = m ((c : Thread nD τ).loc main_arg1) (ix2 j0 x) := fun x => by
    blk_point [iblk, V, idx t]
  unfold tile
  refine dite_congr rfl (fun h => ?_) fun h => ?_
  · exact congr (congr (congrArg lo (e0 _)) (e0 _)) (e1 _)
  · exact congr (congrArg hi (e0 _)) (e1 _)

end Cert.SwigluBwdIdeal.Final
-- ==== Proof.SwigluValue.lean ====
/-
  The product of SwiGLU: the kernel leaves silu(gate) times the other half, as the reference defines it.
-/
module

public import proofs.«01_k».proof.Proof.Gen.SwigluIdeal.Frame
public import proofs.«01_k».proof.Proof.Gen.SwigluRefIdeal.Read
public import proofs.«01_k».proof.Proof.SiluPure
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwigluIdeal.Final

open Cert.SwigluIdeal Cert.SwigluIdeal.Gen Cert.SwigluRefIdeal.Read

variable (m : (ℓ : Loc nD τ sig) → Buf (Elt Ideal) ℓ)

/-- Every window's block index at every point: the second half of the columns is two blocks further. -/
theorem idx : ∀ t : Fin cfg0.N, win0_0.index t = ![t.val / 2, t.val % 2] ∧ win0_1.index t = ![t.val / 2, 2 + t.val % 2] ∧ win0_2.index t = ![t.val / 2, t.val % 2] :=
  (by decide +kernel : ∀ t : Fin grid0.N, _)

/-- The reference's result at an index. -/
theorem refAt (x0 : FVec Ideal S16384x5632 .bf16) (r : Fin 16384) (l : Fin 2816) :
    (val_main_v5 (F := Ideal) x0 (ix2 r l) : EReal)
      = x0 (ix2 r ⟨l.val, by omega⟩) * Silu.sg (x0 (ix2 r ⟨l.val, by omega⟩)) * x0 (ix2 r ⟨2816 + l.val, by omega⟩) := by
  pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5, Silu.sg]

/-- The body's value at an index of its block. -/
theorem payAt (v0 v8 : FVec Ideal S512x1408 .bf16) (y : S512x1408.Idx) : (k0_pay1 (F := Ideal) v0 v8 y : EReal) = v0 y * Silu.sg (v0 y) * v8 y := by
  idx_vars y
  rw [← Silu.silu_eq]
  pointwise [k0_pay1]
  simp only [zero_sub]

/-- After the run the result array holds the reference's result. -/
theorem final2 (c : Dev nD) : (dats m 0 c).arrAt 2 (cfgs 0).N = val_main_v5 (F := Ideal) (m ((c : Thread nD τ).loc main_arg0)) := by
  refine (dats m 0 c).arrAt_eq_of_covers 2 _ (by decide +kernel) fun t _ y => ?_
  have ht : t.val < 64 := lt_of_lt_of_eq t.isLt N_0
  blk_simp
  rw [after0_2]
  frame_out
  refine (payAt _ _ y).trans ?_
  obtain_idx j : S16384x2816 := [512 * (t.val / 2) + (y 0).val, 1408 * (t.val % 2) + (y 1).val] with hj
  have hj' : ((cfg0.win 2).blk t).view.emb y = j := by blk_ext [idx t]
  rw [hj']
  idx_vars j
  idx_vars y
  rw [refAt]
  have hl : j1.val < 2816 := j1.isLt
  have e0 : (iblk m c 0 t (ix2 y0 y1) : EReal) = m ((c : Thread nD τ).loc main_arg0) (ix2 j0 ⟨j1.val, by omega⟩) := by
    blk_point [iblk, V, idx t]
  have e1 : (iblk m c 1 t (ix2 y0 y1) : EReal) = m ((c : Thread nD τ).loc main_arg0) (ix2 j0 ⟨2816 + j1.val, by omega⟩) := by
    blk_point [iblk, V, idx t]
  exact congr (congrArg HMul.hMul (congrArg (fun x : EReal => x * Silu.sg x) e0)) e1

end Cert.SwigluIdeal.Final

end
-- ==== Proof.lean ====
module

public import proofs.«01_k».proof.Proof.Gen.AdamwSmallIdeal.Value
public import proofs.«01_k».proof.Proof.Gen.MergeIdeal.Value
public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.InProjDx
public import proofs.«01_k».proof.Proof.Gen.InProjDx.Skeleton
public import proofs.«01_k».proof.Proof.Gen.InProjDx.Launch
public import proofs.«01_k».proof.Proof.Gen.InProjDx.Points
public import proofs.«01_k».proof.Proof.Gen.InProjDx.Frame
public import proofs.«01_k».proof.Proof.Gen.InProjDxIdeal
public import proofs.«01_k».proof.Proof.Gen.InProjDxIdeal.Skeleton
public import proofs.«01_k».proof.Proof.Gen.InProjDxIdeal.Launch
public import proofs.«01_k».proof.Proof.Gen.InProjDxIdeal.Points
public import proofs.«01_k».proof.Proof.Gen.InProjDxIdeal.Frame
public import proofs.«01_k».proof.Proof.Gen.InProjDxRefIdeal
public import proofs.«01_k».proof.Proof.Gen.InProjDw
public import proofs.«01_k».proof.Proof.Gen.InProjDw.Skeleton
public import proofs.«01_k».proof.Proof.Gen.InProjDw.Launch
public import proofs.«01_k».proof.Proof.Gen.InProjDw.Points
public import proofs.«01_k».proof.Proof.Gen.InProjDw.Frame
public import proofs.«01_k».proof.Proof.Gen.InProjDwIdeal
public import proofs.«01_k».proof.Proof.Gen.InProjDwIdeal.Skeleton
public import proofs.«01_k».proof.Proof.Gen.InProjDwIdeal.Launch
public import proofs.«01_k».proof.Proof.Gen.InProjDwIdeal.Points
public import proofs.«01_k».proof.Proof.Gen.InProjDwIdeal.Frame
public import proofs.«01_k».proof.Proof.Gen.InProjDwRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjQkvDx
public import proofs.«01_k».proof.Proof.Gen.InProjQkvDx.Skeleton
public import proofs.«01_k».proof.Proof.Gen.InProjQkvDx.Launch
public import proofs.«01_k».proof.Proof.Gen.InProjQkvDx.Points
public import proofs.«01_k».proof.Proof.Gen.InProjQkvDx.Frame
public import proofs.«01_k».proof.Proof.Gen.InProjQkvDxIdeal
public import proofs.«01_k».proof.Proof.Gen.InProjQkvDxIdeal.Skeleton
public import proofs.«01_k».proof.Proof.Gen.InProjQkvDxIdeal.Launch
public import proofs.«01_k».proof.Proof.Gen.InProjQkvDxIdeal.Points
public import proofs.«01_k».proof.Proof.Gen.InProjQkvDxIdeal.Frame
public import proofs.«01_k».proof.Proof.Gen.InProjQkvDxRefIdeal
public import proofs.«01_k».proof.Proof.Gen.InProjQkvDw
public import proofs.«01_k».proof.Proof.Gen.InProjQkvDw.Skeleton
public import proofs.«01_k».proof.Proof.Gen.InProjQkvDw.Launch
public import proofs.«01_k».proof.Proof.Gen.InProjQkvDw.Points
public import proofs.«01_k».proof.Proof.Gen.InProjQkvDw.Frame
public import proofs.«01_k».proof.Proof.Gen.InProjQkvDwIdeal
public import proofs.«01_k».proof.Proof.Gen.InProjQkvDwIdeal.Skeleton
public import proofs.«01_k».proof.Proof.Gen.InProjQkvDwIdeal.Launch
public import proofs.«01_k».proof.Proof.Gen.InProjQkvDwIdeal.Points
public import proofs.«01_k».proof.Proof.Gen.InProjQkvDwIdeal.Frame
public import proofs.«01_k».proof.Proof.Gen.InProjQkvDwRefIdeal
public import proofs.«01_k».proof.Proof.Gen.InProjQkv
public import proofs.«01_k».proof.Proof.Gen.InProjQkv.Skeleton
public import proofs.«01_k».proof.Proof.Gen.InProjQkv.Launch
public import proofs.«01_k».proof.Proof.Gen.InProjQkv.Points
public import proofs.«01_k».proof.Proof.Gen.InProjQkv.Frame
public import proofs.«01_k».proof.Proof.Gen.InProjQkvIdeal
public import proofs.«01_k».proof.Proof.Gen.InProjQkvIdeal.Skeleton
public import proofs.«01_k».proof.Proof.Gen.InProjQkvIdeal.Launch
public import proofs.«01_k».proof.Proof.Gen.InProjQkvIdeal.Points
public import proofs.«01_k».proof.Proof.Gen.InProjQkvIdeal.Frame
public import proofs.«01_k».proof.Proof.Gen.InProjQkvRefIdeal
public import proofs.«01_k».proof.Proof.Gen.InProjDtDx
public import proofs.«01_k».proof.Proof.Gen.InProjDtDx.Skeleton
public import proofs.«01_k».proof.Proof.Gen.InProjDtDx.Launch
public import proofs.«01_k».proof.Proof.Gen.InProjDtDx.Points
public import proofs.«01_k».proof.Proof.Gen.InProjDtDx.Frame
public import proofs.«01_k».proof.Proof.Gen.InProjDtDxIdeal
public import proofs.«01_k».proof.Proof.Gen.InProjDtDxIdeal.Skeleton
public import proofs.«01_k».proof.Proof.Gen.InProjDtDxIdeal.Launch
public import proofs.«01_k».proof.Proof.Gen.InProjDtDxIdeal.Points
public import proofs.«01_k».proof.Proof.Gen.InProjDtDxIdeal.Frame
public import proofs.«01_k».proof.Proof.Gen.InProjDtDxRefIdeal
public import proofs.«01_k».proof.Proof.Gen.InProjDtDw
public import proofs.«01_k».proof.Proof.Gen.InProjDtDw.Skeleton
public import proofs.«01_k».proof.Proof.Gen.InProjDtDw.Launch
public import proofs.«01_k».proof.Proof.Gen.InProjDtDw.Points
public import proofs.«01_k».proof.Proof.Gen.InProjDtDw.Frame
public import proofs.«01_k».proof.Proof.Gen.InProjDtDwIdeal
public import proofs.«01_k».proof.Proof.Gen.InProjDtDwIdeal.Skeleton
public import proofs.«01_k».proof.Proof.Gen.InProjDtDwIdeal.Launch
public import proofs.«01_k».proof.Proof.Gen.InProjDtDwIdeal.Points
public import proofs.«01_k».proof.Proof.Gen.InProjDtDwIdeal.Frame
public import proofs.«01_k».proof.Proof.Gen.InProjDtDwRefIdeal
public import proofs.«01_k».proof.Proof.Gen.InProjDt
public import proofs.«01_k».proof.Proof.Gen.InProjDt.Skeleton
public import proofs.«01_k».proof.Proof.Gen.InProjDt.Launch
public import proofs.«01_k».proof.Proof.Gen.InProjDt.Points
public import proofs.«01_k».proof.Proof.Gen.InProjDt.Frame
public import proofs.«01_k».proof.Proof.Gen.InProjDtIdeal
public import proofs.«01_k».proof.Proof.Gen.InProjDtIdeal.Skeleton
public import proofs.«01_k».proof.Proof.Gen.InProjDtIdeal.Launch
public import proofs.«01_k».proof.Proof.Gen.InProjDtIdeal.Points
public import proofs.«01_k».proof.Proof.Gen.InProjDtIdeal.Frame
public import proofs.«01_k».proof.Proof.Gen.InProjDtRefIdeal
public import proofs.«01_k».proof.Proof.Gen.AttnBranchDx
public import proofs.«01_k».proof.Proof.Gen.AttnBranchDx.Skeleton
public import proofs.«01_k».proof.Proof.Gen.AttnBranchDx.Launch
public import proofs.«01_k».proof.Proof.Gen.AttnBranchDx.Points
public import proofs.«01_k».proof.Proof.Gen.AttnBranchDx.Frame
public import proofs.«01_k».proof.Proof.Gen.AttnBranchDxIdeal
public import proofs.«01_k».proof.Proof.Gen.AttnBranchDxIdeal.Skeleton
public import proofs.«01_k».proof.Proof.Gen.AttnBranchDxIdeal.Launch
public import proofs.«01_k».proof.Proof.Gen.AttnBranchDxIdeal.Points
public import proofs.«01_k».proof.Proof.Gen.AttnBranchDxIdeal.Frame
public import proofs.«01_k».proof.Proof.Gen.AttnBranchDxRefIdeal
public import proofs.«01_k».proof.Proof.Gen.AttnBranchDw
public import proofs.«01_k».proof.Proof.Gen.AttnBranchDw.Skeleton
public import proofs.«01_k».proof.Proof.Gen.AttnBranchDw.Launch
public import proofs.«01_k».proof.Proof.Gen.AttnBranchDw.Points
public import proofs.«01_k».proof.Proof.Gen.AttnBranchDw.Frame
public import proofs.«01_k».proof.Proof.Gen.AttnBranchDwIdeal
public import proofs.«01_k».proof.Proof.Gen.AttnBranchDwIdeal.Skeleton
public import proofs.«01_k».proof.Proof.Gen.AttnBranchDwIdeal.Launch
public import proofs.«01_k».proof.Proof.Gen.AttnBranchDwIdeal.Points
public import proofs.«01_k».proof.Proof.Gen.AttnBranchDwIdeal.Frame
public import proofs.«01_k».proof.Proof.Gen.AttnBranchDwRefIdeal
public import proofs.«01_k».proof.Proof.Gen.AttnBranch
public import proofs.«01_k».proof.Proof.Gen.AttnBranch.Skeleton
public import proofs.«01_k».proof.Proof.Gen.AttnBranch.Launch
public import proofs.«01_k».proof.Proof.Gen.AttnBranch.Points
public import proofs.«01_k».proof.Proof.Gen.AttnBranch.Frame
public import proofs.«01_k».proof.Proof.Gen.AttnBranchIdeal
public import proofs.«01_k».proof.Proof.Gen.AttnBranchIdeal.Skeleton
public import proofs.«01_k».proof.Proof.Gen.AttnBranchIdeal.Launch
public import proofs.«01_k».proof.Proof.Gen.AttnBranchIdeal.Points
public import proofs.«01_k».proof.Proof.Gen.AttnBranchIdeal.Frame
public import proofs.«01_k».proof.Proof.Gen.AttnBranchRefIdeal
public import proofs.«01_k».proof.Proof.Gen.SsmBranchDx
public import proofs.«01_k».proof.Proof.Gen.SsmBranchDx.Skeleton
public import proofs.«01_k».proof.Proof.Gen.SsmBranchDx.Launch
public import proofs.«01_k».proof.Proof.Gen.SsmBranchDx.Points
public import proofs.«01_k».proof.Proof.Gen.SsmBranchDx.Frame
public import proofs.«01_k».proof.Proof.Gen.SsmBranchDxIdeal
public import proofs.«01_k».proof.Proof.Gen.SsmBranchDxIdeal.Skeleton
public import proofs.«01_k».proof.Proof.Gen.SsmBranchDxIdeal.Launch
public import proofs.«01_k».proof.Proof.Gen.SsmBranchDxIdeal.Points
public import proofs.«01_k».proof.Proof.Gen.SsmBranchDxIdeal.Frame
public import proofs.«01_k».proof.Proof.Gen.SsmBranchDxRefIdeal
public import proofs.«01_k».proof.Proof.Gen.SsmBranchDw
public import proofs.«01_k».proof.Proof.Gen.SsmBranchDw.Skeleton
public import proofs.«01_k».proof.Proof.Gen.SsmBranchDw.Launch
public import proofs.«01_k».proof.Proof.Gen.SsmBranchDw.Points
public import proofs.«01_k».proof.Proof.Gen.SsmBranchDw.Frame
public import proofs.«01_k».proof.Proof.Gen.SsmBranchDwIdeal
public import proofs.«01_k».proof.Proof.Gen.SsmBranchDwIdeal.Skeleton
public import proofs.«01_k».proof.Proof.Gen.SsmBranchDwIdeal.Launch
public import proofs.«01_k».proof.Proof.Gen.SsmBranchDwIdeal.Points
public import proofs.«01_k».proof.Proof.Gen.SsmBranchDwIdeal.Frame
public import proofs.«01_k».proof.Proof.Gen.SsmBranchDwRefIdeal
public import proofs.«01_k».proof.Proof.Gen.SsmBranch
public import proofs.«01_k».proof.Proof.Gen.SsmBranch.Skeleton
public import proofs.«01_k».proof.Proof.Gen.SsmBranch.Launch
public import proofs.«01_k».proof.Proof.Gen.SsmBranch.Points
public import proofs.«01_k».proof.Proof.Gen.SsmBranch.Frame
public import proofs.«01_k».proof.Proof.Gen.SsmBranchIdeal
public import proofs.«01_k».proof.Proof.Gen.SsmBranchIdeal.Skeleton
public import proofs.«01_k».proof.Proof.Gen.SsmBranchIdeal.Launch
public import proofs.«01_k».proof.Proof.Gen.SsmBranchIdeal.Points
public import proofs.«01_k».proof.Proof.Gen.SsmBranchIdeal.Frame
public import proofs.«01_k».proof.Proof.Gen.SsmBranchRefIdeal
public import proofs.«01_k».proof.Proof.Gen.OutProjDx
public import proofs.«01_k».proof.Proof.Gen.OutProjDx.Skeleton
public import proofs.«01_k».proof.Proof.Gen.OutProjDx.Launch
public import proofs.«01_k».proof.Proof.Gen.OutProjDx.Points
public import proofs.«01_k».proof.Proof.Gen.OutProjDx.Frame
public import proofs.«01_k».proof.Proof.Gen.OutProjDxIdeal
public import proofs.«01_k».proof.Proof.Gen.OutProjDxIdeal.Skeleton
public import proofs.«01_k».proof.Proof.Gen.OutProjDxIdeal.Launch
public import proofs.«01_k».proof.Proof.Gen.OutProjDxIdeal.Points
public import proofs.«01_k».proof.Proof.Gen.OutProjDxIdeal.Frame
public import proofs.«01_k».proof.Proof.Gen.OutProjDxRefIdeal
public import proofs.«01_k».proof.Proof.Gen.OutProjDw
public import proofs.«01_k».proof.Proof.Gen.OutProjDw.Skeleton
public import proofs.«01_k».proof.Proof.Gen.OutProjDw.Launch
public import proofs.«01_k».proof.Proof.Gen.OutProjDw.Points
public import proofs.«01_k».proof.Proof.Gen.OutProjDw.Frame
public import proofs.«01_k».proof.Proof.Gen.OutProjDwIdeal
public import proofs.«01_k».proof.Proof.Gen.OutProjDwIdeal.Skeleton
public import proofs.«01_k».proof.Proof.Gen.OutProjDwIdeal.Launch
public import proofs.«01_k».proof.Proof.Gen.OutProjDwIdeal.Points
public import proofs.«01_k».proof.Proof.Gen.OutProjDwIdeal.Frame
public import proofs.«01_k».proof.Proof.Gen.OutProjDwRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.FfnInDx
public import proofs.«01_k».proof.Proof.Gen.FfnInDx.Skeleton
public import proofs.«01_k».proof.Proof.Gen.FfnInDx.Launch
public import proofs.«01_k».proof.Proof.Gen.FfnInDx.Points
public import proofs.«01_k».proof.Proof.Gen.FfnInDx.Frame
public import proofs.«01_k».proof.Proof.Gen.FfnInDxIdeal
public import proofs.«01_k».proof.Proof.Gen.FfnInDxIdeal.Skeleton
public import proofs.«01_k».proof.Proof.Gen.FfnInDxIdeal.Launch
public import proofs.«01_k».proof.Proof.Gen.FfnInDxIdeal.Points
public import proofs.«01_k».proof.Proof.Gen.FfnInDxIdeal.Frame
public import proofs.«01_k».proof.Proof.Gen.FfnInDxRefIdeal
public import proofs.«01_k».proof.Proof.Gen.FfnInDw
public import proofs.«01_k».proof.Proof.Gen.FfnInDw.Skeleton
public import proofs.«01_k».proof.Proof.Gen.FfnInDw.Launch
public import proofs.«01_k».proof.Proof.Gen.FfnInDw.Points
public import proofs.«01_k».proof.Proof.Gen.FfnInDw.Frame
public import proofs.«01_k».proof.Proof.Gen.FfnInDwIdeal
public import proofs.«01_k».proof.Proof.Gen.FfnInDwIdeal.Skeleton
public import proofs.«01_k».proof.Proof.Gen.FfnInDwIdeal.Launch
public import proofs.«01_k».proof.Proof.Gen.FfnInDwIdeal.Points
public import proofs.«01_k».proof.Proof.Gen.FfnInDwIdeal.Frame
public import proofs.«01_k».proof.Proof.Gen.FfnInDwRefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.FfnOutDx
public import proofs.«01_k».proof.Proof.Gen.FfnOutDx.Skeleton
public import proofs.«01_k».proof.Proof.Gen.FfnOutDx.Launch
public import proofs.«01_k».proof.Proof.Gen.FfnOutDx.Points
public import proofs.«01_k».proof.Proof.Gen.FfnOutDx.Frame
public import proofs.«01_k».proof.Proof.Gen.FfnOutDxIdeal
public import proofs.«01_k».proof.Proof.Gen.FfnOutDxIdeal.Skeleton
public import proofs.«01_k».proof.Proof.Gen.FfnOutDxIdeal.Launch
public import proofs.«01_k».proof.Proof.Gen.FfnOutDxIdeal.Points
public import proofs.«01_k».proof.Proof.Gen.FfnOutDxIdeal.Frame
public import proofs.«01_k».proof.Proof.Gen.FfnOutDxRefIdeal
public import proofs.«01_k».proof.Proof.Gen.FfnOutDw
public import proofs.«01_k».proof.Proof.Gen.FfnOutDw.Skeleton
public import proofs.«01_k».proof.Proof.Gen.FfnOutDw.Launch
public import proofs.«01_k».proof.Proof.Gen.FfnOutDw.Points
public import proofs.«01_k».proof.Proof.Gen.FfnOutDw.Frame
public import proofs.«01_k».proof.Proof.Gen.FfnOutDwIdeal
public import proofs.«01_k».proof.Proof.Gen.FfnOutDwIdeal.Skeleton
public import proofs.«01_k».proof.Proof.Gen.FfnOutDwIdeal.Launch
public import proofs.«01_k».proof.Proof.Gen.FfnOutDwIdeal.Points
public import proofs.«01_k».proof.Proof.Gen.FfnOutDwIdeal.Frame
public import proofs.«01_k».proof.Proof.Gen.FfnOutDwRefIdeal
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.AttnFwd
public import proofs.«01_k».proof.Proof.Gen.AttnFwd.Skeleton
public import proofs.«01_k».proof.Proof.Gen.AttnFwd.Loops
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Loops
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwd4
public import proofs.«01_k».proof.Proof.Gen.AttnFwd4.Skeleton
public import proofs.«01_k».proof.Proof.Gen.AttnFwd4.Loops
public import proofs.«01_k».proof.Proof.Gen.AttnFwd4.Launch
public import proofs.«01_k».proof.Proof.Gen.AttnFwd4.Points
public import proofs.«01_k».proof.Proof.Gen.AttnFwd4.Frame
public import proofs.«01_k».proof.Proof.Gen.AttnFwd4Ideal
public import proofs.«01_k».proof.Proof.Gen.AttnFwd4Ideal.Skeleton
public import proofs.«01_k».proof.Proof.Gen.AttnFwd4Ideal.Loops
public import proofs.«01_k».proof.Proof.Gen.AttnFwd4Ideal.Launch
public import proofs.«01_k».proof.Proof.Gen.AttnFwd4Ideal.Points
public import proofs.«01_k».proof.Proof.Gen.AttnFwd4Ideal.Frame
public import proofs.«01_k».proof.Proof.Gen.AttnFwd4RefIdeal
public import proofs.«01_k».proof.Proof.Gen.AttnFwd16
public import proofs.«01_k».proof.Proof.Gen.AttnFwd16.Skeleton
public import proofs.«01_k».proof.Proof.Gen.AttnFwd16.Loops
public import proofs.«01_k».proof.Proof.Gen.AttnFwd16.Launch
public import proofs.«01_k».proof.Proof.Gen.AttnFwd16.Points
public import proofs.«01_k».proof.Proof.Gen.AttnFwd16.Frame
public import proofs.«01_k».proof.Proof.Gen.AttnFwd16Ideal
public import proofs.«01_k».proof.Proof.Gen.AttnFwd16Ideal.Skeleton
public import proofs.«01_k».proof.Proof.Gen.AttnFwd16Ideal.Loops
public import proofs.«01_k».proof.Proof.Gen.AttnFwd16Ideal.Launch
public import proofs.«01_k».proof.Proof.Gen.AttnFwd16Ideal.Points
public import proofs.«01_k».proof.Proof.Gen.AttnFwd16Ideal.Frame
public import proofs.«01_k».proof.Proof.Gen.AttnFwd16RefIdeal
public import proofs.«01_k».proof.Proof.Gen.Norm2
public import proofs.«01_k».proof.Proof.Gen.Norm2.Skeleton
public import proofs.«01_k».proof.Proof.Gen.Norm2.Launch
public import proofs.«01_k».proof.Proof.Gen.Norm2.Points
public import proofs.«01_k».proof.Proof.Gen.Norm2.Frame
public import proofs.«01_k».proof.Proof.Gen.Norm2Ideal
public import proofs.«01_k».proof.Proof.Gen.Norm2Ideal.Skeleton
public import proofs.«01_k».proof.Proof.Gen.Norm2Ideal.Launch
public import proofs.«01_k».proof.Proof.Gen.Norm2Ideal.Points
public import proofs.«01_k».proof.Proof.Gen.Norm2Ideal.Frame
public import proofs.«01_k».proof.Proof.Gen.Norm2RefIdeal
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.Norm1
public import proofs.«01_k».proof.Proof.Gen.Norm1.Skeleton
public import proofs.«01_k».proof.Proof.Gen.Norm1.Launch
public import proofs.«01_k».proof.Proof.Gen.Norm1.Points
public import proofs.«01_k».proof.Proof.Gen.Norm1.Frame
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Points
public import proofs.«01_k».proof.Proof.Gen.Norm1Ideal.Frame
public import proofs.«01_k».proof.Proof.Gen.Norm1RefIdeal
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdRefIdeal
public import proofs.«01_k».proof.Proof.Gen.GateNormBwd
public import proofs.«01_k».proof.Proof.Gen.GateNormBwd.Skeleton
public import proofs.«01_k».proof.Proof.Gen.GateNormBwd.Launch
public import proofs.«01_k».proof.Proof.Gen.GateNormBwd.Points
public import proofs.«01_k».proof.Proof.Gen.GateNormBwd.Frame
public import proofs.«01_k».proof.Proof.Gen.GateNormBwdIdeal
public import proofs.«01_k».proof.Proof.Gen.GateNormBwdIdeal.Skeleton
public import proofs.«01_k».proof.Proof.Gen.GateNormBwdIdeal.Launch
public import proofs.«01_k».proof.Proof.Gen.GateNormBwdIdeal.Points
public import proofs.«01_k».proof.Proof.Gen.GateNormBwdIdeal.Frame
public import proofs.«01_k».proof.Proof.Gen.GateNormBwdRefIdeal
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.GateNorm
public import proofs.«01_k».proof.Proof.Gen.GateNorm.Skeleton
public import proofs.«01_k».proof.Proof.Gen.GateNorm.Launch
public import proofs.«01_k».proof.Proof.Gen.GateNorm.Points
public import proofs.«01_k».proof.Proof.Gen.GateNorm.Frame
public import proofs.«01_k».proof.Proof.Gen.GateNormIdeal
public import proofs.«01_k».proof.Proof.Gen.GateNormIdeal.Skeleton
public import proofs.«01_k».proof.Proof.Gen.GateNormIdeal.Launch
public import proofs.«01_k».proof.Proof.Gen.GateNormIdeal.Points
public import proofs.«01_k».proof.Proof.Gen.GateNormIdeal.Frame
public import proofs.«01_k».proof.Proof.Gen.GateNormRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.CombineBwd
public import proofs.«01_k».proof.Proof.Gen.CombineBwd.Skeleton
public import proofs.«01_k».proof.Proof.Gen.CombineBwd.Launch
public import proofs.«01_k».proof.Proof.Gen.CombineBwd.Points
public import proofs.«01_k».proof.Proof.Gen.CombineBwd.Frame
public import proofs.«01_k».proof.Proof.Gen.CombineBwdIdeal
public import proofs.«01_k».proof.Proof.Gen.CombineBwdIdeal.Skeleton
public import proofs.«01_k».proof.Proof.Gen.CombineBwdIdeal.Launch
public import proofs.«01_k».proof.Proof.Gen.CombineBwdIdeal.Points
public import proofs.«01_k».proof.Proof.Gen.CombineBwdIdeal.Frame
public import proofs.«01_k».proof.Proof.Gen.CombineBwdRefIdeal
public import proofs.«01_k».proof.Proof.Gen.ConvBwdPre
public import proofs.«01_k».proof.Proof.Gen.ConvBwdPre.Skeleton
public import proofs.«01_k».proof.Proof.Gen.ConvBwdPre.Launch
public import proofs.«01_k».proof.Proof.Gen.ConvBwdPre.Points
public import proofs.«01_k».proof.Proof.Gen.ConvBwdPre.Frame
public import proofs.«01_k».proof.Proof.Gen.ConvBwdPreIdeal
public import proofs.«01_k».proof.Proof.Gen.ConvBwdPreIdeal.Skeleton
public import proofs.«01_k».proof.Proof.Gen.ConvBwdPreIdeal.Launch
public import proofs.«01_k».proof.Proof.Gen.ConvBwdPreIdeal.Points
public import proofs.«01_k».proof.Proof.Gen.ConvBwdPreIdeal.Frame
public import proofs.«01_k».proof.Proof.Gen.ConvBwdPreRefIdeal
public import proofs.«01_k».proof.Proof.Gen.ConvBwdIn
public import proofs.«01_k».proof.Proof.Gen.ConvBwdIn.Skeleton
public import proofs.«01_k».proof.Proof.Gen.ConvBwdIn.Launch
public import proofs.«01_k».proof.Proof.Gen.ConvBwdIn.Points
public import proofs.«01_k».proof.Proof.Gen.ConvBwdIn.Frame
public import proofs.«01_k».proof.Proof.Gen.ConvBwdInIdeal
public import proofs.«01_k».proof.Proof.Gen.ConvBwdInIdeal.Skeleton
public import proofs.«01_k».proof.Proof.Gen.ConvBwdInIdeal.Launch
public import proofs.«01_k».proof.Proof.Gen.ConvBwdInIdeal.Points
public import proofs.«01_k».proof.Proof.Gen.ConvBwdInIdeal.Frame
public import proofs.«01_k».proof.Proof.Gen.ConvBwdInRefIdeal
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.AdamwSmall
public import proofs.«01_k».proof.Proof.Gen.AdamwSmall.Skeleton
public import proofs.«01_k».proof.Proof.Gen.AdamwSmall.Launch
public import proofs.«01_k».proof.Proof.Gen.AdamwSmall.Points
public import proofs.«01_k».proof.Proof.Gen.AdamwSmall.Frame
public import proofs.«01_k».proof.Proof.Gen.AdamwSmallIdeal
public import proofs.«01_k».proof.Proof.Gen.AdamwSmallIdeal.Skeleton
public import proofs.«01_k».proof.Proof.Gen.AdamwSmallIdeal.Launch
public import proofs.«01_k».proof.Proof.Gen.AdamwSmallIdeal.Points
public import proofs.«01_k».proof.Proof.Gen.AdamwSmallIdeal.Frame
public import proofs.«01_k».proof.Proof.Gen.AdamwSmallRefIdeal
public import proofs.«01_k».proof.Proof.Gen.AdamwWIn
public import proofs.«01_k».proof.Proof.Gen.AdamwWIn.Skeleton
public import proofs.«01_k».proof.Proof.Gen.AdamwWIn.Launch
public import proofs.«01_k».proof.Proof.Gen.AdamwWIn.Points
public import proofs.«01_k».proof.Proof.Gen.AdamwWIn.Frame
public import proofs.«01_k».proof.Proof.Gen.AdamwWInIdeal
public import proofs.«01_k».proof.Proof.Gen.AdamwWInIdeal.Skeleton
public import proofs.«01_k».proof.Proof.Gen.AdamwWInIdeal.Launch
public import proofs.«01_k».proof.Proof.Gen.AdamwWInIdeal.Points
public import proofs.«01_k».proof.Proof.Gen.AdamwWInIdeal.Frame
public import proofs.«01_k».proof.Proof.Gen.AdamwWInRefIdeal
public import proofs.«01_k».proof.Proof.Gen.AdamwWAttnBranch
public import proofs.«01_k».proof.Proof.Gen.AdamwWAttnBranch.Skeleton
public import proofs.«01_k».proof.Proof.Gen.AdamwWAttnBranch.Launch
public import proofs.«01_k».proof.Proof.Gen.AdamwWAttnBranch.Points
public import proofs.«01_k».proof.Proof.Gen.AdamwWAttnBranch.Frame
public import proofs.«01_k».proof.Proof.Gen.AdamwWAttnBranchIdeal
public import proofs.«01_k».proof.Proof.Gen.AdamwWAttnBranchIdeal.Skeleton
public import proofs.«01_k».proof.Proof.Gen.AdamwWAttnBranchIdeal.Launch
public import proofs.«01_k».proof.Proof.Gen.AdamwWAttnBranchIdeal.Points
public import proofs.«01_k».proof.Proof.Gen.AdamwWAttnBranchIdeal.Frame
public import proofs.«01_k».proof.Proof.Gen.AdamwWAttnBranchRefIdeal
public import proofs.«01_k».proof.Proof.Gen.AdamwWSsmBranch
public import proofs.«01_k».proof.Proof.Gen.AdamwWSsmBranch.Skeleton
public import proofs.«01_k».proof.Proof.Gen.AdamwWSsmBranch.Launch
public import proofs.«01_k».proof.Proof.Gen.AdamwWSsmBranch.Points
public import proofs.«01_k».proof.Proof.Gen.AdamwWSsmBranch.Frame
public import proofs.«01_k».proof.Proof.Gen.AdamwWSsmBranchIdeal
public import proofs.«01_k».proof.Proof.Gen.AdamwWSsmBranchIdeal.Skeleton
public import proofs.«01_k».proof.Proof.Gen.AdamwWSsmBranchIdeal.Launch
public import proofs.«01_k».proof.Proof.Gen.AdamwWSsmBranchIdeal.Points
public import proofs.«01_k».proof.Proof.Gen.AdamwWSsmBranchIdeal.Frame
public import proofs.«01_k».proof.Proof.Gen.AdamwWSsmBranchRefIdeal
public import proofs.«01_k».proof.Proof.Gen.AdamwWOut
public import proofs.«01_k».proof.Proof.Gen.AdamwWOut.Skeleton
public import proofs.«01_k».proof.Proof.Gen.AdamwWOut.Launch
public import proofs.«01_k».proof.Proof.Gen.AdamwWOut.Points
public import proofs.«01_k».proof.Proof.Gen.AdamwWOut.Frame
public import proofs.«01_k».proof.Proof.Gen.AdamwWOutIdeal
public import proofs.«01_k».proof.Proof.Gen.AdamwWOutIdeal.Skeleton
public import proofs.«01_k».proof.Proof.Gen.AdamwWOutIdeal.Launch
public import proofs.«01_k».proof.Proof.Gen.AdamwWOutIdeal.Points
public import proofs.«01_k».proof.Proof.Gen.AdamwWOutIdeal.Frame
public import proofs.«01_k».proof.Proof.Gen.AdamwWOutRefIdeal
public import proofs.«01_k».proof.Proof.Gen.AdamwWFfnIn
public import proofs.«01_k».proof.Proof.Gen.AdamwWFfnIn.Skeleton
public import proofs.«01_k».proof.Proof.Gen.AdamwWFfnIn.Launch
public import proofs.«01_k».proof.Proof.Gen.AdamwWFfnIn.Points
public import proofs.«01_k».proof.Proof.Gen.AdamwWFfnIn.Frame
public import proofs.«01_k».proof.Proof.Gen.AdamwWFfnInIdeal
public import proofs.«01_k».proof.Proof.Gen.AdamwWFfnInIdeal.Skeleton
public import proofs.«01_k».proof.Proof.Gen.AdamwWFfnInIdeal.Launch
public import proofs.«01_k».proof.Proof.Gen.AdamwWFfnInIdeal.Points
public import proofs.«01_k».proof.Proof.Gen.AdamwWFfnInIdeal.Frame
public import proofs.«01_k».proof.Proof.Gen.AdamwWFfnInRefIdeal
public import proofs.«01_k».proof.Proof.Gen.AdamwWFfnOut
public import proofs.«01_k».proof.Proof.Gen.AdamwWFfnOut.Skeleton
public import proofs.«01_k».proof.Proof.Gen.AdamwWFfnOut.Launch
public import proofs.«01_k».proof.Proof.Gen.AdamwWFfnOut.Points
public import proofs.«01_k».proof.Proof.Gen.AdamwWFfnOut.Frame
public import proofs.«01_k».proof.Proof.Gen.AdamwWFfnOutIdeal
public import proofs.«01_k».proof.Proof.Gen.AdamwWFfnOutIdeal.Skeleton
public import proofs.«01_k».proof.Proof.Gen.AdamwWFfnOutIdeal.Launch
public import proofs.«01_k».proof.Proof.Gen.AdamwWFfnOutIdeal.Points
public import proofs.«01_k».proof.Proof.Gen.AdamwWFfnOutIdeal.Frame
public import proofs.«01_k».proof.Proof.Gen.AdamwWFfnOutRefIdeal
public import proofs.«01_k».proof.Proof.Gen.Pre_swiglu_finite
public import proofs.«01_k».proof.Proof.Gen.Pre_gate_norm_finite
public import proofs.«01_k».proof.Proof.Gen.Pre_combine_finite
public import proofs.«01_k».proof.Proof.Gen.Pre_conv_finite
public import proofs.«01_k».proof.Proof.Gen.Pre_place_w_in
public import proofs.«01_k».proof.Proof.Gen.Pre_place_w_attn_branch
public import proofs.«01_k».proof.Proof.Gen.Pre_place_w_ssm_branch
public import proofs.«01_k».proof.Proof.Gen.Pre_place_w_out
public import proofs.«01_k».proof.Proof.Gen.Pre_place_w_ffn_in
public import proofs.«01_k».proof.Proof.Gen.Pre_place_w_ffn_out
public import proofs.«01_k».proof.Proof.Gen.AdamwSmallRefIdeal.Run
public import proofs.«01_k».proof.Proof.Gen.AdamwSmallRefIdeal.Read
public import proofs.«01_k».proof.Proof.Gen.AdamwWAttnBranchRefIdeal.Run
public import proofs.«01_k».proof.Proof.Gen.AdamwWAttnBranchRefIdeal.Read
public import proofs.«01_k».proof.Proof.Gen.AdamwWFfnInRefIdeal.Run
public import proofs.«01_k».proof.Proof.Gen.AdamwWFfnInRefIdeal.Read
public import proofs.«01_k».proof.Proof.Gen.AdamwWFfnOutRefIdeal.Run
public import proofs.«01_k».proof.Proof.Gen.AdamwWFfnOutRefIdeal.Read
public import proofs.«01_k».proof.Proof.Gen.AdamwWInRefIdeal.Run
public import proofs.«01_k».proof.Proof.Gen.AdamwWInRefIdeal.Read
public import proofs.«01_k».proof.Proof.Gen.AdamwWOutRefIdeal.Run
public import proofs.«01_k».proof.Proof.Gen.AdamwWOutRefIdeal.Read
public import proofs.«01_k».proof.Proof.Gen.AdamwWSsmBranchRefIdeal.Run
public import proofs.«01_k».proof.Proof.Gen.AdamwWSsmBranchRefIdeal.Read
public import proofs.«01_k».proof.Proof.Gen.AttnBranchRefIdeal.Run
public import proofs.«01_k».proof.Proof.Gen.AttnBranchRefIdeal.Read
public import proofs.«01_k».proof.Proof.Gen.AttnBranchDwRefIdeal.Run
public import proofs.«01_k».proof.Proof.Gen.AttnBranchDwRefIdeal.Read
public import proofs.«01_k».proof.Proof.Gen.AttnBranchDxRefIdeal.Run
public import proofs.«01_k».proof.Proof.Gen.AttnBranchDxRefIdeal.Read
public import proofs.«01_k».proof.Proof.Gen.AttnFwdRefIdeal.Run
public import proofs.«01_k».proof.Proof.Gen.AttnFwdRefIdeal.Read
public import proofs.«01_k».proof.Proof.Gen.AttnFwd16RefIdeal.Run
public import proofs.«01_k».proof.Proof.Gen.AttnFwd16RefIdeal.Read
public import proofs.«01_k».proof.Proof.Gen.AttnFwd4RefIdeal.Run
public import proofs.«01_k».proof.Proof.Gen.AttnFwd4RefIdeal.Read
public import proofs.«01_k».proof.Proof.Gen.CombineRefIdeal.Run
public import proofs.«01_k».proof.Proof.Gen.CombineRefIdeal.Read
public import proofs.«01_k».proof.Proof.Gen.CombineBwdRefIdeal.Run
public import proofs.«01_k».proof.Proof.Gen.CombineBwdRefIdeal.Read
public import proofs.«01_k».proof.Proof.Gen.ConvRefIdeal.Run
public import proofs.«01_k».proof.Proof.Gen.ConvRefIdeal.Read
public import proofs.«01_k».proof.Proof.Gen.ConvBwdInRefIdeal.Run
public import proofs.«01_k».proof.Proof.Gen.ConvBwdInRefIdeal.Read
public import proofs.«01_k».proof.Proof.Gen.ConvBwdPreRefIdeal.Run
public import proofs.«01_k».proof.Proof.Gen.ConvBwdPreRefIdeal.Read
public import proofs.«01_k».proof.Proof.Gen.FfnInRefIdeal.Run
public import proofs.«01_k».proof.Proof.Gen.FfnInRefIdeal.Read
public import proofs.«01_k».proof.Proof.Gen.FfnInDwRefIdeal.Run
public import proofs.«01_k».proof.Proof.Gen.FfnInDwRefIdeal.Read
public import proofs.«01_k».proof.Proof.Gen.FfnInDxRefIdeal.Run
public import proofs.«01_k».proof.Proof.Gen.FfnInDxRefIdeal.Read
public import proofs.«01_k».proof.Proof.Gen.FfnOutRefIdeal.Run
public import proofs.«01_k».proof.Proof.Gen.FfnOutRefIdeal.Read
public import proofs.«01_k».proof.Proof.Gen.FfnOutDwRefIdeal.Run
public import proofs.«01_k».proof.Proof.Gen.FfnOutDwRefIdeal.Read
public import proofs.«01_k».proof.Proof.Gen.FfnOutDxRefIdeal.Run
public import proofs.«01_k».proof.Proof.Gen.FfnOutDxRefIdeal.Read
public import proofs.«01_k».proof.Proof.Gen.GateNormRefIdeal.Run
public import proofs.«01_k».proof.Proof.Gen.GateNormRefIdeal.Read
public import proofs.«01_k».proof.Proof.Gen.GateNormBwdRefIdeal.Run
public import proofs.«01_k».proof.Proof.Gen.GateNormBwdRefIdeal.Read
public import proofs.«01_k».proof.Proof.Gen.InProjRefIdeal.Run
public import proofs.«01_k».proof.Proof.Gen.InProjRefIdeal.Read
public import proofs.«01_k».proof.Proof.Gen.InProjDtRefIdeal.Run
public import proofs.«01_k».proof.Proof.Gen.InProjDtRefIdeal.Read
public import proofs.«01_k».proof.Proof.Gen.InProjDtDwRefIdeal.Run
public import proofs.«01_k».proof.Proof.Gen.InProjDtDwRefIdeal.Read
public import proofs.«01_k».proof.Proof.Gen.InProjDtDxRefIdeal.Run
public import proofs.«01_k».proof.Proof.Gen.InProjDtDxRefIdeal.Read
public import proofs.«01_k».proof.Proof.Gen.InProjDwRefIdeal.Run
public import proofs.«01_k».proof.Proof.Gen.InProjDwRefIdeal.Read
public import proofs.«01_k».proof.Proof.Gen.InProjDxRefIdeal.Run
public import proofs.«01_k».proof.Proof.Gen.InProjDxRefIdeal.Read
public import proofs.«01_k».proof.Proof.Gen.InProjQkvRefIdeal.Run
public import proofs.«01_k».proof.Proof.Gen.InProjQkvRefIdeal.Read
public import proofs.«01_k».proof.Proof.Gen.InProjQkvDwRefIdeal.Run
public import proofs.«01_k».proof.Proof.Gen.InProjQkvDwRefIdeal.Read
public import proofs.«01_k».proof.Proof.Gen.InProjQkvDxRefIdeal.Run
public import proofs.«01_k».proof.Proof.Gen.InProjQkvDxRefIdeal.Read
public import proofs.«01_k».proof.Proof.Gen.LossHeadRefIdeal.Run
public import proofs.«01_k».proof.Proof.Gen.LossHeadRefIdeal.Read
public import proofs.«01_k».proof.Proof.Gen.MergeRefIdeal.Run
public import proofs.«01_k».proof.Proof.Gen.MergeRefIdeal.Read
public import proofs.«01_k».proof.Proof.Gen.MergeFwdRefIdeal.Run
public import proofs.«01_k».proof.Proof.Gen.MergeFwdRefIdeal.Read
public import proofs.«01_k».proof.Proof.Gen.NormRefIdeal.Run
public import proofs.«01_k».proof.Proof.Gen.NormRefIdeal.Read
public import proofs.«01_k».proof.Proof.Gen.Norm1RefIdeal.Run
public import proofs.«01_k».proof.Proof.Gen.Norm1RefIdeal.Read
public import proofs.«01_k».proof.Proof.Gen.Norm2RefIdeal.Run
public import proofs.«01_k».proof.Proof.Gen.Norm2RefIdeal.Read
public import proofs.«01_k».proof.Proof.Gen.OutProjRefIdeal.Run
public import proofs.«01_k».proof.Proof.Gen.OutProjRefIdeal.Read
public import proofs.«01_k».proof.Proof.Gen.OutProjDwRefIdeal.Run
public import proofs.«01_k».proof.Proof.Gen.OutProjDwRefIdeal.Read
public import proofs.«01_k».proof.Proof.Gen.OutProjDxRefIdeal.Run
public import proofs.«01_k».proof.Proof.Gen.OutProjDxRefIdeal.Read
public import proofs.«01_k».proof.Proof.Gen.SsmBranchRefIdeal.Run
public import proofs.«01_k».proof.Proof.Gen.SsmBranchRefIdeal.Read
public import proofs.«01_k».proof.Proof.Gen.SsmBranchDwRefIdeal.Run
public import proofs.«01_k».proof.Proof.Gen.SsmBranchDwRefIdeal.Read
public import proofs.«01_k».proof.Proof.Gen.SsmBranchDxRefIdeal.Run
public import proofs.«01_k».proof.Proof.Gen.SsmBranchDxRefIdeal.Read
public import proofs.«01_k».proof.Proof.Gen.SwigluRefIdeal.Run
public import proofs.«01_k».proof.Proof.Gen.SwigluRefIdeal.Read
public import proofs.«01_k».proof.Proof.Gen.SwigluBwdRefIdeal.Run
public import proofs.«01_k».proof.Proof.Gen.SwigluBwdRefIdeal.Read
public import Idealize.ShloMosaic.Init
public import proofs.«01_k».proof.Proof.AdamwSmallValue
public import proofs.«01_k».proof.Proof.AdamwWAttnBranchValue
public import proofs.«01_k».proof.Proof.AdamwWFfnInValue
public import proofs.«01_k».proof.Proof.AdamwWFfnOutValue
public import proofs.«01_k».proof.Proof.AdamwWInValue
public import proofs.«01_k».proof.Proof.AdamwWOutValue
public import proofs.«01_k».proof.Proof.AdamwWSsmBranchValue
public import proofs.«01_k».proof.Proof.AttnBranchDwValue
public import proofs.«01_k».proof.Proof.AttnBranchDxValue
public import proofs.«01_k».proof.Proof.AttnBranchValue
public import proofs.«01_k».proof.Proof.AttnFwd16Value
public import proofs.«01_k».proof.Proof.AttnFwd4Value
public import proofs.«01_k».proof.Proof.AttnFwdValue
public import proofs.«01_k».proof.Proof.CombineBwdValue
public import proofs.«01_k».proof.Proof.CombineValue
public import proofs.«01_k».proof.Proof.ConvBwdInValue
public import proofs.«01_k».proof.Proof.ConvBwdPreValue
public import proofs.«01_k».proof.Proof.ConvValue
public import proofs.«01_k».proof.Proof.FfnInDwValue
public import proofs.«01_k».proof.Proof.FfnInDxValue
public import proofs.«01_k».proof.Proof.FfnInValue
public import proofs.«01_k».proof.Proof.FfnOutDwValue
public import proofs.«01_k».proof.Proof.FfnOutDxValue
public import proofs.«01_k».proof.Proof.FfnOutValue
public import proofs.«01_k».proof.Proof.GateNormBwdValue
public import proofs.«01_k».proof.Proof.GateNormValue
public import proofs.«01_k».proof.Proof.InProjDtDwValue
public import proofs.«01_k».proof.Proof.InProjDtDxValue
public import proofs.«01_k».proof.Proof.InProjDtValue
public import proofs.«01_k».proof.Proof.InProjDwValue
public import proofs.«01_k».proof.Proof.InProjDxValue
public import proofs.«01_k».proof.Proof.InProjQkvDwValue
public import proofs.«01_k».proof.Proof.InProjQkvDxValue
public import proofs.«01_k».proof.Proof.InProjQkvValue
public import proofs.«01_k».proof.Proof.InProjValue
public import proofs.«01_k».proof.Proof.LossHeadValue
public import proofs.«01_k».proof.Proof.MergeFwdValue
public import proofs.«01_k».proof.Proof.MergeValue
public import proofs.«01_k».proof.Proof.Norm1Value
public import proofs.«01_k».proof.Proof.Norm2Value
public import proofs.«01_k».proof.Proof.NormValue
public import proofs.«01_k».proof.Proof.OutProjDwValue
public import proofs.«01_k».proof.Proof.OutProjDxValue
public import proofs.«01_k».proof.Proof.OutProjValue
public import proofs.«01_k».proof.Proof.SsmBranchDwValue
public import proofs.«01_k».proof.Proof.SsmBranchDxValue
public import proofs.«01_k».proof.Proof.SsmBranchValue
public import proofs.«01_k».proof.Proof.SwigluBwdValue
public import proofs.«01_k».proof.Proof.SwigluValue
public import Idealize.ShloMosaic.Lib.Claim
public import Idealize.ShloMosaic.Lib.Quiescent
public import Idealize.ShloMosaic.Adequacy

@[expose] public section

set_option maxRecDepth 131072

noncomputable section

namespace Cert.Proof

open Idealize.ShloMosaic Idealize.SL.Sem

/-- The reference MergeRef ends, its arguments unchanged and its counters at zero. -/
theorem quiet_MergeRef : Cert.quiescent_MergeRefIdeal := by
  intro m g _
  exact (θ_run Cert.MergeRefIdeal.defs _ _).mono
    (fun r h => ⟨fun c => (h c).2.2.2.2, Idealize.ShloMosaic.sem_eq_zero_of_no_sems (by decide) r.2⟩)
    (Cert.MergeRefIdeal.Value.run (F := Ideal) m g)

/-- Merge: both programs leave equal results. -/
theorem value_Merge : Cert.algebraic_MergeIdeal_MergeRefIdeal := by
  pair_intro
  · run_from Cert.MergeIdeal.Value.run_blocks m g
  · run_from Cert.MergeRefIdeal.Value.run m' g'
    · exact (Cert.MergeIdeal.Final.final5 m c).symm
    · exact (Cert.MergeIdeal.Final.final6 m c).symm
    · exact (Cert.MergeIdeal.Final.final7 m c).symm
    · exact (Cert.MergeIdeal.Final.final8 m c).symm

/-- The reference InProjDxRef ends, its arguments unchanged and its counters at zero. -/
theorem quiet_InProjDxRef : Cert.quiescent_InProjDxRefIdeal := by
  intro m g _
  exact (θ_run Cert.InProjDxRefIdeal.defs _ _).mono
    (fun r h => ⟨fun c => (h c).2, Idealize.ShloMosaic.sem_eq_zero_of_no_sems (by decide) r.2⟩)
    (Cert.InProjDxRefIdeal.Value.run (F := Ideal) m g)

/-- InProjDx: both programs leave equal results. -/
theorem value_InProjDx : Cert.algebraic_InProjDxIdeal_InProjDxRefIdeal := by
  pair_intro
  · run_from Cert.InProjDxIdeal.Gen.run_main m g
  · run_from Cert.InProjDxRefIdeal.Value.run m' g'
    exact (Cert.InProjDxIdeal.Final.final m c).symm

/-- The reference InProjDwRef ends, its arguments unchanged and its counters at zero. -/
theorem quiet_InProjDwRef : Cert.quiescent_InProjDwRefIdeal := by
  intro m g _
  exact (θ_run Cert.InProjDwRefIdeal.defs _ _).mono
    (fun r h => ⟨fun c => (h c).2, Idealize.ShloMosaic.sem_eq_zero_of_no_sems (by decide) r.2⟩)
    (Cert.InProjDwRefIdeal.Value.run (F := Ideal) m g)

/-- InProjDw: both programs leave equal results. -/
theorem value_InProjDw : Cert.algebraic_InProjDwIdeal_InProjDwRefIdeal := by
  intro m g m' g' hpre hagree
  refine ⟨fun c => Cert.InProjDwRefIdeal.Read.val_main_v5 (F := Ideal) (m (c.tc.loc Cert.InProjDwIdeal.main_arg0)) (m (c.tc.loc Cert.InProjDwIdeal.main_arg1)), ?_, ?_⟩
  · run_from Cert.InProjDwIdeal.Gen.run_main m g
    exact Cert.InProjDwIdeal.Final.final m c
  · refine Idealize.ShloMosaic.θ_run_mono (Cert.InProjDwRefIdeal.Value.run m' g') fun r hr c => ⟨(hr c).1.trans ?_, (hr c).2⟩
    refine (Cert.InProjDwRefIdeal.Read.val_main_v5_eq _ _).trans ?_
    rw [(hagree c).1, (hagree c).2]

/-- The reference InProjRef ends, its arguments unchanged and its counters at zero. -/
theorem quiet_InProjRef : Cert.quiescent_InProjRefIdeal := by
  intro m g _
  exact (θ_run Cert.InProjRefIdeal.defs _ _).mono
    (fun r h => ⟨fun c => (h c).2, Idealize.ShloMosaic.sem_eq_zero_of_no_sems (by decide) r.2⟩)
    (Cert.InProjRefIdeal.Value.run (F := Ideal) m g)

/-- InProj: both programs leave equal results. -/
theorem value_InProj : Cert.algebraic_InProjIdeal_InProjRefIdeal := by
  pair_intro
  · run_from Cert.InProjIdeal.Gen.run_main m g
  · run_from Cert.InProjRefIdeal.Value.run m' g'
    exact (Cert.InProjIdeal.Final.final m c).symm

/-- The reference InProjQkvDxRef ends, its arguments unchanged and its counters at zero. -/
theorem quiet_InProjQkvDxRef : Cert.quiescent_InProjQkvDxRefIdeal := by
  intro m g _
  exact (θ_run Cert.InProjQkvDxRefIdeal.defs _ _).mono
    (fun r h => ⟨fun c => (h c).2, Idealize.ShloMosaic.sem_eq_zero_of_no_sems (by decide) r.2⟩)
    (Cert.InProjQkvDxRefIdeal.Value.run (F := Ideal) m g)

/-- InProjQkvDx: both programs leave equal results. -/
theorem value_InProjQkvDx : Cert.algebraic_InProjQkvDxIdeal_InProjQkvDxRefIdeal := by
  pair_intro
  · run_from Cert.InProjQkvDxIdeal.Gen.run_main m g
  · run_from Cert.InProjQkvDxRefIdeal.Value.run m' g'
    exact (Cert.InProjQkvDxIdeal.Final.final m c).symm

/-- The reference InProjQkvDwRef ends, its arguments unchanged and its counters at zero. -/
theorem quiet_InProjQkvDwRef : Cert.quiescent_InProjQkvDwRefIdeal := by
  intro m g _
  exact (θ_run Cert.InProjQkvDwRefIdeal.defs _ _).mono
    (fun r h => ⟨fun c => (h c).2, Idealize.ShloMosaic.sem_eq_zero_of_no_sems (by decide) r.2⟩)
    (Cert.InProjQkvDwRefIdeal.Value.run (F := Ideal) m g)

/-- InProjQkvDw: both programs leave equal results. -/
theorem value_InProjQkvDw : Cert.algebraic_InProjQkvDwIdeal_InProjQkvDwRefIdeal := by
  intro m g m' g' hpre hagree
  refine ⟨fun c => Cert.InProjQkvDwRefIdeal.Read.val_main_v5 (F := Ideal) (m (c.tc.loc Cert.InProjQkvDwIdeal.main_arg0)) (m (c.tc.loc Cert.InProjQkvDwIdeal.main_arg1)), ?_, ?_⟩
  · run_from Cert.InProjQkvDwIdeal.Gen.run_main m g
    exact Cert.InProjQkvDwIdeal.Final.final m c
  · refine Idealize.ShloMosaic.θ_run_mono (Cert.InProjQkvDwRefIdeal.Value.run m' g') fun r hr c => ⟨(hr c).1.trans ?_, (hr c).2⟩
    refine (Cert.InProjQkvDwRefIdeal.Read.val_main_v5_eq _ _).trans ?_
    rw [(hagree c).1, (hagree c).2]

/-- The reference InProjQkvRef ends, its arguments unchanged and its counters at zero. -/
theorem quiet_InProjQkvRef : Cert.quiescent_InProjQkvRefIdeal := by
  intro m g _
  exact (θ_run Cert.InProjQkvRefIdeal.defs _ _).mono
    (fun r h => ⟨fun c => (h c).2, Idealize.ShloMosaic.sem_eq_zero_of_no_sems (by decide) r.2⟩)
    (Cert.InProjQkvRefIdeal.Value.run (F := Ideal) m g)

/-- InProjQkv: both programs leave equal results. -/
theorem value_InProjQkv : Cert.algebraic_InProjQkvIdeal_InProjQkvRefIdeal := by
  pair_intro
  · run_from Cert.InProjQkvIdeal.Gen.run_main m g
  · run_from Cert.InProjQkvRefIdeal.Value.run m' g'
    exact (Cert.InProjQkvIdeal.Final.final m c).symm

/-- The reference InProjDtDxRef ends, its arguments unchanged and its counters at zero. -/
theorem quiet_InProjDtDxRef : Cert.quiescent_InProjDtDxRefIdeal := by
  intro m g _
  exact (θ_run Cert.InProjDtDxRefIdeal.defs _ _).mono
    (fun r h => ⟨fun c => (h c).2, Idealize.ShloMosaic.sem_eq_zero_of_no_sems (by decide) r.2⟩)
    (Cert.InProjDtDxRefIdeal.Value.run (F := Ideal) m g)

/-- InProjDtDx: both programs leave equal results. -/
theorem value_InProjDtDx : Cert.algebraic_InProjDtDxIdeal_InProjDtDxRefIdeal := by
  pair_intro
  · run_from Cert.InProjDtDxIdeal.Gen.run_main m g
  · run_from Cert.InProjDtDxRefIdeal.Value.run m' g'
    exact (Cert.InProjDtDxIdeal.Final.final m c).symm

/-- The reference InProjDtDwRef ends, its arguments unchanged and its counters at zero. -/
theorem quiet_InProjDtDwRef : Cert.quiescent_InProjDtDwRefIdeal := by
  intro m g _
  exact (θ_run Cert.InProjDtDwRefIdeal.defs _ _).mono
    (fun r h => ⟨fun c => (h c).2, Idealize.ShloMosaic.sem_eq_zero_of_no_sems (by decide) r.2⟩)
    (Cert.InProjDtDwRefIdeal.Value.run (F := Ideal) m g)

/-- InProjDtDw: both programs leave equal results. -/
theorem value_InProjDtDw : Cert.algebraic_InProjDtDwIdeal_InProjDtDwRefIdeal := by
  intro m g m' g' hpre hagree
  refine ⟨fun c => Cert.InProjDtDwRefIdeal.Read.val_main_v4 (F := Ideal) (m (c.tc.loc Cert.InProjDtDwIdeal.main_arg0)) (m (c.tc.loc Cert.InProjDtDwIdeal.main_arg1)), ?_, ?_⟩
  · run_from Cert.InProjDtDwIdeal.Gen.run_main m g
    exact Cert.InProjDtDwIdeal.Final.final m c
  · refine Idealize.ShloMosaic.θ_run_mono (Cert.InProjDtDwRefIdeal.Value.run m' g') fun r hr c => ⟨(hr c).1.trans ?_, (hr c).2⟩
    refine (Cert.InProjDtDwRefIdeal.Read.val_main_v4_eq _ _).trans ?_
    rw [(hagree c).1, (hagree c).2]

/-- The reference InProjDtRef ends, its arguments unchanged and its counters at zero. -/
theorem quiet_InProjDtRef : Cert.quiescent_InProjDtRefIdeal := by
  intro m g _
  exact (θ_run Cert.InProjDtRefIdeal.defs _ _).mono
    (fun r h => ⟨fun c => (h c).2, Idealize.ShloMosaic.sem_eq_zero_of_no_sems (by decide) r.2⟩)
    (Cert.InProjDtRefIdeal.Value.run (F := Ideal) m g)

/-- InProjDt: both programs leave equal results. -/
theorem value_InProjDt : Cert.algebraic_InProjDtIdeal_InProjDtRefIdeal := by
  pair_intro
  · run_from Cert.InProjDtIdeal.Gen.run_main m g
  · run_from Cert.InProjDtRefIdeal.Value.run m' g'
    exact (Cert.InProjDtIdeal.Final.final m c).symm

/-- The reference AttnBranchDxRef ends, its arguments unchanged and its counters at zero. -/
theorem quiet_AttnBranchDxRef : Cert.quiescent_AttnBranchDxRefIdeal := by
  intro m g _
  exact (θ_run Cert.AttnBranchDxRefIdeal.defs _ _).mono
    (fun r h => ⟨fun c => (h c).2, Idealize.ShloMosaic.sem_eq_zero_of_no_sems (by decide) r.2⟩)
    (Cert.AttnBranchDxRefIdeal.Value.run (F := Ideal) m g)

/-- AttnBranchDx: both programs leave equal results. -/
theorem value_AttnBranchDx : Cert.algebraic_AttnBranchDxIdeal_AttnBranchDxRefIdeal := by
  pair_intro
  · run_from Cert.AttnBranchDxIdeal.Gen.run_main m g
  · run_from Cert.AttnBranchDxRefIdeal.Value.run m' g'
    exact (Cert.AttnBranchDxIdeal.Final.final m c).symm

/-- The reference AttnBranchDwRef ends, its arguments unchanged and its counters at zero. -/
theorem quiet_AttnBranchDwRef : Cert.quiescent_AttnBranchDwRefIdeal := by
  intro m g _
  exact (θ_run Cert.AttnBranchDwRefIdeal.defs _ _).mono
    (fun r h => ⟨fun c => (h c).2, Idealize.ShloMosaic.sem_eq_zero_of_no_sems (by decide) r.2⟩)
    (Cert.AttnBranchDwRefIdeal.Value.run (F := Ideal) m g)

/-- AttnBranchDw: both programs leave equal results. -/
theorem value_AttnBranchDw : Cert.algebraic_AttnBranchDwIdeal_AttnBranchDwRefIdeal := by
  intro m g m' g' hpre hagree
  refine ⟨fun c => Cert.AttnBranchDwRefIdeal.Read.val_main_v5 (F := Ideal) (m (c.tc.loc Cert.AttnBranchDwIdeal.main_arg0)) (m (c.tc.loc Cert.AttnBranchDwIdeal.main_arg1)), ?_, ?_⟩
  · run_from Cert.AttnBranchDwIdeal.Gen.run_main m g
    exact Cert.AttnBranchDwIdeal.Final.final m c
  · refine Idealize.ShloMosaic.θ_run_mono (Cert.AttnBranchDwRefIdeal.Value.run m' g') fun r hr c => ⟨(hr c).1.trans ?_, (hr c).2⟩
    refine (Cert.AttnBranchDwRefIdeal.Read.val_main_v5_eq _ _).trans ?_
    rw [(hagree c).1, (hagree c).2]

/-- The reference AttnBranchRef ends, its arguments unchanged and its counters at zero. -/
theorem quiet_AttnBranchRef : Cert.quiescent_AttnBranchRefIdeal := by
  intro m g _
  exact (θ_run Cert.AttnBranchRefIdeal.defs _ _).mono
    (fun r h => ⟨fun c => (h c).2, Idealize.ShloMosaic.sem_eq_zero_of_no_sems (by decide) r.2⟩)
    (Cert.AttnBranchRefIdeal.Value.run (F := Ideal) m g)

/-- AttnBranch: both programs leave equal results. -/
theorem value_AttnBranch : Cert.algebraic_AttnBranchIdeal_AttnBranchRefIdeal := by
  pair_intro
  · run_from Cert.AttnBranchIdeal.Gen.run_main m g
  · run_from Cert.AttnBranchRefIdeal.Value.run m' g'
    exact (Cert.AttnBranchIdeal.Final.final m c).symm

/-- The reference SsmBranchDxRef ends, its arguments unchanged and its counters at zero. -/
theorem quiet_SsmBranchDxRef : Cert.quiescent_SsmBranchDxRefIdeal := by
  intro m g _
  exact (θ_run Cert.SsmBranchDxRefIdeal.defs _ _).mono
    (fun r h => ⟨fun c => (h c).2, Idealize.ShloMosaic.sem_eq_zero_of_no_sems (by decide) r.2⟩)
    (Cert.SsmBranchDxRefIdeal.Value.run (F := Ideal) m g)

/-- SsmBranchDx: both programs leave equal results. -/
theorem value_SsmBranchDx : Cert.algebraic_SsmBranchDxIdeal_SsmBranchDxRefIdeal := by
  pair_intro
  · run_from Cert.SsmBranchDxIdeal.Gen.run_main m g
  · run_from Cert.SsmBranchDxRefIdeal.Value.run m' g'
    exact (Cert.SsmBranchDxIdeal.Final.final m c).symm

/-- The reference SsmBranchDwRef ends, its arguments unchanged and its counters at zero. -/
theorem quiet_SsmBranchDwRef : Cert.quiescent_SsmBranchDwRefIdeal := by
  intro m g _
  exact (θ_run Cert.SsmBranchDwRefIdeal.defs _ _).mono
    (fun r h => ⟨fun c => (h c).2, Idealize.ShloMosaic.sem_eq_zero_of_no_sems (by decide) r.2⟩)
    (Cert.SsmBranchDwRefIdeal.Value.run (F := Ideal) m g)

/-- SsmBranchDw: both programs leave equal results. -/
theorem value_SsmBranchDw : Cert.algebraic_SsmBranchDwIdeal_SsmBranchDwRefIdeal := by
  intro m g m' g' hpre hagree
  refine ⟨fun c => Cert.SsmBranchDwRefIdeal.Read.val_main_v5 (F := Ideal) (m (c.tc.loc Cert.SsmBranchDwIdeal.main_arg0)) (m (c.tc.loc Cert.SsmBranchDwIdeal.main_arg1)), ?_, ?_⟩
  · run_from Cert.SsmBranchDwIdeal.Gen.run_main m g
    exact Cert.SsmBranchDwIdeal.Final.final m c
  · refine Idealize.ShloMosaic.θ_run_mono (Cert.SsmBranchDwRefIdeal.Value.run m' g') fun r hr c => ⟨(hr c).1.trans ?_, (hr c).2⟩
    refine (Cert.SsmBranchDwRefIdeal.Read.val_main_v5_eq _ _).trans ?_
    rw [(hagree c).1, (hagree c).2]

/-- The reference SsmBranchRef ends, its arguments unchanged and its counters at zero. -/
theorem quiet_SsmBranchRef : Cert.quiescent_SsmBranchRefIdeal := by
  intro m g _
  exact (θ_run Cert.SsmBranchRefIdeal.defs _ _).mono
    (fun r h => ⟨fun c => (h c).2, Idealize.ShloMosaic.sem_eq_zero_of_no_sems (by decide) r.2⟩)
    (Cert.SsmBranchRefIdeal.Value.run (F := Ideal) m g)

/-- SsmBranch: both programs leave equal results. -/
theorem value_SsmBranch : Cert.algebraic_SsmBranchIdeal_SsmBranchRefIdeal := by
  pair_intro
  · run_from Cert.SsmBranchIdeal.Gen.run_main m g
  · run_from Cert.SsmBranchRefIdeal.Value.run m' g'
    exact (Cert.SsmBranchIdeal.Final.final m c).symm

/-- The reference OutProjDxRef ends, its arguments unchanged and its counters at zero. -/
theorem quiet_OutProjDxRef : Cert.quiescent_OutProjDxRefIdeal := by
  intro m g _
  exact (θ_run Cert.OutProjDxRefIdeal.defs _ _).mono
    (fun r h => ⟨fun c => (h c).2, Idealize.ShloMosaic.sem_eq_zero_of_no_sems (by decide) r.2⟩)
    (Cert.OutProjDxRefIdeal.Value.run (F := Ideal) m g)

/-- OutProjDx: both programs leave equal results. -/
theorem value_OutProjDx : Cert.algebraic_OutProjDxIdeal_OutProjDxRefIdeal := by
  pair_intro
  · run_from Cert.OutProjDxIdeal.Gen.run_main m g
  · run_from Cert.OutProjDxRefIdeal.Value.run m' g'
    exact (Cert.OutProjDxIdeal.Final.final m c).symm

/-- The reference OutProjDwRef ends, its arguments unchanged and its counters at zero. -/
theorem quiet_OutProjDwRef : Cert.quiescent_OutProjDwRefIdeal := by
  intro m g _
  exact (θ_run Cert.OutProjDwRefIdeal.defs _ _).mono
    (fun r h => ⟨fun c => (h c).2, Idealize.ShloMosaic.sem_eq_zero_of_no_sems (by decide) r.2⟩)
    (Cert.OutProjDwRefIdeal.Value.run (F := Ideal) m g)

/-- OutProjDw: both programs leave equal results. -/
theorem value_OutProjDw : Cert.algebraic_OutProjDwIdeal_OutProjDwRefIdeal := by
  intro m g m' g' hpre hagree
  refine ⟨fun c => Cert.OutProjDwRefIdeal.Read.val_main_v4 (F := Ideal) (m (c.tc.loc Cert.OutProjDwIdeal.main_arg0)) (m (c.tc.loc Cert.OutProjDwIdeal.main_arg1)), ?_, ?_⟩
  · run_from Cert.OutProjDwIdeal.Gen.run_main m g
    exact Cert.OutProjDwIdeal.Final.final m c
  · refine Idealize.ShloMosaic.θ_run_mono (Cert.OutProjDwRefIdeal.Value.run m' g') fun r hr c => ⟨(hr c).1.trans ?_, (hr c).2⟩
    refine (Cert.OutProjDwRefIdeal.Read.val_main_v4_eq _ _).trans ?_
    rw [(hagree c).1, (hagree c).2]

/-- The reference OutProjRef ends, its arguments unchanged and its counters at zero. -/
theorem quiet_OutProjRef : Cert.quiescent_OutProjRefIdeal := by
  intro m g _
  exact (θ_run Cert.OutProjRefIdeal.defs _ _).mono
    (fun r h => ⟨fun c => (h c).2, Idealize.ShloMosaic.sem_eq_zero_of_no_sems (by decide) r.2⟩)
    (Cert.OutProjRefIdeal.Value.run (F := Ideal) m g)

/-- OutProj: both programs leave equal results. -/
theorem value_OutProj : Cert.algebraic_OutProjIdeal_OutProjRefIdeal := by
  pair_intro
  · run_from Cert.OutProjIdeal.Gen.run_main m g
  · run_from Cert.OutProjRefIdeal.Value.run m' g'
    exact (Cert.OutProjIdeal.Final.final m c).symm

/-- The reference FfnInDxRef ends, its arguments unchanged and its counters at zero. -/
theorem quiet_FfnInDxRef : Cert.quiescent_FfnInDxRefIdeal := by
  intro m g _
  exact (θ_run Cert.FfnInDxRefIdeal.defs _ _).mono
    (fun r h => ⟨fun c => (h c).2, Idealize.ShloMosaic.sem_eq_zero_of_no_sems (by decide) r.2⟩)
    (Cert.FfnInDxRefIdeal.Value.run (F := Ideal) m g)

/-- FfnInDx: both programs leave equal results. -/
theorem value_FfnInDx : Cert.algebraic_FfnInDxIdeal_FfnInDxRefIdeal := by
  pair_intro
  · run_from Cert.FfnInDxIdeal.Gen.run_main m g
  · run_from Cert.FfnInDxRefIdeal.Value.run m' g'
    exact (Cert.FfnInDxIdeal.Final.final m c).symm

/-- The reference FfnInDwRef ends, its arguments unchanged and its counters at zero. -/
theorem quiet_FfnInDwRef : Cert.quiescent_FfnInDwRefIdeal := by
  intro m g _
  exact (θ_run Cert.FfnInDwRefIdeal.defs _ _).mono
    (fun r h => ⟨fun c => (h c).2, Idealize.ShloMosaic.sem_eq_zero_of_no_sems (by decide) r.2⟩)
    (Cert.FfnInDwRefIdeal.Value.run (F := Ideal) m g)

/-- FfnInDw: both programs leave equal results. -/
theorem value_FfnInDw : Cert.algebraic_FfnInDwIdeal_FfnInDwRefIdeal := by
  intro m g m' g' hpre hagree
  refine ⟨fun c => Cert.FfnInDwRefIdeal.Read.val_main_v5 (F := Ideal) (m (c.tc.loc Cert.FfnInDwIdeal.main_arg0)) (m (c.tc.loc Cert.FfnInDwIdeal.main_arg1)), ?_, ?_⟩
  · run_from Cert.FfnInDwIdeal.Gen.run_main m g
    exact Cert.FfnInDwIdeal.Final.final m c
  · refine Idealize.ShloMosaic.θ_run_mono (Cert.FfnInDwRefIdeal.Value.run m' g') fun r hr c => ⟨(hr c).1.trans ?_, (hr c).2⟩
    refine (Cert.FfnInDwRefIdeal.Read.val_main_v5_eq _ _).trans ?_
    rw [(hagree c).1, (hagree c).2]

/-- The reference FfnInRef ends, its arguments unchanged and its counters at zero. -/
theorem quiet_FfnInRef : Cert.quiescent_FfnInRefIdeal := by
  intro m g _
  exact (θ_run Cert.FfnInRefIdeal.defs _ _).mono
    (fun r h => ⟨fun c => (h c).2, Idealize.ShloMosaic.sem_eq_zero_of_no_sems (by decide) r.2⟩)
    (Cert.FfnInRefIdeal.Value.run (F := Ideal) m g)

/-- FfnIn: both programs leave equal results. -/
theorem value_FfnIn : Cert.algebraic_FfnInIdeal_FfnInRefIdeal := by
  pair_intro
  · run_from Cert.FfnInIdeal.Gen.run_main m g
  · run_from Cert.FfnInRefIdeal.Value.run m' g'
    exact (Cert.FfnInIdeal.Final.final m c).symm

/-- The reference FfnOutDxRef ends, its arguments unchanged and its counters at zero. -/
theorem quiet_FfnOutDxRef : Cert.quiescent_FfnOutDxRefIdeal := by
  intro m g _
  exact (θ_run Cert.FfnOutDxRefIdeal.defs _ _).mono
    (fun r h => ⟨fun c => (h c).2, Idealize.ShloMosaic.sem_eq_zero_of_no_sems (by decide) r.2⟩)
    (Cert.FfnOutDxRefIdeal.Value.run (F := Ideal) m g)

/-- FfnOutDx: both programs leave equal results. -/
theorem value_FfnOutDx : Cert.algebraic_FfnOutDxIdeal_FfnOutDxRefIdeal := by
  pair_intro
  · run_from Cert.FfnOutDxIdeal.Gen.run_main m g
  · run_from Cert.FfnOutDxRefIdeal.Value.run m' g'
    exact (Cert.FfnOutDxIdeal.Final.final m c).symm

/-- The reference FfnOutDwRef ends, its arguments unchanged and its counters at zero. -/
theorem quiet_FfnOutDwRef : Cert.quiescent_FfnOutDwRefIdeal := by
  intro m g _
  exact (θ_run Cert.FfnOutDwRefIdeal.defs _ _).mono
    (fun r h => ⟨fun c => (h c).2, Idealize.ShloMosaic.sem_eq_zero_of_no_sems (by decide) r.2⟩)
    (Cert.FfnOutDwRefIdeal.Value.run (F := Ideal) m g)

/-- FfnOutDw: both programs leave equal results. -/
theorem value_FfnOutDw : Cert.algebraic_FfnOutDwIdeal_FfnOutDwRefIdeal := by
  intro m g m' g' hpre hagree
  refine ⟨fun c => Cert.FfnOutDwRefIdeal.Read.val_main_v4 (F := Ideal) (m (c.tc.loc Cert.FfnOutDwIdeal.main_arg0)) (m (c.tc.loc Cert.FfnOutDwIdeal.main_arg1)), ?_, ?_⟩
  · run_from Cert.FfnOutDwIdeal.Gen.run_main m g
    exact Cert.FfnOutDwIdeal.Final.final m c
  · refine Idealize.ShloMosaic.θ_run_mono (Cert.FfnOutDwRefIdeal.Value.run m' g') fun r hr c => ⟨(hr c).1.trans ?_, (hr c).2⟩
    refine (Cert.FfnOutDwRefIdeal.Read.val_main_v4_eq _ _).trans ?_
    rw [(hagree c).1, (hagree c).2]

/-- The reference FfnOutRef ends, its arguments unchanged and its counters at zero. -/
theorem quiet_FfnOutRef : Cert.quiescent_FfnOutRefIdeal := by
  intro m g _
  exact (θ_run Cert.FfnOutRefIdeal.defs _ _).mono
    (fun r h => ⟨fun c => (h c).2, Idealize.ShloMosaic.sem_eq_zero_of_no_sems (by decide) r.2⟩)
    (Cert.FfnOutRefIdeal.Value.run (F := Ideal) m g)

/-- FfnOut: both programs leave equal results. -/
theorem value_FfnOut : Cert.algebraic_FfnOutIdeal_FfnOutRefIdeal := by
  pair_intro
  · run_from Cert.FfnOutIdeal.Gen.run_main m g
  · run_from Cert.FfnOutRefIdeal.Value.run m' g'
    exact (Cert.FfnOutIdeal.Final.final m c).symm

/-- The reference AttnFwdRef ends, its arguments unchanged and its counters at zero. -/
theorem quiet_AttnFwdRef : Cert.quiescent_AttnFwdRefIdeal := by
  intro m g _
  exact (θ_run Cert.AttnFwdRefIdeal.defs _ _).mono
    (fun r h => ⟨fun c => (h c).2.2, Idealize.ShloMosaic.sem_eq_zero_of_no_sems (by decide) r.2⟩)
    (Cert.AttnFwdRefIdeal.Value.run (F := Ideal) m g)

/-- AttnFwd: both programs leave equal results. -/
theorem value_AttnFwd : Cert.algebraic_AttnFwdIdeal_AttnFwdRefIdeal := by
  intro m g m' g' hpre hagree
  refine ⟨fun c => Cert.AttnFwdRefIdeal.Read.val_main_v90 (F := Ideal) (m (c.tc.loc Cert.AttnFwdIdeal.main_arg0)) (m (c.tc.loc Cert.AttnFwdIdeal.main_arg1)),
    fun c => Cert.AttnFwdRefIdeal.Read.val_main_v94 (F := Ideal) (m (c.tc.loc Cert.AttnFwdIdeal.main_arg0)) (m (c.tc.loc Cert.AttnFwdIdeal.main_arg1)), ?_, ?_⟩
  · refine Idealize.ShloMosaic.θ_run_mono (Idealize.ShloMosaic.θ_run_and (Cert.AttnFwdIdeal.Gen.run_main m g) (Cert.AttnFwdIdeal.Gen.unchanged m g)) fun r hr c => ⟨?_, ?_, hr.2 c⟩
    · exact ((hr.1 c).1 6).trans (Cert.AttnFwdIdeal.Final.final6 m c)
    · exact ((hr.1 c).1 7).trans (Cert.AttnFwdIdeal.Final.final7 m c)
  · refine Idealize.ShloMosaic.θ_run_mono (Cert.AttnFwdRefIdeal.Value.run m' g') fun r hr c => ⟨(hr c).1.trans ?_, (hr c).2.1.trans ?_, (hr c).2.2⟩
    · refine (Cert.AttnFwdRefIdeal.Read.val_main_v90_eq m' c).trans ?_
      rw [(hagree c).1, (hagree c).2]
    · refine (Cert.AttnFwdRefIdeal.Read.val_main_v94_eq m' c).trans ?_
      rw [(hagree c).1, (hagree c).2]

/-- The reference AttnFwd4Ref ends, its arguments unchanged and its counters at zero. -/
theorem quiet_AttnFwd4Ref : Cert.quiescent_AttnFwd4RefIdeal := by
  intro m g _
  exact (θ_run Cert.AttnFwd4RefIdeal.defs _ _).mono
    (fun r h => ⟨fun c => (h c).2.2, Idealize.ShloMosaic.sem_eq_zero_of_no_sems (by decide) r.2⟩)
    (Cert.AttnFwd4RefIdeal.Value.run (F := Ideal) m g)

/-- AttnFwd4: both programs leave equal results. -/
theorem value_AttnFwd4 : Cert.algebraic_AttnFwd4Ideal_AttnFwd4RefIdeal := by
  intro m g m' g' hpre hagree
  refine ⟨fun c => Cert.AttnFwd4RefIdeal.Read.val_main_v90 (F := Ideal) (m (c.tc.loc Cert.AttnFwd4Ideal.main_arg0)) (m (c.tc.loc Cert.AttnFwd4Ideal.main_arg1)),
    fun c => Cert.AttnFwd4RefIdeal.Read.val_main_v94 (F := Ideal) (m (c.tc.loc Cert.AttnFwd4Ideal.main_arg0)) (m (c.tc.loc Cert.AttnFwd4Ideal.main_arg1)), ?_, ?_⟩
  · refine Idealize.ShloMosaic.θ_run_mono (Idealize.ShloMosaic.θ_run_and (Cert.AttnFwd4Ideal.Gen.run_main m g) (Cert.AttnFwd4Ideal.Gen.unchanged m g)) fun r hr c => ⟨?_, ?_, hr.2 c⟩
    · exact ((hr.1 c).2 Cert.AttnFwd4Ideal.main_v6 (Pipeline.mem_restRefs_of _ (by decide) (by decide))).trans (Cert.AttnFwd4Ideal.Final.finalO m c)
    · exact ((hr.1 c).2 Cert.AttnFwd4Ideal.main_v9 (Pipeline.mem_restRefs_of _ (by decide) (by decide))).trans (Cert.AttnFwd4Ideal.Final.finalL m c)
  · refine Idealize.ShloMosaic.θ_run_mono (Cert.AttnFwd4RefIdeal.Value.run m' g') fun r hr c => ⟨(hr c).1.trans ?_, (hr c).2.1.trans ?_, (hr c).2.2⟩
    · refine (Cert.AttnFwd4RefIdeal.Read.val_main_v90_eq m' c).trans ?_
      rw [(hagree c).1, (hagree c).2]
    · refine (Cert.AttnFwd4RefIdeal.Read.val_main_v94_eq m' c).trans ?_
      rw [(hagree c).1, (hagree c).2]

/-- The reference AttnFwd16Ref ends, its arguments unchanged and its counters at zero. -/
theorem quiet_AttnFwd16Ref : Cert.quiescent_AttnFwd16RefIdeal := by
  intro m g _
  exact (θ_run Cert.AttnFwd16RefIdeal.defs _ _).mono
    (fun r h => ⟨fun c => (h c).2.2, Idealize.ShloMosaic.sem_eq_zero_of_no_sems (by decide) r.2⟩)
    (Cert.AttnFwd16RefIdeal.Value.run (F := Ideal) m g)

/-- AttnFwd16: both programs leave equal results. -/
theorem value_AttnFwd16 : Cert.algebraic_AttnFwd16Ideal_AttnFwd16RefIdeal := by
  intro m g m' g' hpre hagree
  refine ⟨fun c => Cert.AttnFwd16RefIdeal.Read.val_main_v90 (F := Ideal) (m (c.tc.loc Cert.AttnFwd16Ideal.main_arg0)) (m (c.tc.loc Cert.AttnFwd16Ideal.main_arg1)),
    fun c => Cert.AttnFwd16RefIdeal.Read.val_main_v94 (F := Ideal) (m (c.tc.loc Cert.AttnFwd16Ideal.main_arg0)) (m (c.tc.loc Cert.AttnFwd16Ideal.main_arg1)), ?_, ?_⟩
  · refine Idealize.ShloMosaic.θ_run_mono (Idealize.ShloMosaic.θ_run_and (Cert.AttnFwd16Ideal.Gen.run_main m g) (Cert.AttnFwd16Ideal.Gen.unchanged m g)) fun r hr c => ⟨?_, ?_, hr.2 c⟩
    · exact ((hr.1 c).2 Cert.AttnFwd16Ideal.main_v6 (Pipeline.mem_restRefs_of _ (by decide) (by decide))).trans (Cert.AttnFwd16Ideal.Final.finalO m c)
    · exact ((hr.1 c).2 Cert.AttnFwd16Ideal.main_v9 (Pipeline.mem_restRefs_of _ (by decide) (by decide))).trans (Cert.AttnFwd16Ideal.Final.finalL m c)
  · refine Idealize.ShloMosaic.θ_run_mono (Cert.AttnFwd16RefIdeal.Value.run m' g') fun r hr c => ⟨(hr c).1.trans ?_, (hr c).2.1.trans ?_, (hr c).2.2⟩
    · refine (Cert.AttnFwd16RefIdeal.Read.val_main_v90_eq m' c).trans ?_
      rw [(hagree c).1, (hagree c).2]
    · refine (Cert.AttnFwd16RefIdeal.Read.val_main_v94_eq m' c).trans ?_
      rw [(hagree c).1, (hagree c).2]

/-- The reference Norm2Ref ends, its arguments unchanged and its counters at zero. -/
theorem quiet_Norm2Ref : Cert.quiescent_Norm2RefIdeal := by
  intro m g _
  exact (θ_run Cert.Norm2RefIdeal.defs _ _).mono
    (fun r h => ⟨fun c => (h c).2.2, Idealize.ShloMosaic.sem_eq_zero_of_no_sems (by decide) r.2⟩)
    (Cert.Norm2RefIdeal.Value.run (F := Ideal) m g)

/-- Norm2: both programs leave equal results. -/
theorem value_Norm2 : Cert.algebraic_Norm2Ideal_Norm2RefIdeal := by
  intro m g m' g' hpre hagree
  refine ⟨fun c => Cert.Norm2RefIdeal.Read.val_main_v36 (F := Ideal) (m (c.tc.loc Cert.Norm2Ideal.main_arg0)) (m (c.tc.loc Cert.Norm2Ideal.main_arg1)) (m (c.tc.loc Cert.Norm2Ideal.main_arg2)) (m (c.tc.loc Cert.Norm2Ideal.main_arg3)),
    fun c => Cert.Norm2RefIdeal.Read.val_main_v21 (F := Ideal) (m (c.tc.loc Cert.Norm2Ideal.main_arg0)) (m (c.tc.loc Cert.Norm2Ideal.main_arg3)), ?_, ?_⟩
  · refine Idealize.ShloMosaic.θ_run_mono (Idealize.ShloMosaic.θ_run_and (Cert.Norm2Ideal.Gen.run_main m g) (Cert.Norm2Ideal.Gen.unchanged m g)) fun r hr c => ⟨?_, ?_, hr.2 c⟩
    · exact ((hr.1 c).1 4).trans (Cert.Norm2Ideal.Final.final4 m c)
    · exact ((hr.1 c).2 Cert.Norm2Ideal.main_v2 (Pipeline.mem_restRefs_of _ (by decide) (by decide))).trans (Cert.Norm2Ideal.Final.finalDw m c)
  · refine Idealize.ShloMosaic.θ_run_mono (Cert.Norm2RefIdeal.Value.run m' g') fun r hr c => ⟨(hr c).1.trans ?_, (hr c).2.1.trans ?_, (hr c).2.2⟩
    · refine (Cert.Norm2RefIdeal.Read.val_main_v36_eq _ _ _ _).trans ?_
      rw [(hagree c).1, (hagree c).2.1, (hagree c).2.2.1, (hagree c).2.2.2]
    · refine (Cert.Norm2RefIdeal.Read.val_main_v21_eq _ _).trans ?_
      rw [(hagree c).1, (hagree c).2.2.2]

/-- The reference LossHeadRef ends, its arguments unchanged and its counters at zero. -/
theorem quiet_LossHeadRef : Cert.quiescent_LossHeadRefIdeal := by
  intro m g _
  exact (θ_run Cert.LossHeadRefIdeal.defs _ _).mono
    (fun r h => ⟨fun c => (h c).2.2.2, Idealize.ShloMosaic.sem_eq_zero_of_no_sems (by decide) r.2⟩)
    (Cert.LossHeadRefIdeal.Value.run (F := Ideal) m g)

/-- LossHead: both programs leave equal results. -/
theorem value_LossHead : Cert.algebraic_LossHeadIdeal_LossHeadRefIdeal := by
  intro m g m' g' hpre hagree
  refine ⟨fun c => Cert.LossHeadRefIdeal.Read.val_main_v24 (F := Ideal) (m (c.tc.loc Cert.LossHeadIdeal.main_arg0)) (m (c.tc.loc Cert.LossHeadIdeal.main_arg1)) (m (c.tc.loc Cert.LossHeadIdeal.main_arg2)),
    fun c => Cert.LossHeadRefIdeal.Read.val_main_v50 (F := Ideal) (m (c.tc.loc Cert.LossHeadIdeal.main_arg0)) (m (c.tc.loc Cert.LossHeadIdeal.main_arg1)) (m (c.tc.loc Cert.LossHeadIdeal.main_arg2)),
    fun c => Cert.LossHeadRefIdeal.Read.val_main_v36 (F := Ideal) (m (c.tc.loc Cert.LossHeadIdeal.main_arg0)) (m (c.tc.loc Cert.LossHeadIdeal.main_arg1)) (m (c.tc.loc Cert.LossHeadIdeal.main_arg2)), ?_, ?_⟩
  · refine Idealize.ShloMosaic.θ_run_mono (Idealize.ShloMosaic.θ_run_and (Cert.LossHeadIdeal.Gen.run_main m g) (Cert.LossHeadIdeal.Gen.unchanged m g)) fun r hr c => ⟨?_, ?_, ?_, hr.2 c⟩
    · exact ((hr.1 c).2 Cert.LossHeadIdeal.main_v4 (Pipeline.mem_restRefs_of _ (by decide) (by decide))).trans (Cert.LossHeadIdeal.Final.finalLoss m c)
    · exact ((hr.1 c).1 4).trans (Cert.LossHeadIdeal.Final.final4 m c)
    · exact ((hr.1 c).2 Cert.LossHeadIdeal.main_v5 (Pipeline.mem_restRefs_of _ (by decide) (by decide))).trans (Cert.LossHeadIdeal.Final.finalDw m c)
  · refine Idealize.ShloMosaic.θ_run_mono (Cert.LossHeadRefIdeal.Value.run m' g') fun r hr c => ⟨(hr c).1.trans ?_, (hr c).2.1.trans ?_, (hr c).2.2.1.trans ?_, (hr c).2.2.2⟩
    · refine (Cert.LossHeadRefIdeal.Read.val_main_v24_eq _ _ _).trans ?_
      rw [(hagree c).1, (hagree c).2.1, (hagree c).2.2]
    · refine (Cert.LossHeadRefIdeal.Read.val_main_v50_eq m' c).trans ?_
      rw [(hagree c).1, (hagree c).2.1, (hagree c).2.2]
    · refine (Cert.LossHeadRefIdeal.Read.val_main_v36_eq _ _ _).trans ?_
      rw [(hagree c).1, (hagree c).2.1, (hagree c).2.2]

/-- The reference Norm1Ref ends, its arguments unchanged and its counters at zero. -/
theorem quiet_Norm1Ref : Cert.quiescent_Norm1RefIdeal := by
  intro m g _
  exact (θ_run Cert.Norm1RefIdeal.defs _ _).mono
    (fun r h => ⟨fun c => (h c).2.2, Idealize.ShloMosaic.sem_eq_zero_of_no_sems (by decide) r.2⟩)
    (Cert.Norm1RefIdeal.Value.run (F := Ideal) m g)

/-- Norm1: both programs leave equal results. -/
theorem value_Norm1 : Cert.algebraic_Norm1Ideal_Norm1RefIdeal := by
  intro m g m' g' hpre hagree
  refine ⟨fun c => Cert.Norm1RefIdeal.Read.val_main_v39 (F := Ideal) (m (c.tc.loc Cert.Norm1Ideal.main_arg0)) (m (c.tc.loc Cert.Norm1Ideal.main_arg1)) (m (c.tc.loc Cert.Norm1Ideal.main_arg2)) (m (c.tc.loc Cert.Norm1Ideal.main_arg3)) (m (c.tc.loc Cert.Norm1Ideal.main_arg4)) (m (c.tc.loc Cert.Norm1Ideal.main_arg5)) (m (c.tc.loc Cert.Norm1Ideal.main_arg6)),
    fun c => Cert.Norm1RefIdeal.Read.val_main_v24 (F := Ideal) (m (c.tc.loc Cert.Norm1Ideal.main_arg0)) (m (c.tc.loc Cert.Norm1Ideal.main_arg3)) (m (c.tc.loc Cert.Norm1Ideal.main_arg4)) (m (c.tc.loc Cert.Norm1Ideal.main_arg5)) (m (c.tc.loc Cert.Norm1Ideal.main_arg6)), ?_, ?_⟩
  · refine Idealize.ShloMosaic.θ_run_mono (Idealize.ShloMosaic.θ_run_and (Cert.Norm1Ideal.Gen.run_main m g) (Cert.Norm1Ideal.Gen.unchanged m g)) fun r hr c => ⟨?_, ?_, hr.2 c⟩
    · exact ((hr.1 c).1 7).trans (Cert.Norm1Ideal.Final.final7 m c)
    · exact ((hr.1 c).2 Cert.Norm1Ideal.main_v2 (Pipeline.mem_restRefs_of _ (by decide) (by decide))).trans (Cert.Norm1Ideal.Final.finalDw m c)
  · refine Idealize.ShloMosaic.θ_run_mono (Cert.Norm1RefIdeal.Value.run m' g') fun r hr c => ⟨(hr c).1.trans ?_, (hr c).2.1.trans ?_, (hr c).2.2⟩
    · refine (Cert.Norm1RefIdeal.Read.val_main_v39_eq m' c).trans ?_
      rw [(hagree c).1, (hagree c).2.1, (hagree c).2.2.1, (hagree c).2.2.2.1, (hagree c).2.2.2.2.1, (hagree c).2.2.2.2.2.1, (hagree c).2.2.2.2.2.2]
    · refine (Cert.Norm1RefIdeal.Read.val_main_v24_eq _ _ _ _ _).trans ?_
      rw [(hagree c).1, (hagree c).2.2.2.1, (hagree c).2.2.2.2.1, (hagree c).2.2.2.2.2.1, (hagree c).2.2.2.2.2.2]

/-- The reference SwigluBwdRef ends, its arguments unchanged and its counters at zero. -/
theorem quiet_SwigluBwdRef : Cert.quiescent_SwigluBwdRefIdeal := by
  intro m g _
  exact (θ_run Cert.SwigluBwdRefIdeal.defs _ _).mono
    (fun r h => ⟨fun c => (h c).2, Idealize.ShloMosaic.sem_eq_zero_of_no_sems (by decide) r.2⟩)
    (Cert.SwigluBwdRefIdeal.Value.run (F := Ideal) m g)

/-- SwigluBwd: from finite arguments both programs leave equal results. -/
theorem value_SwigluBwd : Cert.algebraic_SwigluBwdIdeal_SwigluBwdRefIdeal_pre_swiglu_finite := by
  intro m g m' g' hpre hagree
  refine ⟨fun c => Cert.SwigluBwdRefIdeal.Read.val_main_v10 (F := Ideal) (m (c.tc.loc Cert.SwigluBwdIdeal.main_arg0)) (m (c.tc.loc Cert.SwigluBwdIdeal.main_arg1)), ?_, ?_⟩
  · run_from Cert.SwigluBwdIdeal.Gen.run_main m g
    exact Cert.SwigluBwdIdeal.Final.final2 m hpre c
  · refine Idealize.ShloMosaic.θ_run_mono (Cert.SwigluBwdRefIdeal.Value.run m' g') fun r hr c => ⟨(hr c).1.trans ?_, (hr c).2⟩
    refine (Cert.SwigluBwdRefIdeal.Read.val_main_v10_eq _ _).trans ?_
    rw [(hagree c).1, (hagree c).2]

/-- The reference GateNormBwdRef ends, its arguments unchanged and its counters at zero. -/
theorem quiet_GateNormBwdRef : Cert.quiescent_GateNormBwdRefIdeal := by
  intro m g _
  exact (θ_run Cert.GateNormBwdRefIdeal.defs _ _).mono
    (fun r h => ⟨fun c => (h c).2.2.2, Idealize.ShloMosaic.sem_eq_zero_of_no_sems (by decide) r.2⟩)
    (Cert.GateNormBwdRefIdeal.Value.run (F := Ideal) m g)

/-- GateNormBwd: both programs leave equal results. -/
theorem value_GateNormBwd : Cert.algebraic_GateNormBwdIdeal_GateNormBwdRefIdeal_pre_gate_norm_finite := by
  intro m g m' g' hpre hagree
  refine ⟨fun c => Cert.GateNormBwdRefIdeal.Read.val_main_v45 (F := Ideal) (m (c.tc.loc Cert.GateNormBwdIdeal.main_arg0)) (m (c.tc.loc Cert.GateNormBwdIdeal.main_arg1)) (m (c.tc.loc Cert.GateNormBwdIdeal.main_arg2)) (m (c.tc.loc Cert.GateNormBwdIdeal.main_arg3)),
    fun c => Cert.GateNormBwdRefIdeal.Read.val_main_v47 (F := Ideal) (m (c.tc.loc Cert.GateNormBwdIdeal.main_arg0)) (m (c.tc.loc Cert.GateNormBwdIdeal.main_arg1)) (m (c.tc.loc Cert.GateNormBwdIdeal.main_arg2)) (m (c.tc.loc Cert.GateNormBwdIdeal.main_arg3)),
    fun c => Cert.GateNormBwdRefIdeal.Read.val_main_v27 (F := Ideal) (m (c.tc.loc Cert.GateNormBwdIdeal.main_arg0)) (m (c.tc.loc Cert.GateNormBwdIdeal.main_arg1)) (m (c.tc.loc Cert.GateNormBwdIdeal.main_arg2)), ?_, ?_⟩
  · refine Idealize.ShloMosaic.θ_run_mono (Idealize.ShloMosaic.θ_run_and (Cert.GateNormBwdIdeal.Gen.run_main m g) (Cert.GateNormBwdIdeal.Gen.unchanged m g)) fun r hr c => ⟨?_, ?_, ?_, hr.2 c⟩
    · exact ((hr.1 c).1 4).trans (Cert.GateNormBwdIdeal.Final.final4 c (Cert.GateNormBwdIdeal.Final.finite m hpre c))
    · exact ((hr.1 c).1 5).trans (Cert.GateNormBwdIdeal.Final.final5 c (Cert.GateNormBwdIdeal.Final.finite m hpre c))
    · exact ((hr.1 c).2 Cert.GateNormBwdIdeal.main_v2 (Pipeline.mem_restRefs_of _ (by decide) (by decide))).trans (Cert.GateNormBwdIdeal.Final.finalDw m c)
  · refine Idealize.ShloMosaic.θ_run_mono (Cert.GateNormBwdRefIdeal.Value.run m' g') fun r hr c => ⟨(hr c).1.trans ?_, (hr c).2.1.trans ?_, (hr c).2.2.1.trans ?_, (hr c).2.2.2⟩
    · refine (Cert.GateNormBwdRefIdeal.Read.val_main_v45_eq m' c).trans ?_
      rw [(hagree c).1, (hagree c).2.1, (hagree c).2.2.1, (hagree c).2.2.2]
    · refine (Cert.GateNormBwdRefIdeal.Read.val_main_v47_eq m' c).trans ?_
      rw [(hagree c).1, (hagree c).2.1, (hagree c).2.2.1, (hagree c).2.2.2]
    · refine (Cert.GateNormBwdRefIdeal.Read.val_main_v27_eq _ _ _).trans ?_
      rw [(hagree c).1, (hagree c).2.1, (hagree c).2.2.1]

/-- The reference SwigluRef ends, its arguments unchanged and its counters at zero. -/
theorem quiet_SwigluRef : Cert.quiescent_SwigluRefIdeal := by
  intro m g _
  exact (θ_run Cert.SwigluRefIdeal.defs _ _).mono
    (fun r h => ⟨fun c => (h c).2, Idealize.ShloMosaic.sem_eq_zero_of_no_sems (by decide) r.2⟩)
    (Cert.SwigluRefIdeal.Value.run (F := Ideal) m g)

/-- Swiglu: both programs leave equal results. -/
theorem value_Swiglu : Cert.algebraic_SwigluIdeal_SwigluRefIdeal := by
  pair_intro
  · run_from Cert.SwigluIdeal.Gen.run_main m g
  · run_from Cert.SwigluRefIdeal.Value.run m' g'
    exact (Cert.SwigluIdeal.Final.final2 m c).symm

/-- The reference GateNormRef ends, its arguments unchanged and its counters at zero. -/
theorem quiet_GateNormRef : Cert.quiescent_GateNormRefIdeal := by
  intro m g _
  exact (θ_run Cert.GateNormRefIdeal.defs _ _).mono
    (fun r h => ⟨fun c => (h c).2, Idealize.ShloMosaic.sem_eq_zero_of_no_sems (by decide) r.2⟩)
    (Cert.GateNormRefIdeal.Value.run (F := Ideal) m g)

/-- GateNorm: both programs leave equal results. -/
theorem value_GateNorm : Cert.algebraic_GateNormIdeal_GateNormRefIdeal := by
  pair_intro
  · run_from Cert.GateNormIdeal.Gen.run_main m g
  · run_from Cert.GateNormRefIdeal.Value.run m' g'
    exact (Cert.GateNormIdeal.Final.final3 m c).symm

/-- The reference MergeFwdRef ends, its arguments unchanged and its counters at zero. -/
theorem quiet_MergeFwdRef : Cert.quiescent_MergeFwdRefIdeal := by
  intro m g _
  exact (θ_run Cert.MergeFwdRefIdeal.defs _ _).mono
    (fun r h => ⟨fun c => (h c).2, Idealize.ShloMosaic.sem_eq_zero_of_no_sems (by decide) r.2⟩)
    (Cert.MergeFwdRefIdeal.Value.run (F := Ideal) m g)

/-- MergeFwd: both programs leave equal results. -/
theorem value_MergeFwd : Cert.algebraic_MergeFwdIdeal_MergeFwdRefIdeal := by
  pair_intro
  · run_from Cert.MergeFwdIdeal.Gen.run_main m g
  · run_from Cert.MergeFwdRefIdeal.Value.run m' g'
    exact (Cert.MergeFwdIdeal.Final.final4 m c).symm

/-- The reference NormRef ends, its arguments unchanged and its counters at zero. -/
theorem quiet_NormRef : Cert.quiescent_NormRefIdeal := by
  intro m g _
  exact (θ_run Cert.NormRefIdeal.defs _ _).mono
    (fun r h => ⟨fun c => (h c).2, Idealize.ShloMosaic.sem_eq_zero_of_no_sems (by decide) r.2⟩)
    (Cert.NormRefIdeal.Value.run (F := Ideal) m g)

/-- Norm: both programs leave equal results. -/
theorem value_Norm : Cert.algebraic_NormIdeal_NormRefIdeal := by
  pair_intro
  · run_from Cert.NormIdeal.Gen.run_main m g
  · run_from Cert.NormRefIdeal.Value.run m' g'
    exact (Cert.NormIdeal.Final.final2 m c).symm

/-- The reference CombineBwdRef ends, its arguments unchanged and its counters at zero. -/
theorem quiet_CombineBwdRef : Cert.quiescent_CombineBwdRefIdeal := by
  intro m g _
  exact (θ_run Cert.CombineBwdRefIdeal.defs _ _).mono
    (fun r h => ⟨fun c => (h c).2.2.2.2.2.2, Idealize.ShloMosaic.sem_eq_zero_of_no_sems (by decide) r.2⟩)
    (Cert.CombineBwdRefIdeal.Value.run (F := Ideal) m g)

set_option maxHeartbeats 1000000 in
/-- CombineBwd: both programs leave equal results. -/
theorem value_CombineBwd : Cert.algebraic_CombineBwdIdeal_CombineBwdRefIdeal_pre_combine_finite := by
  intro m g m' g' hpre hagree
  refine ⟨fun c => Cert.CombineBwdRefIdeal.Read.val_main_v84 (F := Ideal) (m (c.tc.loc Cert.CombineBwdIdeal.main_arg0)) (m (c.tc.loc Cert.CombineBwdIdeal.main_arg4)) (m (c.tc.loc Cert.CombineBwdIdeal.main_arg5)) (m (c.tc.loc Cert.CombineBwdIdeal.main_arg6)),
    fun c => Cert.CombineBwdRefIdeal.Read.val_main_v85 (F := Ideal) (m (c.tc.loc Cert.CombineBwdIdeal.main_arg0)) (m (c.tc.loc Cert.CombineBwdIdeal.main_arg4)) (m (c.tc.loc Cert.CombineBwdIdeal.main_arg5)) (m (c.tc.loc Cert.CombineBwdIdeal.main_arg6)),
    fun c => Cert.CombineBwdRefIdeal.Read.val_main_v86 (F := Ideal) (m (c.tc.loc Cert.CombineBwdIdeal.main_arg0)) (m (c.tc.loc Cert.CombineBwdIdeal.main_arg4)) (m (c.tc.loc Cert.CombineBwdIdeal.main_arg5)) (m (c.tc.loc Cert.CombineBwdIdeal.main_arg6)),
    fun c => Cert.CombineBwdRefIdeal.Read.val_main_v90 (F := Ideal) (m (c.tc.loc Cert.CombineBwdIdeal.main_arg0)) (m (c.tc.loc Cert.CombineBwdIdeal.main_arg1)) (m (c.tc.loc Cert.CombineBwdIdeal.main_arg2)) (m (c.tc.loc Cert.CombineBwdIdeal.main_arg3)) (m (c.tc.loc Cert.CombineBwdIdeal.main_arg4)) (m (c.tc.loc Cert.CombineBwdIdeal.main_arg5)) (m (c.tc.loc Cert.CombineBwdIdeal.main_arg6)),
    fun c => Cert.CombineBwdRefIdeal.Read.val_main_v94 (F := Ideal) (m (c.tc.loc Cert.CombineBwdIdeal.main_arg0)) (m (c.tc.loc Cert.CombineBwdIdeal.main_arg1)) (m (c.tc.loc Cert.CombineBwdIdeal.main_arg2)) (m (c.tc.loc Cert.CombineBwdIdeal.main_arg3)) (m (c.tc.loc Cert.CombineBwdIdeal.main_arg4)) (m (c.tc.loc Cert.CombineBwdIdeal.main_arg5)) (m (c.tc.loc Cert.CombineBwdIdeal.main_arg6)),
    fun c => Cert.CombineBwdRefIdeal.Read.val_main_v98 (F := Ideal) (m (c.tc.loc Cert.CombineBwdIdeal.main_arg0)) (m (c.tc.loc Cert.CombineBwdIdeal.main_arg1)) (m (c.tc.loc Cert.CombineBwdIdeal.main_arg2)) (m (c.tc.loc Cert.CombineBwdIdeal.main_arg3)) (m (c.tc.loc Cert.CombineBwdIdeal.main_arg4)) (m (c.tc.loc Cert.CombineBwdIdeal.main_arg5)) (m (c.tc.loc Cert.CombineBwdIdeal.main_arg6)), ?_, ?_⟩
  · refine Idealize.ShloMosaic.θ_run_mono (Idealize.ShloMosaic.θ_run_and (Cert.CombineBwdIdeal.Gen.run_main m g) (Cert.CombineBwdIdeal.Gen.unchanged m g)) fun r hr c => ⟨?_, ?_, ?_, ?_, ?_, ?_, hr.2 c⟩
    · exact ((hr.1 c).1 7).trans (Cert.CombineBwdIdeal.Final.final7 m c)
    · exact ((hr.1 c).1 8).trans (Cert.CombineBwdIdeal.Final.final8 m c)
    · exact ((hr.1 c).1 9).trans (Cert.CombineBwdIdeal.Final.final9 m c)
    · exact ((hr.1 c).1 10).trans (Cert.CombineBwdIdeal.Final.final10 m c (Cert.CombineBwdIdeal.Final.finite m hpre c))
    · exact ((hr.1 c).1 11).trans (Cert.CombineBwdIdeal.Final.final11 m c (Cert.CombineBwdIdeal.Final.finite m hpre c))
    · exact ((hr.1 c).1 12).trans (Cert.CombineBwdIdeal.Final.final12 m c (Cert.CombineBwdIdeal.Final.finite m hpre c))
  · refine Idealize.ShloMosaic.θ_run_mono (Cert.CombineBwdRefIdeal.Value.run m' g') fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2⟩
    · refine (Cert.CombineBwdRefIdeal.Read.val_main_v84_eq m' c).trans ?_
      rw [(hagree c).1, (hagree c).2.2.2.2.1, (hagree c).2.2.2.2.2.1, (hagree c).2.2.2.2.2.2]
    · refine (Cert.CombineBwdRefIdeal.Read.val_main_v85_eq m' c).trans ?_
      rw [(hagree c).1, (hagree c).2.2.2.2.1, (hagree c).2.2.2.2.2.1, (hagree c).2.2.2.2.2.2]
    · refine (Cert.CombineBwdRefIdeal.Read.val_main_v86_eq m' c).trans ?_
      rw [(hagree c).1, (hagree c).2.2.2.2.1, (hagree c).2.2.2.2.2.1, (hagree c).2.2.2.2.2.2]
    · refine (Cert.CombineBwdRefIdeal.Read.val_main_v90_eq m' c).trans ?_
      rw [(hagree c).1, (hagree c).2.1, (hagree c).2.2.1, (hagree c).2.2.2.1, (hagree c).2.2.2.2.1, (hagree c).2.2.2.2.2.1, (hagree c).2.2.2.2.2.2]
    · refine (Cert.CombineBwdRefIdeal.Read.val_main_v94_eq m' c).trans ?_
      rw [(hagree c).1, (hagree c).2.1, (hagree c).2.2.1, (hagree c).2.2.2.1, (hagree c).2.2.2.2.1, (hagree c).2.2.2.2.2.1, (hagree c).2.2.2.2.2.2]
    · refine (Cert.CombineBwdRefIdeal.Read.val_main_v98_eq m' c).trans ?_
      rw [(hagree c).1, (hagree c).2.1, (hagree c).2.2.1, (hagree c).2.2.2.1, (hagree c).2.2.2.2.1, (hagree c).2.2.2.2.2.1, (hagree c).2.2.2.2.2.2]

/-- The reference ConvBwdPreRef ends, its arguments unchanged and its counters at zero. -/
theorem quiet_ConvBwdPreRef : Cert.quiescent_ConvBwdPreRefIdeal := by
  intro m g _
  exact (θ_run Cert.ConvBwdPreRefIdeal.defs _ _).mono
    (fun r h => ⟨fun c => (h c).2.2.2, Idealize.ShloMosaic.sem_eq_zero_of_no_sems (by decide) r.2⟩)
    (Cert.ConvBwdPreRefIdeal.Value.run (F := Ideal) m g)

/-- ConvBwdPre: both programs leave equal results. -/
theorem value_ConvBwdPre : Cert.algebraic_ConvBwdPreIdeal_ConvBwdPreRefIdeal_pre_conv_finite := by
  intro m g m' g' hpre hagree
  refine ⟨fun c => Cert.ConvBwdPreRefIdeal.Read.val_main_v37 (F := Ideal) (m (c.tc.loc Cert.ConvBwdPreIdeal.main_arg0)) (m (c.tc.loc Cert.ConvBwdPreIdeal.main_arg1)) (m (c.tc.loc Cert.ConvBwdPreIdeal.main_arg2)) (m (c.tc.loc Cert.ConvBwdPreIdeal.main_arg3)),
    fun c => Cert.ConvBwdPreRefIdeal.Read.val_main_v67 (F := Ideal) (m (c.tc.loc Cert.ConvBwdPreIdeal.main_arg0)) (m (c.tc.loc Cert.ConvBwdPreIdeal.main_arg1)) (m (c.tc.loc Cert.ConvBwdPreIdeal.main_arg2)) (m (c.tc.loc Cert.ConvBwdPreIdeal.main_arg3)),
    fun c => Cert.ConvBwdPreRefIdeal.Read.val_main_v40 (F := Ideal) (m (c.tc.loc Cert.ConvBwdPreIdeal.main_arg0)) (m (c.tc.loc Cert.ConvBwdPreIdeal.main_arg1)) (m (c.tc.loc Cert.ConvBwdPreIdeal.main_arg2)) (m (c.tc.loc Cert.ConvBwdPreIdeal.main_arg3)), ?_, ?_⟩
  · refine Idealize.ShloMosaic.θ_run_mono (Idealize.ShloMosaic.θ_run_and (Cert.ConvBwdPreIdeal.Gen.run_main m g) (Cert.ConvBwdPreIdeal.Gen.unchanged m g)) fun r hr c => ⟨?_, ?_, ?_, hr.2 c⟩
    · exact ((hr.1 c).1 5).trans (Cert.ConvBwdPreIdeal.Final.final5 m c (Cert.ConvBwdPreIdeal.Final.finite m hpre c))
    · exact ((hr.1 c).1 6).trans (Cert.ConvBwdPreIdeal.Final.final6 m c (Cert.ConvBwdPreIdeal.Final.finite m hpre c))
    · exact ((hr.1 c).2 Cert.ConvBwdPreIdeal.main_v2 (Pipeline.mem_restRefs_of _ (by decide) (by decide))).trans (Cert.ConvBwdPreIdeal.Final.finalDb m c (Cert.ConvBwdPreIdeal.Final.finite m hpre c))
  · refine Idealize.ShloMosaic.θ_run_mono (Cert.ConvBwdPreRefIdeal.Value.run m' g') fun r hr c => ⟨(hr c).1.trans ?_, (hr c).2.1.trans ?_, (hr c).2.2.1.trans ?_, (hr c).2.2.2⟩
    · refine (Cert.ConvBwdPreRefIdeal.Read.val_main_v37_eq m' c).trans ?_
      rw [(hagree c).1, (hagree c).2.1, (hagree c).2.2.1, (hagree c).2.2.2]
    · refine (Cert.ConvBwdPreRefIdeal.Read.val_main_v67_eq m' c).trans ?_
      rw [(hagree c).1, (hagree c).2.1, (hagree c).2.2.1, (hagree c).2.2.2]
    · refine (Cert.ConvBwdPreRefIdeal.Read.val_main_v40_eq m' c).trans ?_
      rw [(hagree c).1, (hagree c).2.1, (hagree c).2.2.1, (hagree c).2.2.2]

/-- The reference ConvBwdInRef ends, its arguments unchanged and its counters at zero. -/
theorem quiet_ConvBwdInRef : Cert.quiescent_ConvBwdInRefIdeal := by
  intro m g _
  exact (θ_run Cert.ConvBwdInRefIdeal.defs _ _).mono
    (fun r h => ⟨fun c => (h c).2, Idealize.ShloMosaic.sem_eq_zero_of_no_sems (by decide) r.2⟩)
    (Cert.ConvBwdInRefIdeal.Value.run (F := Ideal) m g)

/-- ConvBwdIn: both programs leave equal results. -/
theorem value_ConvBwdIn : Cert.algebraic_ConvBwdInIdeal_ConvBwdInRefIdeal := by
  intro m g m' g' hpre hagree
  refine ⟨fun c => Cert.ConvBwdInRefIdeal.Read.val_main_v56 (F := Ideal) (m (c.tc.loc Cert.ConvBwdInIdeal.main_arg0)) (m (c.tc.loc Cert.ConvBwdInIdeal.main_arg1)), ?_, ?_⟩
  · refine Idealize.ShloMosaic.θ_run_mono (Idealize.ShloMosaic.θ_run_and (Cert.ConvBwdInIdeal.Gen.run_main m g) (Cert.ConvBwdInIdeal.Gen.unchanged m g)) fun r hr c => ⟨?_, hr.2 c⟩
    · exact ((hr.1 c).1 3).trans (Cert.ConvBwdInIdeal.Final.final3 m c)
  · refine Idealize.ShloMosaic.θ_run_mono (Cert.ConvBwdInRefIdeal.Value.run m' g') fun r hr c => ⟨(hr c).1.trans ?_, (hr c).2⟩
    · refine (Cert.ConvBwdInRefIdeal.Read.val_main_v56_eq _ _).trans ?_
      rw [(hagree c).1, (hagree c).2]

/-- The reference CombineRef ends, its arguments unchanged and its counters at zero. -/
theorem quiet_CombineRef : Cert.quiescent_CombineRefIdeal := by
  intro m g _
  exact (θ_run Cert.CombineRefIdeal.defs _ _).mono
    (fun r h => ⟨fun c => (h c).2, Idealize.ShloMosaic.sem_eq_zero_of_no_sems (by decide) r.2⟩)
    (Cert.CombineRefIdeal.Value.run (F := Ideal) m g)

/-- Combine: both programs leave equal results. -/
theorem value_Combine : Cert.algebraic_CombineIdeal_CombineRefIdeal := by
  intro m g m' g' hpre hagree
  refine ⟨fun c => Cert.CombineRefIdeal.Read.val_main_v25 (F := Ideal) (m (c.tc.loc Cert.CombineIdeal.main_arg0)) (m (c.tc.loc Cert.CombineIdeal.main_arg1)) (m (c.tc.loc Cert.CombineIdeal.main_arg2)) (m (c.tc.loc Cert.CombineIdeal.main_arg3)) (m (c.tc.loc Cert.CombineIdeal.main_arg4)) (m (c.tc.loc Cert.CombineIdeal.main_arg5)), ?_, ?_⟩
  · refine Idealize.ShloMosaic.θ_run_mono (Idealize.ShloMosaic.θ_run_and (Cert.CombineIdeal.Gen.run_main m g) (Cert.CombineIdeal.Gen.unchanged m g)) fun r hr c => ⟨?_, hr.2 c⟩
    · exact ((hr.1 c).1 6).trans (Cert.CombineIdeal.Final.final6 m c)
  · refine Idealize.ShloMosaic.θ_run_mono (Cert.CombineRefIdeal.Value.run m' g') fun r hr c => ⟨(hr c).1.trans ?_, (hr c).2⟩
    · refine (Cert.CombineRefIdeal.Read.val_main_v25_eq m' c).trans ?_
      rw [(hagree c).1, (hagree c).2.1, (hagree c).2.2.1, (hagree c).2.2.2.1, (hagree c).2.2.2.2.1, (hagree c).2.2.2.2.2]

/-- The reference ConvRef ends, its arguments unchanged and its counters at zero. -/
theorem quiet_ConvRef : Cert.quiescent_ConvRefIdeal := by
  intro m g _
  exact (θ_run Cert.ConvRefIdeal.defs _ _).mono
    (fun r h => ⟨fun c => (h c).2, Idealize.ShloMosaic.sem_eq_zero_of_no_sems (by decide) r.2⟩)
    (Cert.ConvRefIdeal.Value.run (F := Ideal) m g)

/-- Conv: both programs leave equal results. -/
theorem value_Conv : Cert.algebraic_ConvIdeal_ConvRefIdeal := by
  intro m g m' g' hpre hagree
  refine ⟨fun c => Cert.ConvRefIdeal.Read.val_main_v37 (F := Ideal) (m (c.tc.loc Cert.ConvIdeal.main_arg0)) (m (c.tc.loc Cert.ConvIdeal.main_arg1)) (m (c.tc.loc Cert.ConvIdeal.main_arg2)), ?_, ?_⟩
  · refine Idealize.ShloMosaic.θ_run_mono (Idealize.ShloMosaic.θ_run_and (Cert.ConvIdeal.Gen.run_main m g) (Cert.ConvIdeal.Gen.unchanged m g)) fun r hr c => ⟨?_, hr.2 c⟩
    · exact ((hr.1 c).1 4).trans (Cert.ConvIdeal.Final.final4 m c)
  · refine Idealize.ShloMosaic.θ_run_mono (Cert.ConvRefIdeal.Value.run m' g') fun r hr c => ⟨(hr c).1.trans ?_, (hr c).2⟩
    · refine (Cert.ConvRefIdeal.Read.val_main_v37_eq m' c).trans ?_
      rw [(hagree c).1, (hagree c).2.1, (hagree c).2.2]

/-- The reference AdamwSmallRef ends, its arguments unchanged and its counters at zero. -/
theorem quiet_AdamwSmallRef : Cert.quiescent_AdamwSmallRefIdeal := by
  intro m g _
  exact (θ_run Cert.AdamwSmallRefIdeal.defs _ _).mono
    (fun r h => ⟨fun c => (h c).2.2.2, Idealize.ShloMosaic.sem_eq_zero_of_no_sems (by decide) r.2⟩)
    (Cert.AdamwSmallRefIdeal.Value.run (F := Ideal) m g)

/-- AdamwSmall: both programs leave equal results. -/
theorem value_AdamwSmall : Cert.algebraic_AdamwSmallIdeal_AdamwSmallRefIdeal := by
  pair_intro
  · run_from Cert.AdamwSmallIdeal.Value.run_blocks m g
  · run_from Cert.AdamwSmallRefIdeal.Value.run m' g'
    · exact (Cert.AdamwSmallIdeal.Final.final4 m c).symm
    · exact (Cert.AdamwSmallIdeal.Final.final5 m c).symm
    · exact (Cert.AdamwSmallIdeal.Final.final6 m c).symm

/-- The reference AdamwWInRef ends, its arguments unchanged and its counters at zero. -/
theorem quiet_AdamwWInRef : Cert.quiescent_AdamwWInRefIdeal := by
  intro m g _
  exact (θ_run Cert.AdamwWInRefIdeal.defs _ _).mono
    (fun r h => ⟨fun c => (h c).2.2.2.2, Idealize.ShloMosaic.sem_eq_zero_of_no_sems (by decide) r.2⟩)
    (Cert.AdamwWInRefIdeal.Value.run (F := Ideal) m g)

/-- AdamwWIn: the precondition says that the word is 0 or 1. -/
theorem word_AdamwWIn (m : (ℓ : Loc Cert.AdamwWIn.nD Cert.AdamwWIn.τ Cert.AdamwWIn.sig) → Buf (Elt Bits) ℓ) (h : Cert.Pre_AdamwWIn m) :
    Cert.AdamwWInIdeal.Final.core (F := Bits) m = 0#32 ∨ Cert.AdamwWInIdeal.Final.core (F := Bits) m = 1#32 :=
  Cert.Place.word_of_le (congrFun (h 0) (ix1 (n0 := 1) 0))

/-- AdamwWIn: the blocks that the word names lie inside their arrays. -/
theorem ok_AdamwWIn (m : (ℓ : Loc Cert.AdamwWIn.nD Cert.AdamwWIn.τ Cert.AdamwWIn.sig) → Buf (Elt Bits) ℓ) (h : Cert.Pre_AdamwWIn m) : Cert.AdamwWIn.Gen.Ok m :=
  Cert.AdamwWInIdeal.Final.ok (F := Bits) m (word_AdamwWIn m h)

/-- AdamwWInIdeal: the precondition says that the word is 0 or 1. -/
theorem word_AdamwWInIdeal (m : (ℓ : Loc Cert.AdamwWInIdeal.nD Cert.AdamwWInIdeal.τ Cert.AdamwWInIdeal.sig) → Buf (Elt Ideal) ℓ) (h : Cert.Pre_AdamwWInIdeal m) :
    Cert.AdamwWInIdeal.Final.core (F := Ideal) m = 0#32 ∨ Cert.AdamwWInIdeal.Final.core (F := Ideal) m = 1#32 :=
  Cert.Place.word_of_le (congrFun (h 0) (ix1 (n0 := 1) 0))

/-- AdamwWInIdeal: the blocks that the word names lie inside their arrays. -/
theorem ok_AdamwWInIdeal (m : (ℓ : Loc Cert.AdamwWInIdeal.nD Cert.AdamwWInIdeal.τ Cert.AdamwWInIdeal.sig) → Buf (Elt Ideal) ℓ) (h : Cert.Pre_AdamwWInIdeal m) : Cert.AdamwWInIdeal.Gen.Ok m :=
  Cert.AdamwWInIdeal.Final.ok (F := Ideal) m (word_AdamwWInIdeal m h)

/-- AdamwWIn: both programs leave equal results. -/
theorem value_AdamwWIn : Cert.algebraic_AdamwWInIdeal_AdamwWInRefIdeal := by
  intro m g m' g' hpre hagree
  have hO := ok_AdamwWInIdeal m hpre
  have hw := word_AdamwWInIdeal m hpre
  refine ⟨fun c => Cert.AdamwWInRefIdeal.Read.val_main_v7 (F := Ideal) (m (c.tc.loc Cert.AdamwWInIdeal.main_arg0)) (m (c.tc.loc Cert.AdamwWInIdeal.main_arg2)) (m (c.tc.loc Cert.AdamwWInIdeal.main_arg3)),
    fun c => Cert.AdamwWInRefIdeal.Read.val_main_v31 (F := Ideal) (m (c.tc.loc Cert.AdamwWInIdeal.main_arg0)) (m (c.tc.loc Cert.AdamwWInIdeal.main_arg1)) (m (c.tc.loc Cert.AdamwWInIdeal.main_arg2)) (m (c.tc.loc Cert.AdamwWInIdeal.main_arg3)) (m (c.tc.loc Cert.AdamwWInIdeal.main_arg4)) (m (c.tc.loc Cert.AdamwWInIdeal.main_arg5)),
    fun c => Cert.AdamwWInRefIdeal.Read.val_main_v12 (F := Ideal) (m (c.tc.loc Cert.AdamwWInIdeal.main_arg0)) (m (c.tc.loc Cert.AdamwWInIdeal.main_arg2)) (m (c.tc.loc Cert.AdamwWInIdeal.main_arg3)) (m (c.tc.loc Cert.AdamwWInIdeal.main_arg4)),
    fun c => Cert.AdamwWInRefIdeal.Read.val_main_v18 (F := Ideal) (m (c.tc.loc Cert.AdamwWInIdeal.main_arg0)) (m (c.tc.loc Cert.AdamwWInIdeal.main_arg2)) (m (c.tc.loc Cert.AdamwWInIdeal.main_arg3)) (m (c.tc.loc Cert.AdamwWInIdeal.main_arg5)), ?_, ?_⟩
  · run_from Cert.AdamwWInIdeal.Gen.run_main m g hO
    · exact Cert.AdamwWInIdeal.Final.final5 m hO hw c
    · exact Cert.AdamwWInIdeal.Final.final6 m hO hw c
    · exact Cert.AdamwWInIdeal.Final.final7 m hO hw c
    · exact Cert.AdamwWInIdeal.Final.final8 m hO hw c
    · exact (hc.2 _ (by decide : Cert.AdamwWInIdeal.main_arg0 ∈ Pipeline.restRefs Cert.AdamwWInIdeal.sig Cert.AdamwWInIdeal.spec0)).trans (Cert.AdamwWInIdeal.Gen.V_main_arg0 m c)
  · run_from Cert.AdamwWInRefIdeal.Value.run m' g'
    · exact Cert.AdamwWInRefIdeal.Read.val_main_v7_eq _ _ _
    · exact Cert.AdamwWInRefIdeal.Read.val_main_v31_eq _ _ _ _ _ _
    · exact Cert.AdamwWInRefIdeal.Read.val_main_v12_eq _ _ _ _
    · exact Cert.AdamwWInRefIdeal.Read.val_main_v18_eq _ _ _ _

/-- The reference AdamwWAttnBranchRef ends, its arguments unchanged and its counters at zero. -/
theorem quiet_AdamwWAttnBranchRef : Cert.quiescent_AdamwWAttnBranchRefIdeal := by
  intro m g _
  exact (θ_run Cert.AdamwWAttnBranchRefIdeal.defs _ _).mono
    (fun r h => ⟨fun c => (h c).2.2.2.2, Idealize.ShloMosaic.sem_eq_zero_of_no_sems (by decide) r.2⟩)
    (Cert.AdamwWAttnBranchRefIdeal.Value.run (F := Ideal) m g)

/-- AdamwWAttnBranch: the precondition says that the word is 0 or 1. -/
theorem word_AdamwWAttnBranch (m : (ℓ : Loc Cert.AdamwWAttnBranch.nD Cert.AdamwWAttnBranch.τ Cert.AdamwWAttnBranch.sig) → Buf (Elt Bits) ℓ) (h : Cert.Pre_AdamwWAttnBranch m) :
    Cert.AdamwWAttnBranchIdeal.Final.core (F := Bits) m = 0#32 ∨ Cert.AdamwWAttnBranchIdeal.Final.core (F := Bits) m = 1#32 :=
  Cert.Place.word_of_le (congrFun (h 0) (ix1 (n0 := 1) 0))

/-- AdamwWAttnBranch: the blocks that the word names lie inside their arrays. -/
theorem ok_AdamwWAttnBranch (m : (ℓ : Loc Cert.AdamwWAttnBranch.nD Cert.AdamwWAttnBranch.τ Cert.AdamwWAttnBranch.sig) → Buf (Elt Bits) ℓ) (h : Cert.Pre_AdamwWAttnBranch m) : Cert.AdamwWAttnBranch.Gen.Ok m :=
  Cert.AdamwWAttnBranchIdeal.Final.ok (F := Bits) m (word_AdamwWAttnBranch m h)

/-- AdamwWAttnBranchIdeal: the precondition says that the word is 0 or 1. -/
theorem word_AdamwWAttnBranchIdeal (m : (ℓ : Loc Cert.AdamwWAttnBranchIdeal.nD Cert.AdamwWAttnBranchIdeal.τ Cert.AdamwWAttnBranchIdeal.sig) → Buf (Elt Ideal) ℓ) (h : Cert.Pre_AdamwWAttnBranchIdeal m) :
    Cert.AdamwWAttnBranchIdeal.Final.core (F := Ideal) m = 0#32 ∨ Cert.AdamwWAttnBranchIdeal.Final.core (F := Ideal) m = 1#32 :=
  Cert.Place.word_of_le (congrFun (h 0) (ix1 (n0 := 1) 0))

/-- AdamwWAttnBranchIdeal: the blocks that the word names lie inside their arrays. -/
theorem ok_AdamwWAttnBranchIdeal (m : (ℓ : Loc Cert.AdamwWAttnBranchIdeal.nD Cert.AdamwWAttnBranchIdeal.τ Cert.AdamwWAttnBranchIdeal.sig) → Buf (Elt Ideal) ℓ) (h : Cert.Pre_AdamwWAttnBranchIdeal m) : Cert.AdamwWAttnBranchIdeal.Gen.Ok m :=
  Cert.AdamwWAttnBranchIdeal.Final.ok (F := Ideal) m (word_AdamwWAttnBranchIdeal m h)

/-- AdamwWAttnBranch: both programs leave equal results. -/
theorem value_AdamwWAttnBranch : Cert.algebraic_AdamwWAttnBranchIdeal_AdamwWAttnBranchRefIdeal := by
  intro m g m' g' hpre hagree
  have hO := ok_AdamwWAttnBranchIdeal m hpre
  have hw := word_AdamwWAttnBranchIdeal m hpre
  refine ⟨fun c => Cert.AdamwWAttnBranchRefIdeal.Read.val_main_v7 (F := Ideal) (m (c.tc.loc Cert.AdamwWAttnBranchIdeal.main_arg0)) (m (c.tc.loc Cert.AdamwWAttnBranchIdeal.main_arg2)) (m (c.tc.loc Cert.AdamwWAttnBranchIdeal.main_arg3)),
    fun c => Cert.AdamwWAttnBranchRefIdeal.Read.val_main_v31 (F := Ideal) (m (c.tc.loc Cert.AdamwWAttnBranchIdeal.main_arg0)) (m (c.tc.loc Cert.AdamwWAttnBranchIdeal.main_arg1)) (m (c.tc.loc Cert.AdamwWAttnBranchIdeal.main_arg2)) (m (c.tc.loc Cert.AdamwWAttnBranchIdeal.main_arg3)) (m (c.tc.loc Cert.AdamwWAttnBranchIdeal.main_arg4)) (m (c.tc.loc Cert.AdamwWAttnBranchIdeal.main_arg5)),
    fun c => Cert.AdamwWAttnBranchRefIdeal.Read.val_main_v12 (F := Ideal) (m (c.tc.loc Cert.AdamwWAttnBranchIdeal.main_arg0)) (m (c.tc.loc Cert.AdamwWAttnBranchIdeal.main_arg2)) (m (c.tc.loc Cert.AdamwWAttnBranchIdeal.main_arg3)) (m (c.tc.loc Cert.AdamwWAttnBranchIdeal.main_arg4)),
    fun c => Cert.AdamwWAttnBranchRefIdeal.Read.val_main_v18 (F := Ideal) (m (c.tc.loc Cert.AdamwWAttnBranchIdeal.main_arg0)) (m (c.tc.loc Cert.AdamwWAttnBranchIdeal.main_arg2)) (m (c.tc.loc Cert.AdamwWAttnBranchIdeal.main_arg3)) (m (c.tc.loc Cert.AdamwWAttnBranchIdeal.main_arg5)), ?_, ?_⟩
  · run_from Cert.AdamwWAttnBranchIdeal.Gen.run_main m g hO
    · exact Cert.AdamwWAttnBranchIdeal.Final.final5 m hO hw c
    · exact Cert.AdamwWAttnBranchIdeal.Final.final6 m hO hw c
    · exact Cert.AdamwWAttnBranchIdeal.Final.final7 m hO hw c
    · exact Cert.AdamwWAttnBranchIdeal.Final.final8 m hO hw c
    · exact (hc.2 _ (by decide : Cert.AdamwWAttnBranchIdeal.main_arg0 ∈ Pipeline.restRefs Cert.AdamwWAttnBranchIdeal.sig Cert.AdamwWAttnBranchIdeal.spec0)).trans (Cert.AdamwWAttnBranchIdeal.Gen.V_main_arg0 m c)
  · run_from Cert.AdamwWAttnBranchRefIdeal.Value.run m' g'
    · exact Cert.AdamwWAttnBranchRefIdeal.Read.val_main_v7_eq _ _ _
    · exact Cert.AdamwWAttnBranchRefIdeal.Read.val_main_v31_eq _ _ _ _ _ _
    · exact Cert.AdamwWAttnBranchRefIdeal.Read.val_main_v12_eq _ _ _ _
    · exact Cert.AdamwWAttnBranchRefIdeal.Read.val_main_v18_eq _ _ _ _

/-- The reference AdamwWSsmBranchRef ends, its arguments unchanged and its counters at zero. -/
theorem quiet_AdamwWSsmBranchRef : Cert.quiescent_AdamwWSsmBranchRefIdeal := by
  intro m g _
  exact (θ_run Cert.AdamwWSsmBranchRefIdeal.defs _ _).mono
    (fun r h => ⟨fun c => (h c).2.2.2.2, Idealize.ShloMosaic.sem_eq_zero_of_no_sems (by decide) r.2⟩)
    (Cert.AdamwWSsmBranchRefIdeal.Value.run (F := Ideal) m g)

/-- AdamwWSsmBranch: the precondition says that the word is 0 or 1. -/
theorem word_AdamwWSsmBranch (m : (ℓ : Loc Cert.AdamwWSsmBranch.nD Cert.AdamwWSsmBranch.τ Cert.AdamwWSsmBranch.sig) → Buf (Elt Bits) ℓ) (h : Cert.Pre_AdamwWSsmBranch m) :
    Cert.AdamwWSsmBranchIdeal.Final.core (F := Bits) m = 0#32 ∨ Cert.AdamwWSsmBranchIdeal.Final.core (F := Bits) m = 1#32 :=
  Cert.Place.word_of_le (congrFun (h 0) (ix1 (n0 := 1) 0))

/-- AdamwWSsmBranch: the blocks that the word names lie inside their arrays. -/
theorem ok_AdamwWSsmBranch (m : (ℓ : Loc Cert.AdamwWSsmBranch.nD Cert.AdamwWSsmBranch.τ Cert.AdamwWSsmBranch.sig) → Buf (Elt Bits) ℓ) (h : Cert.Pre_AdamwWSsmBranch m) : Cert.AdamwWSsmBranch.Gen.Ok m :=
  Cert.AdamwWSsmBranchIdeal.Final.ok (F := Bits) m (word_AdamwWSsmBranch m h)

/-- AdamwWSsmBranchIdeal: the precondition says that the word is 0 or 1. -/
theorem word_AdamwWSsmBranchIdeal (m : (ℓ : Loc Cert.AdamwWSsmBranchIdeal.nD Cert.AdamwWSsmBranchIdeal.τ Cert.AdamwWSsmBranchIdeal.sig) → Buf (Elt Ideal) ℓ) (h : Cert.Pre_AdamwWSsmBranchIdeal m) :
    Cert.AdamwWSsmBranchIdeal.Final.core (F := Ideal) m = 0#32 ∨ Cert.AdamwWSsmBranchIdeal.Final.core (F := Ideal) m = 1#32 :=
  Cert.Place.word_of_le (congrFun (h 0) (ix1 (n0 := 1) 0))

/-- AdamwWSsmBranchIdeal: the blocks that the word names lie inside their arrays. -/
theorem ok_AdamwWSsmBranchIdeal (m : (ℓ : Loc Cert.AdamwWSsmBranchIdeal.nD Cert.AdamwWSsmBranchIdeal.τ Cert.AdamwWSsmBranchIdeal.sig) → Buf (Elt Ideal) ℓ) (h : Cert.Pre_AdamwWSsmBranchIdeal m) : Cert.AdamwWSsmBranchIdeal.Gen.Ok m :=
  Cert.AdamwWSsmBranchIdeal.Final.ok (F := Ideal) m (word_AdamwWSsmBranchIdeal m h)

/-- AdamwWSsmBranch: both programs leave equal results. -/
theorem value_AdamwWSsmBranch : Cert.algebraic_AdamwWSsmBranchIdeal_AdamwWSsmBranchRefIdeal := by
  intro m g m' g' hpre hagree
  have hO := ok_AdamwWSsmBranchIdeal m hpre
  have hw := word_AdamwWSsmBranchIdeal m hpre
  refine ⟨fun c => Cert.AdamwWSsmBranchRefIdeal.Read.val_main_v7 (F := Ideal) (m (c.tc.loc Cert.AdamwWSsmBranchIdeal.main_arg0)) (m (c.tc.loc Cert.AdamwWSsmBranchIdeal.main_arg2)) (m (c.tc.loc Cert.AdamwWSsmBranchIdeal.main_arg3)),
    fun c => Cert.AdamwWSsmBranchRefIdeal.Read.val_main_v31 (F := Ideal) (m (c.tc.loc Cert.AdamwWSsmBranchIdeal.main_arg0)) (m (c.tc.loc Cert.AdamwWSsmBranchIdeal.main_arg1)) (m (c.tc.loc Cert.AdamwWSsmBranchIdeal.main_arg2)) (m (c.tc.loc Cert.AdamwWSsmBranchIdeal.main_arg3)) (m (c.tc.loc Cert.AdamwWSsmBranchIdeal.main_arg4)) (m (c.tc.loc Cert.AdamwWSsmBranchIdeal.main_arg5)),
    fun c => Cert.AdamwWSsmBranchRefIdeal.Read.val_main_v12 (F := Ideal) (m (c.tc.loc Cert.AdamwWSsmBranchIdeal.main_arg0)) (m (c.tc.loc Cert.AdamwWSsmBranchIdeal.main_arg2)) (m (c.tc.loc Cert.AdamwWSsmBranchIdeal.main_arg3)) (m (c.tc.loc Cert.AdamwWSsmBranchIdeal.main_arg4)),
    fun c => Cert.AdamwWSsmBranchRefIdeal.Read.val_main_v18 (F := Ideal) (m (c.tc.loc Cert.AdamwWSsmBranchIdeal.main_arg0)) (m (c.tc.loc Cert.AdamwWSsmBranchIdeal.main_arg2)) (m (c.tc.loc Cert.AdamwWSsmBranchIdeal.main_arg3)) (m (c.tc.loc Cert.AdamwWSsmBranchIdeal.main_arg5)), ?_, ?_⟩
  · run_from Cert.AdamwWSsmBranchIdeal.Gen.run_main m g hO
    · exact Cert.AdamwWSsmBranchIdeal.Final.final5 m hO hw c
    · exact Cert.AdamwWSsmBranchIdeal.Final.final6 m hO hw c
    · exact Cert.AdamwWSsmBranchIdeal.Final.final7 m hO hw c
    · exact Cert.AdamwWSsmBranchIdeal.Final.final8 m hO hw c
    · exact (hc.2 _ (by decide : Cert.AdamwWSsmBranchIdeal.main_arg0 ∈ Pipeline.restRefs Cert.AdamwWSsmBranchIdeal.sig Cert.AdamwWSsmBranchIdeal.spec0)).trans (Cert.AdamwWSsmBranchIdeal.Gen.V_main_arg0 m c)
  · run_from Cert.AdamwWSsmBranchRefIdeal.Value.run m' g'
    · exact Cert.AdamwWSsmBranchRefIdeal.Read.val_main_v7_eq _ _ _
    · exact Cert.AdamwWSsmBranchRefIdeal.Read.val_main_v31_eq _ _ _ _ _ _
    · exact Cert.AdamwWSsmBranchRefIdeal.Read.val_main_v12_eq _ _ _ _
    · exact Cert.AdamwWSsmBranchRefIdeal.Read.val_main_v18_eq _ _ _ _

/-- The reference AdamwWOutRef ends, its arguments unchanged and its counters at zero. -/
theorem quiet_AdamwWOutRef : Cert.quiescent_AdamwWOutRefIdeal := by
  intro m g _
  exact (θ_run Cert.AdamwWOutRefIdeal.defs _ _).mono
    (fun r h => ⟨fun c => (h c).2.2.2.2, Idealize.ShloMosaic.sem_eq_zero_of_no_sems (by decide) r.2⟩)
    (Cert.AdamwWOutRefIdeal.Value.run (F := Ideal) m g)

/-- AdamwWOut: the precondition says that the word is 0 or 1. -/
theorem word_AdamwWOut (m : (ℓ : Loc Cert.AdamwWOut.nD Cert.AdamwWOut.τ Cert.AdamwWOut.sig) → Buf (Elt Bits) ℓ) (h : Cert.Pre_AdamwWOut m) :
    Cert.AdamwWOutIdeal.Final.core (F := Bits) m = 0#32 ∨ Cert.AdamwWOutIdeal.Final.core (F := Bits) m = 1#32 :=
  Cert.Place.word_of_le (congrFun (h 0) (ix1 (n0 := 1) 0))

/-- AdamwWOut: the blocks that the word names lie inside their arrays. -/
theorem ok_AdamwWOut (m : (ℓ : Loc Cert.AdamwWOut.nD Cert.AdamwWOut.τ Cert.AdamwWOut.sig) → Buf (Elt Bits) ℓ) (h : Cert.Pre_AdamwWOut m) : Cert.AdamwWOut.Gen.Ok m :=
  Cert.AdamwWOutIdeal.Final.ok (F := Bits) m (word_AdamwWOut m h)

/-- AdamwWOutIdeal: the precondition says that the word is 0 or 1. -/
theorem word_AdamwWOutIdeal (m : (ℓ : Loc Cert.AdamwWOutIdeal.nD Cert.AdamwWOutIdeal.τ Cert.AdamwWOutIdeal.sig) → Buf (Elt Ideal) ℓ) (h : Cert.Pre_AdamwWOutIdeal m) :
    Cert.AdamwWOutIdeal.Final.core (F := Ideal) m = 0#32 ∨ Cert.AdamwWOutIdeal.Final.core (F := Ideal) m = 1#32 :=
  Cert.Place.word_of_le (congrFun (h 0) (ix1 (n0 := 1) 0))

/-- AdamwWOutIdeal: the blocks that the word names lie inside their arrays. -/
theorem ok_AdamwWOutIdeal (m : (ℓ : Loc Cert.AdamwWOutIdeal.nD Cert.AdamwWOutIdeal.τ Cert.AdamwWOutIdeal.sig) → Buf (Elt Ideal) ℓ) (h : Cert.Pre_AdamwWOutIdeal m) : Cert.AdamwWOutIdeal.Gen.Ok m :=
  Cert.AdamwWOutIdeal.Final.ok (F := Ideal) m (word_AdamwWOutIdeal m h)

/-- AdamwWOut: both programs leave equal results. -/
theorem value_AdamwWOut : Cert.algebraic_AdamwWOutIdeal_AdamwWOutRefIdeal := by
  intro m g m' g' hpre hagree
  have hO := ok_AdamwWOutIdeal m hpre
  have hw := word_AdamwWOutIdeal m hpre
  refine ⟨fun c => Cert.AdamwWOutRefIdeal.Read.val_main_v7 (F := Ideal) (m (c.tc.loc Cert.AdamwWOutIdeal.main_arg0)) (m (c.tc.loc Cert.AdamwWOutIdeal.main_arg2)) (m (c.tc.loc Cert.AdamwWOutIdeal.main_arg3)),
    fun c => Cert.AdamwWOutRefIdeal.Read.val_main_v31 (F := Ideal) (m (c.tc.loc Cert.AdamwWOutIdeal.main_arg0)) (m (c.tc.loc Cert.AdamwWOutIdeal.main_arg1)) (m (c.tc.loc Cert.AdamwWOutIdeal.main_arg2)) (m (c.tc.loc Cert.AdamwWOutIdeal.main_arg3)) (m (c.tc.loc Cert.AdamwWOutIdeal.main_arg4)) (m (c.tc.loc Cert.AdamwWOutIdeal.main_arg5)),
    fun c => Cert.AdamwWOutRefIdeal.Read.val_main_v12 (F := Ideal) (m (c.tc.loc Cert.AdamwWOutIdeal.main_arg0)) (m (c.tc.loc Cert.AdamwWOutIdeal.main_arg2)) (m (c.tc.loc Cert.AdamwWOutIdeal.main_arg3)) (m (c.tc.loc Cert.AdamwWOutIdeal.main_arg4)),
    fun c => Cert.AdamwWOutRefIdeal.Read.val_main_v18 (F := Ideal) (m (c.tc.loc Cert.AdamwWOutIdeal.main_arg0)) (m (c.tc.loc Cert.AdamwWOutIdeal.main_arg2)) (m (c.tc.loc Cert.AdamwWOutIdeal.main_arg3)) (m (c.tc.loc Cert.AdamwWOutIdeal.main_arg5)), ?_, ?_⟩
  · run_from Cert.AdamwWOutIdeal.Gen.run_main m g hO
    · exact Cert.AdamwWOutIdeal.Final.final5 m hO hw c
    · exact Cert.AdamwWOutIdeal.Final.final6 m hO hw c
    · exact Cert.AdamwWOutIdeal.Final.final7 m hO hw c
    · exact Cert.AdamwWOutIdeal.Final.final8 m hO hw c
    · exact (hc.2 _ (by decide : Cert.AdamwWOutIdeal.main_arg0 ∈ Pipeline.restRefs Cert.AdamwWOutIdeal.sig Cert.AdamwWOutIdeal.spec0)).trans (Cert.AdamwWOutIdeal.Gen.V_main_arg0 m c)
  · run_from Cert.AdamwWOutRefIdeal.Value.run m' g'
    · exact Cert.AdamwWOutRefIdeal.Read.val_main_v7_eq _ _ _
    · exact Cert.AdamwWOutRefIdeal.Read.val_main_v31_eq _ _ _ _ _ _
    · exact Cert.AdamwWOutRefIdeal.Read.val_main_v12_eq _ _ _ _
    · exact Cert.AdamwWOutRefIdeal.Read.val_main_v18_eq _ _ _ _

/-- The reference AdamwWFfnInRef ends, its arguments unchanged and its counters at zero. -/
theorem quiet_AdamwWFfnInRef : Cert.quiescent_AdamwWFfnInRefIdeal := by
  intro m g _
  exact (θ_run Cert.AdamwWFfnInRefIdeal.defs _ _).mono
    (fun r h => ⟨fun c => (h c).2.2.2.2, Idealize.ShloMosaic.sem_eq_zero_of_no_sems (by decide) r.2⟩)
    (Cert.AdamwWFfnInRefIdeal.Value.run (F := Ideal) m g)

/-- AdamwWFfnIn: the precondition says that the word is 0 or 1. -/
theorem word_AdamwWFfnIn (m : (ℓ : Loc Cert.AdamwWFfnIn.nD Cert.AdamwWFfnIn.τ Cert.AdamwWFfnIn.sig) → Buf (Elt Bits) ℓ) (h : Cert.Pre_AdamwWFfnIn m) :
    Cert.AdamwWFfnInIdeal.Final.core (F := Bits) m = 0#32 ∨ Cert.AdamwWFfnInIdeal.Final.core (F := Bits) m = 1#32 :=
  Cert.Place.word_of_le (congrFun (h 0) (ix1 (n0 := 1) 0))

/-- AdamwWFfnIn: the blocks that the word names lie inside their arrays. -/
theorem ok_AdamwWFfnIn (m : (ℓ : Loc Cert.AdamwWFfnIn.nD Cert.AdamwWFfnIn.τ Cert.AdamwWFfnIn.sig) → Buf (Elt Bits) ℓ) (h : Cert.Pre_AdamwWFfnIn m) : Cert.AdamwWFfnIn.Gen.Ok m :=
  Cert.AdamwWFfnInIdeal.Final.ok (F := Bits) m (word_AdamwWFfnIn m h)

/-- AdamwWFfnInIdeal: the precondition says that the word is 0 or 1. -/
theorem word_AdamwWFfnInIdeal (m : (ℓ : Loc Cert.AdamwWFfnInIdeal.nD Cert.AdamwWFfnInIdeal.τ Cert.AdamwWFfnInIdeal.sig) → Buf (Elt Ideal) ℓ) (h : Cert.Pre_AdamwWFfnInIdeal m) :
    Cert.AdamwWFfnInIdeal.Final.core (F := Ideal) m = 0#32 ∨ Cert.AdamwWFfnInIdeal.Final.core (F := Ideal) m = 1#32 :=
  Cert.Place.word_of_le (congrFun (h 0) (ix1 (n0 := 1) 0))

/-- AdamwWFfnInIdeal: the blocks that the word names lie inside their arrays. -/
theorem ok_AdamwWFfnInIdeal (m : (ℓ : Loc Cert.AdamwWFfnInIdeal.nD Cert.AdamwWFfnInIdeal.τ Cert.AdamwWFfnInIdeal.sig) → Buf (Elt Ideal) ℓ) (h : Cert.Pre_AdamwWFfnInIdeal m) : Cert.AdamwWFfnInIdeal.Gen.Ok m :=
  Cert.AdamwWFfnInIdeal.Final.ok (F := Ideal) m (word_AdamwWFfnInIdeal m h)

/-- AdamwWFfnIn: both programs leave equal results. -/
theorem value_AdamwWFfnIn : Cert.algebraic_AdamwWFfnInIdeal_AdamwWFfnInRefIdeal := by
  intro m g m' g' hpre hagree
  have hO := ok_AdamwWFfnInIdeal m hpre
  have hw := word_AdamwWFfnInIdeal m hpre
  refine ⟨fun c => Cert.AdamwWFfnInRefIdeal.Read.val_main_v7 (F := Ideal) (m (c.tc.loc Cert.AdamwWFfnInIdeal.main_arg0)) (m (c.tc.loc Cert.AdamwWFfnInIdeal.main_arg2)) (m (c.tc.loc Cert.AdamwWFfnInIdeal.main_arg3)),
    fun c => Cert.AdamwWFfnInRefIdeal.Read.val_main_v31 (F := Ideal) (m (c.tc.loc Cert.AdamwWFfnInIdeal.main_arg0)) (m (c.tc.loc Cert.AdamwWFfnInIdeal.main_arg1)) (m (c.tc.loc Cert.AdamwWFfnInIdeal.main_arg2)) (m (c.tc.loc Cert.AdamwWFfnInIdeal.main_arg3)) (m (c.tc.loc Cert.AdamwWFfnInIdeal.main_arg4)) (m (c.tc.loc Cert.AdamwWFfnInIdeal.main_arg5)),
    fun c => Cert.AdamwWFfnInRefIdeal.Read.val_main_v12 (F := Ideal) (m (c.tc.loc Cert.AdamwWFfnInIdeal.main_arg0)) (m (c.tc.loc Cert.AdamwWFfnInIdeal.main_arg2)) (m (c.tc.loc Cert.AdamwWFfnInIdeal.main_arg3)) (m (c.tc.loc Cert.AdamwWFfnInIdeal.main_arg4)),
    fun c => Cert.AdamwWFfnInRefIdeal.Read.val_main_v18 (F := Ideal) (m (c.tc.loc Cert.AdamwWFfnInIdeal.main_arg0)) (m (c.tc.loc Cert.AdamwWFfnInIdeal.main_arg2)) (m (c.tc.loc Cert.AdamwWFfnInIdeal.main_arg3)) (m (c.tc.loc Cert.AdamwWFfnInIdeal.main_arg5)), ?_, ?_⟩
  · run_from Cert.AdamwWFfnInIdeal.Gen.run_main m g hO
    · exact Cert.AdamwWFfnInIdeal.Final.final5 m hO hw c
    · exact Cert.AdamwWFfnInIdeal.Final.final6 m hO hw c
    · exact Cert.AdamwWFfnInIdeal.Final.final7 m hO hw c
    · exact Cert.AdamwWFfnInIdeal.Final.final8 m hO hw c
    · exact (hc.2 _ (by decide : Cert.AdamwWFfnInIdeal.main_arg0 ∈ Pipeline.restRefs Cert.AdamwWFfnInIdeal.sig Cert.AdamwWFfnInIdeal.spec0)).trans (Cert.AdamwWFfnInIdeal.Gen.V_main_arg0 m c)
  · run_from Cert.AdamwWFfnInRefIdeal.Value.run m' g'
    · exact Cert.AdamwWFfnInRefIdeal.Read.val_main_v7_eq _ _ _
    · exact Cert.AdamwWFfnInRefIdeal.Read.val_main_v31_eq _ _ _ _ _ _
    · exact Cert.AdamwWFfnInRefIdeal.Read.val_main_v12_eq _ _ _ _
    · exact Cert.AdamwWFfnInRefIdeal.Read.val_main_v18_eq _ _ _ _

/-- The reference AdamwWFfnOutRef ends, its arguments unchanged and its counters at zero. -/
theorem quiet_AdamwWFfnOutRef : Cert.quiescent_AdamwWFfnOutRefIdeal := by
  intro m g _
  exact (θ_run Cert.AdamwWFfnOutRefIdeal.defs _ _).mono
    (fun r h => ⟨fun c => (h c).2.2.2.2, Idealize.ShloMosaic.sem_eq_zero_of_no_sems (by decide) r.2⟩)
    (Cert.AdamwWFfnOutRefIdeal.Value.run (F := Ideal) m g)

/-- AdamwWFfnOut: the precondition says that the word is 0 or 1. -/
theorem word_AdamwWFfnOut (m : (ℓ : Loc Cert.AdamwWFfnOut.nD Cert.AdamwWFfnOut.τ Cert.AdamwWFfnOut.sig) → Buf (Elt Bits) ℓ) (h : Cert.Pre_AdamwWFfnOut m) :
    Cert.AdamwWFfnOutIdeal.Final.core (F := Bits) m = 0#32 ∨ Cert.AdamwWFfnOutIdeal.Final.core (F := Bits) m = 1#32 :=
  Cert.Place.word_of_le (congrFun (h 0) (ix1 (n0 := 1) 0))

/-- AdamwWFfnOut: the blocks that the word names lie inside their arrays. -/
theorem ok_AdamwWFfnOut (m : (ℓ : Loc Cert.AdamwWFfnOut.nD Cert.AdamwWFfnOut.τ Cert.AdamwWFfnOut.sig) → Buf (Elt Bits) ℓ) (h : Cert.Pre_AdamwWFfnOut m) : Cert.AdamwWFfnOut.Gen.Ok m :=
  Cert.AdamwWFfnOutIdeal.Final.ok (F := Bits) m (word_AdamwWFfnOut m h)

/-- AdamwWFfnOutIdeal: the precondition says that the word is 0 or 1. -/
theorem word_AdamwWFfnOutIdeal (m : (ℓ : Loc Cert.AdamwWFfnOutIdeal.nD Cert.AdamwWFfnOutIdeal.τ Cert.AdamwWFfnOutIdeal.sig) → Buf (Elt Ideal) ℓ) (h : Cert.Pre_AdamwWFfnOutIdeal m) :
    Cert.AdamwWFfnOutIdeal.Final.core (F := Ideal) m = 0#32 ∨ Cert.AdamwWFfnOutIdeal.Final.core (F := Ideal) m = 1#32 :=
  Cert.Place.word_of_le (congrFun (h 0) (ix1 (n0 := 1) 0))

/-- AdamwWFfnOutIdeal: the blocks that the word names lie inside their arrays. -/
theorem ok_AdamwWFfnOutIdeal (m : (ℓ : Loc Cert.AdamwWFfnOutIdeal.nD Cert.AdamwWFfnOutIdeal.τ Cert.AdamwWFfnOutIdeal.sig) → Buf (Elt Ideal) ℓ) (h : Cert.Pre_AdamwWFfnOutIdeal m) : Cert.AdamwWFfnOutIdeal.Gen.Ok m :=
  Cert.AdamwWFfnOutIdeal.Final.ok (F := Ideal) m (word_AdamwWFfnOutIdeal m h)

/-- AdamwWFfnOut: both programs leave equal results. -/
theorem value_AdamwWFfnOut : Cert.algebraic_AdamwWFfnOutIdeal_AdamwWFfnOutRefIdeal := by
  intro m g m' g' hpre hagree
  have hO := ok_AdamwWFfnOutIdeal m hpre
  have hw := word_AdamwWFfnOutIdeal m hpre
  refine ⟨fun c => Cert.AdamwWFfnOutRefIdeal.Read.val_main_v7 (F := Ideal) (m (c.tc.loc Cert.AdamwWFfnOutIdeal.main_arg0)) (m (c.tc.loc Cert.AdamwWFfnOutIdeal.main_arg2)) (m (c.tc.loc Cert.AdamwWFfnOutIdeal.main_arg3)),
    fun c => Cert.AdamwWFfnOutRefIdeal.Read.val_main_v31 (F := Ideal) (m (c.tc.loc Cert.AdamwWFfnOutIdeal.main_arg0)) (m (c.tc.loc Cert.AdamwWFfnOutIdeal.main_arg1)) (m (c.tc.loc Cert.AdamwWFfnOutIdeal.main_arg2)) (m (c.tc.loc Cert.AdamwWFfnOutIdeal.main_arg3)) (m (c.tc.loc Cert.AdamwWFfnOutIdeal.main_arg4)) (m (c.tc.loc Cert.AdamwWFfnOutIdeal.main_arg5)),
    fun c => Cert.AdamwWFfnOutRefIdeal.Read.val_main_v12 (F := Ideal) (m (c.tc.loc Cert.AdamwWFfnOutIdeal.main_arg0)) (m (c.tc.loc Cert.AdamwWFfnOutIdeal.main_arg2)) (m (c.tc.loc Cert.AdamwWFfnOutIdeal.main_arg3)) (m (c.tc.loc Cert.AdamwWFfnOutIdeal.main_arg4)),
    fun c => Cert.AdamwWFfnOutRefIdeal.Read.val_main_v18 (F := Ideal) (m (c.tc.loc Cert.AdamwWFfnOutIdeal.main_arg0)) (m (c.tc.loc Cert.AdamwWFfnOutIdeal.main_arg2)) (m (c.tc.loc Cert.AdamwWFfnOutIdeal.main_arg3)) (m (c.tc.loc Cert.AdamwWFfnOutIdeal.main_arg5)), ?_, ?_⟩
  · run_from Cert.AdamwWFfnOutIdeal.Gen.run_main m g hO
    · exact Cert.AdamwWFfnOutIdeal.Final.final5 m hO hw c
    · exact Cert.AdamwWFfnOutIdeal.Final.final6 m hO hw c
    · exact Cert.AdamwWFfnOutIdeal.Final.final7 m hO hw c
    · exact Cert.AdamwWFfnOutIdeal.Final.final8 m hO hw c
    · exact (hc.2 _ (by decide : Cert.AdamwWFfnOutIdeal.main_arg0 ∈ Pipeline.restRefs Cert.AdamwWFfnOutIdeal.sig Cert.AdamwWFfnOutIdeal.spec0)).trans (Cert.AdamwWFfnOutIdeal.Gen.V_main_arg0 m c)
  · run_from Cert.AdamwWFfnOutRefIdeal.Value.run m' g'
    · exact Cert.AdamwWFfnOutRefIdeal.Read.val_main_v7_eq _ _ _
    · exact Cert.AdamwWFfnOutRefIdeal.Read.val_main_v31_eq _ _ _ _ _ _
    · exact Cert.AdamwWFfnOutRefIdeal.Read.val_main_v12_eq _ _ _ _
    · exact Cert.AdamwWFfnOutRefIdeal.Read.val_main_v18_eq _ _ _ _

theorem claim : Cert.Claim :=
  ⟨Cert.Merge.Gen.facts,
    Cert.MergeIdeal.Gen.facts,
    Cert.MergeRefIdeal.Gen.facts,
    Cert.InProjDx.Gen.facts,
    Cert.InProjDxIdeal.Gen.facts,
    Cert.InProjDxRefIdeal.Gen.facts,
    Cert.InProjDw.Gen.facts,
    Cert.InProjDwIdeal.Gen.facts,
    Cert.InProjDwRefIdeal.Gen.facts,
    Cert.InProj.Gen.facts,
    Cert.InProjIdeal.Gen.facts,
    Cert.InProjRefIdeal.Gen.facts,
    Cert.InProjQkvDx.Gen.facts,
    Cert.InProjQkvDxIdeal.Gen.facts,
    Cert.InProjQkvDxRefIdeal.Gen.facts,
    Cert.InProjQkvDw.Gen.facts,
    Cert.InProjQkvDwIdeal.Gen.facts,
    Cert.InProjQkvDwRefIdeal.Gen.facts,
    Cert.InProjQkv.Gen.facts,
    Cert.InProjQkvIdeal.Gen.facts,
    Cert.InProjQkvRefIdeal.Gen.facts,
    Cert.InProjDtDx.Gen.facts,
    Cert.InProjDtDxIdeal.Gen.facts,
    Cert.InProjDtDxRefIdeal.Gen.facts,
    Cert.InProjDtDw.Gen.facts,
    Cert.InProjDtDwIdeal.Gen.facts,
    Cert.InProjDtDwRefIdeal.Gen.facts,
    Cert.InProjDt.Gen.facts,
    Cert.InProjDtIdeal.Gen.facts,
    Cert.InProjDtRefIdeal.Gen.facts,
    Cert.AttnBranchDx.Gen.facts,
    Cert.AttnBranchDxIdeal.Gen.facts,
    Cert.AttnBranchDxRefIdeal.Gen.facts,
    Cert.AttnBranchDw.Gen.facts,
    Cert.AttnBranchDwIdeal.Gen.facts,
    Cert.AttnBranchDwRefIdeal.Gen.facts,
    Cert.AttnBranch.Gen.facts,
    Cert.AttnBranchIdeal.Gen.facts,
    Cert.AttnBranchRefIdeal.Gen.facts,
    Cert.SsmBranchDx.Gen.facts,
    Cert.SsmBranchDxIdeal.Gen.facts,
    Cert.SsmBranchDxRefIdeal.Gen.facts,
    Cert.SsmBranchDw.Gen.facts,
    Cert.SsmBranchDwIdeal.Gen.facts,
    Cert.SsmBranchDwRefIdeal.Gen.facts,
    Cert.SsmBranch.Gen.facts,
    Cert.SsmBranchIdeal.Gen.facts,
    Cert.SsmBranchRefIdeal.Gen.facts,
    Cert.OutProjDx.Gen.facts,
    Cert.OutProjDxIdeal.Gen.facts,
    Cert.OutProjDxRefIdeal.Gen.facts,
    Cert.OutProjDw.Gen.facts,
    Cert.OutProjDwIdeal.Gen.facts,
    Cert.OutProjDwRefIdeal.Gen.facts,
    Cert.OutProj.Gen.facts,
    Cert.OutProjIdeal.Gen.facts,
    Cert.OutProjRefIdeal.Gen.facts,
    Cert.FfnInDx.Gen.facts,
    Cert.FfnInDxIdeal.Gen.facts,
    Cert.FfnInDxRefIdeal.Gen.facts,
    Cert.FfnInDw.Gen.facts,
    Cert.FfnInDwIdeal.Gen.facts,
    Cert.FfnInDwRefIdeal.Gen.facts,
    Cert.FfnIn.Gen.facts,
    Cert.FfnInIdeal.Gen.facts,
    Cert.FfnInRefIdeal.Gen.facts,
    Cert.FfnOutDx.Gen.facts,
    Cert.FfnOutDxIdeal.Gen.facts,
    Cert.FfnOutDxRefIdeal.Gen.facts,
    Cert.FfnOutDw.Gen.facts,
    Cert.FfnOutDwIdeal.Gen.facts,
    Cert.FfnOutDwRefIdeal.Gen.facts,
    Cert.FfnOut.Gen.facts,
    Cert.FfnOutIdeal.Gen.facts,
    Cert.FfnOutRefIdeal.Gen.facts,
    Cert.AttnFwd.Gen.facts,
    Cert.AttnFwdIdeal.Gen.facts,
    Cert.AttnFwdRefIdeal.Gen.facts,
    Cert.AttnFwd4.Gen.facts,
    Cert.AttnFwd4Ideal.Gen.facts,
    Cert.AttnFwd4RefIdeal.Gen.facts,
    Cert.AttnFwd16.Gen.facts,
    Cert.AttnFwd16Ideal.Gen.facts,
    Cert.AttnFwd16RefIdeal.Gen.facts,
    Cert.Norm2.Gen.facts,
    Cert.Norm2Ideal.Gen.facts,
    Cert.Norm2RefIdeal.Gen.facts,
    Cert.LossHead.Gen.facts,
    Cert.LossHeadIdeal.Gen.facts,
    Cert.LossHeadRefIdeal.Gen.facts,
    Cert.Norm1.Gen.facts,
    Cert.Norm1Ideal.Gen.facts,
    Cert.Norm1RefIdeal.Gen.facts,
    Cert.SwigluBwd.Gen.facts,
    Cert.SwigluBwdIdeal.Gen.facts,
    Cert.SwigluBwdRefIdeal.Gen.facts,
    Cert.GateNormBwd.Gen.facts,
    Cert.GateNormBwdIdeal.Gen.facts,
    Cert.GateNormBwdRefIdeal.Gen.facts,
    Cert.Swiglu.Gen.facts,
    Cert.SwigluIdeal.Gen.facts,
    Cert.SwigluRefIdeal.Gen.facts,
    Cert.GateNorm.Gen.facts,
    Cert.GateNormIdeal.Gen.facts,
    Cert.GateNormRefIdeal.Gen.facts,
    Cert.MergeFwd.Gen.facts,
    Cert.MergeFwdIdeal.Gen.facts,
    Cert.MergeFwdRefIdeal.Gen.facts,
    Cert.Norm.Gen.facts,
    Cert.NormIdeal.Gen.facts,
    Cert.NormRefIdeal.Gen.facts,
    Cert.CombineBwd.Gen.facts,
    Cert.CombineBwdIdeal.Gen.facts,
    Cert.CombineBwdRefIdeal.Gen.facts,
    Cert.ConvBwdPre.Gen.facts,
    Cert.ConvBwdPreIdeal.Gen.facts,
    Cert.ConvBwdPreRefIdeal.Gen.facts,
    Cert.ConvBwdIn.Gen.facts,
    Cert.ConvBwdInIdeal.Gen.facts,
    Cert.ConvBwdInRefIdeal.Gen.facts,
    Cert.Combine.Gen.facts,
    Cert.CombineIdeal.Gen.facts,
    Cert.CombineRefIdeal.Gen.facts,
    Cert.Conv.Gen.facts,
    Cert.ConvIdeal.Gen.facts,
    Cert.ConvRefIdeal.Gen.facts,
    Cert.AdamwSmall.Gen.facts,
    Cert.AdamwSmallIdeal.Gen.facts,
    Cert.AdamwSmallRefIdeal.Gen.facts,
    Cert.AdamwWIn.Gen.facts,
    Cert.AdamwWInIdeal.Gen.facts,
    Cert.AdamwWInRefIdeal.Gen.facts,
    Cert.AdamwWAttnBranch.Gen.facts,
    Cert.AdamwWAttnBranchIdeal.Gen.facts,
    Cert.AdamwWAttnBranchRefIdeal.Gen.facts,
    Cert.AdamwWSsmBranch.Gen.facts,
    Cert.AdamwWSsmBranchIdeal.Gen.facts,
    Cert.AdamwWSsmBranchRefIdeal.Gen.facts,
    Cert.AdamwWOut.Gen.facts,
    Cert.AdamwWOutIdeal.Gen.facts,
    Cert.AdamwWOutRefIdeal.Gen.facts,
    Cert.AdamwWFfnIn.Gen.facts,
    Cert.AdamwWFfnInIdeal.Gen.facts,
    Cert.AdamwWFfnInRefIdeal.Gen.facts,
    Cert.AdamwWFfnOut.Gen.facts,
    Cert.AdamwWFfnOutIdeal.Gen.facts,
    Cert.AdamwWFfnOutRefIdeal.Gen.facts,
    Cert.Pre_swiglu_finite.Gen.facts,
    Cert.Pre_gate_norm_finite.Gen.facts,
    Cert.Pre_combine_finite.Gen.facts,
    Cert.Pre_conv_finite.Gen.facts,
    Cert.Pre_place_w_in.Gen.facts,
    Cert.Pre_place_w_attn_branch.Gen.facts,
    Cert.Pre_place_w_ssm_branch.Gen.facts,
    Cert.Pre_place_w_out.Gen.facts,
    Cert.Pre_place_w_ffn_in.Gen.facts,
    Cert.Pre_place_w_ffn_out.Gen.facts,
    fun m ρ _ => Cert.Merge.Gen.frame m ρ,
    fun m ρ _ => Cert.MergeIdeal.Gen.frame m ρ,
    quiet_MergeRef,
    fun m ρ _ => Cert.InProjDx.Gen.frame m ρ,
    fun m ρ _ => Cert.InProjDxIdeal.Gen.frame m ρ,
    quiet_InProjDxRef,
    fun m ρ _ => Cert.InProjDw.Gen.frame m ρ,
    fun m ρ _ => Cert.InProjDwIdeal.Gen.frame m ρ,
    quiet_InProjDwRef,
    fun m ρ _ => Cert.InProj.Gen.frame m ρ,
    fun m ρ _ => Cert.InProjIdeal.Gen.frame m ρ,
    quiet_InProjRef,
    fun m ρ _ => Cert.InProjQkvDx.Gen.frame m ρ,
    fun m ρ _ => Cert.InProjQkvDxIdeal.Gen.frame m ρ,
    quiet_InProjQkvDxRef,
    fun m ρ _ => Cert.InProjQkvDw.Gen.frame m ρ,
    fun m ρ _ => Cert.InProjQkvDwIdeal.Gen.frame m ρ,
    quiet_InProjQkvDwRef,
    fun m ρ _ => Cert.InProjQkv.Gen.frame m ρ,
    fun m ρ _ => Cert.InProjQkvIdeal.Gen.frame m ρ,
    quiet_InProjQkvRef,
    fun m ρ _ => Cert.InProjDtDx.Gen.frame m ρ,
    fun m ρ _ => Cert.InProjDtDxIdeal.Gen.frame m ρ,
    quiet_InProjDtDxRef,
    fun m ρ _ => Cert.InProjDtDw.Gen.frame m ρ,
    fun m ρ _ => Cert.InProjDtDwIdeal.Gen.frame m ρ,
    quiet_InProjDtDwRef,
    fun m ρ _ => Cert.InProjDt.Gen.frame m ρ,
    fun m ρ _ => Cert.InProjDtIdeal.Gen.frame m ρ,
    quiet_InProjDtRef,
    fun m ρ _ => Cert.AttnBranchDx.Gen.frame m ρ,
    fun m ρ _ => Cert.AttnBranchDxIdeal.Gen.frame m ρ,
    quiet_AttnBranchDxRef,
    fun m ρ _ => Cert.AttnBranchDw.Gen.frame m ρ,
    fun m ρ _ => Cert.AttnBranchDwIdeal.Gen.frame m ρ,
    quiet_AttnBranchDwRef,
    fun m ρ _ => Cert.AttnBranch.Gen.frame m ρ,
    fun m ρ _ => Cert.AttnBranchIdeal.Gen.frame m ρ,
    quiet_AttnBranchRef,
    fun m ρ _ => Cert.SsmBranchDx.Gen.frame m ρ,
    fun m ρ _ => Cert.SsmBranchDxIdeal.Gen.frame m ρ,
    quiet_SsmBranchDxRef,
    fun m ρ _ => Cert.SsmBranchDw.Gen.frame m ρ,
    fun m ρ _ => Cert.SsmBranchDwIdeal.Gen.frame m ρ,
    quiet_SsmBranchDwRef,
    fun m ρ _ => Cert.SsmBranch.Gen.frame m ρ,
    fun m ρ _ => Cert.SsmBranchIdeal.Gen.frame m ρ,
    quiet_SsmBranchRef,
    fun m ρ _ => Cert.OutProjDx.Gen.frame m ρ,
    fun m ρ _ => Cert.OutProjDxIdeal.Gen.frame m ρ,
    quiet_OutProjDxRef,
    fun m ρ _ => Cert.OutProjDw.Gen.frame m ρ,
    fun m ρ _ => Cert.OutProjDwIdeal.Gen.frame m ρ,
    quiet_OutProjDwRef,
    fun m ρ _ => Cert.OutProj.Gen.frame m ρ,
    fun m ρ _ => Cert.OutProjIdeal.Gen.frame m ρ,
    quiet_OutProjRef,
    fun m ρ _ => Cert.FfnInDx.Gen.frame m ρ,
    fun m ρ _ => Cert.FfnInDxIdeal.Gen.frame m ρ,
    quiet_FfnInDxRef,
    fun m ρ _ => Cert.FfnInDw.Gen.frame m ρ,
    fun m ρ _ => Cert.FfnInDwIdeal.Gen.frame m ρ,
    quiet_FfnInDwRef,
    fun m ρ _ => Cert.FfnIn.Gen.frame m ρ,
    fun m ρ _ => Cert.FfnInIdeal.Gen.frame m ρ,
    quiet_FfnInRef,
    fun m ρ _ => Cert.FfnOutDx.Gen.frame m ρ,
    fun m ρ _ => Cert.FfnOutDxIdeal.Gen.frame m ρ,
    quiet_FfnOutDxRef,
    fun m ρ _ => Cert.FfnOutDw.Gen.frame m ρ,
    fun m ρ _ => Cert.FfnOutDwIdeal.Gen.frame m ρ,
    quiet_FfnOutDwRef,
    fun m ρ _ => Cert.FfnOut.Gen.frame m ρ,
    fun m ρ _ => Cert.FfnOutIdeal.Gen.frame m ρ,
    quiet_FfnOutRef,
    fun m ρ _ => Cert.AttnFwd.Gen.frame m ρ,
    fun m ρ _ => Cert.AttnFwdIdeal.Gen.frame m ρ,
    quiet_AttnFwdRef,
    fun m ρ _ => Cert.AttnFwd4.Gen.frame m ρ,
    fun m ρ _ => Cert.AttnFwd4Ideal.Gen.frame m ρ,
    quiet_AttnFwd4Ref,
    fun m ρ _ => Cert.AttnFwd16.Gen.frame m ρ,
    fun m ρ _ => Cert.AttnFwd16Ideal.Gen.frame m ρ,
    quiet_AttnFwd16Ref,
    fun m ρ _ => Cert.Norm2.Gen.frame m ρ,
    fun m ρ _ => Cert.Norm2Ideal.Gen.frame m ρ,
    quiet_Norm2Ref,
    fun m ρ _ => Cert.LossHead.Gen.frame m ρ,
    fun m ρ _ => Cert.LossHeadIdeal.Gen.frame m ρ,
    quiet_LossHeadRef,
    fun m ρ _ => Cert.Norm1.Gen.frame m ρ,
    fun m ρ _ => Cert.Norm1Ideal.Gen.frame m ρ,
    quiet_Norm1Ref,
    fun m ρ _ => Cert.SwigluBwd.Gen.frame m ρ,
    fun m ρ _ => Cert.SwigluBwdIdeal.Gen.frame m ρ,
    fun m ρ _ => Cert.SwigluBwdIdeal.Gen.frame m ρ,
    quiet_SwigluBwdRef,
    fun m g _ => quiet_SwigluBwdRef m g trivial,
    fun m ρ _ => Cert.GateNormBwd.Gen.frame m ρ,
    fun m ρ _ => Cert.GateNormBwdIdeal.Gen.frame m ρ,
    fun m ρ _ => Cert.GateNormBwdIdeal.Gen.frame m ρ,
    quiet_GateNormBwdRef,
    fun m g _ => quiet_GateNormBwdRef m g trivial,
    fun m ρ _ => Cert.Swiglu.Gen.frame m ρ,
    fun m ρ _ => Cert.SwigluIdeal.Gen.frame m ρ,
    quiet_SwigluRef,
    fun m ρ _ => Cert.GateNorm.Gen.frame m ρ,
    fun m ρ _ => Cert.GateNormIdeal.Gen.frame m ρ,
    quiet_GateNormRef,
    fun m ρ _ => Cert.MergeFwd.Gen.frame m ρ,
    fun m ρ _ => Cert.MergeFwdIdeal.Gen.frame m ρ,
    quiet_MergeFwdRef,
    fun m ρ _ => Cert.Norm.Gen.frame m ρ,
    fun m ρ _ => Cert.NormIdeal.Gen.frame m ρ,
    quiet_NormRef,
    fun m ρ _ => Cert.CombineBwd.Gen.frame m ρ,
    fun m ρ _ => Cert.CombineBwdIdeal.Gen.frame m ρ,
    fun m ρ _ => Cert.CombineBwdIdeal.Gen.frame m ρ,
    quiet_CombineBwdRef,
    fun m g _ => quiet_CombineBwdRef m g trivial,
    fun m ρ _ => Cert.ConvBwdPre.Gen.frame m ρ,
    fun m ρ _ => Cert.ConvBwdPreIdeal.Gen.frame m ρ,
    fun m ρ _ => Cert.ConvBwdPreIdeal.Gen.frame m ρ,
    quiet_ConvBwdPreRef,
    fun m g _ => quiet_ConvBwdPreRef m g trivial,
    fun m ρ _ => Cert.ConvBwdIn.Gen.frame m ρ,
    fun m ρ _ => Cert.ConvBwdInIdeal.Gen.frame m ρ,
    quiet_ConvBwdInRef,
    fun m ρ _ => Cert.Combine.Gen.frame m ρ,
    fun m ρ _ => Cert.CombineIdeal.Gen.frame m ρ,
    quiet_CombineRef,
    fun m ρ _ => Cert.Conv.Gen.frame m ρ,
    fun m ρ _ => Cert.ConvIdeal.Gen.frame m ρ,
    quiet_ConvRef,
    fun m ρ _ => Cert.AdamwSmall.Gen.frame m ρ,
    fun m ρ _ => Cert.AdamwSmallIdeal.Gen.frame m ρ,
    quiet_AdamwSmallRef,
    fun m ρ h => Cert.AdamwWIn.Gen.frame m ρ (ok_AdamwWIn m h),
    fun m ρ h => Cert.AdamwWInIdeal.Gen.frame m ρ (ok_AdamwWInIdeal m h),
    quiet_AdamwWInRef,
    fun m g _ => quiet_AdamwWInRef m g trivial,
    fun m ρ h => Cert.AdamwWAttnBranch.Gen.frame m ρ (ok_AdamwWAttnBranch m h),
    fun m ρ h => Cert.AdamwWAttnBranchIdeal.Gen.frame m ρ (ok_AdamwWAttnBranchIdeal m h),
    quiet_AdamwWAttnBranchRef,
    fun m g _ => quiet_AdamwWAttnBranchRef m g trivial,
    fun m ρ h => Cert.AdamwWSsmBranch.Gen.frame m ρ (ok_AdamwWSsmBranch m h),
    fun m ρ h => Cert.AdamwWSsmBranchIdeal.Gen.frame m ρ (ok_AdamwWSsmBranchIdeal m h),
    quiet_AdamwWSsmBranchRef,
    fun m g _ => quiet_AdamwWSsmBranchRef m g trivial,
    fun m ρ h => Cert.AdamwWOut.Gen.frame m ρ (ok_AdamwWOut m h),
    fun m ρ h => Cert.AdamwWOutIdeal.Gen.frame m ρ (ok_AdamwWOutIdeal m h),
    quiet_AdamwWOutRef,
    fun m g _ => quiet_AdamwWOutRef m g trivial,
    fun m ρ h => Cert.AdamwWFfnIn.Gen.frame m ρ (ok_AdamwWFfnIn m h),
    fun m ρ h => Cert.AdamwWFfnInIdeal.Gen.frame m ρ (ok_AdamwWFfnInIdeal m h),
    quiet_AdamwWFfnInRef,
    fun m g _ => quiet_AdamwWFfnInRef m g trivial,
    fun m ρ h => Cert.AdamwWFfnOut.Gen.frame m ρ (ok_AdamwWFfnOut m h),
    fun m ρ h => Cert.AdamwWFfnOutIdeal.Gen.frame m ρ (ok_AdamwWFfnOutIdeal m h),
    quiet_AdamwWFfnOutRef,
    fun m g _ => quiet_AdamwWFfnOutRef m g trivial,
    trivial,
    value_Merge,
    trivial,
    value_InProjDx,
    trivial,
    value_InProjDw,
    trivial,
    value_InProj,
    trivial,
    value_InProjQkvDx,
    trivial,
    value_InProjQkvDw,
    trivial,
    value_InProjQkv,
    trivial,
    value_InProjDtDx,
    trivial,
    value_InProjDtDw,
    trivial,
    value_InProjDt,
    trivial,
    value_AttnBranchDx,
    trivial,
    value_AttnBranchDw,
    trivial,
    value_AttnBranch,
    trivial,
    value_SsmBranchDx,
    trivial,
    value_SsmBranchDw,
    trivial,
    value_SsmBranch,
    trivial,
    value_OutProjDx,
    trivial,
    value_OutProjDw,
    trivial,
    value_OutProj,
    trivial,
    value_FfnInDx,
    trivial,
    value_FfnInDw,
    trivial,
    value_FfnIn,
    trivial,
    value_FfnOutDx,
    trivial,
    value_FfnOutDw,
    trivial,
    value_FfnOut,
    trivial,
    value_AttnFwd,
    trivial,
    value_AttnFwd4,
    trivial,
    value_AttnFwd16,
    trivial,
    value_Norm2,
    trivial,
    value_LossHead,
    trivial,
    value_Norm1,
    trivial,
    value_SwigluBwd,
    trivial,
    value_GateNormBwd,
    trivial,
    value_Swiglu,
    trivial,
    value_GateNorm,
    trivial,
    value_MergeFwd,
    trivial,
    value_Norm,
    trivial,
    value_CombineBwd,
    trivial,
    value_ConvBwdPre,
    trivial,
    value_ConvBwdIn,
    trivial,
    value_Combine,
    trivial,
    value_Conv,
    trivial,
    value_AdamwSmall,
    trivial,
    value_AdamwWIn,
    trivial,
    value_AdamwWAttnBranch,
    trivial,
    value_AdamwWSsmBranch,
    trivial,
    value_AdamwWOut,
    trivial,
    value_AdamwWFfnIn,
    trivial,
    value_AdamwWFfnOut⟩

end Cert.Proof

end
